-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))).2.2.2.2.2.2.2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))).2.2.2.2.2.2.2.2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v108_0)) (v1 : (c : Dev Cert.KernelIdeal.nD) → Buf (Elt Ideal) ((c.tc : Thread Cert.KernelIdeal.nD Cert.KernelIdeal.τ).loc Cert.KernelIdeal.main_v108_1)) (v2 : (c : Dev Cert.KernelIdeal.nD) → Buf (Elt Ideal) ((c.tc : Thread Cert.KernelIdeal.nD Cert.KernelIdeal.τ).loc Cert.KernelIdeal.main_v108_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108_0) = v0 c
          ∧ r.2.mem ((c.tc : Thread Cert.KernelIdeal.nD Cert.KernelIdeal.τ).loc Cert.KernelIdeal.main_v108_1) = v1 c
          ∧ r.2.mem ((c.tc : Thread Cert.KernelIdeal.nD Cert.KernelIdeal.τ).loc Cert.KernelIdeal.main_v108_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v90) = v0 c
          ∧ r.2.mem ((c.tc : Thread Cert.Reference7Ideal.nD Cert.Reference7Ideal.τ).loc Cert.Reference7Ideal.main_v91) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v30) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite4 : Cert.Pre_finite4.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S2x4096x3072 : Shape := ⟨3, ![2, 4096, 3072]⟩
abbrev S8x257 : Shape := ⟨2, ![8, 257]⟩
abbrev S512 : Shape := ⟨1, ![512]⟩
abbrev S2x4096x1024 : Shape := ⟨3, ![2, 4096, 1024]⟩
abbrev S_ : Shape := ⟨0, ![]⟩

class Facts : Prop where
  bcast_S_S2x4096x3072 : S_.BroadcastsInDim S2x4096x3072 (![] : Fin 0 → Fin S2x4096x3072.rank)
  bcast_S_S8x257 : S_.BroadcastsInDim S8x257 (![] : Fin 0 → Fin S8x257.rank)

variable [Facts]

def fn {F : FTy → Type} [FloatOps F] (main_arg0 : FVec F S2x4096x3072 .bf16) (main_arg1 : FVec F S8x257 .f32) (main_arg2 : FVec F S512 .f32) (main_arg3 : FVec F S2x4096x1024 .f32) : IVec S2x4096x3072 1 × IVec S8x257 1 :=
  let main_cst : FVec F S_ .bf16 := constant S_ .bf16 0xFF80#16
  let main_v0 : FVec F S2x4096x3072 .bf16 := broadcastInDim S2x4096x3072 ![] bcast_S_S2x4096x3072 main_cst
  let main_v1 : IVec S2x4096x3072 1 := cmpf .ogt main_arg0 main_v0
  let main_cst_0 : FVec F S_ .bf16 := constant S_ .bf16 0x7F80#16
  let main_v2 : FVec F S2x4096x3072 .bf16 := broadcastInDim S2x4096x3072 ![] bcast_S_S2x4096x3072 main_cst_0
  let main_v3 : IVec S2x4096x3072 1 := cmpf .olt main_arg0 main_v2
  let main_v4 : IVec S2x4096x3072 1 := andi main_v1 main_v3
  let main_cst_1 : FVec F S_ .f32 := constant S_ .f32 0xFF800000#32
  let main_v5 : FVec F S8x257 .f32 := broadcastInDim S8x257 ![] bcast_S_S8x257 main_cst_1
  let main_v6 : IVec S8x257 1 := cmpf .ogt main_arg1 main_v5
  let main_cst_2 : FVec F S_ .f32 := constant S_ .f32 0x7F800000#32
  let main_v7 : FVec F S8x257 .f32 := broadcastInDim S8x257 ![] bcast_S_S8x257 main_cst_2
  let main_v8 : IVec S8x257 1 := cmpf .olt main_arg1 main_v7
  let main_v9 : IVec S8x257 1 := andi main_v6 main_v8
  (main_v4, main_v9)
-- ==== Pre_finite4.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg3 : FVec F S2816x1024 .bf16) (main_arg4 : FVec F S8192x1024 .f32) (main_arg6 : FVec F S1x1024 .f32) (main_v4 : IVec S8192x2816 1) (main_v9 : IVec S8192x2816 1) (main_v14 : IVec S2816x1024 1) (main_v16 : IVec S2816x1024 1) : IVec S8192x2816 1 × IVec S8192x2816 1 × IVec S2816x1024 1 × IVec S2816x1024 1 × IVec S8192x1024 1 × IVec S1x1024 1 :=
  let main_cst_6 : FVec F S_ .bf16 := constant S_ .bf16 0x7F80#16
  let main_v17 : FVec F S2816x1024 .bf16 := broadcastInDim S2816x1024 ![] bcast_S_S2816x1024 main_cst_6
  let main_v18 : IVec S2816x1024 1 := cmpf .olt main_arg3 main_v17
  let main_v19 : IVec S2816x1024 1 := andi main_v16 main_v18
  let main_cst_7 : FVec F S_ .f32 := constant S_ .f32 0xFF800000#32
  let main_v20 : FVec F S8192x1024 .f32 := broadcastInDim S8192x1024 ![] bcast_S_S8192x1024 main_cst_7
  let main_v21 : IVec S8192x1024 1 := cmpf .ogt main_arg4 main_v20
  let main_cst_8 : FVec F S_ .f32 := constant S_ .f32 0x7F800000#32
  let main_v22 : FVec F S8192x1024 .f32 := broadcastInDim S8192x1024 ![] bcast_S_S8192x1024 main_cst_8
  let main_v23 : IVec S8192x1024 1 := cmpf .olt main_arg4 main_v22
  let main_v24 : IVec S8192x1024 1 := andi main_v21 main_v23
  let main_cst_9 : FVec F S_ .f32 := constant S_ .f32 0xFF800000#32
  let main_v25 : FVec F S1x1024 .f32 := broadcastInDim S1x1024 ![] bcast_S_S1x1024 main_cst_9
  let main_v26 : IVec S1x1024 1 := cmpf .ogt main_arg6 main_v25
  let main_cst_10 : FVec F S_ .f32 := constant S_ .f32 0x7F800000#32
  let main_v27 : FVec F S1x1024 .f32 := broadcastInDim S1x1024 ![] bcast_S_S1x1024 main_cst_10
  let main_v28 : IVec S1x1024 1 := cmpf .olt main_arg6 main_v27
  let main_v29 : IVec S1x1024 1 := andi main_v26 main_v28
  (main_v4, main_v9, main_v14, main_v19, main_v24, main_v29)

def fn {F : FTy → Type} [FloatOps F] (main_arg0 : FVec F S8192x2816 .bf16) (main_arg1 : FVec F S8192x2816 .bf16) (main_arg2 : FVec F S2816x1024 .bf16) (main_arg3 : FVec F S2816x1024 .bf16) (main_arg4 : FVec F S8192x1024 .f32) (main_arg5 : FVec F S8192x1024 .f32) (main_arg6 : FVec F S1x1024 .f32) : IVec S8192x2816 1 × IVec S8192x2816 1 × IVec S2816x1024 1 × IVec S2816x1024 1 × IVec S8192x1024 1 × IVec S1x1024 1 :=
  let main_cst : FVec F S_ .bf16 := constant S_ .bf16 0xFF80#16
  let main_v0 : FVec F S8192x2816 .bf16 := broadcastInDim S8192x2816 ![] bcast_S_S8192x2816 main_cst
  let main_v1 : IVec S8192x2816 1 := cmpf .ogt main_arg0 main_v0
  let main_cst_0 : FVec F S_ .bf16 := constant S_ .bf16 0x7F80#16
  let main_v2 : FVec F S8192x2816 .bf16 := broadcastInDim S8192x2816 ![] bcast_S_S8192x2816 main_cst_0
  let main_v3 : IVec S8192x2816 1 := cmpf .olt main_arg0 main_v2
  let main_v4 : IVec S8192x2816 1 := andi main_v1 main_v3
  let main_cst_1 : FVec F S_ .bf16 := constant S_ .bf16 0xFF80#16
  let main_v5 : FVec F S8192x2816 .bf16 := broadcastInDim S8192x2816 ![] bcast_S_S8192x2816 main_cst_1
  let main_v6 : IVec S8192x2816 1 := cmpf .ogt main_arg1 main_v5
  let main_cst_2 : FVec F S_ .bf16 := constant S_ .bf16 0x7F80#16
  let main_v7 : FVec F S8192x2816 .bf16 := broadcastInDim S8192x2816 ![] bcast_S_S8192x2816 main_cst_2
  let main_v8 : IVec S8192x2816 1 := cmpf .olt main_arg1 main_v7
  let main_v9 : IVec S8192x2816 1 := andi main_v6 main_v8
  let main_cst_3 : FVec F S_ .bf16 := constant S_ .bf16 0xFF80#16
  let main_v10 : FVec F S2816x1024 .bf16 := broadcastInDim S2816x1024 ![] bcast_S_S2816x1024 main_cst_3
  let main_v11 : IVec S2816x1024 1 := cmpf .ogt main_arg2 main_v10
  let main_cst_4 : FVec F S_ .bf16 := constant S_ .bf16 0x7F80#16
  let main_v12 : FVec F S2816x1024 .bf16 := broadcastInDim S2816x1024 ![] bcast_S_S2816x1024 main_cst_4
  let main_v13 : IVec S2816x1024 1 := cmpf .olt main_arg2 main_v12
  let main_v14 : IVec S2816x1024 1 := andi main_v11 main_v13
  let main_cst_5 : FVec F S_ .bf16 := constant S_ .bf16 0xFF80#16
  let main_v15 : FVec F S2816x1024 .bf16 := broadcastInDim S2816x1024 ![] bcast_S_S2816x1024 main_cst_5
  let main_v16 : IVec S2816x1024 1 := cmpf .ogt main_arg3 main_v15
  fn_part1 (F := F) main_arg3 main_arg4 main_arg6 main_v4 main_v9 main_v14 main_v16
-- ==== Pre_finite5.lean ====
abbrev S8192x1024 : Shape := ⟨2, ![8192, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)

variable [Facts]

def fn {F : FTy → Type} [FloatOps F] (main_arg0 : FVec F S8192x1024 .bf16) (main_arg1 : FVec F S2816x1024 .bf16) (main_arg2 : FVec F S2816x1024 .bf16) : IVec S8192x1024 1 × IVec S2816x1024 1 × IVec S2816x1024 1 :=
  let main_cst : FVec F S_ .bf16 := constant S_ .bf16 0xFF80#16
  let main_v0 : FVec F S8192x1024 .bf16 := broadcastInDim S8192x1024 ![] bcast_S_S8192x1024 main_cst
  let main_v1 : IVec S8192x1024 1 := cmpf .ogt main_arg0 main_v0
  let main_cst_0 : FVec F S_ .bf16 := constant S_ .bf16 0x7F80#16
  let main_v2 : FVec F S8192x1024 .bf16 := broadcastInDim S8192x1024 ![] bcast_S_S8192x1024 main_cst_0
  let main_v3 : IVec S8192x1024 1 := cmpf .olt main_arg0 main_v2
  let main_v4 : IVec S8192x1024 1 := andi main_v1 main_v3
  let main_cst_1 : FVec F S_ .bf16 := constant S_ .bf16 0xFF80#16
  let main_v5 : FVec F S2816x1024 .bf16 := broadcastInDim S2816x1024 ![] bcast_S_S2816x1024 main_cst_1
  let main_v6 : IVec S2816x1024 1 := cmpf .ogt main_arg1 main_v5
  let main_cst_2 : FVec F S_ .bf16 := constant S_ .bf16 0x7F80#16
  let main_v7 : FVec F S2816x1024 .bf16 := broadcastInDim S2816x1024 ![] bcast_S_S2816x1024 main_cst_2
  let main_v8 : IVec S2816x1024 1 := cmpf .olt main_arg1 main_v7
  let main_v9 : IVec S2816x1024 1 := andi main_v6 main_v8
  let main_cst_3 : FVec F S_ .bf16 := constant S_ .bf16 0xFF80#16
  let main_v10 : FVec F S2816x1024 .bf16 := broadcastInDim S2816x1024 ![] bcast_S_S2816x1024 main_cst_3
  let main_v11 : IVec S2816x1024 1 := cmpf .ogt main_arg2 main_v10
  let main_cst_4 : FVec F S_ .bf16 := constant S_ .bf16 0x7F80#16
  let main_v12 : FVec F S2816x1024 .bf16 := broadcastInDim S2816x1024 ![] bcast_S_S2816x1024 main_cst_4
  let main_v13 : IVec S2816x1024 1 := cmpf .olt main_arg2 main_v12
  let main_v14 : IVec S2816x1024 1 := andi main_v11 main_v13
  (main_v4, main_v9, main_v14)
-- ==== Pre_finite7.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  bcast_S_S512x1024 : S_.BroadcastsInDim S512x1024 (![] : Fin 0 → Fin S512x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part4 {F : FTy → Type} [FloatOps F] (main_arg14 : FVec F S1x1024 .f32) (main_v4 : IVec S8192x512 1) (main_v9 : IVec S8192x512 1) (main_v14 : IVec S8192x512 1) (main_v19 : IVec S8192x512 1) (main_v24 : IVec S8192x512 1) (main_v29 : IVec S8192x512 1) (main_v34 : IVec S512x1024 1) (main_v39 : IVec S512x1024 1) (main_v44 : IVec S512x1024 1) (main_v49 : IVec S512x1024 1) (main_v54 : IVec S512x1024 1) (main_v59 : IVec S512x1024 1) (main_v64 : IVec S8192x1024 1) (main_v66 : IVec S1x1024 1) (main_v67 : FVec F S1x1024 .f32) : IVec S8192x512 1 × IVec S8192x512 1 × IVec S8192x512 1 × IVec S8192x512 1 × IVec S8192x512 1 × IVec S8192x512 1 × IVec S512x1024 1 × IVec S512x1024 1 × IVec S512x1024 1 × IVec S512x1024 1 × IVec S512x1024 1 × IVec S512x1024 1 × IVec S8192x1024 1 × IVec S1x1024 1 :=
  let main_v68 : IVec S1x1024 1 := cmpf .olt main_arg14 main_v67
  let main_v69 : IVec S1x1024 1 := andi main_v66 main_v68
  (main_v4, main_v9, main_v14, main_v19, main_v24, main_v29, main_v34, main_v39, main_v44, main_v49, main_v54, main_v59, main_v64, main_v69)

def fn_part3 {F : FTy → Type} [FloatOps F] (main_arg10 : FVec F S512x1024 .bf16) (main_arg11 : FVec F S512x1024 .bf16) (main_arg12 : FVec F S8192x1024 .f32) (main_arg14 : FVec F S1x1024 .f32) (main_v4 : IVec S8192x512 1) (main_v9 : IVec S8192x512 1) (main_v14 : IVec S8192x512 1) (main_v19 : IVec S8192x512 1) (main_v24 : IVec S8192x512 1) (main_v29 : IVec S8192x512 1) (main_v34 : IVec S512x1024 1) (main_v39 : IVec S512x1024 1) (main_v44 : IVec S512x1024 1) (main_v49 : IVec S512x1024 1) (main_v50 : FVec F S512x1024 .bf16) : IVec S8192x512 1 × IVec S8192x512 1 × IVec S8192x512 1 × IVec S8192x512 1 × IVec S8192x512 1 × IVec S8192x512 1 × IVec S512x1024 1 × IVec S512x1024 1 × IVec S512x1024 1 × IVec S512x1024 1 × IVec S512x1024 1 × IVec S512x1024 1 × IVec S8192x1024 1 × IVec S1x1024 1 :=
  let main_v51 : IVec S512x1024 1 := cmpf .ogt main_arg10 main_v50
  let main_cst_20 : FVec F S_ .bf16 := constant S_ .bf16 0x7F80#16
  let main_v52 : FVec F S512x1024 .bf16 := broadcastInDim S512x1024 ![] bcast_S_S512x1024 main_cst_20
  let main_v53 : IVec S512x1024 1 := cmpf .olt main_arg10 main_v52
  let main_v54 : IVec S512x1024 1 := andi main_v51 main_v53
  let main_cst_21 : FVec F S_ .bf16 := constant S_ .bf16 0xFF80#16
  let main_v55 : FVec F S512x1024 .bf16 := broadcastInDim S512x1024 ![] bcast_S_S512x1024 main_cst_21
  let main_v56 : IVec S512x1024 1 := cmpf .ogt main_arg11 main_v55
  let main_cst_22 : FVec F S_ .bf16 := constant S_ .bf16 0x7F80#16
  let main_v57 : FVec F S512x1024 .bf16 := broadcastInDim S512x1024 ![] bcast_S_S512x1024 main_cst_22
  let main_v58 : IVec S512x1024 1 := cmpf .olt main_arg11 main_v57
  let main_v59 : IVec S512x1024 1 := andi main_v56 main_v58
  let main_cst_23 : FVec F S_ .f32 := constant S_ .f32 0xFF800000#32
  let main_v60 : FVec F S8192x1024 .f32 := broadcastInDim S8192x1024 ![] bcast_S_S8192x1024 main_cst_23
  let main_v61 : IVec S8192x1024 1 := cmpf .ogt main_arg12 main_v60
  let main_cst_24 : FVec F S_ .f32 := constant S_ .f32 0x7F800000#32
  let main_v62 : FVec F S8192x1024 .f32 := broadcastInDim S8192x1024 ![] bcast_S_S8192x1024 main_cst_24
  let main_v63 : IVec S8192x1024 1 := cmpf .olt main_arg12 main_v62
  let main_v64 : IVec S8192x1024 1 := andi main_v61 main_v63
  let main_cst_25 : FVec F S_ .f32 := constant S_ .f32 0xFF800000#32
  let main_v65 : FVec F S1x1024 .f32 := broadcastInDim S1x1024 ![] bcast_S_S1x1024 main_cst_25
  let main_v66 : IVec S1x1024 1 := cmpf .ogt main_arg14 main_v65
  let main_cst_26 : FVec F S_ .f32 := constant S_ .f32 0x7F800000#32
  let main_v67 : FVec F S1x1024 .f32 := broadcastInDim S1x1024 ![] bcast_S_S1x1024 main_cst_26
  fn_part4 (F := F) main_arg14 main_v4 main_v9 main_v14 main_v19 main_v24 main_v29 main_v34 main_v39 main_v44 main_v49 main_v54 main_v59 main_v64 main_v66 main_v67

def fn_part2 {F : FTy → Type} [FloatOps F] (main_arg7 : FVec F S512x1024 .bf16) (main_arg8 : FVec F S512x1024 .bf16) (main_arg9 : FVec F S512x1024 .bf16) (main_arg10 : FVec F S512x1024 .bf16) (main_arg11 : FVec F S512x1024 .bf16) (main_arg12 : FVec F S8192x1024 .f32) (main_arg14 : FVec F S1x1024 .f32) (main_v4 : IVec S8192x512 1) (main_v9 : IVec S8192x512 1) (main_v14 : IVec S8192x512 1) (main_v19 : IVec S8192x512 1) (main_v24 : IVec S8192x512 1) (main_v29 : IVec S8192x512 1) (main_v31 : IVec S512x1024 1) (main_v33 : IVec S512x1024 1) : IVec S8192x512 1 × IVec S8192x512 1 × IVec S8192x512 1 × IVec S8192x512 1 × IVec S8192x512 1 × IVec S8192x512 1 × IVec S512x1024 1 × IVec S512x1024 1 × IVec S512x1024 1 × IVec S512x1024 1 × IVec S512x1024 1 × IVec S512x1024 1 × IVec S8192x1024 1 × IVec S1x1024 1 :=
  let main_v34 : IVec S512x1024 1 := andi main_v31 main_v33
  let main_cst_13 : FVec F S_ .bf16 := constant S_ .bf16 0xFF80#16
  let main_v35 : FVec F S512x1024 .bf16 := broadcastInDim S512x1024 ![] bcast_S_S512x1024 main_cst_13
  let main_v36 : IVec S512x1024 1 := cmpf .ogt main_arg7 main_v35
  let main_cst_14 : FVec F S_ .bf16 := constant S_ .bf16 0x7F80#16
  let main_v37 : FVec F S512x1024 .bf16 := broadcastInDim S512x1024 ![] bcast_S_S512x1024 main_cst_14
  let main_v38 : IVec S512x1024 1 := cmpf .olt main_arg7 main_v37
  let main_v39 : IVec S512x1024 1 := andi main_v36 main_v38
  let main_cst_15 : FVec F S_ .bf16 := constant S_ .bf16 0xFF80#16
  let main_v40 : FVec F S512x1024 .bf16 := broadcastInDim S512x1024 ![] bcast_S_S512x1024 main_cst_15
  let main_v41 : IVec S512x1024 1 := cmpf .ogt main_arg8 main_v40
  let main_cst_16 : FVec F S_ .bf16 := constant S_ .bf16 0x7F80#16
  let main_v42 : FVec F S512x1024 .bf16 := broadcastInDim S512x1024 ![] bcast_S_S512x1024 main_cst_16
  let main_v43 : IVec S512x1024 1 := cmpf .olt main_arg8 main_v42
  let main_v44 : IVec S512x1024 1 := andi main_v41 main_v43
  let main_cst_17 : FVec F S_ .bf16 := constant S_ .bf16 0xFF80#16
  let main_v45 : FVec F S512x1024 .bf16 := broadcastInDim S512x1024 ![] bcast_S_S512x1024 main_cst_17
  let main_v46 : IVec S512x1024 1 := cmpf .ogt main_arg9 main_v45
  let main_cst_18 : FVec F S_ .bf16 := constant S_ .bf16 0x7F80#16
  let main_v47 : FVec F S512x1024 .bf16 := broadcastInDim S512x1024 ![] bcast_S_S512x1024 main_cst_18
  let main_v48 : IVec S512x1024 1 := cmpf .olt main_arg9 main_v47
  let main_v49 : IVec S512x1024 1 := andi main_v46 main_v48
  let main_cst_19 : FVec F S_ .bf16 := constant S_ .bf16 0xFF80#16
  let main_v50 : FVec F S512x1024 .bf16 := broadcastInDim S512x1024 ![] bcast_S_S512x1024 main_cst_19
  fn_part3 (F := F) main_arg10 main_arg11 main_arg12 main_arg14 main_v4 main_v9 main_v14 main_v19 main_v24 main_v29 main_v34 main_v39 main_v44 main_v49 main_v50

def fn_part1 {F : FTy → Type} [FloatOps F] (main_arg3 : FVec F S8192x512 .bf16) (main_arg4 : FVec F S8192x512 .bf16) (main_arg5 : FVec F S8192x512 .bf16) (main_arg6 : FVec F S512x1024 .bf16) (main_arg7 : FVec F S512x1024 .bf16) (main_arg8 : FVec F S512x1024 .bf16) (main_arg9 : FVec F S512x1024 .bf16) (main_arg10 : FVec F S512x1024 .bf16) (main_arg11 : FVec F S512x1024 .bf16) (main_arg12 : FVec F S8192x1024 .f32) (main_arg14 : FVec F S1x1024 .f32) (main_v4 : IVec S8192x512 1) (main_v9 : IVec S8192x512 1) (main_v14 : IVec S8192x512 1) (main_v16 : IVec S8192x512 1) : IVec S8192x512 1 × IVec S8192x512 1 × IVec S8192x512 1 × IVec S8192x512 1 × IVec S8192x512 1 × IVec S8192x512 1 × IVec S512x1024 1 × IVec S512x1024 1 × IVec S512x1024 1 × IVec S512x1024 1 × IVec S512x1024 1 × IVec S512x1024 1 × IVec S8192x1024 1 × IVec S1x1024 1 :=
  let main_cst_6 : FVec F S_ .bf16 := constant S_ .bf16 0x7F80#16
  let main_v17 : FVec F S8192x512 .bf16 := broadcastInDim S8192x512 ![] bcast_S_S8192x512 main_cst_6
  let main_v18 : IVec S8192x512 1 := cmpf .olt main_arg3 main_v17
  let main_v19 : IVec S8192x512 1 := andi main_v16 main_v18
  let main_cst_7 : FVec F S_ .bf16 := constant S_ .bf16 0xFF80#16
  let main_v20 : FVec F S8192x512 .bf16 := broadcastInDim S8192x512 ![] bcast_S_S8192x512 main_cst_7
  let main_v21 : IVec S8192x512 1 := cmpf .ogt main_arg4 main_v20
  let main_cst_8 : FVec F S_ .bf16 := constant S_ .bf16 0x7F80#16
  let main_v22 : FVec F S8192x512 .bf16 := broadcastInDim S8192x512 ![] bcast_S_S8192x512 main_cst_8
  let main_v23 : IVec S8192x512 1 := cmpf .olt main_arg4 main_v22
  let main_v24 : IVec S8192x512 1 := andi main_v21 main_v23
  let main_cst_9 : FVec F S_ .bf16 := constant S_ .bf16 0xFF80#16
  let main_v25 : FVec F S8192x512 .bf16 := broadcastInDim S8192x512 ![] bcast_S_S8192x512 main_cst_9
  let main_v26 : IVec S8192x512 1 := cmpf .ogt main_arg5 main_v25
  let main_cst_10 : FVec F S_ .bf16 := constant S_ .bf16 0x7F80#16
  let main_v27 : FVec F S8192x512 .bf16 := broadcastInDim S8192x512 ![] bcast_S_S8192x512 main_cst_10
  let main_v28 : IVec S8192x512 1 := cmpf .olt main_arg5 main_v27
  let main_v29 : IVec S8192x512 1 := andi main_v26 main_v28
  let main_cst_11 : FVec F S_ .bf16 := constant S_ .bf16 0xFF80#16
  let main_v30 : FVec F S512x1024 .bf16 := broadcastInDim S512x1024 ![] bcast_S_S512x1024 main_cst_11
  let main_v31 : IVec S512x1024 1 := cmpf .ogt main_arg6 main_v30
  let main_cst_12 : FVec F S_ .bf16 := constant S_ .bf16 0x7F80#16
  let main_v32 : FVec F S512x1024 .bf16 := broadcastInDim S512x1024 ![] bcast_S_S512x1024 main_cst_12
  let main_v33 : IVec S512x1024 1 := cmpf .olt main_arg6 main_v32
  fn_part2 (F := F) main_arg7 main_arg8 main_arg9 main_arg10 main_arg11 main_arg12 main_arg14 main_v4 main_v9 main_v14 main_v19 main_v24 main_v29 main_v31 main_v33

def fn {F : FTy → Type} [FloatOps F] (main_arg0 : FVec F S8192x512 .bf16) (main_arg1 : FVec F S8192x512 .bf16) (main_arg2 : FVec F S8192x512 .bf16) (main_arg3 : FVec F S8192x512 .bf16) (main_arg4 : FVec F S8192x512 .bf16) (main_arg5 : FVec F S8192x512 .bf16) (main_arg6 : FVec F S512x1024 .bf16) (main_arg7 : FVec F S512x1024 .bf16) (main_arg8 : FVec F S512x1024 .bf16) (main_arg9 : FVec F S512x1024 .bf16) (main_arg10 : FVec F S512x1024 .bf16) (main_arg11 : FVec F S512x1024 .bf16) (main_arg12 : FVec F S8192x1024 .f32) (main_arg13 : FVec F S8192x1024 .f32) (main_arg14 : FVec F S1x1024 .f32) : IVec S8192x512 1 × IVec S8192x512 1 × IVec S8192x512 1 × IVec S8192x512 1 × IVec S8192x512 1 × IVec S8192x512 1 × IVec S512x1024 1 × IVec S512x1024 1 × IVec S512x1024 1 × IVec S512x1024 1 × IVec S512x1024 1 × IVec S512x1024 1 × IVec S8192x1024 1 × IVec S1x1024 1 :=
  let main_cst : FVec F S_ .bf16 := constant S_ .bf16 0xFF80#16
  let main_v0 : FVec F S8192x512 .bf16 := broadcastInDim S8192x512 ![] bcast_S_S8192x512 main_cst
  let main_v1 : IVec S8192x512 1 := cmpf .ogt main_arg0 main_v0
  let main_cst_0 : FVec F S_ .bf16 := constant S_ .bf16 0x7F80#16
  let main_v2 : FVec F S8192x512 .bf16 := broadcastInDim S8192x512 ![] bcast_S_S8192x512 main_cst_0
  let main_v3 : IVec S8192x512 1 := cmpf .olt main_arg0 main_v2
  let main_v4 : IVec S8192x512 1 := andi main_v1 main_v3
  let main_cst_1 : FVec F S_ .bf16 := constant S_ .bf16 0xFF80#16
  let main_v5 : FVec F S8192x512 .bf16 := broadcastInDim S8192x512 ![] bcast_S_S8192x512 main_cst_1
  let main_v6 : IVec S8192x512 1 := cmpf .ogt main_arg1 main_v5
  let main_cst_2 : FVec F S_ .bf16 := constant S_ .bf16 0x7F80#16
  let main_v7 : FVec F S8192x512 .bf16 := broadcastInDim S8192x512 ![] bcast_S_S8192x512 main_cst_2
  let main_v8 : IVec S8192x512 1 := cmpf .olt main_arg1 main_v7
  let main_v9 : IVec S8192x512 1 := andi main_v6 main_v8
  let main_cst_3 : FVec F S_ .bf16 := constant S_ .bf16 0xFF80#16
  let main_v10 : FVec F S8192x512 .bf16 := broadcastInDim S8192x512 ![] bcast_S_S8192x512 main_cst_3
  let main_v11 : IVec S8192x512 1 := cmpf .ogt main_arg2 main_v10
  let main_cst_4 : FVec F S_ .bf16 := constant S_ .bf16 0x7F80#16
  let main_v12 : FVec F S8192x512 .bf16 := broadcastInDim S8192x512 ![] bcast_S_S8192x512 main_cst_4
  let main_v13 : IVec S8192x512 1 := cmpf .olt main_arg2 main_v12
  let main_v14 : IVec S8192x512 1 := andi main_v11 main_v13
  let main_cst_5 : FVec F S_ .bf16 := constant S_ .bf16 0xFF80#16
  let main_v15 : FVec F S8192x512 .bf16 := broadcastInDim S8192x512 ![] bcast_S_S8192x512 main_cst_5
  let main_v16 : IVec S8192x512 1 := cmpf .ogt main_arg3 main_v15
  fn_part1 (F := F) main_arg3 main_arg4 main_arg5 main_arg6 main_arg7 main_arg8 main_arg9 main_arg10 main_arg11 main_arg12 main_arg14 main_v4 main_v9 main_v14 main_v16
-- ==== Kernel.lean ====
abbrev S2x4096x3072 : Shape := ⟨3, ![2, 4096, 3072]⟩
abbrev S8x257 : Shape := ⟨2, ![8, 257]⟩
abbrev S512 : Shape := ⟨1, ![512]⟩
abbrev S2x4096x1024 : Shape := ⟨3, ![2, 4096, 1024]⟩
abbrev S2x4096x512 : Shape := ⟨3, ![2, 4096, 512]⟩
abbrev S2x4096x8x64 : Shape := ⟨4, ![2, 4096, 8, 64]⟩
abbrev S4096x4096 : Shape := ⟨2, ![4096, 4096]⟩
abbrev S_ : Shape := ⟨0, ![]⟩
abbrev S4096x4096x1 : Shape := ⟨3, ![4096, 4096, 1]⟩
abbrev S8x4096x4096 : Shape := ⟨3, ![8, 4096, 4096]⟩
abbrev S2x8x4096x4096 : Shape := ⟨4, ![2, 8, 4096, 4096]⟩
abbrev S1x8x4096x4096 : Shape := ⟨4, ![1, 8, 4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x4608x3072 : Shape := ⟨3, ![2, 4608, 3072]⟩
abbrev S768 : Shape := ⟨1, ![768]⟩
abbrev S768x1 : Shape := ⟨2, ![768, 1]⟩
abbrev S257 : Shape := ⟨1, ![257]⟩
abbrev S1x257 : Shape := ⟨2, ![1, 257]⟩
abbrev S768x257 : Shape := ⟨2, ![768, 257]⟩
abbrev S257x768 : Shape := ⟨2, ![257, 768]⟩
abbrev S8x768 : Shape := ⟨2, ![8, 768]⟩
abbrev S8x1x768 : Shape := ⟨3, ![8, 1, 768]⟩
abbrev S8x128x768 : Shape := ⟨3, ![8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S1x512 : Shape := ⟨2, ![1, 512]⟩
abbrev S2x32x1x512 : Shape := ⟨4, ![2, 32, 1, 512]⟩
abbrev S8x128x256 : Shape := ⟨3, ![8, 128, 256]⟩
abbrev S1x128x512 : Shape := ⟨3, ![1, 128, 512]⟩
abbrev S1x4608x512 : Shape := ⟨3, ![1, 4608, 512]⟩
abbrev S1x4096x512 : Shape := ⟨3, ![1, 4096, 512]⟩
abbrev S1x1x1x512 : Shape := ⟨4, ![1, 1, 1, 512]⟩
abbrev S4608x512 : Shape := ⟨2, ![4608, 512]⟩
abbrev S128x128 : Shape := ⟨2, ![128, 128]⟩
abbrev S1x128x128 : Shape := ⟨3, ![1, 128, 128]⟩
abbrev S1x128 : Shape := ⟨2, ![1, 128]⟩
abbrev S1x1x1x128 : Shape := ⟨4, ![1, 1, 1, 128]⟩
abbrev S1x640x128 : Shape := ⟨3, ![1, 640, 128]⟩
abbrev S640x128 : Shape := ⟨2, ![640, 128]⟩
abbrev S1x128x640 : Shape := ⟨3, ![1, 128, 640]⟩
abbrev S1x128x256 : Shape := ⟨3, ![1, 128, 256]⟩
abbrev S128x256 : Shape := ⟨2, ![128, 256]⟩
abbrev S4096x512 : Shape := ⟨2, ![4096, 512]⟩

abbrev nBuf : Space → Nat
  | .hbm => 179
  | .vmem => 19
  | .smem => 0
  | _ => 0

abbrev hbmTy0_0 (i : Nat) : BufTy := match i % 128 with
  | 0 => ⟨S2x4096x3072, .bf16⟩
  | 1 => ⟨S8x257, .f32⟩
  | 2 => ⟨S512, .f32⟩
  | 3 => ⟨S2x4096x1024, .f32⟩
  | 4 => ⟨S2x4096x512, .bf16⟩
  | 5 => ⟨S2x4096x512, .bf16⟩
  | 6 => ⟨S2x4096x512, .bf16⟩
  | 7 => ⟨S2x4096x512, .bf16⟩
  | 8 => ⟨S2x4096x512, .bf16⟩
  | 9 => ⟨S2x4096x512, .bf16⟩
  | 10 => ⟨S2x4096x512, .f32⟩
  | 11 => ⟨S2x4096x8x64, .f32⟩
  | 12 => ⟨S2x4096x512, .f32⟩
  | 13 => ⟨S2x4096x8x64, .f32⟩
  | 14 => ⟨S2x4096x512, .f32⟩
  | 15 => ⟨S2x4096x8x64, .f32⟩
  | 16 => ⟨S4096x4096, .i32⟩
  | 17 => ⟨S4096x4096, .i32⟩
  | 18 => ⟨S4096x4096, .i32⟩
  | 19 => ⟨S_, .i32⟩
  | 20 => ⟨S4096x4096, .i32⟩
  | 21 => ⟨S4096x4096, .i32⟩
  | 22 => ⟨S_, .i32⟩
  | 23 => ⟨S4096x4096, .i32⟩
  | 24 => ⟨S4096x4096, .i32⟩
  | 25 => ⟨S_, .i32⟩
  | 26 => ⟨S4096x4096, .i32⟩
  | 27 => ⟨S4096x4096, .i32⟩
  | 28 => ⟨S4096x4096x1, .i32⟩
  | 29 => ⟨S8x4096x4096, .f32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S2x8x4096x4096, .f32⟩
  | 37 => ⟨S_, .f32⟩
  | 38 => ⟨S2x8x4096x4096, .f32⟩
  | 39 => ⟨S2x8x4096x4096, .f32⟩
  | 40 => ⟨S1x8x4096x4096, .f32⟩
  | 41 => ⟨S2x8x4096x4096, .f32⟩
  | 42 => ⟨S2x8x4096x4096, .f32⟩
  | 43 => ⟨S4096x4096, .i1⟩
  | 44 => ⟨S_, .i32⟩
  | 45 => ⟨S4096x4096, .i32⟩
  | 46 => ⟨S4096x4096, .i32⟩
  | 47 => ⟨S4096x4096, .i1⟩
  | 48 => ⟨S4096x4096, .i1⟩
  | 49 => ⟨S_, .f32⟩
  | 50 => ⟨S_, .f32⟩
  | 51 => ⟨S2x8x4096x4096, .i1⟩
  | 52 => ⟨S2x8x4096x4096, .f32⟩
  | 53 => ⟨S2x8x4096x4096, .f32⟩
  | 54 => ⟨S_, .f32⟩
  | 55 => ⟨S2x8x4096, .f32⟩
  | 56 => ⟨S2x8x4096x1, .f32⟩
  | 57 => ⟨S2x8x4096x4096, .f32⟩
  | 58 => ⟨S2x8x4096x4096, .f32⟩
  | 59 => ⟨S2x8x4096x4096, .f32⟩
  | 60 => ⟨S_, .f32⟩
  | 61 => ⟨S2x8x4096, .f32⟩
  | 62 => ⟨S2x8x4096x1, .f32⟩
  | 63 => ⟨S2x8x4096x4096, .f32⟩
  | 64 => ⟨S2x8x4096x4096, .f32⟩
  | 65 => ⟨S2x8x64x4096, .f32⟩
  | 66 => ⟨S2x4096x8x64, .f32⟩
  | 67 => ⟨S_, .i32⟩
  | 68 => ⟨S_, .bf16⟩
  | 69 => ⟨S2x4608x3072, .bf16⟩
  | 70 => ⟨S768, .i32⟩
  | 71 => ⟨S_, .i32⟩
  | 72 => ⟨S768, .i32⟩
  | 73 => ⟨S768, .i1⟩
  | 74 => ⟨S_, .i32⟩
  | 75 => ⟨S768, .i32⟩
  | 76 => ⟨S768, .i32⟩
  | 77 => ⟨S768, .i32⟩
  | 78 => ⟨S_, .i32⟩
  | 79 => ⟨S768, .i32⟩
  | 80 => ⟨S768, .i32⟩
  | 81 => ⟨S_, .i32⟩
  | 82 => ⟨S_, .i32⟩
  | 83 => ⟨S_, .i32⟩
  | 84 => ⟨S768, .i32⟩
  | 85 => ⟨S768, .i32⟩
  | 86 => ⟨S_, .i32⟩
  | 87 => ⟨S768, .i32⟩
  | 88 => ⟨S768, .i32⟩
  | 89 => ⟨S_, .i32⟩
  | 90 => ⟨S768, .i32⟩
  | 91 => ⟨S768, .i32⟩
  | 92 => ⟨S768, .i32⟩
  | 93 => ⟨S_, .i32⟩
  | 94 => ⟨S768, .i32⟩
  | 95 => ⟨S768, .i1⟩
  | 96 => ⟨S_, .i32⟩
  | 97 => ⟨S768, .i32⟩
  | 98 => ⟨S768, .i32⟩
  | 99 => ⟨S768, .i32⟩
  | 100 => ⟨S_, .i32⟩
  | 101 => ⟨S768, .i32⟩
  | 102 => ⟨S768, .i32⟩
  | 103 => ⟨S_, .i32⟩
  | 104 => ⟨S_, .i32⟩
  | 105 => ⟨S_, .i32⟩
  | 106 => ⟨S768, .i32⟩
  | 107 => ⟨S768, .i32⟩
  | 108 => ⟨S_, .i32⟩
  | 109 => ⟨S768, .i32⟩
  | 110 => ⟨S768, .i32⟩
  | 111 => ⟨S_, .i32⟩
  | 112 => ⟨S768, .i32⟩
  | 113 => ⟨S768, .i32⟩
  | 114 => ⟨S768x1, .i32⟩
  | 115 => ⟨S257, .i32⟩
  | 116 => ⟨S1x257, .i32⟩
  | 117 => ⟨S768x257, .i32⟩
  | 118 => ⟨S768x257, .i32⟩
  | 119 => ⟨S768x257, .i1⟩
  | 120 => ⟨S768x257, .f32⟩
  | 121 => ⟨S257x768, .f32⟩
  | 122 => ⟨S8x768, .f32⟩
  | 123 => ⟨S8x1x768, .f32⟩
  | 124 => ⟨S8x128x768, .f32⟩
  | 125 => ⟨S8x98304, .f32⟩
  | 126 => ⟨S8x98176, .f32⟩
  | 127 => ⟨S8x128x767, .f32⟩
  | _ => ⟨S2x4096x3072, .bf16⟩

abbrev hbmTy0_1 (i : Nat) : BufTy := match i % 128 with
  | 0 => ⟨S8x128x640, .f32⟩
  | 1 => ⟨S128, .i32⟩
  | 2 => ⟨S128x1, .i32⟩
  | 3 => ⟨S_, .i32⟩
  | 4 => ⟨S_, .i32⟩
  | 5 => ⟨S128x1, .i32⟩
  | 6 => ⟨S128x1, .i32⟩
  | 7 => ⟨S128x1, .i32⟩
  | 8 => ⟨S_, .i32⟩
  | 9 => ⟨S128x1, .i32⟩
  | 10 => ⟨S128x1, .i1⟩
  | 11 => ⟨S128x1, .i32⟩
  | 12 => ⟨S128x1, .i32⟩
  | 13 => ⟨S_, .i32⟩
  | 14 => ⟨S128x1, .i32⟩
  | 15 => ⟨S128x1, .i1⟩
  | 16 => ⟨S128x1, .i1⟩
  | 17 => ⟨S_, .i32⟩
  | 18 => ⟨S128x1, .i32⟩
  | 19 => ⟨S128x1, .i32⟩
  | 20 => ⟨S128x1, .i32⟩
  | 21 => ⟨S_, .i32⟩
  | 22 => ⟨S128x1, .i32⟩
  | 23 => ⟨S128x1, .i32⟩
  | 24 => ⟨S640, .i32⟩
  | 25 => ⟨S1x640, .i32⟩
  | 26 => ⟨S128x640, .i32⟩
  | 27 => ⟨S128x640, .i32⟩
  | 28 => ⟨S128x640, .i1⟩
  | 29 => ⟨S_, .i32⟩
  | 30 => ⟨S128x1, .i32⟩
  | 31 => ⟨S128x1, .i32⟩
  | 32 => ⟨S_, .i32⟩
  | 33 => ⟨S128x1, .i32⟩
  | 34 => ⟨S128x1, .i32⟩
  | 35 => ⟨S128x640, .i32⟩
  | 36 => ⟨S128x640, .i32⟩
  | 37 => ⟨S128x640, .i1⟩
  | 38 => ⟨S128x640, .i1⟩
  | 39 => ⟨S_, .f32⟩
  | 40 => ⟨S_, .f32⟩
  | 41 => ⟨S8x128x640, .i1⟩
  | 42 => ⟨S8x128x640, .f32⟩
  | 43 => ⟨S8x128x640, .f32⟩
  | 44 => ⟨S2x4096x512, .f32⟩
  | 45 => ⟨S1x512, .f32⟩
  | 46 => ⟨S2x4096x512, .bf16⟩
  | 47 => ⟨S2x4096x512, .bf16⟩
  | 48 => ⟨S2x4096x512, .bf16⟩
  | 49 => ⟨S2x32x1x512, .f32⟩
  | 50 => ⟨S8x128x256, .f32⟩
  | _ => ⟨S2x4096x3072, .bf16⟩

abbrev hbmTy (i : Nat) : BufTy := match i / 128 with
  | 0 => hbmTy0_0 i
  | 1 => hbmTy0_1 i
  | _ => ⟨S2x4096x3072, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x4608x512, .bf16⟩
  | .local _ .vmem, ⟨3, _⟩ => ⟨S1x4608x512, .bf16⟩
  | .local _ .vmem, ⟨4, _⟩ => ⟨S8x128x640, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x512, .f32⟩
  | .local _ .vmem, ⟨10, _⟩ => ⟨S1x128x512, .bf16⟩
  | .local _ .vmem, ⟨11, _⟩ => ⟨S1x128x512, .bf16⟩
  | .local _ .vmem, ⟨12, _⟩ => ⟨S1x4096x512, .bf16⟩
  | .local _ .vmem, ⟨13, _⟩ => ⟨S1x4096x512, .bf16⟩
  | .local _ .vmem, ⟨14, _⟩ => ⟨S1x1x1x512, .f32⟩
  | .local _ .vmem, ⟨15, _⟩ => ⟨S1x1x1x512, .f32⟩
  | .local _ .vmem, ⟨16, _⟩ => ⟨S8x128x256, .f32⟩
  | .local _ .vmem, ⟨17, _⟩ => ⟨S4608x512, .f32⟩
  | .local _ .vmem, ⟨18, _⟩ => ⟨S4608x512, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_call2_v0 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_c_13 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_c_18 : Ref sig .tc := ⟨.hbm, 103, rfl⟩
abbrev main_c_19 : Ref sig .tc := ⟨.hbm, 104, rfl⟩
abbrev main_call6_v0 : Ref sig .tc := ⟨.hbm, 105, rfl⟩
abbrev main_call6_v1 : Ref sig .tc := ⟨.hbm, 106, rfl⟩
abbrev main_call6_v2 : Ref sig .tc := ⟨.hbm, 107, rfl⟩
abbrev main_call6_v3 : Ref sig .tc := ⟨.hbm, 108, rfl⟩
abbrev main_call6_v4 : Ref sig .tc := ⟨.hbm, 109, rfl⟩
abbrev main_v69 : Ref sig .tc := ⟨.hbm, 110, rfl⟩
abbrev main_c_20 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_21 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_v5 : Ref sig .tc := ⟨.hbm, 137, rfl⟩
abbrev main_call7_v6 : Ref sig .tc := ⟨.hbm, 138, rfl⟩
abbrev main_call7_v7 : Ref sig .tc := ⟨.hbm, 139, rfl⟩
abbrev main_call7_v8 : Ref sig .tc := ⟨.hbm, 140, rfl⟩
abbrev main_call7_c : Ref sig .tc := ⟨.hbm, 141, rfl⟩
abbrev main_call7_v9 : Ref sig .tc := ⟨.hbm, 142, rfl⟩
abbrev main_call7_v10 : Ref sig .tc := ⟨.hbm, 143, rfl⟩
abbrev main_call7_v11 : Ref sig .tc := ⟨.hbm, 144, rfl⟩
abbrev main_call7_c_0 : Ref sig .tc := ⟨.hbm, 145, rfl⟩
abbrev main_call7_v12 : Ref sig .tc := ⟨.hbm, 146, rfl⟩
abbrev main_call7_v13 : Ref sig .tc := ⟨.hbm, 147, rfl⟩
abbrev main_v89 : Ref sig .tc := ⟨.hbm, 148, rfl⟩
abbrev main_c_22 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_23 : Ref sig .tc := ⟨.hbm, 157, rfl⟩
abbrev main_v97 : Ref sig .tc := ⟨.hbm, 158, rfl⟩
abbrev main_v98 : Ref sig .tc := ⟨.hbm, 159, rfl⟩
abbrev main_c_24 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_25 : Ref sig .tc := ⟨.hbm, 167, rfl⟩
abbrev main_call8_v0 : Ref sig .tc := ⟨.hbm, 168, rfl⟩
abbrev main_call8_v1 : Ref sig .tc := ⟨.hbm, 169, rfl⟩
abbrev main_call8_v2 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108_0 : Ref sig .tc := ⟨.hbm, 174, rfl⟩
abbrev main_v108_1 : Ref sig .tc := ⟨.hbm, 175, rfl⟩
abbrev main_v108_2 : Ref sig .tc := ⟨.hbm, 176, rfl⟩
abbrev main_v108_3 : Ref sig .tc := ⟨.hbm, 177, rfl⟩
abbrev main_v108_4 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨3, ![1, 2, 32], ![false, false, false]⟩

def k0_mult1 (i : grid0.Coords) : BitVec 32 :=
  let arg2 : BitVec 32 := BitVec.ofNat 32 (i 2).val
  let c128_i32 : BitVec 32 := 128#32
  let v8 : BitVec 32 := Scalar.muli arg2 c128_i32
  v8
def k0_off1 (i : grid0.Coords) : Fin 3 → Nat :=
  let c0_32 : Index := 0#32
  let arg2 : BitVec 32 := BitVec.ofNat 32 (i 2).val
  let c128_i32 : BitVec 32 := 128#32
  let v8 : BitVec 32 := Scalar.muli arg2 c128_i32
  let v9 : BitVec 32 := v8
  let v84 : Index := Scalar.indexCast v9
  let c0_33 : Index := 0#32
  ![0, v84.toNat, 0]
def k0_off2 (i : grid0.Coords) : Fin 3 → Nat :=
  let c0_65 : Index := 0#32
  let arg2 : BitVec 32 := BitVec.ofNat 32 (i 2).val
  let c128_i32 : BitVec 32 := 128#32
  let v8 : BitVec 32 := Scalar.muli arg2 c128_i32
  let v9 : BitVec 32 := v8
  let v156 : Index := Scalar.indexCast v9
  let c128_66 : Index := 128#32
  ![0, v156.toNat, 128]
def k0_off3 (i : grid0.Coords) : Fin 3 → Nat :=
  let c0_98 : Index := 0#32
  let arg2 : BitVec 32 := BitVec.ofNat 32 (i 2).val
  let c128_i32 : BitVec 32 := 128#32
  let v8 : BitVec 32 := Scalar.muli arg2 c128_i32
  let v9 : BitVec 32 := v8
  let v228 : Index := Scalar.indexCast v9
  let c256_99 : Index := 256#32
  ![0, v228.toNat, 256]
def k0_off4 (i : grid0.Coords) : Fin 3 → Nat :=
  let c0_131 : Index := 0#32
  let arg2 : BitVec 32 := BitVec.ofNat 32 (i 2).val
  let c128_i32 : BitVec 32 := 128#32
  let v8 : BitVec 32 := Scalar.muli arg2 c128_i32
  let v9 : BitVec 32 := v8
  let v300 : Index := Scalar.indexCast v9
  let c384_132 : Index := 384#32
  ![0, v300.toNat, 384]
def k0_off5 (i : grid0.Coords) : Fin 2 → Nat :=
  let arg2 : BitVec 32 := BitVec.ofNat 32 (i 2).val
  let c128_i32 : BitVec 32 := 128#32
  let v8 : BitVec 32 := Scalar.muli arg2 c128_i32
  let v9 : BitVec 32 := v8
  let v442 : Index := Scalar.indexCast v9
  let c0_200 : Index := 0#32
  ![v442.toNat, 0]
def k0_off6 (i : grid0.Coords) : Fin 2 → Nat :=
  let arg2 : BitVec 32 := BitVec.ofNat 32 (i 2).val
  let c128_i32 : BitVec 32 := 128#32
  let v8 : BitVec 32 := Scalar.muli arg2 c128_i32
  let v9 : BitVec 32 := v8
  let v462 : Index := Scalar.indexCast v9
  let c128_208 : Index := 128#32
  ![v462.toNat, 128]
def k0_off7 (i : grid0.Coords) : Fin 2 → Nat :=
  let arg2 : BitVec 32 := BitVec.ofNat 32 (i 2).val
  let c128_i32 : BitVec 32 := 128#32
  let v8 : BitVec 32 := Scalar.muli arg2 c128_i32
  let v9 : BitVec 32 := v8
  let v618 : Index := Scalar.indexCast v9
  let c256_280 : Index := 256#32
  ![v618.toNat, 256]
def k0_off8 (i : grid0.Coords) : Fin 2 → Nat :=
  let arg2 : BitVec 32 := BitVec.ofNat 32 (i 2).val
  let c128_i32 : BitVec 32 := 128#32
  let v8 : BitVec 32 := Scalar.muli arg2 c128_i32
  let v9 : BitVec 32 := v8
  let v638 : Index := Scalar.indexCast v9
  let c384_288 : Index := 384#32
  ![v638.toNat, 384]
def k0_cond3 (i : grid0.Coords) : BitVec 1 :=
  let arg2 : BitVec 32 := BitVec.ofNat 32 (i 2).val
  let c31_i32 : BitVec 32 := 31#32
  let v686 : BitVec 1 := Scalar.cmpi .eq arg2 c31_i32
  let v687 : BitVec 32 := Scalar.extui v686
  let c0_i32_312 : BitVec 32 := 0#32
  let v688 : BitVec 1 := Scalar.cmpi .ne v687 c0_i32_312
  v688

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c3_i32 : BitVec 32 := 3#32
  let v1 : BitVec 32 := Scalar.addi c3_i32 arg0
  let c0_i32 : BitVec 32 := 0#32
  ![arg1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg1.toNat, arg2.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4608x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x4608x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S1x4096x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, false]

abbrev stage0_9 : Fin 1 → Memref sig .tc .vmem S1x4096x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true, false]

abbrev stage0_10 : Fin 2 → Memref sig .tc .vmem S1x1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 1 → Memref sig .tc .vmem S8x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S2x4096x3072 : Shape := ⟨3, ![2, 4096, 3072]⟩
abbrev S8x257 : Shape := ⟨2, ![8, 257]⟩
abbrev S512 : Shape := ⟨1, ![512]⟩
abbrev S2x4096x1024 : Shape := ⟨3, ![2, 4096, 1024]⟩
abbrev S2x4096x512 : Shape := ⟨3, ![2, 4096, 512]⟩
abbrev S2x4096x8x64 : Shape := ⟨4, ![2, 4096, 8, 64]⟩
abbrev S4096x4096 : Shape := ⟨2, ![4096, 4096]⟩
abbrev S_ : Shape := ⟨0, ![]⟩
abbrev S4096x4096x1 : Shape := ⟨3, ![4096, 4096, 1]⟩
abbrev S8x4096x4096 : Shape := ⟨3, ![8, 4096, 4096]⟩
abbrev S2x8x4096x4096 : Shape := ⟨4, ![2, 8, 4096, 4096]⟩
abbrev S1x8x4096x4096 : Shape := ⟨4, ![1, 8, 4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x4096x8 : Shape := ⟨3, ![2, 4096, 8]⟩
abbrev S2x4096x8x1 : Shape := ⟨4, ![2, 4096, 8, 1]⟩
abbrev S1x1x512 : Shape := ⟨3, ![1, 1, 512]⟩
abbrev S2x8x4096x64 : Shape := ⟨4, ![2, 8, 4096, 64]⟩

abbrev nBuf : Space → Nat
  | .hbm => 149
  | .vmem => 0
  | .smem => 0
  | _ => 0

abbrev hbmTy0_0 (i : Nat) : BufTy := match i % 128 with
  | 0 => ⟨S2x4096x3072, .bf16⟩
  | 1 => ⟨S8x257, .f32⟩
  | 2 => ⟨S512, .f32⟩
  | 3 => ⟨S2x4096x1024, .f32⟩
  | 4 => ⟨S2x4096x512, .bf16⟩
  | 5 => ⟨S2x4096x512, .bf16⟩
  | 6 => ⟨S2x4096x512, .bf16⟩
  | 7 => ⟨S2x4096x512, .bf16⟩
  | 8 => ⟨S2x4096x512, .bf16⟩
  | 9 => ⟨S2x4096x512, .bf16⟩
  | 10 => ⟨S2x4096x512, .f32⟩
  | 11 => ⟨S2x4096x8x64, .f32⟩
  | 12 => ⟨S2x4096x512, .f32⟩
  | 13 => ⟨S2x4096x8x64, .f32⟩
  | 14 => ⟨S2x4096x512, .f32⟩
  | 15 => ⟨S2x4096x8x64, .f32⟩
  | 16 => ⟨S4096x4096, .i32⟩
  | 17 => ⟨S4096x4096, .i32⟩
  | 18 => ⟨S4096x4096, .i32⟩
  | 19 => ⟨S_, .i32⟩
  | 20 => ⟨S4096x4096, .i32⟩
  | 21 => ⟨S4096x4096, .i32⟩
  | 22 => ⟨S_, .i32⟩
  | 23 => ⟨S4096x4096, .i32⟩
  | 24 => ⟨S4096x4096, .i32⟩
  | 25 => ⟨S_, .i32⟩
  | 26 => ⟨S4096x4096, .i32⟩
  | 27 => ⟨S4096x4096, .i32⟩
  | 28 => ⟨S4096x4096x1, .i32⟩
  | 29 => ⟨S8x4096x4096, .f32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S2x8x4096x4096, .f32⟩
  | 37 => ⟨S_, .f32⟩
  | 38 => ⟨S2x8x4096x4096, .f32⟩
  | 39 => ⟨S2x8x4096x4096, .f32⟩
  | 40 => ⟨S1x8x4096x4096, .f32⟩
  | 41 => ⟨S2x8x4096x4096, .f32⟩
  | 42 => ⟨S2x8x4096x4096, .f32⟩
  | 43 => ⟨S4096x4096, .i1⟩
  | 44 => ⟨S_, .i32⟩
  | 45 => ⟨S4096x4096, .i32⟩
  | 46 => ⟨S4096x4096, .i32⟩
  | 47 => ⟨S4096x4096, .i1⟩
  | 48 => ⟨S4096x4096, .i1⟩
  | 49 => ⟨S_, .f32⟩
  | 50 => ⟨S_, .f32⟩
  | 51 => ⟨S2x8x4096x4096, .i1⟩
  | 52 => ⟨S2x8x4096x4096, .f32⟩
  | 53 => ⟨S2x8x4096x4096, .f32⟩
  | 54 => ⟨S_, .f32⟩
  | 55 => ⟨S2x8x4096x4096, .f32⟩
  | 56 => ⟨S_, .f32⟩
  | 57 => ⟨S2x8x4096, .f32⟩
  | 58 => ⟨S2x8x4096x1, .f32⟩
  | 59 => ⟨S2x8x4096x4096, .f32⟩
  | 60 => ⟨S2x8x4096x4096, .f32⟩
  | 61 => ⟨S2x8x4096x4096, .f32⟩
  | 62 => ⟨S_, .f32⟩
  | 63 => ⟨S2x8x4096, .f32⟩
  | 64 => ⟨S2x8x4096x1, .f32⟩
  | 65 => ⟨S2x8x4096x4096, .f32⟩
  | 66 => ⟨S2x8x4096x4096, .f32⟩
  | 67 => ⟨S2x8x4096x1, .f32⟩
  | 68 => ⟨S_, .f32⟩
  | 69 => ⟨S2x8x4096x1, .f32⟩
  | 70 => ⟨S2x8x4096x1, .f32⟩
  | 71 => ⟨S2x8x64x4096, .f32⟩
  | 72 => ⟨S2x4096x8x64, .f32⟩
  | 73 => ⟨S2x4096x8x64, .f32⟩
  | 74 => ⟨S_, .f32⟩
  | 75 => ⟨S2x4096x8, .f32⟩
  | 76 => ⟨S2x4096x8x1, .f32⟩
  | 77 => ⟨S_, .f32⟩
  | 78 => ⟨S2x4096x8x1, .f32⟩
  | 79 => ⟨S2x4096x8x1, .f32⟩
  | 80 => ⟨S_, .f32⟩
  | 81 => ⟨S2x4096x8x1, .f32⟩
  | 82 => ⟨S2x4096x8x1, .f32⟩
  | 83 => ⟨S2x4096x8x1, .f32⟩
  | 84 => ⟨S2x4096x8x1, .f32⟩
  | 85 => ⟨S_, .f32⟩
  | 86 => ⟨S2x4096x8x1, .f32⟩
  | 87 => ⟨S2x4096x8x1, .f32⟩
  | 88 => ⟨S2x4096x8x64, .f32⟩
  | 89 => ⟨S2x4096x8x64, .f32⟩
  | 90 => ⟨S2x4096x512, .f32⟩
  | 91 => ⟨S1x1x512, .f32⟩
  | 92 => ⟨S2x4096x512, .f32⟩
  | 93 => ⟨S2x4096x512, .f32⟩
  | 94 => ⟨S2x4096x512, .f32⟩
  | 95 => ⟨S2x4096x512, .f32⟩
  | 96 => ⟨S2x4096x512, .f32⟩
  | 97 => ⟨S2x4096x8x64, .f32⟩
  | 98 => ⟨S2x4096x8x64, .f32⟩
  | 99 => ⟨S_, .f32⟩
  | 100 => ⟨S2x4096x8, .f32⟩
  | 101 => ⟨S2x4096x8x1, .f32⟩
  | 102 => ⟨S2x4096x8x64, .f32⟩
  | 103 => ⟨S2x4096x8x64, .f32⟩
  | 104 => ⟨S2x4096x8x1, .f32⟩
  | 105 => ⟨S_, .f32⟩
  | 106 => ⟨S2x4096x8x1, .f32⟩
  | 107 => ⟨S2x4096x8x1, .f32⟩
  | 108 => ⟨S_, .f32⟩
  | 109 => ⟨S2x4096x8, .f32⟩
  | 110 => ⟨S2x4096x8x64, .f32⟩
  | 111 => ⟨S2x4096x8x64, .f32⟩
  | 112 => ⟨S2x4096x8x64, .f32⟩
  | 113 => ⟨S2x4096x8x64, .f32⟩
  | 114 => ⟨S2x4096x8x64, .f32⟩
  | 115 => ⟨S2x8x64x4096, .f32⟩
  | 116 => ⟨S2x8x4096x4096, .f32⟩
  | 117 => ⟨S2x8x64x4096, .f32⟩
  | 118 => ⟨S2x4096x8x64, .f32⟩
  | 119 => ⟨S2x8x4096x4096, .f32⟩
  | 120 => ⟨S2x8x4096x4096, .f32⟩
  | 121 => ⟨S2x8x4096x4096, .f32⟩
  | 122 => ⟨S_, .f32⟩
  | 123 => ⟨S2x8x4096, .f32⟩
  | 124 => ⟨S2x8x4096x1, .f32⟩
  | 125 => ⟨S2x8x4096x1, .f32⟩
  | 126 => ⟨S2x8x4096x4096, .f32⟩
  | 127 => ⟨S2x8x4096x4096, .f32⟩
  | _ => ⟨S2x4096x3072, .bf16⟩

abbrev hbmTy0_1 (i : Nat) : BufTy := match i % 128 with
  | 0 => ⟨S_, .f32⟩
  | 1 => ⟨S2x8x4096, .f32⟩
  | 2 => ⟨S2x8x4096x4096, .f32⟩
  | 3 => ⟨S2x8x4096x4096, .f32⟩
  | 4 => ⟨S2x8x4096x4096, .f32⟩
  | 5 => ⟨S_, .f32⟩
  | 6 => ⟨S2x8x4096x4096, .f32⟩
  | 7 => ⟨S2x8x4096x4096, .f32⟩
  | 8 => ⟨S_, .f32⟩
  | 9 => ⟨S2x8x4096x4096, .f32⟩
  | 10 => ⟨S2x8x4096x4096, .f32⟩
  | 11 => ⟨S2x8x4096x64, .f32⟩
  | 12 => ⟨S2x4096x8x64, .f32⟩
  | 13 => ⟨S2x8x4096x64, .f32⟩
  | 14 => ⟨S2x4096x8x64, .f32⟩
  | 15 => ⟨S2x4096x512, .f32⟩
  | 16 => ⟨S2x4096x512, .bf16⟩
  | 17 => ⟨S2x4096x512, .f32⟩
  | 18 => ⟨S2x4096x512, .bf16⟩
  | 19 => ⟨S2x4096x512, .f32⟩
  | 20 => ⟨S2x4096x512, .bf16⟩
  | _ => ⟨S2x4096x3072, .bf16⟩

abbrev hbmTy (i : Nat) : BufTy := match i / 128 with
  | 0 => hbmTy0_0 i
  | 1 => hbmTy0_1 i
  | _ => ⟨S2x4096x3072, .bf16⟩

abbrev bufTy : (tb : Table) → Fin (tcTables nBuf tb) → BufTy
  | .hbm, ⟨i, _⟩ => hbmTy i
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_call1_v0 : Ref sig .tc := ⟨.hbm, 50, rfl⟩
abbrev main_v37_1 : Ref sig .tc := ⟨.hbm, 51, rfl⟩
abbrev main_call1_v2 : Ref sig .tc := ⟨.hbm, 52, rfl⟩
abbrev main_v37_0 : Ref sig .tc := ⟨.hbm, 53, rfl⟩
abbrev main_call1_cst : Ref sig .tc := ⟨.hbm, 54, rfl⟩
abbrev main_v37_2 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_16 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_17 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_call2_cst : Ref sig .tc := ⟨.hbm, 133, rfl⟩
abbrev main_call2_v0 : Ref sig .tc := ⟨.hbm, 134, rfl⟩
abbrev main_v103 : Ref sig .tc := ⟨.hbm, 135, rfl⟩
abbrev main_cst_18 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S3x2816x1024 : Shape := ⟨3, ![3, 2816, 1024]⟩
abbrev S512x2816 : Shape := ⟨2, ![512, 2816]⟩
abbrev S512x1024 : Shape := ⟨2, ![512, 1024]⟩
abbrev S1x2816x1024 : Shape := ⟨3, ![1, 2816, 1024]⟩
abbrev S2816x1024 : Shape := ⟨2, ![2816, 1024]⟩
abbrev S256x1024 : Shape := ⟨2, ![256, 1024]⟩
abbrev S512x256 : Shape := ⟨2, ![512, 256]⟩

abbrev nBuf : Space → Nat
  | .hbm => 6
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x1024, .bf16⟩
  | .hbm, ⟨4, _⟩ => ⟨S8192x1024, .bf16⟩
  | .hbm, ⟨5, _⟩ => ⟨S3x2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x2816x1024, .bf16⟩
  | .local _ .vmem, ⟨11, _⟩ => ⟨S1x2816x1024, .bf16⟩
  | .local _ .vmem, ⟨12, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 16], ![false, false]⟩

def k0_cond5 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c15_i32 : BitVec 32 := 15#32
  let v2 : BitVec 32 := Scalar.select v1 c15_i32 arg1
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c15_i32 : BitVec 32 := 15#32
  let v2 : BitVec 32 := Scalar.select v1 c15_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .sgt arg0 c2_i32_0
  let c15_i32 : BitVec 32 := 15#32
  let v2 : BitVec 32 := Scalar.select v1 c15_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c1_i32 : BitVec 32 := 1#32
  let v1 : BitVec 1 := Scalar.cmpi .sgt arg0 c1_i32
  let c15_i32 : BitVec 32 := 15#32
  let v2 : BitVec 32 := Scalar.select v1 c15_i32 arg1
  let c0_i32_0 : BitVec 32 := 0#32
  let v3 : BitVec 32 := Scalar.select v0 c0_i32_0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .sgt arg0 c2_i32_0
  let c15_i32 : BitVec 32 := 15#32
  let v2 : BitVec 32 := Scalar.select v1 c15_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2816x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x1024, .bf16⟩
  | .hbm, ⟨4, _⟩ => ⟨S8192x1024, .bf16⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S1024x2816, .f32⟩
  | .hbm, ⟨12, _⟩ => ⟨S8192x2816, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S_, .f32⟩
  | .hbm, ⟨17, _⟩ => ⟨S1024x2816, .f32⟩
  | .hbm, ⟨18, _⟩ => ⟨S8192x2816, .f32⟩
  | .hbm, ⟨19, _⟩ => ⟨S2816x1024, .f32⟩
  | .hbm, ⟨20, _⟩ => ⟨S1024x2816, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S8192x1024, .f32⟩
  | .hbm, ⟨25, _⟩ => ⟨S1024x2816, .f32⟩
  | .hbm, ⟨26, _⟩ => ⟨S2816x1024, .f32⟩
  | .hbm, ⟨27, _⟩ => ⟨S1x2816x1024, .f32⟩
  | .hbm, ⟨28, _⟩ => ⟨S1x2816x1024, .f32⟩
  | .hbm, ⟨29, _⟩ => ⟨S1x2816x1024, .f32⟩
  | .hbm, ⟨30, _⟩ => ⟨S3x2816x1024, .f32⟩
  | .hbm, ⟨31, _⟩ => ⟨S3x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel3.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x1024, .f32⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x1024, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8x1024, .f32⟩
  | .hbm, ⟨10, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩

abbrev nBuf : Space → Nat
  | .hbm => 86
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x2816, .f32⟩
  | .hbm, ⟨8, _⟩ => ⟨S8192x2816, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x2816, .f32⟩
  | .hbm, ⟨39, _⟩ => ⟨S8192x2816, .f32⟩
  | .hbm, ⟨40, _⟩ => ⟨S1024x2816, .f32⟩
  | .hbm, ⟨41, _⟩ => ⟨S8192x2816, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | .hbm, ⟨33, _⟩ => ⟨S8192x2816, .bf16⟩
  | .hbm, ⟨34, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel7.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S8x1024 : Shape := ⟨2, ![8, 1024]⟩
abbrev S512x512 : Shape := ⟨2, ![512, 512]⟩
abbrev S512 : Shape := ⟨1, ![512]⟩
abbrev S512x1 : Shape := ⟨2, ![512, 1]⟩
abbrev S64x8x1024 : Shape := ⟨3, ![64, 8, 1024]⟩

abbrev nBuf : Space → Nat
  | .hbm => 19
  | .vmem => 29
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .bf16⟩
  | .hbm, ⟨17, _⟩ => ⟨S8x1024, .f32⟩
  | .hbm, ⟨18, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S8x1024, .f32⟩
  | .local _ .vmem, ⟨28, _⟩ => ⟨S8x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference7Ideal.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x512 : Shape := ⟨2, ![1024, 512]⟩

abbrev nBuf : Space → Nat
  | .hbm => 124
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024x512, .f32⟩
  | .hbm, ⟨55, _⟩ => ⟨S8192x512, .f32⟩
  | .hbm, ⟨56, _⟩ => ⟨S1024x512, .f32⟩
  | .hbm, ⟨57, _⟩ => ⟨S8192x512, .f32⟩
  | .hbm, ⟨58, _⟩ => ⟨S1024x512, .f32⟩
  | .hbm, ⟨59, _⟩ => ⟨S8192x512, .f32⟩
  | .hbm, ⟨60, _⟩ => ⟨S1024x512, .f32⟩
  | .hbm, ⟨61, _⟩ => ⟨S8192x512, .f32⟩
  | .hbm, ⟨62, _⟩ => ⟨S1024x512, .f32⟩
  | .hbm, ⟨63, _⟩ => ⟨S8192x512, .f32⟩
  | .hbm, ⟨64, _⟩ => ⟨S1024x512, .f32⟩
  | .hbm, ⟨65, _⟩ => ⟨S8192x512, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192, .f32⟩
  | .hbm, ⟨106, _⟩ => ⟨S8192x1024, .f32⟩
  | .hbm, ⟨107, _⟩ => ⟨S8192x1024, .f32⟩
  | .hbm, ⟨108, _⟩ => ⟨S_, .f32⟩
  | .hbm, ⟨109, _⟩ => ⟨S8192x1024, .f32⟩
  | .hbm, ⟨110, _⟩ => ⟨S_, .f32⟩
  | .hbm, ⟨111, _⟩ => ⟨S8192x1024, .f32⟩
  | .hbm, ⟨112, _⟩ => ⟨S8192x1024, .f32⟩
  | .hbm, ⟨113, _⟩ => ⟨S_, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S_, .f32⟩
  | .hbm, ⟨118, _⟩ => ⟨S8192x1024, .f32⟩
  | .hbm, ⟨119, _⟩ => ⟨S8192x1024, .f32⟩
  | .hbm, ⟨120, _⟩ => ⟨S_, .f32⟩
  | .hbm, ⟨121, _⟩ => ⟨S8192x1024, .f32⟩
  | .hbm, ⟨122, _⟩ => ⟨S8192x1024, .f32⟩
  | .hbm, ⟨123, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_8 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_14 : Ref sig .tc := ⟨.hbm, 117, rfl⟩
abbrev main_v87 : Ref sig .tc := ⟨.hbm, 118, rfl⟩
abbrev main_v88 : Ref sig .tc := ⟨.hbm, 119, rfl⟩
abbrev main_cst_15 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩
abbrev S2816x512 : Shape := ⟨2, ![2816, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S2816x1024, .f32⟩
  | .hbm, ⟨9, _⟩ => ⟨S_, .f32⟩
  | .hbm, ⟨10, _⟩ => ⟨S8192x1024, .f32⟩
  | .hbm, ⟨11, _⟩ => ⟨S1024x2816, .f32⟩
  | .hbm, ⟨12, _⟩ => ⟨S8192x2816, .f32⟩
  | .hbm, ⟨13, _⟩ => ⟨S1024x2816, .f32⟩
  | .hbm, ⟨14, _⟩ => ⟨S8192x2816, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S3072x1024 : Shape := ⟨2, ![3072, 1024]⟩
abbrev S2x4608x3072 : Shape := ⟨3, ![2, 4608, 3072]⟩
abbrev S512x1024 : Shape := ⟨2, ![512, 1024]⟩
abbrev S1x512x3072 : Shape := ⟨3, ![1, 512, 3072]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S2x4608x3072, .bf16⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S1x512x3072, .bf16⟩
  | .local _ .vmem, ⟨4, _⟩ => ⟨S1x512x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩
abbrev S2x4096x3072 : Shape := ⟨3, ![2, 4096, 3072]⟩
abbrev S_ : Shape := ⟨0, ![]⟩
abbrev S2x512x3072 : Shape := ⟨3, ![2, 512, 3072]⟩
abbrev S2x4608x3072 : Shape := ⟨3, ![2, 4608, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S1024x3072, .f32⟩
  | .hbm, ⟨5, _⟩ => ⟨S8192x3072, .f32⟩
  | .hbm, ⟨6, _⟩ => ⟨S8192x3072, .bf16⟩
  | .hbm, ⟨7, _⟩ => ⟨S2x4096x3072, .bf16⟩
  | .hbm, ⟨8, _⟩ => ⟨S_, .bf16⟩
  | .hbm, ⟨9, _⟩ => ⟨S2x512x3072, .bf16⟩
  | .hbm, ⟨10, _⟩ => ⟨S2x4608x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x512, .f32⟩
  | .hbm, ⟨8, _⟩ => ⟨S8192x512, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Proof.Ideal.Conds.lean ====
/- The three branches of the body (first block of rows, first block of the first batch, last block of rows) in closed form over
   the grid points, where the outputs of the last branch are idle, and the memrefs the body runs on. -/
module

public import proofs.«01_k».proof.Proof.Gen.KernelIdeal.Frame
public import proofs.«01_k».proof.Proof.Gen.KernelIdeal.Skeleton

@[expose] public section

-- membership in a rectangle of long axes is decided once per coordinate
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 32 = 0 :=
  (fun t => by
    have ht : t.val < 64 := Nat.lt_of_lt_of_eq t.isLt N_0
    have e0 : (grid0.coords t 0).val = t.val / 64 % 1 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_0, e0, e1, e2]
    word_cmp
   : ∀ t : Fin grid0.N, cond0_0 (grid0.coords t) ↔ t.val % 32 = 0)

abbrev cond0_1 (i : grid0.Coords) : Prop := (Scalar.cmpi .ne (Scalar.extui (Scalar.andi (Scalar.cmpi .eq (BitVec.ofNat 32 (i 2).val) 0#32) (Scalar.cmpi .eq (BitVec.ofNat 32 (i 1).val) 0#32))) 0#32) = 1#1
theorem hcond0_1 : ∀ t : Fin cfg0.N, cond0_1 (grid0.coords t) ↔ t.val % 64 = 0 :=
  (fun t => by
    have ht : t.val < 64 := Nat.lt_of_lt_of_eq t.isLt N_0
    have e0 : (grid0.coords t 0).val = t.val / 64 % 1 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_1, e0, e1, e2]
    word_cmp
   : ∀ t : Fin grid0.N, cond0_1 (grid0.coords t) ↔ t.val % 64 = 0)

abbrev cond0_2 (i : grid0.Coords) : Prop := k0_cond3 i = 1#1
theorem hcond0_2 : ∀ t : Fin cfg0.N, cond0_2 (grid0.coords t) ↔ t.val % 32 = 31 :=
  (fun t => by
    have ht : t.val < 64 := Nat.lt_of_lt_of_eq t.isLt N_0
    have e0 : (grid0.coords t 0).val = t.val / 64 % 1 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_2, k0_cond3, e0, e1, e2]
    word_cmp
   : ∀ t : Fin grid0.N, cond0_2 (grid0.coords t) ↔ t.val % 32 = 31)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem idleAt0_8_A : ∀ t : Fin cfg0.N, cond0_0 (grid0.coords t) → cond0_1 (grid0.coords t) → ¬cond0_2 (grid0.coords t) → cfg0.idle 8 (grid0.coords t) = true := by decide +kernel
theorem noFlush0_8_A : ∀ t : Fin cfg0.N, cond0_0 (grid0.coords t) → cond0_1 (grid0.coords t) → ¬cond0_2 (grid0.coords t) → (cfg0.win 8).flush t = false := by decide +kernel
theorem idleAt0_8_B : ∀ t : Fin cfg0.N, ¬cond0_0 (grid0.coords t) → ¬cond0_1 (grid0.coords t) → ¬cond0_2 (grid0.coords t) → cfg0.idle 8 (grid0.coords t) = true := by decide +kernel
theorem noFlush0_8_B : ∀ t : Fin cfg0.N, ¬cond0_0 (grid0.coords t) → ¬cond0_1 (grid0.coords t) → ¬cond0_2 (grid0.coords t) → (cfg0.win 8).flush t = false := by decide +kernel
theorem liveAt0_8_C : ∀ t : Fin cfg0.N, ¬cond0_0 (grid0.coords t) → ¬cond0_1 (grid0.coords t) → cond0_2 (grid0.coords t) → cfg0.idle 8 (grid0.coords t) = false := by decide +kernel
theorem idleAt0_8_D : ∀ t : Fin cfg0.N, cond0_0 (grid0.coords t) → ¬cond0_1 (grid0.coords t) → ¬cond0_2 (grid0.coords t) → cfg0.idle 8 (grid0.coords t) = true := by decide +kernel
theorem noFlush0_8_D : ∀ t : Fin cfg0.N, cond0_0 (grid0.coords t) → ¬cond0_1 (grid0.coords t) → ¬cond0_2 (grid0.coords t) → (cfg0.win 8).flush t = false := by decide +kernel
theorem idleAt0_9_A : ∀ t : Fin cfg0.N, cond0_0 (grid0.coords t) → cond0_1 (grid0.coords t) → ¬cond0_2 (grid0.coords t) → cfg0.idle 9 (grid0.coords t) = true := by decide +kernel
theorem noFlush0_9_A : ∀ t : Fin cfg0.N, cond0_0 (grid0.coords t) → cond0_1 (grid0.coords t) → ¬cond0_2 (grid0.coords t) → (cfg0.win 9).flush t = false := by decide +kernel
theorem idleAt0_9_B : ∀ t : Fin cfg0.N, ¬cond0_0 (grid0.coords t) → ¬cond0_1 (grid0.coords t) → ¬cond0_2 (grid0.coords t) → cfg0.idle 9 (grid0.coords t) = true := by decide +kernel
theorem noFlush0_9_B : ∀ t : Fin cfg0.N, ¬cond0_0 (grid0.coords t) → ¬cond0_1 (grid0.coords t) → ¬cond0_2 (grid0.coords t) → (cfg0.win 9).flush t = false := by decide +kernel
theorem liveAt0_9_C : ∀ t : Fin cfg0.N, ¬cond0_0 (grid0.coords t) → ¬cond0_1 (grid0.coords t) → cond0_2 (grid0.coords t) → cfg0.idle 9 (grid0.coords t) = false := by decide +kernel
theorem idleAt0_9_D : ∀ t : Fin cfg0.N, cond0_0 (grid0.coords t) → ¬cond0_1 (grid0.coords t) → ¬cond0_2 (grid0.coords t) → cfg0.idle 9 (grid0.coords t) = true := by decide +kernel
theorem noFlush0_9_D : ∀ t : Fin cfg0.N, cond0_0 (grid0.coords t) → ¬cond0_1 (grid0.coords t) → ¬cond0_2 (grid0.coords t) → (cfg0.win 9).flush t = false := by decide +kernel

/-! ## The staging buffers: whole memrefs, and the view each output is read through -/

abbrev VO0_7 : View sig .tc .vmem S1x128x512 .bf16 := (Memref.whole cc0_stg7_0 : Memref sig .tc .vmem S1x128x512 .bf16).view
abbrev VO0_8 : View sig .tc .vmem S1x4096x512 .bf16 := (Memref.whole cc0_stg8_0 : Memref sig .tc .vmem S1x4096x512 .bf16).view
abbrev VO0_9 : View sig .tc .vmem S1x4096x512 .bf16 := (Memref.whole cc0_stg9_0 : Memref sig .tc .vmem S1x4096x512 .bf16).view
abbrev VO0_10 : View sig .tc .vmem S1x1x1x512 .f32 := (Memref.whole cc0_stg10_0 : Memref sig .tc .vmem S1x1x1x512 .f32).view
abbrev VO0_11 : View sig .tc .vmem S8x128x256 .f32 := (Memref.whole cc0_stg11_0 : Memref sig .tc .vmem S8x128x256 .f32).view
abbrev ms0_0 (t : Fin cfg0.N) : Memref sig .tc .vmem S1x128x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4608x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4608x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4096x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128x256 .f32 := win0_11.stage (cfg0.slots t 11)
abbrev hs0_11 (t : Fin cfg0.N) : (ms0_11 t).IsWhole := hstage0_11 ((cfg0.slots t 11).cast nbuf0_11)
abbrev scM0_0 : Memref sig .tc .vmem S4608x512 .f32 := Memref.whole cc0_scratch0
abbrev scM0_1 : Memref sig .tc .vmem S4608x512 .f32 := Memref.whole cc0_scratch1
abbrev VS0_0 : View sig .tc .vmem S4608x512 .f32 := scM0_0.view
abbrev VS0_1 : View sig .tc .vmem S4608x512 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Bwd

end
-- ==== Proof.Ideal.RunA.lean ====
/- The body at the first point: its triple, with the pieces its stores leave in every buffer as the witness. -/
module

public import proofs.«01_k».proof.Proof.Ideal.Conds

@[expose] public section

-- membership in a rectangle of long axes is decided once per coordinate
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1020000 in
noncomputable def kernelRun0_A (c : Dev nD) (i : grid0.Coords) (arg3 : Memref sig .tc .vmem S1x128x512 .bf16) (harg3 : arg3.IsWhole) (arg4 : Memref sig .tc .vmem S1x4608x512 .bf16) (harg4 : arg4.IsWhole) (arg5 : Memref sig .tc .vmem S1x4608x512 .bf16) (harg5 : arg5.IsWhole) (arg6 : Memref sig .tc .vmem S8x128x640 .f32) (harg6 : arg6.IsWhole) (arg7 : Memref sig .tc .vmem S1x128x512 .f32) (harg7 : arg7.IsWhole) (arg8 : Memref sig .tc .vmem S1x128x512 .f32) (harg8 : arg8.IsWhole) (arg9 : Memref sig .tc .vmem S1x512 .f32) (harg9 : arg9.IsWhole) (arg10 : Memref sig .tc .vmem S1x128x512 .bf16) (harg10 : arg10.IsWhole) (arg11 : Memref sig .tc .vmem S1x4096x512 .bf16) (harg11 : arg11.IsWhole) (arg12 : Memref sig .tc .vmem S1x4096x512 .bf16) (harg12 : arg12.IsWhole) (arg13 : Memref sig .tc .vmem S1x1x1x512 .f32) (harg13 : arg13.IsWhole) (arg14 : Memref sig .tc .vmem S8x128x256 .f32) (harg14 : arg14.IsWhole) (arg15 : Memref sig .tc .vmem S4608x512 .f32) (harg15 : arg15.IsWhole) (arg16 : Memref sig .tc .vmem S4608x512 .f32) (harg16 : arg16.IsWhole) (hc0 : cond0_0 i) (hc1 : cond0_1 i) (hc2 : ¬cond0_2 i)
    (x0 : Vec F S1x128x512 .bf16) (x1 : Vec F S1x4608x512 .bf16) (x2 : Vec F S1x4608x512 .bf16) (x3 : Vec F S8x128x640 .f32) (x4 : Vec F S1x128x512 .f32) (x5 : Vec F S1x128x512 .f32) (x6 : Vec F S1x512 .f32) :
    Σ' (L7 : List (View.Piece (Elt F) S1x128x512 .bf16)), Σ' (L8 : List (View.Piece (Elt F) S1x4096x512 .bf16)), Σ' (L9 : List (View.Piece (Elt F) S1x4096x512 .bf16)), Σ' (L10 : List (View.Piece (Elt F) S1x1x1x512 .f32)), Σ' (L11 : List (View.Piece (Elt F) S8x128x256 .f32)), Σ' (LS0 : List (View.Piece (Elt F) S4608x512 .f32)), { LS1 : List (View.Piece (Elt F) S4608x512 .f32) //
      ∀ (xi8 : Vec F S1x4096x512 .bf16) (xi9 : Vec F S1x4096x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ owns (c : Thread nD τ) arg12 fullShare xi9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xi8 ∗ owns (c : Thread nD τ) arg12 fullShare xi9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_ca_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], ?_, ?_, ?_, ?_, fun xi8 xi9 E K => ?run⟩
  case run =>
    simp only [cc0_ca_bwd_eq_skeleton]; unfold cc0_ca_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]; · iexists _; iexact HS0
    iexists _; iexact HS1

end Cert.KernelIdeal.Bwd

end
-- ==== Proof.Ideal.RunB.lean ====
/- The body at a point in the middle of a batch: its triple, with the pieces its stores leave in every buffer as the witness. -/
module

public import proofs.«01_k».proof.Proof.Ideal.RunA

@[expose] public section

-- membership in a rectangle of long axes is decided once per coordinate
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg3 : Memref sig .tc .vmem S1x128x512 .bf16) (harg3 : arg3.IsWhole) (arg4 : Memref sig .tc .vmem S1x4608x512 .bf16) (harg4 : arg4.IsWhole) (arg5 : Memref sig .tc .vmem S1x4608x512 .bf16) (harg5 : arg5.IsWhole) (arg6 : Memref sig .tc .vmem S8x128x640 .f32) (harg6 : arg6.IsWhole) (arg7 : Memref sig .tc .vmem S1x128x512 .f32) (harg7 : arg7.IsWhole) (arg8 : Memref sig .tc .vmem S1x128x512 .f32) (harg8 : arg8.IsWhole) (arg9 : Memref sig .tc .vmem S1x512 .f32) (harg9 : arg9.IsWhole) (arg10 : Memref sig .tc .vmem S1x128x512 .bf16) (harg10 : arg10.IsWhole) (arg11 : Memref sig .tc .vmem S1x4096x512 .bf16) (harg11 : arg11.IsWhole) (arg12 : Memref sig .tc .vmem S1x4096x512 .bf16) (harg12 : arg12.IsWhole) (arg13 : Memref sig .tc .vmem S1x1x1x512 .f32) (harg13 : arg13.IsWhole) (arg14 : Memref sig .tc .vmem S8x128x256 .f32) (harg14 : arg14.IsWhole) (arg15 : Memref sig .tc .vmem S4608x512 .f32) (harg15 : arg15.IsWhole) (arg16 : Memref sig .tc .vmem S4608x512 .f32) (harg16 : arg16.IsWhole) (hc0 : ¬cond0_0 i) (hc1 : ¬cond0_1 i) (hc2 : ¬cond0_2 i)
    (x0 : Vec F S1x128x512 .bf16) (x1 : Vec F S1x4608x512 .bf16) (x2 : Vec F S1x4608x512 .bf16) (x3 : Vec F S8x128x640 .f32) (x4 : Vec F S1x128x512 .f32) (x5 : Vec F S1x128x512 .f32) (x6 : Vec F S1x512 .f32) (xo11 : Vec F S8x128x256 .f32) (xs0 : Vec F S4608x512 .f32) (xs1 : Vec F S4608x512 .f32) :
    Σ' (L7 : List (View.Piece (Elt F) S1x128x512 .bf16)), Σ' (L8 : List (View.Piece (Elt F) S1x4096x512 .bf16)), Σ' (L9 : List (View.Piece (Elt F) S1x4096x512 .bf16)), Σ' (L10 : List (View.Piece (Elt F) S1x1x1x512 .f32)), Σ' (L11 : List (View.Piece (Elt F) S8x128x256 .f32)), Σ' (LS0 : List (View.Piece (Elt F) S4608x512 .f32)), { LS1 : List (View.Piece (Elt F) S4608x512 .f32) //
      ∀ (xi8 : Vec F S1x4096x512 .bf16) (xi9 : Vec F S1x4096x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ owns (c : Thread nD τ) arg12 fullShare xi9 ∗ (∃ d, owns (c : Thread nD τ) arg13 fullShare d) ∗ owns (c : Thread nD τ) arg14 fullShare xo11 ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xi8 ∗ owns (c : Thread nD τ) arg12 fullShare xi9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (arg15.view.loc (c : Thread nD τ) ↦[arg15.view.set]{fullShare} arg15.view.writes (Elt F) (harg15.unread xs0) LS0) ∗ (arg16.view.loc (c : Thread nD τ) ↦[arg16.view.set]{fullShare} arg16.view.writes (Elt F) (harg16.unread xs1) LS1)) -∗ K ⟨⟩))
          ⊢ wp frame (wpE (defs₀ (F := F)) Variants.none c none) E (cc0_ca_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], ?_, ?_, ?_, ?_, fun xi8 xi9 E K => ?run⟩
  case run =>
    simp only [cc0_ca_bwd_eq_skeleton]; unfold cc0_ca_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%f11, %hf11, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hf9; obtain rfl := harg14.eq_unread hf11; obtain rfl := harg15.eq_unread hfs0; obtain rfl := harg16.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]; · iexact HS0
    iexact HS1

end Cert.KernelIdeal.Bwd

end
-- ==== Proof.Ideal.RunC.lean ====
/- The body at the last point of a batch: its triple, with the pieces its stores leave in every buffer as the witness. -/
module

public import proofs.«01_k».proof.Proof.Ideal.RunB

@[expose] public section

-- membership in a rectangle of long axes is decided once per coordinate
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1020000 in
noncomputable def kernelRun0_C (c : Dev nD) (i : grid0.Coords) (arg3 : Memref sig .tc .vmem S1x128x512 .bf16) (harg3 : arg3.IsWhole) (arg4 : Memref sig .tc .vmem S1x4608x512 .bf16) (harg4 : arg4.IsWhole) (arg5 : Memref sig .tc .vmem S1x4608x512 .bf16) (harg5 : arg5.IsWhole) (arg6 : Memref sig .tc .vmem S8x128x640 .f32) (harg6 : arg6.IsWhole) (arg7 : Memref sig .tc .vmem S1x128x512 .f32) (harg7 : arg7.IsWhole) (arg8 : Memref sig .tc .vmem S1x128x512 .f32) (harg8 : arg8.IsWhole) (arg9 : Memref sig .tc .vmem S1x512 .f32) (harg9 : arg9.IsWhole) (arg10 : Memref sig .tc .vmem S1x128x512 .bf16) (harg10 : arg10.IsWhole) (arg11 : Memref sig .tc .vmem S1x4096x512 .bf16) (harg11 : arg11.IsWhole) (arg12 : Memref sig .tc .vmem S1x4096x512 .bf16) (harg12 : arg12.IsWhole) (arg13 : Memref sig .tc .vmem S1x1x1x512 .f32) (harg13 : arg13.IsWhole) (arg14 : Memref sig .tc .vmem S8x128x256 .f32) (harg14 : arg14.IsWhole) (arg15 : Memref sig .tc .vmem S4608x512 .f32) (harg15 : arg15.IsWhole) (arg16 : Memref sig .tc .vmem S4608x512 .f32) (harg16 : arg16.IsWhole) (hc0 : ¬cond0_0 i) (hc1 : ¬cond0_1 i) (hc2 : cond0_2 i)
    (x0 : Vec F S1x128x512 .bf16) (x1 : Vec F S1x4608x512 .bf16) (x2 : Vec F S1x4608x512 .bf16) (x3 : Vec F S8x128x640 .f32) (x4 : Vec F S1x128x512 .f32) (x5 : Vec F S1x128x512 .f32) (x6 : Vec F S1x512 .f32) (xo11 : Vec F S8x128x256 .f32) (xs0 : Vec F S4608x512 .f32) (xs1 : Vec F S4608x512 .f32) :
    Σ' (L7 : List (View.Piece (Elt F) S1x128x512 .bf16)), Σ' (L8 : List (View.Piece (Elt F) S1x4096x512 .bf16)), Σ' (L9 : List (View.Piece (Elt F) S1x4096x512 .bf16)), Σ' (L10 : List (View.Piece (Elt F) S1x1x1x512 .f32)), Σ' (L11 : List (View.Piece (Elt F) S8x128x256 .f32)), Σ' (LS0 : List (View.Piece (Elt F) S4608x512 .f32)), { LS1 : List (View.Piece (Elt F) S4608x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (arg15.view.loc (c : Thread nD τ) ↦[arg15.view.set]{fullShare} arg15.view.writes (Elt F) (harg15.unread xs0) LS0) ∗ (arg16.view.loc (c : Thread nD τ) ↦[arg16.view.set]{fullShare} arg16.view.writes (Elt F) (harg16.unread xs1) LS1)) -∗ K ⟨⟩))
          ⊢ wp frame (wpE (defs₀ (F := F)) Variants.none c none) E (cc0_ca_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_ca_bwd_eq_skeleton]; unfold cc0_ca_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg14.eq_unread hf11; obtain rfl := harg15.eq_unread hfs0; obtain rfl := harg16.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    iexact HS1

end Cert.KernelIdeal.Bwd

end
-- ==== Proof.Ideal.RunD.lean ====
/- The body at the first point of the second batch: its triple, with the pieces its stores leave in every buffer as the witness. -/
module

public import proofs.«01_k».proof.Proof.Ideal.RunC

@[expose] public section

-- membership in a rectangle of long axes is decided once per coordinate
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1012000 in
noncomputable def kernelRun0_D (c : Dev nD) (i : grid0.Coords) (arg3 : Memref sig .tc .vmem S1x128x512 .bf16) (harg3 : arg3.IsWhole) (arg4 : Memref sig .tc .vmem S1x4608x512 .bf16) (harg4 : arg4.IsWhole) (arg5 : Memref sig .tc .vmem S1x4608x512 .bf16) (harg5 : arg5.IsWhole) (arg6 : Memref sig .tc .vmem S8x128x640 .f32) (harg6 : arg6.IsWhole) (arg7 : Memref sig .tc .vmem S1x128x512 .f32) (harg7 : arg7.IsWhole) (arg8 : Memref sig .tc .vmem S1x128x512 .f32) (harg8 : arg8.IsWhole) (arg9 : Memref sig .tc .vmem S1x512 .f32) (harg9 : arg9.IsWhole) (arg10 : Memref sig .tc .vmem S1x128x512 .bf16) (harg10 : arg10.IsWhole) (arg11 : Memref sig .tc .vmem S1x4096x512 .bf16) (harg11 : arg11.IsWhole) (arg12 : Memref sig .tc .vmem S1x4096x512 .bf16) (harg12 : arg12.IsWhole) (arg13 : Memref sig .tc .vmem S1x1x1x512 .f32) (harg13 : arg13.IsWhole) (arg14 : Memref sig .tc .vmem S8x128x256 .f32) (harg14 : arg14.IsWhole) (arg15 : Memref sig .tc .vmem S4608x512 .f32) (harg15 : arg15.IsWhole) (arg16 : Memref sig .tc .vmem S4608x512 .f32) (harg16 : arg16.IsWhole) (hc0 : cond0_0 i) (hc1 : ¬cond0_1 i) (hc2 : ¬cond0_2 i)
    (x0 : Vec F S1x128x512 .bf16) (x1 : Vec F S1x4608x512 .bf16) (x2 : Vec F S1x4608x512 .bf16) (x3 : Vec F S8x128x640 .f32) (x4 : Vec F S1x128x512 .f32) (x5 : Vec F S1x128x512 .f32) (x6 : Vec F S1x512 .f32) (xo11 : Vec F S8x128x256 .f32) :
    Σ' (L7 : List (View.Piece (Elt F) S1x128x512 .bf16)), Σ' (L8 : List (View.Piece (Elt F) S1x4096x512 .bf16)), Σ' (L9 : List (View.Piece (Elt F) S1x4096x512 .bf16)), Σ' (L10 : List (View.Piece (Elt F) S1x1x1x512 .f32)), Σ' (L11 : List (View.Piece (Elt F) S8x128x256 .f32)), Σ' (LS0 : List (View.Piece (Elt F) S4608x512 .f32)), { LS1 : List (View.Piece (Elt F) S4608x512 .f32) //
      ∀ (xi8 : Vec F S1x4096x512 .bf16) (xi9 : Vec F S1x4096x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ owns (c : Thread nD τ) arg12 fullShare xi9 ∗ (∃ d, owns (c : Thread nD τ) arg13 fullShare d) ∗ owns (c : Thread nD τ) arg14 fullShare xo11 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xi8 ∗ owns (c : Thread nD τ) arg12 fullShare xi9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_ca_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], ?_, ?_, ?_, ?_, fun xi8 xi9 E K => ?run⟩
  case run =>
    simp only [cc0_ca_bwd_eq_skeleton]; unfold cc0_ca_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%f11, %hf11, H11⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hf9; obtain rfl := harg14.eq_unread hf11
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]; · iexists _; iexact HS0
    iexists _; iexact HS1

end Cert.KernelIdeal.Bwd

end
-- ==== Proof.Ideal.States.lean ====
/- What each point leaves in the buffers the body stores into, and that the stores cover the outputs' blocks. -/
module

public import proofs.«01_k».proof.Proof.Ideal.RunD

@[expose] public section

-- membership in a rectangle of long axes is decided once per coordinate
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the buffers the body stores into hold after a point: the five outputs' blocks, then the two accumulators. -/
abbrev St (F : FTy → Type) [FloatOps F] [Named F] : Type := Vec F S1x128x512 .bf16 × Vec F S1x4096x512 .bf16 × Vec F S1x4096x512 .bf16 × Vec F S1x1x1x512 .f32 × Vec F S8x128x256 .f32 × Vec F S4608x512 .f32 × Vec F S4608x512 .f32

/-! ## The first point -/

/-- The run at the point's memrefs and blocks. -/
def runA (c : Dev nD) (t : Fin cfg0.N) (h0 : t.val % 32 = 0) (h1 : t.val % 64 = 0) (h2 : ¬t.val % 32 = 31) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)

/-- What the buffers hold afterwards. -/
def stA (c : Dev nD) (t : Fin cfg0.N) (h0 : t.val % 32 = 0) (h1 : t.val % 64 = 0) (h2 : ¬t.val % 32 = 31) : St F :=
  (VO0_7.read (Elt F) (VO0_7.writes (Elt F) VO0_7.junk (runA m c t h0 h1 h2).1),
    VO0_8.read (Elt F) (VO0_8.writes (Elt F) VO0_8.junk (runA m c t h0 h1 h2).2.1),
    VO0_9.read (Elt F) (VO0_9.writes (Elt F) VO0_9.junk (runA m c t h0 h1 h2).2.2.1),
    VO0_10.read (Elt F) (VO0_10.writes (Elt F) VO0_10.junk (runA m c t h0 h1 h2).2.2.2.1),
    VO0_11.read (Elt F) (VO0_11.writes (Elt F) VO0_11.junk (runA m c t h0 h1 h2).2.2.2.2.1),
    VS0_0.read (Elt F) (VS0_0.writes (Elt F) VS0_0.junk (runA m c t h0 h1 h2).2.2.2.2.2.1),
    VS0_1.read (Elt F) (VS0_1.writes (Elt F) VS0_1.junk (runA m c t h0 h1 h2).2.2.2.2.2.2.1))

theorem coverA_7 (c : Dev nD) (t : Fin cfg0.N) (h0 : t.val % 32 = 0) (h1 : t.val % 64 = 0) (h2 : ¬t.val % 32 = 31) (y : S1x128x512.Idx) :
    ∃ pc ∈ (runA m c t h0 h1 h2).1, y ∈ pc.1.set :=
  View.cover_of_tiledL (runA m c t h0 h1 h2).1 S1x128x128.size (by sl_kernel_rfl) y

theorem coverA_10 (c : Dev nD) (t : Fin cfg0.N) (h0 : t.val % 32 = 0) (h1 : t.val % 64 = 0) (h2 : ¬t.val % 32 = 31) (y : S1x1x1x512.Idx) :
    ∃ pc ∈ (runA m c t h0 h1 h2).2.2.2.1, y ∈ pc.1.set :=
  View.cover_of_tiledL (runA m c t h0 h1 h2).2.2.2.1 S1x1x1x128.size (by sl_kernel_rfl) y

theorem coverA_11 (c : Dev nD) (t : Fin cfg0.N) (h0 : t.val % 32 = 0) (h1 : t.val % 64 = 0) (h2 : ¬t.val % 32 = 31) (y : S8x128x256.Idx) :
    ∃ pc ∈ (runA m c t h0 h1 h2).2.2.2.2.1, y ∈ pc.1.set :=
  View.cover_of_tiledBy (runA m c t h0 h1 h2).2.2.2.2.1 ![1, 128, 256] (by sl_kernel_rfl) y

theorem coverA_s0 (c : Dev nD) (t : Fin cfg0.N) (h0 : t.val % 32 = 0) (h1 : t.val % 64 = 0) (h2 : ¬t.val % 32 = 31) (y : S4608x512.Idx) :
    ∃ pc ∈ (runA m c t h0 h1 h2).2.2.2.2.2.1, y ∈ pc.1.set :=
  View.cover_of_wholeMem (runA m c t h0 h1 h2).2.2.2.2.2.1 (by sl_whole_mem) y

theorem coverA_s1 (c : Dev nD) (t : Fin cfg0.N) (h0 : t.val % 32 = 0) (h1 : t.val % 64 = 0) (h2 : ¬t.val % 32 = 31) (y : S4608x512.Idx) :
    ∃ pc ∈ (runA m c t h0 h1 h2).2.2.2.2.2.2.1, y ∈ pc.1.set :=
  View.cover_of_wholeMem (runA m c t h0 h1 h2).2.2.2.2.2.2.1 (by sl_whole_mem) y

/-! ## A point in the middle of a batch -/

/-- The run at the point's memrefs and blocks. -/
def runB (c : Dev nD) (t : Fin cfg0.N) (h0 : ¬t.val % 32 = 0) (h1 : ¬t.val % 64 = 0) (h2 : ¬t.val % 32 = 31) (p : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) p.2.2.2.2.1 p.2.2.2.2.2.1 p.2.2.2.2.2.2

/-- What the buffers hold afterwards. -/
def stB (c : Dev nD) (t : Fin cfg0.N) (h0 : ¬t.val % 32 = 0) (h1 : ¬t.val % 64 = 0) (h2 : ¬t.val % 32 = 31) (p : St F) : St F :=
  (VO0_7.read (Elt F) (VO0_7.writes (Elt F) VO0_7.junk (runB m c t h0 h1 h2 p).1),
    VO0_8.read (Elt F) (VO0_8.writes (Elt F) VO0_8.junk (runB m c t h0 h1 h2 p).2.1),
    VO0_9.read (Elt F) (VO0_9.writes (Elt F) VO0_9.junk (runB m c t h0 h1 h2 p).2.2.1),
    VO0_10.read (Elt F) (VO0_10.writes (Elt F) VO0_10.junk (runB m c t h0 h1 h2 p).2.2.2.1),
    VO0_11.read (Elt F) (VO0_11.writes (Elt F) VO0_11.junk (runB m c t h0 h1 h2 p).2.2.2.2.1),
    VS0_0.read (Elt F) (VS0_0.writes (Elt F) ((Memref.isWhole_whole _ : scM0_0.IsWhole).unread p.2.2.2.2.2.1) (runB m c t h0 h1 h2 p).2.2.2.2.2.1),
    VS0_1.read (Elt F) (VS0_1.writes (Elt F) ((Memref.isWhole_whole _ : scM0_1.IsWhole).unread p.2.2.2.2.2.2) (runB m c t h0 h1 h2 p).2.2.2.2.2.2.1))

theorem coverB_7 (c : Dev nD) (t : Fin cfg0.N) (h0 : ¬t.val % 32 = 0) (h1 : ¬t.val % 64 = 0) (h2 : ¬t.val % 32 = 31) (p : St F) (y : S1x128x512.Idx) :
    ∃ pc ∈ (runB m c t h0 h1 h2 p).1, y ∈ pc.1.set :=
  View.cover_of_tiledL (runB m c t h0 h1 h2 p).1 S1x128x128.size (by sl_kernel_rfl) y

theorem coverB_10 (c : Dev nD) (t : Fin cfg0.N) (h0 : ¬t.val % 32 = 0) (h1 : ¬t.val % 64 = 0) (h2 : ¬t.val % 32 = 31) (p : St F) (y : S1x1x1x512.Idx) :
    ∃ pc ∈ (runB m c t h0 h1 h2 p).2.2.2.1, y ∈ pc.1.set :=
  View.cover_of_tiledL (runB m c t h0 h1 h2 p).2.2.2.1 S1x1x1x128.size (by sl_kernel_rfl) y

theorem coverB_11 (c : Dev nD) (t : Fin cfg0.N) (h0 : ¬t.val % 32 = 0) (h1 : ¬t.val % 64 = 0) (h2 : ¬t.val % 32 = 31) (p : St F) (y : S8x128x256.Idx) :
    ∃ pc ∈ (runB m c t h0 h1 h2 p).2.2.2.2.1, y ∈ pc.1.set :=
  View.cover_of_tiledL (runB m c t h0 h1 h2 p).2.2.2.2.1 S1x128x256.size (by sl_kernel_rfl) y

/-! ## The last point of a batch -/

/-- The run at the point's memrefs and blocks. -/
def runC (c : Dev nD) (t : Fin cfg0.N) (h0 : ¬t.val % 32 = 0) (h1 : ¬t.val % 64 = 0) (h2 : t.val % 32 = 31) (p : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) p.2.2.2.2.1 p.2.2.2.2.2.1 p.2.2.2.2.2.2

/-- What the buffers hold afterwards. -/
def stC (c : Dev nD) (t : Fin cfg0.N) (h0 : ¬t.val % 32 = 0) (h1 : ¬t.val % 64 = 0) (h2 : t.val % 32 = 31) (p : St F) : St F :=
  (VO0_7.read (Elt F) (VO0_7.writes (Elt F) VO0_7.junk (runC m c t h0 h1 h2 p).1),
    VO0_8.read (Elt F) (VO0_8.writes (Elt F) VO0_8.junk (runC m c t h0 h1 h2 p).2.1),
    VO0_9.read (Elt F) (VO0_9.writes (Elt F) VO0_9.junk (runC m c t h0 h1 h2 p).2.2.1),
    VO0_10.read (Elt F) (VO0_10.writes (Elt F) VO0_10.junk (runC m c t h0 h1 h2 p).2.2.2.1),
    VO0_11.read (Elt F) (VO0_11.writes (Elt F) VO0_11.junk (runC m c t h0 h1 h2 p).2.2.2.2.1),
    VS0_0.read (Elt F) (VS0_0.writes (Elt F) ((Memref.isWhole_whole _ : scM0_0.IsWhole).unread p.2.2.2.2.2.1) (runC m c t h0 h1 h2 p).2.2.2.2.2.1),
    VS0_1.read (Elt F) (VS0_1.writes (Elt F) ((Memref.isWhole_whole _ : scM0_1.IsWhole).unread p.2.2.2.2.2.2) (runC m c t h0 h1 h2 p).2.2.2.2.2.2.1))

theorem coverC_7 (c : Dev nD) (t : Fin cfg0.N) (h0 : ¬t.val % 32 = 0) (h1 : ¬t.val % 64 = 0) (h2 : t.val % 32 = 31) (p : St F) (y : S1x128x512.Idx) :
    ∃ pc ∈ (runC m c t h0 h1 h2 p).1, y ∈ pc.1.set :=
  View.cover_of_tiledL (runC m c t h0 h1 h2 p).1 S1x128x128.size (by sl_kernel_rfl) y

theorem coverC_8 (c : Dev nD) (t : Fin cfg0.N) (h0 : ¬t.val % 32 = 0) (h1 : ¬t.val % 64 = 0) (h2 : t.val % 32 = 31) (p : St F) (y : S1x4096x512.Idx) :
    ∃ pc ∈ (runC m c t h0 h1 h2 p).2.1, y ∈ pc.1.set :=
  View.cover_of_tiledL (runC m c t h0 h1 h2 p).2.1 S1x4096x512.size (by sl_kernel_rfl) y

theorem coverC_9 (c : Dev nD) (t : Fin cfg0.N) (h0 : ¬t.val % 32 = 0) (h1 : ¬t.val % 64 = 0) (h2 : t.val % 32 = 31) (p : St F) (y : S1x4096x512.Idx) :
    ∃ pc ∈ (runC m c t h0 h1 h2 p).2.2.1, y ∈ pc.1.set :=
  View.cover_of_tiledL (runC m c t h0 h1 h2 p).2.2.1 S1x4096x512.size (by sl_kernel_rfl) y

theorem coverC_10 (c : Dev nD) (t : Fin cfg0.N) (h0 : ¬t.val % 32 = 0) (h1 : ¬t.val % 64 = 0) (h2 : t.val % 32 = 31) (p : St F) (y : S1x1x1x512.Idx) :
    ∃ pc ∈ (runC m c t h0 h1 h2 p).2.2.2.1, y ∈ pc.1.set :=
  View.cover_of_tiledL (runC m c t h0 h1 h2 p).2.2.2.1 S1x1x1x128.size (by sl_kernel_rfl) y

theorem coverC_11 (c : Dev nD) (t : Fin cfg0.N) (h0 : ¬t.val % 32 = 0) (h1 : ¬t.val % 64 = 0) (h2 : t.val % 32 = 31) (p : St F) (y : S8x128x256.Idx) :
    ∃ pc ∈ (runC m c t h0 h1 h2 p).2.2.2.2.1, y ∈ pc.1.set :=
  View.cover_of_tiledL (runC m c t h0 h1 h2 p).2.2.2.2.1 S1x128x256.size (by sl_kernel_rfl) y

/-! ## The first point of the second batch -/

/-- The run at the point's memrefs and blocks. -/
def runD (c : Dev nD) (t : Fin cfg0.N) (h0 : t.val % 32 = 0) (h1 : ¬t.val % 64 = 0) (h2 : ¬t.val % 32 = 31) (p : St F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) p.2.2.2.2.1

/-- What the buffers hold afterwards. -/
def stD (c : Dev nD) (t : Fin cfg0.N) (h0 : t.val % 32 = 0) (h1 : ¬t.val % 64 = 0) (h2 : ¬t.val % 32 = 31) (p : St F) : St F :=
  (VO0_7.read (Elt F) (VO0_7.writes (Elt F) VO0_7.junk (runD m c t h0 h1 h2 p).1),
    VO0_8.read (Elt F) (VO0_8.writes (Elt F) VO0_8.junk (runD m c t h0 h1 h2 p).2.1),
    VO0_9.read (Elt F) (VO0_9.writes (Elt F) VO0_9.junk (runD m c t h0 h1 h2 p).2.2.1),
    VO0_10.read (Elt F) (VO0_10.writes (Elt F) VO0_10.junk (runD m c t h0 h1 h2 p).2.2.2.1),
    VO0_11.read (Elt F) (VO0_11.writes (Elt F) VO0_11.junk (runD m c t h0 h1 h2 p).2.2.2.2.1),
    VS0_0.read (Elt F) (VS0_0.writes (Elt F) VS0_0.junk (runD m c t h0 h1 h2 p).2.2.2.2.2.1),
    VS0_1.read (Elt F) (VS0_1.writes (Elt F) VS0_1.junk (runD m c t h0 h1 h2 p).2.2.2.2.2.2.1))

theorem coverD_7 (c : Dev nD) (t : Fin cfg0.N) (h0 : t.val % 32 = 0) (h1 : ¬t.val % 64 = 0) (h2 : ¬t.val % 32 = 31) (p : St F) (y : S1x128x512.Idx) :
    ∃ pc ∈ (runD m c t h0 h1 h2 p).1, y ∈ pc.1.set :=
  View.cover_of_tiledL (runD m c t h0 h1 h2 p).1 S1x128x128.size (by sl_kernel_rfl) y

theorem coverD_10 (c : Dev nD) (t : Fin cfg0.N) (h0 : t.val % 32 = 0) (h1 : ¬t.val % 64 = 0) (h2 : ¬t.val % 32 = 31) (p : St F) (y : S1x1x1x512.Idx) :
    ∃ pc ∈ (runD m c t h0 h1 h2 p).2.2.2.1, y ∈ pc.1.set :=
  View.cover_of_tiledL (runD m c t h0 h1 h2 p).2.2.2.1 S1x1x1x128.size (by sl_kernel_rfl) y

theorem coverD_11 (c : Dev nD) (t : Fin cfg0.N) (h0 : t.val % 32 = 0) (h1 : ¬t.val % 64 = 0) (h2 : ¬t.val % 32 = 31) (p : St F) (y : S8x128x256.Idx) :
    ∃ pc ∈ (runD m c t h0 h1 h2 p).2.2.2.2.1, y ∈ pc.1.set :=
  View.cover_of_tiledL (runD m c t h0 h1 h2 p).2.2.2.2.1 S1x128x256.size (by sl_kernel_rfl) y

theorem coverD_s0 (c : Dev nD) (t : Fin cfg0.N) (h0 : t.val % 32 = 0) (h1 : ¬t.val % 64 = 0) (h2 : ¬t.val % 32 = 31) (p : St F) (y : S4608x512.Idx) :
    ∃ pc ∈ (runD m c t h0 h1 h2 p).2.2.2.2.2.1, y ∈ pc.1.set :=
  View.cover_of_wholeMem (runD m c t h0 h1 h2 p).2.2.2.2.2.1 (by sl_whole_mem) y

theorem coverD_s1 (c : Dev nD) (t : Fin cfg0.N) (h0 : t.val % 32 = 0) (h1 : ¬t.val % 64 = 0) (h2 : ¬t.val % 32 = 31) (p : St F) (y : S4608x512.Idx) :
    ∃ pc ∈ (runD m c t h0 h1 h2 p).2.2.2.2.2.2.1, y ∈ pc.1.set :=
  View.cover_of_wholeMem (runD m c t h0 h1 h2 p).2.2.2.2.2.2.1 (by sl_whole_mem) y

end Cert.KernelIdeal.Bwd

end
-- ==== Proof.Ideal.Frame.lean ====
/- The frame of the gradient kernel: the body at every point, the run of the whole program, the arguments unchanged. -/
module

public import proofs.«01_k».proof.Proof.Ideal.States
public import proofs.«01_k».proof.Proof.Gen.KernelIdeal.Frame
public import Idealize.ShloMosaic.Lib.Claim

@[expose] public section

-- membership in a rectangle of long axes is decided once per coordinate
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold after each point -/

/-- After position `n`: the case the point is in, over what the position before left. -/
def outs (c : Dev nD) : (n : ℕ) → n < cfg0.N → St F
  | 0, hn => stA m c ⟨0, hn⟩ (Nat.zero_mod _) (Nat.zero_mod _) (fun h => by (try dsimp only at h); omega)
  | n + 1, hn =>
    if h0 : (n + 1) % 32 = 0 then
      if h1 : (n + 1) % 64 = 0 then
        False.elim (by have hN : n + 1 < 64 := lt_of_lt_of_eq hn (show cfg0.N = 64 from N_0); omega)
      else stD m c ⟨n + 1, hn⟩ h0 h1 (fun h => by (try dsimp only at h); omega) (outs c n (Nat.lt_of_succ_lt hn))
    else
      if h2 : (n + 1) % 32 = 31 then
        stC m c ⟨n + 1, hn⟩ h0 (fun h => h0 (by (try dsimp only at h); omega)) h2 (outs c n (Nat.lt_of_succ_lt hn))
      else
        stB m c ⟨n + 1, hn⟩ h0 (fun h => h0 (by (try dsimp only at h); omega)) h2 (outs c n (Nat.lt_of_succ_lt hn))

theorem outs_A (c : Dev nD) (t : Fin cfg0.N) (h0 : t.val % 32 = 0) (h1 : t.val % 64 = 0) (h2 : ¬t.val % 32 = 31) : outs m c t.val t.isLt = stA m c t h0 h1 h2 := by
  obtain ⟨n, hn⟩ := t
  cases n with
  | zero => rfl
  | succ n => exfalso; have hN : n + 1 < 64 := lt_of_lt_of_eq hn (show cfg0.N = 64 from N_0); (try dsimp only at h1); omega

theorem outs_B (c : Dev nD) (t : Fin cfg0.N) (h0 : ¬t.val % 32 = 0) (h1 : ¬t.val % 64 = 0) (h2 : ¬t.val % 32 = 31) : outs m c t.val t.isLt = stB m c t h0 h1 h2
    (outs m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem outs_C (c : Dev nD) (t : Fin cfg0.N) (h0 : ¬t.val % 32 = 0) (h1 : ¬t.val % 64 = 0) (h2 : t.val % 32 = 31) : outs m c t.val t.isLt = stC m c t h0 h1 h2
    (outs m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

theorem outs_D (c : Dev nD) (t : Fin cfg0.N) (h0 : t.val % 32 = 0) (h1 : ¬t.val % 64 = 0) (h2 : ¬t.val % 32 = 31) : outs m c t.val t.isLt = stD m c t h0 h1 h2
    (outs m c (t.val - 1) (Nat.lt_of_le_of_lt (Nat.sub_le _ _) t.isLt)) := by
  obtain ⟨n, hn⟩ := t
  cases n with
  | zero => exact absurd (Nat.zero_mod _) h1
  | succ n => exact (dif_pos h0).trans (dif_neg h1)

/-- The region invariant: before the first point the launch's, afterwards the two accumulators at what the point before left. -/
def PhiS (c : Dev nD) : (n : ℕ) → n ≤ cfg0.N → sProp 𝕄
  | 0, _ => Pipeline.ΦA spec0 c
  | n + 1, hn => iprop(iprop(owns (c : Thread nD τ) scM0_0 fullShare ((outs m c n hn).2.2.2.2.2.1) ∗ owns (c : Thread nD τ) scM0_1 fullShare ((outs m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outs m c n hn).2.2.2.2.2.1) ∗ owns (c : Thread nD τ) scM0_1 fullShare ((outs m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outs m c (n - 1) (by omega)).2.2.2.2.2.1) ∗ owns (c : Thread nD τ) scM0_1 fullShare ((outs m c (n - 1) (by omega)).2.2.2.2.2.2)) ∗ (∃ r, prngReg c r)) := by
  cases n with
  | zero => exact absurd rfl hz
  | succ n => rfl

/-! ## The pipeline's proof data -/

/-- The proof data: inputs keep their blocks, outputs hold `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2.1
    | ⟨10, _⟩ => (outs m c t.val t.isLt).2.2.2.1
    | ⟨11, _⟩ => (outs m c t.val t.isLt).2.2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outs m c t.val t.isLt).1 := by dsimp only [dats]
theorem after0_8 (c : Dev nD) (t : Fin cfg0.N) : (dats m 0 c).after 8 t = (outs m c t.val t.isLt).2.1 := by dsimp only [dats]
theorem after0_9 (c : Dev nD) (t : Fin cfg0.N) : (dats m 0 c).after 9 t = (outs m c t.val t.isLt).2.2.1 := by dsimp only [dats]
theorem after0_10 (c : Dev nD) (t : Fin cfg0.N) : (dats m 0 c).after 10 t = (outs m c t.val t.isLt).2.2.2.1 := by dsimp only [dats]
theorem after0_11 (c : Dev nD) (t : Fin cfg0.N) : (dats m 0 c).after 11 t = (outs m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a point that is not the first, output 11's buffer holds what the point before left. -/
theorem before0_11 (c : Dev nD) (t : Fin cfg0.N) (h1 : ¬t.val % 64 = 0) (d) :
    (dats m 0 c).before 11 t d = (outs m c (t.val - 1) (Nat.lt_of_le_of_lt (Nat.sub_le _ _) t.isLt)).2.2.2.2.1 := by
  have hN : t.val < 64 := lt_of_lt_of_eq t.isLt (show cfg0.N = 64 from N_0)
  rw [Dat.before_out_kept _ 11 rfl t (by omega) (Bool.eq_false_iff.mpr fun h => by have := (flush0_11 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-! ## The body at each point -/

theorem leaves0 (c : Dev nD) (t : Fin cfg0.N) : (dats m 0 c).leavesExact 0 t = owns (c : Thread nD τ) (ms0_0 t) fullShare ((dats m 0 c).after 0 t) := by
  unfold Dat.leavesExact; rw [liveAt0_0 t]

theorem leaves1 (c : Dev nD) (t : Fin cfg0.N) : (dats m 0 c).leavesExact 1 t = owns (c : Thread nD τ) (ms0_1 t) fullShare ((dats m 0 c).after 1 t) := by
  unfold Dat.leavesExact; rw [liveAt0_1 t]

theorem leaves2 (c : Dev nD) (t : Fin cfg0.N) : (dats m 0 c).leavesExact 2 t = owns (c : Thread nD τ) (ms0_2 t) fullShare ((dats m 0 c).after 2 t) := by
  unfold Dat.leavesExact; rw [liveAt0_2 t]

theorem leaves3 (c : Dev nD) (t : Fin cfg0.N) : (dats m 0 c).leavesExact 3 t = owns (c : Thread nD τ) (ms0_3 t) fullShare ((dats m 0 c).after 3 t) := by
  unfold Dat.leavesExact; rw [liveAt0_3 t]

theorem leaves4 (c : Dev nD) (t : Fin cfg0.N) : (dats m 0 c).leavesExact 4 t = owns (c : Thread nD τ) (ms0_4 t) fullShare ((dats m 0 c).after 4 t) := by
  unfold Dat.leavesExact; rw [liveAt0_4 t]

theorem leaves5 (c : Dev nD) (t : Fin cfg0.N) : (dats m 0 c).leavesExact 5 t = owns (c : Thread nD τ) (ms0_5 t) fullShare ((dats m 0 c).after 5 t) := by
  unfold Dat.leavesExact; rw [liveAt0_5 t]

theorem leaves6 (c : Dev nD) (t : Fin cfg0.N) : (dats m 0 c).leavesExact 6 t = owns (c : Thread nD τ) (ms0_6 t) fullShare ((dats m 0 c).after 6 t) := by
  unfold Dat.leavesExact; rw [liveAt0_6 t]

theorem leaves7 (c : Dev nD) (t : Fin cfg0.N) : (dats m 0 c).leavesExact 7 t = owns (c : Thread nD τ) (ms0_7 t) fullShare ((dats m 0 c).after 7 t) := by
  unfold Dat.leavesExact; rw [liveAt0_7 t]

theorem leaves10 (c : Dev nD) (t : Fin cfg0.N) : (dats m 0 c).leavesExact 10 t = owns (c : Thread nD τ) (ms0_10 t) fullShare ((dats m 0 c).after 10 t) := by
  unfold Dat.leavesExact; rw [liveAt0_10 t]

theorem leaves11 (c : Dev nD) (t : Fin cfg0.N) : (dats m 0 c).leavesExact 11 t = owns (c : Thread nD τ) (ms0_11 t) fullShare ((dats m 0 c).after 11 t) := by
  unfold Dat.leavesExact; rw [liveAt0_11 t]

set_option maxHeartbeats 4800000 in
theorem sound_A (c : Dev nD) (t : Fin cfg0.N) (h0 : t.val % 32 = 0) (h1 : t.val % 64 = 0) (h2 : ¬t.val % 32 = 31) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0 m c t, after0_0]
  rw [leaves1 m c t, after0_1]
  rw [leaves2 m c t, after0_2]
  rw [leaves3 m c t, after0_3]
  rw [leaves4 m c t, after0_4]
  rw [leaves5 m c t, after0_5]
  rw [leaves6 m c t, after0_6]
  rw [leaves7 m c t, after0_7]
  rw [leaves10 m c t, after0_10]
  rw [leaves11 m c t, after0_11]
  rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
  rw [Dat.leavesExact_idle (dats m 0 c) 9 t (idleAt0_9_A t ((hcond0_0 t).mpr h0) ((hcond0_1 t).mpr h1) (fun h => h2 ((hcond0_2 t).mp h))) (noFlush0_9_A t ((hcond0_0 t).mpr h0) ((hcond0_1 t).mpr h1) (fun h => h2 ((hcond0_2 t).mp h)))]
  rw [PhiS_castSucc m c t, PhiS_zero m c _ _ (by omega), PhiA0_eq]
  rw [outs_A m c t h0 h1 h2]
  unfold stA; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA m c t h0 h1 h2).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  isplitl [H11]; · iexists _; iexact H11
  isplitl [HS0]; · iexact HS0
  isplitl [HS1]; · iexact HS1
  iintro ⟨H0, H1, H2, H3, H4, H5, H6, ⟨%e7, H7⟩, H8, H9, ⟨%e10, H10⟩, ⟨%e11, H11⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverA_s0 m c _ _ _ _)
      unfold owns; iexists _; isplitr
      swap; · iexact HS1
      ipureintro; exact View.read_writes_of_cover _ _ _ _ _ (coverA_s1 m c _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverA_7 m c _ _ _ _)
  isplitl [H8]; · iexists _; iexact H8
  isplitl [H9]; · iexists _; iexact H9
  isplitl [H10]
  · unfold owns; iexists _; isplitr
    swap; · iexact H10
    ipureintro; exact View.read_writes_of_cover _ _ _ _ _ (coverA_10 m c _ _ _ _)
  unfold owns; iexists _; isplitr
  swap; · iexact H11
  ipureintro; exact View.read_writes_of_cover _ _ _ _ _ (coverA_11 m c _ _ _ _)

set_option maxHeartbeats 4800000 in
theorem sound_B (c : Dev nD) (t : Fin cfg0.N) (h0 : ¬t.val % 32 = 0) (h1 : ¬t.val % 64 = 0) (h2 : ¬t.val % 32 = 31) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0 m c t, after0_0]
  rw [leaves1 m c t, after0_1]
  rw [leaves2 m c t, after0_2]
  rw [leaves3 m c t, after0_3]
  rw [leaves4 m c t, after0_4]
  rw [leaves5 m c t, after0_5]
  rw [leaves6 m c t, after0_6]
  rw [leaves7 m c t, after0_7]
  rw [leaves10 m c t, after0_10]
  rw [leaves11 m c t, after0_11]
  rw [Dat.leavesExact_idle (dats m 0 c) 8 t (idleAt0_8_B t (fun h => h0 ((hcond0_0 t).mp h)) (fun h => h1 ((hcond0_1 t).mp h)) (fun h => h2 ((hcond0_2 t).mp h))) (noFlush0_8_B t (fun h => h0 ((hcond0_0 t).mp h)) (fun h => h1 ((hcond0_1 t).mp h)) (fun h => h2 ((hcond0_2 t).mp h)))]
  rw [Dat.leavesExact_idle (dats m 0 c) 9 t (idleAt0_9_B t (fun h => h0 ((hcond0_0 t).mp h)) (fun h => h1 ((hcond0_1 t).mp h)) (fun h => h2 ((hcond0_2 t).mp h))) (noFlush0_9_B t (fun h => h0 ((hcond0_0 t).mp h)) (fun h => h1 ((hcond0_1 t).mp h)) (fun h => h2 ((hcond0_2 t).mp h)))]
  rw [PhiS_castSucc m c t, PhiS_pos m c _ _ (by omega)]
  simp only [before0_11 m c t h1]
  rw [outs_B m c t h0 h1 h2]
  unfold stB; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h0 h1 h2 (outs m c (t.val - 1) (Nat.lt_of_le_of_lt (Nat.sub_le _ _) t.isLt))).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  isplitl [H11]; · iexact H11
  isplitl [HS0]; · iexact HS0
  isplitl [HS1]; · iexact HS1
  iintro ⟨H0, H1, H2, H3, H4, H5, H6, ⟨%e7, H7⟩, H8, H9, ⟨%e10, H10⟩, ⟨%e11, H11⟩, HS0, HS1⟩
  isplitl [HS0 HS1 Hg]
  · isplitl [HS0 HS1]
    · isplitl [HS0]
      · unfold owns; iexists _; isplitr
        swap; · iexact HS0
        ipureintro; rfl
      unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverB_7 m c _ _ _ _ _)
  isplitl [H8]; · iexists _; iexact H8
  isplitl [H9]; · iexists _; iexact H9
  isplitl [H10]
  · unfold owns; iexists _; isplitr
    swap; · iexact H10
    ipureintro; exact View.read_writes_of_cover _ _ _ _ _ (coverB_10 m c _ _ _ _ _)
  unfold owns; iexists _; isplitr
  swap; · iexact H11
  ipureintro; exact View.read_writes_of_cover _ _ _ _ _ (coverB_11 m c _ _ _ _ _)

set_option maxHeartbeats 4800000 in
theorem sound_C (c : Dev nD) (t : Fin cfg0.N) (h0 : ¬t.val % 32 = 0) (h1 : ¬t.val % 64 = 0) (h2 : t.val % 32 = 31) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0 m c t, after0_0]
  rw [leaves1 m c t, after0_1]
  rw [leaves2 m c t, after0_2]
  rw [leaves3 m c t, after0_3]
  rw [leaves4 m c t, after0_4]
  rw [leaves5 m c t, after0_5]
  rw [leaves6 m c t, after0_6]
  rw [leaves7 m c t, after0_7]
  rw [leaves10 m c t, after0_10]
  rw [leaves11 m c t, after0_11]
  rw [show (dats m 0 c).leavesExact 8 t = owns (c : Thread nD τ) (ms0_8 t) fullShare ((dats m 0 c).after 8 t) from by
    unfold Dat.leavesExact; rw [liveAt0_8_C t (fun h => h0 ((hcond0_0 t).mp h)) (fun h => h1 ((hcond0_1 t).mp h)) ((hcond0_2 t).mpr h2)], after0_8]
  rw [show (dats m 0 c).leavesExact 9 t = owns (c : Thread nD τ) (ms0_9 t) fullShare ((dats m 0 c).after 9 t) from by
    unfold Dat.leavesExact; rw [liveAt0_9_C t (fun h => h0 ((hcond0_0 t).mp h)) (fun h => h1 ((hcond0_1 t).mp h)) ((hcond0_2 t).mpr h2)], after0_9]
  rw [PhiS_castSucc m c t, PhiS_pos m c _ _ (by omega)]
  simp only [before0_11 m c t h1]
  rw [outs_C m c t h0 h1 h2]
  unfold stC; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC m c t h0 h1 h2 (outs m c (t.val - 1) (Nat.lt_of_le_of_lt (Nat.sub_le _ _) t.isLt))).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%e11, H11⟩, HS0, HS1⟩
  isplitl [HS0 HS1 Hg]
  · isplitl [HS0 HS1]
    · isplitl [HS0]
      · unfold owns; iexists _; isplitr
        swap; · iexact HS0
        ipureintro; rfl
      unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverC_7 m c _ _ _ _ _)
  isplitl [H8]
  · unfold owns; iexists _; isplitr
    swap; · iexact H8
    ipureintro; exact View.read_writes_of_cover _ _ _ _ _ (coverC_8 m c _ _ _ _ _)
  isplitl [H9]
  · unfold owns; iexists _; isplitr
    swap; · iexact H9
    ipureintro; exact View.read_writes_of_cover _ _ _ _ _ (coverC_9 m c _ _ _ _ _)
  isplitl [H10]
  · unfold owns; iexists _; isplitr
    swap; · iexact H10
    ipureintro; exact View.read_writes_of_cover _ _ _ _ _ (coverC_10 m c _ _ _ _ _)
  unfold owns; iexists _; isplitr
  swap; · iexact H11
  ipureintro; exact View.read_writes_of_cover _ _ _ _ _ (coverC_11 m c _ _ _ _ _)

set_option maxHeartbeats 4800000 in
theorem sound_D (c : Dev nD) (t : Fin cfg0.N) (h0 : t.val % 32 = 0) (h1 : ¬t.val % 64 = 0) (h2 : ¬t.val % 32 = 31) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0 m c t, after0_0]
  rw [leaves1 m c t, after0_1]
  rw [leaves2 m c t, after0_2]
  rw [leaves3 m c t, after0_3]
  rw [leaves4 m c t, after0_4]
  rw [leaves5 m c t, after0_5]
  rw [leaves6 m c t, after0_6]
  rw [leaves7 m c t, after0_7]
  rw [leaves10 m c t, after0_10]
  rw [leaves11 m c t, after0_11]
  rw [Dat.leavesExact_idle (dats m 0 c) 8 t (idleAt0_8_D t ((hcond0_0 t).mpr h0) (fun h => h1 ((hcond0_1 t).mp h)) (fun h => h2 ((hcond0_2 t).mp h))) (noFlush0_8_D t ((hcond0_0 t).mpr h0) (fun h => h1 ((hcond0_1 t).mp h)) (fun h => h2 ((hcond0_2 t).mp h)))]
  rw [Dat.leavesExact_idle (dats m 0 c) 9 t (idleAt0_9_D t ((hcond0_0 t).mpr h0) (fun h => h1 ((hcond0_1 t).mp h)) (fun h => h2 ((hcond0_2 t).mp h))) (noFlush0_9_D t ((hcond0_0 t).mpr h0) (fun h => h1 ((hcond0_1 t).mp h)) (fun h => h2 ((hcond0_2 t).mp h)))]
  rw [PhiS_castSucc m c t, PhiS_pos m c _ _ (by omega)]
  simp only [before0_11 m c t h1]
  rw [outs_D m c t h0 h1 h2]
  unfold stD; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runD m c t h0 h1 h2 (outs m c (t.val - 1) (Nat.lt_of_le_of_lt (Nat.sub_le _ _) t.isLt))).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  isplitl [H11]; · iexact H11
  isplitl [HS0]; · iexists _; iexact HS0
  isplitl [HS1]; · iexists _; iexact HS1
  iintro ⟨H0, H1, H2, H3, H4, H5, H6, ⟨%e7, H7⟩, H8, H9, ⟨%e10, H10⟩, ⟨%e11, H11⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverD_s0 m c _ _ _ _ _)
      unfold owns; iexists _; isplitr
      swap; · iexact HS1
      ipureintro; exact View.read_writes_of_cover _ _ _ _ _ (coverD_s1 m c _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverD_7 m c _ _ _ _ _)
  isplitl [H8]; · iexists _; iexact H8
  isplitl [H9]; · iexists _; iexact H9
  isplitl [H10]
  · unfold owns; iexists _; isplitr
    swap; · iexact H10
    ipureintro; exact View.read_writes_of_cover _ _ _ _ _ (coverD_10 m c _ _ _ _ _)
  unfold owns; iexists _; isplitr
  swap; · iexact H11
  ipureintro; exact View.read_writes_of_cover _ _ _ _ _ (coverD_11 m c _ _ _ _ _)

theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  by_cases h0 : t.val % 32 = 0
  · by_cases h1 : t.val % 64 = 0
    · exact sound_A m c t h0 h1 (by omega)
    · exact sound_D m c t h0 h1 (by omega)
  · by_cases h2 : t.val % 32 = 31
    · exact sound_C m c t h0 (by omega) h2
    · exact sound_B m c t h0 (by omega) h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Bwd

end
-- ==== Proof.Ref.Run.lean ====
/- The reference's run: its 145 host operations as a list in windows, the term that each result is of the arguments, and
   the run theorem. The first window holds two called functions; it is read operation by operation (`seq_cons_of`,
   `seq_take`, `seq_where`), since by `rfl` at once it takes too much memory. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- The contents of a buffer. -/
abbrev C (F : FTy → Type) (s : Shape) (φ : EltTy) := (⟨s, φ⟩ : BufTy).Contents (Elt F)

/-- @main's operations 1 … 30 of 145 (window `main_part0`). -/
abbrev ops_part0_0 : List (HloOp τ sig (Elt F)) :=
  [ unary main_arg0 main_v0 ((extractStridedSlice S2x4096x512 ![0, 0, 0] · slices_S2x4096x3072_S2x4096x512_0_0_0) : C F S2x4096x3072 .bf16 → C F S2x4096x512 .bf16),
    unary main_arg0 main_v1 ((extractStridedSlice S2x4096x512 ![0, 0, 512] · slices_S2x4096x3072_S2x4096x512_0_0_512) : C F S2x4096x3072 .bf16 → C F S2x4096x512 .bf16),
    unary main_arg0 main_v2 ((extractStridedSlice S2x4096x512 ![0, 0, 1024] · slices_S2x4096x3072_S2x4096x512_0_0_1024) : C F S2x4096x3072 .bf16 → C F S2x4096x512 .bf16),
    unary main_arg0 main_v3 ((extractStridedSlice S2x4096x512 ![0, 0, 1536] · slices_S2x4096x3072_S2x4096x512_0_0_1536) : C F S2x4096x3072 .bf16 → C F S2x4096x512 .bf16),
    unary main_arg0 main_v4 ((extractStridedSlice S2x4096x512 ![0, 0, 2048] · slices_S2x4096x3072_S2x4096x512_0_0_2048) : C F S2x4096x3072 .bf16 → C F S2x4096x512 .bf16),
    unary main_arg0 main_v5 ((extractStridedSlice S2x4096x512 ![0, 0, 2560] · slices_S2x4096x3072_S2x4096x512_0_0_2560) : C F S2x4096x3072 .bf16 → C F S2x4096x512 .bf16),
    unary main_v3 main_v6 ((extf .f32 · bitsLt_bf16_f32) : C F S2x4096x512 .bf16 → C F S2x4096x512 .f32),
    reshape main_v6 main_v7 (rfl : (.f32 : EltTy) = .f32) shapeCasts_S2x4096x512_S2x4096x8x64,
    unary main_v4 main_v8 ((extf .f32 · bitsLt_bf16_f32) : C F S2x4096x512 .bf16 → C F S2x4096x512 .f32),
    reshape main_v8 main_v9 (rfl : (.f32 : EltTy) = .f32) shapeCasts_S2x4096x512_S2x4096x8x64,
    unary main_v5 main_v10 ((extf .f32 · bitsLt_bf16_f32) : C F S2x4096x512 .bf16 → C F S2x4096x512 .f32),
    reshape main_v10 main_v11 (rfl : (.f32 : EltTy) = .f32) shapeCasts_S2x4096x512_S2x4096x8x64,
    nullary main_v12 (iotaInDim S4096x4096 32 0),
    nullary main_v13 (iotaInDim S4096x4096 32 1),
    binary main_v12 main_v13 main_v14 (subi : C F S4096x4096 .i32 → C F S4096x4096 .i32 → C F S4096x4096 .i32),
    nullary main_c (constantI S_ 32 4294967168#32),
    unary main_c main_v15 (broadcastInDim S4096x4096 ![] bcast_S_S4096x4096 : C F S_ .i32 → C F S4096x4096 .i32),
    binary main_v14 main_v15 main_v16 (maxsi : C F S4096x4096 .i32 → C F S4096x4096 .i32 → C F S4096x4096 .i32),
    nullary main_c_0 (constantI S_ 32 128#32),
    unary main_c_0 main_v17 (broadcastInDim S4096x4096 ![] bcast_S_S4096x4096 : C F S_ .i32 → C F S4096x4096 .i32),
    binary main_v16 main_v17 main_v18 (minsi : C F S4096x4096 .i32 → C F S4096x4096 .i32 → C F S4096x4096 .i32),
    nullary main_c_1 (constantI S_ 32 128#32),
    unary main_c_1 main_v19 (broadcastInDim S4096x4096 ![] bcast_S_S4096x4096 : C F S_ .i32 → C F S4096x4096 .i32),
    binary main_v18 main_v19 main_v20 (addi : C F S4096x4096 .i32 → C F S4096x4096 .i32 → C F S4096x4096 .i32),
    TRef.unary (TRef.of (T := ⟨S4096x4096, .i32⟩) main_v20) (TRef.of (T := ⟨S4096x4096x1, .i32⟩) main_call0_v0) (broadcastInDim S4096x4096x1 ![0, 1] bcast_S4096x4096_S4096x4096x1_0_1),
    TRef.binary (TRef.of (T := ⟨S8x257, .f32⟩) main_arg1) (TRef.of (T := ⟨S4096x4096x1, .i32⟩) main_call0_v0) (TRef.of (T := ⟨S8x4096x4096, .f32⟩) main_v21) (fun x i => Host.gather gather_S8x257_S4096x4096x1_S8x4096x4096_0_1_n_n_1_2_81 x i),
    nullary main_c_2 (constantI S_ 32 64#32),
    unary main_c_2 main_v22 (broadcastInDim S4096x4096 ![] bcast_S_S4096x4096 : C F S_ .i32 → C F S4096x4096 .i32),
    binary main_v12 main_v22 main_v23 (Host.divsi : C F S4096x4096 .i32 → C F S4096x4096 .i32 → C F S4096x4096 .i32),
    nullary main_c_3 (constantI S_ 32 64#32) ]

/-- @main's operations 31 … 60 of 145 (window `main_part0`). -/
abbrev ops_part0_1 : List (HloOp τ sig (Elt F)) :=
  [ unary main_c_3 main_v24 (broadcastInDim S4096x4096 ![] bcast_S_S4096x4096 : C F S_ .i32 → C F S4096x4096 .i32),
    binary main_v13 main_v24 main_v25 (Host.divsi : C F S4096x4096 .i32 → C F S4096x4096 .i32 → C F S4096x4096 .i32),
    binary main_v7 main_v9 main_v26 ((fun l r => Host.dotGeneral dot_S2x4096x8x64_S2x4096x8x64_S2x8x4096x4096_3_3_1_1_02_02 none l r) : C F S2x4096x8x64 .f32 → C F S2x4096x8x64 .f32 → C F S2x8x4096x4096 .f32),
    nullary main_cst (constant S_ .f32 0x3E000000#32),
    unary main_cst main_v27 (broadcastInDim S2x8x4096x4096 ![] bcast_S_S2x8x4096x4096 : C F S_ .f32 → C F S2x8x4096x4096 .f32),
    binary main_v26 main_v27 main_v28 (mulf : C F S2x8x4096x4096 .f32 → C F S2x8x4096x4096 .f32 → C F S2x8x4096x4096 .f32),
    unary main_v21 main_v29 (broadcastInDim S1x8x4096x4096 ![1, 2, 3] bcast_S8x4096x4096_S1x8x4096x4096_1_2_3 : C F S8x4096x4096 .f32 → C F S1x8x4096x4096 .f32),
    unary main_v29 main_v30 (broadcastInDim S2x8x4096x4096 ![0, 1, 2, 3] bcast_S1x8x4096x4096_S2x8x4096x4096_0_1_2_3 : C F S1x8x4096x4096 .f32 → C F S2x8x4096x4096 .f32),
    binary main_v28 main_v30 main_v31 (addf : C F S2x8x4096x4096 .f32 → C F S2x8x4096x4096 .f32 → C F S2x8x4096x4096 .f32),
    binary main_v25 main_v23 main_v32 (cmpi .sle : C F S4096x4096 .i32 → C F S4096x4096 .i32 → C F S4096x4096 .i1),
    nullary main_c_4 (constantI S_ 32 8#32),
    unary main_c_4 main_v33 (broadcastInDim S4096x4096 ![] bcast_S_S4096x4096 : C F S_ .i32 → C F S4096x4096 .i32),
    binary main_v23 main_v33 main_v34 (subi : C F S4096x4096 .i32 → C F S4096x4096 .i32 → C F S4096x4096 .i32),
    binary main_v25 main_v34 main_v35 (cmpi .sge : C F S4096x4096 .i32 → C F S4096x4096 .i32 → C F S4096x4096 .i1),
    binary main_v32 main_v35 main_v36 (andi : C F S4096x4096 .i1 → C F S4096x4096 .i1 → C F S4096x4096 .i1),
    nullary main_cst_5 (constant S_ .f32 0xFF800000#32),
    TRef.unary (TRef.of (T := ⟨S_, .f32⟩) main_cst_5) (TRef.of (T := ⟨S_, .f32⟩) main_call1_v0) id,
    TRef.unary (TRef.of (T := ⟨S4096x4096, .i1⟩) main_v36) (TRef.of (T := ⟨S2x8x4096x4096, .i1⟩) main_v37_1) (broadcastInDim S2x8x4096x4096 ![2, 3] bcast_S4096x4096_S2x8x4096x4096_2_3),
    TRef.unary (TRef.of (T := ⟨S_, .f32⟩) main_call1_v0) (TRef.of (T := ⟨S2x8x4096x4096, .f32⟩) main_call1_v2) (broadcastInDim S2x8x4096x4096 ![] bcast_S_S2x8x4096x4096),
    TRef.ternary (TRef.of (T := ⟨S2x8x4096x4096, .i1⟩) main_v37_1) (TRef.of (T := ⟨S2x8x4096x4096, .f32⟩) main_v31) (TRef.of (T := ⟨S2x8x4096x4096, .f32⟩) main_call1_v2) (TRef.of (T := ⟨S2x8x4096x4096, .f32⟩) main_v37_0) select,
    TRef.nullary (TRef.of (T := ⟨S_, .f32⟩) main_call1_cst) (constant S_ .f32 0x00000000#32),
    TRef.unary (TRef.of (T := ⟨S_, .f32⟩) main_call1_cst) (TRef.of (T := ⟨S2x8x4096x4096, .f32⟩) main_v37_2) (broadcastInDim S2x8x4096x4096 ![] bcast_S_S2x8x4096x4096),
    nullary main_cst_6 (constant S_ .f32 0xFF800000#32),
    binary main_v37_0 main_cst_6 main_v38 ((fun x v => Host.reduce FloatOps.maximumf x v reducesTo_S2x8x4096x4096_S2x8x4096_d3 h_S_) : C F S2x8x4096x4096 .f32 → C F S_ .f32 → C F S2x8x4096 .f32),
    unary main_v38 main_v39 (broadcastInDim S2x8x4096x1 ![0, 1, 2] bcast_S2x8x4096_S2x8x4096x1_0_1_2 : C F S2x8x4096 .f32 → C F S2x8x4096x1 .f32),
    unary main_v39 main_v40 (broadcastInDim S2x8x4096x4096 ![0, 1, 2, 3] bcast_S2x8x4096x1_S2x8x4096x4096_0_1_2_3 : C F S2x8x4096x1 .f32 → C F S2x8x4096x4096 .f32),
    binary main_v37_0 main_v40 main_v41 (subf : C F S2x8x4096x4096 .f32 → C F S2x8x4096x4096 .f32 → C F S2x8x4096x4096 .f32),
    unary main_v41 main_v42 (Host.exp : C F S2x8x4096x4096 .f32 → C F S2x8x4096x4096 .f32),
    nullary main_cst_7 (constant S_ .f32 0x00000000#32),
    binary main_v42 main_cst_7 main_v43 ((fun x v => Host.reduceAdd x v reducesTo_S2x8x4096x4096_S2x8x4096_d3 h_S_) : C F S2x8x4096x4096 .f32 → C F S_ .f32 → C F S2x8x4096 .f32) ]

/-- @main's operations 61 … 66 of 145 (window `main_part0`). -/
abbrev ops_part0_2 : List (HloOp τ sig (Elt F)) :=
  [ unary main_v43 main_v44 (broadcastInDim S2x8x4096x1 ![0, 1, 2] bcast_S2x8x4096_S2x8x4096x1_0_1_2 : C F S2x8x4096 .f32 → C F S2x8x4096x1 .f32),
    unary main_v44 main_v45 (broadcastInDim S2x8x4096x4096 ![0, 1, 2, 3] bcast_S2x8x4096x1_S2x8x4096x4096_0_1_2_3 : C F S2x8x4096x1 .f32 → C F S2x8x4096x4096 .f32),
    binary main_v42 main_v45 main_v46 (Host.divf : C F S2x8x4096x4096 .f32 → C F S2x8x4096x4096 .f32 → C F S2x8x4096x4096 .f32),
    binary main_v44 main_v44 main_v47 (mulf : C F S2x8x4096x1 .f32 → C F S2x8x4096x1 .f32 → C F S2x8x4096x1 .f32),
    nullary main_cst_8 (constant S_ .f32 0x3F800000#32),
    unary main_cst_8 main_v48 (broadcastInDim S2x8x4096x1 ![] bcast_S_S2x8x4096x1 : C F S_ .f32 → C F S2x8x4096x1 .f32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 67 … 126 of 145 (window `main_part1`). -/
abbrev ops_part1 : List (HloOp τ sig (Elt F)) :=
  [ binary main_v48 main_v47 main_v49 (Host.divf : C F S2x8x4096x1 .f32 → C F S2x8x4096x1 .f32 → C F S2x8x4096x1 .f32),
    binary main_v11 main_v46 main_v50 ((fun l r => Host.dotGeneral dot_S2x4096x8x64_S2x8x4096x4096_S2x8x64x4096_1_3_3_2_02_01 none l r) : C F S2x4096x8x64 .f32 → C F S2x8x4096x4096 .f32 → C F S2x8x64x4096 .f32),
    unary main_v50 main_v51 ((transpose S2x4096x8x64 [0, 3, 1, 2] · transposes_S2x8x64x4096_S2x4096x8x64_0_3_1_2) : C F S2x8x64x4096 .f32 → C F S2x4096x8x64 .f32),
    binary main_v51 main_v51 main_v52 (mulf : C F S2x4096x8x64 .f32 → C F S2x4096x8x64 .f32 → C F S2x4096x8x64 .f32),
    nullary main_cst_9 (constant S_ .f32 0x00000000#32),
    binary main_v52 main_cst_9 main_v53 ((fun x v => Host.reduceAdd x v reducesTo_S2x4096x8x64_S2x4096x8_d3 h_S_) : C F S2x4096x8x64 .f32 → C F S_ .f32 → C F S2x4096x8 .f32),
    unary main_v53 main_v54 (broadcastInDim S2x4096x8x1 ![0, 1, 2] bcast_S2x4096x8_S2x4096x8x1_0_1_2 : C F S2x4096x8 .f32 → C F S2x4096x8x1 .f32),
    nullary main_cst_10 (constant S_ .f32 0x42800000#32),
    unary main_cst_10 main_v55 (broadcastInDim S2x4096x8x1 ![] bcast_S_S2x4096x8x1 : C F S_ .f32 → C F S2x4096x8x1 .f32),
    binary main_v54 main_v55 main_v56 (Host.divf : C F S2x4096x8x1 .f32 → C F S2x4096x8x1 .f32 → C F S2x4096x8x1 .f32),
    nullary main_cst_11 (constant S_ .f32 0x358637BD#32),
    unary main_cst_11 main_v57 (broadcastInDim S2x4096x8x1 ![] bcast_S_S2x4096x8x1 : C F S_ .f32 → C F S2x4096x8x1 .f32),
    binary main_v56 main_v57 main_v58 (addf : C F S2x4096x8x1 .f32 → C F S2x4096x8x1 .f32 → C F S2x4096x8x1 .f32),
    unary main_v58 main_v59 (Host.rsqrt : C F S2x4096x8x1 .f32 → C F S2x4096x8x1 .f32),
    binary main_v59 main_v58 main_v60 (Host.divf : C F S2x4096x8x1 .f32 → C F S2x4096x8x1 .f32 → C F S2x4096x8x1 .f32),
    nullary main_cst_12 (constant S_ .f32 0xBF000000#32),
    unary main_cst_12 main_v61 (broadcastInDim S2x4096x8x1 ![] bcast_S_S2x4096x8x1 : C F S_ .f32 → C F S2x4096x8x1 .f32),
    binary main_v61 main_v60 main_v62 (mulf : C F S2x4096x8x1 .f32 → C F S2x4096x8x1 .f32 → C F S2x4096x8x1 .f32),
    unary main_v59 main_v63 (broadcastInDim S2x4096x8x64 ![0, 1, 2, 3] bcast_S2x4096x8x1_S2x4096x8x64_0_1_2_3 : C F S2x4096x8x1 .f32 → C F S2x4096x8x64 .f32),
    binary main_v51 main_v63 main_v64 (mulf : C F S2x4096x8x64 .f32 → C F S2x4096x8x64 .f32 → C F S2x4096x8x64 .f32),
    reshape main_v64 main_v65 (rfl : (.f32 : EltTy) = .f32) shapeCasts_S2x4096x8x64_S2x4096x512,
    unary main_arg2 main_v66 (broadcastInDim S1x1x512 ![2] bcast_S512_S1x1x512_2 : C F S512 .f32 → C F S1x1x512 .f32),
    unary main_v66 main_v67 (broadcastInDim S2x4096x512 ![0, 1, 2] bcast_S1x1x512_S2x4096x512_0_1_2 : C F S1x1x512 .f32 → C F S2x4096x512 .f32),
    binary main_v65 main_v67 main_v68 (mulf : C F S2x4096x512 .f32 → C F S2x4096x512 .f32 → C F S2x4096x512 .f32),
    unary main_arg3 main_v69 ((extractStridedSlice S2x4096x512 ![0, 0, 512] · slices_S2x4096x1024_S2x4096x512_0_0_512) : C F S2x4096x1024 .f32 → C F S2x4096x512 .f32),
    unary main_v66 main_v70 (broadcastInDim S2x4096x512 ![0, 1, 2] bcast_S1x1x512_S2x4096x512_0_1_2 : C F S1x1x512 .f32 → C F S2x4096x512 .f32),
    binary main_v69 main_v70 main_v71 (mulf : C F S2x4096x512 .f32 → C F S2x4096x512 .f32 → C F S2x4096x512 .f32),
    reshape main_v71 main_v72 (rfl : (.f32 : EltTy) = .f32) shapeCasts_S2x4096x512_S2x4096x8x64,
    binary main_v51 main_v72 main_v73 (mulf : C F S2x4096x8x64 .f32 → C F S2x4096x8x64 .f32 → C F S2x4096x8x64 .f32),
    nullary main_cst_13 (constant S_ .f32 0x00000000#32),
    binary main_v73 main_cst_13 main_v74 ((fun x v => Host.reduceAdd x v reducesTo_S2x4096x8x64_S2x4096x8_d3 h_S_) : C F S2x4096x8x64 .f32 → C F S_ .f32 → C F S2x4096x8 .f32),
    reshape main_v74 main_v75 (rfl : (.f32 : EltTy) = .f32) shapeCasts_S2x4096x8_S2x4096x8x1,
    unary main_v59 main_v76 (broadcastInDim S2x4096x8x64 ![0, 1, 2, 3] bcast_S2x4096x8x1_S2x4096x8x64_0_1_2_3 : C F S2x4096x8x1 .f32 → C F S2x4096x8x64 .f32),
    binary main_v72 main_v76 main_v77 (mulf : C F S2x4096x8x64 .f32 → C F S2x4096x8x64 .f32 → C F S2x4096x8x64 .f32),
    binary main_v75 main_v62 main_v78 (mulf : C F S2x4096x8x1 .f32 → C F S2x4096x8x1 .f32 → C F S2x4096x8x1 .f32),
    nullary main_cst_14 (constant S_ .f32 0x42800000#32),
    unary main_cst_14 main_v79 (broadcastInDim S2x4096x8x1 ![] bcast_S_S2x4096x8x1 : C F S_ .f32 → C F S2x4096x8x1 .f32),
    binary main_v78 main_v79 main_v80 (Host.divf : C F S2x4096x8x1 .f32 → C F S2x4096x8x1 .f32 → C F S2x4096x8x1 .f32),
    nullary main_cst_15 (constant S_ .f32 0x00000000#32),
    binary main_v80 main_cst_15 main_v81 ((fun x v => Host.reduceAdd x v reducesTo_S2x4096x8x1_S2x4096x8_d3 h_S_) : C F S2x4096x8x1 .f32 → C F S_ .f32 → C F S2x4096x8 .f32),
    unary main_v81 main_v82 (broadcastInDim S2x4096x8x64 ![0, 1, 2] bcast_S2x4096x8_S2x4096x8x64_0_1_2 : C F S2x4096x8 .f32 → C F S2x4096x8x64 .f32),
    binary main_v51 main_v82 main_v83 (mulf : C F S2x4096x8x64 .f32 → C F S2x4096x8x64 .f32 → C F S2x4096x8x64 .f32),
    binary main_v77 main_v83 main_v84 (addf : C F S2x4096x8x64 .f32 → C F S2x4096x8x64 .f32 → C F S2x4096x8x64 .f32),
    binary main_v82 main_v51 main_v85 (mulf : C F S2x4096x8x64 .f32 → C F S2x4096x8x64 .f32 → C F S2x4096x8x64 .f32),
    binary main_v84 main_v85 main_v86 (addf : C F S2x4096x8x64 .f32 → C F S2x4096x8x64 .f32 → C F S2x4096x8x64 .f32),
    unary main_v86 main_v87 ((transpose S2x8x64x4096 [0, 2, 3, 1] · transposes_S2x4096x8x64_S2x8x64x4096_0_2_3_1) : C F S2x4096x8x64 .f32 → C F S2x8x64x4096 .f32),
    binary main_v87 main_v11 main_v88 ((fun l r => Host.dotGeneral dot_S2x8x64x4096_S2x4096x8x64_S2x8x4096x4096_2_3_3_1_01_02 none l r) : C F S2x8x64x4096 .f32 → C F S2x4096x8x64 .f32 → C F S2x8x4096x4096 .f32),
    binary main_v87 main_v46 main_v89 ((fun l r => Host.dotGeneral dot_S2x8x64x4096_S2x8x4096x4096_S2x8x64x4096_3_2_2_3_01_01 none l r) : C F S2x8x64x4096 .f32 → C F S2x8x4096x4096 .f32 → C F S2x8x64x4096 .f32),
    unary main_v89 main_v90 ((transpose S2x4096x8x64 [0, 3, 1, 2] · transposes_S2x8x64x4096_S2x4096x8x64_0_3_1_2) : C F S2x8x64x4096 .f32 → C F S2x4096x8x64 .f32),
    unary main_v49 main_v91 (broadcastInDim S2x8x4096x4096 ![0, 1, 2, 3] bcast_S2x8x4096x1_S2x8x4096x4096_0_1_2_3 : C F S2x8x4096x1 .f32 → C F S2x8x4096x4096 .f32),
    binary main_v88 main_v91 main_v92 (mulf : C F S2x8x4096x4096 .f32 → C F S2x8x4096x4096 .f32 → C F S2x8x4096x4096 .f32),
    binary main_v92 main_v42 main_v93 (mulf : C F S2x8x4096x4096 .f32 → C F S2x8x4096x4096 .f32 → C F S2x8x4096x4096 .f32),
    nullary main_cst_16 (constant S_ .f32 0x00000000#32),
    binary main_v93 main_cst_16 main_v94 ((fun x v => Host.reduceAdd x v reducesTo_S2x8x4096x4096_S2x8x4096_d3 h_S_) : C F S2x8x4096x4096 .f32 → C F S_ .f32 → C F S2x8x4096 .f32),
    reshape main_v94 main_v95 (rfl : (.f32 : EltTy) = .f32) shapeCasts_S2x8x4096_S2x8x4096x1,
    unary main_v95 main_v96 (Host.negf : C F S2x8x4096x1 .f32 → C F S2x8x4096x1 .f32),
    unary main_v44 main_v97 (broadcastInDim S2x8x4096x4096 ![0, 1, 2, 3] bcast_S2x8x4096x1_S2x8x4096x4096_0_1_2_3 : C F S2x8x4096x1 .f32 → C F S2x8x4096x4096 .f32),
    binary main_v88 main_v97 main_v98 (Host.divf : C F S2x8x4096x4096 .f32 → C F S2x8x4096x4096 .f32 → C F S2x8x4096x4096 .f32),
    nullary main_cst_17 (constant S_ .f32 0x00000000#32),
    binary main_v96 main_cst_17 main_v99 ((fun x v => Host.reduceAdd x v reducesTo_S2x8x4096x1_S2x8x4096_d3 h_S_) : C F S2x8x4096x1 .f32 → C F S_ .f32 → C F S2x8x4096 .f32) ]

/-- @main's operations 127 … 145 of 145 (window `main_part2`). -/
abbrev ops_part2 : List (HloOp τ sig (Elt F)) :=
  [ unary main_v99 main_v100 (broadcastInDim S2x8x4096x4096 ![0, 1, 2] bcast_S2x8x4096_S2x8x4096x4096_0_1_2 : C F S2x8x4096 .f32 → C F S2x8x4096x4096 .f32),
    binary main_v98 main_v100 main_v101 (addf : C F S2x8x4096x4096 .f32 → C F S2x8x4096x4096 .f32 → C F S2x8x4096x4096 .f32),
    binary main_v101 main_v42 main_v102 (mulf : C F S2x8x4096x4096 .f32 → C F S2x8x4096x4096 .f32 → C F S2x8x4096x4096 .f32),
    TRef.nullary (TRef.of (T := ⟨S_, .f32⟩) main_call2_cst) (constant S_ .f32 0x00000000#32),
    TRef.unary (TRef.of (T := ⟨S_, .f32⟩) main_call2_cst) (TRef.of (T := ⟨S2x8x4096x4096, .f32⟩) main_call2_v0) (broadcastInDim S2x8x4096x4096 ![] bcast_S_S2x8x4096x4096),
    TRef.ternary (TRef.of (T := ⟨S2x8x4096x4096, .i1⟩) main_v37_1) (TRef.of (T := ⟨S2x8x4096x4096, .f32⟩) main_v102) (TRef.of (T := ⟨S2x8x4096x4096, .f32⟩) main_call2_v0) (TRef.of (T := ⟨S2x8x4096x4096, .f32⟩) main_v103) select,
    nullary main_cst_18 (constant S_ .f32 0x3E000000#32),
    unary main_cst_18 main_v104 (broadcastInDim S2x8x4096x4096 ![] bcast_S_S2x8x4096x4096 : C F S_ .f32 → C F S2x8x4096x4096 .f32),
    binary main_v103 main_v104 main_v105 (mulf : C F S2x8x4096x4096 .f32 → C F S2x8x4096x4096 .f32 → C F S2x8x4096x4096 .f32),
    binary main_v105 main_v7 main_v106 ((fun l r => Host.dotGeneral dot_S2x8x4096x4096_S2x4096x8x64_S2x8x4096x64_2_1_3_3_01_02 none l r) : C F S2x8x4096x4096 .f32 → C F S2x4096x8x64 .f32 → C F S2x8x4096x64 .f32),
    unary main_v106 main_v107 ((transpose S2x4096x8x64 [0, 2, 1, 3] · transposes_S2x8x4096x64_S2x4096x8x64_0_2_1_3) : C F S2x8x4096x64 .f32 → C F S2x4096x8x64 .f32),
    binary main_v105 main_v9 main_v108 ((fun l r => Host.dotGeneral dot_S2x8x4096x4096_S2x4096x8x64_S2x8x4096x64_3_1_2_3_01_02 none l r) : C F S2x8x4096x4096 .f32 → C F S2x4096x8x64 .f32 → C F S2x8x4096x64 .f32),
    unary main_v108 main_v109 ((transpose S2x4096x8x64 [0, 2, 1, 3] · transposes_S2x8x4096x64_S2x4096x8x64_0_2_1_3) : C F S2x8x4096x64 .f32 → C F S2x4096x8x64 .f32),
    reshape main_v109 main_v110 (rfl : (.f32 : EltTy) = .f32) shapeCasts_S2x4096x8x64_S2x4096x512,
    unary main_v110 main_v111 ((truncf .bf16 · bitsLt_bf16_f32) : C F S2x4096x512 .f32 → C F S2x4096x512 .bf16),
    reshape main_v107 main_v112 (rfl : (.f32 : EltTy) = .f32) shapeCasts_S2x4096x8x64_S2x4096x512,
    unary main_v112 main_v113 ((truncf .bf16 · bitsLt_bf16_f32) : C F S2x4096x512 .f32 → C F S2x4096x512 .bf16),
    reshape main_v90 main_v114 (rfl : (.f32 : EltTy) = .f32) shapeCasts_S2x4096x8x64_S2x4096x512,
    unary main_v114 main_v115 ((truncf .bf16 · bitsLt_bf16_f32) : C F S2x4096x512 .f32 → C F S2x4096x512 .bf16) ]

/-- @main's 145 operations, in order (a called function's operations stand in its call's place, spelt `TRef.…`). -/
abbrev ops : List (HloOp τ sig (Elt F)) :=
  ops_part0 ++ (ops_part1 ++ (ops_part2))

theorem seq_cons_of {op : HloOp τ sig (Elt F)} {k : Prog (TpuEff nD τ sig (Elt F) (Pipeline.Sig Λ₀ (Fin 0) fun p => (pcfgs (F := F) p).Adm) .tc) PUnit}
    {l : List (HloOp τ sig (Elt F))} (h : k = seq l) : ((hlo rfl op fun _ => .ret (⟨⟩ : PUnit)) >>= fun _ => k) = seq (op :: l) := by
  rw [h]; rfl

theorem seq_one {op : HloOp τ sig (Elt F)} :
    (hlo rfl op (fun _ => .ret (⟨⟩ : PUnit)) : Prog (TpuEff nD τ sig (Elt F) (Pipeline.Sig Λ₀ (Fin 0) fun p => (pcfgs (F := F) p).Adm) .tc) PUnit) = seq [op] := rfl

theorem seq_take {a : TRef sig ⟨S8x257, .f32⟩} {b : TRef sig ⟨S4096x4096, .i32⟩} {φ : fn_take.Bufs}
    {k : Prog (TpuEff nD τ sig (Elt F) (Pipeline.Sig Λ₀ (Fin 0) fun p => (pcfgs (F := F) p).Adm) .tc) PUnit}
    {l : List (HloOp τ sig (Elt F))} (h : k = seq l) :
    (fn_take.body a b φ >>= fun _ => k) = seq (TRef.unary b φ.v0 (broadcastInDim S4096x4096x1 ![0, 1] bcast_S4096x4096_S4096x4096x1_0_1) ::
      TRef.binary a φ.v0 φ.v1 (fun x i => Host.gather gather_S8x257_S4096x4096x1_S8x4096x4096_0_1_n_n_1_2_81 x i) :: l) := by
  rw [h]; rfl

theorem seq_where {a : TRef sig ⟨S4096x4096, .i1⟩} {b : TRef sig ⟨S2x8x4096x4096, .f32⟩} {e : TRef sig ⟨S_, .f32⟩} {φ : fn_where.Bufs}
    {k : Prog (TpuEff nD τ sig (Elt F) (Pipeline.Sig Λ₀ (Fin 0) fun p => (pcfgs (F := F) p).Adm) .tc) PUnit}
    {l : List (HloOp τ sig (Elt F))} (h : k = seq l) :
    (fn_where.body a b e φ >>= fun _ => k) = seq (TRef.unary e φ.v0 id ::
      TRef.unary a φ.v1 (broadcastInDim S2x8x4096x4096 ![2, 3] bcast_S4096x4096_S2x8x4096x4096_2_3) ::
      TRef.unary φ.v0 φ.v2 (broadcastInDim S2x8x4096x4096 ![] bcast_S_S2x8x4096x4096) ::
      TRef.ternary φ.v1 b φ.v2 φ.v3 select ::
      TRef.nullary φ.cst (constant S_ .f32 0x00000000#32) ::
      TRef.unary φ.cst φ.v4 (broadcastInDim S2x8x4096x4096 ![] bcast_S_S2x8x4096x4096) :: l) := by
  rw [h]; rfl

set_option maxRecDepth 8192 in
set_option maxHeartbeats 4000000 in
theorem main_part0_eq (c : Dev nD) : main_part0 (F := F) c = seq ops_part0 := by
  unfold ops_part0 ops_part0_0 ops_part0_1 ops_part0_2 main_part0
  simp only [List.cons_append, List.nil_append]
  repeat first | exact seq_one | apply seq_cons_of | apply seq_take | apply seq_where
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., reshape_bufs_sub .., unary_bufs_sub .., reshape_bufs_sub .., unary_bufs_sub .., reshape_bufs_sub .., nullary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., binary_bufs_sub .., binary_bufs_sub .., nullary_bufs_sub .., unary_bufs_sub .., unary_bufs_sub .., unary_bufs_sub .., ternary_bufs_sub .., nullary_bufs_sub .., unary_bufs_sub .., nullary_bufs_sub .., binary_bufs_sub .., unary_bufs_sub .., unary_bufs_sub .., binary_bufs_sub .., unary_bufs_sub .., nullary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub .., binary_bufs_sub .., binary_bufs_sub .., nullary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl⟩
set_option maxRecDepth 8192 in
theorem ops_part1_sub : (ops_part1 : List (HloOp τ sig (Elt F))).Forall fun op => op.bufs ⊆ tcRefs τ sig :=
  ⟨binary_bufs_sub .., binary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., reshape_bufs_sub .., unary_bufs_sub .., unary_bufs_sub .., binary_bufs_sub .., unary_bufs_sub .., unary_bufs_sub .., binary_bufs_sub .., reshape_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub .., binary_bufs_sub .., binary_bufs_sub .., unary_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., binary_bufs_sub .., binary_bufs_sub .., nullary_bufs_sub .., unary_bufs_sub .., ternary_bufs_sub .., nullary_bufs_sub .., unary_bufs_sub .., binary_bufs_sub .., binary_bufs_sub .., unary_bufs_sub .., binary_bufs_sub .., unary_bufs_sub .., reshape_bufs_sub .., unary_bufs_sub .., reshape_bufs_sub .., unary_bufs_sub .., reshape_bufs_sub .., unary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_sub op h]
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_fresh op h]

set_option maxRecDepth 8192 in
/-- `main_v7`'s composed term of the arguments (named: it is used 2 times). -/
def res_main_v7 (V0 : Valuation τ sig (Elt F)) : (Proc.devRef .tc main_v7 : DevRef τ sig).ty.Contents (Elt F) :=
  shapeCast _ (extf .f32 (extractStridedSlice S2x4096x512 ![0, 0, 1536] (V0 (Proc.devRef .tc main_arg0)) slices_S2x4096x3072_S2x4096x512_0_0_1536) bitsLt_bf16_f32) shapeCasts_S2x4096x512_S2x4096x8x64

set_option maxRecDepth 8192 in
/-- `main_v9`'s composed term of the arguments (named: it is used 2 times). -/
def res_main_v9 (V0 : Valuation τ sig (Elt F)) : (Proc.devRef .tc main_v9 : DevRef τ sig).ty.Contents (Elt F) :=
  shapeCast _ (extf .f32 (extractStridedSlice S2x4096x512 ![0, 0, 2048] (V0 (Proc.devRef .tc main_arg0)) slices_S2x4096x3072_S2x4096x512_0_0_2048) bitsLt_bf16_f32) shapeCasts_S2x4096x512_S2x4096x8x64

set_option maxRecDepth 8192 in
/-- `main_v11`'s composed term of the arguments (named: it is used 2 times). -/
def res_main_v11 (V0 : Valuation τ sig (Elt F)) : (Proc.devRef .tc main_v11 : DevRef τ sig).ty.Contents (Elt F) :=
  shapeCast _ (extf .f32 (extractStridedSlice S2x4096x512 ![0, 0, 2560] (V0 (Proc.devRef .tc main_arg0)) slices_S2x4096x3072_S2x4096x512_0_0_2560) bitsLt_bf16_f32) shapeCasts_S2x4096x512_S2x4096x8x64

set_option maxRecDepth 8192 in
/-- `main_v12`'s composed term of the arguments (named: it is used 2 times). -/
def res_main_v12 (V0 : Valuation τ sig (Elt F)) : (Proc.devRef .tc main_v12 : DevRef τ sig).ty.Contents (Elt F) :=
  iotaInDim S4096x4096 32 0

set_option maxRecDepth 8192 in
/-- `main_v13`'s composed term of the arguments (named: it is used 2 times). -/
def res_main_v13 (V0 : Valuation τ sig (Elt F)) : (Proc.devRef .tc main_v13 : DevRef τ sig).ty.Contents (Elt F) :=
  iotaInDim S4096x4096 32 1

set_option maxRecDepth 8192 in
/-- `main_v23`'s composed term of the arguments (named: it is used 2 times). -/
def res_main_v23 (V0 : Valuation τ sig (Elt F)) : (Proc.devRef .tc main_v23 : DevRef τ sig).ty.Contents (Elt F) :=
  Host.divsi (res_main_v12 V0) (broadcastInDim S4096x4096 ![] bcast_S_S4096x4096 (constantI S_ 32 64#32))

set_option maxRecDepth 8192 in
/-- `main_v25`'s composed term of the arguments (named: it is used 2 times). -/
def res_main_v25 (V0 : Valuation τ sig (Elt F)) : (Proc.devRef .tc main_v25 : DevRef τ sig).ty.Contents (Elt F) :=
  Host.divsi (res_main_v13 V0) (broadcastInDim S4096x4096 ![] bcast_S_S4096x4096 (constantI S_ 32 64#32))

set_option maxRecDepth 8192 in
/-- `main_v37_1`'s composed term of the arguments (named: it is used 2 times). -/
def res_main_v37_1 (V0 : Valuation τ sig (Elt F)) : (Proc.devRef .tc main_v37_1 : DevRef τ sig).ty.Contents (Elt F) :=
  broadcastInDim S2x8x4096x4096 ![2, 3] bcast_S4096x4096_S2x8x4096x4096_2_3 (andi (cmpi .sle (res_main_v25 V0) (res_main_v23 V0)) (cmpi .sge (res_main_v25 V0) (subi (res_main_v23 V0) (broadcastInDim S4096x4096 ![] bcast_S_S4096x4096 (constantI S_ 32 8#32)))))

set_option maxRecDepth 8192 in
/-- `main_v37_0`'s composed term of the arguments (named: it is used 2 times). -/
def res_main_v37_0 (V0 : Valuation τ sig (Elt F)) : (Proc.devRef .tc main_v37_0 : DevRef τ sig).ty.Contents (Elt F) :=
  select (res_main_v37_1 V0) (addf (mulf (Host.dotGeneral dot_S2x4096x8x64_S2x4096x8x64_S2x8x4096x4096_3_3_1_1_02_02 none (res_main_v7 V0) (res_main_v9 V0)) (broadcastInDim S2x8x4096x4096 ![] bcast_S_S2x8x4096x4096 (constant S_ .f32 0x3E000000#32))) (broadcastInDim S2x8x4096x4096 ![0, 1, 2, 3] bcast_S1x8x4096x4096_S2x8x4096x4096_0_1_2_3 (broadcastInDim S1x8x4096x4096 ![1, 2, 3] bcast_S8x4096x4096_S1x8x4096x4096_1_2_3 (Host.gather gather_S8x257_S4096x4096x1_S8x4096x4096_0_1_n_n_1_2_81 (V0 (Proc.devRef .tc main_arg1)) (broadcastInDim S4096x4096x1 ![0, 1] bcast_S4096x4096_S4096x4096x1_0_1 (addi (minsi (maxsi (subi (res_main_v12 V0) (res_main_v13 V0)) (broadcastInDim S4096x4096 ![] bcast_S_S4096x4096 (constantI S_ 32 4294967168#32))) (broadcastInDim S4096x4096 ![] bcast_S_S4096x4096 (constantI S_ 32 128#32))) (broadcastInDim S4096x4096 ![] bcast_S_S4096x4096 (constantI S_ 32 128#32)))))))) (broadcastInDim S2x8x4096x4096 ![] bcast_S_S2x8x4096x4096 (id (constant S_ .f32 0xFF800000#32)))

set_option maxRecDepth 8192 in
/-- `main_v42`'s composed term of the arguments (named: it is used 4 times). -/
def res_main_v42 (V0 : Valuation τ sig (Elt F)) : (Proc.devRef .tc main_v42 : DevRef τ sig).ty.Contents (Elt F) :=
  Host.exp (subf (res_main_v37_0 V0) (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduce FloatOps.maximumf (res_main_v37_0 V0) (constant S_ .f32 0xFF800000#32) reducesTo_S2x8x4096x4096_S2x8x4096_d3 h_S_))))

set_option maxRecDepth 8192 in
/-- `main_v44`'s composed term of the arguments (named: it is used 4 times). -/
def res_main_v44 (V0 : Valuation τ sig (Elt F)) : (Proc.devRef .tc main_v44 : DevRef τ sig).ty.Contents (Elt F) :=
  broadcastInDim S2x8x4096x1 ![0, 1, 2] bcast_S2x8x4096_S2x8x4096x1_0_1_2 (Host.reduceAdd (res_main_v42 V0) (constant S_ .f32 0x00000000#32) reducesTo_S2x8x4096x4096_S2x8x4096_d3 h_S_)

set_option maxRecDepth 8192 in
/-- `main_v46`'s composed term of the arguments (named: it is used 2 times). -/
def res_main_v46 (V0 : Valuation τ sig (Elt F)) : (Proc.devRef .tc main_v46 : DevRef τ sig).ty.Contents (Elt F) :=
  Host.divf (res_main_v42 V0) (broadcastInDim S2x8x4096x4096 ![0, 1, 2, 3] bcast_S2x8x4096x1_S2x8x4096x4096_0_1_2_3 (res_main_v44 V0))

set_option maxRecDepth 8192 in
/-- `main_v51`'s composed term of the arguments (named: it is used 6 times). -/
def res_main_v51 (V0 : Valuation τ sig (Elt F)) : (Proc.devRef .tc main_v51 : DevRef τ sig).ty.Contents (Elt F) :=
  transpose S2x4096x8x64 [0, 3, 1, 2] (Host.dotGeneral dot_S2x4096x8x64_S2x8x4096x4096_S2x8x64x4096_1_3_3_2_02_01 none (res_main_v11 V0) (res_main_v46 V0)) transposes_S2x8x64x4096_S2x4096x8x64_0_3_1_2

set_option maxRecDepth 8192 in
/-- `main_v58`'s composed term of the arguments (named: it is used 2 times). -/
def res_main_v58 (V0 : Valuation τ sig (Elt F)) : (Proc.devRef .tc main_v58 : DevRef τ sig).ty.Contents (Elt F) :=
  addf (Host.divf (broadcastInDim S2x4096x8x1 ![0, 1, 2] bcast_S2x4096x8_S2x4096x8x1_0_1_2 (Host.reduceAdd (mulf (res_main_v51 V0) (res_main_v51 V0)) (constant S_ .f32 0x00000000#32) reducesTo_S2x4096x8x64_S2x4096x8_d3 h_S_)) (broadcastInDim S2x4096x8x1 ![] bcast_S_S2x4096x8x1 (constant S_ .f32 0x42800000#32))) (broadcastInDim S2x4096x8x1 ![] bcast_S_S2x4096x8x1 (constant S_ .f32 0x358637BD#32))

set_option maxRecDepth 8192 in
/-- `main_v59`'s composed term of the arguments (named: it is used 3 times). -/
def res_main_v59 (V0 : Valuation τ sig (Elt F)) : (Proc.devRef .tc main_v59 : DevRef τ sig).ty.Contents (Elt F) :=
  Host.rsqrt (res_main_v58 V0)

set_option maxRecDepth 8192 in
/-- `main_v66`'s composed term of the arguments (named: it is used 2 times). -/
def res_main_v66 (V0 : Valuation τ sig (Elt F)) : (Proc.devRef .tc main_v66 : DevRef τ sig).ty.Contents (Elt F) :=
  broadcastInDim S1x1x512 ![2] bcast_S512_S1x1x512_2 (V0 (Proc.devRef .tc main_arg2))

set_option maxRecDepth 8192 in
/-- `main_v72`'s composed term of the arguments (named: it is used 2 times). -/
def res_main_v72 (V0 : Valuation τ sig (Elt F)) : (Proc.devRef .tc main_v72 : DevRef τ sig).ty.Contents (Elt F) :=
  shapeCast _ (mulf (extractStridedSlice S2x4096x512 ![0, 0, 512] (V0 (Proc.devRef .tc main_arg3)) slices_S2x4096x1024_S2x4096x512_0_0_512) (broadcastInDim S2x4096x512 ![0, 1, 2] bcast_S1x1x512_S2x4096x512_0_1_2 (res_main_v66 V0))) shapeCasts_S2x4096x512_S2x4096x8x64

set_option maxRecDepth 8192 in
/-- `main_v82`'s composed term of the arguments (named: it is used 2 times). -/
def res_main_v82 (V0 : Valuation τ sig (Elt F)) : (Proc.devRef .tc main_v82 : DevRef τ sig).ty.Contents (Elt F) :=
  broadcastInDim S2x4096x8x64 ![0, 1, 2] bcast_S2x4096x8_S2x4096x8x64_0_1_2 (Host.reduceAdd (Host.divf (mulf (shapeCast _ (Host.reduceAdd (mulf (res_main_v51 V0) (res_main_v72 V0)) (constant S_ .f32 0x00000000#32) reducesTo_S2x4096x8x64_S2x4096x8_d3 h_S_) shapeCasts_S2x4096x8_S2x4096x8x1) (mulf (broadcastInDim S2x4096x8x1 ![] bcast_S_S2x4096x8x1 (constant S_ .f32 0xBF000000#32)) (Host.divf (res_main_v59 V0) (res_main_v58 V0)))) (broadcastInDim S2x4096x8x1 ![] bcast_S_S2x4096x8x1 (constant S_ .f32 0x42800000#32))) (constant S_ .f32 0x00000000#32) reducesTo_S2x4096x8x1_S2x4096x8_d3 h_S_)

set_option maxRecDepth 8192 in
/-- `main_v87`'s composed term of the arguments (named: it is used 2 times). -/
def res_main_v87 (V0 : Valuation τ sig (Elt F)) : (Proc.devRef .tc main_v87 : DevRef τ sig).ty.Contents (Elt F) :=
  transpose S2x8x64x4096 [0, 2, 3, 1] (addf (addf (mulf (res_main_v72 V0) (broadcastInDim S2x4096x8x64 ![0, 1, 2, 3] bcast_S2x4096x8x1_S2x4096x8x64_0_1_2_3 (res_main_v59 V0))) (mulf (res_main_v51 V0) (res_main_v82 V0))) (mulf (res_main_v82 V0) (res_main_v51 V0))) transposes_S2x4096x8x64_S2x8x64x4096_0_2_3_1

set_option maxRecDepth 8192 in
/-- `main_v88`'s composed term of the arguments (named: it is used 2 times). -/
def res_main_v88 (V0 : Valuation τ sig (Elt F)) : (Proc.devRef .tc main_v88 : DevRef τ sig).ty.Contents (Elt F) :=
  Host.dotGeneral dot_S2x8x64x4096_S2x4096x8x64_S2x8x4096x4096_2_3_3_1_01_02 none (res_main_v87 V0) (res_main_v11 V0)

set_option maxRecDepth 8192 in
/-- `main_v105`'s composed term of the arguments (named: it is used 2 times). -/
def res_main_v105 (V0 : Valuation τ sig (Elt F)) : (Proc.devRef .tc main_v105 : DevRef τ sig).ty.Contents (Elt F) :=
  mulf (select (res_main_v37_1 V0) (mulf (addf (Host.divf (res_main_v88 V0) (broadcastInDim S2x8x4096x4096 ![0, 1, 2, 3] bcast_S2x8x4096x1_S2x8x4096x4096_0_1_2_3 (res_main_v44 V0))) (broadcastInDim S2x8x4096x4096 ![0, 1, 2] bcast_S2x8x4096_S2x8x4096x4096_0_1_2 (Host.reduceAdd (Host.negf (shapeCast _ (Host.reduceAdd (mulf (mulf (res_main_v88 V0) (broadcastInDim S2x8x4096x4096 ![0, 1, 2, 3] bcast_S2x8x4096x1_S2x8x4096x4096_0_1_2_3 (Host.divf (broadcastInDim S2x8x4096x1 ![] bcast_S_S2x8x4096x1 (constant S_ .f32 0x3F800000#32)) (mulf (res_main_v44 V0) (res_main_v44 V0))))) (res_main_v42 V0)) (constant S_ .f32 0x00000000#32) reducesTo_S2x8x4096x4096_S2x8x4096_d3 h_S_) shapeCasts_S2x8x4096_S2x8x4096x1)) (constant S_ .f32 0x00000000#32) reducesTo_S2x8x4096x1_S2x8x4096_d3 h_S_))) (res_main_v42 V0)) (broadcastInDim S2x8x4096x4096 ![] bcast_S_S2x8x4096x4096 (constant S_ .f32 0x00000000#32))) (broadcastInDim S2x8x4096x4096 ![] bcast_S_S2x8x4096x4096 (constant S_ .f32 0x3E000000#32))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_c, main_v15, main_v16, main_c_0, main_v17, main_v18, main_c_1, main_v19, main_v20, main_call0_v0, main_v21, main_c_2, main_v22, main_v23, main_c_3]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v9 (V0 : Valuation τ sig (Elt F)) : val0_1 V0 (no_index (Proc.devRef .tc main_v9)) = res_main_v9 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v13 (V0 : Valuation τ sig (Elt F)) : val0_1 V0 (no_index (Proc.devRef .tc main_v13)) = res_main_v13 V0 := by
  unfold val0_1
  simp only [ops_part0_0, TRef.binary, TRef.unary, TRef.toBuf, TRef.ofBuf, cast_eq]
  after_results_simp
  all_goals rfl
set_option maxRecDepth 8192 in
set_option maxHeartbeats 2000000 in
theorem val0_1_main_v21 (V0 : Valuation τ sig (Elt F)) : val0_1 V0 (no_index (Proc.devRef .tc main_v21)) = Host.gather gather_S8x257_S4096x4096x1_S8x4096x4096_0_1_n_n_1_2_81 (V0 (Proc.devRef .tc main_arg1)) (broadcastInDim S4096x4096x1 ![0, 1] bcast_S4096x4096_S4096x4096x1_0_1 (addi (minsi (maxsi (subi (res_main_v12 V0) (res_main_v13 V0)) (broadcastInDim S4096x4096 ![] bcast_S_S4096x4096 (constantI S_ 32 4294967168#32))) (broadcastInDim S4096x4096 ![] bcast_S_S4096x4096 (constantI S_ 32 128#32))) (broadcastInDim S4096x4096 ![] bcast_S_S4096x4096 (constantI S_ 32 128#32)))) := by
  unfold val0_1
  simp only [ops_part0_0, TRef.binary, TRef.unary, TRef.toBuf, TRef.ofBuf, cast_eq]
  after_results_simp
  simp only [val0_main_arg1] <;> rfl
set_option maxRecDepth 8192 in
set_option maxHeartbeats 2000000 in
theorem val0_1_main_v23 (V0 : Valuation τ sig (Elt F)) : val0_1 V0 (no_index (Proc.devRef .tc main_v23)) = res_main_v23 V0 := by
  unfold val0_1
  simp only [ops_part0_0, TRef.binary, TRef.unary, TRef.toBuf, TRef.ofBuf, cast_eq]
  after_results_simp
  all_goals rfl
set_option maxRecDepth 8192 in
set_option maxHeartbeats 2000000 in
theorem val0_1_main_c_3 (V0 : Valuation τ sig (Elt F)) : val0_1 V0 (no_index (Proc.devRef .tc main_c_3)) = constantI S_ 32 64#32 := by
  unfold val0_1
  simp only [ops_part0_0, TRef.binary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v24, main_v25, main_v26, main_cst, main_v27, main_v28, main_v29, main_v30, main_v31, main_v32, main_c_4, main_v33, main_v34, main_v35, main_v36, main_cst_5, main_call1_v0, main_v37_1, main_call1_v2, main_v37_0, main_call1_cst, main_v37_2, main_cst_6, main_v38, main_v39, main_v40, main_v41, main_v42, main_cst_7, main_v43]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_v7 (V0 : Valuation τ sig (Elt F)) : val0_2 V0 (no_index (Proc.devRef .tc main_v7)) = res_main_v7 V0 :=
  (val0_2_keep V0 main_v7 (by decide)).trans (val0_1_main_v7 V0)
theorem val0_2_main_v9 (V0 : Valuation τ sig (Elt F)) : val0_2 V0 (no_index (Proc.devRef .tc main_v9)) = res_main_v9 V0 :=
  (val0_2_keep V0 main_v9 (by decide)).trans (val0_1_main_v9 V0)
theorem val0_2_main_v11 (V0 : Valuation τ sig (Elt F)) : val0_2 V0 (no_index (Proc.devRef .tc main_v11)) = res_main_v11 V0 :=
  (val0_2_keep V0 main_v11 (by decide)).trans (val0_1_main_v11 V0)
set_option maxRecDepth 8192 in
set_option maxHeartbeats 2000000 in
theorem val0_2_main_v37_1 (V0 : Valuation τ sig (Elt F)) : val0_2 V0 (no_index (Proc.devRef .tc main_v37_1)) = res_main_v37_1 V0 := by
  unfold val0_2
  simp only [ops_part0_1, TRef.nullary, TRef.ternary, TRef.unary, TRef.toBuf, TRef.ofBuf, cast_eq]
  after_results_simp
  simp only [val0_1_main_v23, val0_1_main_c_3, val0_1_main_v13] <;> rfl
set_option maxRecDepth 8192 in
set_option maxHeartbeats 2000000 in
theorem val0_2_main_v42 (V0 : Valuation τ sig (Elt F)) : val0_2 V0 (no_index (Proc.devRef .tc main_v42)) = res_main_v42 V0 := by
  unfold val0_2
  simp only [ops_part0_1, TRef.nullary, TRef.ternary, TRef.unary, TRef.toBuf, TRef.ofBuf, cast_eq]
  after_results_simp
  simp only [val0_1_main_v21, val0_1_main_v9, val0_1_main_v7, val0_1_main_v23, val0_1_main_c_3, val0_1_main_v13] <;> rfl
set_option maxRecDepth 8192 in
set_option maxHeartbeats 2000000 in
theorem val0_2_main_v43 (V0 : Valuation τ sig (Elt F)) : val0_2 V0 (no_index (Proc.devRef .tc main_v43)) = Host.reduceAdd (res_main_v42 V0) (constant S_ .f32 0x00000000#32) reducesTo_S2x8x4096x4096_S2x8x4096_d3 h_S_ := by
  unfold val0_2
  simp only [ops_part0_1, TRef.nullary, TRef.ternary, TRef.unary, TRef.toBuf, TRef.ofBuf, cast_eq]
  after_results_simp
  simp only [val0_1_main_v21, val0_1_main_v9, val0_1_main_v7, val0_1_main_v23, val0_1_main_c_3, val0_1_main_v13] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v44, main_v45, main_v46, main_v47, main_cst_8, main_v48]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_v7 (V0 : Valuation τ sig (Elt F)) : val1 V0 (no_index (Proc.devRef .tc main_v7)) = res_main_v7 V0 :=
  (val1_keep V0 main_v7 (by decide)).trans (val0_2_main_v7 V0)
theorem val1_main_v9 (V0 : Valuation τ sig (Elt F)) : val1 V0 (no_index (Proc.devRef .tc main_v9)) = res_main_v9 V0 :=
  (val1_keep V0 main_v9 (by decide)).trans (val0_2_main_v9 V0)
theorem val1_main_v11 (V0 : Valuation τ sig (Elt F)) : val1 V0 (no_index (Proc.devRef .tc main_v11)) = res_main_v11 V0 :=
  (val1_keep V0 main_v11 (by decide)).trans (val0_2_main_v11 V0)
theorem val1_main_v37_1 (V0 : Valuation τ sig (Elt F)) : val1 V0 (no_index (Proc.devRef .tc main_v37_1)) = res_main_v37_1 V0 :=
  (val1_keep V0 main_v37_1 (by decide)).trans (val0_2_main_v37_1 V0)
theorem val1_main_v42 (V0 : Valuation τ sig (Elt F)) : val1 V0 (no_index (Proc.devRef .tc main_v42)) = res_main_v42 V0 :=
  (val1_keep V0 main_v42 (by decide)).trans (val0_2_main_v42 V0)
set_option maxRecDepth 8192 in
theorem val1_main_v44 (V0 : Valuation τ sig (Elt F)) : val1 V0 (no_index (Proc.devRef .tc main_v44)) = res_main_v44 V0 := by
  unfold val1
  simp only [ops_part0_2]
  after_results_simp
  simp only [val0_2_main_v43] <;> rfl
set_option maxRecDepth 8192 in
theorem val1_main_v46 (V0 : Valuation τ sig (Elt F)) : val1 V0 (no_index (Proc.devRef .tc main_v46)) = res_main_v46 V0 := by
  unfold val1
  simp only [ops_part0_2]
  after_results_simp
  simp only [val0_2_main_v43, val0_2_main_v42] <;> rfl
set_option maxRecDepth 8192 in
theorem val1_main_v47 (V0 : Valuation τ sig (Elt F)) : val1 V0 (no_index (Proc.devRef .tc main_v47)) = mulf (res_main_v44 V0) (res_main_v44 V0) := by
  unfold val1
  simp only [ops_part0_2]
  after_results_simp
  simp only [val0_2_main_v43] <;> rfl
set_option maxRecDepth 8192 in
theorem val1_main_v48 (V0 : Valuation τ sig (Elt F)) : val1 V0 (no_index (Proc.devRef .tc main_v48)) = broadcastInDim S2x8x4096x1 ![] bcast_S_S2x8x4096x1 (constant S_ .f32 0x3F800000#32) := by
  unfold val1
  simp only [ops_part0_2]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v49, main_v50, main_v51, main_v52, main_cst_9, main_v53, main_v54, main_cst_10, main_v55, main_v56, main_cst_11, main_v57, main_v58, main_v59, main_v60, main_cst_12, main_v61, main_v62, main_v63, main_v64, main_v65, main_v66, main_v67, main_v68, main_v69, main_v70, main_v71, main_v72, main_v73, main_cst_13, main_v74, main_v75, main_v76, main_v77, main_v78, main_cst_14, main_v79, main_v80, main_cst_15, main_v81, main_v82, main_v83, main_v84, main_v85, main_v86, main_v87, main_v88, main_v89, main_v90, main_v91, main_v92, main_v93, main_cst_16, main_v94, main_v95, main_v96, main_v97, main_v98, main_cst_17, main_v99]
set_option maxRecDepth 8192 in
theorem ops_part1_writes : (ops_part1 : List (HloOp τ sig (Elt F))).Forall fun op => op.writes ⊆ (ops_part1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_v7 (V0 : Valuation τ sig (Elt F)) : val2 V0 (no_index (Proc.devRef .tc main_v7)) = res_main_v7 V0 :=
  (val2_keep V0 main_v7 (by decide)).trans (val1_main_v7 V0)
theorem val2_main_v9 (V0 : Valuation τ sig (Elt F)) : val2 V0 (no_index (Proc.devRef .tc main_v9)) = res_main_v9 V0 :=
  (val2_keep V0 main_v9 (by decide)).trans (val1_main_v9 V0)
theorem val2_main_v37_1 (V0 : Valuation τ sig (Elt F)) : val2 V0 (no_index (Proc.devRef .tc main_v37_1)) = res_main_v37_1 V0 :=
  (val2_keep V0 main_v37_1 (by decide)).trans (val1_main_v37_1 V0)
theorem val2_main_v42 (V0 : Valuation τ sig (Elt F)) : val2 V0 (no_index (Proc.devRef .tc main_v42)) = res_main_v42 V0 :=
  (val2_keep V0 main_v42 (by decide)).trans (val1_main_v42 V0)
set_option maxRecDepth 8192 in
set_option maxHeartbeats 2000000 in
theorem val2_main_v90 (V0 : Valuation τ sig (Elt F)) : val2 V0 (no_index (Proc.devRef .tc main_v90)) = transpose S2x4096x8x64 [0, 3, 1, 2] (Host.dotGeneral dot_S2x8x64x4096_S2x8x4096x4096_S2x8x64x4096_3_2_2_3_01_01 none (res_main_v87 V0) (res_main_v46 V0)) transposes_S2x8x64x4096_S2x4096x8x64_0_3_1_2 := by
  unfold val2
  simp only [ops_part1]
  after_results_simp
  simp only [val1_main_v46, val1_main_v11, val1_main_arg2, val1_main_arg3] <;> rfl
set_option maxRecDepth 8192 in
set_option maxHeartbeats 2000000 in
theorem val2_main_v98 (V0 : Valuation τ sig (Elt F)) : val2 V0 (no_index (Proc.devRef .tc main_v98)) = Host.divf (res_main_v88 V0) (broadcastInDim S2x8x4096x4096 ![0, 1, 2, 3] bcast_S2x8x4096x1_S2x8x4096x4096_0_1_2_3 (res_main_v44 V0)) := by
  unfold val2
  simp only [ops_part1]
  after_results_simp
  simp only [val1_main_v44, val1_main_v11, val1_main_v46, val1_main_arg2, val1_main_arg3] <;> rfl
set_option maxRecDepth 8192 in
set_option maxHeartbeats 2000000 in
theorem val2_main_v99 (V0 : Valuation τ sig (Elt F)) : val2 V0 (no_index (Proc.devRef .tc main_v99)) = Host.reduceAdd (Host.negf (shapeCast _ (Host.reduceAdd (mulf (mulf (res_main_v88 V0) (broadcastInDim S2x8x4096x4096 ![0, 1, 2, 3] bcast_S2x8x4096x1_S2x8x4096x4096_0_1_2_3 (Host.divf (broadcastInDim S2x8x4096x1 ![] bcast_S_S2x8x4096x1 (constant S_ .f32 0x3F800000#32)) (mulf (res_main_v44 V0) (res_main_v44 V0))))) (res_main_v42 V0)) (constant S_ .f32 0x00000000#32) reducesTo_S2x8x4096x4096_S2x8x4096_d3 h_S_) shapeCasts_S2x8x4096_S2x8x4096x1)) (constant S_ .f32 0x00000000#32) reducesTo_S2x8x4096x1_S2x8x4096_d3 h_S_ := by
  unfold val2
  simp only [ops_part1]
  after_results_simp
  simp only [val1_main_v42, val1_main_v47, val1_main_v48, val1_main_v11, val1_main_v46, val1_main_arg2, val1_main_arg3] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v100, main_v101, main_v102, main_call2_cst, main_call2_v0, main_v103, main_cst_18, main_v104, main_v105, main_v106, main_v107, main_v108, main_v109, main_v110, main_v111, main_v112, main_v113, main_v114, main_v115]
set_option maxRecDepth 8192 in
theorem ops_part2_writes : (ops_part2 : List (HloOp τ sig (Elt F))).Forall fun op => op.writes ⊆ (ops_part2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
set_option maxRecDepth 8192 in
set_option maxHeartbeats 1900000 in
theorem val3_main_v111 (V0 : Valuation τ sig (Elt F)) : val3 V0 (no_index (Proc.devRef .tc main_v111)) = truncf .bf16 (shapeCast _ (transpose S2x4096x8x64 [0, 2, 1, 3] (Host.dotGeneral dot_S2x8x4096x4096_S2x4096x8x64_S2x8x4096x64_3_1_2_3_01_02 none (res_main_v105 V0) (res_main_v9 V0)) transposes_S2x8x4096x64_S2x4096x8x64_0_2_1_3) shapeCasts_S2x4096x8x64_S2x4096x512) bitsLt_bf16_f32 := by
  unfold val3
  simp only [ops_part2, TRef.nullary, TRef.ternary, TRef.unary, TRef.toBuf, TRef.ofBuf, cast_eq]
  after_results_simp
  simp only [val2_main_v9, val2_main_v42, val2_main_v99, val2_main_v98, val2_main_v37_1] <;> rfl
set_option maxRecDepth 8192 in
set_option maxHeartbeats 1900000 in
theorem val3_main_v113 (V0 : Valuation τ sig (Elt F)) : val3 V0 (no_index (Proc.devRef .tc main_v113)) = truncf .bf16 (shapeCast _ (transpose S2x4096x8x64 [0, 2, 1, 3] (Host.dotGeneral dot_S2x8x4096x4096_S2x4096x8x64_S2x8x4096x64_2_1_3_3_01_02 none (res_main_v105 V0) (res_main_v7 V0)) transposes_S2x8x4096x64_S2x4096x8x64_0_2_1_3) shapeCasts_S2x4096x8x64_S2x4096x512) bitsLt_bf16_f32 := by
  unfold val3
  simp only [ops_part2, TRef.nullary, TRef.ternary, TRef.unary, TRef.toBuf, TRef.ofBuf, cast_eq]
  after_results_simp
  simp only [val2_main_v7, val2_main_v42, val2_main_v99, val2_main_v98, val2_main_v37_1] <;> rfl
set_option maxRecDepth 8192 in
set_option maxHeartbeats 1900000 in
theorem val3_main_v115 (V0 : Valuation τ sig (Elt F)) : val3 V0 (no_index (Proc.devRef .tc main_v115)) = truncf .bf16 (shapeCast _ (transpose S2x4096x8x64 [0, 3, 1, 2] (Host.dotGeneral dot_S2x8x64x4096_S2x8x4096x4096_S2x8x64x4096_3_2_2_3_01_01 none (res_main_v87 V0) (res_main_v46 V0)) transposes_S2x8x64x4096_S2x4096x8x64_0_3_1_2) shapeCasts_S2x4096x8x64_S2x4096x512) bitsLt_bf16_f32 := by
  unfold val3
  simp only [ops_part2, TRef.nullary, TRef.ternary, TRef.unary, TRef.toBuf, TRef.ofBuf, cast_eq]
  after_results_simp
  simp only [val2_main_v90] <;> rfl

theorem after_ops (V0 : Valuation τ sig (Elt F)) : after ops V0 = val3 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = truncf .bf16 (shapeCast _ (transpose S2x4096x8x64 [0, 2, 1, 3] (Host.dotGeneral dot_S2x8x4096x4096_S2x4096x8x64_S2x8x4096x64_3_1_2_3_01_02 none (res_main_v105 (launchContents m c)) (res_main_v9 (launchContents m c))) transposes_S2x8x4096x64_S2x4096x8x64_0_2_1_3) shapeCasts_S2x4096x8x64_S2x4096x512) bitsLt_bf16_f32
      ∧ r.2.mem ((c.tc : Thread nD τ).loc main_v113) = truncf .bf16 (shapeCast _ (transpose S2x4096x8x64 [0, 2, 1, 3] (Host.dotGeneral dot_S2x8x4096x4096_S2x4096x8x64_S2x8x4096x64_2_1_3_3_01_02 none (res_main_v105 (launchContents m c)) (res_main_v7 (launchContents m c))) transposes_S2x8x4096x64_S2x4096x8x64_0_2_1_3) shapeCasts_S2x4096x8x64_S2x4096x512) bitsLt_bf16_f32
      ∧ r.2.mem ((c.tc : Thread nD τ).loc main_v115) = truncf .bf16 (shapeCast _ (transpose S2x4096x8x64 [0, 3, 1, 2] (Host.dotGeneral dot_S2x8x64x4096_S2x8x4096x4096_S2x8x64x4096_3_2_2_3_01_01 none (res_main_v87 (launchContents m c)) (res_main_v46 (launchContents m c))) transposes_S2x8x64x4096_S2x4096x8x64_0_3_1_2) shapeCasts_S2x4096x8x64_S2x4096x512) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v111).trans ((congrFun (after_ops (launchContents m c)) (Proc.devRef .tc main_v111)).trans (val3_main_v111 (launchContents m c))),
      (h c main_v113).trans ((congrFun (after_ops (launchContents m c)) (Proc.devRef .tc main_v113)).trans (val3_main_v113 (launchContents m c))),
      (h c main_v115).trans ((congrFun (after_ops (launchContents m c)) (Proc.devRef .tc main_v115)).trans (val3_main_v115 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c)))⟩)
    (run_seq scopedRefs_eq scopedSems_eq defs main (fun _ => ops) main_eq (fun _ => ops_sub) m ρ fun _ => ops_fresh)

end Cert.ReferenceIdeal.Own

end
-- ==== Proof.Value.HostRun.lean ====
/- What the host operations before the kernel's region leave: the arrays that the region's windows are of, as terms of the arguments. -/
module

public import proofs.«01_k».proof.Proof.Gen.KernelIdeal.Frame
public import Idealize.ShloMosaic.Lib.StableHlo.Run

@[expose] public section

set_option maxRecDepth 8192

noncomputable section

namespace Cert.KernelIdeal.Own

open Cert.KernelIdeal Cert.KernelIdeal.Gen Idealize.ShloMosaic Idealize.ShloMosaic.TcCoe Idealize.SL.Sem Idealize.ShloMosaic.StableHlo

variable {F : FTy → Type} [FloatOps F] [Named F]

/-! ## The terms -/

/-- The queries of the chunked heads. -/
def hq (V0 : Valuation τ sig (Elt F)) : Vec F S2x4096x8x64 .f32 :=
  shapeCast S2x4096x8x64 (extf .f32 (extractStridedSlice S2x4096x512 ![0, 0, 1536] (V0 (Proc.devRef .tc main_arg0)) slices_S2x4096x3072_S2x4096x512_0_0_1536) bitsLt_bf16_f32) shapeCasts_S2x4096x512_S2x4096x8x64

/-- The keys of the chunked heads. -/
def hk (V0 : Valuation τ sig (Elt F)) : Vec F S2x4096x8x64 .f32 :=
  shapeCast S2x4096x8x64 (extf .f32 (extractStridedSlice S2x4096x512 ![0, 0, 2048] (V0 (Proc.devRef .tc main_arg0)) slices_S2x4096x3072_S2x4096x512_0_0_2048) bitsLt_bf16_f32) shapeCasts_S2x4096x512_S2x4096x8x64

/-- The values of the chunked heads. -/
def hv (V0 : Valuation τ sig (Elt F)) : Vec F S2x4096x8x64 .f32 :=
  shapeCast S2x4096x8x64 (extf .f32 (extractStridedSlice S2x4096x512 ![0, 0, 2560] (V0 (Proc.devRef .tc main_arg0)) slices_S2x4096x3072_S2x4096x512_0_0_2560) bitsLt_bf16_f32) shapeCasts_S2x4096x512_S2x4096x8x64

/-- The clipped offset of a query and a key, as a row of the table. -/
def hidx : IVec S4096x4096 32 :=
  addi (minsi (maxsi (subi (iotaInDim S4096x4096 32 0) (iotaInDim S4096x4096 32 1)) (broadcastInDim S4096x4096 ![] bcast_S_S4096x4096 (constantI S_ 32 4294967168#32))) (broadcastInDim S4096x4096 ![] bcast_S_S4096x4096 (constantI S_ 32 128#32))) (broadcastInDim S4096x4096 ![] bcast_S_S4096x4096 (constantI S_ 32 128#32))

/-- The relative bias. -/
def hrb (V0 : Valuation τ sig (Elt F)) : Vec F S8x4096x4096 .f32 :=
  Host.gather gather_S8x257_S4096x4096x1_S8x4096x4096_0_1_n_n_1_2_81 (V0 (Proc.devRef .tc main_arg1)) (broadcastInDim S4096x4096x1 ![0, 1] bcast_S4096x4096_S4096x4096x1_0_1 hidx)

/-- The chunks a query sees. -/
def hmask : IVec S4096x4096 1 :=
  andi (cmpi .sle (Host.divsi (iotaInDim S4096x4096 32 1) (broadcastInDim S4096x4096 ![] bcast_S_S4096x4096 (constantI S_ 32 64#32))) (Host.divsi (iotaInDim S4096x4096 32 0) (broadcastInDim S4096x4096 ![] bcast_S_S4096x4096 (constantI S_ 32 64#32)))) (cmpi .sge (Host.divsi (iotaInDim S4096x4096 32 1) (broadcastInDim S4096x4096 ![] bcast_S_S4096x4096 (constantI S_ 32 64#32))) (subi (Host.divsi (iotaInDim S4096x4096 32 0) (broadcastInDim S4096x4096 ![] bcast_S_S4096x4096 (constantI S_ 32 64#32))) (broadcastInDim S4096x4096 ![] bcast_S_S4096x4096 (constantI S_ 32 8#32))))

/-- The scores before the mask. -/
def h31 (V0 : Valuation τ sig (Elt F)) : Vec F S2x8x4096x4096 .f32 :=
  addf (mulf (Host.dotGeneral dot_S2x4096x8x64_S2x4096x8x64_S2x8x4096x4096_3_3_1_1_02_02 none (hq V0) (hk V0)) (broadcastInDim S2x8x4096x4096 ![] bcast_S_S2x8x4096x4096 (constant S_ .f32 0x3E000000#32))) (broadcastInDim S2x8x4096x4096 ![0, 1, 2, 3] bcast_S1x8x4096x4096_S2x8x4096x4096_0_1_2_3 (broadcastInDim S1x8x4096x4096 ![1, 2, 3] bcast_S8x4096x4096_S1x8x4096x4096_1_2_3 (hrb V0)))

/-- The scores. -/
def h37 (V0 : Valuation τ sig (Elt F)) : Vec F S2x8x4096x4096 .f32 :=
  select (broadcastInDim S2x8x4096x4096 ![2, 3] bcast_S4096x4096_S2x8x4096x4096_2_3 hmask) (h31 V0) (broadcastInDim S2x8x4096x4096 ![] bcast_S_S2x8x4096x4096 (id (constant S_ .f32 0xFF800000#32)))

/-- Their exponentials. -/
def h42 (V0 : Valuation τ sig (Elt F)) : Vec F S2x8x4096x4096 .f32 :=
  Host.exp (subf (h37 V0) (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduce FloatOps.maximumf (h37 V0) (constant S_ .f32 0xFF800000#32) reducesTo_S2x8x4096x4096_S2x8x4096_d3 h_S_))))

/-- The probabilities. -/
def h46 (V0 : Valuation τ sig (Elt F)) : Vec F S2x8x4096x4096 .f32 :=
  Host.divf (h42 V0) (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd (h42 V0) (constant S_ .f32 0x00000000#32) reducesTo_S2x8x4096x4096_S2x8x4096_d3 h_S_)))

/-- The attention's output. -/
def h48 (V0 : Valuation τ sig (Elt F)) : Vec F S2x4096x8x64 .f32 :=
  transpose S2x4096x8x64 [0, 3, 1, 2] (Host.dotGeneral dot_S2x4096x8x64_S2x8x4096x4096_S2x8x64x4096_1_3_3_2_02_01 none (hv V0) (h46 V0)) transposes_S2x8x64x4096_S2x4096x8x64_0_3_1_2

/-- The projections behind 512 rows of padding. -/
def h49 (V0 : Valuation τ sig (Elt F)) : Vec F S2x4608x3072 .bf16 :=
  pad S2x4608x3072 ![0, 512, 0] ![0, 0, 0] ![0, 0, 0] (V0 (Proc.devRef .tc main_arg0)) (sitofp (F := F) .bf16 (constantI S_ 32 0#32)) pads_S2x4096x3072_S2x4608x3072_000_51200_000 h_S_

/-- A column of the skewed tile, signed. -/
def h66 : IVec S768 32 :=
  select (cmpi .slt (iotaInDim S768 32 0) (broadcastInDim S768 ![] bcast_S_S768 (constantI S_ 32 640#32))) (iotaInDim S768 32 0) (subi (iotaInDim S768 32 0) (broadcastInDim S768 ![] bcast_S_S768 (constantI S_ 32 768#32)))

/-- Its row of the table. -/
def h71 : IVec S768 32 :=
  addi (minsi (broadcastInDim S768 ![] bcast_S_S768 (id (constantI S_ 32 128#32))) (maxsi (broadcastInDim S768 ![] bcast_S_S768 (id (constantI S_ 32 4294967168#32))) (subi (broadcastInDim S768 ![] bcast_S_S768 (constantI S_ 32 512#32)) h66))) (broadcastInDim S768 ![] bcast_S_S768 (constantI S_ 32 128#32))

/-- The rows of the table, one-hot. -/
def h79 : Vec F S257x768 .f32 :=
  transpose S257x768 [1, 0] (uitofp .f32 (cmpi .eq (broadcastInDim S768x257 ![0, 1] bcast_S768x1_S768x257_0_1 (broadcastInDim S768x1 ![0] bcast_S768_S768x1_0 h71)) (broadcastInDim S768x257 ![0, 1] bcast_S1x257_S768x257_0_1 (broadcastInDim S1x257 ![1] bcast_S257_S1x257_1 (iotaInDim S257 32 0))))) transposes_S768x257_S257x768_1_0

/-- The table by columns of the skewed tile. -/
def h80 (V0 : Valuation τ sig (Elt F)) : Vec F S8x768 .f32 :=
  Host.dotGeneral dot_S8x257_S257x768_S8x768_1_0_0_1_n_n (some .fp32) (V0 (Proc.devRef .tc main_arg1)) (h79 (F := F))

/-- The tile, each row one column further. -/
def h86 (V0 : Valuation τ sig (Elt F)) : Vec F S8x128x640 .f32 :=
  extractStridedSlice S8x128x640 ![0, 0, 0] (shapeCast S8x128x767 (extractStridedSlice S8x98176 ![0, 0] (shapeCast S8x98304 (broadcastInDim S8x128x768 ![0, 1, 2] bcast_S8x1x768_S8x128x768_0_1_2 (broadcastInDim S8x1x768 ![0, 2] bcast_S8x768_S8x1x768_0_2 (h80 V0))) shapeCasts_S8x128x768_S8x98304) slices_S8x98304_S8x98176_0_0) shapeCasts_S8x98176_S8x128x767) slices_S8x128x767_S8x128x640_0_0_0

/-- The rows of a tile. -/
def h88 : IVec S128x1 32 :=
  broadcastInDim S128x1 ![0] bcast_S128_S128x1_0 (iotaInDim S128 32 0)

/-- Their chunks. -/
def h89 : IVec S128x1 32 :=
  select (andi (cmpi .ne (signi h88) (broadcastInDim S128x1 ![] bcast_S_S128x1 (signi (id (constantI S_ 32 64#32))))) (cmpi .ne (Host.remsi h88 (broadcastInDim S128x1 ![] bcast_S_S128x1 (id (constantI S_ 32 64#32)))) (broadcastInDim S128x1 ![] bcast_S_S128x1 (constantI S_ 32 0#32)))) (subi (Host.divsi h88 (broadcastInDim S128x1 ![] bcast_S_S128x1 (id (constantI S_ 32 64#32)))) (broadcastInDim S128x1 ![] bcast_S_S128x1 (constantI S_ 32 1#32))) (Host.divsi h88 (broadcastInDim S128x1 ![] bcast_S_S128x1 (id (constantI S_ 32 64#32))))

/-- Where their chunks begin. -/
def h91 : IVec S128x1 32 :=
  muli h89 (broadcastInDim S128x1 ![] bcast_S_S128x1 (constantI S_ 32 64#32))

/-- The columns that a row sees. -/
def h104 : IVec S128x640 1 :=
  andi (cmpi .sge (broadcastInDim S128x640 ![0, 1] bcast_S1x640_S128x640_0_1 (broadcastInDim S1x640 ![1] bcast_S640_S1x640_1 (iotaInDim S640 32 0))) (broadcastInDim S128x640 ![0, 1] bcast_S128x1_S128x640_0_1 h91)) (cmpi .slt (broadcastInDim S128x640 ![0, 1] bcast_S1x640_S128x640_0_1 (broadcastInDim S1x640 ![1] bcast_S640_S1x640_1 (iotaInDim S640 32 0))) (broadcastInDim S128x640 ![0, 1] bcast_S128x1_S128x640_0_1 (addi (addi h91 (broadcastInDim S128x1 ![] bcast_S_S128x1 (constantI S_ 32 512#32))) (broadcastInDim S128x1 ![] bcast_S_S128x1 (constantI S_ 32 64#32)))))

/-- The masked bias tile. -/
def h105 (V0 : Valuation τ sig (Elt F)) : Vec F S8x128x640 .f32 :=
  select (broadcastInDim S8x128x640 ![1, 2] bcast_S128x640_S8x128x640_1_2 h104) (h86 V0) (broadcastInDim S8x128x640 ![] bcast_S_S8x128x640 (id (constant S_ .f32 0xFF800000#32)))

/-- The attention's output by columns. -/
def h106 (V0 : Valuation τ sig (Elt F)) : Vec F S2x4096x512 .f32 :=
  shapeCast S2x4096x512 (h48 V0) shapeCasts_S2x4096x8x64_S2x4096x512

/-- The gain as a row. -/
def h107 (V0 : Valuation τ sig (Elt F)) : Vec F S1x512 .f32 :=
  shapeCast S1x512 (V0 (Proc.devRef .tc main_arg2)) shapeCasts_S512_S1x512

/-! ## The operations, in their nineteen groups -/

/-- The buffers after the first 1 groups. -/
def val0 (V0 : Valuation τ sig (Elt F)) : Valuation τ sig (Elt F) := after hostOps0 V0

abbrev wr0 : List (Ref sig .tc) := [main_v0, main_v1, main_v2, main_v3, main_v4, main_v5, main_v6, main_v7, main_v8, main_v9, main_v10, main_v11, main_v12, main_v13, main_v14, main_c, main_v15, main_v16, main_c_0, main_v17, main_v18, main_c_1, main_v19, main_v20]
theorem wr0_sub : (hostOps0 : List (HloOp τ sig (Elt F))).Forall fun op => op.writes ⊆ (wr0.map (Proc.devRef (τ := τ) .tc)).toFinset :=
  forall_writes_sub_of_map rfl
theorem val0_keep (V0 : Valuation τ sig (Elt F)) (r : Ref sig .tc) (h : r ∉ wr0) : val0 V0 (Proc.devRef .tc r) = V0 (Proc.devRef .tc r) :=
  after_of_writes_sub hostOps0 _ wr0_sub h
theorem val0_arg0 (V0 : Valuation τ sig (Elt F)) : val0 V0 (no_index (Proc.devRef .tc main_arg0)) = V0 (Proc.devRef .tc main_arg0) :=
  val0_keep V0 main_arg0 (by decide)
theorem val0_arg1 (V0 : Valuation τ sig (Elt F)) : val0 V0 (no_index (Proc.devRef .tc main_arg1)) = V0 (Proc.devRef .tc main_arg1) :=
  val0_keep V0 main_arg1 (by decide)
theorem val0_arg2 (V0 : Valuation τ sig (Elt F)) : val0 V0 (no_index (Proc.devRef .tc main_arg2)) = V0 (Proc.devRef .tc main_arg2) :=
  val0_keep V0 main_arg2 (by decide)
theorem val0_arg3 (V0 : Valuation τ sig (Elt F)) : val0 V0 (no_index (Proc.devRef .tc main_arg3)) = V0 (Proc.devRef .tc main_arg3) :=
  val0_keep V0 main_arg3 (by decide)
set_option maxHeartbeats 2000000 in
theorem val0_v7 (V0 : Valuation τ sig (Elt F)) : val0 V0 (no_index (Proc.devRef .tc main_v7)) = hq V0 := by
  unfold val0
  simp only [hostOps0, TRef.nullary, TRef.unary, TRef.binary, TRef.ternary, TRef.toBuf, TRef.ofBuf, cast_eq]
  after_results_simp

  try (unfold hq; rfl)
set_option maxHeartbeats 2000000 in
theorem val0_v9 (V0 : Valuation τ sig (Elt F)) : val0 V0 (no_index (Proc.devRef .tc main_v9)) = hk V0 := by
  unfold val0
  simp only [hostOps0, TRef.nullary, TRef.unary, TRef.binary, TRef.ternary, TRef.toBuf, TRef.ofBuf, cast_eq]
  after_results_simp

  try (unfold hk; rfl)
set_option maxHeartbeats 2000000 in
theorem val0_v11 (V0 : Valuation τ sig (Elt F)) : val0 V0 (no_index (Proc.devRef .tc main_v11)) = hv V0 := by
  unfold val0
  simp only [hostOps0, TRef.nullary, TRef.unary, TRef.binary, TRef.ternary, TRef.toBuf, TRef.ofBuf, cast_eq]
  after_results_simp

  try (unfold hv; rfl)
set_option maxHeartbeats 2000000 in
theorem val0_v12 (V0 : Valuation τ sig (Elt F)) : val0 V0 (no_index (Proc.devRef .tc main_v12)) = iotaInDim S4096x4096 32 0 := by
  unfold val0
  simp only [hostOps0, TRef.nullary, TRef.unary, TRef.binary, TRef.ternary, TRef.toBuf, TRef.ofBuf, cast_eq]
  after_results_simp

  try (rfl)
set_option maxHeartbeats 2000000 in
theorem val0_v13 (V0 : Valuation τ sig (Elt F)) : val0 V0 (no_index (Proc.devRef .tc main_v13)) = iotaInDim S4096x4096 32 1 := by
  unfold val0
  simp only [hostOps0, TRef.nullary, TRef.unary, TRef.binary, TRef.ternary, TRef.toBuf, TRef.ofBuf, cast_eq]
  after_results_simp

  try (rfl)
set_option maxHeartbeats 2000000 in
theorem val0_v20 (V0 : Valuation τ sig (Elt F)) : val0 V0 (no_index (Proc.devRef .tc main_v20)) = hidx := by
  unfold val0
  simp only [hostOps0, TRef.nullary, TRef.unary, TRef.binary, TRef.ternary, TRef.toBuf, TRef.ofBuf, cast_eq]
  after_results_simp

  try (unfold hidx; rfl)
/-- The buffers after the first 2 groups. -/
def val1 (V0 : Valuation τ sig (Elt F)) : Valuation τ sig (Elt F) := after hostOps0_1 (val0 V0)

abbrev wr1 : List (Ref sig .tc) := [main_call0_v0, main_v21]
theorem wr1_sub : (hostOps0_1 : List (HloOp τ sig (Elt F))).Forall fun op => op.writes ⊆ (wr1.map (Proc.devRef (τ := τ) .tc)).toFinset :=
  forall_writes_sub_of_map rfl
theorem val1_keep (V0 : Valuation τ sig (Elt F)) (r : Ref sig .tc) (h : r ∉ wr1) : val1 V0 (Proc.devRef .tc r) = (val0 V0) (Proc.devRef .tc r) :=
  after_of_writes_sub hostOps0_1 _ wr1_sub h
theorem val1_arg0 (V0 : Valuation τ sig (Elt F)) : val1 V0 (no_index (Proc.devRef .tc main_arg0)) = V0 (Proc.devRef .tc main_arg0) :=
  (val1_keep V0 main_arg0 (by decide)).trans (val0_arg0 V0)
theorem val1_arg1 (V0 : Valuation τ sig (Elt F)) : val1 V0 (no_index (Proc.devRef .tc main_arg1)) = V0 (Proc.devRef .tc main_arg1) :=
  (val1_keep V0 main_arg1 (by decide)).trans (val0_arg1 V0)
theorem val1_arg2 (V0 : Valuation τ sig (Elt F)) : val1 V0 (no_index (Proc.devRef .tc main_arg2)) = V0 (Proc.devRef .tc main_arg2) :=
  (val1_keep V0 main_arg2 (by decide)).trans (val0_arg2 V0)
theorem val1_arg3 (V0 : Valuation τ sig (Elt F)) : val1 V0 (no_index (Proc.devRef .tc main_arg3)) = V0 (Proc.devRef .tc main_arg3) :=
  (val1_keep V0 main_arg3 (by decide)).trans (val0_arg3 V0)
theorem val1_v7 (V0 : Valuation τ sig (Elt F)) : val1 V0 (no_index (Proc.devRef .tc main_v7)) = hq V0 :=
  (val1_keep V0 main_v7 (by decide)).trans (val0_v7 V0)
theorem val1_v9 (V0 : Valuation τ sig (Elt F)) : val1 V0 (no_index (Proc.devRef .tc main_v9)) = hk V0 :=
  (val1_keep V0 main_v9 (by decide)).trans (val0_v9 V0)
theorem val1_v11 (V0 : Valuation τ sig (Elt F)) : val1 V0 (no_index (Proc.devRef .tc main_v11)) = hv V0 :=
  (val1_keep V0 main_v11 (by decide)).trans (val0_v11 V0)
theorem val1_v12 (V0 : Valuation τ sig (Elt F)) : val1 V0 (no_index (Proc.devRef .tc main_v12)) = iotaInDim S4096x4096 32 0 :=
  (val1_keep V0 main_v12 (by decide)).trans (val0_v12 V0)
theorem val1_v13 (V0 : Valuation τ sig (Elt F)) : val1 V0 (no_index (Proc.devRef .tc main_v13)) = iotaInDim S4096x4096 32 1 :=
  (val1_keep V0 main_v13 (by decide)).trans (val0_v13 V0)
set_option maxHeartbeats 2000000 in
theorem val1_v21 (V0 : Valuation τ sig (Elt F)) : val1 V0 (no_index (Proc.devRef .tc main_v21)) = hrb V0 := by
  unfold val1
  simp only [hostOps0_1, TRef.nullary, TRef.unary, TRef.binary, TRef.ternary, TRef.toBuf, TRef.ofBuf, cast_eq]
  after_results_simp
  try simp only [val0_arg0, val0_arg1, val0_arg2, val0_arg3, val0_v7, val0_v9, val0_v11, val0_v12, val0_v13, val0_v20]
  try (unfold hrb; rfl)
/-- The buffers after the first 3 groups. -/
def val2 (V0 : Valuation τ sig (Elt F)) : Valuation τ sig (Elt F) := after hostOps0_2 (val1 V0)

abbrev wr2 : List (Ref sig .tc) := [main_c_2, main_v22, main_v23, main_c_3, main_v24, main_v25, main_v26, main_cst, main_v27, main_v28, main_v29, main_v30, main_v31, main_v32, main_c_4, main_v33, main_v34, main_v35, main_v36, main_cst_5]
theorem wr2_sub : (hostOps0_2 : List (HloOp τ sig (Elt F))).Forall fun op => op.writes ⊆ (wr2.map (Proc.devRef (τ := τ) .tc)).toFinset :=
  forall_writes_sub_of_map rfl
theorem val2_keep (V0 : Valuation τ sig (Elt F)) (r : Ref sig .tc) (h : r ∉ wr2) : val2 V0 (Proc.devRef .tc r) = (val1 V0) (Proc.devRef .tc r) :=
  after_of_writes_sub hostOps0_2 _ wr2_sub h
theorem val2_arg0 (V0 : Valuation τ sig (Elt F)) : val2 V0 (no_index (Proc.devRef .tc main_arg0)) = V0 (Proc.devRef .tc main_arg0) :=
  (val2_keep V0 main_arg0 (by decide)).trans (val1_arg0 V0)
theorem val2_arg1 (V0 : Valuation τ sig (Elt F)) : val2 V0 (no_index (Proc.devRef .tc main_arg1)) = V0 (Proc.devRef .tc main_arg1) :=
  (val2_keep V0 main_arg1 (by decide)).trans (val1_arg1 V0)
theorem val2_arg2 (V0 : Valuation τ sig (Elt F)) : val2 V0 (no_index (Proc.devRef .tc main_arg2)) = V0 (Proc.devRef .tc main_arg2) :=
  (val2_keep V0 main_arg2 (by decide)).trans (val1_arg2 V0)
theorem val2_arg3 (V0 : Valuation τ sig (Elt F)) : val2 V0 (no_index (Proc.devRef .tc main_arg3)) = V0 (Proc.devRef .tc main_arg3) :=
  (val2_keep V0 main_arg3 (by decide)).trans (val1_arg3 V0)
theorem val2_v11 (V0 : Valuation τ sig (Elt F)) : val2 V0 (no_index (Proc.devRef .tc main_v11)) = hv V0 :=
  (val2_keep V0 main_v11 (by decide)).trans (val1_v11 V0)
set_option maxHeartbeats 2000000 in
theorem val2_v31 (V0 : Valuation τ sig (Elt F)) : val2 V0 (no_index (Proc.devRef .tc main_v31)) = h31 V0 := by
  unfold val2
  simp only [hostOps0_2, TRef.nullary, TRef.unary, TRef.binary, TRef.ternary, TRef.toBuf, TRef.ofBuf, cast_eq]
  after_results_simp
  try simp only [val1_arg0, val1_arg1, val1_arg2, val1_arg3, val1_v7, val1_v9, val1_v11, val1_v12, val1_v13, val1_v21]
  try (unfold h31; rfl)
set_option maxHeartbeats 2000000 in
theorem val2_v36 (V0 : Valuation τ sig (Elt F)) : val2 V0 (no_index (Proc.devRef .tc main_v36)) = hmask := by
  unfold val2
  simp only [hostOps0_2, TRef.nullary, TRef.unary, TRef.binary, TRef.ternary, TRef.toBuf, TRef.ofBuf, cast_eq]
  after_results_simp
  try simp only [val1_arg0, val1_arg1, val1_arg2, val1_arg3, val1_v7, val1_v9, val1_v11, val1_v12, val1_v13, val1_v21]
  try (unfold hmask; rfl)
set_option maxHeartbeats 2000000 in
theorem val2_cst_5 (V0 : Valuation τ sig (Elt F)) : val2 V0 (no_index (Proc.devRef .tc main_cst_5)) = (constant (F := F) S_ .f32 0xFF800000#32 : Vec F S_ .f32) := by
  unfold val2
  simp only [hostOps0_2, TRef.nullary, TRef.unary, TRef.binary, TRef.ternary, TRef.toBuf, TRef.ofBuf, cast_eq]
  after_results_simp
  try simp only [val1_arg0, val1_arg1, val1_arg2, val1_arg3, val1_v7, val1_v9, val1_v11, val1_v12, val1_v13, val1_v21]
  try (rfl)
/-- The buffers after the first 4 groups. -/
def val3 (V0 : Valuation τ sig (Elt F)) : Valuation τ sig (Elt F) := after hostOps0_3 (val2 V0)

abbrev wr3 : List (Ref sig .tc) := [main_call1_v0, main_call1_v1, main_call1_v2, main_v37]
theorem wr3_sub : (hostOps0_3 : List (HloOp τ sig (Elt F))).Forall fun op => op.writes ⊆ (wr3.map (Proc.devRef (τ := τ) .tc)).toFinset :=
  forall_writes_sub_of_map rfl
theorem val3_keep (V0 : Valuation τ sig (Elt F)) (r : Ref sig .tc) (h : r ∉ wr3) : val3 V0 (Proc.devRef .tc r) = (val2 V0) (Proc.devRef .tc r) :=
  after_of_writes_sub hostOps0_3 _ wr3_sub h
theorem val3_arg0 (V0 : Valuation τ sig (Elt F)) : val3 V0 (no_index (Proc.devRef .tc main_arg0)) = V0 (Proc.devRef .tc main_arg0) :=
  (val3_keep V0 main_arg0 (by decide)).trans (val2_arg0 V0)
theorem val3_arg1 (V0 : Valuation τ sig (Elt F)) : val3 V0 (no_index (Proc.devRef .tc main_arg1)) = V0 (Proc.devRef .tc main_arg1) :=
  (val3_keep V0 main_arg1 (by decide)).trans (val2_arg1 V0)
theorem val3_arg2 (V0 : Valuation τ sig (Elt F)) : val3 V0 (no_index (Proc.devRef .tc main_arg2)) = V0 (Proc.devRef .tc main_arg2) :=
  (val3_keep V0 main_arg2 (by decide)).trans (val2_arg2 V0)
theorem val3_arg3 (V0 : Valuation τ sig (Elt F)) : val3 V0 (no_index (Proc.devRef .tc main_arg3)) = V0 (Proc.devRef .tc main_arg3) :=
  (val3_keep V0 main_arg3 (by decide)).trans (val2_arg3 V0)
theorem val3_v11 (V0 : Valuation τ sig (Elt F)) : val3 V0 (no_index (Proc.devRef .tc main_v11)) = hv V0 :=
  (val3_keep V0 main_v11 (by decide)).trans (val2_v11 V0)
set_option maxHeartbeats 2000000 in
theorem val3_v37 (V0 : Valuation τ sig (Elt F)) : val3 V0 (no_index (Proc.devRef .tc main_v37)) = h37 V0 := by
  unfold val3
  simp only [hostOps0_3, TRef.nullary, TRef.unary, TRef.binary, TRef.ternary, TRef.toBuf, TRef.ofBuf, cast_eq]
  after_results_simp
  try simp only [val2_arg0, val2_arg1, val2_arg2, val2_arg3, val2_v11, val2_v31, val2_v36, val2_cst_5]
  try (unfold h37; rfl)
/-- The buffers after the first 5 groups. -/
def val4 (V0 : Valuation τ sig (Elt F)) : Valuation τ sig (Elt F) := after hostOps0_4 (val3 V0)

abbrev wr4 : List (Ref sig .tc) := [main_cst_6, main_v38, main_v39, main_v40, main_v41, main_v42, main_cst_7, main_v43, main_v44, main_v45, main_v46, main_v47, main_v48, main_c_8]
theorem wr4_sub : (hostOps0_4 : List (HloOp τ sig (Elt F))).Forall fun op => op.writes ⊆ (wr4.map (Proc.devRef (τ := τ) .tc)).toFinset :=
  forall_writes_sub_of_map rfl
theorem val4_keep (V0 : Valuation τ sig (Elt F)) (r : Ref sig .tc) (h : r ∉ wr4) : val4 V0 (Proc.devRef .tc r) = (val3 V0) (Proc.devRef .tc r) :=
  after_of_writes_sub hostOps0_4 _ wr4_sub h
theorem val4_arg0 (V0 : Valuation τ sig (Elt F)) : val4 V0 (no_index (Proc.devRef .tc main_arg0)) = V0 (Proc.devRef .tc main_arg0) :=
  (val4_keep V0 main_arg0 (by decide)).trans (val3_arg0 V0)
theorem val4_arg1 (V0 : Valuation τ sig (Elt F)) : val4 V0 (no_index (Proc.devRef .tc main_arg1)) = V0 (Proc.devRef .tc main_arg1) :=
  (val4_keep V0 main_arg1 (by decide)).trans (val3_arg1 V0)
theorem val4_arg2 (V0 : Valuation τ sig (Elt F)) : val4 V0 (no_index (Proc.devRef .tc main_arg2)) = V0 (Proc.devRef .tc main_arg2) :=
  (val4_keep V0 main_arg2 (by decide)).trans (val3_arg2 V0)
theorem val4_arg3 (V0 : Valuation τ sig (Elt F)) : val4 V0 (no_index (Proc.devRef .tc main_arg3)) = V0 (Proc.devRef .tc main_arg3) :=
  (val4_keep V0 main_arg3 (by decide)).trans (val3_arg3 V0)
set_option maxHeartbeats 2000000 in
theorem val4_v48 (V0 : Valuation τ sig (Elt F)) : val4 V0 (no_index (Proc.devRef .tc main_v48)) = h48 V0 := by
  unfold val4
  simp only [hostOps0_4, TRef.nullary, TRef.unary, TRef.binary, TRef.ternary, TRef.toBuf, TRef.ofBuf, cast_eq]
  after_results_simp
  try simp only [val3_arg0, val3_arg1, val3_arg2, val3_arg3, val3_v11, val3_v37]
  try (unfold h48; rfl)
set_option maxHeartbeats 2000000 in
theorem val4_c_8 (V0 : Valuation τ sig (Elt F)) : val4 V0 (no_index (Proc.devRef .tc main_c_8)) = constantI S_ 32 0#32 := by
  unfold val4
  simp only [hostOps0_4, TRef.nullary, TRef.unary, TRef.binary, TRef.ternary, TRef.toBuf, TRef.ofBuf, cast_eq]
  after_results_simp
  try simp only [val3_arg0, val3_arg1, val3_arg2, val3_arg3, val3_v11, val3_v37]
  try (rfl)
/-- The buffers after the first 6 groups. -/
def val5 (V0 : Valuation τ sig (Elt F)) : Valuation τ sig (Elt F) := after hostOps0_5 (val4 V0)

abbrev wr5 : List (Ref sig .tc) := [main_call2_v0, main_v49]
theorem wr5_sub : (hostOps0_5 : List (HloOp τ sig (Elt F))).Forall fun op => op.writes ⊆ (wr5.map (Proc.devRef (τ := τ) .tc)).toFinset :=
  forall_writes_sub_of_map rfl
theorem val5_keep (V0 : Valuation τ sig (Elt F)) (r : Ref sig .tc) (h : r ∉ wr5) : val5 V0 (Proc.devRef .tc r) = (val4 V0) (Proc.devRef .tc r) :=
  after_of_writes_sub hostOps0_5 _ wr5_sub h
theorem val5_arg1 (V0 : Valuation τ sig (Elt F)) : val5 V0 (no_index (Proc.devRef .tc main_arg1)) = V0 (Proc.devRef .tc main_arg1) :=
  (val5_keep V0 main_arg1 (by decide)).trans (val4_arg1 V0)
theorem val5_arg2 (V0 : Valuation τ sig (Elt F)) : val5 V0 (no_index (Proc.devRef .tc main_arg2)) = V0 (Proc.devRef .tc main_arg2) :=
  (val5_keep V0 main_arg2 (by decide)).trans (val4_arg2 V0)
theorem val5_arg3 (V0 : Valuation τ sig (Elt F)) : val5 V0 (no_index (Proc.devRef .tc main_arg3)) = V0 (Proc.devRef .tc main_arg3) :=
  (val5_keep V0 main_arg3 (by decide)).trans (val4_arg3 V0)
theorem val5_v48 (V0 : Valuation τ sig (Elt F)) : val5 V0 (no_index (Proc.devRef .tc main_v48)) = h48 V0 :=
  (val5_keep V0 main_v48 (by decide)).trans (val4_v48 V0)
set_option maxHeartbeats 2000000 in
theorem val5_v49 (V0 : Valuation τ sig (Elt F)) : val5 V0 (no_index (Proc.devRef .tc main_v49)) = h49 V0 := by
  unfold val5
  simp only [hostOps0_5, TRef.nullary, TRef.unary, TRef.binary, TRef.ternary, TRef.toBuf, TRef.ofBuf, cast_eq]
  after_results_simp
  try simp only [val4_arg0, val4_arg1, val4_arg2, val4_arg3, val4_v48, val4_c_8]
  try (unfold h49; rfl)
/-- The buffers after the first 7 groups. -/
def val6 (V0 : Valuation τ sig (Elt F)) : Valuation τ sig (Elt F) := after hostOps0_6 (val5 V0)

abbrev wr6 : List (Ref sig .tc) := [main_v50, main_c_9, main_v51, main_v52, main_c_10, main_v53, main_v54]
theorem wr6_sub : (hostOps0_6 : List (HloOp τ sig (Elt F))).Forall fun op => op.writes ⊆ (wr6.map (Proc.devRef (τ := τ) .tc)).toFinset :=
  forall_writes_sub_of_map rfl
theorem val6_keep (V0 : Valuation τ sig (Elt F)) (r : Ref sig .tc) (h : r ∉ wr6) : val6 V0 (Proc.devRef .tc r) = (val5 V0) (Proc.devRef .tc r) :=
  after_of_writes_sub hostOps0_6 _ wr6_sub h
theorem val6_arg1 (V0 : Valuation τ sig (Elt F)) : val6 V0 (no_index (Proc.devRef .tc main_arg1)) = V0 (Proc.devRef .tc main_arg1) :=
  (val6_keep V0 main_arg1 (by decide)).trans (val5_arg1 V0)
theorem val6_arg2 (V0 : Valuation τ sig (Elt F)) : val6 V0 (no_index (Proc.devRef .tc main_arg2)) = V0 (Proc.devRef .tc main_arg2) :=
  (val6_keep V0 main_arg2 (by decide)).trans (val5_arg2 V0)
theorem val6_arg3 (V0 : Valuation τ sig (Elt F)) : val6 V0 (no_index (Proc.devRef .tc main_arg3)) = V0 (Proc.devRef .tc main_arg3) :=
  (val6_keep V0 main_arg3 (by decide)).trans (val5_arg3 V0)
theorem val6_v48 (V0 : Valuation τ sig (Elt F)) : val6 V0 (no_index (Proc.devRef .tc main_v48)) = h48 V0 :=
  (val6_keep V0 main_v48 (by decide)).trans (val5_v48 V0)
theorem val6_v49 (V0 : Valuation τ sig (Elt F)) : val6 V0 (no_index (Proc.devRef .tc main_v49)) = h49 V0 :=
  (val6_keep V0 main_v49 (by decide)).trans (val5_v49 V0)
/-- The buffers after the first 8 groups. -/
def val7 (V0 : Valuation τ sig (Elt F)) : Valuation τ sig (Elt F) := after hostOps0_7 (val6 V0)

abbrev wr7 : List (Ref sig .tc) := [main_v55]
theorem wr7_sub : (hostOps0_7 : List (HloOp τ sig (Elt F))).Forall fun op => op.writes ⊆ (wr7.map (Proc.devRef (τ := τ) .tc)).toFinset :=
  forall_writes_sub_of_map rfl
theorem val7_keep (V0 : Valuation τ sig (Elt F)) (r : Ref sig .tc) (h : r ∉ wr7) : val7 V0 (Proc.devRef .tc r) = (val6 V0) (Proc.devRef .tc r) :=
  after_of_writes_sub hostOps0_7 _ wr7_sub h
theorem val7_arg1 (V0 : Valuation τ sig (Elt F)) : val7 V0 (no_index (Proc.devRef .tc main_arg1)) = V0 (Proc.devRef .tc main_arg1) :=
  (val7_keep V0 main_arg1 (by decide)).trans (val6_arg1 V0)
theorem val7_arg2 (V0 : Valuation τ sig (Elt F)) : val7 V0 (no_index (Proc.devRef .tc main_arg2)) = V0 (Proc.devRef .tc main_arg2) :=
  (val7_keep V0 main_arg2 (by decide)).trans (val6_arg2 V0)
theorem val7_arg3 (V0 : Valuation τ sig (Elt F)) : val7 V0 (no_index (Proc.devRef .tc main_arg3)) = V0 (Proc.devRef .tc main_arg3) :=
  (val7_keep V0 main_arg3 (by decide)).trans (val6_arg3 V0)
theorem val7_v48 (V0 : Valuation τ sig (Elt F)) : val7 V0 (no_index (Proc.devRef .tc main_v48)) = h48 V0 :=
  (val7_keep V0 main_v48 (by decide)).trans (val6_v48 V0)
theorem val7_v49 (V0 : Valuation τ sig (Elt F)) : val7 V0 (no_index (Proc.devRef .tc main_v49)) = h49 V0 :=
  (val7_keep V0 main_v49 (by decide)).trans (val6_v49 V0)
/-- The buffers after the first 9 groups. -/
def val8 (V0 : Valuation τ sig (Elt F)) : Valuation τ sig (Elt F) := after hostOps0_8 (val7 V0)

abbrev wr8 : List (Ref sig .tc) := [main_c_11, main_v56, main_v57, main_c_12, main_c_13]
theorem wr8_sub : (hostOps0_8 : List (HloOp τ sig (Elt F))).Forall fun op => op.writes ⊆ (wr8.map (Proc.devRef (τ := τ) .tc)).toFinset :=
  forall_writes_sub_of_map rfl
theorem val8_keep (V0 : Valuation τ sig (Elt F)) (r : Ref sig .tc) (h : r ∉ wr8) : val8 V0 (Proc.devRef .tc r) = (val7 V0) (Proc.devRef .tc r) :=
  after_of_writes_sub hostOps0_8 _ wr8_sub h
theorem val8_arg1 (V0 : Valuation τ sig (Elt F)) : val8 V0 (no_index (Proc.devRef .tc main_arg1)) = V0 (Proc.devRef .tc main_arg1) :=
  (val8_keep V0 main_arg1 (by decide)).trans (val7_arg1 V0)
theorem val8_arg2 (V0 : Valuation τ sig (Elt F)) : val8 V0 (no_index (Proc.devRef .tc main_arg2)) = V0 (Proc.devRef .tc main_arg2) :=
  (val8_keep V0 main_arg2 (by decide)).trans (val7_arg2 V0)
theorem val8_arg3 (V0 : Valuation τ sig (Elt F)) : val8 V0 (no_index (Proc.devRef .tc main_arg3)) = V0 (Proc.devRef .tc main_arg3) :=
  (val8_keep V0 main_arg3 (by decide)).trans (val7_arg3 V0)
theorem val8_v48 (V0 : Valuation τ sig (Elt F)) : val8 V0 (no_index (Proc.devRef .tc main_v48)) = h48 V0 :=
  (val8_keep V0 main_v48 (by decide)).trans (val7_v48 V0)
theorem val8_v49 (V0 : Valuation τ sig (Elt F)) : val8 V0 (no_index (Proc.devRef .tc main_v49)) = h49 V0 :=
  (val8_keep V0 main_v49 (by decide)).trans (val7_v49 V0)
/-- The buffers after the first 10 groups. -/
def val9 (V0 : Valuation τ sig (Elt F)) : Valuation τ sig (Elt F) := after hostOps0_9 (val8 V0)

abbrev wr9 : List (Ref sig .tc) := [main_call4_v0, main_call4_v1, main_call4_v2, main_call4_v3, main_call4_v4, main_v58]
theorem wr9_sub : (hostOps0_9 : List (HloOp τ sig (Elt F))).Forall fun op => op.writes ⊆ (wr9.map (Proc.devRef (τ := τ) .tc)).toFinset :=
  forall_writes_sub_of_map rfl
theorem val9_keep (V0 : Valuation τ sig (Elt F)) (r : Ref sig .tc) (h : r ∉ wr9) : val9 V0 (Proc.devRef .tc r) = (val8 V0) (Proc.devRef .tc r) :=
  after_of_writes_sub hostOps0_9 _ wr9_sub h
theorem val9_arg1 (V0 : Valuation τ sig (Elt F)) : val9 V0 (no_index (Proc.devRef .tc main_arg1)) = V0 (Proc.devRef .tc main_arg1) :=
  (val9_keep V0 main_arg1 (by decide)).trans (val8_arg1 V0)
theorem val9_arg2 (V0 : Valuation τ sig (Elt F)) : val9 V0 (no_index (Proc.devRef .tc main_arg2)) = V0 (Proc.devRef .tc main_arg2) :=
  (val9_keep V0 main_arg2 (by decide)).trans (val8_arg2 V0)
theorem val9_arg3 (V0 : Valuation τ sig (Elt F)) : val9 V0 (no_index (Proc.devRef .tc main_arg3)) = V0 (Proc.devRef .tc main_arg3) :=
  (val9_keep V0 main_arg3 (by decide)).trans (val8_arg3 V0)
theorem val9_v48 (V0 : Valuation τ sig (Elt F)) : val9 V0 (no_index (Proc.devRef .tc main_v48)) = h48 V0 :=
  (val9_keep V0 main_v48 (by decide)).trans (val8_v48 V0)
theorem val9_v49 (V0 : Valuation τ sig (Elt F)) : val9 V0 (no_index (Proc.devRef .tc main_v49)) = h49 V0 :=
  (val9_keep V0 main_v49 (by decide)).trans (val8_v49 V0)
/-- The buffers after the first 11 groups. -/
def val10 (V0 : Valuation τ sig (Elt F)) : Valuation τ sig (Elt F) := after hostOps0_10 (val9 V0)

abbrev wr10 : List (Ref sig .tc) := [main_c_14, main_v59, main_v60, main_v61, main_c_15, main_v62, main_v63, main_c_16, main_v64, main_v65]
theorem wr10_sub : (hostOps0_10 : List (HloOp τ sig (Elt F))).Forall fun op => op.writes ⊆ (wr10.map (Proc.devRef (τ := τ) .tc)).toFinset :=
  forall_writes_sub_of_map rfl
theorem val10_keep (V0 : Valuation τ sig (Elt F)) (r : Ref sig .tc) (h : r ∉ wr10) : val10 V0 (Proc.devRef .tc r) = (val9 V0) (Proc.devRef .tc r) :=
  after_of_writes_sub hostOps0_10 _ wr10_sub h
theorem val10_arg1 (V0 : Valuation τ sig (Elt F)) : val10 V0 (no_index (Proc.devRef .tc main_arg1)) = V0 (Proc.devRef .tc main_arg1) :=
  (val10_keep V0 main_arg1 (by decide)).trans (val9_arg1 V0)
theorem val10_arg2 (V0 : Valuation τ sig (Elt F)) : val10 V0 (no_index (Proc.devRef .tc main_arg2)) = V0 (Proc.devRef .tc main_arg2) :=
  (val10_keep V0 main_arg2 (by decide)).trans (val9_arg2 V0)
theorem val10_arg3 (V0 : Valuation τ sig (Elt F)) : val10 V0 (no_index (Proc.devRef .tc main_arg3)) = V0 (Proc.devRef .tc main_arg3) :=
  (val10_keep V0 main_arg3 (by decide)).trans (val9_arg3 V0)
theorem val10_v48 (V0 : Valuation τ sig (Elt F)) : val10 V0 (no_index (Proc.devRef .tc main_v48)) = h48 V0 :=
  (val10_keep V0 main_v48 (by decide)).trans (val9_v48 V0)
theorem val10_v49 (V0 : Valuation τ sig (Elt F)) : val10 V0 (no_index (Proc.devRef .tc main_v49)) = h49 V0 :=
  (val10_keep V0 main_v49 (by decide)).trans (val9_v49 V0)
set_option maxHeartbeats 2000000 in
theorem val10_v61 (V0 : Valuation τ sig (Elt F)) : val10 V0 (no_index (Proc.devRef .tc main_v61)) = iotaInDim S768 32 0 := by
  unfold val10
  simp only [hostOps0_10, TRef.nullary, TRef.unary, TRef.binary, TRef.ternary, TRef.toBuf, TRef.ofBuf, cast_eq]
  after_results_simp
  try simp only [val9_arg1, val9_arg2, val9_arg3, val9_v48, val9_v49]
  try (rfl)
set_option maxHeartbeats 2000000 in
theorem val10_v63 (V0 : Valuation τ sig (Elt F)) : val10 V0 (no_index (Proc.devRef .tc main_v63)) = cmpi .slt (iotaInDim S768 32 0) (broadcastInDim S768 ![] bcast_S_S768 (constantI S_ 32 640#32)) := by
  unfold val10
  simp only [hostOps0_10, TRef.nullary, TRef.unary, TRef.binary, TRef.ternary, TRef.toBuf, TRef.ofBuf, cast_eq]
  after_results_simp
  try simp only [val9_arg1, val9_arg2, val9_arg3, val9_v48, val9_v49]
  try (rfl)
set_option maxHeartbeats 2000000 in
theorem val10_v65 (V0 : Valuation τ sig (Elt F)) : val10 V0 (no_index (Proc.devRef .tc main_v65)) = subi (iotaInDim S768 32 0) (broadcastInDim S768 ![] bcast_S_S768 (constantI S_ 32 768#32)) := by
  unfold val10
  simp only [hostOps0_10, TRef.nullary, TRef.unary, TRef.binary, TRef.ternary, TRef.toBuf, TRef.ofBuf, cast_eq]
  after_results_simp
  try simp only [val9_arg1, val9_arg2, val9_arg3, val9_v48, val9_v49]
  try (rfl)
/-- The buffers after the first 12 groups. -/
def val11 (V0 : Valuation τ sig (Elt F)) : Valuation τ sig (Elt F) := after hostOps0_11 (val10 V0)

abbrev wr11 : List (Ref sig .tc) := [main_v66]
theorem wr11_sub : (hostOps0_11 : List (HloOp τ sig (Elt F))).Forall fun op => op.writes ⊆ (wr11.map (Proc.devRef (τ := τ) .tc)).toFinset :=
  forall_writes_sub_of_map rfl
theorem val11_keep (V0 : Valuation τ sig (Elt F)) (r : Ref sig .tc) (h : r ∉ wr11) : val11 V0 (Proc.devRef .tc r) = (val10 V0) (Proc.devRef .tc r) :=
  after_of_writes_sub hostOps0_11 _ wr11_sub h
theorem val11_arg1 (V0 : Valuation τ sig (Elt F)) : val11 V0 (no_index (Proc.devRef .tc main_arg1)) = V0 (Proc.devRef .tc main_arg1) :=
  (val11_keep V0 main_arg1 (by decide)).trans (val10_arg1 V0)
theorem val11_arg2 (V0 : Valuation τ sig (Elt F)) : val11 V0 (no_index (Proc.devRef .tc main_arg2)) = V0 (Proc.devRef .tc main_arg2) :=
  (val11_keep V0 main_arg2 (by decide)).trans (val10_arg2 V0)
theorem val11_arg3 (V0 : Valuation τ sig (Elt F)) : val11 V0 (no_index (Proc.devRef .tc main_arg3)) = V0 (Proc.devRef .tc main_arg3) :=
  (val11_keep V0 main_arg3 (by decide)).trans (val10_arg3 V0)
theorem val11_v48 (V0 : Valuation τ sig (Elt F)) : val11 V0 (no_index (Proc.devRef .tc main_v48)) = h48 V0 :=
  (val11_keep V0 main_v48 (by decide)).trans (val10_v48 V0)
theorem val11_v49 (V0 : Valuation τ sig (Elt F)) : val11 V0 (no_index (Proc.devRef .tc main_v49)) = h49 V0 :=
  (val11_keep V0 main_v49 (by decide)).trans (val10_v49 V0)
set_option maxHeartbeats 2000000 in
theorem val11_v66 (V0 : Valuation τ sig (Elt F)) : val11 V0 (no_index (Proc.devRef .tc main_v66)) = h66 := by
  unfold val11
  simp only [hostOps0_11, TRef.nullary, TRef.unary, TRef.binary, TRef.ternary, TRef.toBuf, TRef.ofBuf, cast_eq]
  after_results_simp
  try simp only [val10_arg1, val10_arg2, val10_arg3, val10_v48, val10_v49, val10_v61, val10_v63, val10_v65]
  try (unfold h66; rfl)
/-- The buffers after the first 13 groups. -/
def val12 (V0 : Valuation τ sig (Elt F)) : Valuation τ sig (Elt F) := after hostOps0_12 (val11 V0)

abbrev wr12 : List (Ref sig .tc) := [main_c_17, main_v67, main_v68, main_c_18, main_c_19]
theorem wr12_sub : (hostOps0_12 : List (HloOp τ sig (Elt F))).Forall fun op => op.writes ⊆ (wr12.map (Proc.devRef (τ := τ) .tc)).toFinset :=
  forall_writes_sub_of_map rfl
theorem val12_keep (V0 : Valuation τ sig (Elt F)) (r : Ref sig .tc) (h : r ∉ wr12) : val12 V0 (Proc.devRef .tc r) = (val11 V0) (Proc.devRef .tc r) :=
  after_of_writes_sub hostOps0_12 _ wr12_sub h
theorem val12_arg1 (V0 : Valuation τ sig (Elt F)) : val12 V0 (no_index (Proc.devRef .tc main_arg1)) = V0 (Proc.devRef .tc main_arg1) :=
  (val12_keep V0 main_arg1 (by decide)).trans (val11_arg1 V0)
theorem val12_arg2 (V0 : Valuation τ sig (Elt F)) : val12 V0 (no_index (Proc.devRef .tc main_arg2)) = V0 (Proc.devRef .tc main_arg2) :=
  (val12_keep V0 main_arg2 (by decide)).trans (val11_arg2 V0)
theorem val12_arg3 (V0 : Valuation τ sig (Elt F)) : val12 V0 (no_index (Proc.devRef .tc main_arg3)) = V0 (Proc.devRef .tc main_arg3) :=
  (val12_keep V0 main_arg3 (by decide)).trans (val11_arg3 V0)
theorem val12_v48 (V0 : Valuation τ sig (Elt F)) : val12 V0 (no_index (Proc.devRef .tc main_v48)) = h48 V0 :=
  (val12_keep V0 main_v48 (by decide)).trans (val11_v48 V0)
theorem val12_v49 (V0 : Valuation τ sig (Elt F)) : val12 V0 (no_index (Proc.devRef .tc main_v49)) = h49 V0 :=
  (val12_keep V0 main_v49 (by decide)).trans (val11_v49 V0)
set_option maxHeartbeats 2000000 in
theorem val12_v68 (V0 : Valuation τ sig (Elt F)) : val12 V0 (no_index (Proc.devRef .tc main_v68)) = subi (broadcastInDim S768 ![] bcast_S_S768 (constantI S_ 32 512#32)) h66 := by
  unfold val12
  simp only [hostOps0_12, TRef.nullary, TRef.unary, TRef.binary, TRef.ternary, TRef.toBuf, TRef.ofBuf, cast_eq]
  after_results_simp
  try simp only [val11_arg1, val11_arg2, val11_arg3, val11_v48, val11_v49, val11_v66]
  try (rfl)
set_option maxHeartbeats 2000000 in
theorem val12_c_18 (V0 : Valuation τ sig (Elt F)) : val12 V0 (no_index (Proc.devRef .tc main_c_18)) = constantI S_ 32 4294967168#32 := by
  unfold val12
  simp only [hostOps0_12, TRef.nullary, TRef.unary, TRef.binary, TRef.ternary, TRef.toBuf, TRef.ofBuf, cast_eq]
  after_results_simp
  try simp only [val11_arg1, val11_arg2, val11_arg3, val11_v48, val11_v49, val11_v66]
  try (rfl)
set_option maxHeartbeats 2000000 in
theorem val12_c_19 (V0 : Valuation τ sig (Elt F)) : val12 V0 (no_index (Proc.devRef .tc main_c_19)) = constantI S_ 32 128#32 := by
  unfold val12
  simp only [hostOps0_12, TRef.nullary, TRef.unary, TRef.binary, TRef.ternary, TRef.toBuf, TRef.ofBuf, cast_eq]
  after_results_simp
  try simp only [val11_arg1, val11_arg2, val11_arg3, val11_v48, val11_v49, val11_v66]
  try (rfl)
/-- The buffers after the first 14 groups. -/
def val13 (V0 : Valuation τ sig (Elt F)) : Valuation τ sig (Elt F) := after hostOps0_13 (val12 V0)

abbrev wr13 : List (Ref sig .tc) := [main_call6_v0, main_call6_v1, main_call6_v2, main_call6_v3, main_call6_v4, main_v69]
theorem wr13_sub : (hostOps0_13 : List (HloOp τ sig (Elt F))).Forall fun op => op.writes ⊆ (wr13.map (Proc.devRef (τ := τ) .tc)).toFinset :=
  forall_writes_sub_of_map rfl
theorem val13_keep (V0 : Valuation τ sig (Elt F)) (r : Ref sig .tc) (h : r ∉ wr13) : val13 V0 (Proc.devRef .tc r) = (val12 V0) (Proc.devRef .tc r) :=
  after_of_writes_sub hostOps0_13 _ wr13_sub h
theorem val13_arg1 (V0 : Valuation τ sig (Elt F)) : val13 V0 (no_index (Proc.devRef .tc main_arg1)) = V0 (Proc.devRef .tc main_arg1) :=
  (val13_keep V0 main_arg1 (by decide)).trans (val12_arg1 V0)
theorem val13_arg2 (V0 : Valuation τ sig (Elt F)) : val13 V0 (no_index (Proc.devRef .tc main_arg2)) = V0 (Proc.devRef .tc main_arg2) :=
  (val13_keep V0 main_arg2 (by decide)).trans (val12_arg2 V0)
theorem val13_arg3 (V0 : Valuation τ sig (Elt F)) : val13 V0 (no_index (Proc.devRef .tc main_arg3)) = V0 (Proc.devRef .tc main_arg3) :=
  (val13_keep V0 main_arg3 (by decide)).trans (val12_arg3 V0)
theorem val13_v48 (V0 : Valuation τ sig (Elt F)) : val13 V0 (no_index (Proc.devRef .tc main_v48)) = h48 V0 :=
  (val13_keep V0 main_v48 (by decide)).trans (val12_v48 V0)
theorem val13_v49 (V0 : Valuation τ sig (Elt F)) : val13 V0 (no_index (Proc.devRef .tc main_v49)) = h49 V0 :=
  (val13_keep V0 main_v49 (by decide)).trans (val12_v49 V0)
set_option maxHeartbeats 2000000 in
theorem val13_v69 (V0 : Valuation τ sig (Elt F)) : val13 V0 (no_index (Proc.devRef .tc main_v69)) = minsi (broadcastInDim S768 ![] bcast_S_S768 (id (constantI S_ 32 128#32))) (maxsi (broadcastInDim S768 ![] bcast_S_S768 (id (constantI S_ 32 4294967168#32))) (subi (broadcastInDim S768 ![] bcast_S_S768 (constantI S_ 32 512#32)) h66)) := by
  unfold val13
  simp only [hostOps0_13, TRef.nullary, TRef.unary, TRef.binary, TRef.ternary, TRef.toBuf, TRef.ofBuf, cast_eq]
  after_results_simp
  try simp only [val12_arg1, val12_arg2, val12_arg3, val12_v48, val12_v49, val12_v68, val12_c_18, val12_c_19]
  try (rfl)
/-- The buffers after the first 15 groups. -/
def val14 (V0 : Valuation τ sig (Elt F)) : Valuation τ sig (Elt F) := after hostOps0_14 (val13 V0)

abbrev wr14 : List (Ref sig .tc) := [main_c_20, main_v70, main_v71, main_v72, main_v73, main_v74, main_v75, main_v76, main_v77, main_v78, main_v79, main_v80, main_v81, main_v82, main_v83, main_v84, main_v85, main_v86, main_v87, main_v88, main_c_21]
theorem wr14_sub : (hostOps0_14 : List (HloOp τ sig (Elt F))).Forall fun op => op.writes ⊆ (wr14.map (Proc.devRef (τ := τ) .tc)).toFinset :=
  forall_writes_sub_of_map rfl
theorem val14_keep (V0 : Valuation τ sig (Elt F)) (r : Ref sig .tc) (h : r ∉ wr14) : val14 V0 (Proc.devRef .tc r) = (val13 V0) (Proc.devRef .tc r) :=
  after_of_writes_sub hostOps0_14 _ wr14_sub h
theorem val14_arg2 (V0 : Valuation τ sig (Elt F)) : val14 V0 (no_index (Proc.devRef .tc main_arg2)) = V0 (Proc.devRef .tc main_arg2) :=
  (val14_keep V0 main_arg2 (by decide)).trans (val13_arg2 V0)
theorem val14_arg3 (V0 : Valuation τ sig (Elt F)) : val14 V0 (no_index (Proc.devRef .tc main_arg3)) = V0 (Proc.devRef .tc main_arg3) :=
  (val14_keep V0 main_arg3 (by decide)).trans (val13_arg3 V0)
theorem val14_v48 (V0 : Valuation τ sig (Elt F)) : val14 V0 (no_index (Proc.devRef .tc main_v48)) = h48 V0 :=
  (val14_keep V0 main_v48 (by decide)).trans (val13_v48 V0)
theorem val14_v49 (V0 : Valuation τ sig (Elt F)) : val14 V0 (no_index (Proc.devRef .tc main_v49)) = h49 V0 :=
  (val14_keep V0 main_v49 (by decide)).trans (val13_v49 V0)
set_option maxHeartbeats 2000000 in
theorem val14_v86 (V0 : Valuation τ sig (Elt F)) : val14 V0 (no_index (Proc.devRef .tc main_v86)) = h86 V0 := by
  unfold val14
  simp only [hostOps0_14, TRef.nullary, TRef.unary, TRef.binary, TRef.ternary, TRef.toBuf, TRef.ofBuf, cast_eq]
  after_results_simp
  try simp only [val13_arg1, val13_arg2, val13_arg3, val13_v48, val13_v49, val13_v69]
  try (unfold h86; rfl)
set_option maxHeartbeats 2000000 in
theorem val14_v88 (V0 : Valuation τ sig (Elt F)) : val14 V0 (no_index (Proc.devRef .tc main_v88)) = h88 := by
  unfold val14
  simp only [hostOps0_14, TRef.nullary, TRef.unary, TRef.binary, TRef.ternary, TRef.toBuf, TRef.ofBuf, cast_eq]
  after_results_simp
  try simp only [val13_arg1, val13_arg2, val13_arg3, val13_v48, val13_v49, val13_v69]
  try (unfold h88; rfl)
set_option maxHeartbeats 2000000 in
theorem val14_c_21 (V0 : Valuation τ sig (Elt F)) : val14 V0 (no_index (Proc.devRef .tc main_c_21)) = constantI S_ 32 64#32 := by
  unfold val14
  simp only [hostOps0_14, TRef.nullary, TRef.unary, TRef.binary, TRef.ternary, TRef.toBuf, TRef.ofBuf, cast_eq]
  after_results_simp
  try simp only [val13_arg1, val13_arg2, val13_arg3, val13_v48, val13_v49, val13_v69]
  try (rfl)
/-- The buffers after the first 16 groups. -/
def val15 (V0 : Valuation τ sig (Elt F)) : Valuation τ sig (Elt F) := after hostOps0_15 (val14 V0)

abbrev wr15 : List (Ref sig .tc) := [main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v89]
theorem wr15_sub : (hostOps0_15 : List (HloOp τ sig (Elt F))).Forall fun op => op.writes ⊆ (wr15.map (Proc.devRef (τ := τ) .tc)).toFinset :=
  forall_writes_sub_of_map rfl
theorem val15_keep (V0 : Valuation τ sig (Elt F)) (r : Ref sig .tc) (h : r ∉ wr15) : val15 V0 (Proc.devRef .tc r) = (val14 V0) (Proc.devRef .tc r) :=
  after_of_writes_sub hostOps0_15 _ wr15_sub h
theorem val15_arg2 (V0 : Valuation τ sig (Elt F)) : val15 V0 (no_index (Proc.devRef .tc main_arg2)) = V0 (Proc.devRef .tc main_arg2) :=
  (val15_keep V0 main_arg2 (by decide)).trans (val14_arg2 V0)
theorem val15_arg3 (V0 : Valuation τ sig (Elt F)) : val15 V0 (no_index (Proc.devRef .tc main_arg3)) = V0 (Proc.devRef .tc main_arg3) :=
  (val15_keep V0 main_arg3 (by decide)).trans (val14_arg3 V0)
theorem val15_v48 (V0 : Valuation τ sig (Elt F)) : val15 V0 (no_index (Proc.devRef .tc main_v48)) = h48 V0 :=
  (val15_keep V0 main_v48 (by decide)).trans (val14_v48 V0)
theorem val15_v49 (V0 : Valuation τ sig (Elt F)) : val15 V0 (no_index (Proc.devRef .tc main_v49)) = h49 V0 :=
  (val15_keep V0 main_v49 (by decide)).trans (val14_v49 V0)
theorem val15_v86 (V0 : Valuation τ sig (Elt F)) : val15 V0 (no_index (Proc.devRef .tc main_v86)) = h86 V0 :=
  (val15_keep V0 main_v86 (by decide)).trans (val14_v86 V0)
set_option maxHeartbeats 2000000 in
theorem val15_v89 (V0 : Valuation τ sig (Elt F)) : val15 V0 (no_index (Proc.devRef .tc main_v89)) = h89 := by
  unfold val15
  simp only [hostOps0_15, TRef.nullary, TRef.unary, TRef.binary, TRef.ternary, TRef.toBuf, TRef.ofBuf, cast_eq]
  after_results_simp
  try simp only [val14_arg2, val14_arg3, val14_v48, val14_v49, val14_v86, val14_v88, val14_c_21]
  try (unfold h89; rfl)
/-- The buffers after the first 17 groups. -/
def val16 (V0 : Valuation τ sig (Elt F)) : Valuation τ sig (Elt F) := after hostOps0_16 (val15 V0)

abbrev wr16 : List (Ref sig .tc) := [main_c_22, main_v90, main_v91, main_v92, main_v93, main_v94, main_v95, main_v96, main_c_23, main_v97, main_v98, main_c_24, main_v99, main_v100, main_v101, main_v102, main_v103, main_v104, main_cst_25]
theorem wr16_sub : (hostOps0_16 : List (HloOp τ sig (Elt F))).Forall fun op => op.writes ⊆ (wr16.map (Proc.devRef (τ := τ) .tc)).toFinset :=
  forall_writes_sub_of_map rfl
theorem val16_keep (V0 : Valuation τ sig (Elt F)) (r : Ref sig .tc) (h : r ∉ wr16) : val16 V0 (Proc.devRef .tc r) = (val15 V0) (Proc.devRef .tc r) :=
  after_of_writes_sub hostOps0_16 _ wr16_sub h
theorem val16_arg2 (V0 : Valuation τ sig (Elt F)) : val16 V0 (no_index (Proc.devRef .tc main_arg2)) = V0 (Proc.devRef .tc main_arg2) :=
  (val16_keep V0 main_arg2 (by decide)).trans (val15_arg2 V0)
theorem val16_arg3 (V0 : Valuation τ sig (Elt F)) : val16 V0 (no_index (Proc.devRef .tc main_arg3)) = V0 (Proc.devRef .tc main_arg3) :=
  (val16_keep V0 main_arg3 (by decide)).trans (val15_arg3 V0)
theorem val16_v48 (V0 : Valuation τ sig (Elt F)) : val16 V0 (no_index (Proc.devRef .tc main_v48)) = h48 V0 :=
  (val16_keep V0 main_v48 (by decide)).trans (val15_v48 V0)
theorem val16_v49 (V0 : Valuation τ sig (Elt F)) : val16 V0 (no_index (Proc.devRef .tc main_v49)) = h49 V0 :=
  (val16_keep V0 main_v49 (by decide)).trans (val15_v49 V0)
theorem val16_v86 (V0 : Valuation τ sig (Elt F)) : val16 V0 (no_index (Proc.devRef .tc main_v86)) = h86 V0 :=
  (val16_keep V0 main_v86 (by decide)).trans (val15_v86 V0)
set_option maxHeartbeats 2000000 in
theorem val16_v104 (V0 : Valuation τ sig (Elt F)) : val16 V0 (no_index (Proc.devRef .tc main_v104)) = h104 := by
  unfold val16
  simp only [hostOps0_16, TRef.nullary, TRef.unary, TRef.binary, TRef.ternary, TRef.toBuf, TRef.ofBuf, cast_eq]
  after_results_simp
  try simp only [val15_arg2, val15_arg3, val15_v48, val15_v49, val15_v86, val15_v89]
  try (unfold h104; rfl)
set_option maxHeartbeats 2000000 in
theorem val16_cst_25 (V0 : Valuation τ sig (Elt F)) : val16 V0 (no_index (Proc.devRef .tc main_cst_25)) = (constant (F := F) S_ .f32 0xFF800000#32 : Vec F S_ .f32) := by
  unfold val16
  simp only [hostOps0_16, TRef.nullary, TRef.unary, TRef.binary, TRef.ternary, TRef.toBuf, TRef.ofBuf, cast_eq]
  after_results_simp
  try simp only [val15_arg2, val15_arg3, val15_v48, val15_v49, val15_v86, val15_v89]
  try (rfl)
/-- The buffers after the first 18 groups. -/
def val17 (V0 : Valuation τ sig (Elt F)) : Valuation τ sig (Elt F) := after hostOps0_17 (val16 V0)

abbrev wr17 : List (Ref sig .tc) := [main_call8_v0, main_call8_v1, main_call8_v2, main_v105]
theorem wr17_sub : (hostOps0_17 : List (HloOp τ sig (Elt F))).Forall fun op => op.writes ⊆ (wr17.map (Proc.devRef (τ := τ) .tc)).toFinset :=
  forall_writes_sub_of_map rfl
theorem val17_keep (V0 : Valuation τ sig (Elt F)) (r : Ref sig .tc) (h : r ∉ wr17) : val17 V0 (Proc.devRef .tc r) = (val16 V0) (Proc.devRef .tc r) :=
  after_of_writes_sub hostOps0_17 _ wr17_sub h
theorem val17_arg2 (V0 : Valuation τ sig (Elt F)) : val17 V0 (no_index (Proc.devRef .tc main_arg2)) = V0 (Proc.devRef .tc main_arg2) :=
  (val17_keep V0 main_arg2 (by decide)).trans (val16_arg2 V0)
theorem val17_arg3 (V0 : Valuation τ sig (Elt F)) : val17 V0 (no_index (Proc.devRef .tc main_arg3)) = V0 (Proc.devRef .tc main_arg3) :=
  (val17_keep V0 main_arg3 (by decide)).trans (val16_arg3 V0)
theorem val17_v48 (V0 : Valuation τ sig (Elt F)) : val17 V0 (no_index (Proc.devRef .tc main_v48)) = h48 V0 :=
  (val17_keep V0 main_v48 (by decide)).trans (val16_v48 V0)
theorem val17_v49 (V0 : Valuation τ sig (Elt F)) : val17 V0 (no_index (Proc.devRef .tc main_v49)) = h49 V0 :=
  (val17_keep V0 main_v49 (by decide)).trans (val16_v49 V0)
set_option maxHeartbeats 2000000 in
theorem val17_v105 (V0 : Valuation τ sig (Elt F)) : val17 V0 (no_index (Proc.devRef .tc main_v105)) = h105 V0 := by
  unfold val17
  simp only [hostOps0_17, TRef.nullary, TRef.unary, TRef.binary, TRef.ternary, TRef.toBuf, TRef.ofBuf, cast_eq]
  after_results_simp
  try simp only [val16_arg2, val16_arg3, val16_v48, val16_v49, val16_v86, val16_v104, val16_cst_25]
  try (unfold h105; rfl)
/-- The buffers after the first 19 groups. -/
def val18 (V0 : Valuation τ sig (Elt F)) : Valuation τ sig (Elt F) := after hostOps0_18 (val17 V0)

abbrev wr18 : List (Ref sig .tc) := [main_v106, main_v107]
theorem wr18_sub : (hostOps0_18 : List (HloOp τ sig (Elt F))).Forall fun op => op.writes ⊆ (wr18.map (Proc.devRef (τ := τ) .tc)).toFinset :=
  forall_writes_sub_of_map rfl
theorem val18_keep (V0 : Valuation τ sig (Elt F)) (r : Ref sig .tc) (h : r ∉ wr18) : val18 V0 (Proc.devRef .tc r) = (val17 V0) (Proc.devRef .tc r) :=
  after_of_writes_sub hostOps0_18 _ wr18_sub h
theorem val18_arg3 (V0 : Valuation τ sig (Elt F)) : val18 V0 (no_index (Proc.devRef .tc main_arg3)) = V0 (Proc.devRef .tc main_arg3) :=
  (val18_keep V0 main_arg3 (by decide)).trans (val17_arg3 V0)
theorem val18_v49 (V0 : Valuation τ sig (Elt F)) : val18 V0 (no_index (Proc.devRef .tc main_v49)) = h49 V0 :=
  (val18_keep V0 main_v49 (by decide)).trans (val17_v49 V0)
theorem val18_v105 (V0 : Valuation τ sig (Elt F)) : val18 V0 (no_index (Proc.devRef .tc main_v105)) = h105 V0 :=
  (val18_keep V0 main_v105 (by decide)).trans (val17_v105 V0)
set_option maxHeartbeats 2000000 in
theorem val18_v106 (V0 : Valuation τ sig (Elt F)) : val18 V0 (no_index (Proc.devRef .tc main_v106)) = h106 V0 := by
  unfold val18
  simp only [hostOps0_18, TRef.nullary, TRef.unary, TRef.binary, TRef.ternary, TRef.toBuf, TRef.ofBuf, cast_eq]
  after_results_simp
  try simp only [val17_arg2, val17_arg3, val17_v48, val17_v49, val17_v105]
  try (unfold h106; rfl)
set_option maxHeartbeats 2000000 in
theorem val18_v107 (V0 : Valuation τ sig (Elt F)) : val18 V0 (no_index (Proc.devRef .tc main_v107)) = h107 V0 := by
  unfold val18
  simp only [hostOps0_18, TRef.nullary, TRef.unary, TRef.binary, TRef.ternary, TRef.toBuf, TRef.ofBuf, cast_eq]
  after_results_simp
  try simp only [val17_arg2, val17_arg3, val17_v48, val17_v49, val17_v105]
  try (unfold h107; rfl)

/-- What the region finds. -/
theorem after_groups (V0 : Valuation τ sig (Elt F)) : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) V0 = val18 V0 := by
  simp only [List.flatten_cons, List.flatten_nil, List.append_nil, after_append]
  rfl

variable (m : (ℓ : Loc nD τ sig) → Buf (Elt F) ℓ) (c : Dev nD)

theorem V_v49 : Gen.V m c main_v49 = h49 (fun b => m (c, b)) :=
  (congrFun (after_groups _) _).trans (val18_v49 _)
theorem V_v105 : Gen.V m c main_v105 = h105 (fun b => m (c, b)) :=
  (congrFun (after_groups _) _).trans (val18_v105 _)
theorem V_v106 : Gen.V m c main_v106 = h106 (fun b => m (c, b)) :=
  (congrFun (after_groups _) _).trans (val18_v106 _)
theorem V_v107 : Gen.V m c main_v107 = h107 (fun b => m (c, b)) :=
  (congrFun (after_groups _) _).trans (val18_v107 _)
theorem V_arg3 : Gen.V m c main_arg3 = m ((c : Thread nD τ).loc main_arg3) :=
  (congrFun (after_groups _) _).trans (val18_arg3 _)

end Cert.KernelIdeal.Own

end
-- ==== Proof.Value.Math.lean ====
/- The gradient of a softmax row and of a normalised head over the extended reals: the two ways of writing each agree. -/
module

public import Idealize.ShloMosaic.Lib.Pointwise

@[expose] public section

noncomputable section

namespace Cert.Value

open Idealize.ShloMosaic

/-- A nonnegative real among the extended reals. -/
def IsNN (x : EReal) : Prop := ∃ r : ℝ, 0 ≤ r ∧ x = (r : EReal)

/-- A positive real among the extended reals. -/
def IsPos (x : EReal) : Prop := ∃ r : ℝ, 0 < r ∧ x = (r : EReal)

theorem IsPos.nn {x : EReal} : IsPos x → IsNN x := fun ⟨r, h, e⟩ => ⟨r, h.le, e⟩

theorem IsNN.mul {x y : EReal} : IsNN x → IsNN y → IsNN (x * y) := fun ⟨r, hr, er⟩ ⟨s, hs, es⟩ =>
  ⟨r * s, mul_nonneg hr hs, by rw [er, es, EReal.coe_mul]⟩

theorem IsPos.mul {x y : EReal} : IsPos x → IsPos y → IsPos (x * y) := fun ⟨r, hr, er⟩ ⟨s, hs, es⟩ =>
  ⟨r * s, mul_pos hr hs, by rw [er, es, EReal.coe_mul]⟩

theorem IsNN.left_distrib {c : EReal} (hc : IsNN c) (x y : EReal) : c * (x + y) = c * x + c * y := by
  obtain ⟨r, hr, rfl⟩ := hc
  exact EReal.left_distrib_of_nonneg_of_ne_top (by exact_mod_cast hr) (EReal.coe_ne_top r) x y

theorem IsNN.right_distrib {c : EReal} (hc : IsNN c) (x y : EReal) : (x + y) * c = x * c + y * c := by
  rw [mul_comm, hc.left_distrib, mul_comm c x, mul_comm c y]

theorem IsNN.sub_left {c : EReal} (hc : IsNN c) (x y : EReal) : c * (x - y) = c * x - c * y := by
  rw [sub_eq_add_neg, hc.left_distrib, mul_neg, ← sub_eq_add_neg]

theorem IsNN.mul_sum {ι : Type*} {c : EReal} (hc : IsNN c) (s : Finset ι) (f : ι → EReal) : c * ∑ i ∈ s, f i = ∑ i ∈ s, c * f i := by
  classical
  induction s using Finset.induction_on with
  | empty => simp
  | insert a s ha ih => rw [Finset.sum_insert ha, Finset.sum_insert ha, hc.left_distrib, ih]

theorem IsNN.sum_mul {ι : Type*} {c : EReal} (hc : IsNN c) (s : Finset ι) (f : ι → EReal) : (∑ i ∈ s, f i) * c = ∑ i ∈ s, f i * c := by
  rw [mul_comm, hc.mul_sum]; exact Finset.sum_congr rfl fun i _ => mul_comm _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exists_real {x : EReal} (h : x ≠ ⊤) (h' : x ≠ ⊥) : ∃ r : ℝ, x = (r : EReal) := ⟨x.toReal, (EReal.coe_toReal h h').symm⟩

theorem div_pos {c : EReal} (hc : IsPos c) (x : EReal) : Ideal.div x c = x * Ideal.div 1 c := by
  obtain ⟨r, hr, rfl⟩ := hc
  rw [Ideal.div_coe hr.ne', Ideal.div_coe hr.ne' 1, one_mul]

theorem one_div_pos {c : EReal} (hc : IsPos c) : IsPos (Ideal.div 1 c) := by
  obtain ⟨r, hr, rfl⟩ := hc
  exact ⟨1 / r, _root_.one_div_pos.mpr hr, by rw [Ideal.div_coe hr.ne', one_mul]⟩

theorem one_div_sq {c : EReal} (hc : IsPos c) : Ideal.div 1 (c * c) = Ideal.div 1 c * Ideal.div 1 c := by
  obtain ⟨r, hr, rfl⟩ := hc
  rw [← EReal.coe_mul, Ideal.div_coe (mul_pos hr hr).ne', Ideal.div_coe hr.ne', one_mul, one_mul, ← EReal.coe_mul]
  congr 1; field_simp

/-! ## The softmax row -/

/-- A row's maximum, its exponentials and their sum. -/
def rowMax {n : ℕ} (S : Fin n → EReal) : EReal := Finset.univ.fold max ⊥ S
def rowExp {n : ℕ} (S : Fin n → EReal) (s : Fin n) : EReal := Ideal.exp (S s - rowMax S)
def rowSum {n : ℕ} (S : Fin n → EReal) : EReal := ∑ s, rowExp S s

theorem rowMax_eq {n : ℕ} (S : Fin n → EReal) : rowMax S = Finset.univ.sup S := by
  unfold rowMax Finset.sup; rfl

/-- A row that the softmax is taken of: no entry is `⊤`, and not all are `⊥`. -/
def Good {n : ℕ} (S : Fin n → EReal) : Prop := (∀ s, S s ≠ ⊤) ∧ ∃ s, S s ≠ ⊥

theorem Good.max_real {n : ℕ} {S : Fin n → EReal} (h : Good S) : ∃ r : ℝ, rowMax S = (r : EReal) ∧ ∃ s, S s = (r : EReal) := by
  obtain ⟨ht, s₀, hs₀⟩ := h
  obtain ⟨s, -, hs⟩ := Finset.exists_mem_eq_sup Finset.univ ⟨s₀, Finset.mem_univ _⟩ S
  have hle : S s₀ ≤ S s := by rw [← hs]; exact Finset.le_sup (Finset.mem_univ _)
  obtain ⟨r, hr⟩ := exists_real (ht s) (fun e => hs₀ (le_bot_iff.mp (e ▸ hle)))
  exact ⟨r, by rw [rowMax_eq, hs, hr], s, hr⟩

theorem exp_nn {x : EReal} (h : x ≠ ⊤) : IsNN (Ideal.exp x) := by
  induction x using EReal.rec with
  | bot => exact ⟨0, le_rfl, by simp⟩
  | top => exact absurd rfl h
  | coe r => exact ⟨Real.exp r, (Real.exp_pos r).le, rfl⟩

theorem Good.exp_nn {n : ℕ} {S : Fin n → EReal} (h : Good S) (s : Fin n) : IsNN (rowExp S s) := by
  obtain ⟨r, hr, -⟩ := h.max_real
  refine Value.exp_nn ?_
  rw [hr]
  have := h.1 s
  revert this
  induction S s using EReal.rec with
  | bot => intro _; rw [EReal.bot_sub]; exact bot_ne_top
  | top => intro h; exact absurd rfl h
  | coe x => intro _; rw [← EReal.coe_sub]; exact EReal.coe_ne_top _

theorem Good.sum_pos {n : ℕ} {S : Fin n → EReal} (h : Good S) : IsPos (rowSum S) := by
  obtain ⟨r, hr, s₀, hs₀⟩ := h.max_real
  choose f hf0 hf using h.exp_nn
  refine ⟨∑ s, f s, ?_, ?_⟩
  · have h1 : f s₀ = 1 := by
      have : rowExp S s₀ = 1 := by
        unfold rowExp
        rw [hr, hs₀, ← EReal.coe_sub, sub_self]
        show ((Real.exp 0 : ℝ) : EReal) = 1
        rw [Real.exp_zero, EReal.coe_one]
      have := (hf s₀).symm.trans this
      exact_mod_cast this
    exact Finset.sum_pos' (fun s _ => hf0 s) ⟨s₀, Finset.mem_univ _, by rw [h1]; exact one_pos⟩
  · unfold rowSum; rw [coe_sum]; exact Finset.sum_congr rfl fun s _ => hf s

theorem rowExp_bot {n : ℕ} {S : Fin n → EReal} {s : Fin n} (hs : S s = ⊥) : rowExp S s = 0 := by
  unfold rowExp; rw [hs, EReal.bot_sub]; simp

/-- The probabilities, and the gradient of the scores from that of the probabilities. -/
def rowP {n : ℕ} (S : Fin n → EReal) (s : Fin n) : EReal := rowExp S s * Ideal.div 1 (rowSum S)
def rowDs {n : ℕ} (S dp : Fin n → EReal) (s : Fin n) : EReal := rowP S s * (dp s - ∑ s', rowP S s' * dp s')

theorem Good.p_nn {n : ℕ} {S : Fin n → EReal} (h : Good S) (s : Fin n) : IsNN (rowP S s) :=
  (h.exp_nn s).mul (one_div_pos h.sum_pos).nn

theorem Good.p_eq {n : ℕ} {S : Fin n → EReal} (h : Good S) (s : Fin n) : Ideal.div (rowExp S s) (rowSum S) = rowP S s :=
  div_pos h.sum_pos _

theorem rowP_bot {n : ℕ} {S : Fin n → EReal} {s : Fin n} (hs : S s = ⊥) : rowP S s = 0 := by
  unfold rowP; rw [rowExp_bot hs, zero_mul]

theorem rowDs_bot {n : ℕ} {S dp : Fin n → EReal} {s : Fin n} (hs : S s = ⊥) : rowDs S dp s = 0 := by
  unfold rowDs; rw [rowP_bot hs, zero_mul]

/-- The derivative of `e / Z` by its quotient is the softmax's own. -/
theorem Good.ds_eq {n : ℕ} {S : Fin n → EReal} (h : Good S) (dp : Fin n → EReal) (s : Fin n) :
    (Ideal.div (dp s) (rowSum S) + -∑ s', dp s' * Ideal.div 1 (rowSum S * rowSum S) * rowExp S s') * rowExp S s = rowDs S dp s := by
  have hc := (one_div_pos h.sum_pos).nn
  have hT : ∑ s', dp s' * Ideal.div 1 (rowSum S * rowSum S) * rowExp S s' = Ideal.div 1 (rowSum S) * ∑ s', rowP S s' * dp s' := by
    rw [hc.mul_sum]
    refine Finset.sum_congr rfl fun s' _ => ?_
    rw [one_div_sq h.sum_pos]
    unfold rowP; ac_rfl
  rw [hT, div_pos h.sum_pos, ← mul_neg, mul_comm (dp s), ← hc.left_distrib]
  unfold rowDs
  rw [sub_eq_add_neg]
  generalize dp s + -∑ s', rowP S s' * dp s' = y
  unfold rowP; ac_rfl

/-! ## The normalised head -/

theorem rsqrt_pos {a : EReal} (ha : IsPos a) : IsPos (Ideal.rsqrt a) ∧ Ideal.div (Ideal.rsqrt a) a = Ideal.rsqrt a * (Ideal.rsqrt a * Ideal.rsqrt a) := by
  obtain ⟨x, hx, rfl⟩ := ha
  have hs : 0 < Real.sqrt x := Real.sqrt_pos.mpr hx
  have e : Ideal.rsqrt (x : EReal) = ((Real.sqrt x)⁻¹ : ℝ) := by
    show (if x < 0 then (⊥ : EReal) else if x = 0 then ⊤ else (((Real.sqrt x)⁻¹ : ℝ) : EReal)) = _
    rw [if_neg hx.le.not_gt, if_neg hx.ne']
  rw [e]
  refine ⟨⟨_, inv_pos.mpr hs, rfl⟩, ?_⟩
  rw [Ideal.div_coe hx.ne', ← EReal.coe_mul, ← EReal.coe_mul, ← EReal.coe_mul]
  congr 2
  rw [← mul_inv, Real.mul_self_sqrt hx.le, one_div]

/-- The gradient through the root mean square: the derivative of `o · r(o)` by its product against the projected form.
`n64` is the head's size, `half` the literal one half, negated. -/
theorem rms_eq (o g : Fin 64 → EReal) (ho : ∀ d, ∃ x : ℝ, o d = (x : EReal)) (a : EReal) (ha : IsPos a) (d : Fin 64) :
    g d * Ideal.rsqrt a
        + o d * Ideal.div ((∑ d', o d' * g d') * (((-(1 / 2) : ℝ) : EReal) * Ideal.div (Ideal.rsqrt a) a)) ((64 : ℝ) : EReal)
        + Ideal.div ((∑ d', o d' * g d') * (((-(1 / 2) : ℝ) : EReal) * Ideal.div (Ideal.rsqrt a) a)) ((64 : ℝ) : EReal) * o d
      = Ideal.rsqrt a * (g d - o d * Ideal.rsqrt a * ((∑ d', g d' * (o d' * Ideal.rsqrt a)) * ((1 / 64 : ℝ) : EReal))) := by
  obtain ⟨hr, hra⟩ := rsqrt_pos ha
  rw [hra]
  generalize Ideal.rsqrt a = r at hr
  have hW : ∑ d', g d' * (o d' * r) = r * ∑ d', o d' * g d' := by
    rw [hr.nn.mul_sum]; exact Finset.sum_congr rfl fun _ _ => by ac_rfl
  rw [hW]
  generalize ∑ d', o d' * g d' = W
  rw [hr.nn.sub_left, sub_eq_add_neg, add_assoc, mul_comm (g d) r]
  congr 1
  rw [Ideal.div_coe (by norm_num)]
  obtain ⟨x, hx⟩ := ho d
  obtain ⟨y, hy, rfl⟩ := hr
  rw [hx]
  -- one term, twice
  have e1 : (x : EReal) * (W * (((-(1 / 2) : ℝ) : EReal) * (↑y * (↑y * ↑y))) * ((1 / 64 : ℝ) : EReal)) = W * ((x * (-(1 / 2) * (y * (y * y))) * (1 / 64) : ℝ) : EReal) := by
    simp only [EReal.coe_mul]; ac_rfl
  have e2 : W * (((-(1 / 2) : ℝ) : EReal) * (↑y * (↑y * ↑y))) * ((1 / 64 : ℝ) : EReal) * (x : EReal) = W * ((x * (-(1 / 2) * (y * (y * y))) * (1 / 64) : ℝ) : EReal) := by
    simp only [EReal.coe_mul]; ac_rfl
  have e3 : (y : EReal) * (↑x * ↑y * (↑y * W * ((1 / 64 : ℝ) : EReal))) = W * ((y * (x * y * (y * (1 / 64))) : ℝ) : EReal) := by
    simp only [EReal.coe_mul]; ac_rfl
  rw [e1, e2, e3, ← mul_neg, ← EReal.coe_neg]
  have hs : ∀ z : ℝ, W * (z : EReal) + W * (z : EReal) = W * ((2 * z : ℝ) : EReal) := by
    intro z
    have h2 : ((2 * z : ℝ) : EReal) = (1 + 1) * (z : EReal) := by
      rw [EReal.coe_mul, ← EReal.coe_one, ← EReal.coe_add]; norm_num
    rw [h2, mul_left_comm, EReal.right_distrib_of_nonneg zero_le_one zero_le_one, one_mul]
  rw [hs]
  congr 2; ring

theorem mean_pos (o : Fin 64 → EReal) (ho : ∀ d, ∃ x : ℝ, o d = (x : EReal)) (c eps : EReal) (hc : IsNN c) (he : IsPos eps) :
    IsPos ((∑ d, o d * o d) * c + eps) := by
  choose f hf using ho
  obtain ⟨z, hz, rfl⟩ := hc
  obtain ⟨y, hy, rfl⟩ := he
  refine ⟨(∑ d, f d * f d) * z + y, add_pos_of_nonneg_of_pos (mul_nonneg (Finset.sum_nonneg fun d _ => mul_self_nonneg _) hz) hy, ?_⟩
  rw [EReal.coe_add, EReal.coe_mul, coe_sum]
  congr 2
  exact Finset.sum_congr rfl fun d _ => by rw [hf, EReal.coe_mul]

/-! ## A window of the padded sequence -/

/-- A sum over the window that starts at `b` of the padded sequence is the sum over the sequence. -/
theorem sum_window {M : Type*} [AddCommMonoid M] (b : ℕ) (f : Fin 4096 → M) (g : Fin 640 → M)
    (hfg : ∀ (s : Fin 4096) (w : Fin 640), w.val + b = s.val + 512 → g w = f s)
    (hg : ∀ w : Fin 640, w.val + b < 512 → g w = 0) (hb : b + 640 ≤ 4608)
    (hf : ∀ s : Fin 4096, s.val + 512 < b ∨ b + 640 ≤ s.val + 512 → f s = 0) : ∑ w, g w = ∑ s, f s := by
  refine Finset.sum_bij_ne_zero (fun w _ hw => ⟨w.val + b - 512, by have := w.isLt; omega⟩) (fun _ _ _ => Finset.mem_univ _) ?_ ?_ ?_
  · intro w _ hw w' _ hw' e
    have h1 : ¬w.val + b < 512 := fun h => hw (hg w h)
    have h2 : ¬w'.val + b < 512 := fun h => hw' (hg w' h)
    have := congrArg Fin.val e
    simp only at this
    exact Fin.ext (by omega)
  · intro s _ hs
    have h1 : ¬(s.val + 512 < b ∨ b + 640 ≤ s.val + 512) := fun h => hs (hf s h)
    have e : (⟨s.val + 512 - b, by omega⟩ : Fin 640).val + b = s.val + 512 := by show s.val + 512 - b + b = _; omega
    refine ⟨⟨s.val + 512 - b, by omega⟩, Finset.mem_univ _, ?_, ?_⟩
    · rw [hfg s _ e]; exact hs
    · apply Fin.ext; show s.val + 512 - b + b - 512 = s.val; omega
  · intro w _ hw
    have h1 : ¬w.val + b < 512 := fun h => hw (hg w h)
    exact hfg _ w (by show w.val + b = w.val + b - 512 + 512; omega)

/-- Likewise a maximum. -/
theorem max_window (b : ℕ) (f : Fin 4096 → EReal) (g : Fin 640 → EReal)
    (hfg : ∀ (s : Fin 4096) (w : Fin 640), w.val + b = s.val + 512 → g w = f s)
    (hg : ∀ w : Fin 640, w.val + b < 512 → g w = ⊥) (hb : b + 640 ≤ 4608)
    (hf : ∀ s : Fin 4096, s.val + 512 < b ∨ b + 640 ≤ s.val + 512 → f s = ⊥) : rowMax g = rowMax f := by
  rw [rowMax_eq, rowMax_eq]
  refine le_antisymm (Finset.sup_le fun w _ => ?_) (Finset.sup_le fun s _ => ?_)
  · by_cases h : w.val + b < 512
    · rw [hg w h]; exact bot_le
    · rw [hfg ⟨w.val + b - 512, by have := w.isLt; omega⟩ w (by show _ = w.val + b - 512 + 512; omega)]
      exact Finset.le_sup (f := f) (Finset.mem_univ _)
  · by_cases h : s.val + 512 < b ∨ b + 640 ≤ s.val + 512
    · rw [hf s h]; exact bot_le
    · rw [← hfg s ⟨s.val + 512 - b, by omega⟩ (by show s.val + 512 - b + b = _; omega)]
      exact Finset.le_sup (f := g) (Finset.mem_univ _)

end Cert.Value

end
-- ==== Proof.Value.Tile.lean ====
/- What the body computes of one pair of heads, read at an index: the two heads' tiles. -/
module

public import proofs.«01_k».proof.Proof.Value.Math
public import proofs.«01_k».proof.Proof.Gen.KernelIdeal.Skeleton
public import Idealize.ShloMosaic.Lib.Pointwise
public import Idealize.ShloMosaic.Lib.IdealHost
public import Idealize.ShloMosaic.Lib.WordCmp

@[expose] public section

noncomputable section

namespace Cert.Value

open Cert.KernelIdeal Cert.KernelIdeal.Gen
open Idealize.ShloMosaic

/-! ## One head's tile -/

/-- The literals: one eighth, one over sixty-four, and the norm's epsilon. -/
abbrev c8 : EReal := Ideal.ofBits .f32 0x3E000000#32
abbrev c64 : EReal := Ideal.ofBits .f32 0x3C800000#32
abbrev ceps : EReal := Ideal.ofBits .f32 0x358637BD#32

/-- What one head's tile of 128 rows and a window of 640 keys takes: the queries, the keys, the values, the bias, the
attention's output, the cotangent, the gain, and the place in the padded sequence at which the window starts. -/
structure Head where
  q : Fin 128 → Fin 64 → EReal
  k : Fin 640 → Fin 64 → EReal
  v : Fin 640 → Fin 64 → EReal
  b : Fin 128 → Fin 640 → EReal
  o : Fin 128 → Fin 64 → EReal
  d : Fin 128 → Fin 64 → EReal
  g : Fin 64 → EReal
  base : ℕ

namespace Head
variable (H : Head)

/-- The scores. -/
def S (i : Fin 128) (w : Fin 640) : EReal := if 512 ≤ w.val + H.base then (∑ x, H.q i x * c8 * H.k w x) + H.b i w else ⊥
/-- The inverse root mean square of the output. -/
def r (i : Fin 128) : EReal := Ideal.rsqrt ((∑ x, H.o i x * H.o i x) * c64 + ceps)
/-- The gradient with respect to the output, through the norm. -/
def dO (i : Fin 128) (x : Fin 64) : EReal :=
  H.r i * (H.d i x * H.g x - H.o i x * H.r i * ((∑ y, H.d i y * H.g y * (H.o i y * H.r i)) * c64))
/-- The gradient with respect to the probabilities. -/
def dP (i : Fin 128) (w : Fin 640) : EReal := ∑ x, H.dO i x * H.v w x
/-- The gradient with respect to the scores. -/
def dS (i : Fin 128) (w : Fin 640) : EReal := rowDs (H.S i) (H.dP i) w
def dq (i : Fin 128) (x : Fin 64) : EReal := (∑ w, H.dS i w * H.k w x) * c8
def dk (w : Fin 640) (x : Fin 64) : EReal := ∑ i, H.dS i w * (H.q i x * c8)
def dv (w : Fin 640) (x : Fin 64) : EReal := ∑ i, rowP (H.S i) w * H.dO i x
end Head

/-! ## The lanes -/

/-- Lane `64e + x`: the `x`-th of the pair's `e`-th head. -/
abbrev lane (e : Fin 2) (x : Fin 64) : Fin 128 := ⟨64 * e.val + x.val, by have := e.isLt; have := x.isLt; omega⟩

theorem lane_bit (l : Fin 128) : IntOp.cmpi .slt (BitVec.ofNat 32 l.val) 64#32 = 1#1 ↔ l.val < 64 := by
  revert l
  decide +kernel

theorem select_lane {α : Type} (l : Fin 128) (a b : α) :
    Scalar.select (IntOp.cmpi .slt (BitVec.ofNat 32 l.val) 64#32) a b = if l.val < 64 then a else b := by
  unfold Scalar.select
  exact if_congr (lane_bit l) rfl rfl

theorem valid_bit (w : Fin 640) (n : Fin 32) :
    IntOp.cmpi .sge (IntOp.addi (BitVec.ofNat 32 w.val) (IntOp.muli (BitVec.ofNat 32 n.val) 128#32)) 512#32 = 1#1 ↔ 512 ≤ w.val + 128 * n.val := by
  revert w n
  decide +kernel

/-- A sum over the lanes is that over the two heads'. -/
theorem sum_lanes {M : Type*} [AddCommMonoid M] (f : Fin 128 → M) : ∑ l, f l = ∑ x, f (lane 0 x) + ∑ x, f (lane 1 x) := by
  rw [show (∑ l, f l) = ∑ l : Fin (64 + 64), f l from rfl, Fin.sum_univ_add]
  refine congrArg₂ (· + ·) (Finset.sum_congr rfl fun x _ => congrArg f (Fin.ext ?_)) rfl
  show x.val = 64 * 0 + x.val
  omega

theorem sum_low {M : Type*} [AddCommMonoid M] (f : Fin 128 → M) : (∑ l : Fin 128, if l.val < 64 then f l else 0) = ∑ x, f (lane 0 x) := by
  rw [sum_lanes]
  have h0 : ∀ x : Fin 64, (lane 0 x).val < 64 := fun x => by show 64 * 0 + x.val < 64; omega
  have h1 : ∀ x : Fin 64, ¬(lane 1 x).val < 64 := fun x => by show ¬64 * 1 + x.val < 64; omega
  simp only [h0, h1, if_true, if_false, Finset.sum_const_zero, add_zero]

theorem sum_high {M : Type*} [AddCommMonoid M] (f : Fin 128 → M) : (∑ l : Fin 128, if l.val < 64 then 0 else f l) = ∑ x, f (lane 1 x) := by
  rw [sum_lanes]
  have h0 : ∀ x : Fin 64, (lane 0 x).val < 64 := fun x => by show 64 * 0 + x.val < 64; omega
  have h1 : ∀ x : Fin 64, ¬(lane 1 x).val < 64 := fun x => by show ¬64 * 1 + x.val < 64; omega
  simp only [h0, h1, if_true, if_false, Finset.sum_const_zero, zero_add]

end Cert.Value

end
-- ==== Proof.Value.Model.lean ====
/- One head over the whole sequence, by the mathematics: the scores, the softmax, the output, and the three gradients through
   the norm; and what a tile of 128 queries against its window of 640 keys has of them. -/
module

public import proofs.«01_k».proof.Proof.Value.Tile

@[expose] public section

noncomputable section

namespace Cert.Value

open Idealize.ShloMosaic

/-- One head of one sequence: queries, keys, values, the relative bias by offset, the gradient of the normed output, the gain. -/
structure Seq where
  Q : Fin 4096 → Fin 64 → EReal
  K : Fin 4096 → Fin 64 → EReal
  V : Fin 4096 → Fin 64 → EReal
  R : Fin 257 → EReal
  D : Fin 4096 → Fin 64 → EReal
  G : Fin 64 → EReal

/-- Query `t` sees key `s`: its own chunk of 64 and the eight before. -/
abbrev sees (t s : Fin 4096) : Prop := s.val / 64 ≤ t.val / 64 ∧ t.val / 64 ≤ s.val / 64 + 8
/-- The offset `t - s`, clipped to 128 either way, counted from 0. -/
abbrev offset (t s : Fin 4096) : Fin 257 := ⟨min (t.val + 128 - s.val) 256, by omega⟩

namespace Seq
variable (X : Seq)

def S (t s : Fin 4096) : EReal := if sees t s then (∑ x, X.Q t x * X.K s x) * c8 + X.R (offset t s) else ⊥
def P (t s : Fin 4096) : EReal := rowP (X.S t) s
def O (t : Fin 4096) (x : Fin 64) : EReal := ∑ s, X.V s x * X.P t s
def r (t : Fin 4096) : EReal := Ideal.rsqrt ((∑ x, X.O t x * X.O t x) * c64 + ceps)
def dO (t : Fin 4096) (x : Fin 64) : EReal :=
  X.r t * (X.D t x * X.G x - X.O t x * X.r t * ((∑ y, X.D t y * X.G y * (X.O t y * X.r t)) * c64))
def dP (t s : Fin 4096) : EReal := ∑ x, X.dO t x * X.V s x
def dS (t s : Fin 4096) : EReal := rowDs (X.S t) (X.dP t) s
def dq (t : Fin 4096) (x : Fin 64) : EReal := ∑ s, X.dS t s * c8 * X.K s x
def dk (s : Fin 4096) (x : Fin 64) : EReal := ∑ t, X.dS t s * c8 * X.Q t x
def dv (s : Fin 4096) (x : Fin 64) : EReal := ∑ t, X.dO t x * X.P t s

theorem S_out {t s : Fin 4096} (h : ¬sees t s) : X.S t s = ⊥ := if_neg h
theorem P_out {t s : Fin 4096} (h : ¬sees t s) : X.P t s = 0 := rowP_bot (X.S_out h)
theorem dS_out {t s : Fin 4096} (h : ¬sees t s) : X.dS t s = 0 := rowDs_bot (X.S_out h)
end Seq

/-- Head `e` of sequence `b` in the arrays: chunked heads take the projections' columns from 1536, 2048 and 2560, and the second
    half of the mixed gradient. -/
def seqOf (h : (⟨3, ![2, 4096, 3072]⟩ : Shape).Idx → EReal) (rb : (⟨2, ![8, 257]⟩ : Shape).Idx → EReal) (g : (⟨1, ![512]⟩ : Shape).Idx → EReal)
    (dm : (⟨3, ![2, 4096, 1024]⟩ : Shape).Idx → EReal) (b : Fin 2) (e : Fin 8) : Seq where
  Q t x := h (ix3 b t ⟨1536 + (64 * e.val + x.val), by omega⟩)
  K t x := h (ix3 b t ⟨2048 + (64 * e.val + x.val), by omega⟩)
  V t x := h (ix3 b t ⟨2560 + (64 * e.val + x.val), by omega⟩)
  R i := rb (ix2 e i)
  D t x := dm (ix3 b t ⟨512 + (64 * e.val + x.val), by omega⟩)
  G x := g (ix1 ⟨64 * e.val + x.val, by omega⟩)

/-! ## The constants -/

theorem c8_eq : c8 = ((1 / 8 : ℝ) : EReal) := by
  simp [c8, Ideal.ofBits, Ideal.ieee, -EReal.coe_mul]; norm_num
theorem c64_eq : c64 = ((1 / 64 : ℝ) : EReal) := by
  simp [c64, Ideal.ofBits, Ideal.ieee, -EReal.coe_mul]; norm_num
theorem c8_nn : IsNN c8 := ⟨1 / 8, by norm_num, c8_eq⟩
theorem c64_nn : IsNN c64 := ⟨1 / 64, by norm_num, c64_eq⟩
theorem ceps_pos : IsPos ceps := by
  refine ⟨8796093 / 8796093022208, by norm_num, ?_⟩
  simp [ceps, Ideal.ofBits, Ideal.ieee, -EReal.coe_mul]
  norm_num

/-! ## With finite queries, keys, values and bias -/

/-- The arrays that the scores and the output are of hold reals. -/
structure Seq.Fin' (X : Seq) : Prop where
  q : ∀ t x, ∃ r : ℝ, X.Q t x = (r : EReal)
  k : ∀ t x, ∃ r : ℝ, X.K t x = (r : EReal)
  v : ∀ t x, ∃ r : ℝ, X.V t x = (r : EReal)
  r : ∀ i, ∃ r : ℝ, X.R i = (r : EReal)

theorem seqOf_fin {h rb} (hh : ∀ i, ∃ r : ℝ, h i = (r : EReal)) (hr : ∀ i, ∃ r : ℝ, rb i = (r : EReal)) (g dm b e) :
    (seqOf h rb g dm b e).Fin' := ⟨fun _ _ => hh _, fun _ _ => hh _, fun _ _ => hh _, fun _ => hr _⟩

namespace Seq
variable {X : Seq} (hX : X.Fin')
include hX

theorem S_real {t s : Fin 4096} (h : sees t s) : ∃ r : ℝ, X.S t s = (r : EReal) := by
  choose q hq using hX.q
  choose k hk using hX.k
  choose b hb using hX.r
  refine ⟨(∑ x, q t x * k s x) * (1 / 8) + b (offset t s), ?_⟩
  unfold S
  rw [if_pos h, c8_eq, EReal.coe_add, EReal.coe_mul, coe_sum]
  simp only [hq, hk, hb, EReal.coe_mul]

theorem good (t : Fin 4096) : Good (X.S t) := by
  refine ⟨fun s => ?_, t, ?_⟩
  · by_cases h : sees t s
    · obtain ⟨r, hr⟩ := S_real hX h
      rw [hr]; exact EReal.coe_ne_top r
    · rw [X.S_out h]; exact bot_ne_top
  · obtain ⟨r, hr⟩ := S_real hX (show sees t t from ⟨le_rfl, by omega⟩)
    rw [hr]; exact EReal.coe_ne_bot r

theorem O_real (t : Fin 4096) (x : Fin 64) : ∃ r : ℝ, X.O t x = (r : EReal) := by
  choose v hv using hX.v
  choose p hp0 hp using (good hX t).p_nn
  refine ⟨∑ s, v s x * p s, ?_⟩
  unfold O P
  rw [coe_sum]
  simp only [hv, hp, EReal.coe_mul]

theorem mean_sq_pos (t : Fin 4096) : IsPos ((∑ x, X.O t x * X.O t x) * c64 + ceps) :=
  mean_pos (X.O t) (O_real hX t) _ _ c64_nn ceps_pos
end Seq

/-! ## A tile of the head -/

/-- Query `i` of tile `n`. -/
abbrev qrow (n : Fin 32) (i : Fin 128) : Fin 4096 := ⟨128 * n.val + i.val, by omega⟩

/-- `H` holds tile `n` of `X`: the window's row `w` is key `w + 128n - 512`, or padding. -/
structure TileOf (X : Seq) (n : Fin 32) (H : Head) : Prop where
  base : H.base = 128 * n.val
  q : ∀ i x, H.q i x = X.Q (qrow n i) x
  k : ∀ (s : Fin 4096) (w : Fin 640) x, w.val + 128 * n.val = s.val + 512 → H.k w x = X.K s x
  v : ∀ (s : Fin 4096) (w : Fin 640) x, w.val + 128 * n.val = s.val + 512 → H.v w x = X.V s x
  b : ∀ i (s : Fin 4096) (w : Fin 640), w.val + 128 * n.val = s.val + 512 →
    H.b i w = if sees (qrow n i) s then X.R (offset (qrow n i) s) else ⊥
  o : ∀ i x, H.o i x = X.O (qrow n i) x
  d : ∀ i x, H.d i x = X.D (qrow n i) x
  g : ∀ x, H.g x = X.G x

theorem not_sees {n : Fin 32} {i : Fin 128} {s : Fin 4096} (h : s.val + 512 < 128 * n.val ∨ 128 * n.val + 640 ≤ s.val + 512) :
    ¬sees (qrow n i) s := by
  rintro ⟨h1, h2⟩
  simp only [qrow] at h1 h2
  have := i.isLt
  omega

namespace TileOf
variable {X : Seq} {n : Fin 32} {H : Head} (hH : TileOf X n H)
include hH

theorem S_eq (i : Fin 128) (s : Fin 4096) (w : Fin 640) (h : w.val + 128 * n.val = s.val + 512) : H.S i w = X.S (qrow n i) s := by
  unfold Head.S Seq.S
  rw [if_pos (by rw [hH.base]; omega), hH.b i s w h]
  by_cases hs : sees (qrow n i) s
  · rw [if_pos hs, if_pos hs, c8_nn.sum_mul]
    refine congrArg (· + _) (Finset.sum_congr rfl fun x _ => ?_)
    rw [hH.q, hH.k s w x h, mul_right_comm]
  · rw [if_neg hs, if_neg hs, EReal.add_bot]

theorem S_pad (i : Fin 128) (w : Fin 640) (h : w.val + 128 * n.val < 512) : H.S i w = ⊥ := by
  unfold Head.S
  rw [if_neg (by rw [hH.base]; omega)]

theorem max_eq (i : Fin 128) : rowMax (H.S i) = rowMax (X.S (qrow n i)) :=
  max_window (128 * n.val) _ _ (fun s w h => hH.S_eq i s w h) (fun w h => hH.S_pad i w h) (by omega) fun s h => X.S_out (not_sees h)

theorem exp_eq (i : Fin 128) (s : Fin 4096) (w : Fin 640) (h : w.val + 128 * n.val = s.val + 512) :
    rowExp (H.S i) w = rowExp (X.S (qrow n i)) s := by
  unfold rowExp
  rw [hH.max_eq, hH.S_eq i s w h]

theorem sum_eq (i : Fin 128) : rowSum (H.S i) = rowSum (X.S (qrow n i)) :=
  sum_window (128 * n.val) _ _ (fun s w h => hH.exp_eq i s w h) (fun w h => rowExp_bot (hH.S_pad i w h)) (by omega)
    fun s h => rowExp_bot (X.S_out (not_sees h))

theorem P_eq (i : Fin 128) (s : Fin 4096) (w : Fin 640) (h : w.val + 128 * n.val = s.val + 512) : rowP (H.S i) w = X.P (qrow n i) s := by
  unfold Seq.P rowP
  rw [hH.exp_eq i s w h, hH.sum_eq]

theorem dO_eq (i : Fin 128) (x : Fin 64) : H.dO i x = X.dO (qrow n i) x := by
  unfold Head.dO Seq.dO Head.r Seq.r
  simp only [hH.o, hH.d, hH.g]

theorem dP_eq (i : Fin 128) (s : Fin 4096) (w : Fin 640) (h : w.val + 128 * n.val = s.val + 512) : H.dP i w = X.dP (qrow n i) s := by
  unfold Head.dP Seq.dP
  exact Finset.sum_congr rfl fun x _ => by rw [hH.dO_eq, hH.v s w x h]

theorem dot_eq (i : Fin 128) : ∑ w, rowP (H.S i) w * H.dP i w = ∑ s, rowP (X.S (qrow n i)) s * X.dP (qrow n i) s :=
  sum_window (128 * n.val) _ _ (fun s w h => congrArg₂ (· * ·) (hH.P_eq i s w h) (hH.dP_eq i s w h))
    (fun w h => by rw [rowP_bot (hH.S_pad i w h), zero_mul]) (by omega)
    fun s h => by rw [rowP_bot (X.S_out (not_sees h)), zero_mul]

theorem dS_eq (i : Fin 128) (s : Fin 4096) (w : Fin 640) (h : w.val + 128 * n.val = s.val + 512) : H.dS i w = X.dS (qrow n i) s := by
  unfold Head.dS Seq.dS rowDs
  rw [hH.dot_eq, hH.dP_eq i s w h, hH.P_eq i s w h]
  rfl

theorem dq_eq (i : Fin 128) (x : Fin 64) : H.dq i x = X.dq (qrow n i) x := by
  unfold Head.dq Seq.dq
  rw [c8_nn.sum_mul]
  refine sum_window (128 * n.val) _ _ (fun s w h => ?_) (fun w h => ?_) (by omega) fun s h => ?_
  · rw [hH.dS_eq i s w h, hH.k s w x h, mul_right_comm]
  · rw [show H.dS i w = 0 from rowDs_bot (hH.S_pad i w h), zero_mul, zero_mul]
  · rw [X.dS_out (not_sees h), zero_mul, zero_mul]

/-- The tile's part of the keys' gradient: of a key in the window, and nothing of the others. -/
theorem dk_eq (s : Fin 4096) (w : Fin 640) (x : Fin 64) (h : w.val + 128 * n.val = s.val + 512) :
    H.dk w x = ∑ i, X.dS (qrow n i) s * c8 * X.Q (qrow n i) x := by
  unfold Head.dk
  exact Finset.sum_congr rfl fun i _ => by rw [hH.dS_eq i s w h, hH.q, mul_comm (X.Q _ x), mul_assoc]

theorem dv_eq (s : Fin 4096) (w : Fin 640) (x : Fin 64) (h : w.val + 128 * n.val = s.val + 512) :
    H.dv w x = ∑ i, X.dO (qrow n i) x * X.P (qrow n i) s := by
  unfold Head.dv
  exact Finset.sum_congr rfl fun i _ => by rw [hH.P_eq i s w h, hH.dO_eq, mul_comm]
end TileOf

theorem dk_none (X : Seq) (n : Fin 32) (s : Fin 4096) (x : Fin 64) (h : s.val + 512 < 128 * n.val ∨ 128 * n.val + 640 ≤ s.val + 512) :
    ∑ i, X.dS (qrow n i) s * c8 * X.Q (qrow n i) x = 0 :=
  Finset.sum_eq_zero fun i _ => by rw [X.dS_out (not_sees h), zero_mul, zero_mul]

theorem dv_none (X : Seq) (n : Fin 32) (s : Fin 4096) (x : Fin 64) (h : s.val + 512 < 128 * n.val ∨ 128 * n.val + 640 ≤ s.val + 512) :
    ∑ i, X.dO (qrow n i) x * X.P (qrow n i) s = 0 :=
  Finset.sum_eq_zero fun i _ => by rw [X.P_out (not_sees h), mul_zero]

/-- The queries by tiles. -/
theorem sum_tiles {M : Type*} [AddCommMonoid M] (f : Fin 4096 → M) : ∑ n : Fin 32, ∑ i : Fin 128, f (qrow n i) = ∑ t, f t := by
  rw [← Finset.sum_product', Finset.univ_product_univ]
  refine Finset.sum_nbij' (fun p => qrow p.1 p.2) (fun t => (⟨t.val / 128, by omega⟩, ⟨t.val % 128, by omega⟩)) (fun _ _ => Finset.mem_univ _)
    (fun _ _ => Finset.mem_univ _) ?_ ?_ (fun _ _ => rfl)
  · rintro ⟨n, i⟩ -
    refine Prod.ext (Fin.ext ?_) (Fin.ext ?_)
    · show (128 * n.val + i.val) / 128 = n.val; omega
    · show (128 * n.val + i.val) % 128 = i.val; omega
  · intro t _
    refine Fin.ext ?_
    show 128 * (t.val / 128) + t.val % 128 = t.val
    omega

end Cert.Value

end
-- ==== Proof.Value.RefVal.lean ====
/- The reference's terms at an index: each is the model's quantity of the head that the arguments hold. -/
module

public import proofs.«01_k».proof.Proof.Ref.Run
public import proofs.«01_k».proof.Proof.Value.Model
public import Idealize.ShloMosaic.Lib.Affine

@[expose] public section

set_option maxRecDepth 16384

noncomputable section

namespace Cert.Value

open Cert.ReferenceIdeal Cert.ReferenceIdeal.Gen Cert.ReferenceIdeal.Own
open Idealize.ShloMosaic Idealize.ShloMosaic.TcCoe Idealize.ShloMosaic.StableHlo

/-! ## Words -/

/-- The block of a position. -/
theorem block_word (t : Fin 4096) : IntOp.divsi ArithUnit.host (BitVec.ofNat 32 t.val) 64#32 = BitVec.ofNat 32 (t.val / 64) := by
  have hcorner : ¬ IntOp.SDivCorner (BitVec.ofNat 32 t.val) 64#32 := by
    intro hc; rcases hc with hc | ⟨_, hc⟩ <;> exact absurd hc (by decide)
  have ht : (BitVec.ofNat 32 t.val).toNat = t.val := by
    rw [BitVec.toNat_ofNat]; exact Nat.mod_eq_of_lt (by omega)
  have hm : (BitVec.ofNat 32 t.val).msb = false := BitVec.msb_eq_false_iff_two_mul_lt.mpr (by rw [ht]; omega)
  apply BitVec.eq_of_toNat_eq
  simp only [IntOp.divsi, if_neg hcorner, BitVec.sdiv_eq, hm, show (64#32 : BitVec 32).msb = false from by decide, BitVec.udiv_eq,
    BitVec.toNat_udiv, ht, BitVec.toNat_ofNat]
  rw [show 64 % 2 ^ 32 = 64 from rfl]
  omega

theorem sees_word' : ∀ a b : Fin 64, IntOp.andi (IntOp.cmpi CmpIPredicate.sle (BitVec.ofNat 32 b.val) (BitVec.ofNat 32 a.val))
    (IntOp.cmpi CmpIPredicate.sge (BitVec.ofNat 32 b.val) (IntOp.subi (BitVec.ofNat 32 a.val) 8#32)) =
      if b.val ≤ a.val ∧ a.val ≤ b.val + 8 then 1#1 else 0#1 := by
  decide +kernel

theorem sees_word (t s : Fin 4096) : IntOp.andi (IntOp.cmpi CmpIPredicate.sle (BitVec.ofNat 32 (s.val / 64)) (BitVec.ofNat 32 (t.val / 64)))
    (IntOp.cmpi CmpIPredicate.sge (BitVec.ofNat 32 (s.val / 64)) (IntOp.subi (BitVec.ofNat 32 (t.val / 64)) 8#32)) =
      if sees t s then 1#1 else 0#1 :=
  sees_word' ⟨t.val / 64, by omega⟩ ⟨s.val / 64, by omega⟩

/-- The table's row of a pair of positions, as the clip computes it. -/
theorem offset_word (t s : Fin 4096) :
    (IntOp.addi (IntOp.minsi (IntOp.maxsi (IntOp.subi (BitVec.ofNat 32 t.val) (BitVec.ofNat 32 s.val)) 4294967168#32) 128#32) 128#32).toInt
      = ((min (t.val + 128 - s.val) 256 : ℕ) : ℤ) := by
  have h := Affine.addi (Affine.minsi (Affine.maxsi (Affine.subi (Affine.ofNat t.val (e := t.val) ⟨rfl, by omega⟩) (Affine.ofNat s.val (e := s.val) ⟨rfl, by omega⟩)
      ⟨rfl, by omega, by omega⟩) (Affine.ofNat_neg 4294967168 (e := -128) (by omega)) rfl) (Affine.ofNat 128 (e := 128) (by omega)) rfl)
      (Affine.ofNat 128 (e := 128) (by omega)) (e := ((min (t.val + 128 - s.val) 256 : ℕ) : ℤ)) (by omega)
  unfold Affine.IsInt at h
  exact h

/-- The table read at clipped indices: entry `e` of the row that the index names. -/
theorem gather_ix (tb : (⟨2, ![8, 257]⟩ : Shape).Idx → EReal) (idx : IVec S4096x4096x1 32) (e : Fin 8) (t s : Fin 4096) :
    Host.gather gather_S8x257_S4096x4096x1_S8x4096x4096_0_1_n_n_1_2_81 tb idx (ix3 e t s)
      = tb (ix2 e ⟨min (idx (ix3 t s 0)).toInt.toNat 256, by omega⟩) := by
  unfold Host.gather
  congr 1
  funext a
  match a with
  | ⟨0, _⟩ =>
    apply Fin.ext
    have hm : (0 : Fin 2) ∉ gather_S8x257_S4096x4096x1_S8x4096x4096_0_1_n_n_1_2_81.startIndexMap := by decide
    have hb : (0 : Fin 2) ∉ gather_S8x257_S4096x4096x1_S8x4096x4096_0_1_n_n_1_2_81.operandBatchingDims := by decide
    show GatherDims.start _ _ _ _ + GatherDims.batchCoord _ _ _ + GatherDims.offCoord _ _ _ = e.val
    have h1 : GatherDims.start gather_S8x257_S4096x4096x1_S8x4096x4096_0_1_n_n_1_2_81 (ix3 e t s) idx 0 = 0 := by
      unfold GatherDims.start; rw [dif_neg hm]
    have h2 := GatherDims.batchCoord_eq_zero gather_S8x257_S4096x4096x1_S8x4096x4096_0_1_n_n_1_2_81 (ix3 e t s) 0 hb
    have h3 : GatherDims.offCoord gather_S8x257_S4096x4096x1_S8x4096x4096_0_1_n_n_1_2_81 (ix3 e t s) 0 = e.val := by
      unfold GatherDims.offCoord; rw [dif_pos (by decide)]; rfl
    exact (congrArg₂ (· + ·) (congrArg₂ (· + ·) h1 h2) h3).trans (by simp)
  | ⟨1, _⟩ =>
    apply Fin.ext
    have hm : (1 : Fin 2) ∈ gather_S8x257_S4096x4096x1_S8x4096x4096_0_1_n_n_1_2_81.startIndexMap := by decide
    have hb : (1 : Fin 2) ∉ gather_S8x257_S4096x4096x1_S8x4096x4096_0_1_n_n_1_2_81.operandBatchingDims := by decide
    have hk : (1 : Fin 2) ∉ gather_S8x257_S4096x4096x1_S8x4096x4096_0_1_n_n_1_2_81.sKept := by decide
    have h1 : GatherDims.start gather_S8x257_S4096x4096x1_S8x4096x4096_0_1_n_n_1_2_81 (ix3 e t s) idx 1 = min (idx (ix3 t s 0)).toInt.toNat 256 := by
      unfold GatherDims.start; rw [dif_pos hm]
      have hi : GatherDims.siIdx gather_S8x257_S4096x4096x1_S8x4096x4096_0_1_n_n_1_2_81 (ix3 e t s)
          ⟨List.idxOf (1 : Fin 2) gather_S8x257_S4096x4096x1_S8x4096x4096_0_1_n_n_1_2_81.startIndexMap, List.idxOf_lt_length_iff.2 hm⟩ = ix3 t s 0 := by
        funext b
        match b with
        | ⟨0, _⟩ => rfl
        | ⟨1, _⟩ => rfl
        | ⟨2, _⟩ => rfl
      exact congrArg (fun i => min (idx i).toInt.toNat 256) hi
    have h2 := GatherDims.batchCoord_eq_zero gather_S8x257_S4096x4096x1_S8x4096x4096_0_1_n_n_1_2_81 (ix3 e t s) 1 hb
    have h3 := GatherDims.offCoord_eq_zero gather_S8x257_S4096x4096x1_S8x4096x4096_0_1_n_n_1_2_81 (ix3 e t s) 1 hk
    exact (congrArg₂ (· + ·) (congrArg₂ (· + ·) h1 h2) h3).trans (by simp)

/-! ## Constants -/

theorem neg_inf : Ideal.ofBits .f32 0xFF800000#32 = (⊥ : EReal) := by
  simp [Ideal.ofBits, Ideal.ieee, -EReal.coe_mul, -EReal.coe_neg]
theorem w64_eq : Ideal.ofBits .f32 0x42800000#32 = ((64 : ℝ) : EReal) := by
  simp [Ideal.ofBits, Ideal.ieee, -EReal.coe_mul]; norm_num
theorem neg_half_eq : Ideal.ofBits .f32 0xBF000000#32 = ((-(1 / 2) : ℝ) : EReal) := by
  simp [Ideal.ofBits, Ideal.ieee, -EReal.coe_mul, -EReal.coe_neg]; norm_num
theorem div_64 (x : EReal) : Ideal.div x (Ideal.ofBits .f32 0x42800000#32) = x * c64 := by
  rw [w64_eq, c64_eq, Ideal.div_coe (by norm_num)]

theorem sum_ext {n : ℕ} {f g : Fin n → EReal} (h : ∀ k, f k = g k) : ∑ k, f k = ∑ k, g k := Finset.sum_congr rfl fun k _ => h k
theorem exp_sub_congr (a : EReal) {x y : EReal} (h : x = y) : Ideal.exp (a - x) = Ideal.exp (a - y) := h ▸ rfl

/-! ## The terms -/

variable (V0 : Valuation τ sig (Elt Ideal))

/-- The head that the reference's arguments hold. -/
abbrev refSeq (b : Fin 2) (e : Fin 8) : Seq :=
  seqOf (V0 (Proc.devRef .tc main_arg0)) (V0 (Proc.devRef .tc main_arg1)) (V0 (Proc.devRef .tc main_arg2)) (V0 (Proc.devRef .tc main_arg3)) b e

theorem v7_ix (b : Fin 2) (t : Fin 4096) (e : Fin 8) (x : Fin 64) : res_main_v7 V0 (ix4 b t e x) = (refSeq V0 b e).Q t x := by
  pointwise [res_main_v7, refSeq, seqOf]
  exact congrArg (fun i => V0 (Proc.devRef .tc main_arg0) (ix3 b t i)) (Fin.ext (by show _ + (_ * _ + _) = _ + (_ * _ + _); omega))
theorem v9_ix (b : Fin 2) (t : Fin 4096) (e : Fin 8) (x : Fin 64) : res_main_v9 V0 (ix4 b t e x) = (refSeq V0 b e).K t x := by
  pointwise [res_main_v9, refSeq, seqOf]
  exact congrArg (fun i => V0 (Proc.devRef .tc main_arg0) (ix3 b t i)) (Fin.ext (by show _ + (_ * _ + _) = _ + (_ * _ + _); omega))
theorem v11_ix (b : Fin 2) (t : Fin 4096) (e : Fin 8) (x : Fin 64) : res_main_v11 V0 (ix4 b t e x) = (refSeq V0 b e).V t x := by
  pointwise [res_main_v11, refSeq, seqOf]
  exact congrArg (fun i => V0 (Proc.devRef .tc main_arg0) (ix3 b t i)) (Fin.ext (by show _ + (_ * _ + _) = _ + (_ * _ + _); omega))

theorem v23_ix (t s : Fin 4096) : res_main_v23 V0 (ix2 t s) = BitVec.ofNat 32 (t.val / 64) := by
  pointwise [res_main_v23, res_main_v12]
  exact block_word t
theorem v25_ix (t s : Fin 4096) : res_main_v25 V0 (ix2 t s) = BitVec.ofNat 32 (s.val / 64) := by
  pointwise [res_main_v25, res_main_v13]
  exact block_word s

theorem v37_1_ix (b : Fin 2) (e : Fin 8) (t s : Fin 4096) : res_main_v37_1 V0 (ix4 b e t s) = if sees t s then 1#1 else 0#1 := by
  pointwise [res_main_v37_1]
  rw [v23_ix, v25_ix]
  exact sees_word t s

theorem select_sees {α : Type} (t s : Fin 4096) (a b : α) : Scalar.select (if sees t s then 1#1 else 0#1) a b = if sees t s then a else b := by
  by_cases h : sees t s
  · rw [if_pos h, if_pos h]; rfl
  · rw [if_neg h, if_neg h]; rfl

theorem v37_ix (b : Fin 2) (e : Fin 8) (t s : Fin 4096) : res_main_v37_0 V0 (ix4 b e t s) = (refSeq V0 b e).S t s := by
  pointwise [res_main_v37_0]
  rw [v37_1_ix, select_sees]
  unfold Seq.S
  refine if_congr Iff.rfl (congrArg₂ (· + ·) (congrArg (· * c8) (sum_ext fun x => by rw [v7_ix, v9_ix])) ?_) ?_
  · refine (gather_ix _ _ e t s).trans (congrArg (fun i => V0 (Proc.devRef .tc main_arg1) (ix2 e i)) (Fin.ext ?_))
    show min _ 256 = min (t.val + 128 - s.val) 256
    have h := offset_word t s
    refine (congrArg (fun z : ℤ => min z.toNat 256) (Eq.trans ?_ h)).trans ?_
    · pointwise [res_main_v12, res_main_v13]
    · show min (Int.toNat ((min (t.val + 128 - s.val) 256 : ℕ) : ℤ)) 256 = min (t.val + 128 - s.val) 256
      rw [Int.toNat_natCast]; omega
  · pointwise
    exact neg_inf

theorem v42_ix (b : Fin 2) (e : Fin 8) (t s : Fin 4096) : res_main_v42 V0 (ix4 b e t s) = rowExp ((refSeq V0 b e).S t) s := by
  pointwise [res_main_v42]
  unfold rowExp rowMax
  rw [v37_ix, neg_inf]
  refine exp_sub_congr _ ?_
  refine (Shape.ReducesTo.fold_fiber_r4_a3 _ _ max _ _).trans ?_
  exact Finset.fold_congr fun k _ => v37_ix V0 b e t k

theorem v44_ix (b : Fin 2) (e : Fin 8) (t : Fin 4096) : res_main_v44 V0 (ix4 b e t 0) = rowSum ((refSeq V0 b e).S t) := by
  pointwise [res_main_v44]
  exact sum_ext fun k => v42_ix V0 b e t k

variable {V0} {b : Fin 2} {e : Fin 8} (hX : (refSeq V0 b e).Fin')
include hX

theorem v46_ix (t s : Fin 4096) : res_main_v46 V0 (ix4 b e t s) = (refSeq V0 b e).P t s := by
  pointwise [res_main_v46]
  rw [v42_ix, v44_ix]
  exact (Seq.good hX t).p_eq s

theorem v51_ix (t : Fin 4096) (x : Fin 64) : res_main_v51 V0 (ix4 b t e x) = (refSeq V0 b e).O t x := by
  pointwise [res_main_v51]
  exact sum_ext fun s => by rw [v11_ix, v46_ix hX]

theorem v58_ix (t : Fin 4096) (z : Fin 1) : res_main_v58 V0 (ix4 b t e z) = (∑ x, (refSeq V0 b e).O t x * (refSeq V0 b e).O t x) * c64 + ceps := by
  pointwise [res_main_v58]
  rw [div_64]
  exact congrArg (fun y => y * c64 + ceps) (sum_ext fun s => by rw [v51_ix hX])

theorem v59_ix (t : Fin 4096) (z : Fin 1) : res_main_v59 V0 (ix4 b t e z) = (refSeq V0 b e).r t := by
  pointwise [res_main_v59]
  rw [v58_ix hX]; rfl

omit hX in
theorem v72_ix (t : Fin 4096) (x : Fin 64) : res_main_v72 V0 (ix4 b t e x) = (refSeq V0 b e).D t x * (refSeq V0 b e).G x := by
  pointwise [res_main_v72, res_main_v66, refSeq, seqOf]
  refine congrArg₂ (· * ·) (congrArg (fun i => V0 (Proc.devRef .tc main_arg3) (ix3 b t i)) (Fin.ext ?_))
    (congrArg (fun i => V0 (Proc.devRef .tc main_arg2) (ix1 i)) (Fin.ext ?_))
  · show _ + (_ * _ + _) = _ + (_ * _ + _); omega
  · show _ * _ + _ = _ * _ + _; omega

theorem v82_ix (t : Fin 4096) (x : Fin 64) : res_main_v82 V0 (ix4 b t e x) =
    Ideal.div ((∑ y, (refSeq V0 b e).O t y * ((refSeq V0 b e).D t y * (refSeq V0 b e).G y)) *
      (((-(1 / 2) : ℝ) : EReal) * Ideal.div ((refSeq V0 b e).r t) ((∑ x, (refSeq V0 b e).O t x * (refSeq V0 b e).O t x) * c64 + ceps))) ((64 : ℝ) : EReal) := by
  pointwise [res_main_v82]
  rw [Fin.sum_univ_one, v59_ix hX, v58_ix hX, w64_eq, neg_half_eq]
  simp only [v51_ix hX, v72_ix]

theorem v87_ix (t : Fin 4096) (x : Fin 64) : res_main_v87 V0 (ix4 b e x t) = (refSeq V0 b e).dO t x := by
  pointwise [res_main_v87]
  rw [v72_ix, v59_ix hX, v51_ix hX, v82_ix hX]
  refine (rms_eq ((refSeq V0 b e).O t) (fun y => (refSeq V0 b e).D t y * (refSeq V0 b e).G y) (Seq.O_real hX t) _ (Seq.mean_sq_pos hX t) x).trans ?_
  rw [← c64_eq]; rfl

theorem v88_ix (t s : Fin 4096) : res_main_v88 V0 (ix4 b e t s) = (refSeq V0 b e).dP t s := by
  pointwise [res_main_v88]
  exact sum_ext fun s => by rw [v11_ix, v87_ix hX]

theorem v105_ix (t s : Fin 4096) : res_main_v105 V0 (ix4 b e t s) = (refSeq V0 b e).dS t s * c8 := by
  pointwise [res_main_v105]
  rw [v37_1_ix, select_sees, Fin.sum_univ_one]
  simp only [v88_ix hX, v44_ix, v42_ix]
  by_cases h : sees t s
  · rw [if_pos h]
    exact congrArg (· * c8) ((Seq.good hX t).ds_eq _ s)
  · rw [if_neg h, Seq.dS_out _ h, zero_mul]

/-! ## The results -/

/-- Column `64e + x` of a result. -/
abbrev hcol (e : Fin 8) (x : Fin 64) : Fin 512 := ⟨64 * e.val + x.val, by omega⟩

omit hX in
theorem hcol_div (e : Fin 8) (x : Fin 64) (h) : (⟨(hcol e x).val / 64, h⟩ : Fin 8) = e := Fin.ext (by show (64 * e.val + x.val) / 64 = e.val; omega)
omit hX in
theorem hcol_mod (e : Fin 8) (x : Fin 64) (h) : (⟨(hcol e x).val % 64, h⟩ : Fin 64) = x := Fin.ext (by show (64 * e.val + x.val) % 64 = x.val; omega)

theorem v111_ix (t : Fin 4096) (x : Fin 64) :
    (truncf .bf16 (shapeCast _ (transpose S2x4096x8x64 [0, 2, 1, 3] (Host.dotGeneral (φ₁ := .f32) (φ₂ := .f32) dot_S2x8x4096x4096_S2x4096x8x64_S2x8x4096x64_3_1_2_3_01_02 none (res_main_v105 V0) (res_main_v9 V0)) transposes_S2x8x4096x64_S2x4096x8x64_0_2_1_3) shapeCasts_S2x4096x8x64_S2x4096x512) bitsLt_bf16_f32 : FVec Ideal S2x4096x512 .bf16) (ix3 b t (hcol e x))
      = (refSeq V0 b e).dq t x := by
  pointwise
  exact sum_ext fun s => by rw [hcol_div, hcol_mod, v105_ix hX, v9_ix]

theorem v113_ix (t : Fin 4096) (x : Fin 64) :
    (truncf .bf16 (shapeCast _ (transpose S2x4096x8x64 [0, 2, 1, 3] (Host.dotGeneral (φ₁ := .f32) (φ₂ := .f32) dot_S2x8x4096x4096_S2x4096x8x64_S2x8x4096x64_2_1_3_3_01_02 none (res_main_v105 V0) (res_main_v7 V0)) transposes_S2x8x4096x64_S2x4096x8x64_0_2_1_3) shapeCasts_S2x4096x8x64_S2x4096x512) bitsLt_bf16_f32 : FVec Ideal S2x4096x512 .bf16) (ix3 b t (hcol e x))
      = (refSeq V0 b e).dk t x := by
  pointwise
  exact sum_ext fun s => by rw [hcol_div, hcol_mod, v105_ix hX, v7_ix]

theorem v115_ix (t : Fin 4096) (x : Fin 64) :
    (truncf .bf16 (shapeCast _ (transpose S2x4096x8x64 [0, 3, 1, 2] (Host.dotGeneral (φ₁ := .f32) (φ₂ := .f32) dot_S2x8x64x4096_S2x8x4096x4096_S2x8x64x4096_3_2_2_3_01_01 none (res_main_v87 V0) (res_main_v46 V0)) transposes_S2x8x64x4096_S2x4096x8x64_0_3_1_2) shapeCasts_S2x4096x8x64_S2x4096x512) bitsLt_bf16_f32 : FVec Ideal S2x4096x512 .bf16) (ix3 b t (hcol e x))
      = (refSeq V0 b e).dv t x := by
  pointwise
  exact sum_ext fun s => by rw [hcol_div, hcol_mod, v87_ix hX, v46_ix hX]

end Cert.Value

end
-- ==== Proof.Value.Pair.lean ====
/- The first pair's payloads at an index: its two heads' tiles. -/
module

public import proofs.«01_k».proof.Proof.Value.Tile

@[expose] public section

noncomputable section

namespace Cert.Value

open Cert.KernelIdeal Cert.KernelIdeal.Gen
open Idealize.ShloMosaic

/-- The two heads of a pair, of the blocks that the body loads for it. -/
def hd (e : Fin 2) (n : ℕ) (q : Vec Ideal S1x128x128 .bf16) (k v : Vec Ideal S1x640x128 .bf16) (b : Vec Ideal S1x128x640 .f32)
    (o d : Vec Ideal S1x128x128 .f32) (g : Vec Ideal S1x128 .f32) : Head where
  q i x := q (ix3 0 i (lane e x))
  k w x := k (ix3 0 w (lane e x))
  v w x := v (ix3 0 w (lane e x))
  b i w := b (ix3 0 i w)
  o i x := o (ix3 0 i (lane e x))
  d i x := d (ix3 0 i (lane e x))
  g x := g (ix2 0 (lane e x))
  base := 128 * n

variable (q : Vec Ideal S1x128x128 .bf16) (k v : Vec Ideal S1x640x128 .bf16) (b b' : Vec Ideal S1x128x640 .f32)
  (o d : Vec Ideal S1x128x128 .f32) (g : Vec Ideal S1x128 .f32)

theorem q_lo (i l : Fin 128) : k0_pay12 q (ix2 i l) = if l.val < 64 then q (ix3 0 i l) * c8 else 0 := by
  rw [← select_lane]
  pointwise [k0_pay12, k0_pay8, k0_pay10, k0_pay11]

theorem q_hi (i l : Fin 128) : k0_pay13 q (ix2 i l) = if l.val < 64 then 0 else q (ix3 0 i l) * c8 := by
  rw [← select_lane]
  pointwise [k0_pay13, k0_pay8, k0_pay10, k0_pay11]

theorem mask_eq : Named.named (F := Ideal) κ (φ := .f32) "mask" 0xF149F2CA#32 = ⊥ := by
  rfl

theorem s_lo (i : grid0.Coords) (a : Fin 128) (w : Fin 640) :
    k0_pay86 (k0_pay9 i) (k0_pay12 q) (k0_pay27 k) b (ix2 a w) = (hd 0 (i 2).val q k v b o d g).S a w := by
  have h : k0_pay86 (k0_pay9 i) (k0_pay12 q) (k0_pay27 k) b (ix2 a w)
      = Scalar.select (IntOp.cmpi .sge (IntOp.addi (BitVec.ofNat 32 w.val) (IntOp.muli (BitVec.ofNat 32 (i 2).val) 128#32)) 512#32)
          ((∑ x, k0_pay12 q (ix2 a x) * k (ix3 0 w x)) + b (ix3 0 a w)) (Named.named (F := Ideal) κ (φ := .f32) "mask" 0xF149F2CA#32) := by
    pointwise [k0_pay86, k0_pay9, k0_pay27]
    rfl
  rw [h, mask_eq]
  unfold Scalar.select Head.S
  refine if_congr (valid_bit w (i 2)) ?_ rfl
  congr 1
  simp only [q_lo, ite_mul, zero_mul]
  exact sum_low fun l => q (ix3 0 a l) * c8 * k (ix3 0 w l)

theorem bot_bits : Ideal.ofBits .f32 0xFF800000#32 = ⊥ := by simp [Ideal.ofBits, Ideal.ieee]

theorem lane_ix (a l : Fin 128) : k0_pay8 (ix2 a l) = IntOp.cmpi .slt (BitVec.ofNat 32 l.val) 64#32 := by
  pointwise [k0_pay8]

theorem p_row (s : FVec Ideal S128x640 .f32) (a : Fin 128) (w : Fin 640) : k0_pay95 s (ix2 a w) = rowP (fun w => s (ix2 a w)) w := by
  pointwise [k0_pay95]
  rw [bot_bits]
  rfl

theorem s_hi (i : grid0.Coords) (a : Fin 128) (w : Fin 640) :
    select (k0_pay9 i) (k0_pay87 (k0_pay13 q) (k0_pay27 k) b) (k0_pay88 (F := Ideal)) (ix2 a w) = (hd 1 (i 2).val q k v b o d g).S a w := by
  have h : select (k0_pay9 i) (k0_pay87 (k0_pay13 q) (k0_pay27 k) b) (k0_pay88 (F := Ideal)) (ix2 a w)
      = Scalar.select (IntOp.cmpi .sge (IntOp.addi (BitVec.ofNat 32 w.val) (IntOp.muli (BitVec.ofNat 32 (i 2).val) 128#32)) 512#32)
          ((∑ x, k0_pay13 q (ix2 a x) * k (ix3 0 w x)) + b (ix3 0 a w)) (Named.named (F := Ideal) κ (φ := .f32) "mask" 0xF149F2CA#32) := by
    pointwise [k0_pay87, k0_pay88, k0_pay9, k0_pay27]
    rfl
  rw [h, mask_eq]
  unfold Scalar.select Head.S
  refine if_congr (valid_bit w (i 2)) ?_ rfl
  congr 1
  simp only [q_hi, ite_mul, zero_mul]
  exact sum_high fun l => q (ix3 0 a l) * c8 * k (ix3 0 w l)

theorem p_lo (i : grid0.Coords) (a : Fin 128) (w : Fin 640) :
    k0_pay95 (k0_pay86 (k0_pay9 i) (k0_pay12 q) (k0_pay27 k) b) (ix2 a w) = rowP ((hd 0 (i 2).val q k v b o d g).S a) w := by
  rw [p_row]
  simp only [s_lo q k v b o d g]

theorem p_hi (i : grid0.Coords) (a : Fin 128) (w : Fin 640) :
    k0_pay96 (k0_pay9 i) (k0_pay87 (k0_pay13 q) (k0_pay27 k) b) (k0_pay88 (F := Ideal)) (ix2 a w) = rowP ((hd 1 (i 2).val q k v b o d g).S a) w := by
  rw [show k0_pay96 (k0_pay9 i) (k0_pay87 (k0_pay13 q) (k0_pay27 k) b) (k0_pay88 (F := Ideal))
    = k0_pay95 (select (k0_pay9 i) (k0_pay87 (k0_pay13 q) (k0_pay27 k) b) (k0_pay88 (F := Ideal))) from rfl, p_row]
  simp only [s_hi q k v b o d g]

/-! The gradient through the norm. -/

/-- A half's sum, by the lane that asks for it. -/
def half (l : Fin 128) (f : Fin 128 → EReal) : EReal := if l.val < 64 then ∑ x, f (lane 0 x) else ∑ x, f (lane 1 x)

theorem r_ix (a l : Fin 128) :
    k0_pay18 k0_pay8 (k0_pay17 o) (ix2 a l) = Ideal.rsqrt (half l (fun x => o (ix3 0 a x) * o (ix3 0 a x)) * c64 + ceps) := by
  pointwise [k0_pay18, k0_pay17, k0_pay14, k0_pay8]
  simp only [select_lane, sum_low, sum_high]
  rfl

theorem do_ix (a l : Fin 128) :
    k0_pay21 k0_pay8 (k0_pay14 o) (k0_pay15 d) (k0_pay16 g) (k0_pay17 o) (ix2 a l)
      = (let r := fun l => Ideal.rsqrt (half l (fun x => o (ix3 0 a x) * o (ix3 0 a x)) * c64 + ceps)
        r l * (d (ix3 0 a l) * g (ix2 0 l) - o (ix3 0 a l) * r l * (half l (fun x => d (ix3 0 a x) * g (ix2 0 x) * (o (ix3 0 a x) * r x)) * c64))) := by
  dsimp only
  simp only [← r_ix]
  pointwise [k0_pay21, k0_pay19, k0_pay16, k0_pay15, k0_pay14]
  simp only [lane_ix, select_lane, sum_low, sum_high]
  rfl

theorem half_lane (e : Fin 2) (x : Fin 64) (f : Fin 128 → EReal) : half (lane e x) f = ∑ y, f (lane e y) := by
  unfold half
  match e with
  | 0 => exact if_pos (show 64 * 0 + x.val < 64 by omega)
  | 1 => exact if_neg (show ¬64 * 1 + x.val < 64 by omega)

/-- The gradient with respect to the output, on the lanes of both heads. -/
abbrev dO2 : FVec Ideal S128x128 .f32 := k0_pay21 k0_pay8 (k0_pay14 o) (k0_pay15 d) (k0_pay16 g) (k0_pay17 o)

theorem do_head (e : Fin 2) (n : ℕ) (a : Fin 128) (x : Fin 64) : dO2 o d g (ix2 a (lane e x)) = (hd e n q k v b o d g).dO a x := by
  refine (do_ix o d g a (lane e x)).trans ?_
  simp only [half_lane]
  rfl

theorem do_lo (a l : Fin 128) : k0_pay25 k0_pay8 (dO2 o d g) (ix2 a l) = if l.val < 64 then dO2 o d g (ix2 a l) else 0 := by
  rw [← select_lane]
  pointwise [k0_pay25, k0_pay23, k0_pay24, lane_ix]

theorem do_hi (a l : Fin 128) : k0_pay26 k0_pay8 (dO2 o d g) (ix2 a l) = if l.val < 64 then 0 else dO2 o d g (ix2 a l) := by
  rw [← select_lane]
  pointwise [k0_pay26, k0_pay23, k0_pay24, lane_ix]

theorem dp_lo (n : ℕ) (a : Fin 128) (w : Fin 640) :
    k0_pay91 (k0_pay25 k0_pay8 (dO2 o d g)) (k0_pay28 v) (ix2 a w) = (hd 0 n q k v b o d g).dP a w := by
  have h : k0_pay91 (k0_pay25 k0_pay8 (dO2 o d g)) (k0_pay28 v) (ix2 a w)
      = ∑ l, k0_pay25 k0_pay8 (dO2 o d g) (ix2 a l) * v (ix3 0 w l) := by
    pointwise [k0_pay91, k0_pay28]
  rw [h]
  simp only [do_lo, ite_mul, zero_mul]
  rw [sum_low fun l => dO2 o d g (ix2 a l) * v (ix3 0 w l)]
  simp only [do_head q k v b o d g 0 n]
  rfl

theorem dp_hi (n : ℕ) (a : Fin 128) (w : Fin 640) :
    k0_pay92 (k0_pay26 k0_pay8 (dO2 o d g)) (k0_pay28 v) (ix2 a w) = (hd 1 n q k v b o d g).dP a w := by
  have h : k0_pay92 (k0_pay26 k0_pay8 (dO2 o d g)) (k0_pay28 v) (ix2 a w)
      = ∑ l, k0_pay26 k0_pay8 (dO2 o d g) (ix2 a l) * v (ix3 0 w l) := by
    pointwise [k0_pay92, k0_pay28]
  rw [h]
  simp only [do_hi, ite_mul, zero_mul]
  rw [sum_high fun l => dO2 o d g (ix2 a l) * v (ix3 0 w l)]
  simp only [do_head q k v b o d g 1 n]
  rfl

/-! The probabilities and the gradients of the scores, of the two heads. -/

variable (i : grid0.Coords)

abbrev P0 : FVec Ideal S128x640 .f32 := k0_pay95 (k0_pay86 (k0_pay9 i) (k0_pay12 q) (k0_pay27 k) b)
abbrev P1 : FVec Ideal S128x640 .f32 := k0_pay96 (k0_pay9 i) (k0_pay87 (k0_pay13 q) (k0_pay27 k) b') (k0_pay88 (F := Ideal))
abbrev D0 : FVec Ideal S128x640 .f32 := k0_pay99 (k0_pay91 (k0_pay25 k0_pay8 (dO2 o d g)) (k0_pay28 v)) (P0 q k b i)
abbrev D1 : FVec Ideal S128x640 .f32 := k0_pay100 (k0_pay92 (k0_pay26 k0_pay8 (dO2 o d g)) (k0_pay28 v)) (P1 q k b' i)

theorem ds_lo (a : Fin 128) (w : Fin 640) : D0 q k v b o d g i (ix2 a w) = (hd 0 (i 2).val q k v b o d g).dS a w := by
  pointwise [D0, k0_pay99]
  simp only [p_lo q k v b o d g, dp_lo q k v b o d g (i 2).val]
  rfl

theorem ds_hi (a : Fin 128) (w : Fin 640) : D1 q k v b' o d g i (ix2 a w) = (hd 1 (i 2).val q k v b' o d g).dS a w := by
  pointwise [D1, k0_pay100]
  simp only [p_hi q k v b' o d g, dp_hi q k v b' o d g (i 2).val]
  rfl

/-! What the body stores of a pair. -/

def dqT : FVec Ideal S1x128x128 .bf16 :=
  k0_pay164 k0_pay8 (k0_pay116 (k0_pay27 k) (k0_pay108 (D0 q k v b o d g i)) (constant S128x128 .f32 0#32))
    (k0_pay117 (k0_pay27 k) (k0_pay109 (D1 q k v b' o d g i)))

def dkT (acc : Vec Ideal S640x128 .f32) : FVec Ideal S640x128 .f32 :=
  k0_pay120 (k0_pay12 q) (k0_pay13 q) (k0_pay108 (D0 q k v b o d g i)) (k0_pay109 (D1 q k v b' o d g i)) acc

def dvT (acc : Vec Ideal S640x128 .f32) : FVec Ideal S640x128 .f32 :=
  k0_pay121 (k0_pay25 k0_pay8 (dO2 o d g)) (k0_pay26 k0_pay8 (dO2 o d g)) (k0_pay112 (P0 q k b i)) (k0_pay113 (P1 q k b' i)) acc

theorem dqT_ix (a l : Fin 128) : dqT q k v b b' o d g i (ix3 0 a l)
    = (if l.val < 64 then ∑ w, D0 q k v b o d g i (ix2 a w) * k (ix3 0 w l) else ∑ w, D1 q k v b' o d g i (ix2 a w) * k (ix3 0 w l)) * c8 := by
  rw [← select_lane]
  unfold dqT
  pointwise [k0_pay164, k0_pay116, k0_pay117, k0_pay27, k0_pay108, k0_pay109, lane_ix]

theorem dqT_lo (a : Fin 128) (x : Fin 64) : dqT q k v b b' o d g i (ix3 0 a (lane 0 x)) = (hd 0 (i 2).val q k v b o d g).dq a x := by
  have h : (lane 0 x).val < 64 := show 64 * 0 + x.val < 64 by omega
  rw [dqT_ix, if_pos h]
  simp only [ds_lo]
  rfl

theorem dqT_hi (a : Fin 128) (x : Fin 64) : dqT q k v b b' o d g i (ix3 0 a (lane 1 x)) = (hd 1 (i 2).val q k v b' o d g).dq a x := by
  have h : ¬(lane 1 x).val < 64 := show ¬64 * 1 + x.val < 64 by omega
  rw [dqT_ix, if_neg h]
  simp only [ds_hi]
  rfl

variable (acc : Vec Ideal S640x128 .f32)

theorem dkT_ix (w : Fin 640) (l : Fin 128) : dkT q k v b b' o d g i acc (ix2 w l)
    = acc (ix2 w l) + (∑ a, D0 q k v b o d g i (ix2 a w) * k0_pay12 q (ix2 a l) + ∑ a, D1 q k v b' o d g i (ix2 a w) * k0_pay13 q (ix2 a l)) := by
  unfold dkT
  pointwise [k0_pay120, k0_pay108, k0_pay109]

theorem dkT_lo (w : Fin 640) (x : Fin 64) :
    dkT q k v b b' o d g i acc (ix2 w (lane 0 x)) = acc (ix2 w (lane 0 x)) + (hd 0 (i 2).val q k v b o d g).dk w x := by
  rw [dkT_ix]
  have h : (lane 0 x).val < 64 := show 64 * 0 + x.val < 64 by omega
  simp only [q_lo, q_hi, if_pos h, mul_zero, Finset.sum_const_zero, add_zero, ds_lo]
  rfl

theorem dkT_hi (w : Fin 640) (x : Fin 64) :
    dkT q k v b b' o d g i acc (ix2 w (lane 1 x)) = acc (ix2 w (lane 1 x)) + (hd 1 (i 2).val q k v b' o d g).dk w x := by
  rw [dkT_ix]
  have h : ¬(lane 1 x).val < 64 := show ¬64 * 1 + x.val < 64 by omega
  simp only [q_lo, q_hi, if_neg h, mul_zero, Finset.sum_const_zero, zero_add, ds_hi]
  rfl

theorem dvT_ix (w : Fin 640) (l : Fin 128) : dvT q k b b' o d g i acc (ix2 w l)
    = acc (ix2 w l) + (∑ a, P0 q k b i (ix2 a w) * k0_pay25 k0_pay8 (dO2 o d g) (ix2 a l) + ∑ a, P1 q k b' i (ix2 a w) * k0_pay26 k0_pay8 (dO2 o d g) (ix2 a l)) := by
  unfold dvT
  pointwise [k0_pay121, k0_pay112, k0_pay113]

theorem dvT_lo (w : Fin 640) (x : Fin 64) :
    dvT q k b b' o d g i acc (ix2 w (lane 0 x)) = acc (ix2 w (lane 0 x)) + (hd 0 (i 2).val q k v b o d g).dv w x := by
  rw [dvT_ix]
  have h : (lane 0 x).val < 64 := show 64 * 0 + x.val < 64 by omega
  simp only [do_lo, do_hi, if_pos h, mul_zero, Finset.sum_const_zero, add_zero, p_lo q k v b o d g, do_head q k v b o d g 0 (i 2).val]
  rfl

theorem dvT_hi (w : Fin 640) (x : Fin 64) :
    dvT q k b b' o d g i acc (ix2 w (lane 1 x)) = acc (ix2 w (lane 1 x)) + (hd 1 (i 2).val q k v b' o d g).dv w x := by
  rw [dvT_ix]
  have h : ¬(lane 1 x).val < 64 := show ¬64 * 1 + x.val < 64 by omega
  simp only [do_lo, do_hi, if_neg h, mul_zero, Finset.sum_const_zero, zero_add, p_hi q k v b' o d g, do_head q k v b' o d g 1 (i 2).val]
  rfl

end Cert.Value

end
-- ==== Proof.Value.Pieces.lean ====
/- What a point's stores leave: the queries' gradient block, and the windows added to the two accumulators. -/
module

public import proofs.«01_k».proof.Proof.Value.Pair
public import proofs.«01_k».proof.Proof.Ideal.States
public import Idealize.ShloMosaic.Lib.WholeRead
public import Idealize.ShloMosaic.Lib.WritesUnit

@[expose] public section

set_option maxRecDepth 16384

noncomputable section

namespace Cert.Value

open Cert.KernelIdeal Cert.KernelIdeal.Gen Cert.KernelIdeal.Bwd
open Idealize.ShloMosaic

/-! ## The places a pair loads from and stores to -/

/-- The key and value windows, the accumulators' windows, and the queries' columns of pair `p`. -/
def offK (i : grid0.Coords) (p : Fin 4) : Fin 3 → ℕ := ![k0_off1 i, k0_off2 i, k0_off3 i, k0_off4 i] p
def offA (i : grid0.Coords) (p : Fin 4) : Fin 2 → ℕ := ![k0_off5 i, k0_off6 i, k0_off7 i, k0_off8 i] p
def offQ (p : Fin 4) : Fin 3 → ℕ := ![![0, 0, 0], ![0, 0, 128], ![0, 0, 256], ![0, 0, 384]] p
def offG (p : Fin 4) : Fin 2 → ℕ := ![![0, 0], ![0, 128], ![0, 256], ![0, 384]] p
def offB (h : Fin 8) : Fin 3 → ℕ := ![![0, 0, 0], ![1, 0, 0], ![2, 0, 0], ![3, 0, 0], ![4, 0, 0], ![5, 0, 0], ![6, 0, 0], ![7, 0, 0]] h

theorem row_word (n : Fin 32) : (Scalar.indexCast (Scalar.muli (BitVec.ofNat 32 n.val) 128#32)).toNat = 128 * n.val := by
  revert n
  decide +kernel

theorem offK_eq (i : grid0.Coords) (p : Fin 4) : offK i p = ![0, 128 * (i 2).val, 128 * p.val] := by
  have h := row_word (i 2)
  fin_cases p
  · exact congrArg (fun n : ℕ => (![0, n, 0] : Fin 3 → ℕ)) h
  · exact congrArg (fun n : ℕ => (![0, n, 128] : Fin 3 → ℕ)) h
  · exact congrArg (fun n : ℕ => (![0, n, 256] : Fin 3 → ℕ)) h
  · exact congrArg (fun n : ℕ => (![0, n, 384] : Fin 3 → ℕ)) h

theorem offA_eq (i : grid0.Coords) (p : Fin 4) : offA i p = ![128 * (i 2).val, 128 * p.val] := by
  have h := row_word (i 2)
  fin_cases p
  · exact congrArg (fun n : ℕ => (![n, 0] : Fin 2 → ℕ)) h
  · exact congrArg (fun n : ℕ => (![n, 128] : Fin 2 → ℕ)) h
  · exact congrArg (fun n : ℕ => (![n, 256] : Fin 2 → ℕ)) h
  · exact congrArg (fun n : ℕ => (![n, 384] : Fin 2 → ℕ)) h

theorem offQ_eq (p : Fin 4) : offQ p = ![0, 0, 128 * p.val] := by fin_cases p <;> rfl
theorem offG_eq (p : Fin 4) : offG p = ![0, 128 * p.val] := by fin_cases p <;> rfl
theorem offB_eq (h : Fin 8) : offB h = ![h.val, 0, 0] := by fin_cases h <;> rfl

theorem inbK (i : grid0.Coords) (p : Fin 4) : ∀ a, offK i p a + S1x640x128.size a ≤ S1x4608x512.size a := by
  have h : (i 2).val < 32 := (i 2).isLt
  have hp := p.isLt
  rw [offK_eq]
  intro a
  fin_cases a
  · exact (by decide : 0 + 1 ≤ 1)
  · show 128 * (i 2).val + 640 ≤ 4608; omega
  · show 128 * p.val + 128 ≤ 512; omega

theorem inbA (i : grid0.Coords) (p : Fin 4) : ∀ a, offA i p a + S640x128.size a ≤ S4608x512.size a := by
  have h : (i 2).val < 32 := (i 2).isLt
  have hp := p.isLt
  rw [offA_eq]
  intro a
  fin_cases a
  · show 128 * (i 2).val + 640 ≤ 4608; omega
  · show 128 * p.val + 128 ≤ 512; omega

theorem inbQ (p : Fin 4) : ∀ a, offQ p a + S1x128x128.size a ≤ S1x128x512.size a := by
  revert p; decide
theorem inbG (p : Fin 4) : ∀ a, offG p a + S1x128.size a ≤ S1x512.size a := by
  revert p; decide
theorem inbB (h : Fin 8) : ∀ a, offB h a + S1x128x640.size a ≤ S8x128x640.size a := by
  revert h; decide

abbrev rQ (p : Fin 4) : Rect S1x128x512 := Rect.unit (offQ p) S1x128x128.size (inbQ p)
abbrev rK (i : grid0.Coords) (p : Fin 4) : Rect S1x4608x512 := Rect.unit (offK i p) S1x640x128.size (inbK i p)
abbrev rA (i : grid0.Coords) (p : Fin 4) : Rect S4608x512 := Rect.unit (offA i p) S640x128.size (inbA i p)
abbrev rG (p : Fin 4) : Rect S1x512 := Rect.unit (offG p) S1x128.size (inbG p)
abbrev rB (h : Fin 8) : Rect S8x128x640 := Rect.unit (offB h) S1x128x640.size (inbB h)

/-! ## What a point loads and computes for pair `p` -/

section Point
variable (m : (ℓ : Loc nD τ sig) → Buf (Elt Ideal) ℓ) (c : Dev nD) (t : Fin cfg0.N)

abbrev i0 : grid0.Coords := grid0.coords t

abbrev ldQ (p : Fin 4) : Vec Ideal S1x128x128 .bf16 := View.readAt (Elt Ideal) (ms0_0 t).view (rQ p).toLoadRect ((hs0_0 t).unread (iblk m c 0 t))
abbrev ldK (p : Fin 4) : Vec Ideal S1x640x128 .bf16 := View.readAt (Elt Ideal) (ms0_1 t).view (rK (i0 t) p).toLoadRect ((hs0_1 t).unread (iblk m c 1 t))
abbrev ldV (p : Fin 4) : Vec Ideal S1x640x128 .bf16 := View.readAt (Elt Ideal) (ms0_2 t).view (rK (i0 t) p).toLoadRect ((hs0_2 t).unread (iblk m c 2 t))
abbrev ldB (h : Fin 8) : Vec Ideal S1x128x640 .f32 := View.readAt (Elt Ideal) (ms0_3 t).view (rB h).toLoadRect ((hs0_3 t).unread (iblk m c 3 t))
abbrev ldO (p : Fin 4) : Vec Ideal S1x128x128 .f32 := View.readAt (Elt Ideal) (ms0_4 t).view (rQ p).toLoadRect ((hs0_4 t).unread (iblk m c 4 t))
abbrev ldD (p : Fin 4) : Vec Ideal S1x128x128 .f32 := View.readAt (Elt Ideal) (ms0_5 t).view (rQ p).toLoadRect ((hs0_5 t).unread (iblk m c 5 t))
abbrev ldG (p : Fin 4) : Vec Ideal S1x128 .f32 := View.readAt (Elt Ideal) (ms0_6 t).view (rG p).toLoadRect ((hs0_6 t).unread (iblk m c 6 t))

/-- The head numbers of pair `p`. -/
abbrev hn (p : Fin 4) (e : Fin 2) : Fin 8 := ⟨2 * p.val + e.val, by have := p.isLt; have := e.isLt; omega⟩

def dqAt (p : Fin 4) : Vec Ideal S1x128x128 .bf16 :=
  dqT (ldQ m c t p) (ldK m c t p) (ldV m c t p) (ldB m c t (hn p 0)) (ldB m c t (hn p 1)) (ldO m c t p) (ldD m c t p) (ldG m c t p) (i0 t)
def dkAt (p : Fin 4) (acc : Vec Ideal S640x128 .f32) : Vec Ideal S640x128 .f32 :=
  dkT (ldQ m c t p) (ldK m c t p) (ldV m c t p) (ldB m c t (hn p 0)) (ldB m c t (hn p 1)) (ldO m c t p) (ldD m c t p) (ldG m c t p) (i0 t) acc
def dvAt (p : Fin 4) (acc : Vec Ideal S640x128 .f32) : Vec Ideal S640x128 .f32 :=
  dvT (ldQ m c t p) (ldK m c t p) (ldB m c t (hn p 0)) (ldB m c t (hn p 1)) (ldO m c t p) (ldD m c t p) (ldG m c t p) (i0 t) acc

/-- The queries' gradient, stored pair by pair. -/
abbrev qPieces : List (View.Piece (Elt Ideal) S1x128x512 .bf16) :=
  [⟨rQ 3, dqAt m c t 3⟩, ⟨rQ 2, dqAt m c t 2⟩, ⟨rQ 1, dqAt m c t 1⟩, ⟨rQ 0, dqAt m c t 0⟩]

/-- An accumulator's windows, each added to what the buffer holds: at the start, -/
abbrev aPieces (V : View sig .tc .vmem S4608x512 .f32) (f : V.ty.Contents (Elt Ideal)) (w : Fin 4 → Vec Ideal S640x128 .f32 → Vec Ideal S640x128 .f32) :
    List (View.Piece (Elt Ideal) S4608x512 .f32) :=
  [⟨rA (i0 t) 3, w 3 (View.readAt (Elt Ideal) V (rA (i0 t) 3).toLoadRect f)⟩, ⟨rA (i0 t) 2, w 2 (View.readAt (Elt Ideal) V (rA (i0 t) 2).toLoadRect f)⟩,
    ⟨rA (i0 t) 1, w 1 (View.readAt (Elt Ideal) V (rA (i0 t) 1).toLoadRect f)⟩, ⟨rA (i0 t) 0, w 0 (View.readAt (Elt Ideal) V (rA (i0 t) 0).toLoadRect f)⟩]

/-- and after the pairs before. -/
abbrev cPiece (V : View sig .tc .vmem S4608x512 .f32) (f : V.ty.Contents (Elt Ideal)) (w : Fin 4 → Vec Ideal S640x128 .f32 → Vec Ideal S640x128 .f32)
    (L : List (View.Piece (Elt Ideal) S4608x512 .f32)) (p : Fin 4) : View.Piece (Elt Ideal) S4608x512 .f32 :=
  ⟨rA (i0 t) p, w p (View.readAt (Elt Ideal) V (rA (i0 t) p).toLoadRect (V.writes (Elt Ideal) f L))⟩

abbrev zero0 : List (View.Piece (Elt Ideal) S4608x512 .f32) := [⟨Rect.unit ![0, 0] S4608x512.size inb_S4608x512_S4608x512_0_0, k0_pay5 (F := Ideal)⟩]
abbrev zero1 : List (View.Piece (Elt Ideal) S4608x512 .f32) := [⟨Rect.unit ![0, 0] S4608x512.size inb_S4608x512_S4608x512_0_0, k0_pay6 (F := Ideal)⟩]

/-- The four windows over the zeroed buffer. -/
abbrev zPieces (V : View sig .tc .vmem S4608x512 .f32) (f : V.ty.Contents (Elt Ideal)) (w : Fin 4 → Vec Ideal S640x128 .f32 → Vec Ideal S640x128 .f32)
    (Z : List (View.Piece (Elt Ideal) S4608x512 .f32)) : List (View.Piece (Elt Ideal) S4608x512 .f32) :=
  let L0 := cPiece t V f w Z 0 :: Z
  let L1 := cPiece t V f w L0 1 :: L0
  let L2 := cPiece t V f w L1 2 :: L1
  cPiece t V f w L2 3 :: L2

variable (p : St Ideal)

theorem runB_q (h0 : ¬t.val % 32 = 0) (h1 : ¬t.val % 64 = 0) (h2 : ¬t.val % 32 = 31) : (runB m c t h0 h1 h2 p).1 = qPieces m c t := rfl

theorem runB_k (h0 : ¬t.val % 32 = 0) (h1 : ¬t.val % 64 = 0) (h2 : ¬t.val % 32 = 31) :
    (runB m c t h0 h1 h2 p).2.2.2.2.2.1 = aPieces t VS0_0 ((Memref.isWhole_whole _ : scM0_0.IsWhole).unread p.2.2.2.2.2.1) (dkAt m c t) := rfl

theorem runB_v (h0 : ¬t.val % 32 = 0) (h1 : ¬t.val % 64 = 0) (h2 : ¬t.val % 32 = 31) :
    (runB m c t h0 h1 h2 p).2.2.2.2.2.2.1 = aPieces t VS0_1 ((Memref.isWhole_whole _ : scM0_1.IsWhole).unread p.2.2.2.2.2.2) (dvAt m c t) := rfl

theorem runC_q (h0 : ¬t.val % 32 = 0) (h1 : ¬t.val % 64 = 0) (h2 : t.val % 32 = 31) : (runC m c t h0 h1 h2 p).1 = qPieces m c t := rfl

theorem runC_k (h0 : ¬t.val % 32 = 0) (h1 : ¬t.val % 64 = 0) (h2 : t.val % 32 = 31) :
    (runC m c t h0 h1 h2 p).2.2.2.2.2.1 = aPieces t VS0_0 ((Memref.isWhole_whole _ : scM0_0.IsWhole).unread p.2.2.2.2.2.1) (dkAt m c t) := rfl

theorem runC_v (h0 : ¬t.val % 32 = 0) (h1 : ¬t.val % 64 = 0) (h2 : t.val % 32 = 31) :
    (runC m c t h0 h1 h2 p).2.2.2.2.2.2.1 = aPieces t VS0_1 ((Memref.isWhole_whole _ : scM0_1.IsWhole).unread p.2.2.2.2.2.2) (dvAt m c t) := rfl

abbrev rOut : Rect S1x4096x512 := Rect.unit ![0, 0, 0] S1x4096x512.size inb_S1x4096x512_S1x4096x512_0_0_0
abbrev rAcc : Rect S4608x512 := Rect.unit ![512, 0] S4096x512.size inb_S4608x512_S4096x512_512_0

/-- The last point's store into the third argument's block, of the accumulator's contents. -/
def kOut (X : VS0_0.ty.Contents (Elt Ideal)) : List (View.Piece (Elt Ideal) S1x4096x512 .bf16) :=
  [⟨rOut, k0_pay3 (F := Ideal) (View.readAt (Elt Ideal) VS0_0 rAcc.toLoadRect X)⟩]
/-- The same, into the fourth. -/
def vOut (X : VS0_1.ty.Contents (Elt Ideal)) : List (View.Piece (Elt Ideal) S1x4096x512 .bf16) :=
  [⟨rOut, k0_pay4 (F := Ideal) (View.readAt (Elt Ideal) VS0_1 rAcc.toLoadRect X)⟩]

theorem runC_dk (h0 : ¬t.val % 32 = 0) (h1 : ¬t.val % 64 = 0) (h2 : t.val % 32 = 31) : (runC m c t h0 h1 h2 p).2.1 = kOut (VS0_0.writes (Elt Ideal) ((Memref.isWhole_whole _ : scM0_0.IsWhole).unread p.2.2.2.2.2.1) (aPieces t VS0_0 ((Memref.isWhole_whole _ : scM0_0.IsWhole).unread p.2.2.2.2.2.1) (dkAt m c t))) := rfl

theorem runC_dv (h0 : ¬t.val % 32 = 0) (h1 : ¬t.val % 64 = 0) (h2 : t.val % 32 = 31) : (runC m c t h0 h1 h2 p).2.2.1 = vOut (VS0_1.writes (Elt Ideal) ((Memref.isWhole_whole _ : scM0_1.IsWhole).unread p.2.2.2.2.2.2) (aPieces t VS0_1 ((Memref.isWhole_whole _ : scM0_1.IsWhole).unread p.2.2.2.2.2.2) (dvAt m c t))) := rfl

theorem runA_q (h0 : t.val % 32 = 0) (h1 : t.val % 64 = 0) (h2 : ¬t.val % 32 = 31) : (runA m c t h0 h1 h2).1 = qPieces m c t := rfl

theorem runA_k (h0 : t.val % 32 = 0) (h1 : t.val % 64 = 0) (h2 : ¬t.val % 32 = 31) :
    (runA m c t h0 h1 h2).2.2.2.2.2.1 = zPieces t VS0_0 VS0_0.junk (dkAt m c t) zero0 := rfl

theorem runA_v (h0 : t.val % 32 = 0) (h1 : t.val % 64 = 0) (h2 : ¬t.val % 32 = 31) :
    (runA m c t h0 h1 h2).2.2.2.2.2.2.1 = zPieces t VS0_1 VS0_1.junk (dvAt m c t) zero1 := rfl

theorem runD_q (h0 : t.val % 32 = 0) (h1 : ¬t.val % 64 = 0) (h2 : ¬t.val % 32 = 31) : (runD m c t h0 h1 h2 p).1 = qPieces m c t := rfl

theorem runD_k (h0 : t.val % 32 = 0) (h1 : ¬t.val % 64 = 0) (h2 : ¬t.val % 32 = 31) :
    (runD m c t h0 h1 h2 p).2.2.2.2.2.1 = zPieces t VS0_0 VS0_0.junk (dkAt m c t) zero0 := rfl

theorem runD_v (h0 : t.val % 32 = 0) (h1 : ¬t.val % 64 = 0) (h2 : ¬t.val % 32 = 31) :
    (runD m c t h0 h1 h2 p).2.2.2.2.2.2.1 = zPieces t VS0_1 VS0_1.junk (dvAt m c t) zero1 := rfl

/-! ## What the buffers hold -/

theorem stA_q_of (h0 : t.val % 32 = 0) (h1 : t.val % 64 = 0) (h2 : ¬t.val % 32 = 31) (L) (h : (runA m c t h0 h1 h2).1 = L) : (stA m c t h0 h1 h2).1 = VO0_7.read (Elt Ideal) (VO0_7.writes (Elt Ideal) VO0_7.junk L) := by
  subst h
  unfold stA
  dsimp only

theorem stA_q (h0 : t.val % 32 = 0) (h1 : t.val % 64 = 0) (h2 : ¬t.val % 32 = 31) : (stA m c t h0 h1 h2).1 = VO0_7.read (Elt Ideal) (VO0_7.writes (Elt Ideal) VO0_7.junk (qPieces m c t)) :=
  stA_q_of m c t h0 h1 h2 _ (runA_q m c t h0 h1 h2)

theorem stA_k_of (h0 : t.val % 32 = 0) (h1 : t.val % 64 = 0) (h2 : ¬t.val % 32 = 31) (L) (h : (runA m c t h0 h1 h2).2.2.2.2.2.1 = L) : (stA m c t h0 h1 h2).2.2.2.2.2.1 = VS0_0.read (Elt Ideal) (VS0_0.writes (Elt Ideal) VS0_0.junk L) := by
  subst h
  unfold stA
  dsimp only

theorem stA_k (h0 : t.val % 32 = 0) (h1 : t.val % 64 = 0) (h2 : ¬t.val % 32 = 31) : (stA m c t h0 h1 h2).2.2.2.2.2.1 = VS0_0.read (Elt Ideal) (VS0_0.writes (Elt Ideal) VS0_0.junk (zPieces t VS0_0 VS0_0.junk (dkAt m c t) zero0)) :=
  stA_k_of m c t h0 h1 h2 _ (runA_k m c t h0 h1 h2)

theorem stA_v_of (h0 : t.val % 32 = 0) (h1 : t.val % 64 = 0) (h2 : ¬t.val % 32 = 31) (L) (h : (runA m c t h0 h1 h2).2.2.2.2.2.2.1 = L) : (stA m c t h0 h1 h2).2.2.2.2.2.2 = VS0_1.read (Elt Ideal) (VS0_1.writes (Elt Ideal) VS0_1.junk L) := by
  subst h
  unfold stA
  dsimp only

theorem stA_v (h0 : t.val % 32 = 0) (h1 : t.val % 64 = 0) (h2 : ¬t.val % 32 = 31) : (stA m c t h0 h1 h2).2.2.2.2.2.2 = VS0_1.read (Elt Ideal) (VS0_1.writes (Elt Ideal) VS0_1.junk (zPieces t VS0_1 VS0_1.junk (dvAt m c t) zero1)) :=
  stA_v_of m c t h0 h1 h2 _ (runA_v m c t h0 h1 h2)

theorem stB_q_of (h0 : ¬t.val % 32 = 0) (h1 : ¬t.val % 64 = 0) (h2 : ¬t.val % 32 = 31) (L) (h : (runB m c t h0 h1 h2 p).1 = L) : (stB m c t h0 h1 h2 p).1 = VO0_7.read (Elt Ideal) (VO0_7.writes (Elt Ideal) VO0_7.junk L) := by
  subst h
  unfold stB
  dsimp only

theorem stB_q (h0 : ¬t.val % 32 = 0) (h1 : ¬t.val % 64 = 0) (h2 : ¬t.val % 32 = 31) : (stB m c t h0 h1 h2 p).1 = VO0_7.read (Elt Ideal) (VO0_7.writes (Elt Ideal) VO0_7.junk (qPieces m c t)) :=
  stB_q_of m c t p h0 h1 h2 _ (runB_q m c t p h0 h1 h2)

theorem stB_k_of (h0 : ¬t.val % 32 = 0) (h1 : ¬t.val % 64 = 0) (h2 : ¬t.val % 32 = 31) (L) (h : (runB m c t h0 h1 h2 p).2.2.2.2.2.1 = L) : (stB m c t h0 h1 h2 p).2.2.2.2.2.1 = VS0_0.read (Elt Ideal) (VS0_0.writes (Elt Ideal) ((Memref.isWhole_whole _ : scM0_0.IsWhole).unread p.2.2.2.2.2.1) L) := by
  subst h
  unfold stB
  dsimp only

theorem stB_k (h0 : ¬t.val % 32 = 0) (h1 : ¬t.val % 64 = 0) (h2 : ¬t.val % 32 = 31) : (stB m c t h0 h1 h2 p).2.2.2.2.2.1 = VS0_0.read (Elt Ideal) (VS0_0.writes (Elt Ideal) ((Memref.isWhole_whole _ : scM0_0.IsWhole).unread p.2.2.2.2.2.1) (aPieces t VS0_0 ((Memref.isWhole_whole _ : scM0_0.IsWhole).unread p.2.2.2.2.2.1) (dkAt m c t))) :=
  stB_k_of m c t p h0 h1 h2 _ (runB_k m c t p h0 h1 h2)

theorem stB_v_of (h0 : ¬t.val % 32 = 0) (h1 : ¬t.val % 64 = 0) (h2 : ¬t.val % 32 = 31) (L) (h : (runB m c t h0 h1 h2 p).2.2.2.2.2.2.1 = L) : (stB m c t h0 h1 h2 p).2.2.2.2.2.2 = VS0_1.read (Elt Ideal) (VS0_1.writes (Elt Ideal) ((Memref.isWhole_whole _ : scM0_1.IsWhole).unread p.2.2.2.2.2.2) L) := by
  subst h
  unfold stB
  dsimp only

theorem stB_v (h0 : ¬t.val % 32 = 0) (h1 : ¬t.val % 64 = 0) (h2 : ¬t.val % 32 = 31) : (stB m c t h0 h1 h2 p).2.2.2.2.2.2 = VS0_1.read (Elt Ideal) (VS0_1.writes (Elt Ideal) ((Memref.isWhole_whole _ : scM0_1.IsWhole).unread p.2.2.2.2.2.2) (aPieces t VS0_1 ((Memref.isWhole_whole _ : scM0_1.IsWhole).unread p.2.2.2.2.2.2) (dvAt m c t))) :=
  stB_v_of m c t p h0 h1 h2 _ (runB_v m c t p h0 h1 h2)

theorem stC_q_of (h0 : ¬t.val % 32 = 0) (h1 : ¬t.val % 64 = 0) (h2 : t.val % 32 = 31) (L) (h : (runC m c t h0 h1 h2 p).1 = L) : (stC m c t h0 h1 h2 p).1 = VO0_7.read (Elt Ideal) (VO0_7.writes (Elt Ideal) VO0_7.junk L) := by
  subst h
  unfold stC
  dsimp only

theorem stC_q (h0 : ¬t.val % 32 = 0) (h1 : ¬t.val % 64 = 0) (h2 : t.val % 32 = 31) : (stC m c t h0 h1 h2 p).1 = VO0_7.read (Elt Ideal) (VO0_7.writes (Elt Ideal) VO0_7.junk (qPieces m c t)) :=
  stC_q_of m c t p h0 h1 h2 _ (runC_q m c t p h0 h1 h2)

theorem stC_k_of (h0 : ¬t.val % 32 = 0) (h1 : ¬t.val % 64 = 0) (h2 : t.val % 32 = 31) (L) (h : (runC m c t h0 h1 h2 p).2.2.2.2.2.1 = L) : (stC m c t h0 h1 h2 p).2.2.2.2.2.1 = VS0_0.read (Elt Ideal) (VS0_0.writes (Elt Ideal) ((Memref.isWhole_whole _ : scM0_0.IsWhole).unread p.2.2.2.2.2.1) L) := by
  subst h
  unfold stC
  dsimp only

theorem stC_k (h0 : ¬t.val % 32 = 0) (h1 : ¬t.val % 64 = 0) (h2 : t.val % 32 = 31) : (stC m c t h0 h1 h2 p).2.2.2.2.2.1 = VS0_0.read (Elt Ideal) (VS0_0.writes (Elt Ideal) ((Memref.isWhole_whole _ : scM0_0.IsWhole).unread p.2.2.2.2.2.1) (aPieces t VS0_0 ((Memref.isWhole_whole _ : scM0_0.IsWhole).unread p.2.2.2.2.2.1) (dkAt m c t))) :=
  stC_k_of m c t p h0 h1 h2 _ (runC_k m c t p h0 h1 h2)

theorem stC_v_of (h0 : ¬t.val % 32 = 0) (h1 : ¬t.val % 64 = 0) (h2 : t.val % 32 = 31) (L) (h : (runC m c t h0 h1 h2 p).2.2.2.2.2.2.1 = L) : (stC m c t h0 h1 h2 p).2.2.2.2.2.2 = VS0_1.read (Elt Ideal) (VS0_1.writes (Elt Ideal) ((Memref.isWhole_whole _ : scM0_1.IsWhole).unread p.2.2.2.2.2.2) L) := by
  subst h
  unfold stC
  dsimp only

theorem stC_v (h0 : ¬t.val % 32 = 0) (h1 : ¬t.val % 64 = 0) (h2 : t.val % 32 = 31) : (stC m c t h0 h1 h2 p).2.2.2.2.2.2 = VS0_1.read (Elt Ideal) (VS0_1.writes (Elt Ideal) ((Memref.isWhole_whole _ : scM0_1.IsWhole).unread p.2.2.2.2.2.2) (aPieces t VS0_1 ((Memref.isWhole_whole _ : scM0_1.IsWhole).unread p.2.2.2.2.2.2) (dvAt m c t))) :=
  stC_v_of m c t p h0 h1 h2 _ (runC_v m c t p h0 h1 h2)

theorem stD_q_of (h0 : t.val % 32 = 0) (h1 : ¬t.val % 64 = 0) (h2 : ¬t.val % 32 = 31) (L) (h : (runD m c t h0 h1 h2 p).1 = L) : (stD m c t h0 h1 h2 p).1 = VO0_7.read (Elt Ideal) (VO0_7.writes (Elt Ideal) VO0_7.junk L) := by
  subst h
  unfold stD
  dsimp only

theorem stD_q (h0 : t.val % 32 = 0) (h1 : ¬t.val % 64 = 0) (h2 : ¬t.val % 32 = 31) : (stD m c t h0 h1 h2 p).1 = VO0_7.read (Elt Ideal) (VO0_7.writes (Elt Ideal) VO0_7.junk (qPieces m c t)) :=
  stD_q_of m c t p h0 h1 h2 _ (runD_q m c t p h0 h1 h2)

theorem stD_k_of (h0 : t.val % 32 = 0) (h1 : ¬t.val % 64 = 0) (h2 : ¬t.val % 32 = 31) (L) (h : (runD m c t h0 h1 h2 p).2.2.2.2.2.1 = L) : (stD m c t h0 h1 h2 p).2.2.2.2.2.1 = VS0_0.read (Elt Ideal) (VS0_0.writes (Elt Ideal) VS0_0.junk L) := by
  subst h
  unfold stD
  dsimp only

theorem stD_k (h0 : t.val % 32 = 0) (h1 : ¬t.val % 64 = 0) (h2 : ¬t.val % 32 = 31) : (stD m c t h0 h1 h2 p).2.2.2.2.2.1 = VS0_0.read (Elt Ideal) (VS0_0.writes (Elt Ideal) VS0_0.junk (zPieces t VS0_0 VS0_0.junk (dkAt m c t) zero0)) :=
  stD_k_of m c t p h0 h1 h2 _ (runD_k m c t p h0 h1 h2)

theorem stD_v_of (h0 : t.val % 32 = 0) (h1 : ¬t.val % 64 = 0) (h2 : ¬t.val % 32 = 31) (L) (h : (runD m c t h0 h1 h2 p).2.2.2.2.2.2.1 = L) : (stD m c t h0 h1 h2 p).2.2.2.2.2.2 = VS0_1.read (Elt Ideal) (VS0_1.writes (Elt Ideal) VS0_1.junk L) := by
  subst h
  unfold stD
  dsimp only

theorem stD_v (h0 : t.val % 32 = 0) (h1 : ¬t.val % 64 = 0) (h2 : ¬t.val % 32 = 31) : (stD m c t h0 h1 h2 p).2.2.2.2.2.2 = VS0_1.read (Elt Ideal) (VS0_1.writes (Elt Ideal) VS0_1.junk (zPieces t VS0_1 VS0_1.junk (dvAt m c t) zero1)) :=
  stD_v_of m c t p h0 h1 h2 _ (runD_v m c t p h0 h1 h2)

theorem stC_dk_of (h0 : ¬t.val % 32 = 0) (h1 : ¬t.val % 64 = 0) (h2 : t.val % 32 = 31) (L : List (View.Piece (Elt Ideal) S1x4096x512 .bf16)) (h : (runC m c t h0 h1 h2 p).2.1 = L) : (stC m c t h0 h1 h2 p).2.1 = VO0_8.read (Elt Ideal) (VO0_8.writes (Elt Ideal) VO0_8.junk L) := by
  subst h
  unfold stC
  dsimp only

theorem stC_dk (h0 : ¬t.val % 32 = 0) (h1 : ¬t.val % 64 = 0) (h2 : t.val % 32 = 31) : (stC m c t h0 h1 h2 p).2.1 = VO0_8.read (Elt Ideal) (VO0_8.writes (Elt Ideal) VO0_8.junk (kOut (VS0_0.writes (Elt Ideal) ((Memref.isWhole_whole _ : scM0_0.IsWhole).unread p.2.2.2.2.2.1) (aPieces t VS0_0 ((Memref.isWhole_whole _ : scM0_0.IsWhole).unread p.2.2.2.2.2.1) (dkAt m c t))))) :=
  stC_dk_of m c t p h0 h1 h2 _ (runC_dk m c t p h0 h1 h2)

theorem stC_dv_of (h0 : ¬t.val % 32 = 0) (h1 : ¬t.val % 64 = 0) (h2 : t.val % 32 = 31) (L : List (View.Piece (Elt Ideal) S1x4096x512 .bf16)) (h : (runC m c t h0 h1 h2 p).2.2.1 = L) : (stC m c t h0 h1 h2 p).2.2.1 = VO0_9.read (Elt Ideal) (VO0_9.writes (Elt Ideal) VO0_9.junk L) := by
  subst h
  unfold stC
  dsimp only

theorem stC_dv (h0 : ¬t.val % 32 = 0) (h1 : ¬t.val % 64 = 0) (h2 : t.val % 32 = 31) : (stC m c t h0 h1 h2 p).2.2.1 = VO0_9.read (Elt Ideal) (VO0_9.writes (Elt Ideal) VO0_9.junk (vOut (VS0_1.writes (Elt Ideal) ((Memref.isWhole_whole _ : scM0_1.IsWhole).unread p.2.2.2.2.2.2) (aPieces t VS0_1 ((Memref.isWhole_whole _ : scM0_1.IsWhole).unread p.2.2.2.2.2.2) (dvAt m c t))))) :=
  stC_dv_of m c t p h0 h1 h2 _ (runC_dv m c t p h0 h1 h2)

/-! ## The lists read at an index -/

/-- Column `128p + l` of a 512-wide block. -/
abbrev col (p : Fin 4) (l : Fin 128) : Fin 512 := ⟨128 * p.val + l.val, by have := p.isLt; have := l.isLt; omega⟩

theorem q_hit (V : View sig .tc .vmem S1x128x512 .bf16) (f : V.ty.Contents (Elt Ideal)) (p : Fin 4) (w : Vec Ideal S1x128x128 .bf16)
    (L : List (View.Piece (Elt Ideal) S1x128x512 .bf16)) (a l : Fin 128) :
    V.read (Elt Ideal) (V.writes (Elt Ideal) f (⟨rQ p, w⟩ :: L)) (ix3 0 a (col p l)) = w (ix3 0 a l) := by
  refine View.read_writes_cons_unit_of_mem V f (inbQ p) w L _ (ix3 0 a l) (offQ_eq p) fun b => ?_
  fin_cases b
  · rfl
  · exact (Nat.zero_add _).symm
  · rfl

theorem q_miss (V : View sig .tc .vmem S1x128x512 .bf16) (f : V.ty.Contents (Elt Ideal)) (p p' : Fin 4) (h : p' ≠ p) (w : Vec Ideal S1x128x128 .bf16)
    (L : List (View.Piece (Elt Ideal) S1x128x512 .bf16)) (a l : Fin 128) :
    V.read (Elt Ideal) (V.writes (Elt Ideal) f (⟨rQ p, w⟩ :: L)) (ix3 0 a (col p' l)) = V.read (Elt Ideal) (V.writes (Elt Ideal) f L) (ix3 0 a (col p' l)) := by
  refine View.read_writes_cons_unit_of_not_mem V f (inbQ p) w L _ (offQ_eq p) 2 ?_
  have h' : p'.val ≠ p.val := fun e => h (Fin.ext e)
  have := l.isLt
  show 128 * p'.val + l.val < 128 * p.val ∨ 128 * p.val + 128 ≤ 128 * p'.val + l.val
  omega

theorem q_read (V : View sig .tc .vmem S1x128x512 .bf16) (f : V.ty.Contents (Elt Ideal)) (p : Fin 4) (a l : Fin 128) :
    V.read (Elt Ideal) (V.writes (Elt Ideal) f (qPieces m c t)) (ix3 0 a (col p l)) = dqAt m c t p (ix3 0 a l) := by
  fin_cases p
  · exact (q_miss _ _ 3 0 (by decide) _ _ _ _).trans ((q_miss _ _ 2 0 (by decide) _ _ _ _).trans ((q_miss _ _ 1 0 (by decide) _ _ _ _).trans (q_hit _ _ 0 _ _ _ _)))
  · exact (q_miss _ _ 3 1 (by decide) _ _ _ _).trans ((q_miss _ _ 2 1 (by decide) _ _ _ _).trans (q_hit _ _ 1 _ _ _ _))
  · exact (q_miss _ _ 3 2 (by decide) _ _ _ _).trans (q_hit _ _ 2 _ _ _ _)
  · exact q_hit _ _ 3 _ _ _ _

/-- Row `128n + w` of the accumulators, at grid row `n`. -/
abbrev arow (w : Fin 640) : Fin 4608 := ⟨128 * ((i0 t) 2).val + w.val, by have h : ((i0 t) 2).val < 32 := ((i0 t) 2).isLt; have := w.isLt; omega⟩

variable (V : View sig .tc .vmem S4608x512 .f32) (f : V.ty.Contents (Elt Ideal))

/-- An accumulator's window as loaded. -/
def accLd (p : Fin 4) : Vec Ideal S640x128 .f32 := fun j => V.read (Elt Ideal) f (ix2 (arow t (j 0)) (col p (j 1)))

theorem a_ld (p : Fin 4) : View.readAt (Elt Ideal) V (rA (i0 t) p).toLoadRect f = accLd t V f p := by
  funext j
  refine congrArg (V.read (Elt Ideal) f) (funext fun a => Fin.ext ?_)
  have e := offA_eq (i0 t) p
  fin_cases a
  · show offA (i0 t) p 0 + 1 * (j 0).val = 128 * ((i0 t) 2).val + (j 0).val
    rw [e, Nat.one_mul]; rfl
  · show offA (i0 t) p 1 + 1 * (j 1).val = 128 * p.val + (j 1).val
    rw [e, Nat.one_mul]; rfl

/-- A place is in the window, or not. -/
def inWin (u : Fin 4608) : Prop := 128 * ((i0 t) 2).val ≤ u.val ∧ u.val < 128 * ((i0 t) 2).val + 640
instance (u : Fin 4608) : Decidable (inWin t u) := inferInstanceAs (Decidable (_ ∧ _))

theorem a_hit (p : Fin 4) (w : Vec Ideal S640x128 .f32) (L : List (View.Piece (Elt Ideal) S4608x512 .f32)) (r : Fin 640) (l : Fin 128) :
    V.read (Elt Ideal) (V.writes (Elt Ideal) f (⟨rA (i0 t) p, w⟩ :: L)) (ix2 (arow t r) (col p l)) = w (ix2 r l) := by
  refine View.read_writes_cons_unit_of_mem V f (inbA (i0 t) p) w L _ (ix2 r l) (offA_eq (i0 t) p) fun b => ?_
  fin_cases b <;> rfl

theorem a_miss (p p' : Fin 4) (h : p' ≠ p) (w : Vec Ideal S640x128 .f32) (L : List (View.Piece (Elt Ideal) S4608x512 .f32)) (u : Fin 4608) (l : Fin 128) :
    V.read (Elt Ideal) (V.writes (Elt Ideal) f (⟨rA (i0 t) p, w⟩ :: L)) (ix2 u (col p' l)) = V.read (Elt Ideal) (V.writes (Elt Ideal) f L) (ix2 u (col p' l)) := by
  refine View.read_writes_cons_unit_of_not_mem V f (inbA (i0 t) p) w L _ (offA_eq (i0 t) p) 1 ?_
  have h' : p'.val ≠ p.val := fun e => h (Fin.ext e)
  have := l.isLt
  show 128 * p'.val + l.val < 128 * p.val ∨ 128 * p.val + 128 ≤ 128 * p'.val + l.val
  omega

theorem a_out (p : Fin 4) (w : Vec Ideal S640x128 .f32) (L : List (View.Piece (Elt Ideal) S4608x512 .f32)) (u : Fin 4608) (hu : ¬inWin t u) (l : Fin 128) :
    V.read (Elt Ideal) (V.writes (Elt Ideal) f (⟨rA (i0 t) p, w⟩ :: L)) (ix2 u (col p l)) = V.read (Elt Ideal) (V.writes (Elt Ideal) f L) (ix2 u (col p l)) := by
  refine View.read_writes_cons_unit_of_not_mem V f (inbA (i0 t) p) w L _ (offA_eq (i0 t) p) 0 ?_
  unfold inWin at hu
  show u.val < 128 * ((i0 t) 2).val ∨ 128 * ((i0 t) 2).val + 640 ≤ u.val
  omega

/-- The pieces of a list, pair by pair, over what the buffer held. -/
abbrev fourPieces (w : Fin 4 → Vec Ideal S640x128 .f32) (L : List (View.Piece (Elt Ideal) S4608x512 .f32)) : List (View.Piece (Elt Ideal) S4608x512 .f32) :=
  ⟨rA (i0 t) 3, w 3⟩ :: ⟨rA (i0 t) 2, w 2⟩ :: ⟨rA (i0 t) 1, w 1⟩ :: ⟨rA (i0 t) 0, w 0⟩ :: L

theorem four_in (w : Fin 4 → Vec Ideal S640x128 .f32) (L : List (View.Piece (Elt Ideal) S4608x512 .f32)) (p : Fin 4) (r : Fin 640) (l : Fin 128) :
    V.read (Elt Ideal) (V.writes (Elt Ideal) f (fourPieces t w L)) (ix2 (arow t r) (col p l)) = w p (ix2 r l) := by
  fin_cases p
  · exact (a_miss t V f 3 0 (by decide) _ _ _ _).trans ((a_miss t V f 2 0 (by decide) _ _ _ _).trans ((a_miss t V f 1 0 (by decide) _ _ _ _).trans (a_hit t V f 0 _ _ _ _)))
  · exact (a_miss t V f 3 1 (by decide) _ _ _ _).trans ((a_miss t V f 2 1 (by decide) _ _ _ _).trans (a_hit t V f 1 _ _ _ _))
  · exact (a_miss t V f 3 2 (by decide) _ _ _ _).trans (a_hit t V f 2 _ _ _ _)
  · exact a_hit t V f 3 _ _ _ _

theorem four_out (w : Fin 4 → Vec Ideal S640x128 .f32) (L : List (View.Piece (Elt Ideal) S4608x512 .f32)) (p : Fin 4) (u : Fin 4608) (hu : ¬inWin t u) (l : Fin 128) :
    V.read (Elt Ideal) (V.writes (Elt Ideal) f (fourPieces t w L)) (ix2 u (col p l)) = V.read (Elt Ideal) (V.writes (Elt Ideal) f L) (ix2 u (col p l)) := by
  fin_cases p
  · exact (a_miss t V f 3 0 (by decide) _ _ _ _).trans ((a_miss t V f 2 0 (by decide) _ _ _ _).trans ((a_miss t V f 1 0 (by decide) _ _ _ _).trans (a_out t V f 0 _ _ _ hu _)))
  · exact (a_miss t V f 3 1 (by decide) _ _ _ _).trans ((a_miss t V f 2 1 (by decide) _ _ _ _).trans ((a_out t V f 1 _ _ _ hu _).trans (a_miss t V f 0 1 (by decide) _ _ _ _)))
  · exact (a_miss t V f 3 2 (by decide) _ _ _ _).trans ((a_out t V f 2 _ _ _ hu _).trans ((a_miss t V f 1 2 (by decide) _ _ _ _).trans (a_miss t V f 0 2 (by decide) _ _ _ _)))
  · exact (a_out t V f 3 _ _ _ hu _).trans ((a_miss t V f 2 3 (by decide) _ _ _ _).trans ((a_miss t V f 1 3 (by decide) _ _ _ _).trans (a_miss t V f 0 3 (by decide) _ _ _ _)))

/-- What the four windows' loads see of the buffer, after the windows of the pairs before: the buffer itself. -/
theorem z_eq (w : Fin 4 → Vec Ideal S640x128 .f32 → Vec Ideal S640x128 .f32) (Z : List (View.Piece (Elt Ideal) S4608x512 .f32)) :
    zPieces t V f w Z = fourPieces t (fun p => w p (accLd t V (V.writes (Elt Ideal) f Z) p)) Z := by
  unfold zPieces fourPieces cPiece
  simp only [a_ld]
  have e1 : ∀ w0, accLd t V (V.writes (Elt Ideal) f (⟨rA (i0 t) 0, w0⟩ :: Z)) 1 = accLd t V (V.writes (Elt Ideal) f Z) 1 := fun w0 =>
    funext fun j => a_miss t V f 0 1 (by decide) _ _ _ _
  have e2 : ∀ w0 w1, accLd t V (V.writes (Elt Ideal) f (⟨rA (i0 t) 1, w1⟩ :: ⟨rA (i0 t) 0, w0⟩ :: Z)) 2 = accLd t V (V.writes (Elt Ideal) f Z) 2 := fun w0 w1 =>
    funext fun j => (a_miss t V f 1 2 (by decide) _ _ _ _).trans (a_miss t V f 0 2 (by decide) _ _ _ _)
  have e3 : ∀ w0 w1 w2, accLd t V (V.writes (Elt Ideal) f (⟨rA (i0 t) 2, w2⟩ :: ⟨rA (i0 t) 1, w1⟩ :: ⟨rA (i0 t) 0, w0⟩ :: Z)) 3 = accLd t V (V.writes (Elt Ideal) f Z) 3 := fun w0 w1 w2 =>
    funext fun j => (a_miss t V f 2 3 (by decide) _ _ _ _).trans ((a_miss t V f 1 3 (by decide) _ _ _ _).trans (a_miss t V f 0 3 (by decide) _ _ _ _))
  rw [e1, e2, e3]

end Point

end Cert.Value

end
-- ==== Proof.Ideal.Final.lean ====
/- The three result arrays after the run: each index holds what the last point that stores into it left there. -/
module

public import proofs.«01_k».proof.Proof.Ideal.Frame
public import Idealize.ShloMosaic.Lib.Pipeline.Value

@[expose] public section

set_option maxRecDepth 16384

noncomputable section

namespace Cert.KernelIdeal.Bwd

open Cert.KernelIdeal Cert.KernelIdeal.Gen
open Idealize.ShloMosaic Idealize.ShloMosaic.TcCoe
open Idealize.SL Idealize.SL.Sem
open Idealize.ShloMosaic.Rounds
open Idealize.ShloMosaic.Pipeline (Dat Cfg Window)

variable {F : FTy → Type} [FloatOps F] [Named F]
variable (m : (ℓ : Loc nD τ sig) → Buf (Elt F) ℓ) (ρ : Dev nD → PrngReg)

theorem outs_congr (c : Dev nD) {n n' : ℕ} (h : n < cfg0.N) (h' : n' < cfg0.N) (e : n = n') : outs m c n h = outs m c n' h' := by
  subst e; rfl

/-! ## The gradient with respect to the queries -/

/-- The point that stores the element for the last time, and the element's place in that point's block. -/
abbrev pt7 (i : S2x4096x512.Idx) : ℕ := 32 * (i 0).val + (i 1).val / 128
set_option backward.proofsInPublic true in
abbrev loc7 (i : S2x4096x512.Idx) : S1x128x512.Idx := fun a => match a with
  | ⟨0, _⟩ => ⟨0, Nat.one_pos⟩
  | ⟨1, _⟩ => ⟨(i 1).val % 128, Nat.mod_lt _ (by decide)⟩
  | ⟨2, _⟩ => ⟨(i 2).val, (i 2).isLt⟩

theorem pt7_lt (i : S2x4096x512.Idx) : pt7 i < cfg0.N := by
  have h0 : (i 0).val < 2 := (i 0).isLt
  have h1 : (i 1).val < 4096 := (i 1).isLt
  exact lt_of_lt_of_eq (show 32 * (i 0).val + (i 1).val / 128 < 64 by omega) N_0.symm

/-- What the array ends holding. -/
def G7 (c : Dev nD) : Buf (Elt F) ((c : Thread nD τ).loc main_v108_0) := fun i =>
  (outs m c (pt7 i) (pt7_lt i)).1 (loc7 i)

theorem index7 : ∀ t : Fin cfg0.N, win0_7.index t (0 : Fin 3) = t.val / 32 ∧ win0_7.index t (1 : Fin 3) = t.val % 32
    ∧ win0_7.index t (2 : Fin 3) = 0 :=
  (by decide +kernel : ∀ t : Fin grid0.N, _)

theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  have hN : t.val < 64 := lt_of_lt_of_eq t.isLt N_0
  skip
  obtain ⟨e0, e1, e2⟩ := index7 t
  funext y
  have hy0 : (y 0).val < 1 := (y 0).isLt
  have hy1 : (y 1).val < 128 := (y 1).isLt
  have hy2 : (y 2).val < 512 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 128 + 1 * (y 1).val := rfl
  have hb2 : (((cfg0.win 7).blk t).view.emb y 2).val = win0_7.index t (2 : Fin 3) * 512 + 1 * (y 2).val := rfl
  have hp : pt7 (((cfg0.win 7).blk t).view.emb y) = t.val := by
    show 32 * (((cfg0.win 7).blk t).view.emb y 0).val + (((cfg0.win 7).blk t).view.emb y 1).val / 128 = _
    rw [hb0, hb1]; omega
  have hl : loc7 (((cfg0.win 7).blk t).view.emb y) = (cfg0.win 7).xinj (grid0.coords t) y := by
    funext a; apply Fin.ext
    match a with
    | ⟨0, _⟩ => show 0 = (y 0).val; omega
    | ⟨1, _⟩ => show (((cfg0.win 7).blk t).view.emb y 1).val % 128 = (y 1).val; rw [hb1]; omega
    | ⟨2, _⟩ => show (((cfg0.win 7).blk t).view.emb y 2).val = (y 2).val; rw [hb2]; omega
  show (outs m c t.val t.isLt).1 ((cfg0.win 7).xinj (grid0.coords t) y) = G7 m c (((cfg0.win 7).blk t).view.emb y)
  unfold G7
  rw [hl, outs_congr m c _ _ hp]

theorem mem_blk7 (t : Fin cfg0.N) (i : S2x4096x512.Idx) :
    i ∈ ((cfg0.win 7).blk t).view.set ↔ ∀ a : Fin 3, win0_7.index t a * S1x128x512.size a ≤ (i a).val ∧ (i a).val < win0_7.index t a * S1x128x512.size a + S1x128x512.size a := by
  show i ∈ ((View.whole main_v108_0).slice (win0_7.rect t)).set ↔ _
  rw [View.set_slice_whole, Rect.mem_set_unit]
  exact Iff.rfl

theorem covered7 (i : S2x4096x512.Idx) : ∃ t : Fin cfg0.N, (cfg0.win 7).flush t = true ∧ i ∈ ((cfg0.win 7).blk t).view.set := by
  have h0 : (i 0).val < 2 := (i 0).isLt
  have h1 : (i 1).val < 4096 := (i 1).isLt
  have h2 : (i 2).val < 512 := (i 2).isLt
  have hp : pt7 i = 32 * (i 0).val + (i 1).val / 128 := rfl
  refine ⟨⟨pt7 i, pt7_lt i⟩, ?_, ?_⟩
  · exact flush0_7 _
  · rw [mem_blk7]
    obtain ⟨e0, e1, e2⟩ := index7 ⟨pt7 i, pt7_lt i⟩
    dsimp only at e0 e1 e2
    intro a
    match a with
    | ⟨0, _⟩ => show win0_7.index _ (0 : Fin 3) * 1 ≤ (i 0).val ∧ (i 0).val < win0_7.index _ (0 : Fin 3) * 1 + 1; rw [e0]; omega
    | ⟨1, _⟩ => show win0_7.index _ (1 : Fin 3) * 128 ≤ (i 1).val ∧ (i 1).val < win0_7.index _ (1 : Fin 3) * 128 + 128; rw [e1]; omega
    | ⟨2, _⟩ => show win0_7.index _ (2 : Fin 3) * 512 ≤ (i 2).val ∧ (i 2).val < win0_7.index _ (2 : Fin 3) * 512 + 512; rw [e2]; omega

theorem final7 (c : Dev nD) : (dats m 0 c).arrAt 7 cfg0.N = G7 m c :=
  (dats m 0 c).arrAt_eq_of_cover 7 _ (fun t hf => flushed7_eq m c t hf) (fun i => covered7 i)

/-! ## The gradient with respect to the keys -/

/-- The point that stores the element for the last time, and the element's place in that point's block. -/
abbrev pt8 (i : S2x4096x512.Idx) : ℕ := 32 * (i 0).val + 31
set_option backward.proofsInPublic true in
abbrev loc8 (i : S2x4096x512.Idx) : S1x4096x512.Idx := fun a => match a with
  | ⟨0, _⟩ => ⟨0, Nat.one_pos⟩
  | ⟨1, _⟩ => ⟨(i 1).val % 4096, Nat.mod_lt _ (by decide)⟩
  | ⟨2, _⟩ => ⟨(i 2).val, (i 2).isLt⟩

theorem pt8_lt (i : S2x4096x512.Idx) : pt8 i < cfg0.N := by
  have h0 : (i 0).val < 2 := (i 0).isLt
  have h1 : (i 1).val < 4096 := (i 1).isLt
  exact lt_of_lt_of_eq (show 32 * (i 0).val + 31 < 64 by omega) N_0.symm

/-- What the array ends holding. -/
def G8 (c : Dev nD) : Buf (Elt F) ((c : Thread nD τ).loc main_v108_1) := fun i =>
  (outs m c (pt8 i) (pt8_lt i)).2.1 (loc8 i)

theorem index8 : ∀ t : Fin cfg0.N, win0_8.index t (0 : Fin 3) = t.val / 32 ∧ win0_8.index t (1 : Fin 3) = 0
    ∧ win0_8.index t (2 : Fin 3) = 0 :=
  (by decide +kernel : ∀ t : Fin grid0.N, _)

theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8]
  have hN : t.val < 64 := lt_of_lt_of_eq t.isLt N_0
  have hm : t.val % 32 = 31 := (flush0_8 t).mp hf
  obtain ⟨e0, e1, e2⟩ := index8 t
  funext y
  have hy0 : (y 0).val < 1 := (y 0).isLt
  have hy1 : (y 1).val < 4096 := (y 1).isLt
  have hy2 : (y 2).val < 512 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 4096 + 1 * (y 1).val := rfl
  have hb2 : (((cfg0.win 8).blk t).view.emb y 2).val = win0_8.index t (2 : Fin 3) * 512 + 1 * (y 2).val := rfl
  have hp : pt8 (((cfg0.win 8).blk t).view.emb y) = t.val := by
    show 32 * (((cfg0.win 8).blk t).view.emb y 0).val + 31 = _
    rw [hb0]; omega
  have hl : loc8 (((cfg0.win 8).blk t).view.emb y) = (cfg0.win 8).xinj (grid0.coords t) y := by
    funext a; apply Fin.ext
    match a with
    | ⟨0, _⟩ => show 0 = (y 0).val; omega
    | ⟨1, _⟩ => show (((cfg0.win 8).blk t).view.emb y 1).val % 4096 = (y 1).val; rw [hb1]; omega
    | ⟨2, _⟩ => show (((cfg0.win 8).blk t).view.emb y 2).val = (y 2).val; rw [hb2]; omega
  show (outs m c t.val t.isLt).2.1 ((cfg0.win 8).xinj (grid0.coords t) y) = G8 m c (((cfg0.win 8).blk t).view.emb y)
  unfold G8
  rw [hl, outs_congr m c _ _ hp]

theorem mem_blk8 (t : Fin cfg0.N) (i : S2x4096x512.Idx) :
    i ∈ ((cfg0.win 8).blk t).view.set ↔ ∀ a : Fin 3, win0_8.index t a * S1x4096x512.size a ≤ (i a).val ∧ (i a).val < win0_8.index t a * S1x4096x512.size a + S1x4096x512.size a := by
  show i ∈ ((View.whole main_v108_1).slice (win0_8.rect t)).set ↔ _
  rw [View.set_slice_whole, Rect.mem_set_unit]
  exact Iff.rfl

theorem covered8 (i : S2x4096x512.Idx) : ∃ t : Fin cfg0.N, (cfg0.win 8).flush t = true ∧ i ∈ ((cfg0.win 8).blk t).view.set := by
  have h0 : (i 0).val < 2 := (i 0).isLt
  have h1 : (i 1).val < 4096 := (i 1).isLt
  have h2 : (i 2).val < 512 := (i 2).isLt
  have hp : pt8 i = 32 * (i 0).val + 31 := rfl
  refine ⟨⟨pt8 i, pt8_lt i⟩, ?_, ?_⟩
  · exact (flush0_8 _).mpr (by show pt8 i % 32 = 31; omega)
  · rw [mem_blk8]
    obtain ⟨e0, e1, e2⟩ := index8 ⟨pt8 i, pt8_lt i⟩
    dsimp only at e0 e1 e2
    intro a
    match a with
    | ⟨0, _⟩ => show win0_8.index _ (0 : Fin 3) * 1 ≤ (i 0).val ∧ (i 0).val < win0_8.index _ (0 : Fin 3) * 1 + 1; rw [e0]; omega
    | ⟨1, _⟩ => show win0_8.index _ (1 : Fin 3) * 4096 ≤ (i 1).val ∧ (i 1).val < win0_8.index _ (1 : Fin 3) * 4096 + 4096; rw [e1]; omega
    | ⟨2, _⟩ => show win0_8.index _ (2 : Fin 3) * 512 ≤ (i 2).val ∧ (i 2).val < win0_8.index _ (2 : Fin 3) * 512 + 512; rw [e2]; omega

theorem final8 (c : Dev nD) : (dats m 0 c).arrAt 8 cfg0.N = G8 m c :=
  (dats m 0 c).arrAt_eq_of_cover 8 _ (fun t hf => flushed8_eq m c t hf) (fun i => covered8 i)

/-! ## The gradient with respect to the values -/

/-- The point that stores the element for the last time, and the element's place in that point's block. -/
abbrev pt9 (i : S2x4096x512.Idx) : ℕ := 32 * (i 0).val + 31
set_option backward.proofsInPublic true in
abbrev loc9 (i : S2x4096x512.Idx) : S1x4096x512.Idx := fun a => match a with
  | ⟨0, _⟩ => ⟨0, Nat.one_pos⟩
  | ⟨1, _⟩ => ⟨(i 1).val % 4096, Nat.mod_lt _ (by decide)⟩
  | ⟨2, _⟩ => ⟨(i 2).val, (i 2).isLt⟩

theorem pt9_lt (i : S2x4096x512.Idx) : pt9 i < cfg0.N := by
  have h0 : (i 0).val < 2 := (i 0).isLt
  have h1 : (i 1).val < 4096 := (i 1).isLt
  exact lt_of_lt_of_eq (show 32 * (i 0).val + 31 < 64 by omega) N_0.symm

/-- What the array ends holding. -/
def G9 (c : Dev nD) : Buf (Elt F) ((c : Thread nD τ).loc main_v108_2) := fun i =>
  (outs m c (pt9 i) (pt9_lt i)).2.2.1 (loc9 i)

theorem index9 : ∀ t : Fin cfg0.N, win0_9.index t (0 : Fin 3) = t.val / 32 ∧ win0_9.index t (1 : Fin 3) = 0
    ∧ win0_9.index t (2 : Fin 3) = 0 :=
  (by decide +kernel : ∀ t : Fin grid0.N, _)

theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9]
  have hN : t.val < 64 := lt_of_lt_of_eq t.isLt N_0
  have hm : t.val % 32 = 31 := (flush0_9 t).mp hf
  obtain ⟨e0, e1, e2⟩ := index9 t
  funext y
  have hy0 : (y 0).val < 1 := (y 0).isLt
  have hy1 : (y 1).val < 4096 := (y 1).isLt
  have hy2 : (y 2).val < 512 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 4096 + 1 * (y 1).val := rfl
  have hb2 : (((cfg0.win 9).blk t).view.emb y 2).val = win0_9.index t (2 : Fin 3) * 512 + 1 * (y 2).val := rfl
  have hp : pt9 (((cfg0.win 9).blk t).view.emb y) = t.val := by
    show 32 * (((cfg0.win 9).blk t).view.emb y 0).val + 31 = _
    rw [hb0]; omega
  have hl : loc9 (((cfg0.win 9).blk t).view.emb y) = (cfg0.win 9).xinj (grid0.coords t) y := by
    funext a; apply Fin.ext
    match a with
    | ⟨0, _⟩ => show 0 = (y 0).val; omega
    | ⟨1, _⟩ => show (((cfg0.win 9).blk t).view.emb y 1).val % 4096 = (y 1).val; rw [hb1]; omega
    | ⟨2, _⟩ => show (((cfg0.win 9).blk t).view.emb y 2).val = (y 2).val; rw [hb2]; omega
  show (outs m c t.val t.isLt).2.2.1 ((cfg0.win 9).xinj (grid0.coords t) y) = G9 m c (((cfg0.win 9).blk t).view.emb y)
  unfold G9
  rw [hl, outs_congr m c _ _ hp]

theorem mem_blk9 (t : Fin cfg0.N) (i : S2x4096x512.Idx) :
    i ∈ ((cfg0.win 9).blk t).view.set ↔ ∀ a : Fin 3, win0_9.index t a * S1x4096x512.size a ≤ (i a).val ∧ (i a).val < win0_9.index t a * S1x4096x512.size a + S1x4096x512.size a := by
  show i ∈ ((View.whole main_v108_2).slice (win0_9.rect t)).set ↔ _
  rw [View.set_slice_whole, Rect.mem_set_unit]
  exact Iff.rfl

theorem covered9 (i : S2x4096x512.Idx) : ∃ t : Fin cfg0.N, (cfg0.win 9).flush t = true ∧ i ∈ ((cfg0.win 9).blk t).view.set := by
  have h0 : (i 0).val < 2 := (i 0).isLt
  have h1 : (i 1).val < 4096 := (i 1).isLt
  have h2 : (i 2).val < 512 := (i 2).isLt
  have hp : pt9 i = 32 * (i 0).val + 31 := rfl
  refine ⟨⟨pt9 i, pt9_lt i⟩, ?_, ?_⟩
  · exact (flush0_9 _).mpr (by show pt9 i % 32 = 31; omega)
  · rw [mem_blk9]
    obtain ⟨e0, e1, e2⟩ := index9 ⟨pt9 i, pt9_lt i⟩
    dsimp only at e0 e1 e2
    intro a
    match a with
    | ⟨0, _⟩ => show win0_9.index _ (0 : Fin 3) * 1 ≤ (i 0).val ∧ (i 0).val < win0_9.index _ (0 : Fin 3) * 1 + 1; rw [e0]; omega
    | ⟨1, _⟩ => show win0_9.index _ (1 : Fin 3) * 4096 ≤ (i 1).val ∧ (i 1).val < win0_9.index _ (1 : Fin 3) * 4096 + 4096; rw [e1]; omega
    | ⟨2, _⟩ => show win0_9.index _ (2 : Fin 3) * 512 ≤ (i 2).val ∧ (i 2).val < win0_9.index _ (2 : Fin 3) * 512 + 512; rw [e2]; omega

theorem final9 (c : Dev nD) : (dats m 0 c).arrAt 9 cfg0.N = G9 m c :=
  (dats m 0 c).arrAt_eq_of_cover 9 _ (fun t hf => flushed9_eq m c t hf) (fun i => covered9 i)

/-! ## The run -/

theorem run : θ_run defs (onTc (τ := τ) (main (F := F))) ⟨m, fun _ => 0, ρ⟩ fun r => ∀ c : Dev nD,
      r.2.mem ((c : Thread nD τ).loc main_v108_0) = G7 m c
      ∧ r.2.mem ((c : Thread nD τ).loc main_v108_1) = G8 m c
      ∧ r.2.mem ((c : Thread nD τ).loc main_v108_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 7).trans (final7 m c), ((h c).1 8).trans (final8 m c), ((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c)))⟩)
    (run_main m ρ)

end Cert.KernelIdeal.Bwd

end
-- ==== Proof.Value.Points.lean ====
/- What each point leaves, by heads: the queries' gradient at every point, the keys' and values' after a batch's last point. -/
module

public import proofs.«01_k».proof.Proof.Value.Pieces
public import proofs.«01_k».proof.Proof.Ideal.Final

@[expose] public section

set_option maxRecDepth 16384

noncomputable section

namespace Cert.Value

open Cert.KernelIdeal Cert.KernelIdeal.Gen Cert.KernelIdeal.Bwd
open Idealize.ShloMosaic

variable (m : (ℓ : Loc nD τ sig) → Buf (Elt Ideal) ℓ) (c : Dev nD)

section Point
variable (t : Fin cfg0.N)

/-- The `e`-th head of pair `p`, of the point's blocks. -/
def HD (p : Fin 4) (e : Fin 2) : Head where
  q i x := (iblk m c 0 t : Vec Ideal S1x128x512 .bf16) (ix3 0 i (col p (lane e x)))
  k w x := (iblk m c 1 t : Vec Ideal S1x4608x512 .bf16) (ix3 0 (arow t w) (col p (lane e x)))
  v w x := (iblk m c 2 t : Vec Ideal S1x4608x512 .bf16) (ix3 0 (arow t w) (col p (lane e x)))
  b i w := (iblk m c 3 t : Vec Ideal S8x128x640 .f32) (ix3 (hn p e) i w)
  o i x := (iblk m c 4 t : Vec Ideal S1x128x512 .f32) (ix3 0 i (col p (lane e x)))
  d i x := (iblk m c 5 t : Vec Ideal S1x128x512 .f32) (ix3 0 i (col p (lane e x)))
  g x := (iblk m c 6 t : Vec Ideal S1x512 .f32) (ix2 0 (col p (lane e x)))
  base := 128 * ((i0 t) 2).val

theorem ldQ_ix (p : Fin 4) (i l : Fin 128) : ldQ m c t p (ix3 0 i l) = (iblk m c 0 t : Vec Ideal S1x128x512 .bf16) (ix3 0 i (col p l)) := by
  refine ((hs0_0 t).readAt_unread _ _ _).trans (congrArg (iblk m c 0 t : Vec Ideal S1x128x512 .bf16) (funext fun a => Fin.ext ?_))
  fin_cases a
  · show offQ p 0 + 1 * 0 = 0; rw [offQ_eq]; rfl
  · show offQ p 1 + 1 * i.val = i.val; rw [offQ_eq, Nat.one_mul]; exact Nat.zero_add _
  · show offQ p 2 + 1 * l.val = 128 * p.val + l.val; rw [offQ_eq, Nat.one_mul]; rfl

theorem ldO_ix (p : Fin 4) (i l : Fin 128) : ldO m c t p (ix3 0 i l) = (iblk m c 4 t : Vec Ideal S1x128x512 .f32) (ix3 0 i (col p l)) := by
  refine ((hs0_4 t).readAt_unread _ _ _).trans (congrArg (iblk m c 4 t : Vec Ideal S1x128x512 .f32) (funext fun a => Fin.ext ?_))
  fin_cases a
  · show offQ p 0 + 1 * 0 = 0; rw [offQ_eq]; rfl
  · show offQ p 1 + 1 * i.val = i.val; rw [offQ_eq, Nat.one_mul]; exact Nat.zero_add _
  · show offQ p 2 + 1 * l.val = 128 * p.val + l.val; rw [offQ_eq, Nat.one_mul]; rfl

theorem ldD_ix (p : Fin 4) (i l : Fin 128) : ldD m c t p (ix3 0 i l) = (iblk m c 5 t : Vec Ideal S1x128x512 .f32) (ix3 0 i (col p l)) := by
  refine ((hs0_5 t).readAt_unread _ _ _).trans (congrArg (iblk m c 5 t : Vec Ideal S1x128x512 .f32) (funext fun a => Fin.ext ?_))
  fin_cases a
  · show offQ p 0 + 1 * 0 = 0; rw [offQ_eq]; rfl
  · show offQ p 1 + 1 * i.val = i.val; rw [offQ_eq, Nat.one_mul]; exact Nat.zero_add _
  · show offQ p 2 + 1 * l.val = 128 * p.val + l.val; rw [offQ_eq, Nat.one_mul]; rfl

theorem ldK_ix (p : Fin 4) (w : Fin 640) (l : Fin 128) :
    ldK m c t p (ix3 0 w l) = (iblk m c 1 t : Vec Ideal S1x4608x512 .bf16) (ix3 0 (arow t w) (col p l)) := by
  refine ((hs0_1 t).readAt_unread _ _ _).trans (congrArg (iblk m c 1 t : Vec Ideal S1x4608x512 .bf16) (funext fun a => Fin.ext ?_))
  fin_cases a
  · show offK (i0 t) p 0 + 1 * 0 = 0; rw [offK_eq]; rfl
  · show offK (i0 t) p 1 + 1 * w.val = 128 * ((i0 t) 2).val + w.val; rw [offK_eq, Nat.one_mul]; rfl
  · show offK (i0 t) p 2 + 1 * l.val = 128 * p.val + l.val; rw [offK_eq, Nat.one_mul]; rfl

theorem ldV_ix (p : Fin 4) (w : Fin 640) (l : Fin 128) :
    ldV m c t p (ix3 0 w l) = (iblk m c 2 t : Vec Ideal S1x4608x512 .bf16) (ix3 0 (arow t w) (col p l)) := by
  refine ((hs0_2 t).readAt_unread _ _ _).trans (congrArg (iblk m c 2 t : Vec Ideal S1x4608x512 .bf16) (funext fun a => Fin.ext ?_))
  fin_cases a
  · show offK (i0 t) p 0 + 1 * 0 = 0; rw [offK_eq]; rfl
  · show offK (i0 t) p 1 + 1 * w.val = 128 * ((i0 t) 2).val + w.val; rw [offK_eq, Nat.one_mul]; rfl
  · show offK (i0 t) p 2 + 1 * l.val = 128 * p.val + l.val; rw [offK_eq, Nat.one_mul]; rfl

theorem ldB_ix (h : Fin 8) (i : Fin 128) (w : Fin 640) : ldB m c t h (ix3 0 i w) = (iblk m c 3 t : Vec Ideal S8x128x640 .f32) (ix3 h i w) := by
  refine ((hs0_3 t).readAt_unread _ _ _).trans (congrArg (iblk m c 3 t : Vec Ideal S8x128x640 .f32) (funext fun a => Fin.ext ?_))
  fin_cases a
  · show offB h 0 + 1 * 0 = h.val; rw [offB_eq]; rfl
  · show offB h 1 + 1 * i.val = i.val; rw [offB_eq, Nat.one_mul]; exact Nat.zero_add _
  · show offB h 2 + 1 * w.val = w.val; rw [offB_eq, Nat.one_mul]; exact Nat.zero_add _

theorem ldG_ix (p : Fin 4) (l : Fin 128) : ldG m c t p (ix2 0 l) = (iblk m c 6 t : Vec Ideal S1x512 .f32) (ix2 0 (col p l)) := by
  refine ((hs0_6 t).readAt_unread _ _ _).trans (congrArg (iblk m c 6 t : Vec Ideal S1x512 .f32) (funext fun a => Fin.ext ?_))
  fin_cases a
  · show offG p 0 + 1 * 0 = 0; rw [offG_eq]; rfl
  · show offG p 1 + 1 * l.val = 128 * p.val + l.val; rw [offG_eq, Nat.one_mul]; rfl

theorem hd_of (e : Fin 2) (n : ℕ) (q : Vec Ideal S1x128x128 .bf16) (k v : Vec Ideal S1x640x128 .bf16) (b : Vec Ideal S1x128x640 .f32)
    (o d : Vec Ideal S1x128x128 .f32) (g : Vec Ideal S1x128 .f32) (H : Head)
    (hq : ∀ i x, q (ix3 0 i (lane e x)) = H.q i x) (hk : ∀ w x, k (ix3 0 w (lane e x)) = H.k w x) (hv : ∀ w x, v (ix3 0 w (lane e x)) = H.v w x)
    (hb : ∀ i w, b (ix3 0 i w) = H.b i w) (ho : ∀ i x, o (ix3 0 i (lane e x)) = H.o i x) (hd' : ∀ i x, d (ix3 0 i (lane e x)) = H.d i x)
    (hg : ∀ x, g (ix2 0 (lane e x)) = H.g x) (hn' : 128 * n = H.base) : hd e n q k v b o d g = H := by
  cases H
  obtain rfl := funext fun i => funext fun x => hq i x
  obtain rfl := funext fun i => funext fun x => hk i x
  obtain rfl := funext fun i => funext fun x => hv i x
  obtain rfl := funext fun i => funext fun x => hb i x
  obtain rfl := funext fun i => funext fun x => ho i x
  obtain rfl := funext fun i => funext fun x => hd' i x
  obtain rfl := funext fun x => hg x
  obtain rfl := hn'
  rfl

set_option maxHeartbeats 2000000 in
theorem hd_eq (p : Fin 4) (e : Fin 2) :
    hd e ((i0 t) 2).val (ldQ m c t p) (ldK m c t p) (ldV m c t p) (ldB m c t (hn p e)) (ldO m c t p) (ldD m c t p) (ldG m c t p) = HD m c t p e := by
  unfold HD
  refine hd_of e _ _ _ _ _ _ _ _ _ (fun i x => ?_) (fun w x => ?_) (fun w x => ?_) (fun i w => ?_) (fun i x => ?_) (fun i x => ?_) (fun x => ?_) ?_
  · exact ldQ_ix m c t p i _
  · exact ldK_ix m c t p w _
  · exact ldV_ix m c t p w _
  · exact ldB_ix m c t _ i w
  · exact ldO_ix m c t p i _
  · exact ldD_ix m c t p i _
  · exact ldG_ix m c t p _
  · dsimp only

theorem dqAt_ix (p : Fin 4) (e : Fin 2) (a : Fin 128) (x : Fin 64) : dqAt m c t p (ix3 0 a (lane e x)) = (HD m c t p e).dq a x := by
  rw [← hd_eq]
  fin_cases e
  · exact dqT_lo _ _ _ _ _ _ _ _ _ a x
  · exact dqT_hi _ _ _ _ _ _ _ _ _ a x

theorem dkAt_ix (p : Fin 4) (acc : Vec Ideal S640x128 .f32) (e : Fin 2) (w : Fin 640) (x : Fin 64) :
    dkAt m c t p acc (ix2 w (lane e x)) = acc (ix2 w (lane e x)) + (HD m c t p e).dk w x := by
  rw [← hd_eq]
  fin_cases e
  · exact dkT_lo _ _ _ _ _ _ _ _ _ _ w x
  · exact dkT_hi _ _ _ _ _ _ _ _ _ _ w x

theorem dvAt_ix (p : Fin 4) (acc : Vec Ideal S640x128 .f32) (e : Fin 2) (w : Fin 640) (x : Fin 64) :
    dvAt m c t p acc (ix2 w (lane e x)) = acc (ix2 w (lane e x)) + (HD m c t p e).dv w x := by
  rw [← hd_eq]
  fin_cases e
  · exact dvT_lo _ _ (ldV m c t p) _ _ _ _ _ _ _ w x
  · exact dvT_hi _ _ (ldV m c t p) _ _ _ _ _ _ _ w x

/-- The point's part of an accumulator's element: the window's row of the tile, nothing outside the window. -/
def part (T : Fin 640 → Fin 64 → EReal) (u : Fin 4608) (x : Fin 64) : EReal :=
  if h : inWin t u then T ⟨u.val - 128 * ((i0 t) 2).val, by unfold inWin at h; omega⟩ x else 0

theorem four_part (V : View sig .tc .vmem S4608x512 .f32) (f : V.ty.Contents (Elt Ideal)) (w : Fin 4 → Vec Ideal S640x128 .f32 → Vec Ideal S640x128 .f32)
    (T : Fin 4 → Fin 2 → Fin 640 → Fin 64 → EReal)
    (hw : ∀ p acc e r x, w p acc (ix2 r (lane e x)) = acc (ix2 r (lane e x)) + T p e r x)
    (L : List (View.Piece (Elt Ideal) S4608x512 .f32)) (p : Fin 4) (e : Fin 2) (u : Fin 4608) (x : Fin 64) :
    V.read (Elt Ideal) (V.writes (Elt Ideal) f (fourPieces t (fun p => w p (accLd t V (V.writes (Elt Ideal) f L) p)) L)) (ix2 u (col p (lane e x)))
      = V.read (Elt Ideal) (V.writes (Elt Ideal) f L) (ix2 u (col p (lane e x))) + part t (T p e) u x := by
  unfold part
  by_cases h : inWin t u
  · rw [dif_pos h]
    have h' := h
    unfold inWin at h'
    obtain ⟨r, rfl⟩ : ∃ r : Fin 640, u = arow t r := ⟨⟨u.val - 128 * ((i0 t) 2).val, by omega⟩, Fin.ext (by show u.val = 128 * ((i0 t) 2).val + (u.val - 128 * ((i0 t) 2).val); omega)⟩
    refine (four_in t V f _ _ p r (lane e x)).trans ((hw p _ e r x).trans ?_)
    refine congrArg₂ (· + ·) rfl (congrArg (fun r => T p e r x) (Fin.ext ?_))
    show r.val = 128 * ((i0 t) 2).val + r.val - 128 * ((i0 t) 2).val
    omega
  · rw [dif_neg h, add_zero]
    exact four_out t V f _ _ p u h (lane e x)

theorem zero_read (V : View sig .tc .vmem S4608x512 .f32) (f : V.ty.Contents (Elt Ideal)) (j : S4608x512.Idx) :
    V.read (Elt Ideal) (V.writes (Elt Ideal) f zero0) j = 0 := by
  refine (View.read_writes_cons_unit_of_mem V f _ _ _ j j rfl fun a => ?_).trans ?_
  · fin_cases a <;> exact (Nat.zero_add _).symm
  · exact Ideal.ofBits_zero_f32

/-! ## The queries' gradient -/

theorem st_q (p : Fin 4) (e : Fin 2) (a : Fin 128) (x : Fin 64) :
    (outs m c t.val t.isLt).1 (ix3 0 a (col p (lane e x))) = (HD m c t p e).dq a x := by
  have hN : t.val < 64 := lt_of_lt_of_eq t.isLt N_0
  rw [← dqAt_ix]
  have key : (outs m c t.val t.isLt).1 = VO0_7.read (Elt Ideal) (VO0_7.writes (Elt Ideal) VO0_7.junk (qPieces m c t)) := by
    by_cases h0 : t.val % 32 = 0
    · by_cases h1 : t.val % 64 = 0
      · exact (congrArg (fun s : St Ideal => s.1) (outs_A m c t h0 h1 (by omega))).trans (stA_q m c t h0 h1 _)
      · exact (congrArg (fun s : St Ideal => s.1) (outs_D m c t h0 h1 (by omega))).trans (stD_q m c t _ h0 h1 _)
    · by_cases h2 : t.val % 32 = 31
      · exact (congrArg (fun s : St Ideal => s.1) (outs_C m c t h0 (by omega) h2)).trans (stC_q m c t _ h0 _ h2)
      · exact (congrArg (fun s : St Ideal => s.1) (outs_B m c t h0 (by omega) h2)).trans (stB_q m c t _ h0 _ h2)
  rw [key]
  exact q_read m c t VO0_7 VO0_7.junk p a _

/-! ## The accumulators -/

abbrev acc0 (n : ℕ) (hn : n < cfg0.N) : Vec Ideal S4608x512 .f32 := (outs m c n hn).2.2.2.2.2.1
abbrev acc1 (n : ℕ) (hn : n < cfg0.N) : Vec Ideal S4608x512 .f32 := (outs m c n hn).2.2.2.2.2.2

theorem acc0_first (h0 : t.val % 32 = 0) (p : Fin 4) (e : Fin 2) (u : Fin 4608) (x : Fin 64) :
    acc0 m c t.val t.isLt (ix2 u (col p (lane e x))) = part t (HD m c t p e).dk u x := by
  have hN : t.val < 64 := lt_of_lt_of_eq t.isLt N_0
  have key : VS0_0.read (Elt Ideal) (VS0_0.writes (Elt Ideal) VS0_0.junk (zPieces t VS0_0 VS0_0.junk (dkAt m c t) zero0)) (ix2 u (col p (lane e x)))
      = part t (HD m c t p e).dk u x := by
    rw [z_eq, four_part t VS0_0 VS0_0.junk (dkAt m c t) (fun p e => (HD m c t p e).dk) (fun p acc e r x => dkAt_ix m c t p acc e r x)]
    refine (congrArg (· + _) (zero_read VS0_0 VS0_0.junk _)).trans (zero_add _)
  rw [← key]
  by_cases h1 : t.val % 64 = 0
  · exact congrFun ((congrArg (fun s : St Ideal => s.2.2.2.2.2.1) (outs_A m c t h0 h1 (by omega))).trans (stA_k m c t h0 h1 _)) _
  · exact congrFun ((congrArg (fun s : St Ideal => s.2.2.2.2.2.1) (outs_D m c t h0 h1 (by omega))).trans (stD_k m c t _ h0 h1 _)) _

theorem acc1_first (h0 : t.val % 32 = 0) (p : Fin 4) (e : Fin 2) (u : Fin 4608) (x : Fin 64) :
    acc1 m c t.val t.isLt (ix2 u (col p (lane e x))) = part t (HD m c t p e).dv u x := by
  have hN : t.val < 64 := lt_of_lt_of_eq t.isLt N_0
  have key : VS0_1.read (Elt Ideal) (VS0_1.writes (Elt Ideal) VS0_1.junk (zPieces t VS0_1 VS0_1.junk (dvAt m c t) zero1)) (ix2 u (col p (lane e x)))
      = part t (HD m c t p e).dv u x := by
    rw [z_eq, four_part t VS0_1 VS0_1.junk (dvAt m c t) (fun p e => (HD m c t p e).dv) (fun p acc e r x => dvAt_ix m c t p acc e r x)]
    refine (congrArg (· + _) (zero_read VS0_1 VS0_1.junk _)).trans (zero_add _)
  rw [← key]
  by_cases h1 : t.val % 64 = 0
  · exact congrFun ((congrArg (fun s : St Ideal => s.2.2.2.2.2.2) (outs_A m c t h0 h1 (by omega))).trans (stA_v m c t h0 h1 _)) _
  · exact congrFun ((congrArg (fun s : St Ideal => s.2.2.2.2.2.2) (outs_D m c t h0 h1 (by omega))).trans (stD_v m c t _ h0 h1 _)) _

theorem add_read (M : Memref sig .tc .vmem S4608x512 .f32) (hM : M.IsWhole) (X : Vec Ideal S4608x512 .f32)
    (w : Fin 4 → Vec Ideal S640x128 .f32 → Vec Ideal S640x128 .f32) (T : Fin 4 → Fin 2 → Fin 640 → Fin 64 → EReal)
    (hw : ∀ p acc e r x, w p acc (ix2 r (lane e x)) = acc (ix2 r (lane e x)) + T p e r x) (p : Fin 4) (e : Fin 2) (u : Fin 4608) (x : Fin 64) :
    M.view.read (Elt Ideal) (M.view.writes (Elt Ideal) (hM.unread X) (aPieces t M.view (hM.unread X) w)) (ix2 u (col p (lane e x)))
      = X (ix2 u (col p (lane e x))) + part t (T p e) u x := by
  have e1 : aPieces t M.view (hM.unread X) w = fourPieces t (fun p => w p (accLd t M.view (M.view.writes (Elt Ideal) (hM.unread X) []) p)) [] := by
    unfold aPieces
    simp only [a_ld]
    rfl
  rw [e1, four_part t M.view (hM.unread X) w T hw]
  refine congrArg (· + _) ?_
  exact congrFun (hM.read_unread X) _

abbrev prev (n : ℕ) (hn : n < cfg0.N) : n - 1 < cfg0.N := Nat.lt_of_le_of_lt (Nat.sub_le _ _) hn

theorem acc0_next (h0 : ¬t.val % 32 = 0) (p : Fin 4) (e : Fin 2) (u : Fin 4608) (x : Fin 64) :
    acc0 m c t.val t.isLt (ix2 u (col p (lane e x)))
      = acc0 m c (t.val - 1) (prev _ t.isLt) (ix2 u (col p (lane e x))) + part t (HD m c t p e).dk u x := by
  rw [← add_read t scM0_0 (Memref.isWhole_whole _) (acc0 m c (t.val - 1) (prev _ t.isLt)) (dkAt m c t) (fun p e => (HD m c t p e).dk)
    (fun p acc e r x => dkAt_ix m c t p acc e r x) p e u x]
  by_cases h2 : t.val % 32 = 31
  · exact congrFun ((congrArg (fun s : St Ideal => s.2.2.2.2.2.1) (outs_C m c t h0 (by omega) h2)).trans (stC_k m c t _ h0 _ h2)) _
  · exact congrFun ((congrArg (fun s : St Ideal => s.2.2.2.2.2.1) (outs_B m c t h0 (by omega) h2)).trans (stB_k m c t _ h0 _ h2)) _

theorem acc1_next (h0 : ¬t.val % 32 = 0) (p : Fin 4) (e : Fin 2) (u : Fin 4608) (x : Fin 64) :
    acc1 m c t.val t.isLt (ix2 u (col p (lane e x)))
      = acc1 m c (t.val - 1) (prev _ t.isLt) (ix2 u (col p (lane e x))) + part t (HD m c t p e).dv u x := by
  rw [← add_read t scM0_1 (Memref.isWhole_whole _) (acc1 m c (t.val - 1) (prev _ t.isLt)) (dvAt m c t) (fun p e => (HD m c t p e).dv)
    (fun p acc e r x => dvAt_ix m c t p acc e r x) p e u x]
  by_cases h2 : t.val % 32 = 31
  · exact congrFun ((congrArg (fun s : St Ideal => s.2.2.2.2.2.2) (outs_C m c t h0 (by omega) h2)).trans (stC_v m c t _ h0 _ h2)) _
  · exact congrFun ((congrArg (fun s : St Ideal => s.2.2.2.2.2.2) (outs_B m c t h0 (by omega) h2)).trans (stB_v m c t _ h0 _ h2)) _

/-- Row `512 + s` of the accumulators: the padding's rows come first. -/
abbrev srow (s : Fin 4096) : Fin 4608 := ⟨512 + s.val, by have := s.isLt; omega⟩

theorem out_read (V : View sig .tc .vmem S1x4096x512 .bf16) (f : V.ty.Contents (Elt Ideal)) (w : Vec Ideal S1x4096x512 .bf16) :
    V.read (Elt Ideal) (V.writes (Elt Ideal) f [⟨rOut, w⟩]) = w := by
  funext j
  refine View.read_writes_cons_unit_of_mem V f _ _ _ j j rfl fun a => ?_
  fin_cases a <;> exact (Nat.zero_add _).symm

theorem pay3_ix (X : Vec Ideal S4096x512 .f32) (s : Fin 4096) (j : Fin 512) : k0_pay3 (F := Ideal) X (ix3 0 s j) = X (ix2 s j) := by
  pointwise [k0_pay3]
theorem pay4_ix (X : Vec Ideal S4096x512 .f32) (s : Fin 4096) (j : Fin 512) : k0_pay4 (F := Ideal) X (ix3 0 s j) = X (ix2 s j) := by
  pointwise [k0_pay4]

theorem acc_rows (V : View sig .tc .vmem S4608x512 .f32) (f : V.ty.Contents (Elt Ideal)) (s : Fin 4096) (j : Fin 512) :
    View.readAt (Elt Ideal) V rAcc.toLoadRect f (ix2 s j) = V.read (Elt Ideal) f (ix2 (srow s) j) := by
  refine congrArg (V.read (Elt Ideal) f) (funext fun a => Fin.ext ?_)
  fin_cases a
  · show 512 + 1 * s.val = 512 + s.val; omega
  · show 0 + 1 * j.val = j.val; omega

theorem last_k (h2 : t.val % 32 = 31) (s : Fin 4096) (j : Fin 512) :
    (outs m c t.val t.isLt).2.1 (ix3 0 s j) = acc0 m c t.val t.isLt (ix2 (srow s) j) := by
  have h0 : ¬t.val % 32 = 0 := by omega
  have h1 : ¬t.val % 64 = 0 := by omega
  have e1 := (congrArg (fun s' : St Ideal => s'.2.1) (outs_C m c t h0 h1 h2)).trans (stC_dk m c t _ h0 h1 h2)
  have e2 := (congrArg (fun s' : St Ideal => s'.2.2.2.2.2.1) (outs_C m c t h0 h1 h2)).trans (stC_k m c t _ h0 h1 h2)
  refine (congrFun e1 _).trans (Eq.trans ?_ (congrFun e2 _).symm)
  exact (congrFun (out_read VO0_8 VO0_8.junk _) _).trans ((pay3_ix _ s j).trans (acc_rows VS0_0 _ s j))

theorem last_v (h2 : t.val % 32 = 31) (s : Fin 4096) (j : Fin 512) :
    (outs m c t.val t.isLt).2.2.1 (ix3 0 s j) = acc1 m c t.val t.isLt (ix2 (srow s) j) := by
  have h0 : ¬t.val % 32 = 0 := by omega
  have h1 : ¬t.val % 64 = 0 := by omega
  have e1 := (congrArg (fun s' : St Ideal => s'.2.2.1) (outs_C m c t h0 h1 h2)).trans (stC_dv m c t _ h0 h1 h2)
  have e2 := (congrArg (fun s' : St Ideal => s'.2.2.2.2.2.2) (outs_C m c t h0 h1 h2)).trans (stC_v m c t _ h0 h1 h2)
  refine (congrFun e1 _).trans (Eq.trans ?_ (congrFun e2 _).symm)
  exact (congrFun (out_read VO0_9 VO0_9.junk _) _).trans ((pay4_ix _ s j).trans (acc_rows VS0_1 _ s j))

end Point

/-! ## After a batch -/

abbrev pt (b : Fin 2) (n : Fin 32) : Fin cfg0.N := ⟨32 * b.val + n.val, lt_of_lt_of_eq (show 32 * b.val + n.val < 64 by omega) N_0.symm⟩

theorem acc0_sum (b : Fin 2) (p : Fin 4) (e : Fin 2) (u : Fin 4608) (x : Fin 64) : ∀ n (hn : n < 32),
    acc0 m c (pt b ⟨n, hn⟩).val (pt b ⟨n, hn⟩).isLt (ix2 u (col p (lane e x)))
      = ∑ n' : Fin (n + 1), part (pt b ⟨n'.val, by omega⟩) (HD m c (pt b ⟨n'.val, by omega⟩) p e).dk u x
  | 0, hn => by
    rw [acc0_first m c (pt b ⟨0, hn⟩) (show (32 * b.val + 0) % 32 = 0 by omega)]
    rw [Fin.sum_univ_one]
    rfl
  | n + 1, hn => by
    rw [Fin.sum_univ_castSucc, acc0_next m c (pt b ⟨n + 1, hn⟩) (show ¬(32 * b.val + (n + 1)) % 32 = 0 by omega)]
    exact congrArg (· + _) (acc0_sum b p e u x n (by omega))

theorem acc1_sum (b : Fin 2) (p : Fin 4) (e : Fin 2) (u : Fin 4608) (x : Fin 64) : ∀ n (hn : n < 32),
    acc1 m c (pt b ⟨n, hn⟩).val (pt b ⟨n, hn⟩).isLt (ix2 u (col p (lane e x)))
      = ∑ n' : Fin (n + 1), part (pt b ⟨n'.val, by omega⟩) (HD m c (pt b ⟨n'.val, by omega⟩) p e).dv u x
  | 0, hn => by
    rw [acc1_first m c (pt b ⟨0, hn⟩) (show (32 * b.val + 0) % 32 = 0 by omega)]
    rw [Fin.sum_univ_one]
    rfl
  | n + 1, hn => by
    rw [Fin.sum_univ_castSucc, acc1_next m c (pt b ⟨n + 1, hn⟩) (show ¬(32 * b.val + (n + 1)) % 32 = 0 by omega)]
    exact congrArg (· + _) (acc1_sum b p e u x n (by omega))

/-! ## The arrays -/

theorem G7_ix (b : Fin 2) (n : Fin 32) (a : Fin 128) (p : Fin 4) (e : Fin 2) (x : Fin 64) :
    G7 m c (ix3 b ⟨128 * n.val + a.val, by omega⟩ (col p (lane e x))) = (HD m c (pt b n) p e).dq a x := by
  rw [← st_q]
  unfold G7
  have e1 : pt7 (ix3 b ⟨128 * n.val + a.val, by omega⟩ (col p (lane e x))) = (pt b n).val := by
    show 32 * b.val + (128 * n.val + a.val) / 128 = 32 * b.val + n.val
    omega
  have e2 : loc7 (ix3 b ⟨128 * n.val + a.val, by omega⟩ (col p (lane e x))) = ix3 0 a (col p (lane e x)) := by
    funext i
    apply Fin.ext
    fin_cases i
    · rfl
    · show (128 * n.val + a.val) % 128 = a.val; omega
    · rfl
  rw [e2, outs_congr m c _ (pt b n).isLt e1]

theorem G8_ix (b : Fin 2) (s : Fin 4096) (p : Fin 4) (e : Fin 2) (x : Fin 64) :
    G8 m c (ix3 b s (col p (lane e x))) = ∑ n : Fin 32, part (pt b n) (HD m c (pt b n) p e).dk (srow s) x := by
  rw [show (∑ n : Fin 32, part (pt b n) (HD m c (pt b n) p e).dk (srow s) x)
    = ∑ n' : Fin (31 + 1), part (pt b ⟨n'.val, by omega⟩) (HD m c (pt b ⟨n'.val, by omega⟩) p e).dk (srow s) x from rfl,
    ← acc0_sum m c b p e (srow s) x 31 (by omega), ← last_k m c (pt b ⟨31, by omega⟩) (show (32 * b.val + 31) % 32 = 31 by omega)]
  unfold G8
  have e2 : loc8 (ix3 b s (col p (lane e x))) = ix3 0 s (col p (lane e x)) := by
    funext i
    apply Fin.ext
    fin_cases i
    · rfl
    · show s.val % 4096 = s.val; omega
    · rfl
  have e1 : pt8 (ix3 b s (col p (lane e x))) = (pt b ⟨31, by omega⟩).val := by
    show 32 * b.val + 31 = 32 * b.val + 31
    rfl
  rw [e2, outs_congr m c _ (pt b ⟨31, by omega⟩).isLt e1]

theorem G9_ix (b : Fin 2) (s : Fin 4096) (p : Fin 4) (e : Fin 2) (x : Fin 64) :
    G9 m c (ix3 b s (col p (lane e x))) = ∑ n : Fin 32, part (pt b n) (HD m c (pt b n) p e).dv (srow s) x := by
  rw [show (∑ n : Fin 32, part (pt b n) (HD m c (pt b n) p e).dv (srow s) x)
    = ∑ n' : Fin (31 + 1), part (pt b ⟨n'.val, by omega⟩) (HD m c (pt b ⟨n'.val, by omega⟩) p e).dv (srow s) x from rfl,
    ← acc1_sum m c b p e (srow s) x 31 (by omega), ← last_v m c (pt b ⟨31, by omega⟩) (show (32 * b.val + 31) % 32 = 31 by omega)]
  unfold G9
  have e2 : loc9 (ix3 b s (col p (lane e x))) = ix3 0 s (col p (lane e x)) := by
    funext i
    apply Fin.ext
    fin_cases i
    · rfl
    · show s.val % 4096 = s.val; omega
    · rfl
  have e1 : pt9 (ix3 b s (col p (lane e x))) = (pt b ⟨31, by omega⟩).val := by
    show 32 * b.val + 31 = 32 * b.val + 31
    rfl
  rw [e2, outs_congr m c _ (pt b ⟨31, by omega⟩).isLt e1]

end Cert.Value

end
-- ==== Proof.Value.Host.lean ====
/- The kernel's blocks at an index: each tile of the launch holds its part of the model's head. -/
module

public import proofs.«01_k».proof.Proof.Value.HostRun
public import proofs.«01_k».proof.Proof.Value.RefVal
public import proofs.«01_k».proof.Proof.Value.Points
public import Idealize.ShloMosaic.Lib.StableHlo.Predicate

@[expose] public section

set_option maxRecDepth 16384

noncomputable section

namespace Cert.Value

open Cert.KernelIdeal Cert.KernelIdeal.Gen Cert.KernelIdeal.Bwd Cert.KernelIdeal.Own
open Idealize.ShloMosaic Idealize.ShloMosaic.TcCoe Idealize.ShloMosaic.StableHlo

section Terms
variable (K : Valuation τ sig (Elt Ideal))

/-- The padded projections hold row `s` at row `s + 512`. -/
theorem h49_ix (b : Fin 2) (s : Fin 4096) (u : Fin 4608) (hu : u.val = s.val + 512) (j : Fin 3072) :
    h49 K (ix3 b u j) = K (Proc.devRef .tc main_arg0) (ix3 b s j) := by
  unfold h49
  rw [pad_apply, dif_pos]
  · refine congrArg (K (Proc.devRef .tc main_arg0)) (funext fun a => Fin.ext ?_)
    match a with
    | ⟨0, _⟩ => show (b.val - 0) / (0 + 1) = b.val; omega
    | ⟨1, _⟩ => show (u.val - 512) / (0 + 1) = s.val; omega
    | ⟨2, _⟩ => show (j.val - 0) / (0 + 1) = j.val; omega
  · intro a
    match a with
    | ⟨0, _⟩ => show 0 ≤ b.val ∧ (b.val - 0) % (0 + 1) = 0 ∧ (b.val - 0) / (0 + 1) < 2; omega
    | ⟨1, _⟩ => show 512 ≤ u.val ∧ (u.val - 512) % (0 + 1) = 0 ∧ (u.val - 512) / (0 + 1) < 4096; omega
    | ⟨2, _⟩ => show 0 ≤ j.val ∧ (j.val - 0) % (0 + 1) = 0 ∧ (j.val - 0) / (0 + 1) < 3072; omega

theorem h107_ix (j : Fin 512) : h107 K (ix2 0 j) = K (Proc.devRef .tc main_arg2) (ix1 j) := by
  pointwise [h107]

theorem h106_ix (b : Fin 2) (t : Fin 4096) (e : Fin 8) (x : Fin 64) : h106 K (ix3 b t (hcol e x)) = h48 K (ix4 b t e x) := by
  pointwise [h106]
  rw [hcol_div, hcol_mod]

theorem h91_ix (i : Fin 128) : h91 (ix2 i 0) = BitVec.ofNat 32 (64 * (i.val / 64)) := by
  pointwise [h91, h89, h88]
  revert i; decide +kernel

theorem band_word : ∀ (a : Fin 2) (w : Fin 640), IntOp.andi (IntOp.cmpi CmpIPredicate.sge (BitVec.ofNat 32 w.val) (BitVec.ofNat 32 (64 * a.val)))
      (IntOp.cmpi CmpIPredicate.slt (BitVec.ofNat 32 w.val) (IntOp.addi (IntOp.addi (BitVec.ofNat 32 (64 * a.val)) 512#32) 64#32)) =
    if 64 * a.val ≤ w.val ∧ w.val < 64 * a.val + 576 then 1#1 else 0#1 := by
  decide +kernel

theorem h104_ix (i : Fin 128) (w : Fin 640) : h104 (ix2 i w) = if 64 * (i.val / 64) ≤ w.val ∧ w.val < 64 * (i.val / 64) + 576 then 1#1 else 0#1 := by
  pointwise [h104]
  rw [h91_ix]
  exact band_word ⟨i.val / 64, by omega⟩ w

theorem h71_ix (j : Fin 768) : h71 (ix1 j) = BitVec.ofNat 32 (if j.val < 640 then min (640 - j.val) 256 else 256) := by
  pointwise [h71, h66]
  revert j; decide +kernel

theorem mul_hot_zero (a : EReal) : a * FloatOps.uitofp (F := Ideal) .f32 (0#1 : BitVec 1) = 0 :=
  (congrArg (a * ·) (show (((0#1 : BitVec 1).toNat : ℝ) : EReal) = 0 by simp)).trans (mul_zero a)
theorem mul_hot_one (a : EReal) : a * FloatOps.uitofp (F := Ideal) .f32 (1#1 : BitVec 1) = a :=
  (congrArg (a * ·) (show (((1#1 : BitVec 1).toNat : ℝ) : EReal) = 1 by simp)).trans (mul_one a)

/-- The one-hot product takes the table's entry: the product with a row of zeros and a one. -/
theorem h80_ix (e : Fin 8) (j : Fin 768) (k : Fin 257) (hk : k.val = if j.val < 640 then min (640 - j.val) 256 else 256) :
    h80 K (ix2 e j) = K (Proc.devRef .tc main_arg1) (ix2 e k) := by
  pointwise [h80, h79]
  rw [h71_ix, ← hk]
  refine (Finset.sum_eq_single (M := EReal) k (fun x _ hx => ?_) (fun h => absurd (Finset.mem_univ _) h)).trans ?_
  · rw [show IntOp.cmpi CmpIPredicate.eq (BitVec.ofNat 32 k.val) (BitVec.ofNat 32 x.val) = 0#1 from ?_]
    · exact mul_hot_zero _
    · have hne : BitVec.ofNat 32 k.val ≠ BitVec.ofNat 32 x.val := by
        intro h
        have h' := congrArg BitVec.toNat h
        simp only [BitVec.toNat_ofNat] at h'
        exact hx (Fin.ext (by omega))
      have h' := (StableHlo.Predicate.cmpi_eq_iff (a := BitVec.ofNat 32 k.val) (b := BitVec.ofNat 32 x.val)).not.mpr hne
      generalize IntOp.cmpi CmpIPredicate.eq (BitVec.ofNat 32 k.val) (BitVec.ofNat 32 x.val) = y at h'
      revert h'; revert y; decide
  · rw [show IntOp.cmpi CmpIPredicate.eq (BitVec.ofNat 32 k.val) (BitVec.ofNat 32 k.val) = 1#1 from StableHlo.Predicate.cmpi_eq_iff.mpr rfl]
    exact mul_hot_one _

theorem h86_ix (e : Fin 8) (i : Fin 128) (w : Fin 640) (k : Fin 257) (hk : k.val = min (640 + i.val - w.val) 256) :
    h86 K (ix3 e i w) = K (Proc.devRef .tc main_arg1) (ix2 e k) := by
  pointwise [h86]
  refine h80_ix K e _ k ?_
  show k.val = if (i.val * 767 + w.val) % 768 < 640 then min (640 - (i.val * 767 + w.val) % 768) 256 else 256
  by_cases h : i.val ≤ w.val
  · rw [show (i.val * 767 + w.val) % 768 = w.val - i.val by omega, if_pos (by omega)]; omega
  · rw [show (i.val * 767 + w.val) % 768 = 768 + w.val - i.val by omega, if_neg (by omega)]; omega

theorem h105_ix (e : Fin 8) (i : Fin 128) (w : Fin 640) (n : Fin 32) (s : Fin 4096) (h : w.val + 128 * n.val = s.val + 512) :
    h105 K (ix3 e i w) = if sees (qrow n i) s then K (Proc.devRef .tc main_arg1) (ix2 e (offset (qrow n i) s)) else (⊥ : EReal) := by
  pointwise [h105]
  rw [h104_ix, h86_ix K e i w (offset (qrow n i) s) (by show min (128 * n.val + i.val + 128 - s.val) 256 = _; omega)]
  have hs : sees (qrow n i) s ↔ 64 * (i.val / 64) ≤ w.val ∧ w.val < 64 * (i.val / 64) + 576 := by
    show s.val / 64 ≤ (128 * n.val + i.val) / 64 ∧ (128 * n.val + i.val) / 64 ≤ s.val / 64 + 8 ↔ _
    omega
  by_cases hb : sees (qrow n i) s
  · rw [if_pos hb, if_pos (hs.mp hb)]; rfl
  · rw [if_neg hb, if_neg fun h => hb (hs.mpr h)]
    pointwise
    exact neg_inf

end Terms

/-! ## The blocks -/

section Blocks
variable (m : (ℓ : Loc nD τ sig) → Buf (Elt Ideal) ℓ) (c : Dev nD)

/-- The device's memory at the launch. -/
abbrev mem0 : Valuation τ sig (Elt Ideal) := fun b => m (c, b)

theorem index0 : ∀ t : Fin cfg0.N, win0_0.index t (0 : Fin 3) = t.val / 32 ∧ win0_0.index t (1 : Fin 3) = t.val % 32 + 4
    ∧ win0_0.index t (2 : Fin 3) = 3 := (by decide +kernel : ∀ t : Fin grid0.N, _)
theorem index1 : ∀ t : Fin cfg0.N, win0_1.index t (0 : Fin 3) = t.val / 32 ∧ win0_1.index t (1 : Fin 3) = 0
    ∧ win0_1.index t (2 : Fin 3) = 4 := (by decide +kernel : ∀ t : Fin grid0.N, _)
theorem index2 : ∀ t : Fin cfg0.N, win0_2.index t (0 : Fin 3) = t.val / 32 ∧ win0_2.index t (1 : Fin 3) = 0
    ∧ win0_2.index t (2 : Fin 3) = 5 := (by decide +kernel : ∀ t : Fin grid0.N, _)
theorem index3 : ∀ t : Fin cfg0.N, win0_3.index t (0 : Fin 3) = 0 ∧ win0_3.index t (1 : Fin 3) = 0
    ∧ win0_3.index t (2 : Fin 3) = 0 := (by decide +kernel : ∀ t : Fin grid0.N, _)
theorem index4 : ∀ t : Fin cfg0.N, win0_4.index t (0 : Fin 3) = t.val / 32 ∧ win0_4.index t (1 : Fin 3) = t.val % 32
    ∧ win0_4.index t (2 : Fin 3) = 0 := (by decide +kernel : ∀ t : Fin grid0.N, _)
theorem index5 : ∀ t : Fin cfg0.N, win0_5.index t (0 : Fin 3) = t.val / 32 ∧ win0_5.index t (1 : Fin 3) = t.val % 32
    ∧ win0_5.index t (2 : Fin 3) = 1 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem coord2 : ∀ t : Fin cfg0.N, ((grid0.coords t) 2).val = t.val % 32 := (by decide +kernel : ∀ t : Fin grid0.N, _)

theorem blk0_ix (b : Fin 2) (n : Fin 32) (i : Fin 128) (j : Fin 512) :
    (iblk m c 0 (pt b n) : Vec Ideal S1x128x512 .bf16) (ix3 0 i j)
      = mem0 m c (Proc.devRef .tc main_arg0) (ix3 b (qrow n i) ⟨1536 + j.val, by omega⟩) := by
  obtain ⟨e0, e1, e2⟩ := index0 (pt b n)
  refine Eq.trans ?_ (h49_ix (mem0 m c) b (qrow n i) ⟨512 + (128 * n.val + i.val), by omega⟩ (by show 512 + (128 * n.val + i.val) = 128 * n.val + i.val + 512; omega) _)
  rw [← V_v49 m c]
  show Gen.V m c main_v49 (((cfg0.win 0).blk (pt b n)).view.emb (ix3 0 i j)) = _
  refine congrArg (Gen.V m c main_v49) (funext fun a => Fin.ext ?_)
  match a with
  | ⟨0, _⟩ => show win0_0.index (pt b n) (0 : Fin 3) * 1 + 1 * 0 = b.val; rw [e0]; show (32 * b.val + n.val) / 32 * 1 + 1 * 0 = b.val; omega
  | ⟨1, _⟩ => show win0_0.index (pt b n) (1 : Fin 3) * 128 + 1 * i.val = 512 + (128 * n.val + i.val); rw [e1]; show ((32 * b.val + n.val) % 32 + 4) * 128 + 1 * i.val = _; omega
  | ⟨2, _⟩ => show win0_0.index (pt b n) (2 : Fin 3) * 512 + 1 * j.val = 1536 + j.val; rw [e2]; omega

theorem blk1_ix (b : Fin 2) (n : Fin 32) (s : Fin 4096) (u : Fin 4608) (hu : u.val = s.val + 512) (j : Fin 512) :
    (iblk m c 1 (pt b n) : Vec Ideal S1x4608x512 .bf16) (ix3 0 u j)
      = mem0 m c (Proc.devRef .tc main_arg0) (ix3 b s ⟨2048 + j.val, by omega⟩) := by
  obtain ⟨e0, e1, e2⟩ := index1 (pt b n)
  refine Eq.trans ?_ (h49_ix (mem0 m c) b s u hu _)
  rw [← V_v49 m c]
  show Gen.V m c main_v49 (((cfg0.win 1).blk (pt b n)).view.emb (ix3 0 u j)) = _
  refine congrArg (Gen.V m c main_v49) (funext fun a => Fin.ext ?_)
  match a with
  | ⟨0, _⟩ => show win0_1.index (pt b n) (0 : Fin 3) * 1 + 1 * 0 = b.val; rw [e0]; show (32 * b.val + n.val) / 32 * 1 + 1 * 0 = b.val; omega
  | ⟨1, _⟩ => show win0_1.index (pt b n) (1 : Fin 3) * 4608 + 1 * u.val = u.val; rw [e1]; omega
  | ⟨2, _⟩ => show win0_1.index (pt b n) (2 : Fin 3) * 512 + 1 * j.val = 2048 + j.val; rw [e2]; omega

theorem blk2_ix (b : Fin 2) (n : Fin 32) (s : Fin 4096) (u : Fin 4608) (hu : u.val = s.val + 512) (j : Fin 512) :
    (iblk m c 2 (pt b n) : Vec Ideal S1x4608x512 .bf16) (ix3 0 u j)
      = mem0 m c (Proc.devRef .tc main_arg0) (ix3 b s ⟨2560 + j.val, by omega⟩) := by
  obtain ⟨e0, e1, e2⟩ := index2 (pt b n)
  refine Eq.trans ?_ (h49_ix (mem0 m c) b s u hu _)
  rw [← V_v49 m c]
  show Gen.V m c main_v49 (((cfg0.win 2).blk (pt b n)).view.emb (ix3 0 u j)) = _
  refine congrArg (Gen.V m c main_v49) (funext fun a => Fin.ext ?_)
  match a with
  | ⟨0, _⟩ => show win0_2.index (pt b n) (0 : Fin 3) * 1 + 1 * 0 = b.val; rw [e0]; show (32 * b.val + n.val) / 32 * 1 + 1 * 0 = b.val; omega
  | ⟨1, _⟩ => show win0_2.index (pt b n) (1 : Fin 3) * 4608 + 1 * u.val = u.val; rw [e1]; omega
  | ⟨2, _⟩ => show win0_2.index (pt b n) (2 : Fin 3) * 512 + 1 * j.val = 2560 + j.val; rw [e2]; omega

theorem blk3_ix (b : Fin 2) (n : Fin 32) (h : Fin 8) (i : Fin 128) (w : Fin 640) :
    (iblk m c 3 (pt b n) : Vec Ideal S8x128x640 .f32) (ix3 h i w) = h105 (mem0 m c) (ix3 h i w) := by
  obtain ⟨e0, e1, e2⟩ := index3 (pt b n)
  rw [← V_v105 m c]
  show Gen.V m c main_v105 (((cfg0.win 3).blk (pt b n)).view.emb (ix3 h i w)) = _
  refine congrArg (Gen.V m c main_v105) (funext fun a => Fin.ext ?_)
  match a with
  | ⟨0, _⟩ => show win0_3.index (pt b n) (0 : Fin 3) * 8 + 1 * h.val = h.val; rw [e0]; omega
  | ⟨1, _⟩ => show win0_3.index (pt b n) (1 : Fin 3) * 128 + 1 * i.val = i.val; rw [e1]; omega
  | ⟨2, _⟩ => show win0_3.index (pt b n) (2 : Fin 3) * 640 + 1 * w.val = w.val; rw [e2]; omega

theorem blk4_ix (b : Fin 2) (n : Fin 32) (i : Fin 128) (j : Fin 512) :
    (iblk m c 4 (pt b n) : Vec Ideal S1x128x512 .f32) (ix3 0 i j) = h106 (mem0 m c) (ix3 b (qrow n i) j) := by
  obtain ⟨e0, e1, e2⟩ := index4 (pt b n)
  rw [← V_v106 m c]
  show Gen.V m c main_v106 (((cfg0.win 4).blk (pt b n)).view.emb (ix3 0 i j)) = _
  refine congrArg (Gen.V m c main_v106) (funext fun a => Fin.ext ?_)
  match a with
  | ⟨0, _⟩ => show win0_4.index (pt b n) (0 : Fin 3) * 1 + 1 * 0 = b.val; rw [e0]; show (32 * b.val + n.val) / 32 * 1 + 1 * 0 = b.val; omega
  | ⟨1, _⟩ => show win0_4.index (pt b n) (1 : Fin 3) * 128 + 1 * i.val = 128 * n.val + i.val; rw [e1]; show (32 * b.val + n.val) % 32 * 128 + 1 * i.val = _; omega
  | ⟨2, _⟩ => show win0_4.index (pt b n) (2 : Fin 3) * 512 + 1 * j.val = j.val; rw [e2]; omega

theorem blk5_ix (b : Fin 2) (n : Fin 32) (i : Fin 128) (j : Fin 512) :
    (iblk m c 5 (pt b n) : Vec Ideal S1x128x512 .f32) (ix3 0 i j)
      = mem0 m c (Proc.devRef .tc main_arg3) (ix3 b (qrow n i) ⟨512 + j.val, by omega⟩) := by
  obtain ⟨e0, e1, e2⟩ := index5 (pt b n)
  refine Eq.trans ?_ (congrFun (V_arg3 m c) _)
  show Gen.V m c main_arg3 (((cfg0.win 5).blk (pt b n)).view.emb (ix3 0 i j)) = _
  refine congrArg (Gen.V m c main_arg3) (funext fun a => Fin.ext ?_)
  match a with
  | ⟨0, _⟩ => show win0_5.index (pt b n) (0 : Fin 3) * 1 + 1 * 0 = b.val; rw [e0]; show (32 * b.val + n.val) / 32 * 1 + 1 * 0 = b.val; omega
  | ⟨1, _⟩ => show win0_5.index (pt b n) (1 : Fin 3) * 128 + 1 * i.val = 128 * n.val + i.val; rw [e1]; show (32 * b.val + n.val) % 32 * 128 + 1 * i.val = _; omega
  | ⟨2, _⟩ => show win0_5.index (pt b n) (2 : Fin 3) * 512 + 1 * j.val = 512 + j.val; rw [e2]; omega

theorem blk6_ix (b : Fin 2) (n : Fin 32) (j : Fin 512) :
    (iblk m c 6 (pt b n) : Vec Ideal S1x512 .f32) (ix2 0 j) = mem0 m c (Proc.devRef .tc main_arg2) (ix1 j) := by
  obtain ⟨e0, e1⟩ := index6 (pt b n)
  refine Eq.trans ?_ (h107_ix (mem0 m c) j)
  rw [← V_v107 m c]
  show Gen.V m c main_v107 (((cfg0.win 6).blk (pt b n)).view.emb (ix2 0 j)) = _
  refine congrArg (Gen.V m c main_v107) (funext fun a => Fin.ext ?_)
  match a with
  | ⟨0, _⟩ => show win0_6.index (pt b n) (0 : Fin 2) * 1 + 1 * 0 = 0; rw [e0]
  | ⟨1, _⟩ => show win0_6.index (pt b n) (1 : Fin 2) * 512 + 1 * j.val = j.val; rw [e1]; omega

end Blocks

end Cert.Value

end
-- ==== Proof.Value.Tiles.lean ====
/- Each tile of the launch holds its part of the model's head, and so the results are the model's gradients. -/
module

public import proofs.«01_k».proof.Proof.Value.Host

@[expose] public section

set_option maxRecDepth 16384

noncomputable section

namespace Cert.Value

open Cert.KernelIdeal Cert.KernelIdeal.Gen Cert.KernelIdeal.Bwd Cert.KernelIdeal.Own
open Idealize.ShloMosaic Idealize.ShloMosaic.TcCoe Idealize.ShloMosaic.StableHlo

section Blocks
variable (m : (ℓ : Loc nD τ sig) → Buf (Elt Ideal) ℓ) (c : Dev nD)

/-! ## The tiles -/

variable (R : Valuation Cert.ReferenceIdeal.τ Cert.ReferenceIdeal.sig (Elt Ideal))
  (h0 : mem0 m c (Proc.devRef .tc main_arg0) = R (Proc.devRef .tc Cert.ReferenceIdeal.main_arg0))
  (h1 : mem0 m c (Proc.devRef .tc main_arg1) = R (Proc.devRef .tc Cert.ReferenceIdeal.main_arg1))
  (h2 : mem0 m c (Proc.devRef .tc main_arg2) = R (Proc.devRef .tc Cert.ReferenceIdeal.main_arg2))
  (h3 : mem0 m c (Proc.devRef .tc main_arg3) = R (Proc.devRef .tc Cert.ReferenceIdeal.main_arg3))

include h0 h1 in
/-- The output that the kernel's host lines compute is the reference's. -/
theorem h48_eq : h48 (mem0 m c) = Cert.ReferenceIdeal.Own.res_main_v51 R := by
  have q : hq (mem0 m c) = Cert.ReferenceIdeal.Own.res_main_v7 R := by
    unfold hq Cert.ReferenceIdeal.Own.res_main_v7; rw [h0]; rfl
  have k : hk (mem0 m c) = Cert.ReferenceIdeal.Own.res_main_v9 R := by
    unfold hk Cert.ReferenceIdeal.Own.res_main_v9; rw [h0]; rfl
  have v : hv (mem0 m c) = Cert.ReferenceIdeal.Own.res_main_v11 R := by
    unfold hv Cert.ReferenceIdeal.Own.res_main_v11; rw [h0]; rfl
  have s : h37 (mem0 m c) = Cert.ReferenceIdeal.Own.res_main_v37_0 R := by
    unfold h37 h31 hrb Cert.ReferenceIdeal.Own.res_main_v37_0; rw [q, k, h1]; rfl
  have e : h42 (mem0 m c) = Cert.ReferenceIdeal.Own.res_main_v42 R := by
    unfold h42 Cert.ReferenceIdeal.Own.res_main_v42; rw [s]
  have p : h46 (mem0 m c) = Cert.ReferenceIdeal.Own.res_main_v46 R := by
    unfold h46 Cert.ReferenceIdeal.Own.res_main_v46 Cert.ReferenceIdeal.Own.res_main_v44; rw [e]
  unfold h48 Cert.ReferenceIdeal.Own.res_main_v51; rw [v, p]; rfl

theorem col_eq (p : Fin 4) (e : Fin 2) (x : Fin 64) : col p (lane e x) = hcol (hn p e) x :=
  Fin.ext (by show 128 * p.val + (64 * e.val + x.val) = 64 * (2 * p.val + e.val) + x.val; omega)

include h0 h1 h2 h3 in
theorem tile (b : Fin 2) (n : Fin 32) (p : Fin 4) (e : Fin 2) (hX : (refSeq R b (hn p e)).Fin') :
    TileOf (refSeq R b (hn p e)) n (HD m c (pt b n) p e) := by
  have hb : ((i0 (pt b n)) 2).val = n.val := (coord2 (pt b n)).trans (by show (32 * b.val + n.val) % 32 = n.val; omega)
  constructor
  case base => show 128 * ((i0 (pt b n)) 2).val = _; rw [hb]
  case q =>
    intro i x
    unfold HD
    dsimp only
    rw [col_eq, blk0_ix, h0]
    rfl
  case k =>
    intro s w x h
    unfold HD
    dsimp only
    rw [col_eq, blk1_ix m c b n s (arow (pt b n) w) (by show 128 * ((i0 (pt b n)) 2).val + w.val = _; rw [hb]; omega), h0]
    rfl
  case v =>
    intro s w x h
    unfold HD
    dsimp only
    rw [col_eq, blk2_ix m c b n s (arow (pt b n) w) (by show 128 * ((i0 (pt b n)) 2).val + w.val = _; rw [hb]; omega), h0]
    rfl
  case b =>
    intro i s w h
    unfold HD
    dsimp only
    rw [blk3_ix, h105_ix _ _ i w n s h, h1]
    rfl
  case o =>
    intro i x
    unfold HD
    dsimp only
    rw [col_eq, blk4_ix, h106_ix, h48_eq m c R h0 h1]
    exact v51_ix hX _ x
  case d =>
    intro i x
    unfold HD
    dsimp only
    rw [col_eq, blk5_ix, h3]
    rfl
  case g =>
    intro x
    unfold HD
    dsimp only
    rw [col_eq, blk6_ix, h2]
    rfl

/-! ## The results -/

include h0 h1 h2 h3 in
theorem G7_seq (b : Fin 2) (t : Fin 4096) (p : Fin 4) (e : Fin 2) (x : Fin 64) (hX : (refSeq R b (hn p e)).Fin') :
    G7 m c (ix3 b t (hcol (hn p e) x)) = (refSeq R b (hn p e)).dq t x := by
  obtain ⟨n, a, rfl⟩ : ∃ (n : Fin 32) (a : Fin 128), t = qrow n a :=
    ⟨⟨t.val / 128, by omega⟩, ⟨t.val % 128, by omega⟩, Fin.ext (by show t.val = 128 * (t.val / 128) + t.val % 128; omega)⟩
  rw [← col_eq]
  exact (G7_ix m c b n a p e x).trans ((tile m c R h0 h1 h2 h3 b n p e hX).dq_eq a x)

theorem part_eq (b : Fin 2) (n : Fin 32) (T : Fin 640 → Fin 64 → EReal) (s : Fin 4096) (x : Fin 64) (y : EReal)
    (hin : ∀ w : Fin 640, w.val + 128 * n.val = s.val + 512 → T w x = y)
    (hout : s.val + 512 < 128 * n.val ∨ 128 * n.val + 640 ≤ s.val + 512 → y = 0) : part (pt b n) T (srow s) x = y := by
  have hb : ((i0 (pt b n)) 2).val = n.val := (coord2 (pt b n)).trans (by show (32 * b.val + n.val) % 32 = n.val; omega)
  unfold part
  by_cases h : inWin (pt b n) (srow s)
  · rw [dif_pos h]
    unfold inWin at h
    rw [hb] at h
    have h1 : 128 * n.val ≤ 512 + s.val := h.1
    exact hin _ (by show 512 + s.val - 128 * ((i0 (pt b n)) 2).val + 128 * n.val = s.val + 512; rw [hb]; omega)
  · rw [dif_neg h]
    unfold inWin at h
    rw [hb] at h
    refine (hout ?_).symm
    by_contra hc
    exact h (by show 128 * n.val ≤ 512 + s.val ∧ 512 + s.val < 128 * n.val + 640; omega)

include h0 h1 h2 h3 in
theorem G8_seq (b : Fin 2) (s : Fin 4096) (p : Fin 4) (e : Fin 2) (x : Fin 64) (hX : (refSeq R b (hn p e)).Fin') :
    G8 m c (ix3 b s (hcol (hn p e) x)) = (refSeq R b (hn p e)).dk s x := by
  rw [← col_eq]
  refine (G8_ix m c b s p e x).trans ?_
  unfold Seq.dk
  rw [← sum_tiles]
  exact sum_ext fun n => part_eq b n _ s x _ (fun w h => (tile m c R h0 h1 h2 h3 b n p e hX).dk_eq s w x h) (dk_none _ n s x)

include h0 h1 h2 h3 in
theorem G9_seq (b : Fin 2) (s : Fin 4096) (p : Fin 4) (e : Fin 2) (x : Fin 64) (hX : (refSeq R b (hn p e)).Fin') :
    G9 m c (ix3 b s (hcol (hn p e) x)) = (refSeq R b (hn p e)).dv s x := by
  rw [← col_eq]
  refine (G9_ix m c b s p e x).trans ?_
  unfold Seq.dv
  rw [← sum_tiles]
  exact sum_ext fun n => part_eq b n _ s x _ (fun w h => (tile m c R h0 h1 h2 h3 b n p e hX).dv_eq s w x h) (dv_none _ n s x)
end Blocks

end Cert.Value

end
-- ==== Proof.Value.Main.lean ====
/- The kernel's results are the reference's: both are the model's gradients, head by head. -/
module

public import proofs.«01_k».proof.Proof.Value.Tiles
public import proofs.«01_k».proof.Pre_finite

@[expose] public section

set_option maxRecDepth 16384

noncomputable section

namespace Cert.Value

open Idealize.ShloMosaic Idealize.ShloMosaic.TcCoe Idealize.ShloMosaic.StableHlo
open Cert.KernelIdeal.Bwd

/-! ## The precondition -/

theorem neg_inf16 : Ideal.ofBits .bf16 0xFF80#16 = (⊥ : EReal) := by
  simp [Ideal.ofBits, Ideal.ieee, -EReal.coe_mul, -EReal.coe_neg]
theorem pos_inf16 : Ideal.ofBits .bf16 0x7F80#16 = (⊤ : EReal) := by
  simp [Ideal.ofBits, Ideal.ieee, -EReal.coe_mul, -EReal.coe_neg]
theorem pos_inf : Ideal.ofBits .f32 0x7F800000#32 = (⊤ : EReal) := by
  simp [Ideal.ofBits, Ideal.ieee, -EReal.coe_mul, -EReal.coe_neg]

theorem real_of_bits (x : EReal) (h : IntOp.andi (Ideal.cmp .ogt x ⊥) (Ideal.cmp .olt x ⊤) = 1#1) : ∃ r : ℝ, x = (r : EReal) := by
  induction x with
  | bot => exact absurd h (by simp [Ideal.cmp, IntOp.andi])
  | top => exact absurd h (by simp [Ideal.cmp, IntOp.andi])
  | coe r => exact ⟨r, rfl⟩

theorem pre_facts : Cert.Pre_finite.Facts := { bcast_S_S2x4096x3072 := by decide, bcast_S_S8x257 := by decide }

section Pre
variable [hPre : Cert.Pre_finite.Facts] (a0 : FVec Ideal Cert.Pre_finite.S2x4096x3072 .bf16) (a1 : FVec Ideal Cert.Pre_finite.S8x257 .f32)
  (a2 : FVec Ideal Cert.Pre_finite.S512 .f32) (a3 : FVec Ideal Cert.Pre_finite.S2x4096x1024 .f32)

theorem pre_real0 (h : (Cert.Pre_finite.fn a0 a1 a2 a3).1 = fun _ => 1#1) (i : Cert.Pre_finite.S2x4096x3072.Idx) : ∃ r : ℝ, a0 i = (r : EReal) := by
  refine real_of_bits _ ?_
  rw [← neg_inf16, ← pos_inf16]
  exact congrFun h i

theorem pre_real1 (h : (Cert.Pre_finite.fn a0 a1 a2 a3).2 = fun _ => 1#1) (i : Cert.Pre_finite.S8x257.Idx) : ∃ r : ℝ, a1 i = (r : EReal) := by
  refine real_of_bits _ ?_
  rw [← neg_inf, ← pos_inf]
  exact congrFun h i
end Pre

/-! ## The results -/

/-- An index of a result names a sequence, a position, a head and one of the head's entries. -/
theorem idx_cases (i : (⟨3, ![2, 4096, 512]⟩ : Shape).Idx) :
    ∃ (b : Fin 2) (t : Fin 4096) (p : Fin 4) (e : Fin 2) (x : Fin 64), i = ix3 b t (hcol (hn p e) x) := by
  have h0 : (i 0).val < 2 := (i 0).isLt
  have h1 : (i 1).val < 4096 := (i 1).isLt
  have h2 : (i 2).val < 512 := (i 2).isLt
  refine ⟨⟨(i 0).val, h0⟩, ⟨(i 1).val, h1⟩, ⟨(i 2).val / 128, by omega⟩, ⟨(i 2).val / 64 % 2, by omega⟩, ⟨(i 2).val % 64, by omega⟩, ?_⟩
  funext a
  apply Fin.ext
  match a with
  | ⟨0, _⟩ => rfl
  | ⟨1, _⟩ => rfl
  | ⟨2, _⟩ => show (i 2).val = 64 * (2 * ((i 2).val / 128) + (i 2).val / 64 % 2) + (i 2).val % 64; omega

section Results
variable (m : (ℓ : Loc Cert.KernelIdeal.nD Cert.KernelIdeal.τ Cert.KernelIdeal.sig) → Buf (Elt Ideal) ℓ) (c : Dev Cert.KernelIdeal.nD)
  (R : Valuation Cert.ReferenceIdeal.τ Cert.ReferenceIdeal.sig (Elt Ideal))
  (h0 : mem0 m c (Proc.devRef .tc Cert.KernelIdeal.main_arg0) = R (Proc.devRef .tc Cert.ReferenceIdeal.main_arg0))
  (h1 : mem0 m c (Proc.devRef .tc Cert.KernelIdeal.main_arg1) = R (Proc.devRef .tc Cert.ReferenceIdeal.main_arg1))
  (h2 : mem0 m c (Proc.devRef .tc Cert.KernelIdeal.main_arg2) = R (Proc.devRef .tc Cert.ReferenceIdeal.main_arg2))
  (h3 : mem0 m c (Proc.devRef .tc Cert.KernelIdeal.main_arg3) = R (Proc.devRef .tc Cert.ReferenceIdeal.main_arg3))
  (hf0 : ∀ i, ∃ r : ℝ, (R (Proc.devRef .tc Cert.ReferenceIdeal.main_arg0) : FVec Ideal Cert.ReferenceIdeal.S2x4096x3072 .bf16) i = (r : EReal))
  (hf1 : ∀ i, ∃ r : ℝ, (R (Proc.devRef .tc Cert.ReferenceIdeal.main_arg1) : FVec Ideal Cert.ReferenceIdeal.S8x257 .f32) i = (r : EReal))
include h0 h1 h2 h3 hf0 hf1

open Cert.ReferenceIdeal Cert.ReferenceIdeal.Gen Cert.ReferenceIdeal.Own in
theorem dq_result : G7 m c = (truncf .bf16 (shapeCast _ (transpose S2x4096x8x64 [0, 2, 1, 3] (Host.dotGeneral (φ₁ := .f32) (φ₂ := .f32) dot_S2x8x4096x4096_S2x4096x8x64_S2x8x4096x64_3_1_2_3_01_02 none (res_main_v105 R) (res_main_v9 R)) transposes_S2x8x4096x64_S2x4096x8x64_0_2_1_3) shapeCasts_S2x4096x8x64_S2x4096x512) bitsLt_bf16_f32 : FVec Ideal S2x4096x512 .bf16) := by
  funext i
  obtain ⟨b, t, p, e, x, rfl⟩ := idx_cases i
  have hX := seqOf_fin hf0 hf1 (R (Proc.devRef .tc main_arg2)) (R (Proc.devRef .tc main_arg3)) b (hn p e)
  exact (G7_seq m c R h0 h1 h2 h3 b t p e x hX).trans (v111_ix hX t x).symm

open Cert.ReferenceIdeal Cert.ReferenceIdeal.Gen Cert.ReferenceIdeal.Own in
theorem dk_result : G8 m c = (truncf .bf16 (shapeCast _ (transpose S2x4096x8x64 [0, 2, 1, 3] (Host.dotGeneral (φ₁ := .f32) (φ₂ := .f32) dot_S2x8x4096x4096_S2x4096x8x64_S2x8x4096x64_2_1_3_3_01_02 none (res_main_v105 R) (res_main_v7 R)) transposes_S2x8x4096x64_S2x4096x8x64_0_2_1_3) shapeCasts_S2x4096x8x64_S2x4096x512) bitsLt_bf16_f32 : FVec Ideal S2x4096x512 .bf16) := by
  funext i
  obtain ⟨b, t, p, e, x, rfl⟩ := idx_cases i
  have hX := seqOf_fin hf0 hf1 (R (Proc.devRef .tc main_arg2)) (R (Proc.devRef .tc main_arg3)) b (hn p e)
  exact (G8_seq m c R h0 h1 h2 h3 b t p e x hX).trans (v113_ix hX t x).symm

open Cert.ReferenceIdeal Cert.ReferenceIdeal.Gen Cert.ReferenceIdeal.Own in
theorem dv_result : G9 m c = (truncf .bf16 (shapeCast _ (transpose S2x4096x8x64 [0, 3, 1, 2] (Host.dotGeneral (φ₁ := .f32) (φ₂ := .f32) dot_S2x8x64x4096_S2x8x4096x4096_S2x8x64x4096_3_2_2_3_01_01 none (res_main_v87 R) (res_main_v46 R)) transposes_S2x8x64x4096_S2x4096x8x64_0_3_1_2) shapeCasts_S2x4096x8x64_S2x4096x512) bitsLt_bf16_f32 : FVec Ideal S2x4096x512 .bf16) := by
  funext i
  obtain ⟨b, t, p, e, x, rfl⟩ := idx_cases i
  have hX := seqOf_fin hf0 hf1 (R (Proc.devRef .tc main_arg2)) (R (Proc.devRef .tc main_arg3)) b (hn p e)
  exact (G9_seq m c R h0 h1 h2 h3 b t p e x hX).trans (v115_ix hX t x).symm
end Results

end Cert.Value

end
-- ==== Proof.Dw.Pieces.lean ====
/- What a point of the weights' gradient leaves in its accumulator: eleven bands of 256 rows, each with the product of its columns added. -/
module

public import proofs.«01_k».proof.Proof.Gen.Kernel2Ideal.Frame
public import Idealize.ShloMosaic.Lib.WholeRead
public import Idealize.ShloMosaic.Lib.WritesUnit
public import Idealize.ShloMosaic.Lib.Pointwise
public import Idealize.ShloMosaic.Lib.IdealHost

@[expose] public section

set_option maxRecDepth 16384

noncomputable section

namespace Cert.Dw

open Cert.Kernel2Ideal Cert.Kernel2Ideal.Gen
open Idealize.ShloMosaic

/-! ## One band -/

theorem inbS (j : ℕ) (hj : j < 11) : ∀ a, (![256 * j, 0] : Fin 2 → ℕ) a + S256x1024.size a ≤ S2816x1024.size a := by
  intro a
  fin_cases a
  · show 256 * j + 256 ≤ 2816; omega
  · exact (by decide : 0 + 1024 ≤ 1024)

theorem inbL (j : ℕ) (hj : j < 11) : ∀ a, (![0, 256 * j] : Fin 2 → ℕ) a + S512x256.size a ≤ S512x2816.size a := by
  intro a
  fin_cases a
  · exact (by decide : 0 + 512 ≤ 512)
  · show 256 * j + 256 ≤ 2816; omega

abbrev rS (j : ℕ) (hj : j < 11) : Rect S2816x1024 := Rect.unit ![256 * j, 0] S256x1024.size (inbS j hj)
abbrev rL (j : ℕ) (hj : j < 11) : Rect S512x2816 := Rect.unit ![0, 256 * j] S512x256.size (inbL j hj)
abbrev rR : Rect S512x1024 := Rect.unit ![0, 0] S512x1024.size inb_S512x1024_S512x1024_0_0

section Band
variable {F : FTy → Type} [FloatOps F]

def stepT (rhs : Vec F S512x1024 .bf16) (lhs : Vec F S512x256 .bf16) (acc : Vec F S256x1024 .f32) : Vec F S256x1024 .f32 :=
  shapeCast S256x1024 (addf acc (matmul dot_S512x256_S512x1024_S256x1024_0_0_1_1_n_n none lhs rhs (constant S256x1024 .f32 0x00000000#32))) shapeCasts_S256x1024_S256x1024

end Band

theorem stepT_ix (rhs : Vec Ideal S512x1024 .bf16) (lhs : Vec Ideal S512x256 .bf16) (acc : Vec Ideal S256x1024 .f32) (r : Fin 256) (d : Fin 1024) :
    stepT rhs lhs acc (ix2 r d) = acc (ix2 r d) + (∑ k : Fin 512, lhs (ix2 k r) * rhs (ix2 k d) : EReal) := by
  pointwise [stepT]

/-! ## Eleven bands -/

section Bands
variable (V : View sig .tc .vmem S2816x1024 .f32) (g f : V.ty.Contents (Elt Ideal))
  (w : (j : ℕ) → j < 11 → Vec Ideal S256x1024 .f32 → Vec Ideal S256x1024 .f32)

/-- The bands below the `n`-th, each added to what the buffer held at the start. -/
def sP : (n : ℕ) → n ≤ 11 → List (View.Piece (Elt Ideal) S2816x1024 .f32)
  | 0, _ => []
  | n + 1, h => ⟨rS n h, w n h (View.readAt (Elt Ideal) V (rS n h).toLoadRect f)⟩ :: sP n (Nat.le_of_succ_le h)

/-- The same, each added to what the stores before it left. -/
def zP (Z : List (View.Piece (Elt Ideal) S2816x1024 .f32)) : (n : ℕ) → n ≤ 11 → List (View.Piece (Elt Ideal) S2816x1024 .f32)
  | 0, _ => Z
  | n + 1, h => ⟨rS n h, w n h (View.readAt (Elt Ideal) V (rS n h).toLoadRect (V.writes (Elt Ideal) f (zP Z n (Nat.le_of_succ_le h))))⟩ :: zP Z n (Nat.le_of_succ_le h)

abbrev brow (j : ℕ) (hj : j < 11) (r : Fin 256) : Fin 2816 := ⟨256 * j + r.val, by have := r.isLt; omega⟩

theorem band_ld (j : ℕ) (hj : j < 11) (r : Fin 256) (d : Fin 1024) :
    View.readAt (Elt Ideal) V (rS j hj).toLoadRect f (ix2 r d) = V.read (Elt Ideal) f (ix2 (brow j hj r) d) := by
  refine congrArg (V.read (Elt Ideal) f) (funext fun a => Fin.ext ?_)
  fin_cases a
  · show 256 * j + 1 * r.val = 256 * j + r.val; omega
  · show 0 + 1 * d.val = d.val; omega

theorem band_hit (j : ℕ) (hj : j < 11) (x : Vec Ideal S256x1024 .f32) (L : List (View.Piece (Elt Ideal) S2816x1024 .f32)) (r : Fin 256) (d : Fin 1024) :
    V.read (Elt Ideal) (V.writes (Elt Ideal) g (⟨rS j hj, x⟩ :: L)) (ix2 (brow j hj r) d) = x (ix2 r d) := by
  refine View.read_writes_cons_unit_of_mem V g (inbS j hj) x L _ (ix2 r d) rfl fun a => ?_
  fin_cases a
  · rfl
  · exact (Nat.zero_add _).symm

theorem band_miss (j : ℕ) (hj : j < 11) (x : Vec Ideal S256x1024 .f32) (L : List (View.Piece (Elt Ideal) S2816x1024 .f32)) (u : Fin 2816) (d : Fin 1024)
    (h : u.val < 256 * j ∨ 256 * j + 256 ≤ u.val) :
    V.read (Elt Ideal) (V.writes (Elt Ideal) g (⟨rS j hj, x⟩ :: L)) (ix2 u d) = V.read (Elt Ideal) (V.writes (Elt Ideal) g L) (ix2 u d) :=
  View.read_writes_cons_unit_of_not_mem V g (inbS j hj) x L _ rfl 0 h

variable (T : Fin 2816 → Fin 1024 → EReal) (hw : ∀ j hj acc r d, w j hj acc (ix2 r d) = acc (ix2 r d) + T (brow j hj r) d)
include hw

theorem sP_read (u : Fin 2816) (d : Fin 1024) : ∀ (n : ℕ) (hn : n ≤ 11), u.val < 256 * n →
    V.read (Elt Ideal) (V.writes (Elt Ideal) g (sP V f w n hn)) (ix2 u d) = V.read (Elt Ideal) f (ix2 u d) + T u d
  | 0, _, h => absurd h (by omega)
  | n + 1, hn, h => by
    by_cases hu : u.val < 256 * n
    · exact (band_miss V g n hn _ _ u d (Or.inl hu)).trans (sP_read u d n (Nat.le_of_succ_le hn) hu)
    · obtain ⟨r, rfl⟩ : ∃ r : Fin 256, u = brow n hn r := ⟨⟨u.val - 256 * n, by omega⟩, Fin.ext (by show u.val = 256 * n + (u.val - 256 * n); omega)⟩
      exact (band_hit V g n hn _ _ r d).trans ((hw n hn _ r d).trans (congrArg (· + T (brow n hn r) d) (band_ld V f n hn r d)))

theorem zP_above (Z : List (View.Piece (Elt Ideal) S2816x1024 .f32)) (u : Fin 2816) (d : Fin 1024) : ∀ (n : ℕ) (hn : n ≤ 11), 256 * n ≤ u.val →
    V.read (Elt Ideal) (V.writes (Elt Ideal) g (zP V f w Z n hn)) (ix2 u d) = V.read (Elt Ideal) (V.writes (Elt Ideal) g Z) (ix2 u d)
  | 0, _, h => rfl
  | n + 1, hn, h => (band_miss V g n hn _ _ u d (Or.inr (by omega))).trans (zP_above Z u d n (Nat.le_of_succ_le hn) (by omega))

theorem zP_read (Z : List (View.Piece (Elt Ideal) S2816x1024 .f32)) (u : Fin 2816) (d : Fin 1024) : ∀ (n : ℕ) (hn : n ≤ 11), u.val < 256 * n →
    V.read (Elt Ideal) (V.writes (Elt Ideal) g (zP V f w Z n hn)) (ix2 u d) = V.read (Elt Ideal) (V.writes (Elt Ideal) f Z) (ix2 u d) + T u d
  | 0, _, h => absurd h (by omega)
  | n + 1, hn, h => by
    by_cases hu : u.val < 256 * n
    · exact (band_miss V g n hn _ _ u d (Or.inl hu)).trans (zP_read Z u d n (Nat.le_of_succ_le hn) hu)
    · obtain ⟨r, rfl⟩ : ∃ r : Fin 256, u = brow n hn r := ⟨⟨u.val - 256 * n, by omega⟩, Fin.ext (by show u.val = 256 * n + (u.val - 256 * n); omega)⟩
      refine (band_hit V g n hn _ _ r d).trans ((hw n hn _ r d).trans (congrArg (· + T (brow n hn r) d) ?_))
      exact (band_ld V _ n hn r d).trans (zP_above V f f w T hw Z _ d n _ (by show 256 * n ≤ 256 * n + r.val; omega))

end Bands

abbrev zero : List (View.Piece (Elt Ideal) S2816x1024 .f32) := [⟨Rect.unit ![0, 0] S2816x1024.size inb_S2816x1024_S2816x1024_0_0, k0_pay1 (F := Ideal)⟩]

theorem zero_read (V : View sig .tc .vmem S2816x1024 .f32) (f : V.ty.Contents (Elt Ideal)) (j : S2816x1024.Idx) :
    V.read (Elt Ideal) (V.writes (Elt Ideal) f zero) j = 0 := by
  refine (View.read_writes_cons_unit_of_mem V f _ _ _ j j rfl fun a => ?_).trans ?_
  · fin_cases a <;> exact (Nat.zero_add _).symm
  · exact Ideal.ofBits_zero_f32

/-! ## A point -/

section Point
variable (c : Dev nD) (t : Fin cfg0.N) (x0 x1 x2 : Vec Ideal S512x2816 .bf16) (x3 x4 : Vec Ideal S512x1024 .bf16) (xs : Vec Ideal S2816x1024 .f32)

/-- Column `256j + r` of a block, as the band's load reads it. -/
theorem lhs_ix (M : Memref sig .tc .vmem S512x2816 .bf16) (hM : M.IsWhole) (x : Vec Ideal S512x2816 .bf16) (j : ℕ) (hj : j < 11) (k : Fin 512) (r : Fin 256) :
    View.readAt (Elt Ideal) M.view (rL j hj).toLoadRect (hM.unread x) (ix2 k r) = x (ix2 k (brow j hj r)) := by
  refine (hM.readAt_unread _ _ _).trans (congrArg x (funext fun a => Fin.ext ?_))
  fin_cases a
  · show 0 + 1 * k.val = k.val; omega
  · show 256 * j + 1 * r.val = 256 * j + r.val; omega

theorem rhs_ix (M : Memref sig .tc .vmem S512x1024 .bf16) (hM : M.IsWhole) (x : Vec Ideal S512x1024 .bf16) (k : Fin 512) (d : Fin 1024) :
    View.readAt (Elt Ideal) M.view rR.toLoadRect (hM.unread x) (ix2 k d) = x (ix2 k d) := by
  refine (hM.readAt_unread _ _ _).trans (congrArg x (funext fun a => Fin.ext ?_))
  fin_cases a
  · show 0 + 1 * k.val = k.val; omega
  · show 0 + 1 * d.val = d.val; omega

/-- What a band adds to the accumulator's rows. -/
abbrev bandW (M : Memref sig .tc .vmem S512x2816 .bf16) (hM : M.IsWhole) (x : Vec Ideal S512x2816 .bf16)
    (N : Memref sig .tc .vmem S512x1024 .bf16) (hN : N.IsWhole) (y : Vec Ideal S512x1024 .bf16) (j : ℕ) (hj : j < 11) (acc : Vec Ideal S256x1024 .f32) :
    Vec Ideal S256x1024 .f32 :=
  stepT (F := Ideal) (View.readAt (Elt Ideal) N.view rR.toLoadRect (hN.unread y)) (View.readAt (Elt Ideal) M.view (rL j hj).toLoadRect (hM.unread x)) acc

/-- The product of two blocks over their 512 rows. -/
def prod (x : Vec Ideal S512x2816 .bf16) (y : Vec Ideal S512x1024 .bf16) (u : Fin 2816) (d : Fin 1024) : EReal :=
  (∑ k : Fin 512, x (ix2 k u) * y (ix2 k d) : EReal)

theorem bandW_ix (M : Memref sig .tc .vmem S512x2816 .bf16) (hM : M.IsWhole) (x : Vec Ideal S512x2816 .bf16)
    (N : Memref sig .tc .vmem S512x1024 .bf16) (hN : N.IsWhole) (y : Vec Ideal S512x1024 .bf16) (j : ℕ) (hj : j < 11) (acc : Vec Ideal S256x1024 .f32)
    (r : Fin 256) (d : Fin 1024) : bandW M hM x N hN y j hj acc (ix2 r d) = acc (ix2 r d) + prod x y (brow j hj r) d := by
  refine (stepT_ix _ _ acc r d).trans ?_
  simp only [lhs_ix, rhs_ix]
  rfl

abbrev whole : scM0_0.IsWhole := Memref.isWhole_whole _

/-- The last point's store of a block, of the accumulator's contents. -/
abbrev oP (X : VS0_0.ty.Contents (Elt Ideal)) : List (View.Piece (Elt Ideal) S1x2816x1024 .bf16) :=
  [⟨Rect.unit ![0, 0, 0] S1x2816x1024.size inb_S1x2816x1024_S1x2816x1024_0_0_0,
    k0_pay14 (F := Ideal) (View.readAt (Elt Ideal) VS0_0 (Rect.unit ![0, 0] S2816x1024.size inb_S2816x1024_S2816x1024_0_0 : Rect S2816x1024).toLoadRect X)⟩]

theorem oP_read (V : View sig .tc .vmem S1x2816x1024 .bf16) (f : V.ty.Contents (Elt Ideal)) (X : VS0_0.ty.Contents (Elt Ideal)) (u : Fin 2816) (d : Fin 1024) :
    V.read (Elt Ideal) (V.writes (Elt Ideal) f (oP X)) (ix3 0 u d) = VS0_0.read (Elt Ideal) X (ix2 u d) := by
  refine (View.read_writes_cons_unit_of_mem V f _ _ _ _ (ix3 0 u d) rfl fun a => ?_).trans ?_
  · fin_cases a <;> exact (Nat.zero_add _).symm
  · have e : ∀ Y : Vec Ideal S2816x1024 .f32, k0_pay14 (F := Ideal) Y (ix3 0 u d) = Y (ix2 u d) := fun Y => by pointwise [k0_pay14]
    refine (e _).trans (congrArg (VS0_0.read (Elt Ideal) X) (funext fun a => Fin.ext ?_))
    fin_cases a
    · show 0 + 1 * u.val = u.val; omega
    · show 0 + 1 * d.val = d.val; omega

theorem runA (hc0 : cond0_0 (grid0.coords t)) (hc1 : cond0_1 (grid0.coords t)) (hc2 : ¬cond0_2 (grid0.coords t)) (hc3 : ¬cond0_3 (grid0.coords t)) (hc4 : ¬cond0_4 (grid0.coords t)) :
    (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4).2.1 = (zP VS0_0 VS0_0.junk (bandW (ms0_0 t) (hs0_0 t) x0 (ms0_3 t) (hs0_3 t) x3) zero 11 le_rfl) := rfl

theorem scrA (hc0 : cond0_0 (grid0.coords t)) (hc1 : cond0_1 (grid0.coords t)) (hc2 : ¬cond0_2 (grid0.coords t)) (hc3 : ¬cond0_3 (grid0.coords t)) (hc4 : ¬cond0_4 (grid0.coords t)) (u : Fin 2816) (d : Fin 1024) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 (ix2 u d) = prod x0 x3 u d := by
  have e : sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 = VS0_0.read (Elt Ideal) (VS0_0.writes (Elt Ideal) VS0_0.junk (zP VS0_0 VS0_0.junk (bandW (ms0_0 t) (hs0_0 t) x0 (ms0_3 t) (hs0_3 t) x3) zero 11 le_rfl)) :=
    congrArg (fun L => VS0_0.read (Elt Ideal) (VS0_0.writes (Elt Ideal) VS0_0.junk L)) (runA c t x0 x1 x2 x3 x4 hc0 hc1 hc2 hc3 hc4)
  refine (congrFun e _).trans ((zP_read VS0_0 VS0_0.junk VS0_0.junk (bandW (ms0_0 t) (hs0_0 t) x0 (ms0_3 t) (hs0_3 t) x3) (prod x0 x3) (bandW_ix _ _ _ _ _ _) zero u d 11 le_rfl u.isLt).trans ?_)
  exact (congrArg (· + _) (zero_read VS0_0 VS0_0.junk _)).trans (zero_add _)

theorem runB (hc0 : ¬cond0_0 (grid0.coords t)) (hc1 : cond0_1 (grid0.coords t)) (hc2 : ¬cond0_2 (grid0.coords t)) (hc3 : ¬cond0_3 (grid0.coords t)) (hc4 : ¬cond0_4 (grid0.coords t)) :
    (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1 = (sP VS0_0 (whole.unread xs) (bandW (ms0_0 t) (hs0_0 t) x0 (ms0_3 t) (hs0_3 t) x3) 11 le_rfl) := rfl

theorem scrB (hc0 : ¬cond0_0 (grid0.coords t)) (hc1 : cond0_1 (grid0.coords t)) (hc2 : ¬cond0_2 (grid0.coords t)) (hc3 : ¬cond0_3 (grid0.coords t)) (hc4 : ¬cond0_4 (grid0.coords t)) (u : Fin 2816) (d : Fin 1024) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix2 u d) = xs (ix2 u d) + prod x0 x3 u d := by
  have e : sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VS0_0.read (Elt Ideal) (VS0_0.writes (Elt Ideal) VS0_0.junk (sP VS0_0 (whole.unread xs) (bandW (ms0_0 t) (hs0_0 t) x0 (ms0_3 t) (hs0_3 t) x3) 11 le_rfl)) :=
    congrArg (fun L => VS0_0.read (Elt Ideal) (VS0_0.writes (Elt Ideal) VS0_0.junk L)) (runB c t x0 x1 x2 x3 x4 xs hc0 hc1 hc2 hc3 hc4)
  refine (congrFun e _).trans ((sP_read VS0_0 VS0_0.junk (whole.unread xs) (bandW (ms0_0 t) (hs0_0 t) x0 (ms0_3 t) (hs0_3 t) x3) (prod x0 x3) (bandW_ix _ _ _ _ _ _) u d 11 le_rfl u.isLt).trans ?_)
  exact congrArg (· + prod x0 x3 u d) (congrFun (whole.read_unread xs) _)

theorem runC (hc0 : ¬cond0_0 (grid0.coords t)) (hc1 : cond0_1 (grid0.coords t)) (hc2 : ¬cond0_2 (grid0.coords t)) (hc3 : ¬cond0_3 (grid0.coords t)) (hc4 : cond0_4 (grid0.coords t)) :
    (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1 = (sP VS0_0 (whole.unread xs) (bandW (ms0_0 t) (hs0_0 t) x0 (ms0_3 t) (hs0_3 t) x3) 11 le_rfl) := rfl

theorem scrC (hc0 : ¬cond0_0 (grid0.coords t)) (hc1 : cond0_1 (grid0.coords t)) (hc2 : ¬cond0_2 (grid0.coords t)) (hc3 : ¬cond0_3 (grid0.coords t)) (hc4 : cond0_4 (grid0.coords t)) (u : Fin 2816) (d : Fin 1024) :
    sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix2 u d) = xs (ix2 u d) + prod x0 x3 u d := by
  have e : sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VS0_0.read (Elt Ideal) (VS0_0.writes (Elt Ideal) VS0_0.junk (sP VS0_0 (whole.unread xs) (bandW (ms0_0 t) (hs0_0 t) x0 (ms0_3 t) (hs0_3 t) x3) 11 le_rfl)) :=
    congrArg (fun L => VS0_0.read (Elt Ideal) (VS0_0.writes (Elt Ideal) VS0_0.junk L)) (runC c t x0 x1 x2 x3 x4 xs hc0 hc1 hc2 hc3 hc4)
  refine (congrFun e _).trans ((sP_read VS0_0 VS0_0.junk (whole.unread xs) (bandW (ms0_0 t) (hs0_0 t) x0 (ms0_3 t) (hs0_3 t) x3) (prod x0 x3) (bandW_ix _ _ _ _ _ _) u d 11 le_rfl u.isLt).trans ?_)
  exact congrArg (· + prod x0 x3 u d) (congrFun (whole.read_unread xs) _)

theorem runD (hc0 : cond0_0 (grid0.coords t)) (hc1 : ¬cond0_1 (grid0.coords t)) (hc2 : cond0_2 (grid0.coords t)) (hc3 : ¬cond0_3 (grid0.coords t)) (hc4 : ¬cond0_4 (grid0.coords t)) :
    (kernelRun0_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4).2.1 = (zP VS0_0 VS0_0.junk (bandW (ms0_1 t) (hs0_1 t) x1 (ms0_3 t) (hs0_3 t) x3) zero 11 le_rfl) := rfl

theorem scrD (hc0 : cond0_0 (grid0.coords t)) (hc1 : ¬cond0_1 (grid0.coords t)) (hc2 : cond0_2 (grid0.coords t)) (hc3 : ¬cond0_3 (grid0.coords t)) (hc4 : ¬cond0_4 (grid0.coords t)) (u : Fin 2816) (d : Fin 1024) :
    sout0_D_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 (ix2 u d) = prod x1 x3 u d := by
  have e : sout0_D_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 = VS0_0.read (Elt Ideal) (VS0_0.writes (Elt Ideal) VS0_0.junk (zP VS0_0 VS0_0.junk (bandW (ms0_1 t) (hs0_1 t) x1 (ms0_3 t) (hs0_3 t) x3) zero 11 le_rfl)) :=
    congrArg (fun L => VS0_0.read (Elt Ideal) (VS0_0.writes (Elt Ideal) VS0_0.junk L)) (runD c t x0 x1 x2 x3 x4 hc0 hc1 hc2 hc3 hc4)
  refine (congrFun e _).trans ((zP_read VS0_0 VS0_0.junk VS0_0.junk (bandW (ms0_1 t) (hs0_1 t) x1 (ms0_3 t) (hs0_3 t) x3) (prod x1 x3) (bandW_ix _ _ _ _ _ _) zero u d 11 le_rfl u.isLt).trans ?_)
  exact (congrArg (· + _) (zero_read VS0_0 VS0_0.junk _)).trans (zero_add _)

theorem runE (hc0 : ¬cond0_0 (grid0.coords t)) (hc1 : ¬cond0_1 (grid0.coords t)) (hc2 : cond0_2 (grid0.coords t)) (hc3 : ¬cond0_3 (grid0.coords t)) (hc4 : ¬cond0_4 (grid0.coords t)) :
    (kernelRun0_E (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1 = (sP VS0_0 (whole.unread xs) (bandW (ms0_1 t) (hs0_1 t) x1 (ms0_3 t) (hs0_3 t) x3) 11 le_rfl) := rfl

theorem scrE (hc0 : ¬cond0_0 (grid0.coords t)) (hc1 : ¬cond0_1 (grid0.coords t)) (hc2 : cond0_2 (grid0.coords t)) (hc3 : ¬cond0_3 (grid0.coords t)) (hc4 : ¬cond0_4 (grid0.coords t)) (u : Fin 2816) (d : Fin 1024) :
    sout0_E_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix2 u d) = xs (ix2 u d) + prod x1 x3 u d := by
  have e : sout0_E_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VS0_0.read (Elt Ideal) (VS0_0.writes (Elt Ideal) VS0_0.junk (sP VS0_0 (whole.unread xs) (bandW (ms0_1 t) (hs0_1 t) x1 (ms0_3 t) (hs0_3 t) x3) 11 le_rfl)) :=
    congrArg (fun L => VS0_0.read (Elt Ideal) (VS0_0.writes (Elt Ideal) VS0_0.junk L)) (runE c t x0 x1 x2 x3 x4 xs hc0 hc1 hc2 hc3 hc4)
  refine (congrFun e _).trans ((sP_read VS0_0 VS0_0.junk (whole.unread xs) (bandW (ms0_1 t) (hs0_1 t) x1 (ms0_3 t) (hs0_3 t) x3) (prod x1 x3) (bandW_ix _ _ _ _ _ _) u d 11 le_rfl u.isLt).trans ?_)
  exact congrArg (· + prod x1 x3 u d) (congrFun (whole.read_unread xs) _)

theorem runF (hc0 : ¬cond0_0 (grid0.coords t)) (hc1 : ¬cond0_1 (grid0.coords t)) (hc2 : cond0_2 (grid0.coords t)) (hc3 : ¬cond0_3 (grid0.coords t)) (hc4 : cond0_4 (grid0.coords t)) :
    (kernelRun0_F (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1 = (sP VS0_0 (whole.unread xs) (bandW (ms0_1 t) (hs0_1 t) x1 (ms0_3 t) (hs0_3 t) x3) 11 le_rfl) := rfl

theorem scrF (hc0 : ¬cond0_0 (grid0.coords t)) (hc1 : ¬cond0_1 (grid0.coords t)) (hc2 : cond0_2 (grid0.coords t)) (hc3 : ¬cond0_3 (grid0.coords t)) (hc4 : cond0_4 (grid0.coords t)) (u : Fin 2816) (d : Fin 1024) :
    sout0_F_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix2 u d) = xs (ix2 u d) + prod x1 x3 u d := by
  have e : sout0_F_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VS0_0.read (Elt Ideal) (VS0_0.writes (Elt Ideal) VS0_0.junk (sP VS0_0 (whole.unread xs) (bandW (ms0_1 t) (hs0_1 t) x1 (ms0_3 t) (hs0_3 t) x3) 11 le_rfl)) :=
    congrArg (fun L => VS0_0.read (Elt Ideal) (VS0_0.writes (Elt Ideal) VS0_0.junk L)) (runF c t x0 x1 x2 x3 x4 xs hc0 hc1 hc2 hc3 hc4)
  refine (congrFun e _).trans ((sP_read VS0_0 VS0_0.junk (whole.unread xs) (bandW (ms0_1 t) (hs0_1 t) x1 (ms0_3 t) (hs0_3 t) x3) (prod x1 x3) (bandW_ix _ _ _ _ _ _) u d 11 le_rfl u.isLt).trans ?_)
  exact congrArg (· + prod x1 x3 u d) (congrFun (whole.read_unread xs) _)

theorem runG (hc0 : cond0_0 (grid0.coords t)) (hc1 : ¬cond0_1 (grid0.coords t)) (hc2 : ¬cond0_2 (grid0.coords t)) (hc3 : cond0_3 (grid0.coords t)) (hc4 : ¬cond0_4 (grid0.coords t)) :
    (kernelRun0_G (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4).2.1 = (zP VS0_0 VS0_0.junk (bandW (ms0_2 t) (hs0_2 t) x2 (ms0_4 t) (hs0_4 t) x4) zero 11 le_rfl) := rfl

theorem scrG (hc0 : cond0_0 (grid0.coords t)) (hc1 : ¬cond0_1 (grid0.coords t)) (hc2 : ¬cond0_2 (grid0.coords t)) (hc3 : cond0_3 (grid0.coords t)) (hc4 : ¬cond0_4 (grid0.coords t)) (u : Fin 2816) (d : Fin 1024) :
    sout0_G_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 (ix2 u d) = prod x2 x4 u d := by
  have e : sout0_G_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 = VS0_0.read (Elt Ideal) (VS0_0.writes (Elt Ideal) VS0_0.junk (zP VS0_0 VS0_0.junk (bandW (ms0_2 t) (hs0_2 t) x2 (ms0_4 t) (hs0_4 t) x4) zero 11 le_rfl)) :=
    congrArg (fun L => VS0_0.read (Elt Ideal) (VS0_0.writes (Elt Ideal) VS0_0.junk L)) (runG c t x0 x1 x2 x3 x4 hc0 hc1 hc2 hc3 hc4)
  refine (congrFun e _).trans ((zP_read VS0_0 VS0_0.junk VS0_0.junk (bandW (ms0_2 t) (hs0_2 t) x2 (ms0_4 t) (hs0_4 t) x4) (prod x2 x4) (bandW_ix _ _ _ _ _ _) zero u d 11 le_rfl u.isLt).trans ?_)
  exact (congrArg (· + _) (zero_read VS0_0 VS0_0.junk _)).trans (zero_add _)

theorem runH (hc0 : ¬cond0_0 (grid0.coords t)) (hc1 : ¬cond0_1 (grid0.coords t)) (hc2 : ¬cond0_2 (grid0.coords t)) (hc3 : cond0_3 (grid0.coords t)) (hc4 : ¬cond0_4 (grid0.coords t)) :
    (kernelRun0_H (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1 = (sP VS0_0 (whole.unread xs) (bandW (ms0_2 t) (hs0_2 t) x2 (ms0_4 t) (hs0_4 t) x4) 11 le_rfl) := rfl

theorem scrH (hc0 : ¬cond0_0 (grid0.coords t)) (hc1 : ¬cond0_1 (grid0.coords t)) (hc2 : ¬cond0_2 (grid0.coords t)) (hc3 : cond0_3 (grid0.coords t)) (hc4 : ¬cond0_4 (grid0.coords t)) (u : Fin 2816) (d : Fin 1024) :
    sout0_H_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix2 u d) = xs (ix2 u d) + prod x2 x4 u d := by
  have e : sout0_H_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VS0_0.read (Elt Ideal) (VS0_0.writes (Elt Ideal) VS0_0.junk (sP VS0_0 (whole.unread xs) (bandW (ms0_2 t) (hs0_2 t) x2 (ms0_4 t) (hs0_4 t) x4) 11 le_rfl)) :=
    congrArg (fun L => VS0_0.read (Elt Ideal) (VS0_0.writes (Elt Ideal) VS0_0.junk L)) (runH c t x0 x1 x2 x3 x4 xs hc0 hc1 hc2 hc3 hc4)
  refine (congrFun e _).trans ((sP_read VS0_0 VS0_0.junk (whole.unread xs) (bandW (ms0_2 t) (hs0_2 t) x2 (ms0_4 t) (hs0_4 t) x4) (prod x2 x4) (bandW_ix _ _ _ _ _ _) u d 11 le_rfl u.isLt).trans ?_)
  exact congrArg (· + prod x2 x4 u d) (congrFun (whole.read_unread xs) _)

theorem runI (hc0 : ¬cond0_0 (grid0.coords t)) (hc1 : ¬cond0_1 (grid0.coords t)) (hc2 : ¬cond0_2 (grid0.coords t)) (hc3 : cond0_3 (grid0.coords t)) (hc4 : cond0_4 (grid0.coords t)) :
    (kernelRun0_I (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1 = (sP VS0_0 (whole.unread xs) (bandW (ms0_2 t) (hs0_2 t) x2 (ms0_4 t) (hs0_4 t) x4) 11 le_rfl) := rfl

theorem scrI (hc0 : ¬cond0_0 (grid0.coords t)) (hc1 : ¬cond0_1 (grid0.coords t)) (hc2 : ¬cond0_2 (grid0.coords t)) (hc3 : cond0_3 (grid0.coords t)) (hc4 : cond0_4 (grid0.coords t)) (u : Fin 2816) (d : Fin 1024) :
    sout0_I_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix2 u d) = xs (ix2 u d) + prod x2 x4 u d := by
  have e : sout0_I_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VS0_0.read (Elt Ideal) (VS0_0.writes (Elt Ideal) VS0_0.junk (sP VS0_0 (whole.unread xs) (bandW (ms0_2 t) (hs0_2 t) x2 (ms0_4 t) (hs0_4 t) x4) 11 le_rfl)) :=
    congrArg (fun L => VS0_0.read (Elt Ideal) (VS0_0.writes (Elt Ideal) VS0_0.junk L)) (runI c t x0 x1 x2 x3 x4 xs hc0 hc1 hc2 hc3 hc4)
  refine (congrFun e _).trans ((sP_read VS0_0 VS0_0.junk (whole.unread xs) (bandW (ms0_2 t) (hs0_2 t) x2 (ms0_4 t) (hs0_4 t) x4) (prod x2 x4) (bandW_ix _ _ _ _ _ _) u d 11 le_rfl u.isLt).trans ?_)
  exact congrArg (· + prod x2 x4 u d) (congrFun (whole.read_unread xs) _)

end Point

end Cert.Dw

end
-- ==== Proof.Dw.Outs.lean ====
/- The last point of a phase stores the accumulator's contents. -/
module

public import proofs.«01_k».proof.Proof.Dw.Pieces

@[expose] public section

set_option maxRecDepth 16384

noncomputable section

namespace Cert.Dw

open Cert.Kernel2Ideal Cert.Kernel2Ideal.Gen
open Idealize.ShloMosaic

section Point
variable (c : Dev nD) (t : Fin cfg0.N) (x0 x1 x2 : Vec Ideal S512x2816 .bf16) (x3 x4 : Vec Ideal S512x1024 .bf16) (xs : Vec Ideal S2816x1024 .f32)

theorem runC_o (hc0 : ¬cond0_0 (grid0.coords t)) (hc1 : cond0_1 (grid0.coords t)) (hc2 : ¬cond0_2 (grid0.coords t)) (hc3 : ¬cond0_3 (grid0.coords t)) (hc4 : cond0_4 (grid0.coords t)) :
    (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).1 = oP (VS0_0.writes (Elt Ideal) VS0_0.junk (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1) := by
  unfold kernelRun0_C
  dsimp only
  unfold kernelRun0_C.sl.v15 oP View.readCov
  rfl

theorem outC (hc0 : ¬cond0_0 (grid0.coords t)) (hc1 : cond0_1 (grid0.coords t)) (hc2 : ¬cond0_2 (grid0.coords t)) (hc3 : ¬cond0_3 (grid0.coords t)) (hc4 : cond0_4 (grid0.coords t)) (u : Fin 2816) (d : Fin 1024) :
    out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix3 0 u d) = xs (ix2 u d) + prod x0 x3 u d := by
  have e : out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VO0_5.read (Elt Ideal) (VO0_5.writes (Elt Ideal) VO0_5.junk (oP (VS0_0.writes (Elt Ideal) VS0_0.junk (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1))) :=
    congrArg (fun L => VO0_5.read (Elt Ideal) (VO0_5.writes (Elt Ideal) VO0_5.junk L)) (runC_o c t x0 x1 x2 x3 x4 xs hc0 hc1 hc2 hc3 hc4)
  refine (congrFun e _).trans ((oP_read VO0_5 _ _ u d).trans ?_)
  rw [runC c t x0 x1 x2 x3 x4 xs hc0 hc1 hc2 hc3 hc4]
  refine (sP_read VS0_0 VS0_0.junk (whole.unread xs) (bandW (ms0_0 t) (hs0_0 t) x0 (ms0_3 t) (hs0_3 t) x3) (prod x0 x3) (bandW_ix _ _ _ _ _ _) u d 11 le_rfl u.isLt).trans ?_
  exact congrArg (· + prod x0 x3 u d) (congrFun (whole.read_unread xs) _)

theorem runF_o (hc0 : ¬cond0_0 (grid0.coords t)) (hc1 : ¬cond0_1 (grid0.coords t)) (hc2 : cond0_2 (grid0.coords t)) (hc3 : ¬cond0_3 (grid0.coords t)) (hc4 : cond0_4 (grid0.coords t)) :
    (kernelRun0_F (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).1 = oP (VS0_0.writes (Elt Ideal) VS0_0.junk (kernelRun0_F (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1) := by
  unfold kernelRun0_F
  dsimp only
  unfold kernelRun0_F.sl.v15 oP View.readCov
  rfl

theorem outF (hc0 : ¬cond0_0 (grid0.coords t)) (hc1 : ¬cond0_1 (grid0.coords t)) (hc2 : cond0_2 (grid0.coords t)) (hc3 : ¬cond0_3 (grid0.coords t)) (hc4 : cond0_4 (grid0.coords t)) (u : Fin 2816) (d : Fin 1024) :
    out0_F_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix3 0 u d) = xs (ix2 u d) + prod x1 x3 u d := by
  have e : out0_F_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VO0_5.read (Elt Ideal) (VO0_5.writes (Elt Ideal) VO0_5.junk (oP (VS0_0.writes (Elt Ideal) VS0_0.junk (kernelRun0_F (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1))) :=
    congrArg (fun L => VO0_5.read (Elt Ideal) (VO0_5.writes (Elt Ideal) VO0_5.junk L)) (runF_o c t x0 x1 x2 x3 x4 xs hc0 hc1 hc2 hc3 hc4)
  refine (congrFun e _).trans ((oP_read VO0_5 _ _ u d).trans ?_)
  rw [runF c t x0 x1 x2 x3 x4 xs hc0 hc1 hc2 hc3 hc4]
  refine (sP_read VS0_0 VS0_0.junk (whole.unread xs) (bandW (ms0_1 t) (hs0_1 t) x1 (ms0_3 t) (hs0_3 t) x3) (prod x1 x3) (bandW_ix _ _ _ _ _ _) u d 11 le_rfl u.isLt).trans ?_
  exact congrArg (· + prod x1 x3 u d) (congrFun (whole.read_unread xs) _)

theorem runI_o (hc0 : ¬cond0_0 (grid0.coords t)) (hc1 : ¬cond0_1 (grid0.coords t)) (hc2 : ¬cond0_2 (grid0.coords t)) (hc3 : cond0_3 (grid0.coords t)) (hc4 : cond0_4 (grid0.coords t)) :
    (kernelRun0_I (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).1 = oP (VS0_0.writes (Elt Ideal) VS0_0.junk (kernelRun0_I (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1) := by
  unfold kernelRun0_I
  dsimp only
  unfold kernelRun0_I.sl.v15 oP View.readCov
  rfl

theorem outI (hc0 : ¬cond0_0 (grid0.coords t)) (hc1 : ¬cond0_1 (grid0.coords t)) (hc2 : ¬cond0_2 (grid0.coords t)) (hc3 : cond0_3 (grid0.coords t)) (hc4 : cond0_4 (grid0.coords t)) (u : Fin 2816) (d : Fin 1024) :
    out0_I_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs (ix3 0 u d) = xs (ix2 u d) + prod x2 x4 u d := by
  have e : out0_I_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs = VO0_5.read (Elt Ideal) (VO0_5.writes (Elt Ideal) VO0_5.junk (oP (VS0_0.writes (Elt Ideal) VS0_0.junk (kernelRun0_I (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 whole hc0 hc1 hc2 hc3 hc4 x0 x1 x2 x3 x4 xs).2.1))) :=
    congrArg (fun L => VO0_5.read (Elt Ideal) (VO0_5.writes (Elt Ideal) VO0_5.junk L)) (runI_o c t x0 x1 x2 x3 x4 xs hc0 hc1 hc2 hc3 hc4)
  refine (congrFun e _).trans ((oP_read VO0_5 _ _ u d).trans ?_)
  rw [runI c t x0 x1 x2 x3 x4 xs hc0 hc1 hc2 hc3 hc4]
  refine (sP_read VS0_0 VS0_0.junk (whole.unread xs) (bandW (ms0_2 t) (hs0_2 t) x2 (ms0_4 t) (hs0_4 t) x4) (prod x2 x4) (bandW_ix _ _ _ _ _ _) u d 11 le_rfl u.isLt).trans ?_
  exact congrArg (· + prod x2 x4 u d) (congrFun (whole.read_unread xs) _)

end Point

end Cert.Dw

end
-- ==== Proof.Dw.Final.lean ====
/- The stacked weights' gradient after the run: each block holds what its phase's last point left there. -/
module

public import proofs.«01_k».proof.Proof.Gen.Kernel2Ideal.Frame
public import Idealize.ShloMosaic.Lib.Pipeline.Value

@[expose] public section

noncomputable section

namespace Cert.Dw

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem outs_congr (c : Dev nD) {n n' : ℕ} (h : n < cfg0.N) (h' : n' < cfg0.N) (e : n = n') : outsAt0 m c n h = outsAt0 m c n' h' := by
  subst e; rfl

theorem post5 (r : PUnit × MemSt nD τ sig (Elt F)) (h : Pipeline.FramePost cfgs (dats m) 0 (V m) r) (c : Dev nD) :
    r.2.mem ((c : Thread nD τ).loc main_v0) = (dats m 0 c).arrAt 5 cfg0.N :=
  (h c).1 5

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The phase that writes an index, its last point, and the index's place in the phase's block. -/
abbrev run5Of (i : S3x2816x1024.Idx) : ℕ := 1 * ((i 0).val / 1 - 0) + 1 * ((i 1).val / 2816 - 0) + 1 * ((i 2).val / 1024 - 0)
set_option backward.proofsInPublic true in
abbrev loc5Of (i : S3x2816x1024.Idx) : S1x2816x1024.Idx := fun a => match a with
  | ⟨0, _⟩ => ⟨(i 0).val % 1, Nat.mod_lt _ (by decide)⟩
  | ⟨1, _⟩ => ⟨(i 1).val % 2816, Nat.mod_lt _ (by decide)⟩
  | ⟨2, _⟩ => ⟨(i 2).val % 1024, Nat.mod_lt _ (by decide)⟩
abbrev pt5Of (i : S3x2816x1024.Idx) : ℕ := 16 * run5Of i + 15

theorem pt5Of_lt (i : S3x2816x1024.Idx) : pt5Of i < cfg0.N := by
  have h0 : (i 0).val < 3 := (i 0).isLt
  have h1 : (i 1).val < 2816 := (i 1).isLt
  have h2 : (i 2).val < 1024 := (i 2).isLt
  refine lt_of_lt_of_eq (b := 48) ?_ N_0.symm
  show 16 * (1 * ((i 0).val / 1 - 0) + 1 * ((i 1).val / 2816 - 0) + 1 * ((i 2).val / 1024 - 0)) + 15 < 48
  omega

/-- What the array ends holding. -/
def G5 (c : Dev nD) : Buf (Elt F) ((c : Thread nD τ).loc main_v0) := fun i =>
  (outsAt0 m c (pt5Of i) (pt5Of_lt i)).1 (loc5Of i)

theorem idx_facts5 : ∀ t : Fin cfg0.N, 0 ≤ win0_5.index t (0 : Fin 3) ∧ win0_5.index t (0 : Fin 3) ≤ 2
    ∧ 0 ≤ win0_5.index t (1 : Fin 3) ∧ win0_5.index t (1 : Fin 3) ≤ 0
    ∧ 0 ≤ win0_5.index t (2 : Fin 3) ∧ win0_5.index t (2 : Fin 3) ≤ 0
    ∧ 1 * (win0_5.index t (0 : Fin 3) - 0) + 1 * (win0_5.index t (1 : Fin 3) - 0) + 1 * (win0_5.index t (2 : Fin 3) - 0) = t.val / 16 :=
  (by decide +kernel : ∀ t : Fin grid0.N, _)

abbrev onto5Pt (q0 : Fin 3) (q1 : Fin 1) (q2 : Fin 1) : Fin grid0.N :=
  ⟨16 * (1 * q0.val + 1 * q1.val + 1 * q2.val) + 15, lt_of_lt_of_eq (by omega) N_0.symm⟩
theorem idx_onto5 : ∀ (q0 : Fin 3) (q1 : Fin 1) (q2 : Fin 1), ∃ t : Fin cfg0.N, (cfg0.win 5).flush t = true ∧ win0_5.index t = ![q0.val + 0, q1.val + 0, q2.val + 0] :=
  fun q0 q1 q2 => ⟨onto5Pt q0 q1 q2, (by decide +kernel : ∀ (q0 : Fin 3) (q1 : Fin 1) (q2 : Fin 1), win0_5.flush (onto5Pt q0 q1 q2) = true ∧ win0_5.index (onto5Pt q0 q1 q2) = ![q0.val + 0, q1.val + 0, q2.val + 0]) q0 q1 q2⟩

theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  have hm : t.val % 16 = 15 := (flush0_5 t).mp hf
  obtain ⟨e0, e1, e2, e3⟩ := idx_facts5 t
  funext y
  have hy0 : (y 0).val < 1 := (y 0).isLt
  have hy1 : (y 1).val < 2816 := (y 1).isLt
  have hy2 : (y 2).val < 1024 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 2816 + 1 * (y 1).val := rfl
  have hb2 : (((cfg0.win 5).blk t).view.emb y 2).val = win0_5.index t (2 : Fin 3) * 1024 + 1 * (y 2).val := rfl
  have hr : run5Of (((cfg0.win 5).blk t).view.emb y) = t.val / 16 := by
    show 1 * ((((cfg0.win 5).blk t).view.emb y 0).val / 1 - 0) + 1 * ((((cfg0.win 5).blk t).view.emb y 1).val / 2816 - 0) + 1 * ((((cfg0.win 5).blk t).view.emb y 2).val / 1024 - 0) = _
    rw [hb0, hb1, hb2]
    rw [show (win0_5.index t (0 : Fin 3) * 1 + 1 * (y 0).val) / 1 = win0_5.index t (0 : Fin 3) from by omega]; rw [show (win0_5.index t (1 : Fin 3) * 2816 + 1 * (y 1).val) / 2816 = win0_5.index t (1 : Fin 3) from by omega]; rw [show (win0_5.index t (2 : Fin 3) * 1024 + 1 * (y 2).val) / 1024 = win0_5.index t (2 : Fin 3) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 2816 = (y 1).val; rw [hb1]; omega
    | ⟨2, _⟩ => show (((cfg0.win 5).blk t).view.emb y 2).val % 1024 = (y 2).val; rw [hb2]; omega
  have hp : pt5Of (((cfg0.win 5).blk t).view.emb y) = t.val := by
    show 16 * run5Of (((cfg0.win 5).blk t).view.emb y) + 15 = _
    rw [hr]; have := Nat.div_add_mod t.val 16; omega
  show (outsAt0 m c t.val t.isLt).1 ((cfg0.win 5).xinj (grid0.coords t) y) = G5 m c (((cfg0.win 5).blk t).view.emb y)
  unfold G5
  rw [hl, outs_congr m c _ _ hp]

theorem mem_blk5 (t : Fin cfg0.N) (i : S3x2816x1024.Idx) :
    i ∈ ((cfg0.win 5).blk t).view.set ↔ ∀ a : Fin 3, win0_5.index t a * S1x2816x1024.size a ≤ (i a).val ∧ (i a).val < win0_5.index t a * S1x2816x1024.size a + S1x2816x1024.size a := by
  show i ∈ ((View.whole main_v0).slice (win0_5.rect t)).set ↔ _
  rw [View.set_slice_whole, Rect.mem_set_unit]
  exact Iff.rfl

theorem covered_iff5 (i : S3x2816x1024.Idx) :
    (∃ t : Fin cfg0.N, (cfg0.win 5).flush t = true ∧ i ∈ ((cfg0.win 5).blk t).view.set) ↔ 0 ≤ (i 0).val ∧ (i 0).val < 3 ∧ 0 ≤ (i 1).val ∧ (i 1).val < 2816 ∧ 0 ≤ (i 2).val ∧ (i 2).val < 1024 := by
  constructor
  · rintro ⟨t, -, hi⟩
    rw [mem_blk5] at hi
    have b0 : win0_5.index t (0 : Fin 3) * 1 ≤ (i 0).val ∧ (i 0).val < win0_5.index t (0 : Fin 3) * 1 + 1 := hi 0
    have b1 : win0_5.index t (1 : Fin 3) * 2816 ≤ (i 1).val ∧ (i 1).val < win0_5.index t (1 : Fin 3) * 2816 + 2816 := hi 1
    have b2 : win0_5.index t (2 : Fin 3) * 1024 ≤ (i 2).val ∧ (i 2).val < win0_5.index t (2 : Fin 3) * 1024 + 1024 := hi 2
    obtain ⟨e0, e1, e2, e3⟩ := idx_facts5 t
    omega
  · intro h
    have hi0 : (i 0).val < 3 := (i 0).isLt
    have hi1 : (i 1).val < 2816 := (i 1).isLt
    have hi2 : (i 2).val < 1024 := (i 2).isLt
    obtain ⟨t, hft, ht⟩ := idx_onto5 ⟨(i 0).val / 1 - 0, by omega⟩ ⟨(i 1).val / 2816 - 0, by omega⟩ ⟨(i 2).val / 1024 - 0, by omega⟩
    have q0 : win0_5.index t (0 : Fin 3) = (i 0).val / 1 - 0 + 0 := congrFun ht 0
    have q1 : win0_5.index t (1 : Fin 3) = (i 1).val / 2816 - 0 + 0 := congrFun ht 1
    have q2 : win0_5.index t (2 : Fin 3) = (i 2).val / 1024 - 0 + 0 := congrFun ht 2
    refine ⟨t, hft, ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 2816 ≤ (i 1).val ∧ (i 1).val < win0_5.index t (1 : Fin 3) * 2816 + 2816; omega
    | ⟨2, _⟩ => show win0_5.index t (2 : Fin 3) * 1024 ≤ (i 2).val ∧ (i 2).val < win0_5.index t (2 : Fin 3) * 1024 + 1024; omega

theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 3 := (i 0).isLt; have h1 : (i 1).val < 2816 := (i 1).isLt; have h2 : (i 2).val < 1024 := (i 2).isLt; omega))

theorem run : θ_run defs (onTc (τ := τ) (main (F := F))) ⟨m, fun _ => 0, ρ⟩ fun r => ∀ c : Dev nD,
      r.2.mem ((c : Thread nD τ).loc main_v0) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      kept_main_arg0 m r h c,
      kept_main_arg1 m r h c,
      kept_main_arg2 m r h c,
      kept_main_arg3 m r h c,
      kept_main_arg4 m r h c⟩)
    (run_main m ρ)

end Cert.Dw

end
-- ==== Proof.Dw.Ref.lean ====
/- The reference's weights' gradients at an index: sums over the tokens. -/
module

public import proofs.«01_k».proof.Proof.Gen.Reference2Ideal.Run
public import Idealize.ShloMosaic.Lib.Pointwise
public import Idealize.ShloMosaic.Lib.IdealHost

@[expose] public section

noncomputable section

namespace Cert.Dw

open Cert.Reference2Ideal Cert.Reference2Ideal.Gen
open Idealize.ShloMosaic Idealize.ShloMosaic.TcCoe Idealize.ShloMosaic.StableHlo

theorem sum_ext {n : ℕ} {f g : Fin n → EReal} (h : ∀ k, f k = g k) : ∑ k, f k = ∑ k, g k := Finset.sum_congr rfl fun k _ => h k

/-- The reference's result. -/
def ref {F : FTy → Type} [FloatOps F] (x0 x1 x2 : Vec F S8192x2816 .bf16) (x3 x4 : Vec F S8192x1024 .bf16) : Vec F S3x2816x1024 .bf16 :=
  truncf .bf16 ((concatenate S3x2816x1024 0 [⟨S1x2816x1024, ((broadcastInDim S1x2816x1024 ![1, 2] bcast_S2816x1024_S1x2816x1024_1_2 (transpose S2816x1024 [1, 0] (transpose S1024x2816 [1, 0] (Host.dotGeneral dot_S8192x2816_S8192x1024_S2816x1024_0_0_1_1_n_n none (extf .f32 x0 bitsLt_bf16_f32) (extf .f32 x3 bitsLt_bf16_f32)) transposes_S2816x1024_S1024x2816_1_0) transposes_S1024x2816_S2816x1024_1_0)) : (⟨S1x2816x1024, .f32⟩ : BufTy).Contents (Elt F))⟩, ⟨S1x2816x1024, ((broadcastInDim S1x2816x1024 ![1, 2] bcast_S2816x1024_S1x2816x1024_1_2 (transpose S2816x1024 [1, 0] (transpose S1024x2816 [1, 0] (Host.dotGeneral dot_S8192x2816_S8192x1024_S2816x1024_0_0_1_1_n_n none (extf .f32 x1 bitsLt_bf16_f32) (extf .f32 x3 bitsLt_bf16_f32)) transposes_S2816x1024_S1024x2816_1_0) transposes_S1024x2816_S2816x1024_1_0)) : (⟨S1x2816x1024, .f32⟩ : BufTy).Contents (Elt F))⟩, ⟨S1x2816x1024, ((broadcastInDim S1x2816x1024 ![1, 2] bcast_S2816x1024_S1x2816x1024_1_2 (transpose S2816x1024 [1, 0] (Host.dotGeneral dot_S8192x1024_S8192x2816_S1024x2816_0_0_1_1_n_n none (extf .f32 x4 bitsLt_bf16_f32) (extf .f32 x2 bitsLt_bf16_f32)) transposes_S1024x2816_S2816x1024_1_0)) : (⟨S1x2816x1024, .f32⟩ : BufTy).Contents (Elt F))⟩] concatenates_S1x2816x1024_S1x2816x1024_S1x2816x1024_S3x2816x1024_d0 : (⟨S3x2816x1024, .f32⟩ : BufTy).Contents (Elt F))) bitsLt_bf16_f32

theorem ref_zero (x0 x1 x2 : Vec Ideal S8192x2816 .bf16) (x3 x4 : Vec Ideal S8192x1024 .bf16) (u : Fin 2816) (d : Fin 1024) :
    ref (F := Ideal) x0 x1 x2 x3 x4 (ix3 0 u d) = (∑ t : Fin 8192, x0 (ix2 t u) * x3 (ix2 t d) : EReal) := by
  pointwise [ref]

theorem ref_one (x0 x1 x2 : Vec Ideal S8192x2816 .bf16) (x3 x4 : Vec Ideal S8192x1024 .bf16) (u : Fin 2816) (d : Fin 1024) :
    ref (F := Ideal) x0 x1 x2 x3 x4 (ix3 1 u d) = (∑ t : Fin 8192, x1 (ix2 t u) * x3 (ix2 t d) : EReal) := by
  pointwise [ref]

theorem ref_two (x0 x1 x2 : Vec Ideal S8192x2816 .bf16) (x3 x4 : Vec Ideal S8192x1024 .bf16) (u : Fin 2816) (d : Fin 1024) :
    ref (F := Ideal) x0 x1 x2 x3 x4 (ix3 2 u d) = (∑ t : Fin 8192, x2 (ix2 t u) * x4 (ix2 t d) : EReal) := by
  refine Eq.trans ?_ (sum_ext fun t => mul_comm (x4 (ix2 t d) : EReal) (x2 (ix2 t u)))
  pointwise [ref]

end Cert.Dw

end
-- ==== Proof.Dw.Main.lean ====
/- The weights' gradients of a feed-forward block: what the launch leaves is what the reference computes. -/
module

public import proofs.«01_k».proof.Proof.Dw.Outs
public import proofs.«01_k».proof.Proof.Dw.Final
public import proofs.«01_k».proof.Proof.Dw.Ref
public import Idealize.ShloMosaic.Lib.Pointwise

@[expose] public section

set_option maxRecDepth 16384

noncomputable section

namespace Cert.Dw

open Cert.Kernel2Ideal Cert.Kernel2Ideal.Gen
open Idealize.ShloMosaic Idealize.ShloMosaic.TcCoe

/-- The 8192 tokens in 16 tiles of 512. -/
abbrev tok (n : Fin 16) (k : Fin 512) : Fin 8192 := ⟨512 * n.val + k.val, by have := n.isLt; have := k.isLt; omega⟩

theorem sum_tiles (f : Fin 8192 → EReal) : ∑ n : Fin 16, ∑ k : Fin 512, f (tok n k) = ∑ t, f t := by
  rw [← Fintype.sum_prod_type' (f := fun n k => f (tok n k))]
  refine Fintype.sum_equiv (finProdFinEquiv (m := 16) (n := 512)) _ _ fun x => congrArg f (Fin.ext ?_)
  show 512 * x.1.val + x.2.val = x.2.val + 512 * x.1.val
  omega

variable (m : (ℓ : Loc nD τ sig) → Buf (Elt Ideal) ℓ) (c : Dev nD)

section Point
variable (t : Fin cfg0.N)

/-- What a point adds to the accumulator. -/
def P (u : Fin 2816) (d : Fin 1024) : EReal :=
  if t.val < 16 then prod (iblk m c 0 t) (iblk m c 3 t) u d else if t.val < 32 then prod (iblk m c 1 t) (iblk m c 3 t) u d
    else prod (iblk m c 2 t) (iblk m c 4 t) u d

abbrev acc (n : ℕ) (hn : n < cfg0.N) : Vec Ideal S2816x1024 .f32 := (outsAt0 m c n hn).2
abbrev prev (n : ℕ) (hn : n < cfg0.N) : n - 1 < cfg0.N := Nat.lt_of_le_of_lt (Nat.sub_le _ _) hn

theorem P_zero (h : t.val < 16) (u : Fin 2816) (d : Fin 1024) : P m c t u d = prod (iblk m c 0 t) (iblk m c 3 t) u d := by
  unfold P; rw [if_pos h]
theorem P_one (h : ¬t.val < 16) (h' : t.val < 32) (u : Fin 2816) (d : Fin 1024) : P m c t u d = prod (iblk m c 1 t) (iblk m c 3 t) u d := by
  unfold P; rw [if_neg h, if_pos h']
theorem P_two (h : ¬t.val < 32) (u : Fin 2816) (d : Fin 1024) : P m c t u d = prod (iblk m c 2 t) (iblk m c 4 t) u d := by
  unfold P; rw [if_neg (by omega), if_neg h]

theorem atA (h0 : t.val % 16 = 0) (h1 : t.val < 16) (h2 : ¬t.val / 16 % 3 = 1) (h3 : ¬32 ≤ t.val) (h4 : ¬t.val % 16 = 15) (u : Fin 2816) (d : Fin 1024) : acc m c t.val t.isLt (ix2 u d) = prod (iblk m c 0 t) (iblk m c 3 t) u d := by
  refine Eq.trans ?_ (scrA c t (iblk m c 0 t) (iblk m c 1 t) (iblk m c 2 t) (iblk m c 3 t) (iblk m c 4 t) ((hcond0_0 t).mpr h0) ((hcond0_1 t).mpr h1) (fun h => h2 ((hcond0_2 t).mp h)) (fun h => h3 ((hcond0_3 t).mp h)) (fun h => h4 ((hcond0_4 t).mp h)) u d)
  show (outsAt0 m c t.val t.isLt).2 (ix2 u d) = _
  rw [outsAt0_A m c t h0 h1 h2 h3 h4]

theorem atB (h0 : ¬t.val % 16 = 0) (h1 : t.val < 16) (h2 : ¬t.val / 16 % 3 = 1) (h3 : ¬32 ≤ t.val) (h4 : ¬t.val % 16 = 15) (u : Fin 2816) (d : Fin 1024) : acc m c t.val t.isLt (ix2 u d) = acc m c (t.val - 1) (prev _ t.isLt) (ix2 u d) + prod (iblk m c 0 t) (iblk m c 3 t) u d := by
  refine Eq.trans ?_ (scrB c t (iblk m c 0 t) (iblk m c 1 t) (iblk m c 2 t) (iblk m c 3 t) (iblk m c 4 t) (acc m c (t.val - 1) (prev _ t.isLt)) (fun h => h0 ((hcond0_0 t).mp h)) ((hcond0_1 t).mpr h1) (fun h => h2 ((hcond0_2 t).mp h)) (fun h => h3 ((hcond0_3 t).mp h)) (fun h => h4 ((hcond0_4 t).mp h)) u d)
  show (outsAt0 m c t.val t.isLt).2 (ix2 u d) = _
  rw [outsAt0_B m c t h0 h1 h2 h3 h4]

theorem atC (h0 : ¬t.val % 16 = 0) (h1 : t.val < 16) (h2 : ¬t.val / 16 % 3 = 1) (h3 : ¬32 ≤ t.val) (h4 : t.val % 16 = 15) (u : Fin 2816) (d : Fin 1024) : acc m c t.val t.isLt (ix2 u d) = acc m c (t.val - 1) (prev _ t.isLt) (ix2 u d) + prod (iblk m c 0 t) (iblk m c 3 t) u d := by
  refine Eq.trans ?_ (scrC c t (iblk m c 0 t) (iblk m c 1 t) (iblk m c 2 t) (iblk m c 3 t) (iblk m c 4 t) (acc m c (t.val - 1) (prev _ t.isLt)) (fun h => h0 ((hcond0_0 t).mp h)) ((hcond0_1 t).mpr h1) (fun h => h2 ((hcond0_2 t).mp h)) (fun h => h3 ((hcond0_3 t).mp h)) ((hcond0_4 t).mpr h4) u d)
  show (outsAt0 m c t.val t.isLt).2 (ix2 u d) = _
  rw [outsAt0_C m c t h0 h1 h2 h3 h4]

theorem lastC (h0 : ¬t.val % 16 = 0) (h1 : t.val < 16) (h2 : ¬t.val / 16 % 3 = 1) (h3 : ¬32 ≤ t.val) (h4 : t.val % 16 = 15) (u : Fin 2816) (d : Fin 1024) : (outsAt0 m c t.val t.isLt).1 (ix3 0 u d) = acc m c (t.val - 1) (prev _ t.isLt) (ix2 u d) + prod (iblk m c 0 t) (iblk m c 3 t) u d := by
  refine Eq.trans ?_ (outC c t (iblk m c 0 t) (iblk m c 1 t) (iblk m c 2 t) (iblk m c 3 t) (iblk m c 4 t) (acc m c (t.val - 1) (prev _ t.isLt)) (fun h => h0 ((hcond0_0 t).mp h)) ((hcond0_1 t).mpr h1) (fun h => h2 ((hcond0_2 t).mp h)) (fun h => h3 ((hcond0_3 t).mp h)) ((hcond0_4 t).mpr h4) u d)
  rw [outsAt0_C m c t h0 h1 h2 h3 h4]

theorem atD (h0 : t.val % 16 = 0) (h1 : ¬t.val < 16) (h2 : t.val / 16 % 3 = 1) (h3 : ¬32 ≤ t.val) (h4 : ¬t.val % 16 = 15) (u : Fin 2816) (d : Fin 1024) : acc m c t.val t.isLt (ix2 u d) = prod (iblk m c 1 t) (iblk m c 3 t) u d := by
  refine Eq.trans ?_ (scrD c t (iblk m c 0 t) (iblk m c 1 t) (iblk m c 2 t) (iblk m c 3 t) (iblk m c 4 t) ((hcond0_0 t).mpr h0) (fun h => h1 ((hcond0_1 t).mp h)) ((hcond0_2 t).mpr h2) (fun h => h3 ((hcond0_3 t).mp h)) (fun h => h4 ((hcond0_4 t).mp h)) u d)
  show (outsAt0 m c t.val t.isLt).2 (ix2 u d) = _
  rw [outsAt0_D m c t h0 h1 h2 h3 h4]

theorem atE (h0 : ¬t.val % 16 = 0) (h1 : ¬t.val < 16) (h2 : t.val / 16 % 3 = 1) (h3 : ¬32 ≤ t.val) (h4 : ¬t.val % 16 = 15) (u : Fin 2816) (d : Fin 1024) : acc m c t.val t.isLt (ix2 u d) = acc m c (t.val - 1) (prev _ t.isLt) (ix2 u d) + prod (iblk m c 1 t) (iblk m c 3 t) u d := by
  refine Eq.trans ?_ (scrE c t (iblk m c 0 t) (iblk m c 1 t) (iblk m c 2 t) (iblk m c 3 t) (iblk m c 4 t) (acc m c (t.val - 1) (prev _ t.isLt)) (fun h => h0 ((hcond0_0 t).mp h)) (fun h => h1 ((hcond0_1 t).mp h)) ((hcond0_2 t).mpr h2) (fun h => h3 ((hcond0_3 t).mp h)) (fun h => h4 ((hcond0_4 t).mp h)) u d)
  show (outsAt0 m c t.val t.isLt).2 (ix2 u d) = _
  rw [outsAt0_E m c t h0 h1 h2 h3 h4]

theorem atF (h0 : ¬t.val % 16 = 0) (h1 : ¬t.val < 16) (h2 : t.val / 16 % 3 = 1) (h3 : ¬32 ≤ t.val) (h4 : t.val % 16 = 15) (u : Fin 2816) (d : Fin 1024) : acc m c t.val t.isLt (ix2 u d) = acc m c (t.val - 1) (prev _ t.isLt) (ix2 u d) + prod (iblk m c 1 t) (iblk m c 3 t) u d := by
  refine Eq.trans ?_ (scrF c t (iblk m c 0 t) (iblk m c 1 t) (iblk m c 2 t) (iblk m c 3 t) (iblk m c 4 t) (acc m c (t.val - 1) (prev _ t.isLt)) (fun h => h0 ((hcond0_0 t).mp h)) (fun h => h1 ((hcond0_1 t).mp h)) ((hcond0_2 t).mpr h2) (fun h => h3 ((hcond0_3 t).mp h)) ((hcond0_4 t).mpr h4) u d)
  show (outsAt0 m c t.val t.isLt).2 (ix2 u d) = _
  rw [outsAt0_F m c t h0 h1 h2 h3 h4]

theorem lastF (h0 : ¬t.val % 16 = 0) (h1 : ¬t.val < 16) (h2 : t.val / 16 % 3 = 1) (h3 : ¬32 ≤ t.val) (h4 : t.val % 16 = 15) (u : Fin 2816) (d : Fin 1024) : (outsAt0 m c t.val t.isLt).1 (ix3 0 u d) = acc m c (t.val - 1) (prev _ t.isLt) (ix2 u d) + prod (iblk m c 1 t) (iblk m c 3 t) u d := by
  refine Eq.trans ?_ (outF c t (iblk m c 0 t) (iblk m c 1 t) (iblk m c 2 t) (iblk m c 3 t) (iblk m c 4 t) (acc m c (t.val - 1) (prev _ t.isLt)) (fun h => h0 ((hcond0_0 t).mp h)) (fun h => h1 ((hcond0_1 t).mp h)) ((hcond0_2 t).mpr h2) (fun h => h3 ((hcond0_3 t).mp h)) ((hcond0_4 t).mpr h4) u d)
  rw [outsAt0_F m c t h0 h1 h2 h3 h4]

theorem atG (h0 : t.val % 16 = 0) (h1 : ¬t.val < 16) (h2 : ¬t.val / 16 % 3 = 1) (h3 : 32 ≤ t.val) (h4 : ¬t.val % 16 = 15) (u : Fin 2816) (d : Fin 1024) : acc m c t.val t.isLt (ix2 u d) = prod (iblk m c 2 t) (iblk m c 4 t) u d := by
  refine Eq.trans ?_ (scrG c t (iblk m c 0 t) (iblk m c 1 t) (iblk m c 2 t) (iblk m c 3 t) (iblk m c 4 t) ((hcond0_0 t).mpr h0) (fun h => h1 ((hcond0_1 t).mp h)) (fun h => h2 ((hcond0_2 t).mp h)) ((hcond0_3 t).mpr h3) (fun h => h4 ((hcond0_4 t).mp h)) u d)
  show (outsAt0 m c t.val t.isLt).2 (ix2 u d) = _
  rw [outsAt0_G m c t h0 h1 h2 h3 h4]

theorem atH (h0 : ¬t.val % 16 = 0) (h1 : ¬t.val < 16) (h2 : ¬t.val / 16 % 3 = 1) (h3 : 32 ≤ t.val) (h4 : ¬t.val % 16 = 15) (u : Fin 2816) (d : Fin 1024) : acc m c t.val t.isLt (ix2 u d) = acc m c (t.val - 1) (prev _ t.isLt) (ix2 u d) + prod (iblk m c 2 t) (iblk m c 4 t) u d := by
  refine Eq.trans ?_ (scrH c t (iblk m c 0 t) (iblk m c 1 t) (iblk m c 2 t) (iblk m c 3 t) (iblk m c 4 t) (acc m c (t.val - 1) (prev _ t.isLt)) (fun h => h0 ((hcond0_0 t).mp h)) (fun h => h1 ((hcond0_1 t).mp h)) (fun h => h2 ((hcond0_2 t).mp h)) ((hcond0_3 t).mpr h3) (fun h => h4 ((hcond0_4 t).mp h)) u d)
  show (outsAt0 m c t.val t.isLt).2 (ix2 u d) = _
  rw [outsAt0_H m c t h0 h1 h2 h3 h4]

theorem atI (h0 : ¬t.val % 16 = 0) (h1 : ¬t.val < 16) (h2 : ¬t.val / 16 % 3 = 1) (h3 : 32 ≤ t.val) (h4 : t.val % 16 = 15) (u : Fin 2816) (d : Fin 1024) : acc m c t.val t.isLt (ix2 u d) = acc m c (t.val - 1) (prev _ t.isLt) (ix2 u d) + prod (iblk m c 2 t) (iblk m c 4 t) u d := by
  refine Eq.trans ?_ (scrI c t (iblk m c 0 t) (iblk m c 1 t) (iblk m c 2 t) (iblk m c 3 t) (iblk m c 4 t) (acc m c (t.val - 1) (prev _ t.isLt)) (fun h => h0 ((hcond0_0 t).mp h)) (fun h => h1 ((hcond0_1 t).mp h)) (fun h => h2 ((hcond0_2 t).mp h)) ((hcond0_3 t).mpr h3) ((hcond0_4 t).mpr h4) u d)
  show (outsAt0 m c t.val t.isLt).2 (ix2 u d) = _
  rw [outsAt0_I m c t h0 h1 h2 h3 h4]

theorem lastI (h0 : ¬t.val % 16 = 0) (h1 : ¬t.val < 16) (h2 : ¬t.val / 16 % 3 = 1) (h3 : 32 ≤ t.val) (h4 : t.val % 16 = 15) (u : Fin 2816) (d : Fin 1024) : (outsAt0 m c t.val t.isLt).1 (ix3 0 u d) = acc m c (t.val - 1) (prev _ t.isLt) (ix2 u d) + prod (iblk m c 2 t) (iblk m c 4 t) u d := by
  refine Eq.trans ?_ (outI c t (iblk m c 0 t) (iblk m c 1 t) (iblk m c 2 t) (iblk m c 3 t) (iblk m c 4 t) (acc m c (t.val - 1) (prev _ t.isLt)) (fun h => h0 ((hcond0_0 t).mp h)) (fun h => h1 ((hcond0_1 t).mp h)) (fun h => h2 ((hcond0_2 t).mp h)) ((hcond0_3 t).mpr h3) ((hcond0_4 t).mpr h4) u d)
  rw [outsAt0_I m c t h0 h1 h2 h3 h4]

theorem acc_first (h0 : t.val % 16 = 0) (u : Fin 2816) (d : Fin 1024) : acc m c t.val t.isLt (ix2 u d) = P m c t u d := by
  have hN : t.val < 48 := lt_of_lt_of_eq t.isLt N_0
  by_cases h1 : t.val < 16
  · rw [P_zero m c t h1]
    exact atA m c t h0 h1 (by omega) (by omega) (by omega) u d
  · by_cases h3 : t.val < 32
    · rw [P_one m c t h1 h3]
      exact atD m c t h0 h1 (by omega) (by omega) (by omega) u d
    · rw [P_two m c t h3]
      exact atG m c t h0 h1 (by omega) (by omega) (by omega) u d

theorem acc_next (h0 : ¬t.val % 16 = 0) (u : Fin 2816) (d : Fin 1024) :
    acc m c t.val t.isLt (ix2 u d) = acc m c (t.val - 1) (prev _ t.isLt) (ix2 u d) + P m c t u d := by
  have hN : t.val < 48 := lt_of_lt_of_eq t.isLt N_0
  by_cases h4 : t.val % 16 = 15
  · by_cases h1 : t.val < 16
    · rw [P_zero m c t h1]
      exact atC m c t h0 h1 (by omega) (by omega) h4 u d
    · by_cases h3 : t.val < 32
      · rw [P_one m c t h1 h3]
        exact atF m c t h0 h1 (by omega) (by omega) h4 u d
      · rw [P_two m c t h3]
        exact atI m c t h0 h1 (by omega) (by omega) h4 u d
  · by_cases h1 : t.val < 16
    · rw [P_zero m c t h1]
      exact atB m c t h0 h1 (by omega) (by omega) h4 u d
    · by_cases h3 : t.val < 32
      · rw [P_one m c t h1 h3]
        exact atE m c t h0 h1 (by omega) (by omega) h4 u d
      · rw [P_two m c t h3]
        exact atH m c t h0 h1 (by omega) (by omega) h4 u d

theorem last_out (h4 : t.val % 16 = 15) (u : Fin 2816) (d : Fin 1024) :
    (outsAt0 m c t.val t.isLt).1 (ix3 0 u d) = acc m c t.val t.isLt (ix2 u d) := by
  have hN : t.val < 48 := lt_of_lt_of_eq t.isLt N_0
  have h0 : ¬t.val % 16 = 0 := by omega
  rw [acc_next m c t h0 u d]
  by_cases h1 : t.val < 16
  · rw [P_zero m c t h1]
    exact lastC m c t h0 h1 (by omega) (by omega) h4 u d
  · by_cases h3 : t.val < 32
    · rw [P_one m c t h1 h3]
      exact lastF m c t h0 h1 (by omega) (by omega) h4 u d
    · rw [P_two m c t h3]
      exact lastI m c t h0 h1 (by omega) (by omega) h4 u d

end Point

abbrev pt (p : Fin 3) (n : Fin 16) : Fin cfg0.N := ⟨16 * p.val + n.val, lt_of_lt_of_eq (show 16 * p.val + n.val < 48 by omega) N_0.symm⟩

theorem acc_sum (p : Fin 3) (u : Fin 2816) (d : Fin 1024) : ∀ n (hn : n < 16),
    acc m c (pt p ⟨n, hn⟩).val (pt p ⟨n, hn⟩).isLt (ix2 u d) = ∑ n' : Fin (n + 1), P m c (pt p ⟨n'.val, by omega⟩) u d
  | 0, hn => by
    rw [acc_first m c (pt p ⟨0, hn⟩) (show (16 * p.val + 0) % 16 = 0 by omega), Fin.sum_univ_one]
    rfl
  | n + 1, hn => by
    rw [Fin.sum_univ_castSucc, acc_next m c (pt p ⟨n + 1, hn⟩) (show ¬(16 * p.val + (n + 1)) % 16 = 0 by omega)]
    exact congrArg (· + _) (acc_sum p u d n (by omega))

theorem G5_ix (p : Fin 3) (u : Fin 2816) (d : Fin 1024) : G5 m c (ix3 p u d) = ∑ n : Fin 16, P m c (pt p n) u d := by
  rw [show (∑ n : Fin 16, P m c (pt p n) u d) = ∑ n' : Fin (15 + 1), P m c (pt p ⟨n'.val, by omega⟩) u d from rfl,
    ← acc_sum m c p u d 15 (by omega), ← last_out m c (pt p ⟨15, by omega⟩) (show (16 * p.val + 15) % 16 = 15 by omega)]
  unfold G5
  have e2 : loc5Of (ix3 p u d) = ix3 0 u d := by
    funext i
    apply Fin.ext
    match i with
    | ⟨0, _⟩ => show p.val % 1 = 0; omega
    | ⟨1, _⟩ => show u.val % 2816 = u.val; omega
    | ⟨2, _⟩ => show d.val % 1024 = d.val; omega
  have e1 : pt5Of (ix3 p u d) = (pt p ⟨15, by omega⟩).val := by
    show 16 * (1 * (p.val / 1 - 0) + 1 * (u.val / 2816 - 0) + 1 * (d.val / 1024 - 0)) + 15 = 16 * p.val + 15
    omega
  rw [e2, outs_congr m c _ (pt p ⟨15, by omega⟩).isLt e1]

/-! ## The blocks -/

theorem index0 : ∀ t : Fin cfg0.N, t.val < 16 → win0_0.index t (0 : Fin 2) = t.val % 16 ∧ win0_0.index t (1 : Fin 2) = 0 := (by decide +kernel : ∀ t : Fin grid0.N, _)
theorem index1 : ∀ t : Fin cfg0.N, t.val / 16 = 1 → win0_1.index t (0 : Fin 2) = t.val % 16 ∧ win0_1.index t (1 : Fin 2) = 0 := (by decide +kernel : ∀ t : Fin grid0.N, _)
theorem index2 : ∀ t : Fin cfg0.N, 32 ≤ t.val → win0_2.index t (0 : Fin 2) = t.val % 16 ∧ win0_2.index t (1 : Fin 2) = 0 := (by decide +kernel : ∀ t : Fin grid0.N, _)
theorem index3 : ∀ t : Fin cfg0.N, t.val < 32 → win0_3.index t (0 : Fin 2) = t.val % 16 ∧ win0_3.index t (1 : Fin 2) = 0 := (by decide +kernel : ∀ t : Fin grid0.N, _)
theorem index4 : ∀ t : Fin cfg0.N, 32 ≤ t.val → win0_4.index t (0 : Fin 2) = t.val % 16 ∧ win0_4.index t (1 : Fin 2) = 0 := (by decide +kernel : ∀ t : Fin grid0.N, _)

/-- The arguments as the launch finds them. -/
abbrev A0 : Vec Ideal S8192x2816 .bf16 := m ((c : Thread nD τ).loc main_arg0)
abbrev A1 : Vec Ideal S8192x2816 .bf16 := m ((c : Thread nD τ).loc main_arg1)
abbrev A2 : Vec Ideal S8192x2816 .bf16 := m ((c : Thread nD τ).loc main_arg2)
abbrev A3 : Vec Ideal S8192x1024 .bf16 := m ((c : Thread nD τ).loc main_arg3)
abbrev A4 : Vec Ideal S8192x1024 .bf16 := m ((c : Thread nD τ).loc main_arg4)

theorem blk0_ix (t : Fin cfg0.N) (n : Fin 16) (h : t.val < 16) (hn : t.val % 16 = n.val) (k : Fin 512) (j : Fin 2816) :
    (iblk m c 0 t : Vec Ideal S512x2816 .bf16) (ix2 k j) = A0 m c (ix2 (tok n k) j) := by
  obtain ⟨e0, e1⟩ := index0 t h
  show Gen.V m c main_arg0 (((cfg0.win 0).blk t).view.emb (ix2 k j)) = _
  rw [V_main_arg0 m c]
  refine congrArg (m ((c : Thread nD τ).loc main_arg0)) (funext fun a => Fin.ext ?_)
  match a with
  | ⟨0, _⟩ => show win0_0.index t (0 : Fin 2) * 512 + 1 * k.val = 512 * n.val + k.val; rw [e0, hn]; omega
  | ⟨1, _⟩ => show win0_0.index t (1 : Fin 2) * 2816 + 1 * j.val = j.val; rw [e1]; omega

theorem blk1_ix (t : Fin cfg0.N) (n : Fin 16) (h : t.val / 16 = 1) (hn : t.val % 16 = n.val) (k : Fin 512) (j : Fin 2816) :
    (iblk m c 1 t : Vec Ideal S512x2816 .bf16) (ix2 k j) = A1 m c (ix2 (tok n k) j) := by
  obtain ⟨e0, e1⟩ := index1 t h
  show Gen.V m c main_arg1 (((cfg0.win 1).blk t).view.emb (ix2 k j)) = _
  rw [V_main_arg1 m c]
  refine congrArg (m ((c : Thread nD τ).loc main_arg1)) (funext fun a => Fin.ext ?_)
  match a with
  | ⟨0, _⟩ => show win0_1.index t (0 : Fin 2) * 512 + 1 * k.val = 512 * n.val + k.val; rw [e0, hn]; omega
  | ⟨1, _⟩ => show win0_1.index t (1 : Fin 2) * 2816 + 1 * j.val = j.val; rw [e1]; omega

theorem blk2_ix (t : Fin cfg0.N) (n : Fin 16) (h : 32 ≤ t.val) (hn : t.val % 16 = n.val) (k : Fin 512) (j : Fin 2816) :
    (iblk m c 2 t : Vec Ideal S512x2816 .bf16) (ix2 k j) = A2 m c (ix2 (tok n k) j) := by
  obtain ⟨e0, e1⟩ := index2 t h
  show Gen.V m c main_arg2 (((cfg0.win 2).blk t).view.emb (ix2 k j)) = _
  rw [V_main_arg2 m c]
  refine congrArg (m ((c : Thread nD τ).loc main_arg2)) (funext fun a => Fin.ext ?_)
  match a with
  | ⟨0, _⟩ => show win0_2.index t (0 : Fin 2) * 512 + 1 * k.val = 512 * n.val + k.val; rw [e0, hn]; omega
  | ⟨1, _⟩ => show win0_2.index t (1 : Fin 2) * 2816 + 1 * j.val = j.val; rw [e1]; omega

theorem blk3_ix (t : Fin cfg0.N) (n : Fin 16) (h : t.val < 32) (hn : t.val % 16 = n.val) (k : Fin 512) (j : Fin 1024) :
    (iblk m c 3 t : Vec Ideal S512x1024 .bf16) (ix2 k j) = A3 m c (ix2 (tok n k) j) := by
  obtain ⟨e0, e1⟩ := index3 t h
  show Gen.V m c main_arg3 (((cfg0.win 3).blk t).view.emb (ix2 k j)) = _
  rw [V_main_arg3 m c]
  refine congrArg (m ((c : Thread nD τ).loc main_arg3)) (funext fun a => Fin.ext ?_)
  match a with
  | ⟨0, _⟩ => show win0_3.index t (0 : Fin 2) * 512 + 1 * k.val = 512 * n.val + k.val; rw [e0, hn]; omega
  | ⟨1, _⟩ => show win0_3.index t (1 : Fin 2) * 1024 + 1 * j.val = j.val; rw [e1]; omega

theorem blk4_ix (t : Fin cfg0.N) (n : Fin 16) (h : 32 ≤ t.val) (hn : t.val % 16 = n.val) (k : Fin 512) (j : Fin 1024) :
    (iblk m c 4 t : Vec Ideal S512x1024 .bf16) (ix2 k j) = A4 m c (ix2 (tok n k) j) := by
  obtain ⟨e0, e1⟩ := index4 t h
  show Gen.V m c main_arg4 (((cfg0.win 4).blk t).view.emb (ix2 k j)) = _
  rw [V_main_arg4 m c]
  refine congrArg (m ((c : Thread nD τ).loc main_arg4)) (funext fun a => Fin.ext ?_)
  match a with
  | ⟨0, _⟩ => show win0_4.index t (0 : Fin 2) * 512 + 1 * k.val = 512 * n.val + k.val; rw [e0, hn]; omega
  | ⟨1, _⟩ => show win0_4.index t (1 : Fin 2) * 1024 + 1 * j.val = j.val; rw [e1]; omega

theorem G5_zero (u : Fin 2816) (d : Fin 1024) : G5 m c (ix3 0 u d) = (∑ t : Fin 8192, A0 m c (ix2 t u) * A3 m c (ix2 t d) : EReal) := by
  rw [G5_ix, ← sum_tiles]
  refine sum_ext fun n => ?_
  rw [P_zero m c (pt 0 n) (show 16 * 0 + n.val < 16 by omega)]
  unfold prod
  exact sum_ext fun k => by rw [blk0_ix m c (pt 0 n) n (show 16 * 0 + n.val < 16 by omega) (show (16 * 0 + n.val) % 16 = n.val by omega),
    blk3_ix m c (pt 0 n) n (show 16 * 0 + n.val < 32 by omega) (show (16 * 0 + n.val) % 16 = n.val by omega)]

theorem G5_one (u : Fin 2816) (d : Fin 1024) : G5 m c (ix3 1 u d) = (∑ t : Fin 8192, A1 m c (ix2 t u) * A3 m c (ix2 t d) : EReal) := by
  rw [G5_ix, ← sum_tiles]
  refine sum_ext fun n => ?_
  rw [P_one m c (pt 1 n) (show ¬16 * 1 + n.val < 16 by omega) (show 16 * 1 + n.val < 32 by omega)]
  unfold prod
  exact sum_ext fun k => by rw [blk1_ix m c (pt 1 n) n (show (16 * 1 + n.val) / 16 = 1 by omega) (show (16 * 1 + n.val) % 16 = n.val by omega),
    blk3_ix m c (pt 1 n) n (show 16 * 1 + n.val < 32 by omega) (show (16 * 1 + n.val) % 16 = n.val by omega)]

theorem G5_two (u : Fin 2816) (d : Fin 1024) : G5 m c (ix3 2 u d) = (∑ t : Fin 8192, A2 m c (ix2 t u) * A4 m c (ix2 t d) : EReal) := by
  rw [G5_ix, ← sum_tiles]
  refine sum_ext fun n => ?_
  rw [P_two m c (pt 2 n) (show ¬16 * 2 + n.val < 32 by omega)]
  unfold prod
  exact sum_ext fun k => by rw [blk2_ix m c (pt 2 n) n (show 32 ≤ 16 * 2 + n.val by omega) (show (16 * 2 + n.val) % 16 = n.val by omega),
    blk4_ix m c (pt 2 n) n (show 32 ≤ 16 * 2 + n.val by omega) (show (16 * 2 + n.val) % 16 = n.val by omega)]

theorem result : G5 m c = ref (F := Ideal) (A0 m c) (A1 m c) (A2 m c) (A3 m c) (A4 m c) := by
  funext i
  obtain ⟨p, u, d, rfl⟩ : ∃ (p : Fin 3) (u : Fin 2816) (d : Fin 1024), i = ix3 p u d := ⟨i 0, i 1, i 2, by
    funext a
    match a with
    | ⟨0, _⟩ => rfl
    | ⟨1, _⟩ => rfl
    | ⟨2, _⟩ => rfl⟩
  match p with
  | ⟨0, _⟩ => exact (G5_zero m c u d).trans (ref_zero _ _ _ _ _ u d).symm
  | ⟨1, _⟩ => exact (G5_one m c u d).trans (ref_one _ _ _ _ _ u d).symm
  | ⟨2, _⟩ => exact (G5_two m c u d).trans (ref_two _ _ _ _ _ u d).symm

end Cert.Dw

end
-- ==== Proof.Mid.Tile.lean ====
/- The two gradients at the hidden width, of one tile of 512 tokens: eleven bands of 256 columns, each one product. -/
module

public import proofs.«01_k».proof.Proof.Gen.Kernel3Ideal.Frame
public import Idealize.ShloMosaic.Lib.Pipeline.ValueKit.Tiles
public import Idealize.ShloMosaic.Lib.Pointwise
public import Idealize.ShloMosaic.Lib.IdealHost

@[expose] public section

noncomputable section

namespace Cert.Mid

open Cert.Kernel3Ideal Cert.Kernel3Ideal.Gen
open Idealize.ShloMosaic Idealize.ShloMosaic.TcCoe

theorem sum_ext {n : ℕ} {f g : Fin n → EReal} (h : ∀ k, f k = g k) : ∑ k, f k = ∑ k, g k := Finset.sum_congr rfl fun k _ => h k

/-- A band: the product of the rows and of 256 columns, times the activation's partial derivative. -/
def stepT {F : FTy → Type} [FloatOps F] (x : Vec F S512x1024 .bf16) (w : Vec F S256x1024 .bf16) (y : Vec F S512x256 .bf16) : FVec F S512x256 .bf16 :=
  truncf .bf16 (mulf (matmul dot_S512x1024_S256x1024_S512x256_1_1_0_0_n_n none x w (constant S512x256 .f32 0x00000000#32))
    (extf .f32 y bitsLt_bf16_f32)) bitsLt_bf16_f32

theorem stepT_ix (x : Vec Ideal S512x1024 .bf16) (w : Vec Ideal S256x1024 .bf16) (y : Vec Ideal S512x256 .bf16) (a : Fin 512) (b : Fin 256) :
    stepT (F := Ideal) x w y (ix2 a b) = ((∑ k : Fin 1024, x (ix2 a k) * w (ix2 b k)) * y (ix2 a b) : EReal) := by
  pointwise [stepT]

theorem prod_ext {f f' : Fin 1024 → EReal} {y y' : EReal} (h : ∀ k, f k = f' k) (e : y = y') : (∑ k, f k) * y = (∑ k, f' k) * y' := by
  rw [sum_ext h, e]
theorem mul_ext {a b a' b' : EReal} (h : a = a') (e : b = b') : a * b = a' * b' := by rw [h, e]

theorem piece (x0 : Vec Ideal S512x1024 .bf16) (x1 : Vec Ideal S2816x1024 .bf16) (y : Vec Ideal S512x2816 .bf16) (j : ℕ)
    (i0 : ∀ a, (![0, 0] : Fin 2 → ℕ) a + S512x1024.size a ≤ S512x1024.size a) (i1 : ∀ a, (![j, 0] : Fin 2 → ℕ) a + S256x1024.size a ≤ S2816x1024.size a)
    (i2 : ∀ a, (![0, j] : Fin 2 → ℕ) a + S512x256.size a ≤ S512x2816.size a)
    (x : S512x256.Idx) (u : Fin 512) (n : Fin 2816) (h0 : u.val = (x 0).val) (h1 : n.val = j + (x 1).val) :
    stepT (F := Ideal) (View.ld x0 (Rect.unit (s := S512x1024) ![0, 0] S512x1024.size i0)) (View.ld x1 (Rect.unit (s := S2816x1024) ![j, 0] S256x1024.size i1))
      (View.ld y (Rect.unit (s := S512x2816) ![0, j] S512x256.size i2)) x = ((∑ k : Fin 1024, x0 (ix2 u k) * x1 (ix2 n k)) * y (ix2 u n) : EReal) := by
  obtain ⟨a, b, rfl⟩ : ∃ (a : Fin 512) (b : Fin 256), x = ix2 a b := ⟨x 0, x 1, funext fun a => match a with | ⟨0, _⟩ => rfl | ⟨1, _⟩ => rfl⟩
  have h0' : u.val = a.val := h0
  have h1' : n.val = j + b.val := h1
  refine (stepT_ix _ _ _ a b).trans (prod_ext (fun k => mul_ext ?_ ?_) ?_)
  · refine congrArg x0 (funext fun i => Fin.ext ?_)
    match i with
    | ⟨0, _⟩ => show 0 + 1 * a.val = u.val; omega
    | ⟨1, _⟩ => show 0 + 1 * k.val = k.val; omega
  · refine congrArg x1 (funext fun i => Fin.ext ?_)
    match i with
    | ⟨0, _⟩ => show j + 1 * b.val = n.val; omega
    | ⟨1, _⟩ => show 0 + 1 * k.val = k.val; omega
  · refine congrArg y (funext fun i => Fin.ext ?_)
    match i with
    | ⟨0, _⟩ => show 0 + 1 * a.val = u.val; omega
    | ⟨1, _⟩ => show j + 1 * b.val = n.val; omega

theorem out4 (x0 : Vec Ideal S512x1024 .bf16) (x1 : Vec Ideal S2816x1024 .bf16) (x2 x3 : Vec Ideal S512x2816 .bf16) (u : Fin 512) (n : Fin 2816) :
    out0_4 (F := Ideal) x0 x1 x2 x3 (ix2 u n) = ((∑ k : Fin 1024, x0 (ix2 u k) * x1 (ix2 n k)) * x3 (ix2 u n) : EReal) := by
  unfold_out out0_4
  canon_tiles x h using cover0_4 ..
  all_goals first
    | exact piece x0 x1 x3 _ _ _ _ x u n h0 h1
    | exact piece x0 x1 x3 0 _ _ _ x u n h0 (h1.trans (Nat.zero_add _).symm)

theorem out5 (x0 : Vec Ideal S512x1024 .bf16) (x1 : Vec Ideal S2816x1024 .bf16) (x2 x3 : Vec Ideal S512x2816 .bf16) (u : Fin 512) (n : Fin 2816) :
    out0_5 (F := Ideal) x0 x1 x2 x3 (ix2 u n) = ((∑ k : Fin 1024, x0 (ix2 u k) * x1 (ix2 n k)) * x2 (ix2 u n) : EReal) := by
  unfold_out out0_5
  canon_tiles x h using cover0_5 ..
  all_goals first
    | exact piece x0 x1 x2 _ _ _ _ x u n h0 h1
    | exact piece x0 x1 x2 0 _ _ _ x u n h0 (h1.trans (Nat.zero_add _).symm)

end Cert.Mid

end
-- ==== Proof.Mid.Ref.lean ====
/- The reference of the gradients at the hidden width, at an index. -/
module

public import proofs.«01_k».proof.Proof.Gen.Reference3Ideal.Run
public import Idealize.ShloMosaic.Lib.Pointwise
public import Idealize.ShloMosaic.Lib.IdealHost

@[expose] public section

noncomputable section

namespace Cert.Mid

open Cert.Reference3Ideal Cert.Reference3Ideal.Gen
open Idealize.ShloMosaic Idealize.ShloMosaic.TcCoe Idealize.ShloMosaic.StableHlo

/-- A gradient at the hidden width: the product of the cotangent and of the weights, times the activation's partial derivative. -/
def ref {F : FTy → Type} [FloatOps F] (x0 : Vec F S8192x1024 .bf16) (x1 : Vec F S2816x1024 .bf16) (y : Vec F S8192x2816 .bf16) : Vec F S8192x2816 .bf16 :=
  truncf .bf16 (mulf (extf .f32 y bitsLt_bf16_f32) (Host.dotGeneral dot_S8192x1024_S2816x1024_S8192x2816_1_1_0_0_n_n none (extf .f32 x0 bitsLt_bf16_f32) (extf .f32 x1 bitsLt_bf16_f32))) bitsLt_bf16_f32

theorem ref_ix (x0 : Vec Ideal S8192x1024 .bf16) (x1 : Vec Ideal S2816x1024 .bf16) (y : Vec Ideal S8192x2816 .bf16) (t : Fin 8192) (n : Fin 2816) :
    ref (F := Ideal) x0 x1 y (ix2 t n) = ((∑ k : Fin 1024, x0 (ix2 t k) * x1 (ix2 n k)) * y (ix2 t n) : EReal) := by
  refine Eq.trans ?_ (mul_comm (y (ix2 t n) : EReal) _)
  pointwise [ref]

end Cert.Mid

end
-- ==== Proof.Mid.Main.lean ====
/- The gradients at the hidden width: what the launch leaves is what the reference computes. -/
module

public import proofs.«01_k».proof.Proof.Gen.Kernel3Ideal.Value
public import proofs.«01_k».proof.Proof.Mid.Tile
public import proofs.«01_k».proof.Proof.Mid.Ref

@[expose] public section

set_option maxRecDepth 16384

noncomputable section

namespace Cert.Mid

open Cert.Kernel3Ideal Cert.Kernel3Ideal.Gen
open Idealize.ShloMosaic Idealize.ShloMosaic.TcCoe

variable (m : (ℓ : Loc nD τ sig) → Buf (Elt Ideal) ℓ) (ρ : Dev nD → PrngReg) (c : Dev nD)

abbrev A0 : Vec Ideal S8192x1024 .bf16 := m ((c : Thread nD τ).loc main_arg0)
abbrev A1 : Vec Ideal S2816x1024 .bf16 := m ((c : Thread nD τ).loc main_arg1)
abbrev A2 : Vec Ideal S8192x2816 .bf16 := m ((c : Thread nD τ).loc main_arg2)
abbrev A3 : Vec Ideal S8192x2816 .bf16 := m ((c : Thread nD τ).loc main_arg3)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

theorem lt_N (t : Fin cfg0.N) : t.val < 16 := lt_of_lt_of_eq t.isLt N_0

/-- A token of the tile `t`. -/
abbrev tok (t : Fin cfg0.N) (u : Fin 512) : Fin 8192 := ⟨512 * t.val + u.val, by have := lt_N t; have := u.isLt; omega⟩

theorem blk0_ix (t : Fin cfg0.N) (u : Fin 512) (k : Fin 1024) :
    (iblk m c 0 t : Vec Ideal S512x1024 .bf16) (ix2 u k) = A0 m c (ix2 (tok t u) k) := by
  obtain ⟨e0, e1⟩ := index0 t
  show Gen.V m c main_arg0 (((cfg0.win 0).blk t).view.emb (ix2 u k)) = _
  rw [V_main_arg0 m c]
  refine congrArg (m ((c : Thread nD τ).loc main_arg0)) (funext fun a => Fin.ext ?_)
  match a with
  | ⟨0, _⟩ => show win0_0.index t (0 : Fin 2) * 512 + 1 * u.val = 512 * t.val + u.val; rw [e0]; omega
  | ⟨1, _⟩ => show win0_0.index t (1 : Fin 2) * 1024 + 1 * k.val = k.val; rw [e1]; omega

theorem blk1_ix (t : Fin cfg0.N) (n : Fin 2816) (k : Fin 1024) :
    (iblk m c 1 t : Vec Ideal S2816x1024 .bf16) (ix2 n k) = A1 m c (ix2 n k) := by
  obtain ⟨e0, e1⟩ := index1 t
  show Gen.V m c main_arg1 (((cfg0.win 1).blk t).view.emb (ix2 n k)) = _
  rw [V_main_arg1 m c]
  refine congrArg (m ((c : Thread nD τ).loc main_arg1)) (funext fun a => Fin.ext ?_)
  match a with
  | ⟨0, _⟩ => show win0_1.index t (0 : Fin 2) * 2816 + 1 * n.val = n.val; rw [e0]; omega
  | ⟨1, _⟩ => show win0_1.index t (1 : Fin 2) * 1024 + 1 * k.val = k.val; rw [e1]; omega

theorem blk2_ix (t : Fin cfg0.N) (u : Fin 512) (n : Fin 2816) :
    (iblk m c 2 t : Vec Ideal S512x2816 .bf16) (ix2 u n) = A2 m c (ix2 (tok t u) n) := by
  obtain ⟨e0, e1⟩ := index2 t
  show Gen.V m c main_arg2 (((cfg0.win 2).blk t).view.emb (ix2 u n)) = _
  rw [V_main_arg2 m c]
  refine congrArg (m ((c : Thread nD τ).loc main_arg2)) (funext fun a => Fin.ext ?_)
  match a with
  | ⟨0, _⟩ => show win0_2.index t (0 : Fin 2) * 512 + 1 * u.val = 512 * t.val + u.val; rw [e0]; omega
  | ⟨1, _⟩ => show win0_2.index t (1 : Fin 2) * 2816 + 1 * n.val = n.val; rw [e1]; omega

theorem blk3_ix (t : Fin cfg0.N) (u : Fin 512) (n : Fin 2816) :
    (iblk m c 3 t : Vec Ideal S512x2816 .bf16) (ix2 u n) = A3 m c (ix2 (tok t u) n) := by
  obtain ⟨e0, e1⟩ := index3 t
  show Gen.V m c main_arg3 (((cfg0.win 3).blk t).view.emb (ix2 u n)) = _
  rw [V_main_arg3 m c]
  refine congrArg (m ((c : Thread nD τ).loc main_arg3)) (funext fun a => Fin.ext ?_)
  match a with
  | ⟨0, _⟩ => show win0_3.index t (0 : Fin 2) * 512 + 1 * u.val = 512 * t.val + u.val; rw [e0]; omega
  | ⟨1, _⟩ => show win0_3.index t (1 : Fin 2) * 2816 + 1 * n.val = n.val; rw [e1]; omega

theorem tile4 (t : Fin cfg0.N) (u : Fin 512) (n : Fin 2816) :
    out0_4 (F := Ideal) (iblk m c 0 t) (iblk m c 1 t) (iblk m c 2 t) (iblk m c 3 t) (ix2 u n)
      = ref (F := Ideal) (A0 m c) (A1 m c) (A3 m c) (ix2 (tok t u) n) :=
  (out4 _ _ _ _ u n).trans (Eq.trans (prod_ext (fun k => mul_ext (blk0_ix m c t u k) (blk1_ix m c t n k)) (blk3_ix m c t u n))
    (ref_ix (A0 m c) (A1 m c) (A3 m c) (tok t u) n).symm)

theorem flushed4_eq (t : Fin cfg0.N) :
    (dats m 0 c).flushed 4 t = ((cfg0.win 4).blk t).view.read (Elt Ideal) (ref (F := Ideal) (A0 m c) (A1 m c) (A3 m c)) := by
  rw [Value.flushed4 m c t]
  obtain ⟨e0, e1⟩ := index4 t
  funext y
  have hu : (y 0).val < 512 := (y 0).isLt
  have hn : (y 1).val < 2816 := (y 1).isLt
  refine Eq.trans (congrArg (out0_4 (F := Ideal) (iblk m c 0 t) (iblk m c 1 t) (iblk m c 2 t) (iblk m c 3 t)) (?_ : _ = ix2 ⟨(y 0).val, hu⟩ ⟨(y 1).val, hn⟩))
    ((tile4 m c t ⟨(y 0).val, hu⟩ ⟨(y 1).val, hn⟩).trans (congrArg (ref (F := Ideal) (A0 m c) (A1 m c) (A3 m c)) (?_ : _ = ((cfg0.win 4).blk t).view.emb y)))
  · funext a
    match a with
    | ⟨0, _⟩ => rfl
    | ⟨1, _⟩ => rfl
  · refine funext fun a => Fin.ext ?_
    match a with
    | ⟨0, _⟩ => show 512 * t.val + (y 0).val = win0_4.index t (0 : Fin 2) * 512 + 1 * (y 0).val; rw [e0]; omega
    | ⟨1, _⟩ => show (y 1).val = win0_4.index t (1 : Fin 2) * 2816 + 1 * (y 1).val; rw [e1]; omega

theorem mem_blk4 (t : Fin cfg0.N) (i : S8192x2816.Idx) :
    i ∈ ((cfg0.win 4).blk t).view.set ↔ ∀ a : Fin 2, win0_4.index t a * S512x2816.size a ≤ (i a).val ∧ (i a).val < win0_4.index t a * S512x2816.size a + S512x2816.size a := by
  show i ∈ ((View.whole main_v0_0).slice (win0_4.rect t)).set ↔ _
  rw [View.set_slice_whole, Rect.mem_set_unit]
  exact Iff.rfl

theorem covered4 (i : S8192x2816.Idx) : ∃ t : Fin cfg0.N, (cfg0.win 4).flush t = true ∧ i ∈ ((cfg0.win 4).blk t).view.set := by
  have h0 : (i 0).val < 8192 := (i 0).isLt
  have h1 : (i 1).val < 2816 := (i 1).isLt
  refine ⟨⟨(i 0).val / 512, lt_of_lt_of_eq (by omega) N_0.symm⟩, ((by decide +kernel : ∀ t : Fin grid0.N, win0_4.flush t = true) _), ?_⟩
  rw [mem_blk4]
  obtain ⟨e0, e1⟩ := index4 ⟨(i 0).val / 512, lt_of_lt_of_eq (by omega) N_0.symm⟩
  intro a
  match a with
  | ⟨0, _⟩ => show win0_4.index _ (0 : Fin 2) * 512 ≤ (i 0).val ∧ (i 0).val < win0_4.index _ (0 : Fin 2) * 512 + 512; rw [e0]; show (i 0).val / 512 * 512 ≤ (i 0).val ∧ (i 0).val < (i 0).val / 512 * 512 + 512; omega
  | ⟨1, _⟩ => show win0_4.index _ (1 : Fin 2) * 2816 ≤ (i 1).val ∧ (i 1).val < win0_4.index _ (1 : Fin 2) * 2816 + 2816; rw [e1]; omega

theorem final4 : (dats m 0 c).arrAt 4 cfg0.N = ref (F := Ideal) (A0 m c) (A1 m c) (A3 m c) :=
  (dats m 0 c).arrAt_eq_of_cover 4 _ (fun t _ => flushed4_eq m c t) (fun i => covered4 i)

theorem tile5 (t : Fin cfg0.N) (u : Fin 512) (n : Fin 2816) :
    out0_5 (F := Ideal) (iblk m c 0 t) (iblk m c 1 t) (iblk m c 2 t) (iblk m c 3 t) (ix2 u n)
      = ref (F := Ideal) (A0 m c) (A1 m c) (A2 m c) (ix2 (tok t u) n) :=
  (out5 _ _ _ _ u n).trans (Eq.trans (prod_ext (fun k => mul_ext (blk0_ix m c t u k) (blk1_ix m c t n k)) (blk2_ix m c t u n))
    (ref_ix (A0 m c) (A1 m c) (A2 m c) (tok t u) n).symm)

theorem flushed5_eq (t : Fin cfg0.N) :
    (dats m 0 c).flushed 5 t = ((cfg0.win 5).blk t).view.read (Elt Ideal) (ref (F := Ideal) (A0 m c) (A1 m c) (A2 m c)) := by
  rw [Value.flushed5 m c t]
  obtain ⟨e0, e1⟩ := index5 t
  funext y
  have hu : (y 0).val < 512 := (y 0).isLt
  have hn : (y 1).val < 2816 := (y 1).isLt
  refine Eq.trans (congrArg (out0_5 (F := Ideal) (iblk m c 0 t) (iblk m c 1 t) (iblk m c 2 t) (iblk m c 3 t)) (?_ : _ = ix2 ⟨(y 0).val, hu⟩ ⟨(y 1).val, hn⟩))
    ((tile5 m c t ⟨(y 0).val, hu⟩ ⟨(y 1).val, hn⟩).trans (congrArg (ref (F := Ideal) (A0 m c) (A1 m c) (A2 m c)) (?_ : _ = ((cfg0.win 5).blk t).view.emb y)))
  · funext a
    match a with
    | ⟨0, _⟩ => rfl
    | ⟨1, _⟩ => rfl
  · refine funext fun a => Fin.ext ?_
    match a with
    | ⟨0, _⟩ => show 512 * t.val + (y 0).val = win0_5.index t (0 : Fin 2) * 512 + 1 * (y 0).val; rw [e0]; omega
    | ⟨1, _⟩ => show (y 1).val = win0_5.index t (1 : Fin 2) * 2816 + 1 * (y 1).val; rw [e1]; omega

theorem mem_blk5 (t : Fin cfg0.N) (i : S8192x2816.Idx) :
    i ∈ ((cfg0.win 5).blk t).view.set ↔ ∀ a : Fin 2, win0_5.index t a * S512x2816.size a ≤ (i a).val ∧ (i a).val < win0_5.index t a * S512x2816.size a + S512x2816.size a := by
  show i ∈ ((View.whole main_v0_1).slice (win0_5.rect t)).set ↔ _
  rw [View.set_slice_whole, Rect.mem_set_unit]
  exact Iff.rfl

theorem covered5 (i : S8192x2816.Idx) : ∃ t : Fin cfg0.N, (cfg0.win 5).flush t = true ∧ i ∈ ((cfg0.win 5).blk t).view.set := by
  have h0 : (i 0).val < 8192 := (i 0).isLt
  have h1 : (i 1).val < 2816 := (i 1).isLt
  refine ⟨⟨(i 0).val / 512, lt_of_lt_of_eq (by omega) N_0.symm⟩, ((by decide +kernel : ∀ t : Fin grid0.N, win0_5.flush t = true) _), ?_⟩
  rw [mem_blk5]
  obtain ⟨e0, e1⟩ := index5 ⟨(i 0).val / 512, lt_of_lt_of_eq (by omega) N_0.symm⟩
  intro a
  match a with
  | ⟨0, _⟩ => show win0_5.index _ (0 : Fin 2) * 512 ≤ (i 0).val ∧ (i 0).val < win0_5.index _ (0 : Fin 2) * 512 + 512; rw [e0]; show (i 0).val / 512 * 512 ≤ (i 0).val ∧ (i 0).val < (i 0).val / 512 * 512 + 512; omega
  | ⟨1, _⟩ => show win0_5.index _ (1 : Fin 2) * 2816 ≤ (i 1).val ∧ (i 1).val < win0_5.index _ (1 : Fin 2) * 2816 + 2816; rw [e1]; omega

theorem final5 : (dats m 0 c).arrAt 5 cfg0.N = ref (F := Ideal) (A0 m c) (A1 m c) (A2 m c) :=
  (dats m 0 c).arrAt_eq_of_cover 5 _ (fun t _ => flushed5_eq m c t) (fun i => covered5 i)

theorem run : θ_run defs (onTc (τ := τ) (main (F := Ideal))) ⟨m, fun _ => 0, ρ⟩ fun r => ∀ c : Dev nD,
      r.2.mem ((c : Thread nD τ).loc main_v0_0) = ref (F := Ideal) (A0 m c) (A1 m c) (A3 m c)
      ∧ r.2.mem ((c : Thread nD τ).loc main_v0_1) = ref (F := Ideal) (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post4 m r h c).trans (final4 m c), (Value.post5 m r h c).trans (final5 m c),
      Value.kept_main_arg0 m r h c, Value.kept_main_arg1 m r h c, Value.kept_main_arg2 m r h c, Value.kept_main_arg3 m r h c⟩)
    (run_main m ρ)

end Cert.Mid

end
-- ==== Proof.Mid.Claims.lean ====
/- The claims on the gradients at the hidden width: the frames and the equality of the results. -/
module

public import proofs.«01_k».proof.Defs
public import proofs.«01_k».proof.Proof.Gen.Kernel3.Frame
public import proofs.«01_k».proof.Proof.Mid.Main

@[expose] public section

noncomputable section

namespace Cert.Mid

open Idealize.ShloMosaic Idealize.SL.Sem

theorem frame_kernel : Cert.quiescent_Kernel3 (hKernel3 := Cert.Kernel3.Gen.facts) := fun m ρ _ => Cert.Kernel3.Gen.frame m ρ

theorem frame_kernelIdeal : Cert.quiescent_Kernel3Ideal (hKernel3Ideal := Cert.Kernel3Ideal.Gen.facts) := fun m ρ _ =>
  Cert.Kernel3Ideal.Gen.frame m ρ

theorem frame_referenceIdeal : Cert.quiescent_Reference3Ideal (hReference3Ideal := Cert.Reference3Ideal.Gen.facts) := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The two gradients at the hidden width, of the kernel and of the reference. -/
theorem values : Cert.algebraic_Kernel3Ideal_Reference3Ideal (hKernel3Ideal := Cert.Kernel3Ideal.Gen.facts)
    (hReference3Ideal := Cert.Reference3Ideal.Gen.facts) := by
  intro m g m' g' _ hagree
  refine ⟨fun c => ref (F := Ideal) (A0 m c) (A1 m c) (A3 m c), fun c => ref (F := Ideal) (A0 m c) (A1 m c) (A2 m c), run m g, ?_⟩
  refine (θ_run Cert.Reference3Ideal.defs _ _).mono (fun r h c => ?_) (Cert.Reference3Ideal.Value.run (F := Ideal) m' g')
  obtain ⟨r0, r1, a⟩ := h c
  obtain ⟨e0, e1, e2, e3⟩ := hagree c
  refine ⟨r0.trans ?_, r1.trans ?_, a⟩
  · rw [e0, e1, e3]; rfl
  · rw [e0, e1, e2]; rfl

end Cert.Mid

end
-- ==== Proof.Up.Math.lean ====
/- The gated activation and its partial derivatives, over the extended reals. -/
module

public import Idealize.ShloMosaic.PureOps.Ideal

@[expose] public section

noncomputable section

namespace Cert.Up

open Idealize.ShloMosaic

/-- The activation by `u`, its value and its derivative by `h`, as the kernel computes them. -/
def fS (h : EReal) : EReal := h * Ideal.logistic h
def fA (h u : EReal) : EReal := h * Ideal.logistic h * u
def fD (h u : EReal) : EReal := fA h u + Ideal.logistic h * (u - fA h u)

/-- The derivative by `h` of the product rule. -/
def gD (h u : EReal) : EReal := u * Ideal.logistic h + h * u * (Ideal.logistic h * (1 - Ideal.logistic h))

theorem fD_eq (h u : ℝ) : fD h u = gD h u := by
  unfold fD gD fA
  rw [Ideal.logistic_coe]
  norm_cast
  ring

theorem fD_eq_of {h u : EReal} (hh : ∃ r : ℝ, h = r) (hu : ∃ r : ℝ, u = r) : fD h u = gD h u := by
  obtain ⟨a, rfl⟩ := hh
  obtain ⟨b, rfl⟩ := hu
  exact fD_eq a b

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- A product of finite rows is finite. -/
theorem real_sum {n : ℕ} {f g : Fin n → EReal} (hf : ∀ k, ∃ r : ℝ, f k = r) (hg : ∀ k, ∃ r : ℝ, g k = r) : ∃ r : ℝ, ∑ k, f k * g k = r := by
  choose a ha using hf
  choose b hb using hg
  refine ⟨∑ k, a k * b k, ?_⟩
  rw [coe_sum]
  refine Finset.sum_congr rfl fun k _ => ?_
  rw [ha k, hb k, EReal.coe_mul]

end Cert.Up

end
-- ==== Proof.Dx.Math.lean ====
/- One row of the derivative of a layer normalisation

`U` is a row that was normalised, `E` the derivative of the normalised row, already scaled.  `kDu` is the derivative of
`U` as the kernel writes it, `rDu` as reverse differentiation leaves it.  They agree when `E` is real: both are zero when `U` has an
infinite entry, since the variance is then infinite. -/
module

public import Idealize.ShloMosaic.PureOps.Ideal
public import proofs.«01_k».proof.Proof.Up.Math

@[expose] public section

noncomputable section

namespace Cert.Dx

open Idealize.ShloMosaic Idealize.ShloMosaic.TcCoe

abbrev wC : EReal := Ideal.ofBits .f32 0x44800000#32
abbrev wEps : EReal := Ideal.ofBits .f32 0x3727C5AC#32
abbrev wMH : EReal := Ideal.ofBits .f32 0xBF000000#32

theorem wC_eq : wC = ((1024 : ℝ) : EReal) := by
  simp [wC, Ideal.ofBits, Ideal.ieee, -EReal.coe_mul]; norm_num
theorem wMH_eq : wMH = ((-(1 / 2) : ℝ) : EReal) := by
  simp [wMH, Ideal.ofBits, Ideal.ieee, -EReal.coe_mul, -EReal.coe_neg]; norm_num
theorem wEps_eq : wEps = ((10995116 / 1099511627776 : ℝ) : EReal) := by
  simp [wEps, Ideal.ofBits, Ideal.ieee, -EReal.coe_mul]; norm_num
theorem div_C (x : EReal) : Ideal.div x wC = x * ((1 / 1024 : ℝ) : EReal) := by
  rw [wC_eq, Ideal.div_coe (by norm_num)]

variable (U E : Fin 1024 → EReal)

def kXc (k : Fin 1024) : EReal := U k - Ideal.div (∑ j, U j) wC
def kV : EReal := Ideal.div (∑ j, kXc U j * kXc U j) wC + wEps
def kR : EReal := Ideal.rsqrt (kV U)
def kDu (k : Fin 1024) : EReal :=
  kR U * (E k - Ideal.div (∑ j, E j) wC - kXc U k * kR U * Ideal.div (∑ j, E j * (kXc U j * kR U)) wC)

def rZ : EReal := Ideal.div ((∑ j, kXc U j * E j) * (wMH * Ideal.div (kR U) (kV U))) wC
def rW (k : Fin 1024) : EReal := E k * kR U + kXc U k * rZ U E + rZ U E * kXc U k
def rDu (k : Fin 1024) : EReal := rW U E k + Ideal.div (∑ j, -(rW U E j)) wC

theorem real_du (x e : Fin 1024 → ℝ) (r v : ℝ) (hr : r * r = 1 / v) (hx : ∑ j, x j = 0) (k : Fin 1024) :
    r * (e k - (∑ j, e j) * (1 / 1024) - x k * r * ((∑ j, e j * (x j * r)) * (1 / 1024)))
      = (e k * r + x k * ((∑ j, x j * e j) * (-(1 / 2) * (r * (1 / v))) * (1 / 1024))
          + (∑ j, x j * e j) * (-(1 / 2) * (r * (1 / v))) * (1 / 1024) * x k)
        + (∑ j, -(e j * r + x j * ((∑ j, x j * e j) * (-(1 / 2) * (r * (1 / v))) * (1 / 1024))
          + (∑ j, x j * e j) * (-(1 / 2) * (r * (1 / v))) * (1 / 1024) * x j)) * (1 / 1024) := by
  have h1 : ∑ j, e j * (x j * r) = (∑ j, x j * e j) * r := by
    rw [Finset.sum_mul]; exact Finset.sum_congr rfl fun j _ => by ring
  generalize ∑ j, x j * e j = S at h1 ⊢
  rw [h1]
  have h2 : ∀ z : ℝ, ∑ j, -(e j * r + x j * z + z * x j) = -((∑ j, e j) * r) := by
    intro z
    have : ∀ j, -(e j * r + x j * z + z * x j) = -(e j * r) - (2 * z) * x j := fun j => by ring
    rw [Finset.sum_congr rfl fun j _ => this j, Finset.sum_sub_distrib, ← Finset.mul_sum, hx, Finset.sum_neg_distrib, Finset.sum_mul]
    ring
  rw [h2, ← hr]
  ring

theorem du_eq_real (hU : ∀ j, ∃ r : ℝ, U j = r) (hE : ∀ j, ∃ r : ℝ, E j = r) (k : Fin 1024) : kDu U E k = rDu U E k := by
  choose u hu using hU
  choose e he using hE
  have hxc : ∀ j, kXc U j = ((u j - (∑ i, u i) * (1 / 1024) : ℝ) : EReal) := fun j => by
    unfold kXc
    rw [div_C, hu j, Finset.sum_congr rfl fun i _ => hu i, ← Cert.Up.coe_sum, ← EReal.coe_mul, ← EReal.coe_sub]
  have hx0 : ∑ j, (u j - (∑ i, u i) * (1 / 1024)) = 0 := by
    rw [Finset.sum_sub_distrib, Finset.sum_const, Finset.card_univ, Fintype.card_fin, nsmul_eq_mul]
    push_cast; ring
  generalize hx : (fun j => u j - (∑ i, u i) * (1 / 1024)) = x at hx0
  have hxc' : ∀ j, kXc U j = (x j : EReal) := fun j => by rw [hxc j, ← hx]
  have hxs : ∑ j, x j = 0 := by rw [← hx0, ← hx]
  have hv : kV U = (((∑ j, x j * x j) * (1 / 1024) + 10995116 / 1099511627776 : ℝ) : EReal) := by
    unfold kV
    rw [div_C, wEps_eq, Finset.sum_congr rfl fun j _ => show kXc U j * kXc U j = ((x j * x j : ℝ) : EReal) by rw [hxc' j, EReal.coe_mul],
      ← Cert.Up.coe_sum, ← EReal.coe_mul, ← EReal.coe_add]
  have hpos : 0 < (∑ j, x j * x j) * (1 / 1024) + 10995116 / 1099511627776 := by
    have : 0 ≤ ∑ j, x j * x j := Finset.sum_nonneg fun j _ => mul_self_nonneg (x j)
    positivity
  generalize (∑ j, x j * x j) * (1 / 1024) + 10995116 / 1099511627776 = v at hv hpos
  have hr : kR U = (((√v)⁻¹ : ℝ) : EReal) := by
    unfold kR
    rw [hv, Ideal.rsqrt_coe, if_neg (not_lt.mpr hpos.le), if_neg hpos.ne']
  have hrr : (√v)⁻¹ * (√v)⁻¹ = 1 / v := by
    rw [← mul_inv, Real.mul_self_sqrt hpos.le, one_div]
  generalize (√v)⁻¹ = r at hr hrr
  have hz : rZ U E = (((∑ j, x j * e j) * (-(1 / 2) * (r * (1 / v))) * (1 / 1024) : ℝ) : EReal) := by
    unfold rZ
    rw [div_C, hr, hv, Ideal.div_coe hpos.ne', wMH_eq,
      Finset.sum_congr rfl fun j _ => show kXc U j * E j = ((x j * e j : ℝ) : EReal) by rw [hxc' j, he j, EReal.coe_mul],
      ← Cert.Up.coe_sum]
    simp only [← EReal.coe_mul]
  have hw : ∀ j, rW U E j = ((e j * r + x j * ((∑ j, x j * e j) * (-(1 / 2) * (r * (1 / v))) * (1 / 1024))
      + (∑ j, x j * e j) * (-(1 / 2) * (r * (1 / v))) * (1 / 1024) * x j : ℝ) : EReal) := fun j => by
    unfold rW
    rw [hz, hr, hxc' j, he j]
    simp only [← EReal.coe_mul, ← EReal.coe_add]
  unfold kDu rDu
  rw [div_C, div_C, div_C, hr, hw k, hxc' k, he k, Finset.sum_congr rfl fun j _ => he j,
    Finset.sum_congr rfl fun j _ => show E j * (kXc U j * (r : EReal)) = ((e j * (x j * r) : ℝ) : EReal) by
      rw [hxc' j, he j, ← EReal.coe_mul, ← EReal.coe_mul],
    Finset.sum_congr rfl fun j _ => show -(rW U E j) = ((-(e j * r + x j * ((∑ j, x j * e j) * (-(1 / 2) * (r * (1 / v))) * (1 / 1024))
      + (∑ j, x j * e j) * (-(1 / 2) * (r * (1 / v))) * (1 / 1024) * x j) : ℝ) : EReal) by rw [hw j, EReal.coe_neg],
    ← Cert.Up.coe_sum, ← Cert.Up.coe_sum, ← Cert.Up.coe_sum]
  simp only [← EReal.coe_mul, ← EReal.coe_add, ← EReal.coe_sub]
  exact congrArg _ (real_du x e r v hrr hxs k)

theorem top_sum {f : Fin 1024 → EReal} (h : ∀ j, f j ≠ ⊥) (j : Fin 1024) (e : f j = ⊤) : ∑ i, f i = ⊤ := by
  rw [← Finset.add_sum_erase _ f (Finset.mem_univ j), e, EReal.top_add_of_ne_bot]
  exact Finset.sum_induction _ (fun x => x ≠ ⊥) (fun a b ha hb => by simp [EReal.add_eq_bot_iff, ha, hb]) (by simp) fun i _ => h i

theorem bot_sum {f : Fin 1024 → EReal} (j : Fin 1024) (e : f j = ⊥) : ∑ i, f i = ⊥ := by
  rw [← Finset.add_sum_erase _ f (Finset.mem_univ j), e, EReal.bot_add]

theorem kXc_inf (j : Fin 1024) (h : U j = ⊤ ∨ U j = ⊥) (k : Fin 1024) : kXc U k * kXc U k = ⊤ := by
  unfold kXc
  rw [div_C]
  by_cases hb : ∃ i, U i = ⊥
  · obtain ⟨i, hi⟩ := hb
    rw [bot_sum i hi, EReal.bot_mul_coe_of_pos (by norm_num), sub_eq_add_neg, EReal.neg_bot]
    by_cases hk : U k = ⊥
    · rw [hk, EReal.bot_add, EReal.bot_mul_bot]
    · rw [EReal.add_top_of_ne_bot hk, EReal.top_mul_top]
  · have hb' : ∀ i, U i ≠ ⊥ := fun i hi => hb ⟨i, hi⟩
    rw [top_sum hb' j (h.resolve_right (hb' j)), EReal.top_mul_coe_of_pos (by norm_num), EReal.sub_top, EReal.bot_mul_bot]

theorem du_eq_inf (j : Fin 1024) (h : U j = ⊤ ∨ U j = ⊥) (k : Fin 1024) : kDu U E k = rDu U E k := by
  have hv : kV U = ⊤ := by
    unfold kV
    rw [div_C, top_sum (fun i => by rw [kXc_inf U j h i]; exact top_ne_bot) j (kXc_inf U j h j), EReal.top_mul_coe_of_pos (by norm_num), wEps_eq,
      EReal.top_add_coe]
  have hr : kR U = 0 := by unfold kR; rw [hv, Ideal.rsqrt_top]
  have hz : rZ U E = 0 := by
    unfold rZ
    rw [div_C, hr, hv, show Ideal.div 0 ⊤ = 0 by simp [Ideal.div], mul_zero, mul_zero, zero_mul]
  have hw : ∀ i, rW U E i = 0 := fun i => by
    unfold rW
    rw [hz, hr, mul_zero, mul_zero, zero_mul, add_zero, add_zero]
  unfold kDu rDu
  rw [hr, zero_mul, hw k, div_C, Finset.sum_congr rfl fun i _ => show -(rW U E i) = 0 by rw [hw i, neg_zero], Finset.sum_const_zero, zero_mul, add_zero]

theorem du_eq (hE : ∀ j, ∃ r : ℝ, E j = r) (k : Fin 1024) : kDu U E k = rDu U E k := by
  by_cases h : ∃ j, U j = ⊤ ∨ U j = ⊥
  · obtain ⟨j, hj⟩ := h
    exact du_eq_inf U E j hj k
  · refine du_eq_real U E (fun j => ⟨(U j).toReal, (EReal.coe_toReal (fun e => h ⟨j, .inl e⟩) fun e => h ⟨j, .inr e⟩).symm⟩) hE k

end Cert.Dx
-- ==== Proof.Dx.Tile.lean ====
/- The derivative of a layer normalisation, of one tile of 512 tokens. -/
module

public import proofs.«01_k».proof.Proof.Gen.Kernel4Ideal.Frame
public import proofs.«01_k».proof.Proof.Dx.Math
public import Idealize.ShloMosaic.Lib.WritesUnit
public import Idealize.ShloMosaic.Lib.WholeRead
public import Idealize.ShloMosaic.Lib.Pointwise
public import Idealize.ShloMosaic.Lib.IdealHost

@[expose] public section

noncomputable section

namespace Cert.Dx.Tile

open Cert.Kernel4Ideal Cert.Kernel4Ideal.Gen
open Idealize.ShloMosaic Idealize.ShloMosaic.TcCoe

/-! ## What is stored, at an index -/

/-- A row of a tile. -/
abbrev row (x : Vec Ideal S512x1024 .f32) (u : Fin 512) : Fin 1024 → EReal := fun j => x (ix2 u j)

section Pay
variable (x0 x1 : Vec Ideal S512x2816 .bf16) (x2 x3 : Vec Ideal S2816x1024 .bf16) (x4 x5 : Vec Ideal S512x1024 .f32) (x6 : Vec Ideal S1x1024 .f32) (u : Fin 512) (k : Fin 1024)

/-- Entry `(u, k)` of the derivative of the normalised rows, scaled. -/
def entE (u : Fin 512) (k : Fin 1024) : EReal :=
  ((∑ n : Fin 2816, x0 (ix2 u n) * x2 (ix2 n k) : EReal) + (∑ n : Fin 2816, x1 (ix2 u n) * x3 (ix2 n k) : EReal) + x4 (ix2 u k)) * x6 (ix2 0 k)
def tR (u : Fin 512) (k : Fin 1024) : EReal := kDu (row x5 u) (entE x0 x1 x2 x3 x4 x6 u) k
def tX (u : Fin 512) (k : Fin 1024) : EReal := Ideal.ofBits .f32 0x3FD744FD#32 * tR x0 x1 x2 x3 x4 x5 x6 u k

theorem pay9_ix : k0_pay9 (F := Ideal) x5 (ix2 u k) = kXc (row x5 u) k := by
  pointwise [k0_pay9]
  rfl
theorem pay10_ix (i : Fin 1) : k0_pay10 (F := Ideal) x5 (ix2 u i) = kR (row x5 u) := by
  pointwise [k0_pay10]
  refine congrArg (fun z : EReal => Ideal.rsqrt (Ideal.div z wC + wEps)) (Finset.sum_congr rfl fun j _ => ?_)
  rw [pay9_ix]
theorem pay11_ix : k0_pay11 (F := Ideal) x5 (ix2 u k) = (kXc (row x5 u) k * kR (row x5 u) : EReal) := by
  pointwise [k0_pay11]
  rw [pay9_ix, pay10_ix]
theorem pay12_ix : k0_pay12 (F := Ideal) x0 x2 x1 x3 x4 x6 (ix2 u k) = entE x0 x1 x2 x3 x4 x6 u k := by
  pointwise [k0_pay12, k0_pay8]
  rfl
theorem pay13_ix (i : Fin 1) : k0_pay13 (F := Ideal) x0 x2 x1 x3 x4 x6 (ix2 u i) = ∑ j, entE x0 x1 x2 x3 x4 x6 u j := by
  pointwise [k0_pay13]
  exact Finset.sum_congr rfl fun j _ => pay12_ix x0 x1 x2 x3 x4 x6 u j

theorem pay1_ix : k0_pay1 (F := Ideal) (k0_pay10 x5) (k0_pay11 x5) (k0_pay12 x0 x2 x1 x3 x4 x6) (k0_pay13 x0 x2 x1 x3 x4 x6) (ix2 u k) = tR x0 x1 x2 x3 x4 x5 x6 u k := by
  have h : ∀ (a : FVec Ideal S512x1 .f32) (b d : FVec Ideal S512x1024 .f32) (s : FVec Ideal S512x1 .f32), k0_pay1 (F := Ideal) a b d s (ix2 u k)
      = (a (ix2 u 0) * (d (ix2 u k) - Ideal.div (s (ix2 u 0)) wC - b (ix2 u k) * Ideal.div (∑ j : Fin 1024, (d (ix2 u j) * b (ix2 u j) : EReal)) wC) : EReal) := fun a b d s => by
    pointwise [k0_pay1]
  rw [h, pay10_ix, pay12_ix, pay13_ix, pay11_ix]
  unfold tR kDu
  refine congrArg (fun z : EReal => kR (row x5 u) * (entE x0 x1 x2 x3 x4 x6 u k - Ideal.div (∑ j, entE x0 x1 x2 x3 x4 x6 u j) wC - kXc (row x5 u) k * kR (row x5 u) * Ideal.div z wC)) (Finset.sum_congr rfl fun j _ => ?_)
  rw [pay12_ix, pay11_ix]

theorem pay2_ix : k0_pay2 (F := Ideal) (k0_pay10 x5) (k0_pay11 x5) (k0_pay12 x0 x2 x1 x3 x4 x6) (k0_pay13 x0 x2 x1 x3 x4 x6) (ix2 u k) = tX x0 x1 x2 x3 x4 x5 x6 u k :=
  congrArg (fun z : EReal => Ideal.ofBits .f32 0x3FD744FD#32 * z) (pay1_ix x0 x1 x2 x3 x4 x5 x6 u k)
theorem pay3_ix : k0_pay3 (F := Ideal) (k0_pay10 x5) (k0_pay11 x5) (k0_pay12 x0 x2 x1 x3 x4 x6) (k0_pay13 x0 x2 x1 x3 x4 x6) (ix2 u k) = tR x0 x1 x2 x3 x4 x5 x6 u k := by
  refine (congrArg (fun z : EReal => Ideal.ofBits .f32 0x3F800000#32 * z) (pay1_ix x0 x1 x2 x3 x4 x5 x6 u k)).trans ?_
  show (Ideal.ofBits .f32 0x3F800000#32 * tR x0 x1 x2 x3 x4 x5 x6 u k : EReal) = _
  rw [show Ideal.ofBits .f32 0x3F800000#32 = (1 : EReal) by simp, one_mul]

end Pay

/-! ## Whole blocks, loaded and stored -/

/-- A whole block, loaded. -/
abbrev ld {p q : ℕ} {φ : EltTy} (M : Memref sig .tc .vmem ⟨2, ![p, q]⟩ φ) (hM : M.IsWhole) (x : Vec Ideal ⟨2, ![p, q]⟩ φ)
    (h : ∀ a : Fin 2, (![0, 0] : Fin 2 → ℕ) a + (⟨2, ![p, q]⟩ : Shape).size a ≤ (⟨2, ![p, q]⟩ : Shape).size a) : Vec Ideal ⟨2, ![p, q]⟩ φ :=
  View.readAt (Elt Ideal) M.view (Rect.unit ![0, 0] (⟨2, ![p, q]⟩ : Shape).size h : Rect ⟨2, ![p, q]⟩).toLoadRect (hM.unread x)

theorem ld_whole {p q : ℕ} {φ : EltTy} (M : Memref sig .tc .vmem ⟨2, ![p, q]⟩ φ) (hM : M.IsWhole) (x : Vec Ideal ⟨2, ![p, q]⟩ φ) (h) : ld M hM x h = x := by
  funext i
  refine (hM.readAt_unread _ _ _).trans (congrArg x (funext fun a => Fin.ext ?_))
  fin_cases a
  · show 0 + 1 * (i 0).val = (i 0).val; omega
  · show 0 + 1 * (i 1).val = (i 1).val; omega

theorem whole_read {φ : EltTy} (V : View sig .tc .vmem S512x1024 φ) (f : V.ty.Contents (Elt Ideal)) (h) (x : Vec Ideal S512x1024 φ) (u : Fin 512) (k : Fin 1024) :
    V.read (Elt Ideal) (V.writes (Elt Ideal) f [⟨Rect.unit ![0, 0] S512x1024.size h, x⟩]) (ix2 u k) = x (ix2 u k) := by
  refine View.read_writes_cons_unit_of_mem V f _ _ _ _ (ix2 u k) rfl fun a => ?_
  fin_cases a <;> exact (Nat.zero_add _).symm

/-! ## A point -/

section Point
variable (c : Dev nD) (t : Fin cfg0.N) (x0 x1 : Vec Ideal S512x2816 .bf16) (x2 x3 : Vec Ideal S2816x1024 .bf16) (x4 x5 : Vec Ideal S512x1024 .f32) (x6 : Vec Ideal S1x1024 .f32)

abbrev PX : List (View.Piece (Elt Ideal) S512x1024 .f32) :=
  [⟨Rect.unit ![0, 0] S512x1024.size inb_S512x1024_S512x1024_0_0, k0_pay2 (F := Ideal) (k0_pay10 (ld (ms0_5 t) (hs0_5 t) x5 inb_S512x1024_S512x1024_0_0)) (k0_pay11 (ld (ms0_5 t) (hs0_5 t) x5 inb_S512x1024_S512x1024_0_0))
    (k0_pay12 (ld (ms0_0 t) (hs0_0 t) x0 inb_S512x2816_S512x2816_0_0) (ld (ms0_2 t) (hs0_2 t) x2 inb_S2816x1024_S2816x1024_0_0) (ld (ms0_1 t) (hs0_1 t) x1 inb_S512x2816_S512x2816_0_0) (ld (ms0_3 t) (hs0_3 t) x3 inb_S2816x1024_S2816x1024_0_0) (ld (ms0_4 t) (hs0_4 t) x4 inb_S512x1024_S512x1024_0_0) (ld (ms0_6 t) (hs0_6 t) x6 inb_S1x1024_S1x1024_0_0))
    (k0_pay13 (ld (ms0_0 t) (hs0_0 t) x0 inb_S512x2816_S512x2816_0_0) (ld (ms0_2 t) (hs0_2 t) x2 inb_S2816x1024_S2816x1024_0_0) (ld (ms0_1 t) (hs0_1 t) x1 inb_S512x2816_S512x2816_0_0) (ld (ms0_3 t) (hs0_3 t) x3 inb_S2816x1024_S2816x1024_0_0) (ld (ms0_4 t) (hs0_4 t) x4 inb_S512x1024_S512x1024_0_0) (ld (ms0_6 t) (hs0_6 t) x6 inb_S1x1024_S1x1024_0_0))⟩]

theorem PX_read (V : View sig .tc .vmem S512x1024 .f32) (f : V.ty.Contents (Elt Ideal)) (u : Fin 512) (k : Fin 1024) :
    V.read (Elt Ideal) (V.writes (Elt Ideal) f (PX t x0 x1 x2 x3 x4 x5 x6)) (ix2 u k) = tX x0 x1 x2 x3 x4 x5 x6 u k := by
  refine (whole_read V f _ _ u k).trans ?_
  rw [ld_whole, ld_whole, ld_whole, ld_whole, ld_whole, ld_whole, ld_whole]
  exact pay2_ix x0 x1 x2 x3 x4 x5 x6 u k

abbrev PR : List (View.Piece (Elt Ideal) S512x1024 .bf16) :=
  [⟨Rect.unit ![0, 0] S512x1024.size inb_S512x1024_S512x1024_0_0, k0_pay3 (F := Ideal) (k0_pay10 (ld (ms0_5 t) (hs0_5 t) x5 inb_S512x1024_S512x1024_0_0)) (k0_pay11 (ld (ms0_5 t) (hs0_5 t) x5 inb_S512x1024_S512x1024_0_0))
    (k0_pay12 (ld (ms0_0 t) (hs0_0 t) x0 inb_S512x2816_S512x2816_0_0) (ld (ms0_2 t) (hs0_2 t) x2 inb_S2816x1024_S2816x1024_0_0) (ld (ms0_1 t) (hs0_1 t) x1 inb_S512x2816_S512x2816_0_0) (ld (ms0_3 t) (hs0_3 t) x3 inb_S2816x1024_S2816x1024_0_0) (ld (ms0_4 t) (hs0_4 t) x4 inb_S512x1024_S512x1024_0_0) (ld (ms0_6 t) (hs0_6 t) x6 inb_S1x1024_S1x1024_0_0))
    (k0_pay13 (ld (ms0_0 t) (hs0_0 t) x0 inb_S512x2816_S512x2816_0_0) (ld (ms0_2 t) (hs0_2 t) x2 inb_S2816x1024_S2816x1024_0_0) (ld (ms0_1 t) (hs0_1 t) x1 inb_S512x2816_S512x2816_0_0) (ld (ms0_3 t) (hs0_3 t) x3 inb_S2816x1024_S2816x1024_0_0) (ld (ms0_4 t) (hs0_4 t) x4 inb_S512x1024_S512x1024_0_0) (ld (ms0_6 t) (hs0_6 t) x6 inb_S1x1024_S1x1024_0_0))⟩]

theorem PR_read (V : View sig .tc .vmem S512x1024 .bf16) (f : V.ty.Contents (Elt Ideal)) (u : Fin 512) (k : Fin 1024) :
    V.read (Elt Ideal) (V.writes (Elt Ideal) f (PR t x0 x1 x2 x3 x4 x5 x6)) (ix2 u k) = tR x0 x1 x2 x3 x4 x5 x6 u k := by
  refine (whole_read V f _ _ u k).trans ?_
  rw [ld_whole, ld_whole, ld_whole, ld_whole, ld_whole, ld_whole, ld_whole]
  exact pay3_ix x0 x1 x2 x3 x4 x5 x6 u k

theorem outA7 (hc0 : cond0_0 (grid0.coords t)) (u : Fin 512) (k : Fin 1024) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) hc0 x0 x1 x2 x3 x4 x5 x6 (ix2 u k) = tX x0 x1 x2 x3 x4 x5 x6 u k :=
  PX_read t x0 x1 x2 x3 x4 x5 x6 VO0_7 VO0_7.junk u k

theorem outA8 (hc0 : cond0_0 (grid0.coords t)) (u : Fin 512) (k : Fin 1024) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) hc0 x0 x1 x2 x3 x4 x5 x6 (ix2 u k) = tR x0 x1 x2 x3 x4 x5 x6 u k :=
  PR_read t x0 x1 x2 x3 x4 x5 x6 VO0_8 VO0_8.junk u k

theorem outB7 (hc0 : ¬cond0_0 (grid0.coords t)) (y9 y10 : Vec Ideal S8x1024 .f32) (u : Fin 512) (k : Fin 1024) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) hc0 x0 x1 x2 x3 x4 x5 x6 y9 y10 (ix2 u k) = tX x0 x1 x2 x3 x4 x5 x6 u k :=
  PX_read t x0 x1 x2 x3 x4 x5 x6 VO0_7 VO0_7.junk u k

theorem outB8 (hc0 : ¬cond0_0 (grid0.coords t)) (y9 y10 : Vec Ideal S8x1024 .f32) (u : Fin 512) (k : Fin 1024) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) hc0 x0 x1 x2 x3 x4 x5 x6 y9 y10 (ix2 u k) = tR x0 x1 x2 x3 x4 x5 x6 u k :=
  PR_read t x0 x1 x2 x3 x4 x5 x6 VO0_8 VO0_8.junk u k

end Point

end Cert.Dx.Tile
-- ==== Proof.Dx.Ref.lean ====
/- The reference of the derivative of a layer normalisation and of the two products before it, at an index. -/
module

public import proofs.«01_k».proof.Proof.Gen.Reference4Ideal.Run
public import proofs.«01_k».proof.Proof.Dx.Math
public import Idealize.ShloMosaic.Lib.Pointwise
public import Idealize.ShloMosaic.Lib.IdealHost

@[expose] public section

noncomputable section

namespace Cert.Dx

open Cert.Reference4Ideal Cert.Reference4Ideal.Gen
open Idealize.ShloMosaic Idealize.ShloMosaic.TcCoe Idealize.ShloMosaic.StableHlo

section Defs
variable {F : FTy → Type} [FloatOps F]

/-- The sum of each row. -/
def rSum (x : Vec F S8192x1024 .f32) : Vec F S8192 .f32 := Host.reduceAdd x (constant S_ .f32 0x00000000#32) reducesTo_S8192x1024_S8192_d1 h_S_
def rCol (y : Vec F S8192 .f32) : Vec F S8192x1 .f32 := broadcastInDim S8192x1 ![0] bcast_S8192_S8192x1_0 y
def rBc (y : Vec F S8192x1 .f32) : Vec F S8192x1024 .f32 := broadcastInDim S8192x1024 ![0, 1] bcast_S8192x1_S8192x1024_0_1 y
def rK (w : BitVec 32) : Vec F S8192x1 .f32 := broadcastInDim S8192x1 ![] bcast_S_S8192x1 (constant S_ .f32 w)
def rMean (x : Vec F S8192x1024 .f32) : Vec F S8192x1 .f32 := Host.divf (rCol (rSum x)) (rK 0x44800000#32)
def rXc (x : Vec F S8192x1024 .f32) : Vec F S8192x1024 .f32 := subf x (rBc (rMean x))
def rVar (x : Vec F S8192x1024 .f32) : Vec F S8192x1 .f32 := addf (rMean (mulf (rXc x) (rXc x))) (rK 0x3727C5AC#32)
def rRs (x : Vec F S8192x1024 .f32) : Vec F S8192x1 .f32 := Host.rsqrt (rVar x)

def rDot (x : Vec F S8192x2816 .bf16) (w : Vec F S2816x1024 .bf16) : Vec F S8192x1024 .f32 :=
  Host.dotGeneral dot_S8192x2816_S1024x2816_S8192x1024_1_1_0_0_n_n none (extf .f32 x bitsLt_bf16_f32) (transpose S1024x2816 [1, 0] (extf .f32 w bitsLt_bf16_f32) transposes_S2816x1024_S1024x2816_1_0)

/-- The derivative of the normalised rows, scaled. -/
def rE (x0 x1 : Vec F S8192x2816 .bf16) (x2 x3 : Vec F S2816x1024 .bf16) (x4 : Vec F S8192x1024 .f32) (x6 : Vec F S1x1024 .f32) : Vec F S8192x1024 .f32 :=
  mulf (addf (addf x4 (rDot x1 x3)) (rDot x0 x2)) (broadcastInDim S8192x1024 ![0, 1] bcast_S1x1024_S8192x1024_0_1 x6)

def rRow (y : Vec F S8192 .f32) : Vec F S8192x1 .f32 := shapeCast S8192x1 y shapeCasts_S8192_S8192x1

def rMul (x e : Vec F S8192x1024 .f32) : Vec F S8192x1 .f32 := mulf (rRow (rSum (mulf (rXc x) e))) (mulf (rK 0xBF000000#32) (Host.divf (rRs x) (rVar x)))
/-- The mean of a column of one entry, to every column. -/
def rBack (y : Vec F S8192x1 .f32) : Vec F S8192x1024 .f32 :=
  broadcastInDim S8192x1024 ![0] bcast_S8192_S8192x1024_0 (Host.reduceAdd (Host.divf y (rK 0x44800000#32)) (constant S_ .f32 0x00000000#32) reducesTo_S8192x1_S8192_d1 h_S_)
def rSumW (x e : Vec F S8192x1024 .f32) : Vec F S8192x1024 .f32 :=
  addf (addf (mulf e (rBc (rRs x))) (mulf (rXc x) (rBack (rMul x e)))) (mulf (rBack (rMul x e)) (rXc x))
def rDx (x e : Vec F S8192x1024 .f32) : Vec F S8192x1024 .f32 :=
  addf (rSumW x e) (rBack (rRow (rSum (Host.negf (rSumW x e)))))

def refX (x0 x1 : Vec F S8192x2816 .bf16) (x2 x3 : Vec F S2816x1024 .bf16) (x4 x5 : Vec F S8192x1024 .f32) (x6 : Vec F S1x1024 .f32) : Vec F S8192x1024 .f32 :=
  mulf (broadcastInDim S8192x1024 ![] bcast_S_S8192x1024 (constant S_ .f32 0x3FD744FD#32)) (rDx x5 (rE x0 x1 x2 x3 x4 x6))
def refR (x0 x1 : Vec F S8192x2816 .bf16) (x2 x3 : Vec F S2816x1024 .bf16) (x4 x5 : Vec F S8192x1024 .f32) (x6 : Vec F S1x1024 .f32) : Vec F S8192x1024 .bf16 :=
  truncf .bf16 (rDx x5 (rE x0 x1 x2 x3 x4 x6)) bitsLt_bf16_f32

end Defs

theorem rSum_ix (x : Vec Ideal S8192x1024 .f32) (t : Fin 8192) : rSum (F := Ideal) x (ix1 t) = (∑ k : Fin 1024, x (ix2 t k) : EReal) := by
  pointwise [rSum]
theorem rCol_ix (y : Vec Ideal S8192 .f32) (t : Fin 8192) (k : Fin 1) : rCol (F := Ideal) y (ix2 t k) = y (ix1 t) := by
  pointwise [rCol]
theorem rRow_ix (y : Vec Ideal S8192 .f32) (t : Fin 8192) (k : Fin 1) : rRow (F := Ideal) y (ix2 t k) = y (ix1 t) := by
  pointwise [rRow]
theorem rBc_ix (y : Vec Ideal S8192x1 .f32) (t : Fin 8192) (k : Fin 1024) : rBc (F := Ideal) y (ix2 t k) = y (ix2 t 0) := by
  pointwise [rBc]
theorem rBack_ix (y : Vec Ideal S8192x1 .f32) (t : Fin 8192) (k : Fin 1024) : rBack (F := Ideal) y (ix2 t k) = Ideal.div (y (ix2 t 0)) wC := by
  pointwise [rBack, rK]
  exact Fin.sum_univ_one _
theorem rDot_ix (x : Vec Ideal S8192x2816 .bf16) (w : Vec Ideal S2816x1024 .bf16) (t : Fin 8192) (k : Fin 1024) :
    rDot (F := Ideal) x w (ix2 t k) = (∑ n : Fin 2816, x (ix2 t n) * w (ix2 n k) : EReal) := by
  pointwise [rDot]
theorem rK_ix (w : BitVec 32) (i : S8192x1.Idx) : rK (F := Ideal) w i = Ideal.ofBits .f32 w := rfl

/-- A row. -/
abbrev row (x : Vec Ideal S8192x1024 .f32) (t : Fin 8192) : Fin 1024 → EReal := fun j => x (ix2 t j)

variable (x e : Vec Ideal S8192x1024 .f32) (t : Fin 8192) (k : Fin 1024)

theorem rMean_ix (i : Fin 1) : rMean (F := Ideal) x (ix2 t i) = Ideal.div (∑ j, row x t j) wC := by
  show Ideal.div (rCol (F := Ideal) (rSum x) (ix2 t i)) (rK (F := Ideal) 0x44800000#32 (ix2 t i)) = _
  rw [rCol_ix, rSum_ix, rK_ix]
theorem rXc_ix : rXc (F := Ideal) x (ix2 t k) = kXc (row x t) k := by
  show (x (ix2 t k) - rBc (F := Ideal) (rMean x) (ix2 t k) : EReal) = _
  rw [rBc_ix, rMean_ix]; rfl
theorem rVar_ix (i : Fin 1) : rVar (F := Ideal) x (ix2 t i) = kV (row x t) := by
  show (rMean (F := Ideal) (mulf (rXc x) (rXc x)) (ix2 t i) + rK (F := Ideal) 0x3727C5AC#32 (ix2 t i) : EReal) = _
  rw [rMean_ix, rK_ix]
  refine congrArg (fun z : EReal => Ideal.div z wC + wEps) (Finset.sum_congr rfl fun j _ => ?_)
  show (rXc (F := Ideal) x (ix2 t j) * rXc (F := Ideal) x (ix2 t j) : EReal) = _
  rw [rXc_ix]
theorem rRs_ix (i : Fin 1) : rRs (F := Ideal) x (ix2 t i) = kR (row x t) := by
  show Ideal.rsqrt (rVar (F := Ideal) x (ix2 t i)) = _
  rw [rVar_ix]; rfl
theorem rMul_ix (i : Fin 1) : rMul (F := Ideal) x e (ix2 t i)
    = ((∑ j, kXc (row x t) j * row e t j) * (wMH * Ideal.div (kR (row x t)) (kV (row x t))) : EReal) := by
  show (rRow (F := Ideal) (rSum (mulf (rXc x) e)) (ix2 t i) * (rK (F := Ideal) 0xBF000000#32 (ix2 t i) * Ideal.div (rRs (F := Ideal) x (ix2 t i)) (rVar (F := Ideal) x (ix2 t i))) : EReal) = _
  rw [rRow_ix, rSum_ix, rK_ix, rRs_ix, rVar_ix]
  refine congrArg (fun z : EReal => z * (wMH * Ideal.div (kR (row x t)) (kV (row x t)))) (Finset.sum_congr rfl fun j _ => ?_)
  show (rXc (F := Ideal) x (ix2 t j) * e (ix2 t j) : EReal) = _
  rw [rXc_ix]
theorem rSumW_ix : rSumW (F := Ideal) x e (ix2 t k) = rW (row x t) (row e t) k := by
  show (e (ix2 t k) * rBc (F := Ideal) (rRs x) (ix2 t k) + rXc (F := Ideal) x (ix2 t k) * rBack (F := Ideal) (rMul x e) (ix2 t k)
    + rBack (F := Ideal) (rMul x e) (ix2 t k) * rXc (F := Ideal) x (ix2 t k) : EReal) = _
  rw [rBc_ix, rRs_ix, rXc_ix, rBack_ix, rMul_ix]; rfl
theorem rDx_ix : rDx (F := Ideal) x e (ix2 t k) = rDu (row x t) (row e t) k := by
  show (rSumW (F := Ideal) x e (ix2 t k) + rBack (F := Ideal) (rRow (rSum (Host.negf (rSumW x e)))) (ix2 t k) : EReal) = _
  rw [rSumW_ix, rBack_ix, rRow_ix, rSum_ix]
  refine congrArg (fun z : EReal => rW (row x t) (row e t) k + Ideal.div z wC) (Finset.sum_congr rfl fun j _ => ?_)
  show (-(rSumW (F := Ideal) x e (ix2 t j)) : EReal) = _
  rw [rSumW_ix]

variable (x0 x1 : Vec Ideal S8192x2816 .bf16) (x2 x3 : Vec Ideal S2816x1024 .bf16) (x4 x5 : Vec Ideal S8192x1024 .f32) (x6 : Vec Ideal S1x1024 .f32)

/-- Entry `(t, k)` of the derivative of the normalised rows, scaled. -/
def entE (t : Fin 8192) (k : Fin 1024) : EReal :=
  ((∑ n : Fin 2816, x0 (ix2 t n) * x2 (ix2 n k) : EReal) + (∑ n : Fin 2816, x1 (ix2 t n) * x3 (ix2 n k) : EReal) + x4 (ix2 t k)) * x6 (ix2 0 k)

theorem rE_ix : rE (F := Ideal) x0 x1 x2 x3 x4 x6 (ix2 t k) = entE x0 x1 x2 x3 x4 x6 t k := by
  show ((x4 (ix2 t k) + rDot (F := Ideal) x1 x3 (ix2 t k) + rDot (F := Ideal) x0 x2 (ix2 t k)) * broadcastInDim S8192x1024 ![0, 1] bcast_S1x1024_S8192x1024_0_1 x6 (ix2 t k) : EReal) = _
  have hg : broadcastInDim S8192x1024 ![0, 1] bcast_S1x1024_S8192x1024_0_1 x6 (ix2 t k) = x6 (ix2 0 k) := by pointwise []
  rw [hg, rDot_ix, rDot_ix]
  unfold entE
  generalize (∑ n : Fin 2816, x0 (ix2 t n) * x2 (ix2 n k) : EReal) = a
  generalize (∑ n : Fin 2816, x1 (ix2 t n) * x3 (ix2 n k) : EReal) = b
  rw [add_assoc, add_comm, add_comm b a]

theorem refX_ix : refX (F := Ideal) x0 x1 x2 x3 x4 x5 x6 (ix2 t k)
    = Ideal.ofBits .f32 0x3FD744FD#32 * rDu (row x5 t) (entE x0 x1 x2 x3 x4 x6 t) k := by
  show (Ideal.ofBits .f32 0x3FD744FD#32 * rDx (F := Ideal) x5 (rE x0 x1 x2 x3 x4 x6) (ix2 t k) : EReal) = _
  rw [rDx_ix, show row (rE (F := Ideal) x0 x1 x2 x3 x4 x6) t = entE x0 x1 x2 x3 x4 x6 t from funext fun j => rE_ix t j x0 x1 x2 x3 x4 x6]
theorem refR_ix : refR (F := Ideal) x0 x1 x2 x3 x4 x5 x6 (ix2 t k) = rDu (row x5 t) (entE x0 x1 x2 x3 x4 x6 t) k := by
  show rDx (F := Ideal) x5 (rE x0 x1 x2 x3 x4 x6) (ix2 t k) = _
  rw [rDx_ix, show row (rE (F := Ideal) x0 x1 x2 x3 x4 x6) t = entE x0 x1 x2 x3 x4 x6 t from funext fun j => rE_ix t j x0 x1 x2 x3 x4 x6]

/-- The entries are real when every argument is. -/
theorem entE_real (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h6 : ∀ i, ∃ r : ℝ, x6 i = (r : EReal)) :
    ∃ r : ℝ, entE x0 x1 x2 x3 x4 x6 t k = (r : EReal) := by
  have hs : ∀ (x : Vec Ideal S8192x2816 .bf16) (w : Vec Ideal S2816x1024 .bf16), (∀ i, ∃ r : ℝ, x i = (r : EReal)) → (∀ i, ∃ r : ℝ, w i = (r : EReal)) →
      ∃ r : ℝ, (∑ n : Fin 2816, x (ix2 t n) * w (ix2 n k) : EReal) = (r : EReal) := fun x w hx hw =>
    Cert.Up.real_sum (fun n => hx _) (fun n => hw _)
  obtain ⟨a, ha⟩ := hs x0 x2 h0 h2
  obtain ⟨b, hb⟩ := hs x1 x3 h1 h3
  obtain ⟨d, hd⟩ := h4 (ix2 t k)
  obtain ⟨g, hg⟩ := h6 (ix2 0 k)
  unfold entE
  exact ⟨(a + b + d) * g, by rw [ha, hb, hd, hg, EReal.coe_mul, EReal.coe_add, EReal.coe_add]⟩

variable (m : (ℓ : Loc nD τ sig) → Buf (Elt Ideal) ℓ) (c : Dev nD)

theorem res_62 : Cert.Reference4Ideal.Value.res_main_v62 (F := Ideal) m c = refX (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
theorem res_63 : Cert.Reference4Ideal.Value.res_main_v63 (F := Ideal) m c = refR (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Dx
-- ==== Proof.Dx.Main.lean ====
/- The derivative of a layer normalisation: what the launch leaves is what the reference computes. -/
module

public import proofs.«01_k».proof.Proof.Gen.Kernel4Ideal.Value
public import proofs.«01_k».proof.Proof.Dx.Tile
public import proofs.«01_k».proof.Proof.Dx.Ref

@[expose] public section

set_option maxRecDepth 16384

noncomputable section

namespace Cert.Dx

open Cert.Kernel4Ideal Cert.Kernel4Ideal.Gen
open Idealize.ShloMosaic Idealize.ShloMosaic.TcCoe

variable (m : (ℓ : Loc nD τ sig) → Buf (Elt Ideal) ℓ) (ρ : Dev nD → PrngReg) (c : Dev nD)

abbrev A0 : Vec Ideal S8192x2816 .bf16 := m ((c : Thread nD τ).loc main_arg0)
abbrev A1 : Vec Ideal S8192x2816 .bf16 := m ((c : Thread nD τ).loc main_arg1)
abbrev A2 : Vec Ideal S2816x1024 .bf16 := m ((c : Thread nD τ).loc main_arg2)
abbrev A3 : Vec Ideal S2816x1024 .bf16 := m ((c : Thread nD τ).loc main_arg3)
abbrev A4 : Vec Ideal S8192x1024 .f32 := m ((c : Thread nD τ).loc main_arg4)
abbrev A5 : Vec Ideal S8192x1024 .f32 := m ((c : Thread nD τ).loc main_arg5)
abbrev A6 : Vec Ideal S1x1024 .f32 := m ((c : Thread nD τ).loc main_arg6)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)

theorem lt_N (t : Fin cfg0.N) : t.val < 16 := lt_of_lt_of_eq t.isLt N_0

/-- A token of the tile `t`. -/
abbrev tok (t : Fin cfg0.N) (u : Fin 512) : Fin 8192 := ⟨512 * t.val + u.val, by have := lt_N t; have := u.isLt; omega⟩

theorem blk0_ix (t : Fin cfg0.N) (a : Fin 512) (b : Fin 2816) :
    (iblk m c 0 t : Vec Ideal S512x2816 .bf16) (ix2 a b) = A0 m c (ix2 (tok t a) b) := by
  obtain ⟨e0, e1⟩ := index0 t
  show Gen.V m c main_arg0 (((cfg0.win 0).blk t).view.emb (ix2 a b)) = _
  rw [V_main_arg0 m c]
  refine congrArg (m ((c : Thread nD τ).loc main_arg0)) (funext fun d => Fin.ext ?_)
  match d with
  | ⟨0, _⟩ => show win0_0.index t (0 : Fin 2) * 512 + 1 * a.val = 512 * t.val + a.val; rw [e0]; omega
  | ⟨1, _⟩ => show win0_0.index t (1 : Fin 2) * 2816 + 1 * b.val = b.val; rw [e1]; omega

theorem blk1_ix (t : Fin cfg0.N) (a : Fin 512) (b : Fin 2816) :
    (iblk m c 1 t : Vec Ideal S512x2816 .bf16) (ix2 a b) = A1 m c (ix2 (tok t a) b) := by
  obtain ⟨e0, e1⟩ := index1 t
  show Gen.V m c main_arg1 (((cfg0.win 1).blk t).view.emb (ix2 a b)) = _
  rw [V_main_arg1 m c]
  refine congrArg (m ((c : Thread nD τ).loc main_arg1)) (funext fun d => Fin.ext ?_)
  match d with
  | ⟨0, _⟩ => show win0_1.index t (0 : Fin 2) * 512 + 1 * a.val = 512 * t.val + a.val; rw [e0]; omega
  | ⟨1, _⟩ => show win0_1.index t (1 : Fin 2) * 2816 + 1 * b.val = b.val; rw [e1]; omega

theorem blk2_ix (t : Fin cfg0.N) (a : Fin 2816) (b : Fin 1024) :
    (iblk m c 2 t : Vec Ideal S2816x1024 .bf16) (ix2 a b) = A2 m c (ix2 a b) := by
  obtain ⟨e0, e1⟩ := index2 t
  show Gen.V m c main_arg2 (((cfg0.win 2).blk t).view.emb (ix2 a b)) = _
  rw [V_main_arg2 m c]
  refine congrArg (m ((c : Thread nD τ).loc main_arg2)) (funext fun d => Fin.ext ?_)
  match d with
  | ⟨0, _⟩ => show win0_2.index t (0 : Fin 2) * 2816 + 1 * a.val = a.val; rw [e0]; omega
  | ⟨1, _⟩ => show win0_2.index t (1 : Fin 2) * 1024 + 1 * b.val = b.val; rw [e1]; omega

theorem blk3_ix (t : Fin cfg0.N) (a : Fin 2816) (b : Fin 1024) :
    (iblk m c 3 t : Vec Ideal S2816x1024 .bf16) (ix2 a b) = A3 m c (ix2 a b) := by
  obtain ⟨e0, e1⟩ := index3 t
  show Gen.V m c main_arg3 (((cfg0.win 3).blk t).view.emb (ix2 a b)) = _
  rw [V_main_arg3 m c]
  refine congrArg (m ((c : Thread nD τ).loc main_arg3)) (funext fun d => Fin.ext ?_)
  match d with
  | ⟨0, _⟩ => show win0_3.index t (0 : Fin 2) * 2816 + 1 * a.val = a.val; rw [e0]; omega
  | ⟨1, _⟩ => show win0_3.index t (1 : Fin 2) * 1024 + 1 * b.val = b.val; rw [e1]; omega

theorem blk4_ix (t : Fin cfg0.N) (a : Fin 512) (b : Fin 1024) :
    (iblk m c 4 t : Vec Ideal S512x1024 .f32) (ix2 a b) = A4 m c (ix2 (tok t a) b) := by
  obtain ⟨e0, e1⟩ := index4 t
  show Gen.V m c main_arg4 (((cfg0.win 4).blk t).view.emb (ix2 a b)) = _
  rw [V_main_arg4 m c]
  refine congrArg (m ((c : Thread nD τ).loc main_arg4)) (funext fun d => Fin.ext ?_)
  match d with
  | ⟨0, _⟩ => show win0_4.index t (0 : Fin 2) * 512 + 1 * a.val = 512 * t.val + a.val; rw [e0]; omega
  | ⟨1, _⟩ => show win0_4.index t (1 : Fin 2) * 1024 + 1 * b.val = b.val; rw [e1]; omega

theorem blk5_ix (t : Fin cfg0.N) (a : Fin 512) (b : Fin 1024) :
    (iblk m c 5 t : Vec Ideal S512x1024 .f32) (ix2 a b) = A5 m c (ix2 (tok t a) b) := by
  obtain ⟨e0, e1⟩ := index5 t
  show Gen.V m c main_arg5 (((cfg0.win 5).blk t).view.emb (ix2 a b)) = _
  rw [V_main_arg5 m c]
  refine congrArg (m ((c : Thread nD τ).loc main_arg5)) (funext fun d => Fin.ext ?_)
  match d with
  | ⟨0, _⟩ => show win0_5.index t (0 : Fin 2) * 512 + 1 * a.val = 512 * t.val + a.val; rw [e0]; omega
  | ⟨1, _⟩ => show win0_5.index t (1 : Fin 2) * 1024 + 1 * b.val = b.val; rw [e1]; omega

theorem blk6_ix (t : Fin cfg0.N) (a : Fin 1) (b : Fin 1024) :
    (iblk m c 6 t : Vec Ideal S1x1024 .f32) (ix2 a b) = A6 m c (ix2 a b) := by
  obtain ⟨e0, e1⟩ := index6 t
  show Gen.V m c main_arg6 (((cfg0.win 6).blk t).view.emb (ix2 a b)) = _
  rw [V_main_arg6 m c]
  refine congrArg (m ((c : Thread nD τ).loc main_arg6)) (funext fun d => Fin.ext ?_)
  match d with
  | ⟨0, _⟩ => show win0_6.index t (0 : Fin 2) * 1 + 1 * a.val = a.val; rw [e0]; omega
  | ⟨1, _⟩ => show win0_6.index t (1 : Fin 2) * 1024 + 1 * b.val = b.val; rw [e1]; omega

theorem row_eq (t : Fin cfg0.N) (u : Fin 512) : Tile.row (iblk m c 5 t) u = row (A5 m c) (tok t u) := funext fun j => blk5_ix m c t u j

theorem ent_eq (t : Fin cfg0.N) (u : Fin 512) : Tile.entE (iblk m c 0 t) (iblk m c 1 t) (iblk m c 2 t) (iblk m c 3 t) (iblk m c 4 t) (iblk m c 6 t) u = entE (A0 m c) (A1 m c) (A2 m c) (A3 m c) (A4 m c) (A6 m c) (tok t u) := funext fun k =>
  congrArg₂ (fun a b : EReal => a * b) (congrArg₂ (fun a b : EReal => a + b) (congrArg₂ (fun a b : EReal => a + b)
    (Finset.sum_congr rfl fun n _ => congrArg₂ (fun a b : EReal => a * b) (blk0_ix m c t u n) (blk2_ix m c t n k))
    (Finset.sum_congr rfl fun n _ => congrArg₂ (fun a b : EReal => a * b) (blk1_ix m c t u n) (blk3_ix m c t n k))) (blk4_ix m c t u k)) (blk6_ix m c t 0 k)

/-! ## The arguments are finite -/

variable (h0 : ∀ i, ∃ r : ℝ, A0 m c i = (r : EReal)) (h1 : ∀ i, ∃ r : ℝ, A1 m c i = (r : EReal)) (h2 : ∀ i, ∃ r : ℝ, A2 m c i = (r : EReal)) (h3 : ∀ i, ∃ r : ℝ, A3 m c i = (r : EReal)) (h4 : ∀ i, ∃ r : ℝ, A4 m c i = (r : EReal)) (h6 : ∀ i, ∃ r : ℝ, A6 m c i = (r : EReal))

include h0 h1 h2 h3 h4 h6 in
theorem tR_eq (t : Fin cfg0.N) (u : Fin 512) (k : Fin 1024) :
    Tile.tR (iblk m c 0 t) (iblk m c 1 t) (iblk m c 2 t) (iblk m c 3 t) (iblk m c 4 t) (iblk m c 5 t) (iblk m c 6 t) u k = rDu (row (A5 m c) (tok t u)) (entE (A0 m c) (A1 m c) (A2 m c) (A3 m c) (A4 m c) (A6 m c) (tok t u)) k := by
  unfold Tile.tR
  rw [row_eq, ent_eq]
  exact du_eq _ _ (fun j => entE_real _ _ _ _ _ _ _ _ h0 h1 h2 h3 h4 h6) k

include h0 h1 h2 h3 h4 h6 in
theorem tile7 (t : Fin cfg0.N) (u : Fin 512) (k : Fin 1024) : Tile.tX (iblk m c 0 t) (iblk m c 1 t) (iblk m c 2 t) (iblk m c 3 t) (iblk m c 4 t) (iblk m c 5 t) (iblk m c 6 t) u k = refX (F := Ideal) (A0 m c) (A1 m c) (A2 m c) (A3 m c) (A4 m c) (A5 m c) (A6 m c) (ix2 (tok t u) k) :=
  (congrArg (fun z : EReal => Ideal.ofBits .f32 0x3FD744FD#32 * z) (tR_eq m c h0 h1 h2 h3 h4 h6 t u k)).trans (refX_ix (tok t u) k (A0 m c) (A1 m c) (A2 m c) (A3 m c) (A4 m c) (A5 m c) (A6 m c)).symm

include h0 h1 h2 h3 h4 h6 in
theorem tile8 (t : Fin cfg0.N) (u : Fin 512) (k : Fin 1024) : Tile.tR (iblk m c 0 t) (iblk m c 1 t) (iblk m c 2 t) (iblk m c 3 t) (iblk m c 4 t) (iblk m c 5 t) (iblk m c 6 t) u k = refR (F := Ideal) (A0 m c) (A1 m c) (A2 m c) (A3 m c) (A4 m c) (A5 m c) (A6 m c) (ix2 (tok t u) k) :=
  (tR_eq m c h0 h1 h2 h3 h4 h6 t u k).trans (refR_ix (tok t u) k (A0 m c) (A1 m c) (A2 m c) (A3 m c) (A4 m c) (A5 m c) (A6 m c)).symm

include h0 h1 h2 h3 h4 h6 in
theorem cut7 (t : Fin cfg0.N) (O : Vec Ideal S512x1024 .f32) (hO : ∀ u k, O (ix2 u k) = Tile.tX (iblk m c 0 t) (iblk m c 1 t) (iblk m c 2 t) (iblk m c 3 t) (iblk m c 4 t) (iblk m c 5 t) (iblk m c 6 t) u k) :
    (cfg0.win 7).cut (grid0.coords t) O = ((cfg0.win 7).blk t).view.read (Elt Ideal) (refX (F := Ideal) (A0 m c) (A1 m c) (A2 m c) (A3 m c) (A4 m c) (A5 m c) (A6 m c)) := by
  obtain ⟨e0, e1⟩ := index7 t
  funext y
  have hu : (y 0).val < 512 := (y 0).isLt
  have hn : (y 1).val < 1024 := (y 1).isLt
  refine Eq.trans (congrArg O (?_ : _ = ix2 ⟨(y 0).val, hu⟩ ⟨(y 1).val, hn⟩))
    (((hO _ _).trans (tile7 m c h0 h1 h2 h3 h4 h6 t ⟨(y 0).val, hu⟩ ⟨(y 1).val, hn⟩)).trans (congrArg (refX (F := Ideal) (A0 m c) (A1 m c) (A2 m c) (A3 m c) (A4 m c) (A5 m c) (A6 m c)) (?_ : _ = ((cfg0.win 7).blk t).view.emb y)))
  · funext a
    match a with
    | ⟨0, _⟩ => rfl
    | ⟨1, _⟩ => rfl
  · refine funext fun a => Fin.ext ?_
    match a with
    | ⟨0, _⟩ => show 512 * t.val + (y 0).val = win0_7.index t (0 : Fin 2) * 512 + 1 * (y 0).val; rw [e0]; omega
    | ⟨1, _⟩ => show (y 1).val = win0_7.index t (1 : Fin 2) * 1024 + 1 * (y 1).val; rw [e1]; omega

include h0 h1 h2 h3 h4 h6 in
theorem flushed7_eq (t : Fin cfg0.N) :
    (dats m 0 c).flushed 7 t = ((cfg0.win 7).blk t).view.read (Elt Ideal) (refX (F := Ideal) (A0 m c) (A1 m c) (A2 m c) (A3 m c) (A4 m c) (A5 m c) (A6 m c)) := by
  by_cases hz : t.val % 16 = 0
  · exact (Value.flushed7_A m c t hz).trans (cut7 m c h0 h1 h2 h3 h4 h6 t _ fun u k => Tile.outA7 c t _ _ _ _ _ _ _ ((hcond0_0 t).mpr hz) u k)
  · exact (Value.flushed7_B m c t hz).trans (cut7 m c h0 h1 h2 h3 h4 h6 t _ fun u k => Tile.outB7 c t _ _ _ _ _ _ _ (fun h => hz ((hcond0_0 t).mp h)) _ _ u k)

theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v0_0).slice (win0_7.rect t)).set ↔ _
  rw [View.set_slice_whole, Rect.mem_set_unit]
  exact Iff.rfl

theorem covered7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  refine ⟨⟨(i 0).val / 512, lt_of_lt_of_eq (by omega) N_0.symm⟩, ((by decide +kernel : ∀ t : Fin grid0.N, win0_7.flush t = true) _), ?_⟩
  rw [mem_blk7]
  obtain ⟨e0, e1⟩ := index7 ⟨(i 0).val / 512, lt_of_lt_of_eq (by omega) N_0.symm⟩
  intro a
  match a with
  | ⟨0, _⟩ => show win0_7.index _ (0 : Fin 2) * 512 ≤ (i 0).val ∧ (i 0).val < win0_7.index _ (0 : Fin 2) * 512 + 512; rw [e0]; show (i 0).val / 512 * 512 ≤ (i 0).val ∧ (i 0).val < (i 0).val / 512 * 512 + 512; omega
  | ⟨1, _⟩ => show win0_7.index _ (1 : Fin 2) * 1024 ≤ (i 1).val ∧ (i 1).val < win0_7.index _ (1 : Fin 2) * 1024 + 1024; rw [e1]; omega

include h0 h1 h2 h3 h4 h6 in
theorem final7 : (dats m 0 c).arrAt 7 cfg0.N = refX (F := Ideal) (A0 m c) (A1 m c) (A2 m c) (A3 m c) (A4 m c) (A5 m c) (A6 m c) :=
  (dats m 0 c).arrAt_eq_of_cover 7 _ (fun t _ => flushed7_eq m c h0 h1 h2 h3 h4 h6 t) (fun i => covered7 i)

include h0 h1 h2 h3 h4 h6 in
theorem cut8 (t : Fin cfg0.N) (O : Vec Ideal S512x1024 .bf16) (hO : ∀ u k, O (ix2 u k) = Tile.tR (iblk m c 0 t) (iblk m c 1 t) (iblk m c 2 t) (iblk m c 3 t) (iblk m c 4 t) (iblk m c 5 t) (iblk m c 6 t) u k) :
    (cfg0.win 8).cut (grid0.coords t) O = ((cfg0.win 8).blk t).view.read (Elt Ideal) (refR (F := Ideal) (A0 m c) (A1 m c) (A2 m c) (A3 m c) (A4 m c) (A5 m c) (A6 m c)) := by
  obtain ⟨e0, e1⟩ := index8 t
  funext y
  have hu : (y 0).val < 512 := (y 0).isLt
  have hn : (y 1).val < 1024 := (y 1).isLt
  refine Eq.trans (congrArg O (?_ : _ = ix2 ⟨(y 0).val, hu⟩ ⟨(y 1).val, hn⟩))
    (((hO _ _).trans (tile8 m c h0 h1 h2 h3 h4 h6 t ⟨(y 0).val, hu⟩ ⟨(y 1).val, hn⟩)).trans (congrArg (refR (F := Ideal) (A0 m c) (A1 m c) (A2 m c) (A3 m c) (A4 m c) (A5 m c) (A6 m c)) (?_ : _ = ((cfg0.win 8).blk t).view.emb y)))
  · funext a
    match a with
    | ⟨0, _⟩ => rfl
    | ⟨1, _⟩ => rfl
  · refine funext fun a => Fin.ext ?_
    match a with
    | ⟨0, _⟩ => show 512 * t.val + (y 0).val = win0_8.index t (0 : Fin 2) * 512 + 1 * (y 0).val; rw [e0]; omega
    | ⟨1, _⟩ => show (y 1).val = win0_8.index t (1 : Fin 2) * 1024 + 1 * (y 1).val; rw [e1]; omega

include h0 h1 h2 h3 h4 h6 in
theorem flushed8_eq (t : Fin cfg0.N) :
    (dats m 0 c).flushed 8 t = ((cfg0.win 8).blk t).view.read (Elt Ideal) (refR (F := Ideal) (A0 m c) (A1 m c) (A2 m c) (A3 m c) (A4 m c) (A5 m c) (A6 m c)) := by
  by_cases hz : t.val % 16 = 0
  · exact (Value.flushed8_A m c t hz).trans (cut8 m c h0 h1 h2 h3 h4 h6 t _ fun u k => Tile.outA8 c t _ _ _ _ _ _ _ ((hcond0_0 t).mpr hz) u k)
  · exact (Value.flushed8_B m c t hz).trans (cut8 m c h0 h1 h2 h3 h4 h6 t _ fun u k => Tile.outB8 c t _ _ _ _ _ _ _ (fun h => hz ((hcond0_0 t).mp h)) _ _ u k)

theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v0_1).slice (win0_8.rect t)).set ↔ _
  rw [View.set_slice_whole, Rect.mem_set_unit]
  exact Iff.rfl

theorem covered8 (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  refine ⟨⟨(i 0).val / 512, lt_of_lt_of_eq (by omega) N_0.symm⟩, ((by decide +kernel : ∀ t : Fin grid0.N, win0_8.flush t = true) _), ?_⟩
  rw [mem_blk8]
  obtain ⟨e0, e1⟩ := index8 ⟨(i 0).val / 512, lt_of_lt_of_eq (by omega) N_0.symm⟩
  intro a
  match a with
  | ⟨0, _⟩ => show win0_8.index _ (0 : Fin 2) * 512 ≤ (i 0).val ∧ (i 0).val < win0_8.index _ (0 : Fin 2) * 512 + 512; rw [e0]; show (i 0).val / 512 * 512 ≤ (i 0).val ∧ (i 0).val < (i 0).val / 512 * 512 + 512; omega
  | ⟨1, _⟩ => show win0_8.index _ (1 : Fin 2) * 1024 ≤ (i 1).val ∧ (i 1).val < win0_8.index _ (1 : Fin 2) * 1024 + 1024; rw [e1]; omega

include h0 h1 h2 h3 h4 h6 in
theorem final8 : (dats m 0 c).arrAt 8 cfg0.N = refR (F := Ideal) (A0 m c) (A1 m c) (A2 m c) (A3 m c) (A4 m c) (A5 m c) (A6 m c) :=
  (dats m 0 c).arrAt_eq_of_cover 8 _ (fun t _ => flushed8_eq m c h0 h1 h2 h3 h4 h6 t) (fun i => covered8 i)

theorem run (h0 : ∀ (c : Dev nD) i, ∃ r : ℝ, A0 m c i = (r : EReal)) (h1 : ∀ (c : Dev nD) i, ∃ r : ℝ, A1 m c i = (r : EReal)) (h2 : ∀ (c : Dev nD) i, ∃ r : ℝ, A2 m c i = (r : EReal)) (h3 : ∀ (c : Dev nD) i, ∃ r : ℝ, A3 m c i = (r : EReal)) (h4 : ∀ (c : Dev nD) i, ∃ r : ℝ, A4 m c i = (r : EReal)) (h6 : ∀ (c : Dev nD) i, ∃ r : ℝ, A6 m c i = (r : EReal)) :
    θ_run defs (onTc (τ := τ) (main (F := Ideal))) ⟨m, fun _ => 0, ρ⟩ fun r => ∀ c : Dev nD,
      r.2.mem ((c : Thread nD τ).loc main_v0_0) = refX (F := Ideal) (A0 m c) (A1 m c) (A2 m c) (A3 m c) (A4 m c) (A5 m c) (A6 m c)
      ∧ r.2.mem ((c : Thread nD τ).loc main_v0_1) = refR (F := Ideal) (A0 m c) (A1 m c) (A2 m c) (A3 m c) (A4 m c) (A5 m c) (A6 m c)
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) :=
  (θ_run defs _ _).mono (fun r h c => ⟨(Value.post7 m r h c).trans (final7 m c (h0 c) (h1 c) (h2 c) (h3 c) (h4 c) (h6 c)), (Value.post8 m r h c).trans (final8 m c (h0 c) (h1 c) (h2 c) (h3 c) (h4 c) (h6 c)), Value.kept_main_arg0 m r h c, Value.kept_main_arg1 m r h c, Value.kept_main_arg2 m r h c, Value.kept_main_arg3 m r h c, Value.kept_main_arg4 m r h c, Value.kept_main_arg5 m r h c, Value.kept_main_arg6 m r h c⟩)
    (run_main m ρ)

end Cert.Dx

end
-- ==== Proof.Dx.Claims.lean ====
/- The claims on the derivative of a layer normalisation: the frames and the equality of the results. -/
module

public import proofs.«01_k».proof.Defs
public import proofs.«01_k».proof.Proof.Gen.Kernel4.Frame
public import proofs.«01_k».proof.Proof.Value.Main
public import proofs.«01_k».proof.Proof.Dx.Main

@[expose] public section

noncomputable section

namespace Cert.Dx

open Idealize.ShloMosaic Idealize.SL.Sem

theorem pre_facts : Cert.Pre_finite4.Facts := { bcast_S_S8192x2816 := by decide, bcast_S_S2816x1024 := by decide, bcast_S_S8192x1024 := by decide, bcast_S_S1x1024 := by decide }

section Pre
variable [hPre : Cert.Pre_finite4.Facts] (a0 : FVec Ideal Cert.Pre_finite4.S8192x2816 .bf16) (a1 : FVec Ideal Cert.Pre_finite4.S8192x2816 .bf16) (a2 : FVec Ideal Cert.Pre_finite4.S2816x1024 .bf16) (a3 : FVec Ideal Cert.Pre_finite4.S2816x1024 .bf16) (a4 : FVec Ideal Cert.Pre_finite4.S8192x1024 .f32) (a5 : FVec Ideal Cert.Pre_finite4.S8192x1024 .f32) (a6 : FVec Ideal Cert.Pre_finite4.S1x1024 .f32)

theorem pre_real0 (h : (Cert.Pre_finite4.fn a0 a1 a2 a3 a4 a5 a6).1 = fun _ => 1#1) (i : Cert.Pre_finite4.S8192x2816.Idx) : ∃ r : ℝ, a0 i = (r : EReal) := by
  refine Cert.Value.real_of_bits _ ?_
  rw [← Cert.Value.neg_inf16, ← Cert.Value.pos_inf16]
  exact congrFun h i

theorem pre_real1 (h : (Cert.Pre_finite4.fn a0 a1 a2 a3 a4 a5 a6).2.1 = fun _ => 1#1) (i : Cert.Pre_finite4.S8192x2816.Idx) : ∃ r : ℝ, a1 i = (r : EReal) := by
  refine Cert.Value.real_of_bits _ ?_
  rw [← Cert.Value.neg_inf16, ← Cert.Value.pos_inf16]
  exact congrFun h i

theorem pre_real2 (h : (Cert.Pre_finite4.fn a0 a1 a2 a3 a4 a5 a6).2.2.1 = fun _ => 1#1) (i : Cert.Pre_finite4.S2816x1024.Idx) : ∃ r : ℝ, a2 i = (r : EReal) := by
  refine Cert.Value.real_of_bits _ ?_
  rw [← Cert.Value.neg_inf16, ← Cert.Value.pos_inf16]
  exact congrFun h i

theorem pre_real3 (h : (Cert.Pre_finite4.fn a0 a1 a2 a3 a4 a5 a6).2.2.2.1 = fun _ => 1#1) (i : Cert.Pre_finite4.S2816x1024.Idx) : ∃ r : ℝ, a3 i = (r : EReal) := by
  refine Cert.Value.real_of_bits _ ?_
  rw [← Cert.Value.neg_inf16, ← Cert.Value.pos_inf16]
  exact congrFun h i

theorem pre_real4 (h : (Cert.Pre_finite4.fn a0 a1 a2 a3 a4 a5 a6).2.2.2.2.1 = fun _ => 1#1) (i : Cert.Pre_finite4.S8192x1024.Idx) : ∃ r : ℝ, a4 i = (r : EReal) := by
  refine Cert.Value.real_of_bits _ ?_
  rw [← Cert.Value.neg_inf, ← Cert.Value.pos_inf]
  exact congrFun h i

theorem pre_real6 (h : (Cert.Pre_finite4.fn a0 a1 a2 a3 a4 a5 a6).2.2.2.2.2 = fun _ => 1#1) (i : Cert.Pre_finite4.S1x1024.Idx) : ∃ r : ℝ, a6 i = (r : EReal) := by
  refine Cert.Value.real_of_bits _ ?_
  rw [← Cert.Value.neg_inf, ← Cert.Value.pos_inf]
  exact congrFun h i
end Pre

theorem frame_kernel : Cert.quiescent_Kernel4 (hKernel4 := Cert.Kernel4.Gen.facts) := fun m ρ _ => Cert.Kernel4.Gen.frame m ρ

theorem frame_kernelIdeal : Cert.quiescent_Kernel4Ideal (hKernel4Ideal := Cert.Kernel4Ideal.Gen.facts) := fun m ρ _ =>
  Cert.Kernel4Ideal.Gen.frame m ρ

theorem frame_kernelIdeal_finite : Cert.quiescent_Kernel4Ideal_pre_finite4 (hKernel4Ideal := Cert.Kernel4Ideal.Gen.facts)
    (hPre_finite4 := pre_facts) := fun m ρ _ => Cert.Kernel4Ideal.Gen.frame m ρ

theorem frame_referenceIdeal : Cert.quiescent_Reference4Ideal (hReference4Ideal := Cert.Reference4Ideal.Gen.facts) := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem frame_referenceIdeal_finite : Cert.quiescent_Reference4Ideal_pre_finite4 (hReference4Ideal := Cert.Reference4Ideal.Gen.facts)
    (hPre_finite4 := pre_facts) := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The derivatives by the two summands of the residual, of the kernel and of the reference. -/
theorem values : Cert.algebraic_Kernel4Ideal_Reference4Ideal_pre_finite4 (hKernel4Ideal := Cert.Kernel4Ideal.Gen.facts)
    (hReference4Ideal := Cert.Reference4Ideal.Gen.facts) (hPre_finite4 := pre_facts) := by
  intro m g m' g' hpre hagree
  refine ⟨fun c => refX (F := Ideal) (A0 m c) (A1 m c) (A2 m c) (A3 m c) (A4 m c) (A5 m c) (A6 m c), fun c => refR (F := Ideal) (A0 m c) (A1 m c) (A2 m c) (A3 m c) (A4 m c) (A5 m c) (A6 m c),
    run m g (fun c i => pre_real0 (hPre := pre_facts) _ _ _ _ _ _ _ (hpre c).1 i) (fun c i => pre_real1 (hPre := pre_facts) _ _ _ _ _ _ _ (hpre c).2.1 i) (fun c i => pre_real2 (hPre := pre_facts) _ _ _ _ _ _ _ (hpre c).2.2.1 i) (fun c i => pre_real3 (hPre := pre_facts) _ _ _ _ _ _ _ (hpre c).2.2.2.1 i) (fun c i => pre_real4 (hPre := pre_facts) _ _ _ _ _ _ _ (hpre c).2.2.2.2.1 i) (fun c i => pre_real6 (hPre := pre_facts) _ _ _ _ _ _ _ (hpre c).2.2.2.2.2 i), ?_⟩
  refine (θ_run Cert.Reference4Ideal.defs _ _).mono (fun r h c => ?_) (Cert.Reference4Ideal.Value.run (F := Ideal) m' g')
  obtain ⟨r0, r1, a⟩ := h c
  obtain ⟨e0, e1, e2, e3, e4, e5, e6⟩ := hagree c
  refine ⟨r0.trans ?_, r1.trans ?_, a⟩
  · rw [res_62, e0, e1, e2, e3, e4, e5, e6]
  · rw [res_63, e0, e1, e2, e3, e4, e5, e6]

end Cert.Dx

end
-- ==== Proof.Up.Tile.lean ====
/- The gated activation and its partial derivatives, of one tile of 512 tokens: eleven bands of 256 columns. -/
module

public import proofs.«01_k».proof.Proof.Gen.Kernel5Ideal.Frame
public import proofs.«01_k».proof.Proof.Up.Math
public import Idealize.ShloMosaic.Lib.Pipeline.ValueKit.Tiles
public import Idealize.ShloMosaic.Lib.Pointwise
public import Idealize.ShloMosaic.Lib.IdealHost

@[expose] public section

noncomputable section

namespace Cert.Up

open Cert.Kernel5Ideal Cert.Kernel5Ideal.Gen
open Idealize.ShloMosaic Idealize.ShloMosaic.TcCoe

theorem sum_ext {n : ℕ} {f g : Fin n → EReal} (h : ∀ k, f k = g k) : ∑ k, f k = ∑ k, g k := Finset.sum_congr rfl fun k _ => h k
theorem mul_ext {a b a' b' : EReal} (h : a = a') (e : b = b') : a * b = a' * b' := by rw [h, e]

section Band
variable {F : FTy → Type} [FloatOps F]

/-- A hidden product's band, and what is stored of the two of them. -/
def bH (x : Vec F S512x1024 .bf16) (w : Vec F S256x1024 .bf16) : FVec F S512x256 .f32 :=
  matmul dot_S512x1024_S256x1024_S512x256_1_1_0_0_n_n none x w (constant S512x256 .f32 0x00000000#32)
def bS (x : Vec F S512x1024 .bf16) (w : Vec F S256x1024 .bf16) : FVec F S512x256 .bf16 :=
  truncf .bf16 (mulf (bH x w) (logistic (bH x w))) bitsLt_bf16_f32
def bA (x : Vec F S512x1024 .bf16) (w v : Vec F S256x1024 .bf16) : FVec F S512x256 .bf16 :=
  truncf .bf16 (mulf (mulf (bH x w) (logistic (bH x w))) (bH x v)) bitsLt_bf16_f32
def bD (x : Vec F S512x1024 .bf16) (w v : Vec F S256x1024 .bf16) : FVec F S512x256 .bf16 :=
  truncf .bf16 (addf (mulf (mulf (bH x w) (logistic (bH x w))) (bH x v))
    (mulf (logistic (bH x w)) (subf (bH x v) (mulf (mulf (bH x w) (logistic (bH x w))) (bH x v))))) bitsLt_bf16_f32
end Band

theorem bH_ix (x : Vec Ideal S512x1024 .bf16) (w : Vec Ideal S256x1024 .bf16) (a : Fin 512) (b : Fin 256) :
    bH (F := Ideal) x w (ix2 a b) = (∑ k : Fin 1024, x (ix2 a k) * w (ix2 b k) : EReal) := by
  pointwise [bH]

/-- A hidden product of a tile. -/
abbrev hidT (x0 : Vec Ideal S512x1024 .bf16) (x1 : Vec Ideal S2816x1024 .bf16) (u : Fin 512) (n : Fin 2816) : EReal := (∑ k : Fin 1024, x0 (ix2 u k) * x1 (ix2 n k) : EReal)

section Piece
variable (x0 : Vec Ideal S512x1024 .bf16) (x1 x2 : Vec Ideal S2816x1024 .bf16) (j : ℕ)
    (i0 : ∀ a, (![0, 0] : Fin 2 → ℕ) a + S512x1024.size a ≤ S512x1024.size a) (i1 : ∀ a, (![j, 0] : Fin 2 → ℕ) a + S256x1024.size a ≤ S2816x1024.size a)
    (x : S512x256.Idx) (u : Fin 512) (n : Fin 2816) (h0 : u.val = (x 0).val) (h1 : n.val = j + (x 1).val)
include h0 h1

theorem pieceH : bH (F := Ideal) (View.ld x0 (Rect.unit (s := S512x1024) ![0, 0] S512x1024.size i0)) (View.ld x1 (Rect.unit (s := S2816x1024) ![j, 0] S256x1024.size i1)) x
      = hidT x0 x1 u n := by
  obtain ⟨a, b, rfl⟩ : ∃ (a : Fin 512) (b : Fin 256), x = ix2 a b := ⟨x 0, x 1, funext fun a => match a with | ⟨0, _⟩ => rfl | ⟨1, _⟩ => rfl⟩
  have h0' : u.val = a.val := h0
  have h1' : n.val = j + b.val := h1
  refine (bH_ix _ _ a b).trans (sum_ext fun k => mul_ext ?_ ?_)
  · refine congrArg x0 (funext fun i => Fin.ext ?_)
    match i with
    | ⟨0, _⟩ => show 0 + 1 * a.val = u.val; omega
    | ⟨1, _⟩ => show 0 + 1 * k.val = k.val; omega
  · refine congrArg x1 (funext fun i => Fin.ext ?_)
    match i with
    | ⟨0, _⟩ => show j + 1 * b.val = n.val; omega
    | ⟨1, _⟩ => show 0 + 1 * k.val = k.val; omega

theorem pieceS : bS (F := Ideal) (View.ld x0 (Rect.unit (s := S512x1024) ![0, 0] S512x1024.size i0)) (View.ld x1 (Rect.unit (s := S2816x1024) ![j, 0] S256x1024.size i1)) x
      = fS (hidT x0 x1 u n) :=
  congrArg fS (pieceH x0 x1 j i0 i1 x u n h0 h1)

theorem pieceA : bA (F := Ideal) (View.ld x0 (Rect.unit (s := S512x1024) ![0, 0] S512x1024.size i0)) (View.ld x1 (Rect.unit (s := S2816x1024) ![j, 0] S256x1024.size i1))
      (View.ld x2 (Rect.unit (s := S2816x1024) ![j, 0] S256x1024.size i1)) x
      = fA (hidT x0 x1 u n) (hidT x0 x2 u n) :=
  congrArg₂ fA (pieceH x0 x1 j i0 i1 x u n h0 h1) (pieceH x0 x2 j i0 i1 x u n h0 h1)

theorem pieceD : bD (F := Ideal) (View.ld x0 (Rect.unit (s := S512x1024) ![0, 0] S512x1024.size i0)) (View.ld x1 (Rect.unit (s := S2816x1024) ![j, 0] S256x1024.size i1))
      (View.ld x2 (Rect.unit (s := S2816x1024) ![j, 0] S256x1024.size i1)) x
      = fD (hidT x0 x1 u n) (hidT x0 x2 u n) :=
  congrArg₂ fD (pieceH x0 x1 j i0 i1 x u n h0 h1) (pieceH x0 x2 j i0 i1 x u n h0 h1)
end Piece

variable (x0 : Vec Ideal S512x1024 .bf16) (x1 x2 : Vec Ideal S2816x1024 .bf16) (u : Fin 512) (n : Fin 2816)

theorem out3 : out0_3 (F := Ideal) x0 x1 x2 (ix2 u n) = fS (hidT x0 x1 u n) := by
  unfold_out out0_3
  canon_tiles x h using cover0_3 ..
  all_goals first
    | exact pieceS x0 x1 _ _ _ x u n h0 h1
    | exact pieceS x0 x1 0 _ _ x u n h0 (h1.trans (Nat.zero_add _).symm)

theorem out4 : out0_4 (F := Ideal) x0 x1 x2 (ix2 u n) = fD (hidT x0 x1 u n) (hidT x0 x2 u n) := by
  unfold_out out0_4
  canon_tiles x h using cover0_4 ..
  all_goals first
    | exact pieceD x0 x1 x2 _ _ _ x u n h0 h1
    | exact pieceD x0 x1 x2 0 _ _ x u n h0 (h1.trans (Nat.zero_add _).symm)

theorem out5 : out0_5 (F := Ideal) x0 x1 x2 (ix2 u n) = fA (hidT x0 x1 u n) (hidT x0 x2 u n) := by
  unfold_out out0_5
  canon_tiles x h using cover0_5 ..
  all_goals first
    | exact pieceA x0 x1 x2 _ _ _ x u n h0 h1
    | exact pieceA x0 x1 x2 0 _ _ x u n h0 (h1.trans (Nat.zero_add _).symm)

end Cert.Up

end
-- ==== Proof.Up.Ref.lean ====
/- The reference of the gated activation and of its partial derivatives, at an index. -/
module

public import proofs.«01_k».proof.Proof.Gen.Reference5Ideal.Run
public import proofs.«01_k».proof.Proof.Up.Math
public import Idealize.ShloMosaic.Lib.Pointwise
public import Idealize.ShloMosaic.Lib.IdealHost

@[expose] public section

noncomputable section

namespace Cert.Up

open Cert.Reference5Ideal Cert.Reference5Ideal.Gen
open Idealize.ShloMosaic Idealize.ShloMosaic.TcCoe Idealize.ShloMosaic.StableHlo

section Defs
variable {F : FTy → Type} [FloatOps F]

/-- A hidden product. -/
def rH (x : Vec F S8192x1024 .bf16) (w : Vec F S2816x1024 .bf16) : Vec F S8192x2816 .f32 :=
  Host.dotGeneral dot_S8192x1024_S1024x2816_S8192x2816_1_0_0_1_n_n none (extf .f32 x bitsLt_bf16_f32) (transpose S1024x2816 [1, 0] (extf .f32 w bitsLt_bf16_f32) transposes_S2816x1024_S1024x2816_1_0)

def one : Vec F S8192x2816 .f32 := broadcastInDim S8192x2816 ![] bcast_S_S8192x2816 (constant S_ .f32 0x3F800000#32)

/-- The logistic function. -/
def rL (h : Vec F S8192x2816 .f32) : Vec F S8192x2816 .f32 := Host.divf one (addf one (Host.exp (Host.negf h)))

def refS (x : Vec F S8192x1024 .bf16) (wg : Vec F S2816x1024 .bf16) : Vec F S8192x2816 .bf16 :=
  truncf .bf16 (mulf (mulf (rH x wg) (rL (rH x wg))) one) bitsLt_bf16_f32

def refD (x : Vec F S8192x1024 .bf16) (wg wu : Vec F S2816x1024 .bf16) : Vec F S8192x2816 .bf16 :=
  truncf .bf16 (addf (mulf (mulf one (rH x wu)) (rL (rH x wg))) (mulf (mulf (rH x wg) (mulf one (rH x wu))) (mulf (rL (rH x wg)) (subf one (rL (rH x wg)))))) bitsLt_bf16_f32

def refA (x : Vec F S8192x1024 .bf16) (wg wu : Vec F S2816x1024 .bf16) : Vec F S8192x2816 .bf16 :=
  truncf .bf16 (mulf (mulf (rH x wg) (rL (rH x wg))) (rH x wu)) bitsLt_bf16_f32

end Defs

variable (x : Vec Ideal S8192x1024 .bf16) (wg wu : Vec Ideal S2816x1024 .bf16) (t : Fin 8192) (n : Fin 2816)

abbrev hid (x : Vec Ideal S8192x1024 .bf16) (w : Vec Ideal S2816x1024 .bf16) (t : Fin 8192) (n : Fin 2816) : EReal := (∑ k : Fin 1024, x (ix2 t k) * w (ix2 n k) : EReal)

theorem rH_ix (w : Vec Ideal S2816x1024 .bf16) : rH (F := Ideal) x w (ix2 t n) = hid x w t n := by
  pointwise [rH]

theorem one_ix (i : S8192x2816.Idx) : one (F := Ideal) i = (1 : EReal) := by
  show Ideal.ofBits .f32 0x3F800000#32 = 1
  simp

theorem rL_ix (h : Vec Ideal S8192x2816 .f32) (i : S8192x2816.Idx) : rL (F := Ideal) h i = Ideal.logistic (h i) := by
  show Ideal.div (one (F := Ideal) i) (one (F := Ideal) i + Ideal.exp (-(h i))) = Ideal.div 1 (1 + Ideal.exp (-(h i)))
  rw [one_ix]

theorem refS_ix : refS (F := Ideal) x wg (ix2 t n) = fS (hid x wg t n) := by
  show (rH (F := Ideal) x wg (ix2 t n) * rL (F := Ideal) (rH x wg) (ix2 t n) * one (F := Ideal) (ix2 t n) : EReal) = _
  rw [rL_ix, one_ix, rH_ix, mul_one]
  rfl

theorem refA_ix : refA (F := Ideal) x wg wu (ix2 t n) = fA (hid x wg t n) (hid x wu t n) := by
  show (rH (F := Ideal) x wg (ix2 t n) * rL (F := Ideal) (rH x wg) (ix2 t n) * rH (F := Ideal) x wu (ix2 t n) : EReal) = _
  rw [rL_ix, rH_ix, rH_ix]
  rfl

theorem refD_ix : refD (F := Ideal) x wg wu (ix2 t n) = gD (hid x wg t n) (hid x wu t n) := by
  show (one (F := Ideal) (ix2 t n) * rH (F := Ideal) x wu (ix2 t n) * rL (F := Ideal) (rH x wg) (ix2 t n)
    + rH (F := Ideal) x wg (ix2 t n) * (one (F := Ideal) (ix2 t n) * rH (F := Ideal) x wu (ix2 t n)) * (rL (F := Ideal) (rH x wg) (ix2 t n) * (one (F := Ideal) (ix2 t n) - rL (F := Ideal) (rH x wg) (ix2 t n))) : EReal) = _
  rw [rL_ix, rH_ix, rH_ix, one_ix, one_mul]
  rfl

end Cert.Up

end
-- ==== Proof.Up.Main.lean ====
/- The gated activation and its partial derivatives: what the launch leaves is what the reference computes. -/
module

public import proofs.«01_k».proof.Proof.Gen.Kernel5Ideal.Value
public import proofs.«01_k».proof.Proof.Up.Tile
public import proofs.«01_k».proof.Proof.Up.Ref

@[expose] public section

set_option maxRecDepth 16384

noncomputable section

namespace Cert.Up

open Cert.Kernel5Ideal Cert.Kernel5Ideal.Gen
open Idealize.ShloMosaic Idealize.ShloMosaic.TcCoe

variable (m : (ℓ : Loc nD τ sig) → Buf (Elt Ideal) ℓ) (ρ : Dev nD → PrngReg) (c : Dev nD)

abbrev A0 : Vec Ideal S8192x1024 .bf16 := m ((c : Thread nD τ).loc main_arg0)
abbrev A1 : Vec Ideal S2816x1024 .bf16 := m ((c : Thread nD τ).loc main_arg1)
abbrev A2 : Vec Ideal S2816x1024 .bf16 := m ((c : Thread nD τ).loc main_arg2)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

theorem lt_N (t : Fin cfg0.N) : t.val < 16 := lt_of_lt_of_eq t.isLt N_0

/-- A token of the tile `t`. -/
abbrev tok (t : Fin cfg0.N) (u : Fin 512) : Fin 8192 := ⟨512 * t.val + u.val, by have := lt_N t; have := u.isLt; omega⟩

theorem blk0_ix (t : Fin cfg0.N) (u : Fin 512) (k : Fin 1024) :
    (iblk m c 0 t : Vec Ideal S512x1024 .bf16) (ix2 u k) = A0 m c (ix2 (tok t u) k) := by
  obtain ⟨e0, e1⟩ := index0 t
  show Gen.V m c main_arg0 (((cfg0.win 0).blk t).view.emb (ix2 u k)) = _
  rw [V_main_arg0 m c]
  refine congrArg (m ((c : Thread nD τ).loc main_arg0)) (funext fun a => Fin.ext ?_)
  match a with
  | ⟨0, _⟩ => show win0_0.index t (0 : Fin 2) * 512 + 1 * u.val = 512 * t.val + u.val; rw [e0]; omega
  | ⟨1, _⟩ => show win0_0.index t (1 : Fin 2) * 1024 + 1 * k.val = k.val; rw [e1]; omega

theorem blk1_ix (t : Fin cfg0.N) (n : Fin 2816) (k : Fin 1024) :
    (iblk m c 1 t : Vec Ideal S2816x1024 .bf16) (ix2 n k) = A1 m c (ix2 n k) := by
  obtain ⟨e0, e1⟩ := index1 t
  show Gen.V m c main_arg1 (((cfg0.win 1).blk t).view.emb (ix2 n k)) = _
  rw [V_main_arg1 m c]
  refine congrArg (m ((c : Thread nD τ).loc main_arg1)) (funext fun a => Fin.ext ?_)
  match a with
  | ⟨0, _⟩ => show win0_1.index t (0 : Fin 2) * 2816 + 1 * n.val = n.val; rw [e0]; omega
  | ⟨1, _⟩ => show win0_1.index t (1 : Fin 2) * 1024 + 1 * k.val = k.val; rw [e1]; omega

theorem hid1_ix (t : Fin cfg0.N) (u : Fin 512) (n : Fin 2816) : hidT (iblk m c 0 t) (iblk m c 1 t) u n = hid (A0 m c) (A1 m c) (tok t u) n :=
  sum_ext fun k => mul_ext (blk0_ix m c t u k) (blk1_ix m c t n k)

theorem blk2_ix (t : Fin cfg0.N) (n : Fin 2816) (k : Fin 1024) :
    (iblk m c 2 t : Vec Ideal S2816x1024 .bf16) (ix2 n k) = A2 m c (ix2 n k) := by
  obtain ⟨e0, e1⟩ := index2 t
  show Gen.V m c main_arg2 (((cfg0.win 2).blk t).view.emb (ix2 n k)) = _
  rw [V_main_arg2 m c]
  refine congrArg (m ((c : Thread nD τ).loc main_arg2)) (funext fun a => Fin.ext ?_)
  match a with
  | ⟨0, _⟩ => show win0_2.index t (0 : Fin 2) * 2816 + 1 * n.val = n.val; rw [e0]; omega
  | ⟨1, _⟩ => show win0_2.index t (1 : Fin 2) * 1024 + 1 * k.val = k.val; rw [e1]; omega

theorem hid2_ix (t : Fin cfg0.N) (u : Fin 512) (n : Fin 2816) : hidT (iblk m c 0 t) (iblk m c 2 t) u n = hid (A0 m c) (A2 m c) (tok t u) n :=
  sum_ext fun k => mul_ext (blk0_ix m c t u k) (blk2_ix m c t n k)

/-! ## The arguments are finite -/

variable (h0 : ∀ i, ∃ r : ℝ, A0 m c i = (r : EReal)) (h1 : ∀ i, ∃ r : ℝ, A1 m c i = (r : EReal)) (h2 : ∀ i, ∃ r : ℝ, A2 m c i = (r : EReal))

theorem tile3 (t : Fin cfg0.N) (u : Fin 512) (n : Fin 2816) :
    out0_3 (F := Ideal) (iblk m c 0 t) (iblk m c 1 t) (iblk m c 2 t) (ix2 u n) = refS (F := Ideal) (A0 m c) (A1 m c) (ix2 (tok t u) n) := by
  refine (out3 _ _ _ u n).trans ((congrArg fS (hid1_ix m c t u n)).trans (refS_ix (A0 m c) (A1 m c) (tok t u) n).symm)

theorem flushed3_eq (t : Fin cfg0.N) :
    (dats m 0 c).flushed 3 t = ((cfg0.win 3).blk t).view.read (Elt Ideal) (refS (F := Ideal) (A0 m c) (A1 m c)) := by
  rw [Value.flushed3 m c t]
  obtain ⟨e0, e1⟩ := index3 t
  funext y
  have hu : (y 0).val < 512 := (y 0).isLt
  have hn : (y 1).val < 2816 := (y 1).isLt
  refine Eq.trans (congrArg (out0_3 (F := Ideal) (iblk m c 0 t) (iblk m c 1 t) (iblk m c 2 t)) (?_ : _ = ix2 ⟨(y 0).val, hu⟩ ⟨(y 1).val, hn⟩))
    ((tile3 m c t ⟨(y 0).val, hu⟩ ⟨(y 1).val, hn⟩).trans (congrArg (refS (F := Ideal) (A0 m c) (A1 m c)) (?_ : _ = ((cfg0.win 3).blk t).view.emb y)))
  · funext a
    match a with
    | ⟨0, _⟩ => rfl
    | ⟨1, _⟩ => rfl
  · refine funext fun a => Fin.ext ?_
    match a with
    | ⟨0, _⟩ => show 512 * t.val + (y 0).val = win0_3.index t (0 : Fin 2) * 512 + 1 * (y 0).val; rw [e0]; omega
    | ⟨1, _⟩ => show (y 1).val = win0_3.index t (1 : Fin 2) * 2816 + 1 * (y 1).val; rw [e1]; omega

theorem mem_blk3 (t : Fin cfg0.N) (i : S8192x2816.Idx) :
    i ∈ ((cfg0.win 3).blk t).view.set ↔ ∀ a : Fin 2, win0_3.index t a * S512x2816.size a ≤ (i a).val ∧ (i a).val < win0_3.index t a * S512x2816.size a + S512x2816.size a := by
  show i ∈ ((View.whole main_v0_0).slice (win0_3.rect t)).set ↔ _
  rw [View.set_slice_whole, Rect.mem_set_unit]
  exact Iff.rfl

theorem covered3 (i : S8192x2816.Idx) : ∃ t : Fin cfg0.N, (cfg0.win 3).flush t = true ∧ i ∈ ((cfg0.win 3).blk t).view.set := by
  have h0 : (i 0).val < 8192 := (i 0).isLt
  have h1 : (i 1).val < 2816 := (i 1).isLt
  refine ⟨⟨(i 0).val / 512, lt_of_lt_of_eq (by omega) N_0.symm⟩, ((by decide +kernel : ∀ t : Fin grid0.N, win0_3.flush t = true) _), ?_⟩
  rw [mem_blk3]
  obtain ⟨e0, e1⟩ := index3 ⟨(i 0).val / 512, lt_of_lt_of_eq (by omega) N_0.symm⟩
  intro a
  match a with
  | ⟨0, _⟩ => show win0_3.index _ (0 : Fin 2) * 512 ≤ (i 0).val ∧ (i 0).val < win0_3.index _ (0 : Fin 2) * 512 + 512; rw [e0]; show (i 0).val / 512 * 512 ≤ (i 0).val ∧ (i 0).val < (i 0).val / 512 * 512 + 512; omega
  | ⟨1, _⟩ => show win0_3.index _ (1 : Fin 2) * 2816 ≤ (i 1).val ∧ (i 1).val < win0_3.index _ (1 : Fin 2) * 2816 + 2816; rw [e1]; omega

theorem final3 : (dats m 0 c).arrAt 3 cfg0.N = refS (F := Ideal) (A0 m c) (A1 m c) :=
  (dats m 0 c).arrAt_eq_of_cover 3 _ (fun t _ => flushed3_eq m c t) (fun i => covered3 i)

include h0 h1 h2 in
theorem tile4 (t : Fin cfg0.N) (u : Fin 512) (n : Fin 2816) :
    out0_4 (F := Ideal) (iblk m c 0 t) (iblk m c 1 t) (iblk m c 2 t) (ix2 u n) = refD (F := Ideal) (A0 m c) (A1 m c) (A2 m c) (ix2 (tok t u) n) := by
  refine (out4 _ _ _ u n).trans ((congrArg₂ fD (hid1_ix m c t u n) (hid2_ix m c t u n)).trans (Eq.trans ?_ (refD_ix (A0 m c) (A1 m c) (A2 m c) (tok t u) n).symm))
  exact fD_eq_of (real_sum (fun k => h0 _) fun k => h1 _) (real_sum (fun k => h0 _) fun k => h2 _)

include h0 h1 h2 in
theorem flushed4_eq (t : Fin cfg0.N) :
    (dats m 0 c).flushed 4 t = ((cfg0.win 4).blk t).view.read (Elt Ideal) (refD (F := Ideal) (A0 m c) (A1 m c) (A2 m c)) := by
  rw [Value.flushed4 m c t]
  obtain ⟨e0, e1⟩ := index4 t
  funext y
  have hu : (y 0).val < 512 := (y 0).isLt
  have hn : (y 1).val < 2816 := (y 1).isLt
  refine Eq.trans (congrArg (out0_4 (F := Ideal) (iblk m c 0 t) (iblk m c 1 t) (iblk m c 2 t)) (?_ : _ = ix2 ⟨(y 0).val, hu⟩ ⟨(y 1).val, hn⟩))
    ((tile4 m c h0 h1 h2 t ⟨(y 0).val, hu⟩ ⟨(y 1).val, hn⟩).trans (congrArg (refD (F := Ideal) (A0 m c) (A1 m c) (A2 m c)) (?_ : _ = ((cfg0.win 4).blk t).view.emb y)))
  · funext a
    match a with
    | ⟨0, _⟩ => rfl
    | ⟨1, _⟩ => rfl
  · refine funext fun a => Fin.ext ?_
    match a with
    | ⟨0, _⟩ => show 512 * t.val + (y 0).val = win0_4.index t (0 : Fin 2) * 512 + 1 * (y 0).val; rw [e0]; omega
    | ⟨1, _⟩ => show (y 1).val = win0_4.index t (1 : Fin 2) * 2816 + 1 * (y 1).val; rw [e1]; omega

theorem mem_blk4 (t : Fin cfg0.N) (i : S8192x2816.Idx) :
    i ∈ ((cfg0.win 4).blk t).view.set ↔ ∀ a : Fin 2, win0_4.index t a * S512x2816.size a ≤ (i a).val ∧ (i a).val < win0_4.index t a * S512x2816.size a + S512x2816.size a := by
  show i ∈ ((View.whole main_v0_1).slice (win0_4.rect t)).set ↔ _
  rw [View.set_slice_whole, Rect.mem_set_unit]
  exact Iff.rfl

theorem covered4 (i : S8192x2816.Idx) : ∃ t : Fin cfg0.N, (cfg0.win 4).flush t = true ∧ i ∈ ((cfg0.win 4).blk t).view.set := by
  have h0 : (i 0).val < 8192 := (i 0).isLt
  have h1 : (i 1).val < 2816 := (i 1).isLt
  refine ⟨⟨(i 0).val / 512, lt_of_lt_of_eq (by omega) N_0.symm⟩, ((by decide +kernel : ∀ t : Fin grid0.N, win0_4.flush t = true) _), ?_⟩
  rw [mem_blk4]
  obtain ⟨e0, e1⟩ := index4 ⟨(i 0).val / 512, lt_of_lt_of_eq (by omega) N_0.symm⟩
  intro a
  match a with
  | ⟨0, _⟩ => show win0_4.index _ (0 : Fin 2) * 512 ≤ (i 0).val ∧ (i 0).val < win0_4.index _ (0 : Fin 2) * 512 + 512; rw [e0]; show (i 0).val / 512 * 512 ≤ (i 0).val ∧ (i 0).val < (i 0).val / 512 * 512 + 512; omega
  | ⟨1, _⟩ => show win0_4.index _ (1 : Fin 2) * 2816 ≤ (i 1).val ∧ (i 1).val < win0_4.index _ (1 : Fin 2) * 2816 + 2816; rw [e1]; omega

include h0 h1 h2 in
theorem final4 : (dats m 0 c).arrAt 4 cfg0.N = refD (F := Ideal) (A0 m c) (A1 m c) (A2 m c) :=
  (dats m 0 c).arrAt_eq_of_cover 4 _ (fun t _ => flushed4_eq m c h0 h1 h2 t) (fun i => covered4 i)

theorem tile5 (t : Fin cfg0.N) (u : Fin 512) (n : Fin 2816) :
    out0_5 (F := Ideal) (iblk m c 0 t) (iblk m c 1 t) (iblk m c 2 t) (ix2 u n) = refA (F := Ideal) (A0 m c) (A1 m c) (A2 m c) (ix2 (tok t u) n) := by
  refine (out5 _ _ _ u n).trans ((congrArg₂ fA (hid1_ix m c t u n) (hid2_ix m c t u n)).trans (refA_ix (A0 m c) (A1 m c) (A2 m c) (tok t u) n).symm)

theorem flushed5_eq (t : Fin cfg0.N) :
    (dats m 0 c).flushed 5 t = ((cfg0.win 5).blk t).view.read (Elt Ideal) (refA (F := Ideal) (A0 m c) (A1 m c) (A2 m c)) := by
  rw [Value.flushed5 m c t]
  obtain ⟨e0, e1⟩ := index5 t
  funext y
  have hu : (y 0).val < 512 := (y 0).isLt
  have hn : (y 1).val < 2816 := (y 1).isLt
  refine Eq.trans (congrArg (out0_5 (F := Ideal) (iblk m c 0 t) (iblk m c 1 t) (iblk m c 2 t)) (?_ : _ = ix2 ⟨(y 0).val, hu⟩ ⟨(y 1).val, hn⟩))
    ((tile5 m c t ⟨(y 0).val, hu⟩ ⟨(y 1).val, hn⟩).trans (congrArg (refA (F := Ideal) (A0 m c) (A1 m c) (A2 m c)) (?_ : _ = ((cfg0.win 5).blk t).view.emb y)))
  · funext a
    match a with
    | ⟨0, _⟩ => rfl
    | ⟨1, _⟩ => rfl
  · refine funext fun a => Fin.ext ?_
    match a with
    | ⟨0, _⟩ => show 512 * t.val + (y 0).val = win0_5.index t (0 : Fin 2) * 512 + 1 * (y 0).val; rw [e0]; omega
    | ⟨1, _⟩ => show (y 1).val = win0_5.index t (1 : Fin 2) * 2816 + 1 * (y 1).val; rw [e1]; omega

theorem mem_blk5 (t : Fin cfg0.N) (i : S8192x2816.Idx) :
    i ∈ ((cfg0.win 5).blk t).view.set ↔ ∀ a : Fin 2, win0_5.index t a * S512x2816.size a ≤ (i a).val ∧ (i a).val < win0_5.index t a * S512x2816.size a + S512x2816.size a := by
  show i ∈ ((View.whole main_v0_2).slice (win0_5.rect t)).set ↔ _
  rw [View.set_slice_whole, Rect.mem_set_unit]
  exact Iff.rfl

theorem covered5 (i : S8192x2816.Idx) : ∃ t : Fin cfg0.N, (cfg0.win 5).flush t = true ∧ i ∈ ((cfg0.win 5).blk t).view.set := by
  have h0 : (i 0).val < 8192 := (i 0).isLt
  have h1 : (i 1).val < 2816 := (i 1).isLt
  refine ⟨⟨(i 0).val / 512, lt_of_lt_of_eq (by omega) N_0.symm⟩, ((by decide +kernel : ∀ t : Fin grid0.N, win0_5.flush t = true) _), ?_⟩
  rw [mem_blk5]
  obtain ⟨e0, e1⟩ := index5 ⟨(i 0).val / 512, lt_of_lt_of_eq (by omega) N_0.symm⟩
  intro a
  match a with
  | ⟨0, _⟩ => show win0_5.index _ (0 : Fin 2) * 512 ≤ (i 0).val ∧ (i 0).val < win0_5.index _ (0 : Fin 2) * 512 + 512; rw [e0]; show (i 0).val / 512 * 512 ≤ (i 0).val ∧ (i 0).val < (i 0).val / 512 * 512 + 512; omega
  | ⟨1, _⟩ => show win0_5.index _ (1 : Fin 2) * 2816 ≤ (i 1).val ∧ (i 1).val < win0_5.index _ (1 : Fin 2) * 2816 + 2816; rw [e1]; omega

theorem final5 : (dats m 0 c).arrAt 5 cfg0.N = refA (F := Ideal) (A0 m c) (A1 m c) (A2 m c) :=
  (dats m 0 c).arrAt_eq_of_cover 5 _ (fun t _ => flushed5_eq m c t) (fun i => covered5 i)

theorem run (h0 : ∀ (c : Dev nD) i, ∃ r : ℝ, A0 m c i = (r : EReal)) (h1 : ∀ (c : Dev nD) i, ∃ r : ℝ, A1 m c i = (r : EReal))
    (h2 : ∀ (c : Dev nD) i, ∃ r : ℝ, A2 m c i = (r : EReal)) :
    θ_run defs (onTc (τ := τ) (main (F := Ideal))) ⟨m, fun _ => 0, ρ⟩ fun r => ∀ c : Dev nD,
      r.2.mem ((c : Thread nD τ).loc main_v0_0) = refS (F := Ideal) (A0 m c) (A1 m c)
      ∧ r.2.mem ((c : Thread nD τ).loc main_v0_1) = refD (F := Ideal) (A0 m c) (A1 m c) (A2 m c)
      ∧ r.2.mem ((c : Thread nD τ).loc main_v0_2) = refA (F := Ideal) (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post3 m r h c).trans (final3 m c), (Value.post4 m r h c).trans (final4 m c (h0 c) (h1 c) (h2 c)),
      (Value.post5 m r h c).trans (final5 m c), Value.kept_main_arg0 m r h c, Value.kept_main_arg1 m r h c, Value.kept_main_arg2 m r h c⟩)
    (run_main m ρ)

end Cert.Up

end
-- ==== Proof.Up.Claims.lean ====
/- The claims on the gated activation: the frames and the equality of the results. -/
module

public import proofs.«01_k».proof.Defs
public import proofs.«01_k».proof.Proof.Gen.Kernel5.Frame
public import proofs.«01_k».proof.Proof.Value.Main
public import proofs.«01_k».proof.Proof.Up.Main

@[expose] public section

noncomputable section

namespace Cert.Up

open Idealize.ShloMosaic Idealize.SL.Sem

theorem pre_facts : Cert.Pre_finite5.Facts := { bcast_S_S8192x1024 := by decide, bcast_S_S2816x1024 := by decide }

section Pre
variable [hPre : Cert.Pre_finite5.Facts] (a0 : FVec Ideal Cert.Pre_finite5.S8192x1024 .bf16) (a1 a2 : FVec Ideal Cert.Pre_finite5.S2816x1024 .bf16)

theorem pre_real0 (h : (Cert.Pre_finite5.fn a0 a1 a2).1 = fun _ => 1#1) (i : Cert.Pre_finite5.S8192x1024.Idx) : ∃ r : ℝ, a0 i = (r : EReal) := by
  refine Cert.Value.real_of_bits _ ?_
  rw [← Cert.Value.neg_inf16, ← Cert.Value.pos_inf16]
  exact congrFun h i

theorem pre_real1 (h : (Cert.Pre_finite5.fn a0 a1 a2).2.1 = fun _ => 1#1) (i : Cert.Pre_finite5.S2816x1024.Idx) : ∃ r : ℝ, a1 i = (r : EReal) := by
  refine Cert.Value.real_of_bits _ ?_
  rw [← Cert.Value.neg_inf16, ← Cert.Value.pos_inf16]
  exact congrFun h i

theorem pre_real2 (h : (Cert.Pre_finite5.fn a0 a1 a2).2.2 = fun _ => 1#1) (i : Cert.Pre_finite5.S2816x1024.Idx) : ∃ r : ℝ, a2 i = (r : EReal) := by
  refine Cert.Value.real_of_bits _ ?_
  rw [← Cert.Value.neg_inf16, ← Cert.Value.pos_inf16]
  exact congrFun h i
end Pre

theorem frame_kernel : Cert.quiescent_Kernel5 (hKernel5 := Cert.Kernel5.Gen.facts) := fun m ρ _ => Cert.Kernel5.Gen.frame m ρ

theorem frame_kernelIdeal : Cert.quiescent_Kernel5Ideal (hKernel5Ideal := Cert.Kernel5Ideal.Gen.facts) := fun m ρ _ =>
  Cert.Kernel5Ideal.Gen.frame m ρ

theorem frame_kernelIdeal_finite : Cert.quiescent_Kernel5Ideal_pre_finite5 (hKernel5Ideal := Cert.Kernel5Ideal.Gen.facts)
    (hPre_finite5 := pre_facts) := fun m ρ _ => Cert.Kernel5Ideal.Gen.frame m ρ

theorem frame_referenceIdeal : Cert.quiescent_Reference5Ideal (hReference5Ideal := Cert.Reference5Ideal.Gen.facts) := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

theorem frame_referenceIdeal_finite : Cert.quiescent_Reference5Ideal_pre_finite5 (hReference5Ideal := Cert.Reference5Ideal.Gen.facts)
    (hPre_finite5 := pre_facts) := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- The activation and its two partial derivatives, of the kernel and of the reference. -/
theorem values : Cert.algebraic_Kernel5Ideal_Reference5Ideal_pre_finite5 (hKernel5Ideal := Cert.Kernel5Ideal.Gen.facts)
    (hReference5Ideal := Cert.Reference5Ideal.Gen.facts) (hPre_finite5 := pre_facts) := by
  intro m g m' g' hpre hagree
  refine ⟨fun c => refS (F := Ideal) (A0 m c) (A1 m c), fun c => refD (F := Ideal) (A0 m c) (A1 m c) (A2 m c),
    fun c => refA (F := Ideal) (A0 m c) (A1 m c) (A2 m c),
    run m g (fun c i => pre_real0 (hPre := pre_facts) _ _ _ (hpre c).1 i) (fun c i => pre_real1 (hPre := pre_facts) _ _ _ (hpre c).2.1 i)
      (fun c i => pre_real2 (hPre := pre_facts) _ _ _ (hpre c).2.2 i), ?_⟩
  refine (θ_run Cert.Reference5Ideal.defs _ _).mono (fun r h c => ?_) (Cert.Reference5Ideal.Value.run (F := Ideal) m' g')
  obtain ⟨r0, r1, r2, a⟩ := h c
  obtain ⟨e0, e1, e2⟩ := hagree c
  refine ⟨r0.trans ?_, r1.trans ?_, r2.trans ?_, a⟩
  · rw [e0, e1]; rfl
  · rw [e0, e1, e2]; rfl
  · rw [e0, e1, e2]; rfl

end Cert.Up

end
-- ==== Proof.Ln.Ref.lean ====
/- The reference of a feed-forward sublayer's residual sum and of its layer norm, at an index. -/
module

public import proofs.«01_k».proof.Proof.Gen.Reference6Ideal.Run
public import proofs.«01_k».proof.Proof.Dx.Ref

@[expose] public section

noncomputable section

namespace Cert.Ln

open Cert.Reference6Ideal Cert.Reference6Ideal.Gen
open Idealize.ShloMosaic Idealize.ShloMosaic.TcCoe Idealize.ShloMosaic.StableHlo
open Cert.Dx (kXc kR)

section Defs
variable {F : FTy → Type} [FloatOps F]

def rC (w : BitVec 32) : Vec F S8192x1024 .f32 := broadcastInDim S8192x1024 ![] bcast_S_S8192x1024 (constant S_ .f32 w)
def rG (g : Vec F S1x1024 .f32) : Vec F S8192x1024 .f32 := broadcastInDim S8192x1024 ![0, 1] bcast_S1x1024_S8192x1024_0_1 g
def rM (a : Vec F S8192x2816 .bf16) (w : Vec F S2816x1024 .bf16) : Vec F S8192x1024 .f32 :=
  Host.dotGeneral dot_S8192x2816_S2816x1024_S8192x1024_1_0_0_1_n_n none (extf .f32 a bitsLt_bf16_f32) (extf .f32 w bitsLt_bf16_f32)

/-- The residual sum. -/
def refU (a : Vec F S8192x2816 .bf16) (w : Vec F S2816x1024 .bf16) (x : Vec F S8192x1024 .f32) : Vec F S8192x1024 .f32 :=
  addf (mulf (rC 0x3FD744FD#32) x) (mulf (rC 0x3F000000#32) (rM a w))
def refY (a : Vec F S8192x2816 .bf16) (w : Vec F S2816x1024 .bf16) (x : Vec F S8192x1024 .f32) (g b : Vec F S1x1024 .f32) : Vec F S8192x1024 .f32 :=
  addf (mulf (mulf (Dx.rXc (refU a w x)) (Dx.rBc (Dx.rRs (refU a w x)))) (rG g)) (rG b)
def refB (a : Vec F S8192x2816 .bf16) (w : Vec F S2816x1024 .bf16) (x : Vec F S8192x1024 .f32) (g b : Vec F S1x1024 .f32) : Vec F S8192x1024 .bf16 :=
  truncf .bf16 (refY a w x g b) bitsLt_bf16_f32

end Defs

/-- An entry of the residual sum. -/
def entU (p q : EReal) : EReal := Ideal.ofBits .f32 0x3FD744FD#32 * p + Ideal.ofBits .f32 0x3F000000#32 * q
/-- An entry of the normalised row `U`. -/
def entY (U : Fin 1024 → EReal) (k : Fin 1024) (g b : EReal) : EReal := kXc U k * kR U * g + b

variable (a : Vec Ideal S8192x2816 .bf16) (w : Vec Ideal S2816x1024 .bf16) (x : Vec Ideal S8192x1024 .f32) (g b : Vec Ideal S1x1024 .f32) (t : Fin 8192) (k : Fin 1024)

def rowU (t : Fin 8192) (k : Fin 1024) : EReal := entU (x (ix2 t k)) (∑ n : Fin 2816, a (ix2 t n) * w (ix2 n k) : EReal)

theorem rM_ix : rM (F := Ideal) a w (ix2 t k) = (∑ n : Fin 2816, a (ix2 t n) * w (ix2 n k) : EReal) := by
  pointwise [rM]
theorem rG_ix : rG (F := Ideal) g (ix2 t k) = g (ix2 0 k) := by
  pointwise [rG]
theorem refU_ix : refU (F := Ideal) a w x (ix2 t k) = rowU a w x t k :=
  congrArg (entU (x (ix2 t k))) (rM_ix a w t k)
theorem refY_ix : refY (F := Ideal) a w x g b (ix2 t k) = entY (rowU a w x t) k (g (ix2 0 k)) (b (ix2 0 k)) := by
  show (Dx.rXc (F := Ideal) (refU a w x) (ix2 t k) * Dx.rBc (F := Ideal) (Dx.rRs (refU a w x)) (ix2 t k) * rG (F := Ideal) g (ix2 t k) + rG (F := Ideal) b (ix2 t k) : EReal) = _
  rw [Dx.rXc_ix, Dx.rBc_ix, Dx.rRs_ix, rG_ix, rG_ix, show Dx.row (refU (F := Ideal) a w x) t = rowU a w x t from funext fun j => refU_ix a w x t j]
  rfl

variable (m : (ℓ : Loc nD τ sig) → Buf (Elt Ideal) ℓ) (c : Dev nD)

theorem res_27 : Cert.Reference6Ideal.Value.res_main_v27 (F := Ideal) m c = refY (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_28 : Cert.Reference6Ideal.Value.res_main_v28 (F := Ideal) m c = refB (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Ln

end
-- ==== Proof.Ln.Tile.lean ====
/- The residual sum and its layer norm, of one tile of 512 tokens. -/
module

public import proofs.«01_k».proof.Proof.Gen.Kernel6Ideal.Frame
public import proofs.«01_k».proof.Proof.Dx.Tile
public import proofs.«01_k».proof.Proof.Ln.Ref
public import Idealize.ShloMosaic.Lib.Pipeline.ValueKit.Tiles

@[expose] public section

noncomputable section

namespace Cert.Ln.Tile

open Cert.Kernel6Ideal Cert.Kernel6Ideal.Gen
open Idealize.ShloMosaic Idealize.ShloMosaic.TcCoe

variable (x0 : Vec Ideal S512x2816 .bf16) (x1 : Vec Ideal S2816x1024 .bf16) (x2 : Vec Ideal S512x1024 .f32) (x3 x4 : Vec Ideal S1x1024 .f32) (u : Fin 512) (k : Fin 1024)

def rowU (u : Fin 512) (k : Fin 1024) : EReal := entU (x2 (ix2 u k)) (∑ n : Fin 2816, x0 (ix2 u n) * x1 (ix2 n k) : EReal)

theorem pay1_ix : k0_pay1 (F := Ideal) x2 x0 x1 (ix2 u k) = rowU x0 x1 x2 u k := by
  pointwise [k0_pay1]
  rfl

theorem pay2_ix : k0_pay2 (F := Ideal) x2 x0 x1 x3 x4 (ix2 u k) = entY (rowU x0 x1 x2 u) k (x3 (ix2 0 k)) (x4 (ix2 0 k)) := by
  have h : ∀ U : FVec Ideal S512x1024 .f32, U = k0_pay1 (F := Ideal) x2 x0 x1 → k0_pay2 (F := Ideal) x2 x0 x1 x3 x4 (ix2 u k)
      = (Cert.Kernel4Ideal.Gen.k0_pay9 (F := Ideal) U (ix2 u k) * Cert.Kernel4Ideal.Gen.k0_pay10 (F := Ideal) U (ix2 u 0) * x3 (ix2 0 k) + x4 (ix2 0 k) : EReal) := fun U e => by
    subst e
    have e3 : broadcastTo S512x1024 x3 broadcasts_S1x1024_S512x1024 (ix2 u k) = x3 (ix2 0 k) := by pointwise []
    have e4 : broadcastTo S512x1024 x4 broadcasts_S1x1024_S512x1024 (ix2 u k) = x4 (ix2 0 k) := by pointwise []
    have er : ∀ y : Vec Ideal S512x1 .f32, broadcastTo S512x1024 y broadcasts_S512x1_S512x1024 (ix2 u k) = y (ix2 u 0) := fun y => by pointwise []
    rw [← e3, ← e4, ← er (Cert.Kernel4Ideal.Gen.k0_pay10 (F := Ideal) _)]
    rfl
  rw [h _ rfl, Cert.Dx.Tile.pay9_ix, Cert.Dx.Tile.pay10_ix,
    show Cert.Dx.Tile.row (k0_pay1 (F := Ideal) x2 x0 x1) u = rowU x0 x1 x2 u from funext fun j => pay1_ix x0 x1 x2 u j]
  rfl

theorem ld_whole {p q : ℕ} {φ : EltTy} (x : Vec Ideal ⟨2, ![p, q]⟩ φ) (h) :
    View.ld x (Rect.unit (s := ⟨2, ![p, q]⟩) ![0, 0] (⟨2, ![p, q]⟩ : Shape).size h) = x := by
  funext i
  refine congrArg x (funext fun a => Fin.ext ?_)
  match a with
  | ⟨0, _⟩ => show 0 + 1 * (i 0).val = (i 0).val; omega
  | ⟨1, _⟩ => show 0 + 1 * (i 1).val = (i 1).val; omega

theorem ix_of (x : S512x1024.Idx) (h0 : u.val = (x 0).val) (h1 : k.val = (x 1).val) : x = ix2 u k := funext fun a =>
  match a with
  | ⟨0, _⟩ => Fin.ext h0.symm
  | ⟨1, _⟩ => Fin.ext h1.symm

theorem ld0 (x : Vec Ideal S512x1024 .f32) : View.ld x r0_0 = x := ld_whole x _
theorem ld1 (x : Vec Ideal S512x2816 .bf16) : View.ld x r0_1 = x := ld_whole x _
theorem ld2 (x : Vec Ideal S2816x1024 .bf16) : View.ld x r0_2 = x := ld_whole x _
theorem ld3 (x : Vec Ideal S1x1024 .f32) : View.ld x r0_3 = x := ld_whole x _

theorem out5 : out0_5 (F := Ideal) x0 x1 x2 x3 x4 (ix2 u k) = rowU x0 x1 x2 u k := by
  unfold out0_5
  rw [ld0, ld1, ld2]
  canon_tiles x h using cover0_5 ..
  rw [ix_of u k x h0 h1]
  exact pay1_ix x0 x1 x2 u k

theorem out6 : out0_6 (F := Ideal) x0 x1 x2 x3 x4 (ix2 u k) = entY (rowU x0 x1 x2 u) k (x3 (ix2 0 k)) (x4 (ix2 0 k)) := by
  unfold out0_6
  rw [ld0, ld1, ld2, ld3, ld3]
  canon_tiles x h using cover0_6 ..
  rw [ix_of u k x h0 h1]
  exact pay2_ix x0 x1 x2 x3 x4 u k

theorem out7 : out0_7 (F := Ideal) x0 x1 x2 x3 x4 (ix2 u k) = entY (rowU x0 x1 x2 u) k (x3 (ix2 0 k)) (x4 (ix2 0 k)) := by
  unfold out0_7
  rw [ld0, ld1, ld2, ld3, ld3]
  canon_tiles x h using cover0_7 ..
  rw [ix_of u k x h0 h1]
  exact pay2_ix x0 x1 x2 x3 x4 u k

end Cert.Ln.Tile

end
-- ==== Proof.Ln.Main.lean ====
/- A feed-forward sublayer's residual sum and its layer norm: what the launch leaves is what the reference computes. -/
module

public import proofs.«01_k».proof.Proof.Gen.Kernel6Ideal.Value
public import proofs.«01_k».proof.Proof.Ln.Tile

@[expose] public section

set_option maxRecDepth 16384

noncomputable section

namespace Cert.Ln

open Cert.Kernel6Ideal Cert.Kernel6Ideal.Gen
open Idealize.ShloMosaic Idealize.ShloMosaic.TcCoe

variable (m : (ℓ : Loc nD τ sig) → Buf (Elt Ideal) ℓ) (ρ : Dev nD → PrngReg) (c : Dev nD)

abbrev A0 : Vec Ideal S8192x2816 .bf16 := m ((c : Thread nD τ).loc main_arg0)
abbrev A1 : Vec Ideal S2816x1024 .bf16 := m ((c : Thread nD τ).loc main_arg1)
abbrev A2 : Vec Ideal S8192x1024 .f32 := m ((c : Thread nD τ).loc main_arg2)
abbrev A3 : Vec Ideal S1x1024 .f32 := m ((c : Thread nD τ).loc main_arg3)
abbrev A4 : Vec Ideal S1x1024 .f32 := m ((c : Thread nD τ).loc main_arg4)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

theorem lt_N (t : Fin cfg0.N) : t.val < 16 := lt_of_lt_of_eq t.isLt N_0

/-- A token of the tile `t`. -/
abbrev tok (t : Fin cfg0.N) (u : Fin 512) : Fin 8192 := ⟨512 * t.val + u.val, by have := lt_N t; have := u.isLt; omega⟩

theorem blk0_ix (t : Fin cfg0.N) (a : Fin 512) (b : Fin 2816) :
    (iblk m c 0 t : Vec Ideal S512x2816 .bf16) (ix2 a b) = A0 m c (ix2 (tok t a) b) := by
  obtain ⟨e0, e1⟩ := index0 t
  show Gen.V m c main_arg0 (((cfg0.win 0).blk t).view.emb (ix2 a b)) = _
  rw [V_main_arg0 m c]
  refine congrArg (m ((c : Thread nD τ).loc main_arg0)) (funext fun d => Fin.ext ?_)
  match d with
  | ⟨0, _⟩ => show win0_0.index t (0 : Fin 2) * 512 + 1 * a.val = 512 * t.val + a.val; rw [e0]; omega
  | ⟨1, _⟩ => show win0_0.index t (1 : Fin 2) * 2816 + 1 * b.val = b.val; rw [e1]; omega

theorem blk1_ix (t : Fin cfg0.N) (a : Fin 2816) (b : Fin 1024) :
    (iblk m c 1 t : Vec Ideal S2816x1024 .bf16) (ix2 a b) = A1 m c (ix2 a b) := by
  obtain ⟨e0, e1⟩ := index1 t
  show Gen.V m c main_arg1 (((cfg0.win 1).blk t).view.emb (ix2 a b)) = _
  rw [V_main_arg1 m c]
  refine congrArg (m ((c : Thread nD τ).loc main_arg1)) (funext fun d => Fin.ext ?_)
  match d with
  | ⟨0, _⟩ => show win0_1.index t (0 : Fin 2) * 2816 + 1 * a.val = a.val; rw [e0]; omega
  | ⟨1, _⟩ => show win0_1.index t (1 : Fin 2) * 1024 + 1 * b.val = b.val; rw [e1]; omega

theorem blk2_ix (t : Fin cfg0.N) (a : Fin 512) (b : Fin 1024) :
    (iblk m c 2 t : Vec Ideal S512x1024 .f32) (ix2 a b) = A2 m c (ix2 (tok t a) b) := by
  obtain ⟨e0, e1⟩ := index2 t
  show Gen.V m c main_arg2 (((cfg0.win 2).blk t).view.emb (ix2 a b)) = _
  rw [V_main_arg2 m c]
  refine congrArg (m ((c : Thread nD τ).loc main_arg2)) (funext fun d => Fin.ext ?_)
  match d with
  | ⟨0, _⟩ => show win0_2.index t (0 : Fin 2) * 512 + 1 * a.val = 512 * t.val + a.val; rw [e0]; omega
  | ⟨1, _⟩ => show win0_2.index t (1 : Fin 2) * 1024 + 1 * b.val = b.val; rw [e1]; omega

theorem blk3_ix (t : Fin cfg0.N) (a : Fin 1) (b : Fin 1024) :
    (iblk m c 3 t : Vec Ideal S1x1024 .f32) (ix2 a b) = A3 m c (ix2 a b) := by
  obtain ⟨e0, e1⟩ := index3 t
  show Gen.V m c main_arg3 (((cfg0.win 3).blk t).view.emb (ix2 a b)) = _
  rw [V_main_arg3 m c]
  refine congrArg (m ((c : Thread nD τ).loc main_arg3)) (funext fun d => Fin.ext ?_)
  match d with
  | ⟨0, _⟩ => show win0_3.index t (0 : Fin 2) * 1 + 1 * a.val = a.val; rw [e0]; omega
  | ⟨1, _⟩ => show win0_3.index t (1 : Fin 2) * 1024 + 1 * b.val = b.val; rw [e1]; omega

theorem blk4_ix (t : Fin cfg0.N) (a : Fin 1) (b : Fin 1024) :
    (iblk m c 4 t : Vec Ideal S1x1024 .f32) (ix2 a b) = A4 m c (ix2 a b) := by
  obtain ⟨e0, e1⟩ := index4 t
  show Gen.V m c main_arg4 (((cfg0.win 4).blk t).view.emb (ix2 a b)) = _
  rw [V_main_arg4 m c]
  refine congrArg (m ((c : Thread nD τ).loc main_arg4)) (funext fun d => Fin.ext ?_)
  match d with
  | ⟨0, _⟩ => show win0_4.index t (0 : Fin 2) * 1 + 1 * a.val = a.val; rw [e0]; omega
  | ⟨1, _⟩ => show win0_4.index t (1 : Fin 2) * 1024 + 1 * b.val = b.val; rw [e1]; omega

theorem row_eq (t : Fin cfg0.N) (u : Fin 512) (k : Fin 1024) : Tile.rowU (iblk m c 0 t) (iblk m c 1 t) (iblk m c 2 t) u k = rowU (A0 m c) (A1 m c) (A2 m c) (tok t u) k :=
  congrArg₂ entU (blk2_ix m c t u k) (Finset.sum_congr rfl fun n _ => congrArg₂ (fun a b : EReal => a * b) (blk0_ix m c t u n) (blk1_ix m c t n k))

theorem ent_eq (t : Fin cfg0.N) (u : Fin 512) (k : Fin 1024) :
    entY (Tile.rowU (iblk m c 0 t) (iblk m c 1 t) (iblk m c 2 t) u) k ((iblk m c 3 t : Vec Ideal S1x1024 .f32) (ix2 0 k)) ((iblk m c 4 t : Vec Ideal S1x1024 .f32) (ix2 0 k))
      = refY (F := Ideal) (A0 m c) (A1 m c) (A2 m c) (A3 m c) (A4 m c) (ix2 (tok t u) k) := by
  rw [refY_ix, blk3_ix, blk4_ix, show Tile.rowU (iblk m c 0 t) (iblk m c 1 t) (iblk m c 2 t) u = rowU (A0 m c) (A1 m c) (A2 m c) (tok t u) from funext fun j => row_eq m c t u j]

theorem tile5 (t : Fin cfg0.N) (u : Fin 512) (k : Fin 1024) : out0_5 (F := Ideal) (iblk m c 0 t) (iblk m c 1 t) (iblk m c 2 t) (iblk m c 3 t) (iblk m c 4 t) (ix2 u k) = refU (F := Ideal) (A0 m c) (A1 m c) (A2 m c) (ix2 (tok t u) k) :=
  (Tile.out5 _ _ _ _ _ u k).trans ((row_eq m c t u k).trans (refU_ix _ _ _ (tok t u) k).symm)

theorem tile6 (t : Fin cfg0.N) (u : Fin 512) (k : Fin 1024) : out0_6 (F := Ideal) (iblk m c 0 t) (iblk m c 1 t) (iblk m c 2 t) (iblk m c 3 t) (iblk m c 4 t) (ix2 u k) = refY (F := Ideal) (A0 m c) (A1 m c) (A2 m c) (A3 m c) (A4 m c) (ix2 (tok t u) k) :=
  (Tile.out6 _ _ _ _ _ u k).trans (ent_eq m c t u k)

theorem tile7 (t : Fin cfg0.N) (u : Fin 512) (k : Fin 1024) : out0_7 (F := Ideal) (iblk m c 0 t) (iblk m c 1 t) (iblk m c 2 t) (iblk m c 3 t) (iblk m c 4 t) (ix2 u k) = refB (F := Ideal) (A0 m c) (A1 m c) (A2 m c) (A3 m c) (A4 m c) (ix2 (tok t u) k) :=
  (Tile.out7 _ _ _ _ _ u k).trans (ent_eq m c t u k)

theorem flushed5_eq (t : Fin cfg0.N) :
    (dats m 0 c).flushed 5 t = ((cfg0.win 5).blk t).view.read (Elt Ideal) (refU (F := Ideal) (A0 m c) (A1 m c) (A2 m c)) := by
  rw [Value.flushed5 m c t]
  obtain ⟨e0, e1⟩ := index5 t
  funext y
  have hu : (y 0).val < 512 := (y 0).isLt
  have hn : (y 1).val < 1024 := (y 1).isLt
  refine Eq.trans (congrArg (out0_5 (F := Ideal) (iblk m c 0 t) (iblk m c 1 t) (iblk m c 2 t) (iblk m c 3 t) (iblk m c 4 t)) (?_ : _ = ix2 ⟨(y 0).val, hu⟩ ⟨(y 1).val, hn⟩))
    ((tile5 m c t ⟨(y 0).val, hu⟩ ⟨(y 1).val, hn⟩).trans (congrArg (refU (F := Ideal) (A0 m c) (A1 m c) (A2 m c)) (?_ : _ = ((cfg0.win 5).blk t).view.emb y)))
  · funext a
    match a with
    | ⟨0, _⟩ => rfl
    | ⟨1, _⟩ => rfl
  · refine funext fun a => Fin.ext ?_
    match a with
    | ⟨0, _⟩ => show 512 * t.val + (y 0).val = win0_5.index t (0 : Fin 2) * 512 + 1 * (y 0).val; rw [e0]; omega
    | ⟨1, _⟩ => show (y 1).val = win0_5.index t (1 : Fin 2) * 1024 + 1 * (y 1).val; rw [e1]; omega

theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0_0).slice (win0_5.rect t)).set ↔ _
  rw [View.set_slice_whole, Rect.mem_set_unit]
  exact Iff.rfl

theorem covered5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  refine ⟨⟨(i 0).val / 512, lt_of_lt_of_eq (by omega) N_0.symm⟩, ((by decide +kernel : ∀ t : Fin grid0.N, win0_5.flush t = true) _), ?_⟩
  rw [mem_blk5]
  obtain ⟨e0, e1⟩ := index5 ⟨(i 0).val / 512, lt_of_lt_of_eq (by omega) N_0.symm⟩
  intro a
  match a with
  | ⟨0, _⟩ => show win0_5.index _ (0 : Fin 2) * 512 ≤ (i 0).val ∧ (i 0).val < win0_5.index _ (0 : Fin 2) * 512 + 512; rw [e0]; show (i 0).val / 512 * 512 ≤ (i 0).val ∧ (i 0).val < (i 0).val / 512 * 512 + 512; omega
  | ⟨1, _⟩ => show win0_5.index _ (1 : Fin 2) * 1024 ≤ (i 1).val ∧ (i 1).val < win0_5.index _ (1 : Fin 2) * 1024 + 1024; rw [e1]; omega

theorem final5 : (dats m 0 c).arrAt 5 cfg0.N = refU (F := Ideal) (A0 m c) (A1 m c) (A2 m c) :=
  (dats m 0 c).arrAt_eq_of_cover 5 _ (fun t _ => flushed5_eq m c t) (fun i => covered5 i)

theorem flushed6_eq (t : Fin cfg0.N) :
    (dats m 0 c).flushed 6 t = ((cfg0.win 6).blk t).view.read (Elt Ideal) (refY (F := Ideal) (A0 m c) (A1 m c) (A2 m c) (A3 m c) (A4 m c)) := by
  rw [Value.flushed6 m c t]
  obtain ⟨e0, e1⟩ := index6 t
  funext y
  have hu : (y 0).val < 512 := (y 0).isLt
  have hn : (y 1).val < 1024 := (y 1).isLt
  refine Eq.trans (congrArg (out0_6 (F := Ideal) (iblk m c 0 t) (iblk m c 1 t) (iblk m c 2 t) (iblk m c 3 t) (iblk m c 4 t)) (?_ : _ = ix2 ⟨(y 0).val, hu⟩ ⟨(y 1).val, hn⟩))
    ((tile6 m c t ⟨(y 0).val, hu⟩ ⟨(y 1).val, hn⟩).trans (congrArg (refY (F := Ideal) (A0 m c) (A1 m c) (A2 m c) (A3 m c) (A4 m c)) (?_ : _ = ((cfg0.win 6).blk t).view.emb y)))
  · funext a
    match a with
    | ⟨0, _⟩ => rfl
    | ⟨1, _⟩ => rfl
  · refine funext fun a => Fin.ext ?_
    match a with
    | ⟨0, _⟩ => show 512 * t.val + (y 0).val = win0_6.index t (0 : Fin 2) * 512 + 1 * (y 0).val; rw [e0]; omega
    | ⟨1, _⟩ => show (y 1).val = win0_6.index t (1 : Fin 2) * 1024 + 1 * (y 1).val; rw [e1]; omega

theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v0_1).slice (win0_6.rect t)).set ↔ _
  rw [View.set_slice_whole, Rect.mem_set_unit]
  exact Iff.rfl

theorem covered6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  refine ⟨⟨(i 0).val / 512, lt_of_lt_of_eq (by omega) N_0.symm⟩, ((by decide +kernel : ∀ t : Fin grid0.N, win0_6.flush t = true) _), ?_⟩
  rw [mem_blk6]
  obtain ⟨e0, e1⟩ := index6 ⟨(i 0).val / 512, lt_of_lt_of_eq (by omega) N_0.symm⟩
  intro a
  match a with
  | ⟨0, _⟩ => show win0_6.index _ (0 : Fin 2) * 512 ≤ (i 0).val ∧ (i 0).val < win0_6.index _ (0 : Fin 2) * 512 + 512; rw [e0]; show (i 0).val / 512 * 512 ≤ (i 0).val ∧ (i 0).val < (i 0).val / 512 * 512 + 512; omega
  | ⟨1, _⟩ => show win0_6.index _ (1 : Fin 2) * 1024 ≤ (i 1).val ∧ (i 1).val < win0_6.index _ (1 : Fin 2) * 1024 + 1024; rw [e1]; omega

theorem final6 : (dats m 0 c).arrAt 6 cfg0.N = refY (F := Ideal) (A0 m c) (A1 m c) (A2 m c) (A3 m c) (A4 m c) :=
  (dats m 0 c).arrAt_eq_of_cover 6 _ (fun t _ => flushed6_eq m c t) (fun i => covered6 i)

theorem flushed7_eq (t : Fin cfg0.N) :
    (dats m 0 c).flushed 7 t = ((cfg0.win 7).blk t).view.read (Elt Ideal) (refB (F := Ideal) (A0 m c) (A1 m c) (A2 m c) (A3 m c) (A4 m c)) := by
  rw [Value.flushed7 m c t]
  obtain ⟨e0, e1⟩ := index7 t
  funext y
  have hu : (y 0).val < 512 := (y 0).isLt
  have hn : (y 1).val < 1024 := (y 1).isLt
  refine Eq.trans (congrArg (out0_7 (F := Ideal) (iblk m c 0 t) (iblk m c 1 t) (iblk m c 2 t) (iblk m c 3 t) (iblk m c 4 t)) (?_ : _ = ix2 ⟨(y 0).val, hu⟩ ⟨(y 1).val, hn⟩))
    ((tile7 m c t ⟨(y 0).val, hu⟩ ⟨(y 1).val, hn⟩).trans (congrArg (refB (F := Ideal) (A0 m c) (A1 m c) (A2 m c) (A3 m c) (A4 m c)) (?_ : _ = ((cfg0.win 7).blk t).view.emb y)))
  · funext a
    match a with
    | ⟨0, _⟩ => rfl
    | ⟨1, _⟩ => rfl
  · refine funext fun a => Fin.ext ?_
    match a with
    | ⟨0, _⟩ => show 512 * t.val + (y 0).val = win0_7.index t (0 : Fin 2) * 512 + 1 * (y 0).val; rw [e0]; omega
    | ⟨1, _⟩ => show (y 1).val = win0_7.index t (1 : Fin 2) * 1024 + 1 * (y 1).val; rw [e1]; omega

theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v0_2).slice (win0_7.rect t)).set ↔ _
  rw [View.set_slice_whole, Rect.mem_set_unit]
  exact Iff.rfl

theorem covered7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  refine ⟨⟨(i 0).val / 512, lt_of_lt_of_eq (by omega) N_0.symm⟩, ((by decide +kernel : ∀ t : Fin grid0.N, win0_7.flush t = true) _), ?_⟩
  rw [mem_blk7]
  obtain ⟨e0, e1⟩ := index7 ⟨(i 0).val / 512, lt_of_lt_of_eq (by omega) N_0.symm⟩
  intro a
  match a with
  | ⟨0, _⟩ => show win0_7.index _ (0 : Fin 2) * 512 ≤ (i 0).val ∧ (i 0).val < win0_7.index _ (0 : Fin 2) * 512 + 512; rw [e0]; show (i 0).val / 512 * 512 ≤ (i 0).val ∧ (i 0).val < (i 0).val / 512 * 512 + 512; omega
  | ⟨1, _⟩ => show win0_7.index _ (1 : Fin 2) * 1024 ≤ (i 1).val ∧ (i 1).val < win0_7.index _ (1 : Fin 2) * 1024 + 1024; rw [e1]; omega

theorem final7 : (dats m 0 c).arrAt 7 cfg0.N = refB (F := Ideal) (A0 m c) (A1 m c) (A2 m c) (A3 m c) (A4 m c) :=
  (dats m 0 c).arrAt_eq_of_cover 7 _ (fun t _ => flushed7_eq m c t) (fun i => covered7 i)

theorem run : θ_run defs (onTc (τ := τ) (main (F := Ideal))) ⟨m, fun _ => 0, ρ⟩ fun r => ∀ c : Dev nD,
      r.2.mem ((c : Thread nD τ).loc main_v0_0) = refU (F := Ideal) (A0 m c) (A1 m c) (A2 m c)
      ∧ r.2.mem ((c : Thread nD τ).loc main_v0_1) = refY (F := Ideal) (A0 m c) (A1 m c) (A2 m c) (A3 m c) (A4 m c)
      ∧ r.2.mem ((c : Thread nD τ).loc main_v0_2) = refB (F := Ideal) (A0 m c) (A1 m c) (A2 m c) (A3 m c) (A4 m c)
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) :=
  (θ_run defs _ _).mono (fun r h c => ⟨(Value.post5 m r h c).trans (final5 m c), (Value.post6 m r h c).trans (final6 m c), (Value.post7 m r h c).trans (final7 m c), Value.kept_main_arg0 m r h c, Value.kept_main_arg1 m r h c, Value.kept_main_arg2 m r h c, Value.kept_main_arg3 m r h c, Value.kept_main_arg4 m r h c⟩)
    (run_main m ρ)

end Cert.Ln

end
-- ==== Proof.Ln.Claims.lean ====
/- The claims on a feed-forward sublayer's residual sum and its layer norm: the frames and the equality of the results. -/
module

public import proofs.«01_k».proof.Defs
public import proofs.«01_k».proof.Proof.Gen.Kernel6.Frame
public import proofs.«01_k».proof.Proof.Ln.Main

@[expose] public section

noncomputable section

namespace Cert.Ln

open Idealize.ShloMosaic Idealize.SL.Sem

theorem frame_kernel : Cert.quiescent_Kernel6 (hKernel6 := Cert.Kernel6.Gen.facts) := fun m ρ _ => Cert.Kernel6.Gen.frame m ρ

theorem frame_kernelIdeal : Cert.quiescent_Kernel6Ideal (hKernel6Ideal := Cert.Kernel6Ideal.Gen.facts) := fun m ρ _ =>
  Cert.Kernel6Ideal.Gen.frame m ρ

theorem frame_referenceIdeal : Cert.quiescent_Reference6Ideal (hReference6Ideal := Cert.Reference6Ideal.Gen.facts) := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The residual sum, its layer norm and the layer norm rounded, of the kernel and of the reference. -/
theorem values : Cert.algebraic_Kernel6Ideal_Reference6Ideal (hKernel6Ideal := Cert.Kernel6Ideal.Gen.facts)
    (hReference6Ideal := Cert.Reference6Ideal.Gen.facts) := by
  intro m g m' g' _ hagree
  refine ⟨fun c => refU (F := Ideal) (A0 m c) (A1 m c) (A2 m c), fun c => refY (F := Ideal) (A0 m c) (A1 m c) (A2 m c) (A3 m c) (A4 m c), fun c => refB (F := Ideal) (A0 m c) (A1 m c) (A2 m c) (A3 m c) (A4 m c), run m g, ?_⟩
  refine (θ_run Cert.Reference6Ideal.defs _ _).mono (fun r h c => ?_) (Cert.Reference6Ideal.Value.run (F := Ideal) m' g')
  obtain ⟨r0, r1, r2, a⟩ := h c
  obtain ⟨e0, e1, e2, e3, e4⟩ := hagree c
  refine ⟨r0.trans ?_, r1.trans ?_, r2.trans ?_, a⟩
  · rw [e0, e1, e2]; rfl
  · rw [res_27, e0, e1, e2, e3, e4]
  · rw [res_28, e0, e1, e2, e3, e4]

end Cert.Ln

end
-- ==== Proof.Rows.Basic.lean ====
/- Tiles of 512 tokens of the 8192: where an entry of a tile lies in the array, and that the tiles cover it. -/
module

public import Idealize.ShloMosaic.Lib.Pointwise
public import Idealize.ShloMosaic.Lib.Pipeline.Value
public import Idealize.ShloMosaic.Lib.Pipeline.ValueKit.Tiles

@[expose] public section

namespace Cert.Rows

open Idealize.ShloMosaic

/-- An index of two axes, by its entries. -/
theorem ix2_of {p q : ℕ} (i : Shape.Idx ⟨2, ![p, q]⟩) (a : Fin p) (b : Fin q) (h0 : (i 0).val = a.val) (h1 : (i 1).val = b.val) : i = ix2 a b :=
  funext fun d => match d with
  | ⟨0, _⟩ => Fin.ext h0
  | ⟨1, _⟩ => Fin.ext h1

/-- A row of the tile `t`. -/
theorem row_val {x t u : ℕ} (e : x = t) : x * 512 + 1 * u = 512 * t + u := by rw [e]; omega
/-- A row or a column of a block that is the whole of that axis. -/
theorem all_val {x q k : ℕ} (e : x = 0) : x * q + 1 * k = k := by rw [e]; omega

/-- Row `i 0` lies in the tile `i 0 / 512`. -/
theorem mem_tile {q : ℕ} (i : Shape.Idx ⟨2, ![8192, q]⟩) (f : Fin 2 → ℕ) (e0 : f 0 = (i 0).val / 512) (e1 : f 1 = 0) (a : Fin 2) :
    f a * (⟨2, ![512, q]⟩ : Shape).size a ≤ (i a).val ∧ (i a).val < f a * (⟨2, ![512, q]⟩ : Shape).size a + (⟨2, ![512, q]⟩ : Shape).size a := by
  match a with
  | ⟨0, _⟩ => show f 0 * 512 ≤ (i 0).val ∧ (i 0).val < f 0 * 512 + 512; rw [e0]; omega
  | ⟨1, _⟩ => show f 1 * q ≤ (i 1).val ∧ (i 1).val < f 1 * q + q; rw [e1]; have : (i 1).val < q := (i 1).isLt; omega

/-- A whole block, loaded. -/
theorem ld_whole {p q : ℕ} {φ : EltTy} (x : Vec Ideal ⟨2, ![p, q]⟩ φ) (h) :
    View.ld x (Rect.unit (s := ⟨2, ![p, q]⟩) ![0, 0] (⟨2, ![p, q]⟩ : Shape).size h) = x := by
  funext i
  refine congrArg x (funext fun a => Fin.ext ?_)
  match a with
  | ⟨0, _⟩ => show 0 + 1 * (i 0).val = (i 0).val; omega
  | ⟨1, _⟩ => show 0 + 1 * (i 1).val = (i 1).val; omega

/-- A band of a block, loaded. -/
theorem ld_band {p q p' q' : ℕ} {φ : EltTy} (x : Vec Ideal ⟨2, ![p, q]⟩ φ) (i j : ℕ) (h) (a : Fin p') (b : Fin q') (u : Fin p) (n : Fin q) (hu : u.val = i + a.val) (hn : n.val = j + b.val) :
    View.ld x (Rect.unit (s := ⟨2, ![p, q]⟩) ![i, j] (⟨2, ![p', q']⟩ : Shape).size h) (ix2 a b) = x (ix2 u n) := by
  refine congrArg x (ix2_of _ u n ?_ ?_)
  · show i + 1 * a.val = u.val; omega
  · show j + 1 * b.val = n.val; omega

end Cert.Rows
-- ==== Proof.Pj.Ent.lean ====
/- The gradient of the normalised rows through six products, scaled: one entry, of any number of rows. -/
module

public import proofs.«01_k».proof.Proof.Dx.Math
public import Idealize.ShloMosaic.Lib.Pointwise
public import Idealize.ShloMosaic.Lib.IdealHost

@[expose] public section

noncomputable section

namespace Cert.Pj

open Idealize.ShloMosaic

/-- One product. -/
def dotE {p : ℕ} (x : Vec Ideal ⟨2, ![p, 512]⟩ .bf16) (w : Vec Ideal ⟨2, ![512, 1024]⟩ .bf16) (u : Fin p) (k : Fin 1024) : EReal := ∑ n : Fin 512, x (ix2 u n) * w (ix2 n k)

/-- The six products and the residual, scaled. -/
def sumE (s0 s1 s2 s3 s4 s5 a g : EReal) : EReal := (s0 + s1 + s2 + s3 + s4 + s5 + a) * g

def entE {p : ℕ} (x0 x1 x2 x3 x4 x5 : Vec Ideal ⟨2, ![p, 512]⟩ .bf16) (x6 x7 x8 x9 x10 x11 : Vec Ideal ⟨2, ![512, 1024]⟩ .bf16) (x12 : Vec Ideal ⟨2, ![p, 1024]⟩ .f32) (x14 : Vec Ideal ⟨2, ![1, 1024]⟩ .f32)
    (u : Fin p) (k : Fin 1024) : EReal :=
  sumE (dotE x0 x6 u k) (dotE x1 x7 u k) (dotE x2 x8 u k) (dotE x3 x9 u k) (dotE x4 x10 u k) (dotE x5 x11 u k) (x12 (ix2 u k)) (x14 (ix2 0 k))

theorem dotE_congr {p q : ℕ} {x : Vec Ideal ⟨2, ![p, 512]⟩ .bf16} {y : Vec Ideal ⟨2, ![q, 512]⟩ .bf16} {w v : Vec Ideal ⟨2, ![512, 1024]⟩ .bf16} {u : Fin p} {t : Fin q} (k : Fin 1024)
    (hx : ∀ n, x (ix2 u n) = y (ix2 t n)) (hw : ∀ n j, w (ix2 n j) = v (ix2 n j)) : dotE x w u k = dotE y v t k :=
  Finset.sum_congr rfl fun n _ => congrArg₂ (fun a b : EReal => a * b) (hx n) (hw n k)

theorem sumE_congr {s0 s1 s2 s3 s4 s5 a g s0' s1' s2' s3' s4' s5' a' g' : EReal} (h0 : s0 = s0') (h1 : s1 = s1') (h2 : s2 = s2') (h3 : s3 = s3') (h4 : s4 = s4') (h5 : s5 = s5') (h6 : a = a') (h7 : g = g') :
    sumE s0 s1 s2 s3 s4 s5 a g = sumE s0' s1' s2' s3' s4' s5' a' g' := by rw [h0, h1, h2, h3, h4, h5, h6, h7]

theorem real_add {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩
theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

theorem dotE_real {p : ℕ} {x : Vec Ideal ⟨2, ![p, 512]⟩ .bf16} {w : Vec Ideal ⟨2, ![512, 1024]⟩ .bf16} (hx : ∀ i, ∃ r : ℝ, x i = (r : EReal)) (hw : ∀ i, ∃ r : ℝ, w i = (r : EReal)) (u : Fin p) (k : Fin 1024) :
    ∃ r : ℝ, dotE x w u k = r := Cert.Up.real_sum (fun n => hx _) (fun n => hw _)

/-- The entries are real when every argument is. -/
theorem entE_real {p : ℕ} {x0 x1 x2 x3 x4 x5 : Vec Ideal ⟨2, ![p, 512]⟩ .bf16} {x6 x7 x8 x9 x10 x11 : Vec Ideal ⟨2, ![512, 1024]⟩ .bf16} {x12 : Vec Ideal ⟨2, ![p, 1024]⟩ .f32} {x14 : Vec Ideal ⟨2, ![1, 1024]⟩ .f32}
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal)) (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal)) (h11 : ∀ i, ∃ r : ℝ, x11 i = (r : EReal)) (h12 : ∀ i, ∃ r : ℝ, x12 i = (r : EReal)) (h14 : ∀ i, ∃ r : ℝ, x14 i = (r : EReal)) (u : Fin p) (k : Fin 1024) : ∃ r : ℝ, entE x0 x1 x2 x3 x4 x5 x6 x7 x8 x9 x10 x11 x12 x14 u k = r :=
  real_mul (real_add (real_add (real_add (real_add (real_add (real_add (dotE_real h0 h6 u k) (dotE_real h1 h7 u k)) (dotE_real h2 h8 u k)) (dotE_real h3 h9 u k)) (dotE_real h4 h10 u k)) (dotE_real h5 h11 u k)) (h12 _)) (h14 _)

end Cert.Pj

end
-- ==== Proof.Pj.Tile.lean ====
/- The derivative of a layer normalisation and of the six products before it, of one tile of 512 tokens. -/
module

public import proofs.«01_k».proof.Proof.Gen.Kernel7Ideal.Frame
public import proofs.«01_k».proof.Proof.Dx.Tile
public import proofs.«01_k».proof.Proof.Pj.Ent
public import Idealize.ShloMosaic.Lib.WritesUnit
public import Idealize.ShloMosaic.Lib.WholeRead
public import Idealize.ShloMosaic.Lib.Pointwise
public import Idealize.ShloMosaic.Lib.IdealHost

@[expose] public section

noncomputable section

namespace Cert.Pj.Tile

open Cert.Kernel7Ideal Cert.Kernel7Ideal.Gen
open Idealize.ShloMosaic Idealize.ShloMosaic.TcCoe
open Cert.Dx (kDu kXc kR wC)
open Cert.Dx.Tile (row)

/-! ## What is stored, at an index -/

section Pay
variable (x0 x1 x2 x3 x4 x5 : Vec Ideal S512x512 .bf16) (x6 x7 x8 x9 x10 x11 : Vec Ideal S512x1024 .bf16) (x12 x13 : Vec Ideal S512x1024 .f32) (x14 : Vec Ideal S1x1024 .f32) (u : Fin 512) (k : Fin 1024)

def tX (u : Fin 512) (k : Fin 1024) : EReal := Ideal.ofBits .f32 0x3FD744FD#32 * kDu (row x13 u) (entE x0 x1 x2 x3 x4 x5 x6 x7 x8 x9 x10 x11 x12 x14 u) k
def tR (u : Fin 512) (k : Fin 1024) : EReal := Ideal.ofBits .f32 0x3F000000#32 * kDu (row x13 u) (entE x0 x1 x2 x3 x4 x5 x6 x7 x8 x9 x10 x11 x12 x14 u) k

theorem pay8_ix : k0_pay8 (F := Ideal) x13 (ix2 u k) = kXc (row x13 u) k := Cert.Dx.Tile.pay9_ix x13 u k
theorem pay9_ix (i : Fin 1) : k0_pay9 (F := Ideal) x13 (ix2 u i) = kR (row x13 u) := Cert.Dx.Tile.pay10_ix x13 u i
theorem pay10_ix : k0_pay10 (F := Ideal) x13 (ix2 u k) = (kXc (row x13 u) k * kR (row x13 u) : EReal) := Cert.Dx.Tile.pay11_ix x13 u k

/-- The normalisation's derivative, of any gradient `d + a` of the normalised rows. -/
theorem pay11_ix (d a : FVec Ideal S512x1024 .f32) : k0_pay11 (F := Ideal) d a x13 x14 (ix2 u k) = kDu (row x13 u) (fun j => (d (ix2 u j) + a (ix2 u j)) * x14 (ix2 0 j)) k := by
  have h : k0_pay11 (F := Ideal) d a x13 x14 (ix2 u k) = (k0_pay9 (F := Ideal) x13 (ix2 u 0) * ((d (ix2 u k) + a (ix2 u k)) * x14 (ix2 0 k) - Ideal.div (∑ j : Fin 1024, ((d (ix2 u j) + a (ix2 u j)) * x14 (ix2 0 j) : EReal)) wC
      - k0_pay10 (F := Ideal) x13 (ix2 u k) * Ideal.div (∑ j : Fin 1024, ((d (ix2 u j) + a (ix2 u j)) * x14 (ix2 0 j) * k0_pay10 (F := Ideal) x13 (ix2 u j) : EReal)) wC) : EReal) := by
    generalize hX : k0_pay10 (F := Ideal) x13 = X
    generalize hR : k0_pay9 (F := Ideal) x13 = R
    unfold k0_pay11
    rw [hX, hR]
    pointwise [k0_pay7]
  rw [h, pay9_ix, pay10_ix]
  unfold kDu
  refine congrArg (fun z : EReal => kR (row x13 u) * ((d (ix2 u k) + a (ix2 u k)) * x14 (ix2 0 k) - Ideal.div (∑ j : Fin 1024, ((d (ix2 u j) + a (ix2 u j)) * x14 (ix2 0 j) : EReal)) wC
    - kXc (row x13 u) k * kR (row x13 u) * Ideal.div z wC)) (Finset.sum_congr rfl fun j _ => ?_)
  rw [pay10_ix]

theorem pay6_ix : k0_pay6 (F := Ideal) x0 x6 x1 x7 x2 x8 x3 x9 x4 x10 x5 x11 (ix2 u k) = (dotE x0 x6 u k + dotE x1 x7 u k + dotE x2 x8 u k + dotE x3 x9 u k + dotE x4 x10 u k + dotE x5 x11 u k : EReal) := by
  pointwise [k0_pay6]
  rfl

theorem du_ix : k0_pay11 (F := Ideal) (k0_pay6 x0 x6 x1 x7 x2 x8 x3 x9 x4 x10 x5 x11) x12 x13 x14 (ix2 u k) = kDu (row x13 u) (entE x0 x1 x2 x3 x4 x5 x6 x7 x8 x9 x10 x11 x12 x14 u) k := by
  rw [pay11_ix]
  refine congrArg (fun e => kDu (row x13 u) e k) (funext fun j => ?_)
  rw [pay6_ix]
  rfl

end Pay

/-! ## Whole blocks, loaded and stored -/

/-- A whole block, loaded. -/
abbrev ld {p q : ℕ} {φ : EltTy} (M : Memref sig .tc .vmem ⟨2, ![p, q]⟩ φ) (hM : M.IsWhole) (x : Vec Ideal ⟨2, ![p, q]⟩ φ)
    (h : ∀ a : Fin 2, (![0, 0] : Fin 2 → ℕ) a + (⟨2, ![p, q]⟩ : Shape).size a ≤ (⟨2, ![p, q]⟩ : Shape).size a) : Vec Ideal ⟨2, ![p, q]⟩ φ :=
  View.readAt (Elt Ideal) M.view (Rect.unit ![0, 0] (⟨2, ![p, q]⟩ : Shape).size h : Rect ⟨2, ![p, q]⟩).toLoadRect (hM.unread x)

theorem ld_whole {p q : ℕ} {φ : EltTy} (M : Memref sig .tc .vmem ⟨2, ![p, q]⟩ φ) (hM : M.IsWhole) (x : Vec Ideal ⟨2, ![p, q]⟩ φ) (h) : ld M hM x h = x := by
  funext i
  refine (hM.readAt_unread _ _ _).trans (congrArg x (funext fun a => Fin.ext ?_))
  fin_cases a
  · show 0 + 1 * (i 0).val = (i 0).val; omega
  · show 0 + 1 * (i 1).val = (i 1).val; omega

theorem whole_read {φ : EltTy} (V : View sig .tc .vmem S512x1024 φ) (f : V.ty.Contents (Elt Ideal)) (h) (x : Vec Ideal S512x1024 φ) (u : Fin 512) (k : Fin 1024) :
    V.read (Elt Ideal) (V.writes (Elt Ideal) f [⟨Rect.unit ![0, 0] S512x1024.size h, x⟩]) (ix2 u k) = x (ix2 u k) := by
  refine View.read_writes_cons_unit_of_mem V f _ _ _ _ (ix2 u k) rfl fun a => ?_
  fin_cases a <;> exact (Nat.zero_add _).symm

/-! ## A point -/

section Point
variable (c : Dev nD) (t : Fin cfg0.N) (x0 x1 x2 x3 x4 x5 : Vec Ideal S512x512 .bf16) (x6 x7 x8 x9 x10 x11 : Vec Ideal S512x1024 .bf16) (x12 x13 : Vec Ideal S512x1024 .f32) (x14 : Vec Ideal S1x1024 .f32)

theorem ldtX (u : Fin 512) (k : Fin 1024) : k0_pay13 (F := Ideal) (k0_pay6 (F := Ideal) (ld (ms0_0 t) (hs0_0 t) x0 inb_S512x512_S512x512_0_0) (ld (ms0_6 t) (hs0_6 t) x6 inb_S512x1024_S512x1024_0_0) (ld (ms0_1 t) (hs0_1 t) x1 inb_S512x512_S512x512_0_0) (ld (ms0_7 t) (hs0_7 t) x7 inb_S512x1024_S512x1024_0_0) (ld (ms0_2 t) (hs0_2 t) x2 inb_S512x512_S512x512_0_0) (ld (ms0_8 t) (hs0_8 t) x8 inb_S512x1024_S512x1024_0_0) (ld (ms0_3 t) (hs0_3 t) x3 inb_S512x512_S512x512_0_0) (ld (ms0_9 t) (hs0_9 t) x9 inb_S512x1024_S512x1024_0_0) (ld (ms0_4 t) (hs0_4 t) x4 inb_S512x512_S512x512_0_0) (ld (ms0_10 t) (hs0_10 t) x10 inb_S512x1024_S512x1024_0_0) (ld (ms0_5 t) (hs0_5 t) x5 inb_S512x512_S512x512_0_0) (ld (ms0_11 t) (hs0_11 t) x11 inb_S512x1024_S512x1024_0_0)) (ld (ms0_12 t) (hs0_12 t) x12 inb_S512x1024_S512x1024_0_0) (ld (ms0_13 t) (hs0_13 t) x13 inb_S512x1024_S512x1024_0_0) (ld (ms0_14 t) (hs0_14 t) x14 inb_S1x1024_S1x1024_0_0) (ix2 u k) = tX x0 x1 x2 x3 x4 x5 x6 x7 x8 x9 x10 x11 x12 x13 x14 u k := by
  rw [ld_whole, ld_whole, ld_whole, ld_whole, ld_whole, ld_whole, ld_whole, ld_whole, ld_whole, ld_whole, ld_whole, ld_whole, ld_whole, ld_whole, ld_whole]
  exact congrArg (fun z : EReal => Ideal.ofBits .f32 0x3FD744FD#32 * z) (du_ix x0 x1 x2 x3 x4 x5 x6 x7 x8 x9 x10 x11 x12 x13 x14 u k)
theorem ldtR (u : Fin 512) (k : Fin 1024) : k0_pay1 (F := Ideal) (k0_pay11 (F := Ideal) (k0_pay6 (F := Ideal) (ld (ms0_0 t) (hs0_0 t) x0 inb_S512x512_S512x512_0_0) (ld (ms0_6 t) (hs0_6 t) x6 inb_S512x1024_S512x1024_0_0) (ld (ms0_1 t) (hs0_1 t) x1 inb_S512x512_S512x512_0_0) (ld (ms0_7 t) (hs0_7 t) x7 inb_S512x1024_S512x1024_0_0) (ld (ms0_2 t) (hs0_2 t) x2 inb_S512x512_S512x512_0_0) (ld (ms0_8 t) (hs0_8 t) x8 inb_S512x1024_S512x1024_0_0) (ld (ms0_3 t) (hs0_3 t) x3 inb_S512x512_S512x512_0_0) (ld (ms0_9 t) (hs0_9 t) x9 inb_S512x1024_S512x1024_0_0) (ld (ms0_4 t) (hs0_4 t) x4 inb_S512x512_S512x512_0_0) (ld (ms0_10 t) (hs0_10 t) x10 inb_S512x1024_S512x1024_0_0) (ld (ms0_5 t) (hs0_5 t) x5 inb_S512x512_S512x512_0_0) (ld (ms0_11 t) (hs0_11 t) x11 inb_S512x1024_S512x1024_0_0)) (ld (ms0_12 t) (hs0_12 t) x12 inb_S512x1024_S512x1024_0_0) (ld (ms0_13 t) (hs0_13 t) x13 inb_S512x1024_S512x1024_0_0) (ld (ms0_14 t) (hs0_14 t) x14 inb_S1x1024_S1x1024_0_0)) (ix2 u k) = tR x0 x1 x2 x3 x4 x5 x6 x7 x8 x9 x10 x11 x12 x13 x14 u k := by
  rw [ld_whole, ld_whole, ld_whole, ld_whole, ld_whole, ld_whole, ld_whole, ld_whole, ld_whole, ld_whole, ld_whole, ld_whole, ld_whole, ld_whole, ld_whole]
  exact congrArg (fun z : EReal => Ideal.ofBits .f32 0x3F000000#32 * z) (du_ix x0 x1 x2 x3 x4 x5 x6 x7 x8 x9 x10 x11 x12 x13 x14 u k)

theorem outA15 (hc0 : cond0_0 (grid0.coords t)) (u : Fin 512) (k : Fin 1024) : out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) hc0 x0 x1 x2 x3 x4 x5 x6 x7 x8 x9 x10 x11 x12 x13 x14 (ix2 u k) = tX x0 x1 x2 x3 x4 x5 x6 x7 x8 x9 x10 x11 x12 x13 x14 u k :=
  (whole_read VO0_15 VO0_15.junk _ _ u k).trans (ldtX t x0 x1 x2 x3 x4 x5 x6 x7 x8 x9 x10 x11 x12 x13 x14 u k)

theorem outA16 (hc0 : cond0_0 (grid0.coords t)) (u : Fin 512) (k : Fin 1024) : out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) hc0 x0 x1 x2 x3 x4 x5 x6 x7 x8 x9 x10 x11 x12 x13 x14 (ix2 u k) = tR x0 x1 x2 x3 x4 x5 x6 x7 x8 x9 x10 x11 x12 x13 x14 u k :=
  (whole_read VO0_16 VO0_16.junk _ _ u k).trans (ldtR t x0 x1 x2 x3 x4 x5 x6 x7 x8 x9 x10 x11 x12 x13 x14 u k)

theorem outB15 (hc0 : ¬cond0_0 (grid0.coords t)) (y17 y18 : Vec Ideal S8x1024 .f32) (u : Fin 512) (k : Fin 1024) : out0_B_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) hc0 x0 x1 x2 x3 x4 x5 x6 x7 x8 x9 x10 x11 x12 x13 x14 y17 y18 (ix2 u k) = tX x0 x1 x2 x3 x4 x5 x6 x7 x8 x9 x10 x11 x12 x13 x14 u k :=
  (whole_read VO0_15 VO0_15.junk _ _ u k).trans (ldtX t x0 x1 x2 x3 x4 x5 x6 x7 x8 x9 x10 x11 x12 x13 x14 u k)

theorem outB16 (hc0 : ¬cond0_0 (grid0.coords t)) (y17 y18 : Vec Ideal S8x1024 .f32) (u : Fin 512) (k : Fin 1024) : out0_B_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) hc0 x0 x1 x2 x3 x4 x5 x6 x7 x8 x9 x10 x11 x12 x13 x14 y17 y18 (ix2 u k) = tR x0 x1 x2 x3 x4 x5 x6 x7 x8 x9 x10 x11 x12 x13 x14 u k :=
  (whole_read VO0_16 VO0_16.junk _ _ u k).trans (ldtR t x0 x1 x2 x3 x4 x5 x6 x7 x8 x9 x10 x11 x12 x13 x14 u k)

end Point

end Cert.Pj.Tile

end
-- ==== Proof.Pj.Ref.lean ====
/- The reference of the derivative of a layer normalisation and of the six products before it, at an index. -/
module

public import proofs.«01_k».proof.Proof.Gen.Reference7Ideal.Run
public import proofs.«01_k».proof.Proof.Dx.Ref
public import proofs.«01_k».proof.Proof.Pj.Ent
public import Idealize.ShloMosaic.Lib.Pointwise
public import Idealize.ShloMosaic.Lib.IdealHost

@[expose] public section

noncomputable section

namespace Cert.Pj

open Cert.Reference7Ideal Cert.Reference7Ideal.Gen
open Idealize.ShloMosaic Idealize.ShloMosaic.TcCoe Idealize.ShloMosaic.StableHlo

section Defs
variable {F : FTy → Type} [FloatOps F]
def rDot (x : Vec F S8192x512 .bf16) (w : Vec F S512x1024 .bf16) : Vec F S8192x1024 .f32 :=
  Host.dotGeneral dot_S8192x512_S1024x512_S8192x1024_1_1_0_0_n_n none (extf .f32 x bitsLt_bf16_f32) (transpose S1024x512 [1, 0] (extf .f32 w bitsLt_bf16_f32) transposes_S512x1024_S1024x512_1_0)
def rG (g : Vec F S1x1024 .f32) : Vec F S8192x1024 .f32 := broadcastInDim S8192x1024 ![0, 1] bcast_S1x1024_S8192x1024_0_1 g
/-- The derivative of the normalised rows, scaled. -/
def rE (x0 x1 x2 x3 x4 x5 : Vec F S8192x512 .bf16) (x6 x7 x8 x9 x10 x11 : Vec F S512x1024 .bf16) (x12 : Vec F S8192x1024 .f32) (x14 : Vec F S1x1024 .f32) : Vec F S8192x1024 .f32 :=
  mulf (addf (addf (addf (addf (addf (addf x12 (rDot x5 x11)) (rDot x4 x10)) (rDot x3 x9)) (rDot x2 x8)) (rDot x1 x7)) (rDot x0 x6)) (rG x14)
def refX (x0 x1 x2 x3 x4 x5 : Vec F S8192x512 .bf16) (x6 x7 x8 x9 x10 x11 : Vec F S512x1024 .bf16) (x12 : Vec F S8192x1024 .f32) (x13 : Vec F S8192x1024 .f32) (x14 : Vec F S1x1024 .f32) : Vec F S8192x1024 .f32 :=
  mulf (broadcastInDim S8192x1024 ![] bcast_S_S8192x1024 (constant S_ .f32 0x3FD744FD#32)) (Cert.Dx.rDx (F := F) x13 (rE x0 x1 x2 x3 x4 x5 x6 x7 x8 x9 x10 x11 x12 x14))
def refR (x0 x1 x2 x3 x4 x5 : Vec F S8192x512 .bf16) (x6 x7 x8 x9 x10 x11 : Vec F S512x1024 .bf16) (x12 : Vec F S8192x1024 .f32) (x13 : Vec F S8192x1024 .f32) (x14 : Vec F S1x1024 .f32) : Vec F S8192x1024 .bf16 :=
  truncf .bf16 (mulf (broadcastInDim S8192x1024 ![] bcast_S_S8192x1024 (constant S_ .f32 0x3F000000#32)) (Cert.Dx.rDx (F := F) x13 (rE x0 x1 x2 x3 x4 x5 x6 x7 x8 x9 x10 x11 x12 x14))) bitsLt_bf16_f32
end Defs

theorem rDot_ix (x : Vec Ideal S8192x512 .bf16) (w : Vec Ideal S512x1024 .bf16) (t : Fin 8192) (k : Fin 1024) :
    rDot (F := Ideal) x w (ix2 t k) = dotE x w t k := by
  pointwise [rDot]
  rfl
theorem rG_ix (g : Vec Ideal S1x1024 .f32) (t : Fin 8192) (k : Fin 1024) : rG (F := Ideal) g (ix2 t k) = g (ix2 0 k) := by
  pointwise [rG]

variable (x0 x1 x2 x3 x4 x5 : Vec Ideal S8192x512 .bf16) (x6 x7 x8 x9 x10 x11 : Vec Ideal S512x1024 .bf16) (x12 : Vec Ideal S8192x1024 .f32) (x13 : Vec Ideal S8192x1024 .f32) (x14 : Vec Ideal S1x1024 .f32) (t : Fin 8192) (k : Fin 1024)

theorem rE_ix : rE (F := Ideal) x0 x1 x2 x3 x4 x5 x6 x7 x8 x9 x10 x11 x12 x14 (ix2 t k) = entE x0 x1 x2 x3 x4 x5 x6 x7 x8 x9 x10 x11 x12 x14 t k := by
  show (((((((x12 (ix2 t k) + rDot (F := Ideal) x5 x11 (ix2 t k)) + rDot (F := Ideal) x4 x10 (ix2 t k)) + rDot (F := Ideal) x3 x9 (ix2 t k)) + rDot (F := Ideal) x2 x8 (ix2 t k)) + rDot (F := Ideal) x1 x7 (ix2 t k)) + rDot (F := Ideal) x0 x6 (ix2 t k)) * rG (F := Ideal) x14 (ix2 t k) : EReal) = _
  rw [rG_ix, rDot_ix, rDot_ix, rDot_ix, rDot_ix, rDot_ix, rDot_ix]
  exact congrArg (fun z : EReal => z * x14 (ix2 0 k)) (by ac_rfl)

theorem rDx_ix : Cert.Dx.rDx (F := Ideal) x13 (rE x0 x1 x2 x3 x4 x5 x6 x7 x8 x9 x10 x11 x12 x14) (ix2 t k) = Cert.Dx.rDu (Cert.Dx.row x13 t) (entE x0 x1 x2 x3 x4 x5 x6 x7 x8 x9 x10 x11 x12 x14 t) k :=
  (Cert.Dx.rDx_ix x13 _ t k).trans (congrArg (fun e => Cert.Dx.rDu (Cert.Dx.row x13 t) e k) (funext fun j => rE_ix x0 x1 x2 x3 x4 x5 x6 x7 x8 x9 x10 x11 x12 x14 t j))

theorem refX_ix : refX (F := Ideal) x0 x1 x2 x3 x4 x5 x6 x7 x8 x9 x10 x11 x12 x13 x14 (ix2 t k) = Ideal.ofBits .f32 0x3FD744FD#32 * Cert.Dx.rDu (Cert.Dx.row x13 t) (entE x0 x1 x2 x3 x4 x5 x6 x7 x8 x9 x10 x11 x12 x14 t) k :=
  congrArg (fun z : EReal => Ideal.ofBits .f32 0x3FD744FD#32 * z) (rDx_ix x0 x1 x2 x3 x4 x5 x6 x7 x8 x9 x10 x11 x12 x13 x14 t k)
theorem refR_ix : refR (F := Ideal) x0 x1 x2 x3 x4 x5 x6 x7 x8 x9 x10 x11 x12 x13 x14 (ix2 t k) = Ideal.ofBits .f32 0x3F000000#32 * Cert.Dx.rDu (Cert.Dx.row x13 t) (entE x0 x1 x2 x3 x4 x5 x6 x7 x8 x9 x10 x11 x12 x14 t) k :=
  congrArg (fun z : EReal => Ideal.ofBits .f32 0x3F000000#32 * z) (rDx_ix x0 x1 x2 x3 x4 x5 x6 x7 x8 x9 x10 x11 x12 x13 x14 t k)

variable (m : (ℓ : Loc nD τ sig) → Buf (Elt Ideal) ℓ) (c : Dev nD)

theorem res_90 : Cert.Reference7Ideal.Value.res_main_v90 (F := Ideal) m c = refX (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := rfl
theorem res_91 : Cert.Reference7Ideal.Value.res_main_v91 (F := Ideal) m c = refR (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := rfl

end Cert.Pj

end
-- ==== Proof.Pj.Main.lean ====
/- The derivative of a layer normalisation and of the six products before it: what the launch leaves is what the reference computes. -/
module

public import proofs.«01_k».proof.Proof.Gen.Kernel7Ideal.Value
public import proofs.«01_k».proof.Proof.Rows.Basic
public import proofs.«01_k».proof.Proof.Pj.Tile
public import proofs.«01_k».proof.Proof.Pj.Ref

@[expose] public section

set_option maxRecDepth 16384

noncomputable section

namespace Cert.Pj

open Cert.Kernel7Ideal Cert.Kernel7Ideal.Gen Cert.Rows
open Idealize.ShloMosaic Idealize.ShloMosaic.TcCoe

variable (m : (ℓ : Loc nD τ sig) → Buf (Elt Ideal) ℓ) (ρ : Dev nD → PrngReg) (c : Dev nD)

abbrev A0 : Vec Ideal S8192x512 .bf16 := m ((c : Thread nD τ).loc main_arg0)
abbrev A1 : Vec Ideal S8192x512 .bf16 := m ((c : Thread nD τ).loc main_arg1)
abbrev A2 : Vec Ideal S8192x512 .bf16 := m ((c : Thread nD τ).loc main_arg2)
abbrev A3 : Vec Ideal S8192x512 .bf16 := m ((c : Thread nD τ).loc main_arg3)
abbrev A4 : Vec Ideal S8192x512 .bf16 := m ((c : Thread nD τ).loc main_arg4)
abbrev A5 : Vec Ideal S8192x512 .bf16 := m ((c : Thread nD τ).loc main_arg5)
abbrev A6 : Vec Ideal S512x1024 .bf16 := m ((c : Thread nD τ).loc main_arg6)
abbrev A7 : Vec Ideal S512x1024 .bf16 := m ((c : Thread nD τ).loc main_arg7)
abbrev A8 : Vec Ideal S512x1024 .bf16 := m ((c : Thread nD τ).loc main_arg8)
abbrev A9 : Vec Ideal S512x1024 .bf16 := m ((c : Thread nD τ).loc main_arg9)
abbrev A10 : Vec Ideal S512x1024 .bf16 := m ((c : Thread nD τ).loc main_arg10)
abbrev A11 : Vec Ideal S512x1024 .bf16 := m ((c : Thread nD τ).loc main_arg11)
abbrev A12 : Vec Ideal S8192x1024 .f32 := m ((c : Thread nD τ).loc main_arg12)
abbrev A13 : Vec Ideal S8192x1024 .f32 := m ((c : Thread nD τ).loc main_arg13)
abbrev A14 : Vec Ideal S1x1024 .f32 := m ((c : Thread nD τ).loc main_arg14)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)
theorem index14 : ∀ t : Fin cfg0.N, win0_14.index t (0 : Fin 2) = 0 ∧ win0_14.index t (1 : Fin 2) = 0 :=
  (by decide +kernel : ∀ t : Fin grid0.N, _)
theorem index15 : ∀ t : Fin cfg0.N, win0_15.index t (0 : Fin 2) = t.val ∧ win0_15.index t (1 : Fin 2) = 0 :=
  (by decide +kernel : ∀ t : Fin grid0.N, _)
theorem index16 : ∀ t : Fin cfg0.N, win0_16.index t (0 : Fin 2) = t.val ∧ win0_16.index t (1 : Fin 2) = 0 :=
  (by decide +kernel : ∀ t : Fin grid0.N, _)

theorem lt_N (t : Fin cfg0.N) : t.val < 16 := lt_of_lt_of_eq t.isLt N_0

/-- A token of the tile `t`. -/
abbrev tok (t : Fin cfg0.N) (u : Fin 512) : Fin 8192 := ⟨512 * t.val + u.val, by have := lt_N t; have := u.isLt; omega⟩

theorem blk0_ix (t : Fin cfg0.N) (a : Fin 512) (b : Fin 512) : (iblk m c 0 t : Vec Ideal S512x512 .bf16) (ix2 a b) = A0 m c (ix2 (tok t a) b) :=
  (congrFun (V_main_arg0 m c) _).trans (congrArg (A0 m c) (ix2_of _ _ _ (row_val (index0 t).1) (all_val (index0 t).2)))
theorem blk1_ix (t : Fin cfg0.N) (a : Fin 512) (b : Fin 512) : (iblk m c 1 t : Vec Ideal S512x512 .bf16) (ix2 a b) = A1 m c (ix2 (tok t a) b) :=
  (congrFun (V_main_arg1 m c) _).trans (congrArg (A1 m c) (ix2_of _ _ _ (row_val (index1 t).1) (all_val (index1 t).2)))
theorem blk2_ix (t : Fin cfg0.N) (a : Fin 512) (b : Fin 512) : (iblk m c 2 t : Vec Ideal S512x512 .bf16) (ix2 a b) = A2 m c (ix2 (tok t a) b) :=
  (congrFun (V_main_arg2 m c) _).trans (congrArg (A2 m c) (ix2_of _ _ _ (row_val (index2 t).1) (all_val (index2 t).2)))
theorem blk3_ix (t : Fin cfg0.N) (a : Fin 512) (b : Fin 512) : (iblk m c 3 t : Vec Ideal S512x512 .bf16) (ix2 a b) = A3 m c (ix2 (tok t a) b) :=
  (congrFun (V_main_arg3 m c) _).trans (congrArg (A3 m c) (ix2_of _ _ _ (row_val (index3 t).1) (all_val (index3 t).2)))
theorem blk4_ix (t : Fin cfg0.N) (a : Fin 512) (b : Fin 512) : (iblk m c 4 t : Vec Ideal S512x512 .bf16) (ix2 a b) = A4 m c (ix2 (tok t a) b) :=
  (congrFun (V_main_arg4 m c) _).trans (congrArg (A4 m c) (ix2_of _ _ _ (row_val (index4 t).1) (all_val (index4 t).2)))
theorem blk5_ix (t : Fin cfg0.N) (a : Fin 512) (b : Fin 512) : (iblk m c 5 t : Vec Ideal S512x512 .bf16) (ix2 a b) = A5 m c (ix2 (tok t a) b) :=
  (congrFun (V_main_arg5 m c) _).trans (congrArg (A5 m c) (ix2_of _ _ _ (row_val (index5 t).1) (all_val (index5 t).2)))
theorem blk6_ix (t : Fin cfg0.N) (a : Fin 512) (b : Fin 1024) : (iblk m c 6 t : Vec Ideal S512x1024 .bf16) (ix2 a b) = A6 m c (ix2 a b) :=
  (congrFun (V_main_arg6 m c) _).trans (congrArg (A6 m c) (ix2_of _ _ _ (all_val (index6 t).1) (all_val (index6 t).2)))
theorem blk7_ix (t : Fin cfg0.N) (a : Fin 512) (b : Fin 1024) : (iblk m c 7 t : Vec Ideal S512x1024 .bf16) (ix2 a b) = A7 m c (ix2 a b) :=
  (congrFun (V_main_arg7 m c) _).trans (congrArg (A7 m c) (ix2_of _ _ _ (all_val (index7 t).1) (all_val (index7 t).2)))
theorem blk8_ix (t : Fin cfg0.N) (a : Fin 512) (b : Fin 1024) : (iblk m c 8 t : Vec Ideal S512x1024 .bf16) (ix2 a b) = A8 m c (ix2 a b) :=
  (congrFun (V_main_arg8 m c) _).trans (congrArg (A8 m c) (ix2_of _ _ _ (all_val (index8 t).1) (all_val (index8 t).2)))
theorem blk9_ix (t : Fin cfg0.N) (a : Fin 512) (b : Fin 1024) : (iblk m c 9 t : Vec Ideal S512x1024 .bf16) (ix2 a b) = A9 m c (ix2 a b) :=
  (congrFun (V_main_arg9 m c) _).trans (congrArg (A9 m c) (ix2_of _ _ _ (all_val (index9 t).1) (all_val (index9 t).2)))
theorem blk10_ix (t : Fin cfg0.N) (a : Fin 512) (b : Fin 1024) : (iblk m c 10 t : Vec Ideal S512x1024 .bf16) (ix2 a b) = A10 m c (ix2 a b) :=
  (congrFun (V_main_arg10 m c) _).trans (congrArg (A10 m c) (ix2_of _ _ _ (all_val (index10 t).1) (all_val (index10 t).2)))
theorem blk11_ix (t : Fin cfg0.N) (a : Fin 512) (b : Fin 1024) : (iblk m c 11 t : Vec Ideal S512x1024 .bf16) (ix2 a b) = A11 m c (ix2 a b) :=
  (congrFun (V_main_arg11 m c) _).trans (congrArg (A11 m c) (ix2_of _ _ _ (all_val (index11 t).1) (all_val (index11 t).2)))
theorem blk12_ix (t : Fin cfg0.N) (a : Fin 512) (b : Fin 1024) : (iblk m c 12 t : Vec Ideal S512x1024 .f32) (ix2 a b) = A12 m c (ix2 (tok t a) b) :=
  (congrFun (V_main_arg12 m c) _).trans (congrArg (A12 m c) (ix2_of _ _ _ (row_val (index12 t).1) (all_val (index12 t).2)))
theorem blk13_ix (t : Fin cfg0.N) (a : Fin 512) (b : Fin 1024) : (iblk m c 13 t : Vec Ideal S512x1024 .f32) (ix2 a b) = A13 m c (ix2 (tok t a) b) :=
  (congrFun (V_main_arg13 m c) _).trans (congrArg (A13 m c) (ix2_of _ _ _ (row_val (index13 t).1) (all_val (index13 t).2)))
theorem blk14_ix (t : Fin cfg0.N) (a : Fin 1) (b : Fin 1024) : (iblk m c 14 t : Vec Ideal S1x1024 .f32) (ix2 a b) = A14 m c (ix2 a b) :=
  (congrFun (V_main_arg14 m c) _).trans (congrArg (A14 m c) (ix2_of _ _ _ (all_val (index14 t).1) (all_val (index14 t).2)))

theorem row_eq (t : Fin cfg0.N) (u : Fin 512) : Cert.Dx.Tile.row (iblk m c 13 t) u = Cert.Dx.row (A13 m c) (tok t u) := funext fun j => blk13_ix m c t u j

theorem ent_eq (t : Fin cfg0.N) (u : Fin 512) : entE (p := 512) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) u = entE (p := 8192) (A0 m c) (A1 m c) (A2 m c) (A3 m c) (A4 m c) (A5 m c) (A6 m c) (A7 m c) (A8 m c) (A9 m c) (A10 m c) (A11 m c) (A12 m c) (A14 m c) (tok t u) := funext fun k =>
  sumE_congr (dotE_congr k (blk0_ix m c t u) (blk6_ix m c t)) (dotE_congr k (blk1_ix m c t u) (blk7_ix m c t)) (dotE_congr k (blk2_ix m c t u) (blk8_ix m c t)) (dotE_congr k (blk3_ix m c t u) (blk9_ix m c t)) (dotE_congr k (blk4_ix m c t u) (blk10_ix m c t)) (dotE_congr k (blk5_ix m c t u) (blk11_ix m c t)) (blk12_ix m c t u k) (blk14_ix m c t 0 k)

/-! ## The arguments but the normalised rows are finite -/

variable (h0 : ∀ i, ∃ r : ℝ, A0 m c i = (r : EReal)) (h1 : ∀ i, ∃ r : ℝ, A1 m c i = (r : EReal)) (h2 : ∀ i, ∃ r : ℝ, A2 m c i = (r : EReal)) (h3 : ∀ i, ∃ r : ℝ, A3 m c i = (r : EReal)) (h4 : ∀ i, ∃ r : ℝ, A4 m c i = (r : EReal)) (h5 : ∀ i, ∃ r : ℝ, A5 m c i = (r : EReal)) (h6 : ∀ i, ∃ r : ℝ, A6 m c i = (r : EReal)) (h7 : ∀ i, ∃ r : ℝ, A7 m c i = (r : EReal)) (h8 : ∀ i, ∃ r : ℝ, A8 m c i = (r : EReal)) (h9 : ∀ i, ∃ r : ℝ, A9 m c i = (r : EReal)) (h10 : ∀ i, ∃ r : ℝ, A10 m c i = (r : EReal)) (h11 : ∀ i, ∃ r : ℝ, A11 m c i = (r : EReal)) (h12 : ∀ i, ∃ r : ℝ, A12 m c i = (r : EReal)) (h14 : ∀ i, ∃ r : ℝ, A14 m c i = (r : EReal))

include h0 h1 h2 h3 h4 h5 h6 h7 h8 h9 h10 h11 h12 h14 in
theorem du_eq (t : Fin cfg0.N) (u : Fin 512) (k : Fin 1024) :
    Cert.Dx.kDu (Cert.Dx.Tile.row (iblk m c 13 t) u) (entE (p := 512) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) u) k = Cert.Dx.rDu (Cert.Dx.row (A13 m c) (tok t u)) (entE (p := 8192) (A0 m c) (A1 m c) (A2 m c) (A3 m c) (A4 m c) (A5 m c) (A6 m c) (A7 m c) (A8 m c) (A9 m c) (A10 m c) (A11 m c) (A12 m c) (A14 m c) (tok t u)) k := by
  rw [row_eq, ent_eq]
  exact Cert.Dx.du_eq _ _ (fun j => entE_real h0 h1 h2 h3 h4 h5 h6 h7 h8 h9 h10 h11 h12 h14 _ _) k

include h0 h1 h2 h3 h4 h5 h6 h7 h8 h9 h10 h11 h12 h14 in
theorem tile15 (t : Fin cfg0.N) (u : Fin 512) (k : Fin 1024) : Tile.tX (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) u k = refX (F := Ideal) (A0 m c) (A1 m c) (A2 m c) (A3 m c) (A4 m c) (A5 m c) (A6 m c) (A7 m c) (A8 m c) (A9 m c) (A10 m c) (A11 m c) (A12 m c) (A13 m c) (A14 m c) (ix2 (tok t u) k) :=
  (congrArg (fun z : EReal => Ideal.ofBits .f32 0x3FD744FD#32 * z) (du_eq m c h0 h1 h2 h3 h4 h5 h6 h7 h8 h9 h10 h11 h12 h14 t u k)).trans (refX_ix (A0 m c) (A1 m c) (A2 m c) (A3 m c) (A4 m c) (A5 m c) (A6 m c) (A7 m c) (A8 m c) (A9 m c) (A10 m c) (A11 m c) (A12 m c) (A13 m c) (A14 m c) (tok t u) k).symm

include h0 h1 h2 h3 h4 h5 h6 h7 h8 h9 h10 h11 h12 h14 in
theorem tile16 (t : Fin cfg0.N) (u : Fin 512) (k : Fin 1024) : Tile.tR (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) u k = refR (F := Ideal) (A0 m c) (A1 m c) (A2 m c) (A3 m c) (A4 m c) (A5 m c) (A6 m c) (A7 m c) (A8 m c) (A9 m c) (A10 m c) (A11 m c) (A12 m c) (A13 m c) (A14 m c) (ix2 (tok t u) k) :=
  (congrArg (fun z : EReal => Ideal.ofBits .f32 0x3F000000#32 * z) (du_eq m c h0 h1 h2 h3 h4 h5 h6 h7 h8 h9 h10 h11 h12 h14 t u k)).trans (refR_ix (A0 m c) (A1 m c) (A2 m c) (A3 m c) (A4 m c) (A5 m c) (A6 m c) (A7 m c) (A8 m c) (A9 m c) (A10 m c) (A11 m c) (A12 m c) (A13 m c) (A14 m c) (tok t u) k).symm

include h0 h1 h2 h3 h4 h5 h6 h7 h8 h9 h10 h11 h12 h14 in
theorem flushed15_eq (t : Fin cfg0.N) : (dats m 0 c).flushed 15 t = ((cfg0.win 15).blk t).view.read (Elt Ideal) (refX (F := Ideal) (A0 m c) (A1 m c) (A2 m c) (A3 m c) (A4 m c) (A5 m c) (A6 m c) (A7 m c) (A8 m c) (A9 m c) (A10 m c) (A11 m c) (A12 m c) (A13 m c) (A14 m c)) := by
  have h : ∀ O : Vec Ideal S512x1024 .f32, (∀ u k, O (ix2 u k) = Tile.tX (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) u k) → (cfg0.win 15).cut (grid0.coords t) O = ((cfg0.win 15).blk t).view.read (Elt Ideal) (refX (F := Ideal) (A0 m c) (A1 m c) (A2 m c) (A3 m c) (A4 m c) (A5 m c) (A6 m c) (A7 m c) (A8 m c) (A9 m c) (A10 m c) (A11 m c) (A12 m c) (A13 m c) (A14 m c)) := fun O hO =>
    funext fun y => (congrArg O (ix2_of _ (y 0) (y 1) rfl rfl)).trans ((hO (y 0) (y 1)).trans ((tile15 m c h0 h1 h2 h3 h4 h5 h6 h7 h8 h9 h10 h11 h12 h14 t (y 0) (y 1)).trans
      (congrArg (refX (F := Ideal) (A0 m c) (A1 m c) (A2 m c) (A3 m c) (A4 m c) (A5 m c) (A6 m c) (A7 m c) (A8 m c) (A9 m c) (A10 m c) (A11 m c) (A12 m c) (A13 m c) (A14 m c)) (ix2_of _ (tok t (y 0)) (y 1) (row_val (index15 t).1) (all_val (index15 t).2)).symm)))
  by_cases hz : t.val % 16 = 0
  · exact (Value.flushed15_A m c t hz).trans (h _ fun u k => Tile.outA15 c t _ _ _ _ _ _ _ _ _ _ _ _ _ _ _ ((hcond0_0 t).mpr hz) u k)
  · exact (Value.flushed15_B m c t hz).trans (h _ fun u k => Tile.outB15 c t _ _ _ _ _ _ _ _ _ _ _ _ _ _ _ (fun h => hz ((hcond0_0 t).mp h)) _ _ u k)

theorem covered15 (i : S8192x1024.Idx) : ∃ t : Fin cfg0.N, (cfg0.win 15).flush t = true ∧ i ∈ ((cfg0.win 15).blk t).view.set := by
  have h0 : (i 0).val < 8192 := (i 0).isLt
  obtain ⟨t, ht⟩ : ∃ t : Fin cfg0.N, t.val = (i 0).val / 512 := ⟨⟨_, lt_of_lt_of_eq (by omega) N_0.symm⟩, rfl⟩
  refine ⟨t, (by decide +kernel : ∀ t : Fin grid0.N, win0_15.flush t = true) t, ?_⟩
  show i ∈ ((View.whole main_v0_0).slice (win0_15.rect t)).set
  rw [View.set_slice_whole, Rect.mem_set_unit]
  exact mem_tile i (win0_15.index t) ((index15 t).1.trans ht) (index15 t).2

include h0 h1 h2 h3 h4 h5 h6 h7 h8 h9 h10 h11 h12 h14 in
theorem final15 : (dats m 0 c).arrAt 15 cfg0.N = (refX (F := Ideal) (A0 m c) (A1 m c) (A2 m c) (A3 m c) (A4 m c) (A5 m c) (A6 m c) (A7 m c) (A8 m c) (A9 m c) (A10 m c) (A11 m c) (A12 m c) (A13 m c) (A14 m c)) :=
  (dats m 0 c).arrAt_eq_of_cover 15 _ (fun t _ => flushed15_eq m c h0 h1 h2 h3 h4 h5 h6 h7 h8 h9 h10 h11 h12 h14 t) (fun i => covered15 i)

include h0 h1 h2 h3 h4 h5 h6 h7 h8 h9 h10 h11 h12 h14 in
theorem flushed16_eq (t : Fin cfg0.N) : (dats m 0 c).flushed 16 t = ((cfg0.win 16).blk t).view.read (Elt Ideal) (refR (F := Ideal) (A0 m c) (A1 m c) (A2 m c) (A3 m c) (A4 m c) (A5 m c) (A6 m c) (A7 m c) (A8 m c) (A9 m c) (A10 m c) (A11 m c) (A12 m c) (A13 m c) (A14 m c)) := by
  have h : ∀ O : Vec Ideal S512x1024 .bf16, (∀ u k, O (ix2 u k) = Tile.tR (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) u k) → (cfg0.win 16).cut (grid0.coords t) O = ((cfg0.win 16).blk t).view.read (Elt Ideal) (refR (F := Ideal) (A0 m c) (A1 m c) (A2 m c) (A3 m c) (A4 m c) (A5 m c) (A6 m c) (A7 m c) (A8 m c) (A9 m c) (A10 m c) (A11 m c) (A12 m c) (A13 m c) (A14 m c)) := fun O hO =>
    funext fun y => (congrArg O (ix2_of _ (y 0) (y 1) rfl rfl)).trans ((hO (y 0) (y 1)).trans ((tile16 m c h0 h1 h2 h3 h4 h5 h6 h7 h8 h9 h10 h11 h12 h14 t (y 0) (y 1)).trans
      (congrArg (refR (F := Ideal) (A0 m c) (A1 m c) (A2 m c) (A3 m c) (A4 m c) (A5 m c) (A6 m c) (A7 m c) (A8 m c) (A9 m c) (A10 m c) (A11 m c) (A12 m c) (A13 m c) (A14 m c)) (ix2_of _ (tok t (y 0)) (y 1) (row_val (index16 t).1) (all_val (index16 t).2)).symm)))
  by_cases hz : t.val % 16 = 0
  · exact (Value.flushed16_A m c t hz).trans (h _ fun u k => Tile.outA16 c t _ _ _ _ _ _ _ _ _ _ _ _ _ _ _ ((hcond0_0 t).mpr hz) u k)
  · exact (Value.flushed16_B m c t hz).trans (h _ fun u k => Tile.outB16 c t _ _ _ _ _ _ _ _ _ _ _ _ _ _ _ (fun h => hz ((hcond0_0 t).mp h)) _ _ u k)

theorem covered16 (i : S8192x1024.Idx) : ∃ t : Fin cfg0.N, (cfg0.win 16).flush t = true ∧ i ∈ ((cfg0.win 16).blk t).view.set := by
  have h0 : (i 0).val < 8192 := (i 0).isLt
  obtain ⟨t, ht⟩ : ∃ t : Fin cfg0.N, t.val = (i 0).val / 512 := ⟨⟨_, lt_of_lt_of_eq (by omega) N_0.symm⟩, rfl⟩
  refine ⟨t, (by decide +kernel : ∀ t : Fin grid0.N, win0_16.flush t = true) t, ?_⟩
  show i ∈ ((View.whole main_v0_1).slice (win0_16.rect t)).set
  rw [View.set_slice_whole, Rect.mem_set_unit]
  exact mem_tile i (win0_16.index t) ((index16 t).1.trans ht) (index16 t).2

include h0 h1 h2 h3 h4 h5 h6 h7 h8 h9 h10 h11 h12 h14 in
theorem final16 : (dats m 0 c).arrAt 16 cfg0.N = (refR (F := Ideal) (A0 m c) (A1 m c) (A2 m c) (A3 m c) (A4 m c) (A5 m c) (A6 m c) (A7 m c) (A8 m c) (A9 m c) (A10 m c) (A11 m c) (A12 m c) (A13 m c) (A14 m c)) :=
  (dats m 0 c).arrAt_eq_of_cover 16 _ (fun t _ => flushed16_eq m c h0 h1 h2 h3 h4 h5 h6 h7 h8 h9 h10 h11 h12 h14 t) (fun i => covered16 i)

theorem run (h0 : ∀ (c : Dev nD) i, ∃ r : ℝ, A0 m c i = (r : EReal)) (h1 : ∀ (c : Dev nD) i, ∃ r : ℝ, A1 m c i = (r : EReal)) (h2 : ∀ (c : Dev nD) i, ∃ r : ℝ, A2 m c i = (r : EReal)) (h3 : ∀ (c : Dev nD) i, ∃ r : ℝ, A3 m c i = (r : EReal)) (h4 : ∀ (c : Dev nD) i, ∃ r : ℝ, A4 m c i = (r : EReal)) (h5 : ∀ (c : Dev nD) i, ∃ r : ℝ, A5 m c i = (r : EReal)) (h6 : ∀ (c : Dev nD) i, ∃ r : ℝ, A6 m c i = (r : EReal)) (h7 : ∀ (c : Dev nD) i, ∃ r : ℝ, A7 m c i = (r : EReal)) (h8 : ∀ (c : Dev nD) i, ∃ r : ℝ, A8 m c i = (r : EReal)) (h9 : ∀ (c : Dev nD) i, ∃ r : ℝ, A9 m c i = (r : EReal)) (h10 : ∀ (c : Dev nD) i, ∃ r : ℝ, A10 m c i = (r : EReal)) (h11 : ∀ (c : Dev nD) i, ∃ r : ℝ, A11 m c i = (r : EReal)) (h12 : ∀ (c : Dev nD) i, ∃ r : ℝ, A12 m c i = (r : EReal)) (h14 : ∀ (c : Dev nD) i, ∃ r : ℝ, A14 m c i = (r : EReal)) : θ_run defs (onTc (τ := τ) (main (F := Ideal))) ⟨m, fun _ => 0, ρ⟩ fun r => ∀ c : Dev nD,
      r.2.mem ((c : Thread nD τ).loc main_v0_0) = (refX (F := Ideal) (A0 m c) (A1 m c) (A2 m c) (A3 m c) (A4 m c) (A5 m c) (A6 m c) (A7 m c) (A8 m c) (A9 m c) (A10 m c) (A11 m c) (A12 m c) (A13 m c) (A14 m c))
      ∧ r.2.mem ((c : Thread nD τ).loc main_v0_1) = (refR (F := Ideal) (A0 m c) (A1 m c) (A2 m c) (A3 m c) (A4 m c) (A5 m c) (A6 m c) (A7 m c) (A8 m c) (A9 m c) (A10 m c) (A11 m c) (A12 m c) (A13 m c) (A14 m c))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) ∧ r.2.mem ((c : Thread nD τ).loc main_arg12) = m ((c : Thread nD τ).loc main_arg12) ∧ r.2.mem ((c : Thread nD τ).loc main_arg13) = m ((c : Thread nD τ).loc main_arg13) ∧ r.2.mem ((c : Thread nD τ).loc main_arg14) = m ((c : Thread nD τ).loc main_arg14) :=
  (θ_run defs _ _).mono (fun r h c => ⟨(Value.post15 m r h c).trans (final15 m c (h0 c) (h1 c) (h2 c) (h3 c) (h4 c) (h5 c) (h6 c) (h7 c) (h8 c) (h9 c) (h10 c) (h11 c) (h12 c) (h14 c)), (Value.post16 m r h c).trans (final16 m c (h0 c) (h1 c) (h2 c) (h3 c) (h4 c) (h5 c) (h6 c) (h7 c) (h8 c) (h9 c) (h10 c) (h11 c) (h12 c) (h14 c)),
      Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c, Value.kept_main_arg9 m r h c, Value.kept_main_arg10 m r h c, Value.kept_main_arg11 m r h c, Value.kept_main_arg12 m r h c, Value.kept_main_arg13 m r h c, Value.kept_main_arg14 m r h c⟩)
    (run_main m ρ)

end Cert.Pj

end
-- ==== Proof.Pj.Claims.lean ====
/- The claims on the derivative of a layer normalisation and of the six products before it: the frames and the equality of the results. -/
module

public import proofs.«01_k».proof.Defs
public import proofs.«01_k».proof.Proof.Gen.Kernel7.Frame
public import proofs.«01_k».proof.Proof.Value.Main
public import proofs.«01_k».proof.Proof.Pj.Main

@[expose] public section

noncomputable section

namespace Cert.Pj

open Idealize.ShloMosaic Idealize.SL.Sem

theorem pre_facts : Cert.Pre_finite7.Facts := { bcast_S_S8192x512 := by decide, bcast_S_S512x1024 := by decide, bcast_S_S8192x1024 := by decide, bcast_S_S1x1024 := by decide }

theorem real16 {x : EReal} (h : IntOp.andi (Ideal.cmp .ogt x (Ideal.ofBits .bf16 0xFF80#16)) (Ideal.cmp .olt x (Ideal.ofBits .bf16 0x7F80#16)) = 1#1) : ∃ r : ℝ, x = (r : EReal) :=
  Cert.Value.real_of_bits x (by rw [← Cert.Value.neg_inf16, ← Cert.Value.pos_inf16]; exact h)
theorem real32 {x : EReal} (h : IntOp.andi (Ideal.cmp .ogt x (Ideal.ofBits .f32 0xFF800000#32)) (Ideal.cmp .olt x (Ideal.ofBits .f32 0x7F800000#32)) = 1#1) : ∃ r : ℝ, x = (r : EReal) :=
  Cert.Value.real_of_bits x (by rw [← Cert.Value.neg_inf, ← Cert.Value.pos_inf]; exact h)

theorem frame_kernel : Cert.quiescent_Kernel7 (hKernel7 := Cert.Kernel7.Gen.facts) := fun m ρ _ => Cert.Kernel7.Gen.frame m ρ

theorem frame_kernelIdeal : Cert.quiescent_Kernel7Ideal (hKernel7Ideal := Cert.Kernel7Ideal.Gen.facts) := fun m ρ _ =>
  Cert.Kernel7Ideal.Gen.frame m ρ

theorem frame_kernelIdeal_finite : Cert.quiescent_Kernel7Ideal_pre_finite7 (hKernel7Ideal := Cert.Kernel7Ideal.Gen.facts)
    (hPre_finite7 := pre_facts) := fun m ρ _ => Cert.Kernel7Ideal.Gen.frame m ρ

theorem frame_referenceIdeal : Cert.quiescent_Reference7Ideal (hReference7Ideal := Cert.Reference7Ideal.Gen.facts) := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

theorem frame_referenceIdeal_finite : Cert.quiescent_Reference7Ideal_pre_finite7 (hReference7Ideal := Cert.Reference7Ideal.Gen.facts)
    (hPre_finite7 := pre_facts) := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- The derivatives by the two summands of the residual, of the kernel and of the reference. -/
theorem values : Cert.algebraic_Kernel7Ideal_Reference7Ideal_pre_finite7 (hKernel7Ideal := Cert.Kernel7Ideal.Gen.facts)
    (hReference7Ideal := Cert.Reference7Ideal.Gen.facts) (hPre_finite7 := pre_facts) := by
  intro m g m' g' hpre hagree
  refine ⟨fun c => refX (F := Ideal) (A0 m c) (A1 m c) (A2 m c) (A3 m c) (A4 m c) (A5 m c) (A6 m c) (A7 m c) (A8 m c) (A9 m c) (A10 m c) (A11 m c) (A12 m c) (A13 m c) (A14 m c), fun c => refR (F := Ideal) (A0 m c) (A1 m c) (A2 m c) (A3 m c) (A4 m c) (A5 m c) (A6 m c) (A7 m c) (A8 m c) (A9 m c) (A10 m c) (A11 m c) (A12 m c) (A13 m c) (A14 m c),
    run m g (fun c i => real16 (congrFun (hpre c).1 i))
      (fun c i => real16 (congrFun (hpre c).2.1 i))
      (fun c i => real16 (congrFun (hpre c).2.2.1 i))
      (fun c i => real16 (congrFun (hpre c).2.2.2.1 i))
      (fun c i => real16 (congrFun (hpre c).2.2.2.2.1 i))
      (fun c i => real16 (congrFun (hpre c).2.2.2.2.2.1 i))
      (fun c i => real16 (congrFun (hpre c).2.2.2.2.2.2.1 i))
      (fun c i => real16 (congrFun (hpre c).2.2.2.2.2.2.2.1 i))
      (fun c i => real16 (congrFun (hpre c).2.2.2.2.2.2.2.2.1 i))
      (fun c i => real16 (congrFun (hpre c).2.2.2.2.2.2.2.2.2.1 i))
      (fun c i => real16 (congrFun (hpre c).2.2.2.2.2.2.2.2.2.2.1 i))
      (fun c i => real16 (congrFun (hpre c).2.2.2.2.2.2.2.2.2.2.2.1 i))
      (fun c i => real32 (congrFun (hpre c).2.2.2.2.2.2.2.2.2.2.2.2.1 i))
      (fun c i => real32 (congrFun (hpre c).2.2.2.2.2.2.2.2.2.2.2.2.2 i)), ?_⟩
  refine (θ_run Cert.Reference7Ideal.defs _ _).mono (fun r h c => ?_) (Cert.Reference7Ideal.Value.run (F := Ideal) m' g')
  obtain ⟨r0, r1, a⟩ := h c
  obtain ⟨e0, e1, e2, e3, e4, e5, e6, e7, e8, e9, e10, e11, e12, e13, e14⟩ := hagree c
  refine ⟨r0.trans ?_, r1.trans ?_, a⟩
  · rw [res_90, e0, e1, e2, e3, e4, e5, e6, e7, e8, e9, e10, e11, e12, e13, e14]
  · rw [res_91, e0, e1, e2, e3, e4, e5, e6, e7, e8, e9, e10, e11, e12, e13, e14]

end Cert.Pj

end
-- ==== Proof.Fx.Tile.lean ====
/- The gradient of a feed-forward sublayer's input, of one tile of 512 tokens in 2 bands of 512 columns. -/
module

public import proofs.«01_k».proof.Proof.Gen.Kernel8Ideal.Frame
public import proofs.«01_k».proof.Proof.Rows.Basic
public import Idealize.ShloMosaic.Lib.Pipeline.ValueKit.Tiles
public import Idealize.ShloMosaic.Lib.Pointwise
public import Idealize.ShloMosaic.Lib.IdealHost

@[expose] public section

noncomputable section

namespace Cert.Fx

open Cert.Kernel8Ideal Cert.Kernel8Ideal.Gen Cert.Rows
open Idealize.ShloMosaic Idealize.ShloMosaic.TcCoe

theorem pay_ix (x0 x1 : Vec Ideal S512x2816 .bf16) (w0 w1 : Vec Ideal S2816x512 .bf16) (d : Vec Ideal S512x512 .f32) (a b : Fin 512) : k0_pay1 (F := Ideal) x0 w0 x1 w1 d (ix2 a b)
    = ((∑ k : Fin 2816, x0 (ix2 a k) * w0 (ix2 k b)) + (∑ k : Fin 2816, x1 (ix2 a k) * w1 (ix2 k b)) + d (ix2 a b) : EReal) := by
  pointwise [k0_pay1]

variable (x0 x1 : Vec Ideal S512x2816 .bf16) (x2 x3 : Vec Ideal S2816x1024 .bf16) (x4 : Vec Ideal S512x1024 .f32) (u : Fin 512) (n : Fin 1024)

def ent : EReal := (∑ k : Fin 2816, x0 (ix2 u k) * x2 (ix2 k n)) + (∑ k : Fin 2816, x1 (ix2 u k) * x3 (ix2 k n)) + x4 (ix2 u n)

theorem band (j : ℕ) (i0) (i1) (i2) (x : S512x512.Idx) (h0 : u.val = (x 0).val) (h1 : n.val = j + (x 1).val) :
    k0_pay1 (F := Ideal) (View.ld x0 (Rect.unit (s := S512x2816) ![0, 0] S512x2816.size i0)) (View.ld x2 (Rect.unit (s := S2816x1024) ![0, j] S2816x512.size i1))
      (View.ld x1 (Rect.unit (s := S512x2816) ![0, 0] S512x2816.size i0)) (View.ld x3 (Rect.unit (s := S2816x1024) ![0, j] S2816x512.size i1))
      (View.ld x4 (Rect.unit (s := S512x1024) ![0, j] S512x512.size i2)) x
      = ent x0 x1 x2 x3 x4 u n := by
  obtain ⟨a, b, rfl⟩ : ∃ a b : Fin 512, x = ix2 a b := ⟨x 0, x 1, ix2_of x (x 0) (x 1) rfl rfl⟩
  replace h0 : u.val = a.val := h0
  replace h1 : n.val = j + b.val := h1
  rw [pay_ix]
  have hs : ∀ (y : Vec Ideal S512x2816 .bf16) (w : Vec Ideal S2816x1024 .bf16),
      (∑ k : Fin 2816, View.ld y (Rect.unit (s := S512x2816) ![0, 0] S512x2816.size i0) (ix2 a k) * View.ld w (Rect.unit (s := S2816x1024) ![0, j] S2816x512.size i1) (ix2 k b) : EReal)
        = ∑ k : Fin 2816, (y (ix2 u k) * w (ix2 k n) : EReal) := fun y w =>
    Finset.sum_congr rfl fun k _ => congrArg₂ (fun a b : EReal => a * b) (ld_band y 0 0 _ _ _ u k (by omega) (by omega)) (ld_band w 0 j _ _ _ k n (by omega) h1)
  exact congrArg₂ (fun a b : EReal => a + b) (congrArg₂ (fun a b : EReal => a + b) (hs x0 x2) (hs x1 x3)) (ld_band x4 0 j _ _ _ u n (by omega) h1)

theorem out5 : out0_5 (F := Ideal) x0 x1 x2 x3 x4 (ix2 u n) = ent x0 x1 x2 x3 x4 u n := by
  unfold out0_5
  canon_tiles x h using cover0_5 ..
  all_goals first
    | exact band x0 x1 x2 x3 x4 u n _ _ _ _ x h0 h1
    | exact band x0 x1 x2 x3 x4 u n 0 _ _ _ x h0 (h1.trans (Nat.zero_add _).symm)

end Cert.Fx

end
-- ==== Proof.Fx.Ref.lean ====
/- The reference of the gradient of a feed-forward sublayer's input, at an index. -/
module

public import proofs.«01_k».proof.Proof.Gen.Reference8Ideal.Run
public import Idealize.ShloMosaic.Lib.Pointwise
public import Idealize.ShloMosaic.Lib.IdealHost

@[expose] public section

noncomputable section

namespace Cert.Fx

open Cert.Reference8Ideal Cert.Reference8Ideal.Gen
open Idealize.ShloMosaic Idealize.ShloMosaic.TcCoe Idealize.ShloMosaic.StableHlo

section Defs
variable {F : FTy → Type} [FloatOps F]
def rDot (x : Vec F S8192x2816 .bf16) (w : Vec F S2816x1024 .bf16) : Vec F S8192x1024 .f32 :=
  Host.dotGeneral dot_S8192x2816_S1024x2816_S8192x1024_1_1_0_0_n_n none (extf .f32 x bitsLt_bf16_f32) (transpose S1024x2816 [1, 0] (extf .f32 w bitsLt_bf16_f32) transposes_S2816x1024_S1024x2816_1_0)
def ref (x0 x1 : Vec F S8192x2816 .bf16) (x2 x3 : Vec F S2816x1024 .bf16) (x4 : Vec F S8192x1024 .f32) : Vec F S8192x1024 .f32 :=
  addf (addf x4 (rDot x1 x3)) (rDot x0 x2)
end Defs

theorem rDot_ix (x : Vec Ideal S8192x2816 .bf16) (w : Vec Ideal S2816x1024 .bf16) (t : Fin 8192) (k : Fin 1024) :
    rDot (F := Ideal) x w (ix2 t k) = (∑ n : Fin 2816, x (ix2 t n) * w (ix2 n k) : EReal) := by
  pointwise [rDot]

theorem ref_ix (x0 x1 : Vec Ideal S8192x2816 .bf16) (x2 x3 : Vec Ideal S2816x1024 .bf16) (x4 : Vec Ideal S8192x1024 .f32) (t : Fin 8192) (k : Fin 1024) :
    ref (F := Ideal) x0 x1 x2 x3 x4 (ix2 t k)
      = ((∑ n : Fin 2816, x0 (ix2 t n) * x2 (ix2 n k)) + (∑ n : Fin 2816, x1 (ix2 t n) * x3 (ix2 n k)) + x4 (ix2 t k) : EReal) := by
  show (x4 (ix2 t k) + rDot (F := Ideal) x1 x3 (ix2 t k) + rDot (F := Ideal) x0 x2 (ix2 t k) : EReal) = _
  rw [rDot_ix, rDot_ix, add_assoc, add_comm]
  exact congrArg (fun z : EReal => z + x4 (ix2 t k)) (add_comm _ _)

end Cert.Fx

end
-- ==== Proof.Fx.Main.lean ====
/- The gradient of a feed-forward sublayer's input: what the launch leaves is what the reference computes. -/
module

public import proofs.«01_k».proof.Proof.Gen.Kernel8Ideal.Value
public import proofs.«01_k».proof.Proof.Rows.Basic
public import proofs.«01_k».proof.Proof.Fx.Tile
public import proofs.«01_k».proof.Proof.Fx.Ref

@[expose] public section

set_option maxRecDepth 16384

noncomputable section

namespace Cert.Fx

open Cert.Kernel8Ideal Cert.Kernel8Ideal.Gen Cert.Rows
open Idealize.ShloMosaic Idealize.ShloMosaic.TcCoe

variable (m : (ℓ : Loc nD τ sig) → Buf (Elt Ideal) ℓ) (ρ : Dev nD → PrngReg) (c : Dev nD)

abbrev A0 : Vec Ideal S8192x2816 .bf16 := m ((c : Thread nD τ).loc main_arg0)
abbrev A1 : Vec Ideal S8192x2816 .bf16 := m ((c : Thread nD τ).loc main_arg1)
abbrev A2 : Vec Ideal S2816x1024 .bf16 := m ((c : Thread nD τ).loc main_arg2)
abbrev A3 : Vec Ideal S2816x1024 .bf16 := m ((c : Thread nD τ).loc main_arg3)
abbrev A4 : Vec Ideal S8192x1024 .f32 := m ((c : Thread nD τ).loc main_arg4)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

theorem lt_N (t : Fin cfg0.N) : t.val < 16 := lt_of_lt_of_eq t.isLt N_0

/-- A token of the tile `t`. -/
abbrev tok (t : Fin cfg0.N) (u : Fin 512) : Fin 8192 := ⟨512 * t.val + u.val, by have := lt_N t; have := u.isLt; omega⟩

theorem blk0_ix (t : Fin cfg0.N) (a : Fin 512) (b : Fin 2816) : (iblk m c 0 t : Vec Ideal S512x2816 .bf16) (ix2 a b) = A0 m c (ix2 (tok t a) b) :=
  (congrFun (V_main_arg0 m c) _).trans (congrArg (A0 m c) (ix2_of _ _ _ (row_val (index0 t).1) (all_val (index0 t).2)))
theorem blk1_ix (t : Fin cfg0.N) (a : Fin 512) (b : Fin 2816) : (iblk m c 1 t : Vec Ideal S512x2816 .bf16) (ix2 a b) = A1 m c (ix2 (tok t a) b) :=
  (congrFun (V_main_arg1 m c) _).trans (congrArg (A1 m c) (ix2_of _ _ _ (row_val (index1 t).1) (all_val (index1 t).2)))
theorem blk2_ix (t : Fin cfg0.N) (a : Fin 2816) (b : Fin 1024) : (iblk m c 2 t : Vec Ideal S2816x1024 .bf16) (ix2 a b) = A2 m c (ix2 a b) :=
  (congrFun (V_main_arg2 m c) _).trans (congrArg (A2 m c) (ix2_of _ _ _ (all_val (index2 t).1) (all_val (index2 t).2)))
theorem blk3_ix (t : Fin cfg0.N) (a : Fin 2816) (b : Fin 1024) : (iblk m c 3 t : Vec Ideal S2816x1024 .bf16) (ix2 a b) = A3 m c (ix2 a b) :=
  (congrFun (V_main_arg3 m c) _).trans (congrArg (A3 m c) (ix2_of _ _ _ (all_val (index3 t).1) (all_val (index3 t).2)))
theorem blk4_ix (t : Fin cfg0.N) (a : Fin 512) (b : Fin 1024) : (iblk m c 4 t : Vec Ideal S512x1024 .f32) (ix2 a b) = A4 m c (ix2 (tok t a) b) :=
  (congrFun (V_main_arg4 m c) _).trans (congrArg (A4 m c) (ix2_of _ _ _ (row_val (index4 t).1) (all_val (index4 t).2)))

theorem tile5 (t : Fin cfg0.N) (u : Fin 512) (n : Fin 1024) :
    out0_5 (F := Ideal) (iblk m c 0 t) (iblk m c 1 t) (iblk m c 2 t) (iblk m c 3 t) (iblk m c 4 t) (ix2 u n) = ref (F := Ideal) (A0 m c) (A1 m c) (A2 m c) (A3 m c) (A4 m c) (ix2 (tok t u) n) :=
  (out5 _ _ _ _ _ u n).trans ((congrArg₂ (fun a b : EReal => a + b) (congrArg₂ (fun a b : EReal => a + b)
    (Finset.sum_congr rfl fun k _ => congrArg₂ (fun a b : EReal => a * b) (blk0_ix m c t u k) (blk2_ix m c t k n))
    (Finset.sum_congr rfl fun k _ => congrArg₂ (fun a b : EReal => a * b) (blk1_ix m c t u k) (blk3_ix m c t k n))) (blk4_ix m c t u n)).trans
    (ref_ix (A0 m c) (A1 m c) (A2 m c) (A3 m c) (A4 m c) (tok t u) n).symm)

theorem flushed5_eq (t : Fin cfg0.N) : (dats m 0 c).flushed 5 t = ((cfg0.win 5).blk t).view.read (Elt Ideal) (ref (F := Ideal) (A0 m c) (A1 m c) (A2 m c) (A3 m c) (A4 m c)) := (Value.flushed5 m c t).trans (funext fun y =>
  (congrArg (out0_5 (F := Ideal) (iblk m c 0 t) (iblk m c 1 t) (iblk m c 2 t) (iblk m c 3 t) (iblk m c 4 t)) (ix2_of _ (y 0) (y 1) rfl rfl)).trans ((tile5 m c t (y 0) (y 1)).trans
    (congrArg (ref (F := Ideal) (A0 m c) (A1 m c) (A2 m c) (A3 m c) (A4 m c)) (ix2_of _ (tok t (y 0)) (y 1) (row_val (index5 t).1) (all_val (index5 t).2)).symm)))

theorem covered5 (i : S8192x1024.Idx) : ∃ t : Fin cfg0.N, (cfg0.win 5).flush t = true ∧ i ∈ ((cfg0.win 5).blk t).view.set := by
  have h0 : (i 0).val < 8192 := (i 0).isLt
  obtain ⟨t, ht⟩ : ∃ t : Fin cfg0.N, t.val = (i 0).val / 512 := ⟨⟨_, lt_of_lt_of_eq (by omega) N_0.symm⟩, rfl⟩
  refine ⟨t, (by decide +kernel : ∀ t : Fin grid0.N, win0_5.flush t = true) t, ?_⟩
  show i ∈ ((View.whole main_v0).slice (win0_5.rect t)).set
  rw [View.set_slice_whole, Rect.mem_set_unit]
  exact mem_tile i (win0_5.index t) ((index5 t).1.trans ht) (index5 t).2

theorem final5 : (dats m 0 c).arrAt 5 cfg0.N = (ref (F := Ideal) (A0 m c) (A1 m c) (A2 m c) (A3 m c) (A4 m c)) :=
  (dats m 0 c).arrAt_eq_of_cover 5 _ (fun t _ => flushed5_eq m c t) (fun i => covered5 i)

theorem run : θ_run defs (onTc (τ := τ) (main (F := Ideal))) ⟨m, fun _ => 0, ρ⟩ fun r => ∀ c : Dev nD,
      r.2.mem ((c : Thread nD τ).loc main_v0) = (ref (F := Ideal) (A0 m c) (A1 m c) (A2 m c) (A3 m c) (A4 m c))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) :=
  (θ_run defs _ _).mono (fun r h c => ⟨(Value.post5 m r h c).trans (final5 m c),
      Value.kept_main_arg0 m r h c, Value.kept_main_arg1 m r h c, Value.kept_main_arg2 m r h c, Value.kept_main_arg3 m r h c, Value.kept_main_arg4 m r h c⟩)
    (run_main m ρ)

end Cert.Fx

end
-- ==== Proof.Fx.Claims.lean ====
/- The claims on the gradient of a feed-forward sublayer's input: the frames and the equality of the results. -/
module

public import proofs.«01_k».proof.Defs
public import proofs.«01_k».proof.Proof.Gen.Kernel8.Frame
public import proofs.«01_k».proof.Proof.Fx.Main

@[expose] public section

noncomputable section

namespace Cert.Fx

open Idealize.ShloMosaic Idealize.SL.Sem

theorem frame_kernel : Cert.quiescent_Kernel8 (hKernel8 := Cert.Kernel8.Gen.facts) := fun m ρ _ => Cert.Kernel8.Gen.frame m ρ

theorem frame_kernelIdeal : Cert.quiescent_Kernel8Ideal (hKernel8Ideal := Cert.Kernel8Ideal.Gen.facts) := fun m ρ _ =>
  Cert.Kernel8Ideal.Gen.frame m ρ

theorem frame_referenceIdeal : Cert.quiescent_Reference8Ideal (hReference8Ideal := Cert.Reference8Ideal.Gen.facts) := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The gradient of a feed-forward sublayer's input, of the kernel and of the reference. -/
theorem values : Cert.algebraic_Kernel8Ideal_Reference8Ideal (hKernel8Ideal := Cert.Kernel8Ideal.Gen.facts)
    (hReference8Ideal := Cert.Reference8Ideal.Gen.facts) := by
  intro m g m' g' _ hagree
  refine ⟨fun c => ref (F := Ideal) (A0 m c) (A1 m c) (A2 m c) (A3 m c) (A4 m c), run m g, ?_⟩
  refine (θ_run Cert.Reference8Ideal.defs _ _).mono (fun r h c => ?_) (Cert.Reference8Ideal.Value.run (F := Ideal) m' g')
  obtain ⟨r0, a⟩ := h c
  obtain ⟨e0, e1, e2, e3, e4⟩ := hagree c
  refine ⟨r0.trans ?_, a⟩
  · rw [e0, e1, e2, e3, e4]; rfl

end Cert.Fx

end
-- ==== Proof.Po.Tile.lean ====
/- The gradient of the mixers' outputs, of one tile of 512 tokens in 2 bands of 512 columns. -/
module

public import proofs.«01_k».proof.Proof.Gen.Kernel9Ideal.Frame
public import proofs.«01_k».proof.Proof.Rows.Basic
public import Idealize.ShloMosaic.Lib.Pipeline.ValueKit.Tiles
public import Idealize.ShloMosaic.Lib.Pointwise
public import Idealize.ShloMosaic.Lib.IdealHost

@[expose] public section

noncomputable section

namespace Cert.Po

open Cert.Kernel9Ideal Cert.Kernel9Ideal.Gen Cert.Rows
open Idealize.ShloMosaic Idealize.ShloMosaic.TcCoe

theorem pay_ix (x w : Vec Ideal S512x1024 .bf16) (a b : Fin 512) : k0_pay1 (F := Ideal) x w (ix2 a b) = (∑ k : Fin 1024, x (ix2 a k) * w (ix2 b k) : EReal) := by
  pointwise [k0_pay1]

variable (x0 : Vec Ideal S512x1024 .bf16) (x1 : Vec Ideal S1024x1024 .bf16) (u : Fin 512) (n : Fin 1024)

theorem band (j : ℕ) (i0) (i1) (x : S512x512.Idx) (h0 : u.val = (x 0).val) (h1 : n.val = j + (x 1).val) :
    k0_pay1 (F := Ideal) (View.ld x0 (Rect.unit (s := S512x1024) ![0, 0] S512x1024.size i0)) (View.ld x1 (Rect.unit (s := S1024x1024) ![j, 0] S512x1024.size i1)) x
      = (∑ k : Fin 1024, x0 (ix2 u k) * x1 (ix2 n k) : EReal) := by
  obtain ⟨a, b, rfl⟩ : ∃ a b : Fin 512, x = ix2 a b := ⟨x 0, x 1, ix2_of x (x 0) (x 1) rfl rfl⟩
  replace h0 : u.val = a.val := h0
  replace h1 : n.val = j + b.val := h1
  rw [pay_ix]
  exact Finset.sum_congr rfl fun k _ => congrArg₂ (fun a b : EReal => a * b) (ld_band x0 0 0 _ _ _ u k (by omega) (by omega)) (ld_band x1 j 0 _ _ _ n k h1 (by omega))

theorem out2 : out0_2 (F := Ideal) x0 x1 (ix2 u n) = (∑ k : Fin 1024, x0 (ix2 u k) * x1 (ix2 n k) : EReal) := by
  unfold out0_2
  canon_tiles x h using cover0_2 ..
  all_goals first
    | exact band x0 x1 u n _ _ _ x h0 h1
    | exact band x0 x1 u n 0 _ _ x h0 (h1.trans (Nat.zero_add _).symm)

end Cert.Po

end
-- ==== Proof.Po.Ref.lean ====
/- The reference of the gradient of the mixers' outputs, at an index. -/
module

public import proofs.«01_k».proof.Proof.Gen.Reference9Ideal.Run
public import Idealize.ShloMosaic.Lib.Pointwise
public import Idealize.ShloMosaic.Lib.IdealHost

@[expose] public section

noncomputable section

namespace Cert.Po

open Cert.Reference9Ideal Cert.Reference9Ideal.Gen
open Idealize.ShloMosaic Idealize.ShloMosaic.TcCoe Idealize.ShloMosaic.StableHlo

def ref {F : FTy → Type} [FloatOps F] (x : Vec F S8192x1024 .bf16) (w : Vec F S1024x1024 .bf16) : Vec F S8192x1024 .f32 :=
  Host.dotGeneral dot_S8192x1024_S1024x1024_S8192x1024_1_1_0_0_n_n none (extf .f32 x bitsLt_bf16_f32) (extf .f32 w bitsLt_bf16_f32)

theorem ref_ix (x : Vec Ideal S8192x1024 .bf16) (w : Vec Ideal S1024x1024 .bf16) (t : Fin 8192) (n : Fin 1024) :
    ref (F := Ideal) x w (ix2 t n) = (∑ k : Fin 1024, x (ix2 t k) * w (ix2 n k) : EReal) := by
  pointwise [ref]

end Cert.Po

end
-- ==== Proof.Po.Main.lean ====
/- The gradient of the mixers' outputs: what the launch leaves is what the reference computes. -/
module

public import proofs.«01_k».proof.Proof.Gen.Kernel9Ideal.Value
public import proofs.«01_k».proof.Proof.Rows.Basic
public import proofs.«01_k».proof.Proof.Po.Tile
public import proofs.«01_k».proof.Proof.Po.Ref

@[expose] public section

set_option maxRecDepth 16384

noncomputable section

namespace Cert.Po

open Cert.Kernel9Ideal Cert.Kernel9Ideal.Gen Cert.Rows
open Idealize.ShloMosaic Idealize.ShloMosaic.TcCoe

variable (m : (ℓ : Loc nD τ sig) → Buf (Elt Ideal) ℓ) (ρ : Dev nD → PrngReg) (c : Dev nD)

abbrev A0 : Vec Ideal S8192x1024 .bf16 := m ((c : Thread nD τ).loc main_arg0)
abbrev A1 : Vec Ideal S1024x1024 .bf16 := m ((c : Thread nD τ).loc main_arg1)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem lt_N (t : Fin cfg0.N) : t.val < 16 := lt_of_lt_of_eq t.isLt N_0

/-- A token of the tile `t`. -/
abbrev tok (t : Fin cfg0.N) (u : Fin 512) : Fin 8192 := ⟨512 * t.val + u.val, by have := lt_N t; have := u.isLt; omega⟩

theorem blk0_ix (t : Fin cfg0.N) (a : Fin 512) (b : Fin 1024) : (iblk m c 0 t : Vec Ideal S512x1024 .bf16) (ix2 a b) = A0 m c (ix2 (tok t a) b) :=
  (congrFun (V_main_arg0 m c) _).trans (congrArg (A0 m c) (ix2_of _ _ _ (row_val (index0 t).1) (all_val (index0 t).2)))
theorem blk1_ix (t : Fin cfg0.N) (a : Fin 1024) (b : Fin 1024) : (iblk m c 1 t : Vec Ideal S1024x1024 .bf16) (ix2 a b) = A1 m c (ix2 a b) :=
  (congrFun (V_main_arg1 m c) _).trans (congrArg (A1 m c) (ix2_of _ _ _ (all_val (index1 t).1) (all_val (index1 t).2)))

theorem tile2 (t : Fin cfg0.N) (u : Fin 512) (n : Fin 1024) :
    out0_2 (F := Ideal) (iblk m c 0 t) (iblk m c 1 t) (ix2 u n) = ref (F := Ideal) (A0 m c) (A1 m c) (ix2 (tok t u) n) :=
  (out2 _ _ u n).trans ((Finset.sum_congr rfl fun k _ => congrArg₂ (fun a b : EReal => a * b) (blk0_ix m c t u k) (blk1_ix m c t n k)).trans
    (ref_ix (A0 m c) (A1 m c) (tok t u) n).symm)

theorem flushed2_eq (t : Fin cfg0.N) : (dats m 0 c).flushed 2 t = ((cfg0.win 2).blk t).view.read (Elt Ideal) (ref (F := Ideal) (A0 m c) (A1 m c)) := (Value.flushed2 m c t).trans (funext fun y =>
  (congrArg (out0_2 (F := Ideal) (iblk m c 0 t) (iblk m c 1 t)) (ix2_of _ (y 0) (y 1) rfl rfl)).trans ((tile2 m c t (y 0) (y 1)).trans
    (congrArg (ref (F := Ideal) (A0 m c) (A1 m c)) (ix2_of _ (tok t (y 0)) (y 1) (row_val (index2 t).1) (all_val (index2 t).2)).symm)))

theorem covered2 (i : S8192x1024.Idx) : ∃ t : Fin cfg0.N, (cfg0.win 2).flush t = true ∧ i ∈ ((cfg0.win 2).blk t).view.set := by
  have h0 : (i 0).val < 8192 := (i 0).isLt
  obtain ⟨t, ht⟩ : ∃ t : Fin cfg0.N, t.val = (i 0).val / 512 := ⟨⟨_, lt_of_lt_of_eq (by omega) N_0.symm⟩, rfl⟩
  refine ⟨t, (by decide +kernel : ∀ t : Fin grid0.N, win0_2.flush t = true) t, ?_⟩
  show i ∈ ((View.whole main_v0).slice (win0_2.rect t)).set
  rw [View.set_slice_whole, Rect.mem_set_unit]
  exact mem_tile i (win0_2.index t) ((index2 t).1.trans ht) (index2 t).2

theorem final2 : (dats m 0 c).arrAt 2 cfg0.N = (ref (F := Ideal) (A0 m c) (A1 m c)) :=
  (dats m 0 c).arrAt_eq_of_cover 2 _ (fun t _ => flushed2_eq m c t) (fun i => covered2 i)

theorem run : θ_run defs (onTc (τ := τ) (main (F := Ideal))) ⟨m, fun _ => 0, ρ⟩ fun r => ∀ c : Dev nD,
      r.2.mem ((c : Thread nD τ).loc main_v0) = (ref (F := Ideal) (A0 m c) (A1 m c))
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(Value.post2 m r h c).trans (final2 m c),
      Value.kept_main_arg0 m r h c, Value.kept_main_arg1 m r h c⟩)
    (run_main m ρ)

end Cert.Po

end
-- ==== Proof.Po.Claims.lean ====
/- The claims on the gradient of the mixers' outputs: the frames and the equality of the results. -/
module

public import proofs.«01_k».proof.Defs
public import proofs.«01_k».proof.Proof.Gen.Kernel9.Frame
public import proofs.«01_k».proof.Proof.Po.Main

@[expose] public section

noncomputable section

namespace Cert.Po

open Idealize.ShloMosaic Idealize.SL.Sem

theorem frame_kernel : Cert.quiescent_Kernel9 (hKernel9 := Cert.Kernel9.Gen.facts) := fun m ρ _ => Cert.Kernel9.Gen.frame m ρ

theorem frame_kernelIdeal : Cert.quiescent_Kernel9Ideal (hKernel9Ideal := Cert.Kernel9Ideal.Gen.facts) := fun m ρ _ =>
  Cert.Kernel9Ideal.Gen.frame m ρ

theorem frame_referenceIdeal : Cert.quiescent_Reference9Ideal (hReference9Ideal := Cert.Reference9Ideal.Gen.facts) := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The gradient of the mixers' outputs, of the kernel and of the reference. -/
theorem values : Cert.algebraic_Kernel9Ideal_Reference9Ideal (hKernel9Ideal := Cert.Kernel9Ideal.Gen.facts)
    (hReference9Ideal := Cert.Reference9Ideal.Gen.facts) := by
  intro m g m' g' _ hagree
  refine ⟨fun c => ref (F := Ideal) (A0 m c) (A1 m c), run m g, ?_⟩
  refine (θ_run Cert.Reference9Ideal.defs _ _).mono (fun r h c => ?_) (Cert.Reference9Ideal.Value.run (F := Ideal) m' g')
  obtain ⟨r0, a⟩ := h c
  obtain ⟨e0, e1⟩ := hagree c
  refine ⟨r0.trans ?_, a⟩
  · rw [e0, e1]; rfl

end Cert.Po

end
-- ==== Proof.Pn.Tile.lean ====
/- The mixers' projections, of one tile of 512 frames in 6 bands of 512 columns. -/
module

public import proofs.«01_k».proof.Proof.Gen.Kernel10Ideal.Frame
public import proofs.«01_k».proof.Proof.Rows.Basic
public import Idealize.ShloMosaic.Lib.Pipeline.Value
public import Idealize.ShloMosaic.Lib.WholeRead
public import Idealize.ShloMosaic.Lib.Pointwise
public import Idealize.ShloMosaic.Lib.IdealHost

@[expose] public section

noncomputable section

namespace Cert.Pn

open Cert.Kernel10Ideal Cert.Kernel10Ideal.Gen Cert.Rows
open Idealize.ShloMosaic Idealize.ShloMosaic.TcCoe

theorem pay_ix (x w : Vec Ideal S512x1024 .bf16) (i : Fin 1) (a b : Fin 512) : k0_pay4 (F := Ideal) x w (ix3 i a b) = (∑ k : Fin 1024, x (ix2 a k) * w (ix2 b k) : EReal) := by
  pointwise [k0_pay4]

/-- A part of a block, loaded. -/
abbrev ldv {p q p' q' : ℕ} {φ : EltTy} (M : Memref sig .tc .vmem ⟨2, ![p, q]⟩ φ) (hM : M.IsWhole) (x : Vec Ideal ⟨2, ![p, q]⟩ φ) (o : Fin 2 → ℕ)
    (h : ∀ a : Fin 2, o a + (⟨2, ![p', q']⟩ : Shape).size a ≤ (⟨2, ![p, q]⟩ : Shape).size a) : Vec Ideal ⟨2, ![p', q']⟩ φ :=
  View.readAt (Elt Ideal) M.view (Rect.unit o (⟨2, ![p', q']⟩ : Shape).size h : Rect ⟨2, ![p, q]⟩).toLoadRect (hM.unread x)

theorem ldv_ix {p q p' q' : ℕ} {φ : EltTy} (M : Memref sig .tc .vmem ⟨2, ![p, q]⟩ φ) (hM : M.IsWhole) (x : Vec Ideal ⟨2, ![p, q]⟩ φ) (i j : ℕ) (h) (a : Fin p') (b : Fin q') (u : Fin p) (n : Fin q)
    (hu : u.val = i + a.val) (hn : n.val = j + b.val) : ldv (p' := p') (q' := q') M hM x ![i, j] h (ix2 a b) = x (ix2 u n) := by
  refine (hM.readAt_unread _ _ _).trans (congrArg x (ix2_of _ u n ?_ ?_))
  · show i + 1 * a.val = u.val; omega
  · show j + 1 * b.val = n.val; omega

section Point
variable (c : Dev nD) (t : Fin cfg0.N) (x0 : Vec Ideal S512x1024 .bf16) (x1 : Vec Ideal S3072x1024 .bf16)

/-- The tile, at an index. -/
def ent (i : S1x512x3072.Idx) : EReal := ∑ k : Fin 1024, x0 (ix2 (n0 := 512) (i 1) k) * x1 (ix2 (n0 := 3072) (i 2) k)

theorem band (o : ℕ) (ho : o ≤ 2560) (h0 : ∀ a : Fin 2, ![0, 0] a + S512x1024.size a ≤ S512x1024.size a) (h1 : ∀ a : Fin 2, ![o, 0] a + S512x1024.size a ≤ S3072x1024.size a)
    (h2 : ∀ a : Fin 3, ![0, 0, o] a + S1x512x512.size a ≤ S1x512x3072.size a) (x : S1x512x512.Idx) :
    k0_pay4 (F := Ideal) (ldv (ms0_0 t) (hs0_0 t) x0 ![0, 0] h0) (ldv (ms0_1 t) (hs0_1 t) x1 ![o, 0] h1) x
      = ent x0 x1 ((Rect.unit (s := S1x512x3072) ![0, 0, o] S1x512x512.size h2).emb x) := by
  obtain ⟨i, a, b, rfl⟩ : ∃ (i : Fin 1) (a b : Fin 512), x = ix3 i a b := ⟨x 0, x 1, x 2, funext fun d => match d with | ⟨0, _⟩ => rfl | ⟨1, _⟩ => rfl | ⟨2, _⟩ => rfl⟩
  rw [pay_ix]
  refine Finset.sum_congr rfl fun k _ => congrArg₂ (fun a b : EReal => a * b)
    (ldv_ix (ms0_0 t) (hs0_0 t) x0 0 0 h0 a k (((Rect.unit (s := S1x512x3072) ![0, 0, o] S1x512x512.size h2).emb (ix3 i a b)) 1) k ?_ (Nat.zero_add _).symm)
    (ldv_ix (ms0_1 t) (hs0_1 t) x1 o 0 h1 b k (((Rect.unit (s := S1x512x3072) ![0, 0, o] S1x512x512.size h2).emb (ix3 i a b)) 2) k ?_ (Nat.zero_add _).symm)
  · show 0 + 1 * a.val = 0 + a.val; omega
  · show o + 1 * b.val = o + b.val; omega

abbrev PB : List (View.Piece (Elt Ideal) S1x512x3072 .bf16) :=
  [⟨Rect.unit ![0, 0, 2560] S1x512x512.size inb_S1x512x3072_S1x512x512_0_0_2560, k0_pay3 (F := Ideal) (ldv (ms0_0 t) (hs0_0 t) x0 ![0, 0] inb_S512x1024_S512x1024_0_0) (ldv (ms0_1 t) (hs0_1 t) x1 ![2560, 0] inb_S3072x1024_S512x1024_2560_0)⟩,
    ⟨Rect.unit ![0, 0, 2048] S1x512x512.size inb_S1x512x3072_S1x512x512_0_0_2048, k0_pay2 (F := Ideal) (k0_pay8 (F := Ideal) (ldv (ms0_0 t) (hs0_0 t) x0 ![0, 0] inb_S512x1024_S512x1024_0_0) (ldv (ms0_1 t) (hs0_1 t) x1 ![2048, 0] inb_S3072x1024_S512x1024_2048_0))⟩,
    ⟨Rect.unit ![0, 0, 1536] S1x512x512.size inb_S1x512x3072_S1x512x512_0_0_1536, k0_pay7 (F := Ideal) (ldv (ms0_0 t) (hs0_0 t) x0 ![0, 0] inb_S512x1024_S512x1024_0_0) (ldv (ms0_1 t) (hs0_1 t) x1 ![1536, 0] inb_S3072x1024_S512x1024_1536_0)⟩,
    ⟨Rect.unit ![0, 0, 1024] S1x512x512.size inb_S1x512x3072_S1x512x512_0_0_1024, k0_pay6 (F := Ideal) (ldv (ms0_0 t) (hs0_0 t) x0 ![0, 0] inb_S512x1024_S512x1024_0_0) (ldv (ms0_1 t) (hs0_1 t) x1 ![1024, 0] inb_S3072x1024_S512x1024_1024_0)⟩,
    ⟨Rect.unit ![0, 0, 512] S1x512x512.size inb_S1x512x3072_S1x512x512_0_0_512, k0_pay5 (F := Ideal) (ldv (ms0_0 t) (hs0_0 t) x0 ![0, 0] inb_S512x1024_S512x1024_0_0) (ldv (ms0_1 t) (hs0_1 t) x1 ![512, 0] inb_S3072x1024_S512x1024_512_0)⟩,
    ⟨Rect.unit ![0, 0, 0] S1x512x512.size inb_S1x512x3072_S1x512x512_0_0_0, k0_pay4 (F := Ideal) (ldv (ms0_0 t) (hs0_0 t) x0 ![0, 0] inb_S512x1024_S512x1024_0_0) (ldv (ms0_1 t) (hs0_1 t) x1 ![0, 0] inb_S3072x1024_S512x1024_0_0)⟩]

theorem PB_eq : ∀ p ∈ PB t x0 x1, ∀ x : p.1.shape.Idx, p.2 x = ent x0 x1 (p.1.emb x) := by
  intro p hp
  simp only [PB, List.mem_cons, List.not_mem_nil, or_false] at hp
  rcases hp with rfl | rfl | rfl | rfl | rfl | rfl
  · exact band t x0 x1 2560 (by omega) _ _ inb_S1x512x3072_S1x512x512_0_0_2560
  · exact band t x0 x1 2048 (by omega) _ _ inb_S1x512x3072_S1x512x512_0_0_2048
  · exact band t x0 x1 1536 (by omega) _ _ inb_S1x512x3072_S1x512x512_0_0_1536
  · exact band t x0 x1 1024 (by omega) _ _ inb_S1x512x3072_S1x512x512_0_0_1024
  · exact band t x0 x1 512 (by omega) _ _ inb_S1x512x3072_S1x512x512_0_0_512
  · exact band t x0 x1 0 (by omega) _ _ inb_S1x512x3072_S1x512x512_0_0_0

theorem outB (hc0 : ¬cond0_0 (grid0.coords t)) (hc1 : cond0_1 (grid0.coords t)) (y : S1x512x3072.Idx) :
    out0_B_2 (F := Ideal) c (grid0.coords t) (ms0_0 t) (hs0_0 t) (ms0_1 t) (hs0_1 t) (ms0_2 t) (hs0_2 t) hc0 hc1 x0 x1 y = ent x0 x1 y :=
  (View.read_writes_junk_apply_eq_canon VO0_2 y (PB t x0 x1)).trans
    (View.canon_apply_of_pieces (ent x0 x1) (PB t x0 x1) (PB_eq t x0 x1) y (cover0_B_2 (F := Ideal) c (grid0.coords t) (ms0_0 t) (hs0_0 t) (ms0_1 t) (hs0_1 t) (ms0_2 t) (hs0_2 t) hc0 hc1 x0 x1 y))

/-- The tile before a sequence. -/
def zero (_ : S1x512x3072.Idx) : EReal := Ideal.ofBits .bf16 0x0000#16

abbrev PA : List (View.Piece (Elt Ideal) S1x512x3072 .bf16) :=
  [⟨Rect.unit ![0, 0, 0] S1x512x3072.size inb_S1x512x3072_S1x512x3072_0_0_0, k0_pay1 (F := Ideal)⟩]

theorem PA_eq : ∀ p ∈ PA, ∀ x : p.1.shape.Idx, p.2 x = zero (p.1.emb x) := by
  intro p hp
  simp only [PA, List.mem_singleton] at hp
  subst hp
  exact fun _ => rfl

theorem outA (hc0 : cond0_0 (grid0.coords t)) (hc1 : ¬cond0_1 (grid0.coords t)) (y : S1x512x3072.Idx) :
    out0_A_2 (F := Ideal) c (grid0.coords t) (ms0_0 t) (hs0_0 t) (ms0_1 t) (hs0_1 t) (ms0_2 t) (hs0_2 t) hc0 hc1 x0 x1 y = zero y :=
  (View.read_writes_junk_apply_eq_canon VO0_2 y PA).trans (View.canon_apply_of_pieces zero PA PA_eq y (cover0_A_2 (F := Ideal) c (grid0.coords t) (ms0_0 t) (hs0_0 t) (ms0_1 t) (hs0_1 t) (ms0_2 t) (hs0_2 t) hc0 hc1 x0 x1 y))

end Point

end Cert.Pn

end
-- ==== Proof.Pn.Ref.lean ====
/- The reference of the mixers' projections, at an index. -/
module

public import proofs.«01_k».proof.Proof.Gen.Reference10Ideal.Run
public import Idealize.ShloMosaic.Lib.Pipeline.Value
public import Idealize.ShloMosaic.Lib.Pointwise
public import Idealize.ShloMosaic.Lib.IdealHost

@[expose] public section

noncomputable section

namespace Cert.Pn

open Cert.Reference10Ideal Cert.Reference10Ideal.Gen
open Idealize.ShloMosaic Idealize.ShloMosaic.TcCoe Idealize.ShloMosaic.StableHlo

section Defs
variable {F : FTy → Type} [FloatOps F]
def rH (x : Vec F S8192x1024 .bf16) (w : Vec F S3072x1024 .bf16) : Vec F S8192x3072 .bf16 :=
  truncf .bf16 (Host.dotGeneral dot_S8192x1024_S1024x3072_S8192x3072_1_0_0_1_n_n none (extf .f32 x bitsLt_bf16_f32) (transpose S1024x3072 [1, 0] (extf .f32 w bitsLt_bf16_f32) transposes_S3072x1024_S1024x3072_1_0)) bitsLt_bf16_f32
/-- The projections, a sequence at a time. -/
def rS (x : Vec F S8192x1024 .bf16) (w : Vec F S3072x1024 .bf16) : Vec F S2x4096x3072 .bf16 := shapeCast S2x4096x3072 (rH x w) shapeCasts_S8192x3072_S2x4096x3072
def rZ : Vec F S2x512x3072 .bf16 := broadcastInDim S2x512x3072 ![] bcast_S_S2x512x3072 (constant S_ .bf16 0x0000#16)
def ref (x : Vec F S8192x1024 .bf16) (w : Vec F S3072x1024 .bf16) : Vec F S2x4608x3072 .bf16 :=
  concatenate S2x4608x3072 1 [⟨S2x512x3072, rZ⟩, ⟨S2x4096x3072, rS x w⟩] concatenates_S2x512x3072_S2x4096x3072_S2x4608x3072_d1
end Defs

variable (x : Vec Ideal S8192x1024 .bf16) (w : Vec Ideal S3072x1024 .bf16) (b : Fin 2) (n : Fin 3072)

theorem rH_ix (t : Fin 8192) : rH (F := Ideal) x w (ix2 t n) = (∑ k : Fin 1024, x (ix2 t k) * w (ix2 n k) : EReal) := by
  pointwise [rH]

theorem rS_ix (s : Fin 4096) (t : Fin 8192) (ht : t.val = 4096 * b.val + s.val) : rS (F := Ideal) x w (ix3 b s n) = (∑ k : Fin 1024, x (ix2 t k) * w (ix2 n k) : EReal) := by
  refine Eq.trans ?_ (rH_ix x w n t)
  have h : t = ⟨b.val * 4096 + s.val, by have := b.isLt; have := s.isLt; omega⟩ := Fin.ext (by show t.val = b.val * 4096 + s.val; omega)
  rw [h]
  pointwise [rS]

/-- The frames before a sequence. -/
theorem ref_pad (f : Fin 4608) (h : f.val < 512) : ref (F := Ideal) x w (ix3 b f n) = Ideal.ofBits .bf16 0x0000#16 :=
  concatenate_pair_apply_left (s₁ := S2x512x3072) (s₂ := S2x4096x3072) 1 _ _ _ (ix3 b f n) rfl (ix3 b ⟨f.val, h⟩ n) fun d => match d with | ⟨0, _⟩ => rfl | ⟨1, _⟩ => rfl | ⟨2, _⟩ => rfl
/-- The frames of a sequence. -/
theorem ref_seq (f : Fin 4608) (s : Fin 4096) (t : Fin 8192) (hf : f.val = 512 + s.val) (ht : t.val = 4096 * b.val + s.val) :
    ref (F := Ideal) x w (ix3 b f n) = (∑ k : Fin 1024, x (ix2 t k) * w (ix2 n k) : EReal) :=
  Eq.trans (concatenate_pair_apply_right (s₁ := S2x512x3072) (s₂ := S2x4096x3072) 1 _ _ _ (ix3 b f n) rfl rfl (ix3 b s n)
    (fun d hd => match d, hd with | ⟨0, _⟩, _ => rfl | ⟨1, _⟩, hd => absurd rfl hd | ⟨2, _⟩, _ => rfl) ((Nat.add_comm _ _).trans hf.symm)) (rS_ix x w b n s t ht)

end Cert.Pn

end
-- ==== Proof.Pn.Main.lean ====
/- The mixers' projections: what the launch leaves is what the reference computes. -/
module

public import proofs.«01_k».proof.Proof.Gen.Kernel10Ideal.Value
public import proofs.«01_k».proof.Proof.Pn.Tile
public import proofs.«01_k».proof.Proof.Pn.Ref

@[expose] public section

set_option maxRecDepth 16384

noncomputable section

namespace Cert.Pn

open Cert.Kernel10Ideal Cert.Kernel10Ideal.Gen Cert.Rows
open Idealize.ShloMosaic Idealize.ShloMosaic.TcCoe

variable (m : (ℓ : Loc nD τ sig) → Buf (Elt Ideal) ℓ) (ρ : Dev nD → PrngReg) (c : Dev nD)

abbrev A0 : Vec Ideal S8192x1024 .bf16 := m ((c : Thread nD τ).loc main_arg0)
abbrev A1 : Vec Ideal S3072x1024 .bf16 := m ((c : Thread nD τ).loc main_arg1)

theorem index0 : ∀ t : Fin cfg0.N, win0_0.index t (0 : Fin 2) = t.val / 9 * 8 + (t.val % 9 - 1) ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = t.val / 9 ∧ win0_2.index t (1 : Fin 3) = t.val % 9 ∧ win0_2.index t (2 : Fin 3) = 0 :=
  (by decide +kernel : ∀ t : Fin grid0.N, _)

theorem lt_N (t : Fin cfg0.N) : t.val < 18 := lt_of_lt_of_eq t.isLt N_0

/-- A token of the tile `t`, one that holds tokens. -/
abbrev tok (t : Fin cfg0.N) (u : Fin 512) : Fin 8192 := ⟨512 * (t.val / 9 * 8 + (t.val % 9 - 1)) + u.val, by have := lt_N t; have := u.isLt; omega⟩
abbrev seq (t : Fin cfg0.N) : Fin 2 := ⟨t.val / 9, by have := lt_N t; omega⟩
/-- A frame of the tile `t`. -/
abbrev frm (t : Fin cfg0.N) (u : Fin 512) : Fin 4608 := ⟨512 * (t.val % 9) + u.val, by have := u.isLt; omega⟩

theorem blk0_ix (t : Fin cfg0.N) (a : Fin 512) (b : Fin 1024) : (iblk m c 0 t : Vec Ideal S512x1024 .bf16) (ix2 a b) = A0 m c (ix2 (tok t a) b) :=
  (congrFun (V_main_arg0 m c) _).trans (congrArg (A0 m c) (ix2_of _ _ _ (row_val (index0 t).1) (all_val (index0 t).2)))
theorem blk1_ix (t : Fin cfg0.N) (a : Fin 3072) (b : Fin 1024) : (iblk m c 1 t : Vec Ideal S3072x1024 .bf16) (ix2 a b) = A1 m c (ix2 a b) :=
  (congrFun (V_main_arg1 m c) _).trans (congrArg (A1 m c) (ix2_of _ _ _ (all_val (index1 t).1) (all_val (index1 t).2)))

/-- Where an entry of the tile `t` lies in the result. -/
theorem emb2 (t : Fin cfg0.N) (y : S1x512x3072.Idx) : (((cfg0.win 2).blk t).view.emb y : S2x4608x3072.Idx) = ix3 (seq t) (frm t (y 1)) (y 2) := by
  obtain ⟨e0, e1, e2⟩ := index2 t
  refine funext fun d => Fin.ext ?_
  match d with
  | ⟨0, _⟩ => show win0_2.index t (0 : Fin 3) * 1 + 1 * (y 0).val = t.val / 9; have : (y 0).val < 1 := (y 0).isLt; rw [e0]; omega
  | ⟨1, _⟩ => exact row_val e1
  | ⟨2, _⟩ => exact all_val e2

theorem flushed2_eq (t : Fin cfg0.N) : (dats m 0 c).flushed 2 t = ((cfg0.win 2).blk t).view.read (Elt Ideal) (ref (F := Ideal) (A0 m c) (A1 m c)) := by
  by_cases hz : t.val % 9 = 0
  · refine (Value.flushed2_A m c t hz (by omega)).trans (funext fun y => ?_)
    refine (outA c t (iblk m c 0 t) (iblk m c 1 t) ((hcond0_0 t).mpr hz) (fun h => absurd ((hcond0_1 t).mp h) (by omega)) y).trans ?_
    refine ((congrArg (ref (F := Ideal) (A0 m c) (A1 m c)) (emb2 t y)).trans (ref_pad (A0 m c) (A1 m c) (seq t) (y 2) (frm t (y 1)) ?_)).symm
    have : (y 1).val < 512 := (y 1).isLt
    show 512 * (t.val % 9) + (y 1).val < 512
    omega
  · have h1 : 1 ≤ t.val % 9 := by omega
    refine (Value.flushed2_B m c t hz h1).trans (funext fun y => ?_)
    have hu : (y 1).val < 512 := (y 1).isLt
    refine (outB c t (iblk m c 0 t) (iblk m c 1 t) (fun h => hz ((hcond0_0 t).mp h)) ((hcond0_1 t).mpr h1) y).trans ?_
    refine (Finset.sum_congr rfl fun k _ => congrArg₂ (fun a b : EReal => a * b) (blk0_ix m c t (y 1) k) (blk1_ix m c t (y 2) k)).trans ?_
    refine ((congrArg (ref (F := Ideal) (A0 m c) (A1 m c)) (emb2 t y)).trans (ref_seq (A0 m c) (A1 m c) (seq t) (y 2) (frm t (y 1)) ⟨512 * (t.val % 9 - 1) + (y 1).val, by omega⟩ (tok t (y 1)) ?_ ?_)).symm
    · show 512 * (t.val % 9) + (y 1).val = 512 + (512 * (t.val % 9 - 1) + (y 1).val)
      omega
    · show 512 * (t.val / 9 * 8 + (t.val % 9 - 1)) + (y 1).val = 4096 * (t.val / 9) + (512 * (t.val % 9 - 1) + (y 1).val)
      omega

theorem covered2 (i : S2x4608x3072.Idx) : ∃ t : Fin cfg0.N, (cfg0.win 2).flush t = true ∧ i ∈ ((cfg0.win 2).blk t).view.set := by
  have h0 : (i 0).val < 2 := (i 0).isLt
  have h1 : (i 1).val < 4608 := (i 1).isLt
  have h2 : (i 2).val < 3072 := (i 2).isLt
  obtain ⟨t, ht⟩ : ∃ t : Fin cfg0.N, t.val = 9 * (i 0).val + (i 1).val / 512 := ⟨⟨_, lt_of_lt_of_eq (by omega) N_0.symm⟩, rfl⟩
  refine ⟨t, (by decide +kernel : ∀ t : Fin grid0.N, win0_2.flush t = true) t, ?_⟩
  show i ∈ ((View.whole main_v0).slice (win0_2.rect t)).set
  rw [View.set_slice_whole, Rect.mem_set_unit]
  obtain ⟨e0, e1, e2⟩ := index2 t
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 512 ≤ (i 1).val ∧ (i 1).val < win0_2.index t (1 : Fin 3) * 512 + 512; rw [e1]; omega
  | ⟨2, _⟩ => show win0_2.index t (2 : Fin 3) * 3072 ≤ (i 2).val ∧ (i 2).val < win0_2.index t (2 : Fin 3) * 3072 + 3072; rw [e2]; omega

theorem final2 : (dats m 0 c).arrAt 2 cfg0.N = ref (F := Ideal) (A0 m c) (A1 m c) :=
  (dats m 0 c).arrAt_eq_of_cover 2 _ (fun t _ => flushed2_eq m c t) (fun i => covered2 i)

theorem run : θ_run defs (onTc (τ := τ) (main (F := Ideal))) ⟨m, fun _ => 0, ρ⟩ fun r => ∀ c : Dev nD,
      r.2.mem ((c : Thread nD τ).loc main_v0) = ref (F := Ideal) (A0 m c) (A1 m c)
      ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(Value.post2 m r h c).trans (final2 m c), Value.kept_main_arg0 m r h c, Value.kept_main_arg1 m r h c⟩)
    (run_main m ρ)

end Cert.Pn

end
-- ==== Proof.Pn.Claims.lean ====
/- The claims on the mixers' projections: the frames and the equality of the results. -/
module

public import proofs.«01_k».proof.Defs
public import proofs.«01_k».proof.Proof.Gen.Kernel10.Frame
public import proofs.«01_k».proof.Proof.Pn.Main

@[expose] public section

noncomputable section

namespace Cert.Pn

open Idealize.ShloMosaic Idealize.SL.Sem

theorem frame_kernel : Cert.quiescent_Kernel10 (hKernel10 := Cert.Kernel10.Gen.facts) := fun m ρ _ => Cert.Kernel10.Gen.frame m ρ

theorem frame_kernelIdeal : Cert.quiescent_Kernel10Ideal (hKernel10Ideal := Cert.Kernel10Ideal.Gen.facts) := fun m ρ _ =>
  Cert.Kernel10Ideal.Gen.frame m ρ

theorem frame_referenceIdeal : Cert.quiescent_Reference10Ideal (hReference10Ideal := Cert.Reference10Ideal.Gen.facts) := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The mixers' projections, of the kernel and of the reference. -/
theorem values : Cert.algebraic_Kernel10Ideal_Reference10Ideal (hKernel10Ideal := Cert.Kernel10Ideal.Gen.facts)
    (hReference10Ideal := Cert.Reference10Ideal.Gen.facts) := by
  intro m g m' g' _ hagree
  refine ⟨fun c => ref (F := Ideal) (A0 m c) (A1 m c), run m g, ?_⟩
  refine (θ_run Cert.Reference10Ideal.defs _ _).mono (fun r h c => ?_) (Cert.Reference10Ideal.Value.run (F := Ideal) m' g')
  obtain ⟨r0, a⟩ := h c
  obtain ⟨e0, e1⟩ := hagree c
  refine ⟨r0.trans ?_, a⟩
  · rw [e0, e1]; rfl

end Cert.Pn

end
-- ==== Proof.Mo.Ref.lean ====
/- The reference of the mixers' residual sum and of its layer norm, at an index. -/
module

public import proofs.«01_k».proof.Proof.Gen.Reference11Ideal.Run
public import proofs.«01_k».proof.Proof.Dx.Ref
public import proofs.«01_k».proof.Proof.Ln.Ref

@[expose] public section

noncomputable section

namespace Cert.Mo

open Cert.Reference11Ideal Cert.Reference11Ideal.Gen
open Idealize.ShloMosaic Idealize.ShloMosaic.TcCoe Idealize.ShloMosaic.StableHlo
open Cert.Ln (entY)

section Defs
variable {F : FTy → Type} [FloatOps F]

def rM (a : Vec F S8192x512 .bf16) (w : Vec F S512x1024 .bf16) : Vec F S8192x1024 .f32 :=
  Host.dotGeneral dot_S8192x512_S512x1024_S8192x1024_1_0_0_1_n_n none (extf .f32 a bitsLt_bf16_f32) (extf .f32 w bitsLt_bf16_f32)
/-- The residual sum. -/
def refU (a b : Vec F S8192x512 .bf16) (v w : Vec F S512x1024 .bf16) (x : Vec F S8192x1024 .f32) : Vec F S8192x1024 .f32 :=
  addf (mulf (Ln.rC 0x3FD744FD#32) x) (addf (rM a v) (rM b w))
def refY (a b : Vec F S8192x512 .bf16) (v w : Vec F S512x1024 .bf16) (x : Vec F S8192x1024 .f32) (g h : Vec F S1x1024 .f32) : Vec F S8192x1024 .f32 :=
  addf (mulf (mulf (Dx.rXc (refU a b v w x)) (Dx.rBc (Dx.rRs (refU a b v w x)))) (Ln.rG g)) (Ln.rG h)
def refB (a b : Vec F S8192x512 .bf16) (v w : Vec F S512x1024 .bf16) (x : Vec F S8192x1024 .f32) (g h : Vec F S1x1024 .f32) : Vec F S8192x1024 .bf16 :=
  truncf .bf16 (refY a b v w x g h) bitsLt_bf16_f32

end Defs

/-- An entry of the residual sum. -/
def entU (p q r : EReal) : EReal := Ideal.ofBits .f32 0x3FD744FD#32 * p + (q + r)

variable (a b : Vec Ideal S8192x512 .bf16) (v w : Vec Ideal S512x1024 .bf16) (x : Vec Ideal S8192x1024 .f32) (g h : Vec Ideal S1x1024 .f32) (t : Fin 8192) (k : Fin 1024)

def rowU (t : Fin 8192) (k : Fin 1024) : EReal := entU (x (ix2 t k)) (∑ n : Fin 512, a (ix2 t n) * v (ix2 n k) : EReal) (∑ n : Fin 512, b (ix2 t n) * w (ix2 n k) : EReal)

theorem rM_ix : rM (F := Ideal) a w (ix2 t k) = (∑ n : Fin 512, a (ix2 t n) * w (ix2 n k) : EReal) := by
  pointwise [rM]
theorem refU_ix : refU (F := Ideal) a b v w x (ix2 t k) = rowU a b v w x t k :=
  congrArg₂ (entU (x (ix2 t k))) (rM_ix a v t k) (rM_ix b w t k)
theorem refY_ix : refY (F := Ideal) a b v w x g h (ix2 t k) = entY (rowU a b v w x t) k (g (ix2 0 k)) (h (ix2 0 k)) := by
  show (Dx.rXc (F := Ideal) (refU a b v w x) (ix2 t k) * Dx.rBc (F := Ideal) (Dx.rRs (refU a b v w x)) (ix2 t k) * Ln.rG (F := Ideal) g (ix2 t k) + Ln.rG (F := Ideal) h (ix2 t k) : EReal) = _
  rw [Dx.rXc_ix, Dx.rBc_ix, Dx.rRs_ix, Ln.rG_ix, Ln.rG_ix, show Dx.row (refU (F := Ideal) a b v w x) t = rowU a b v w x t from funext fun j => refU_ix a b v w x t j]
  rfl

variable (m : (ℓ : Loc nD τ sig) → Buf (Elt Ideal) ℓ) (c : Dev nD)

theorem res_29 : Cert.Reference11Ideal.Value.res_main_v29 (F := Ideal) m c = refY (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
theorem res_30 : Cert.Reference11Ideal.Value.res_main_v30 (F := Ideal) m c = refB (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Mo

end
-- ==== Proof.Mo.Tile.lean ====
/- The mixers' residual sum and its layer norm, of one tile of 512 tokens. -/
module

public import proofs.«01_k».proof.Proof.Gen.Kernel11Ideal.Frame
public import proofs.«01_k».proof.Proof.Dx.Tile
public import proofs.«01_k».proof.Proof.Mo.Ref
public import proofs.«01_k».proof.Proof.Rows.Basic

@[expose] public section

noncomputable section

namespace Cert.Mo.Tile

open Cert.Kernel11Ideal Cert.Kernel11Ideal.Gen Cert.Rows
open Idealize.ShloMosaic Idealize.ShloMosaic.TcCoe
open Cert.Ln (entY)

variable (x0 x1 : Vec Ideal S512x512 .bf16) (x2 x3 : Vec Ideal S512x1024 .bf16) (x4 : Vec Ideal S512x1024 .f32) (x5 x6 : Vec Ideal S1x1024 .f32) (u : Fin 512) (k : Fin 1024)

def rowU (u : Fin 512) (k : Fin 1024) : EReal := entU (x4 (ix2 u k)) (∑ n : Fin 512, x0 (ix2 u n) * x2 (ix2 n k) : EReal) (∑ n : Fin 512, x1 (ix2 u n) * x3 (ix2 n k) : EReal)

theorem pay2_ix : k0_pay2 (F := Ideal) x4 x0 x2 x1 x3 (ix2 u k) = rowU x0 x1 x2 x3 x4 u k := by
  pointwise [k0_pay2]
  try rw [show Ideal.ofBits .f32 0x3F800000#32 = (1 : EReal) by simp, one_mul]
  rfl

theorem pay3_ix : k0_pay3 (F := Ideal) x4 x0 x2 x1 x3 x5 x6 (ix2 u k) = entY (rowU x0 x1 x2 x3 x4 u) k (x5 (ix2 0 k)) (x6 (ix2 0 k)) := by
  have h : ∀ U : FVec Ideal S512x1024 .f32, U = k0_pay2 (F := Ideal) x4 x0 x2 x1 x3 → k0_pay3 (F := Ideal) x4 x0 x2 x1 x3 x5 x6 (ix2 u k)
      = (Cert.Kernel4Ideal.Gen.k0_pay9 (F := Ideal) U (ix2 u k) * Cert.Kernel4Ideal.Gen.k0_pay10 (F := Ideal) U (ix2 u 0) * x5 (ix2 0 k) + x6 (ix2 0 k) : EReal) := fun U e => by
    subst e
    have e3 : broadcastTo S512x1024 x5 broadcasts_S1x1024_S512x1024 (ix2 u k) = x5 (ix2 0 k) := by pointwise []
    have e4 : broadcastTo S512x1024 x6 broadcasts_S1x1024_S512x1024 (ix2 u k) = x6 (ix2 0 k) := by pointwise []
    have er : ∀ y : Vec Ideal S512x1 .f32, broadcastTo S512x1024 y broadcasts_S512x1_S512x1024 (ix2 u k) = y (ix2 u 0) := fun y => by pointwise []
    rw [← e3, ← e4, ← er (Cert.Kernel4Ideal.Gen.k0_pay10 (F := Ideal) _)]
    rfl
  rw [h _ rfl, Cert.Dx.Tile.pay9_ix, Cert.Dx.Tile.pay10_ix,
    show Cert.Dx.Tile.row (k0_pay2 (F := Ideal) x4 x0 x2 x1 x3) u = rowU x0 x1 x2 x3 x4 u from funext fun j => pay2_ix x0 x1 x2 x3 x4 u j]
  rfl

theorem ld0 {φ : EltTy} (x : Vec Ideal S512x1024 φ) : View.ld x r0_0 = x := ld_whole x _
theorem ld1 (x : Vec Ideal S512x512 .bf16) : View.ld x r0_1 = x := ld_whole x _
theorem ld2 (x : Vec Ideal S1x1024 .f32) : View.ld x r0_2 = x := ld_whole x _

theorem pay4_eq : k0_pay4 (F := Ideal) x0 x1 x2 x3 x4 x5 x6 = k0_pay3 (F := Ideal) x4 x0 x2 x1 x3 x5 x6 := by
  unfold k0_pay4
  rw [ld0, ld0, ld0, ld1, ld1, ld2, ld2]

theorem out7 : out0_7 (F := Ideal) x0 x1 x2 x3 x4 x5 x6 (ix2 u k) = rowU x0 x1 x2 x3 x4 u k := by
  unfold out0_7
  rw [ld0, ld0, ld0, ld1, ld1]
  canon_tiles x h using cover0_7 ..
  rw [ix2_of x u k h0.symm h1.symm]
  exact pay2_ix x0 x1 x2 x3 x4 u k

theorem out8 : out0_8 (F := Ideal) x0 x1 x2 x3 x4 x5 x6 (ix2 u k) = entY (rowU x0 x1 x2 x3 x4 u) k (x5 (ix2 0 k)) (x6 (ix2 0 k)) := by
  unfold out0_8
  rw [pay4_eq]
  canon_tiles x h using cover0_8 ..
  rw [ix2_of x u k h0.symm h1.symm]
  exact pay3_ix x0 x1 x2 x3 x4 x5 x6 u k

theorem out9 : out0_9 (F := Ideal) x0 x1 x2 x3 x4 x5 x6 (ix2 u k) = entY (rowU x0 x1 x2 x3 x4 u) k (x5 (ix2 0 k)) (x6 (ix2 0 k)) := by
  unfold out0_9
  rw [pay4_eq]
  canon_tiles x h using cover0_9 ..
  rw [ix2_of x u k h0.symm h1.symm]
  exact pay3_ix x0 x1 x2 x3 x4 x5 x6 u k

end Cert.Mo.Tile

end
-- ==== Proof.Mo.Main.lean ====
/- The mixers' residual sum and its layer norm: what the launch leaves is what the reference computes. -/
module

public import proofs.«01_k».proof.Proof.Gen.Kernel11Ideal.Value
public import proofs.«01_k».proof.Proof.Rows.Basic
public import proofs.«01_k».proof.Proof.Mo.Tile
public import proofs.«01_k».proof.Proof.Mo.Ref

@[expose] public section

set_option maxRecDepth 16384

noncomputable section

namespace Cert.Mo

open Cert.Kernel11Ideal Cert.Kernel11Ideal.Gen Cert.Rows
open Idealize.ShloMosaic Idealize.ShloMosaic.TcCoe

variable (m : (ℓ : Loc nD τ sig) → Buf (Elt Ideal) ℓ) (ρ : Dev nD → PrngReg) (c : Dev nD)

abbrev A0 : Vec Ideal S8192x512 .bf16 := m ((c : Thread nD τ).loc main_arg0)
abbrev A1 : Vec Ideal S8192x512 .bf16 := m ((c : Thread nD τ).loc main_arg1)
abbrev A2 : Vec Ideal S512x1024 .bf16 := m ((c : Thread nD τ).loc main_arg2)
abbrev A3 : Vec Ideal S512x1024 .bf16 := m ((c : Thread nD τ).loc main_arg3)
abbrev A4 : Vec Ideal S8192x1024 .f32 := m ((c : Thread nD τ).loc main_arg4)
abbrev A5 : Vec Ideal S1x1024 .f32 := m ((c : Thread nD τ).loc main_arg5)
abbrev A6 : Vec Ideal S1x1024 .f32 := m ((c : Thread nD τ).loc main_arg6)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)

theorem lt_N (t : Fin cfg0.N) : t.val < 16 := lt_of_lt_of_eq t.isLt N_0

/-- A token of the tile `t`. -/
abbrev tok (t : Fin cfg0.N) (u : Fin 512) : Fin 8192 := ⟨512 * t.val + u.val, by have := lt_N t; have := u.isLt; omega⟩

theorem blk0_ix (t : Fin cfg0.N) (a : Fin 512) (b : Fin 512) : (iblk m c 0 t : Vec Ideal S512x512 .bf16) (ix2 a b) = A0 m c (ix2 (tok t a) b) :=
  (congrFun (V_main_arg0 m c) _).trans (congrArg (A0 m c) (ix2_of _ _ _ (row_val (index0 t).1) (all_val (index0 t).2)))
theorem blk1_ix (t : Fin cfg0.N) (a : Fin 512) (b : Fin 512) : (iblk m c 1 t : Vec Ideal S512x512 .bf16) (ix2 a b) = A1 m c (ix2 (tok t a) b) :=
  (congrFun (V_main_arg1 m c) _).trans (congrArg (A1 m c) (ix2_of _ _ _ (row_val (index1 t).1) (all_val (index1 t).2)))
theorem blk2_ix (t : Fin cfg0.N) (a : Fin 512) (b : Fin 1024) : (iblk m c 2 t : Vec Ideal S512x1024 .bf16) (ix2 a b) = A2 m c (ix2 a b) :=
  (congrFun (V_main_arg2 m c) _).trans (congrArg (A2 m c) (ix2_of _ _ _ (all_val (index2 t).1) (all_val (index2 t).2)))
theorem blk3_ix (t : Fin cfg0.N) (a : Fin 512) (b : Fin 1024) : (iblk m c 3 t : Vec Ideal S512x1024 .bf16) (ix2 a b) = A3 m c (ix2 a b) :=
  (congrFun (V_main_arg3 m c) _).trans (congrArg (A3 m c) (ix2_of _ _ _ (all_val (index3 t).1) (all_val (index3 t).2)))
theorem blk4_ix (t : Fin cfg0.N) (a : Fin 512) (b : Fin 1024) : (iblk m c 4 t : Vec Ideal S512x1024 .f32) (ix2 a b) = A4 m c (ix2 (tok t a) b) :=
  (congrFun (V_main_arg4 m c) _).trans (congrArg (A4 m c) (ix2_of _ _ _ (row_val (index4 t).1) (all_val (index4 t).2)))
theorem blk5_ix (t : Fin cfg0.N) (a : Fin 1) (b : Fin 1024) : (iblk m c 5 t : Vec Ideal S1x1024 .f32) (ix2 a b) = A5 m c (ix2 a b) :=
  (congrFun (V_main_arg5 m c) _).trans (congrArg (A5 m c) (ix2_of _ _ _ (all_val (index5 t).1) (all_val (index5 t).2)))
theorem blk6_ix (t : Fin cfg0.N) (a : Fin 1) (b : Fin 1024) : (iblk m c 6 t : Vec Ideal S1x1024 .f32) (ix2 a b) = A6 m c (ix2 a b) :=
  (congrFun (V_main_arg6 m c) _).trans (congrArg (A6 m c) (ix2_of _ _ _ (all_val (index6 t).1) (all_val (index6 t).2)))

theorem row_eq (t : Fin cfg0.N) (u : Fin 512) (k : Fin 1024) : Tile.rowU (iblk m c 0 t) (iblk m c 1 t) (iblk m c 2 t) (iblk m c 3 t) (iblk m c 4 t) u k = rowU (A0 m c) (A1 m c) (A2 m c) (A3 m c) (A4 m c) (tok t u) k := by
  refine (congrArg (fun z : EReal => entU z _ _) (blk4_ix m c t u k)).trans (congrArg₂ (entU (A4 m c (ix2 (tok t u) k))) ?_ ?_)
  · exact Finset.sum_congr rfl fun n _ => congrArg₂ (fun a b : EReal => a * b) (blk0_ix m c t u n) (blk2_ix m c t n k)
  · exact Finset.sum_congr rfl fun n _ => congrArg₂ (fun a b : EReal => a * b) (blk1_ix m c t u n) (blk3_ix m c t n k)

theorem ent_eq (t : Fin cfg0.N) (u : Fin 512) (k : Fin 1024) :
    Ln.entY (Tile.rowU (iblk m c 0 t) (iblk m c 1 t) (iblk m c 2 t) (iblk m c 3 t) (iblk m c 4 t) u) k ((iblk m c 5 t : Vec Ideal S1x1024 .f32) (ix2 0 k)) ((iblk m c 6 t : Vec Ideal S1x1024 .f32) (ix2 0 k))
      = refY (F := Ideal) (A0 m c) (A1 m c) (A2 m c) (A3 m c) (A4 m c) (A5 m c) (A6 m c) (ix2 (tok t u) k) := by
  rw [refY_ix, blk5_ix, blk6_ix, show Tile.rowU (iblk m c 0 t) (iblk m c 1 t) (iblk m c 2 t) (iblk m c 3 t) (iblk m c 4 t) u = rowU (A0 m c) (A1 m c) (A2 m c) (A3 m c) (A4 m c) (tok t u) from funext fun j => row_eq m c t u j]

theorem tile7 (t : Fin cfg0.N) (u : Fin 512) (k : Fin 1024) : out0_7 (F := Ideal) (iblk m c 0 t) (iblk m c 1 t) (iblk m c 2 t) (iblk m c 3 t) (iblk m c 4 t) (iblk m c 5 t) (iblk m c 6 t) (ix2 u k) = refU (F := Ideal) (A0 m c) (A1 m c) (A2 m c) (A3 m c) (A4 m c) (ix2 (tok t u) k) :=
  (Tile.out7 _ _ _ _ _ _ _ u k).trans ((row_eq m c t u k).trans (refU_ix _ _ _ _ _ (tok t u) k).symm)

theorem tile8 (t : Fin cfg0.N) (u : Fin 512) (k : Fin 1024) : out0_8 (F := Ideal) (iblk m c 0 t) (iblk m c 1 t) (iblk m c 2 t) (iblk m c 3 t) (iblk m c 4 t) (iblk m c 5 t) (iblk m c 6 t) (ix2 u k) = refY (F := Ideal) (A0 m c) (A1 m c) (A2 m c) (A3 m c) (A4 m c) (A5 m c) (A6 m c) (ix2 (tok t u) k) :=
  (Tile.out8 _ _ _ _ _ _ _ u k).trans (ent_eq m c t u k)

theorem tile9 (t : Fin cfg0.N) (u : Fin 512) (k : Fin 1024) : out0_9 (F := Ideal) (iblk m c 0 t) (iblk m c 1 t) (iblk m c 2 t) (iblk m c 3 t) (iblk m c 4 t) (iblk m c 5 t) (iblk m c 6 t) (ix2 u k) = refB (F := Ideal) (A0 m c) (A1 m c) (A2 m c) (A3 m c) (A4 m c) (A5 m c) (A6 m c) (ix2 (tok t u) k) :=
  (Tile.out9 _ _ _ _ _ _ _ u k).trans (ent_eq m c t u k)

theorem flushed7_eq (t : Fin cfg0.N) : (dats m 0 c).flushed 7 t = ((cfg0.win 7).blk t).view.read (Elt Ideal) (refU (F := Ideal) (A0 m c) (A1 m c) (A2 m c) (A3 m c) (A4 m c)) := (Value.flushed7 m c t).trans (funext fun y =>
  (congrArg (out0_7 (F := Ideal) (iblk m c 0 t) (iblk m c 1 t) (iblk m c 2 t) (iblk m c 3 t) (iblk m c 4 t) (iblk m c 5 t) (iblk m c 6 t)) (ix2_of _ (y 0) (y 1) rfl rfl)).trans ((tile7 m c t (y 0) (y 1)).trans
    (congrArg (refU (F := Ideal) (A0 m c) (A1 m c) (A2 m c) (A3 m c) (A4 m c)) (ix2_of _ (tok t (y 0)) (y 1) (row_val (index7 t).1) (all_val (index7 t).2)).symm)))

theorem covered7 (i : S8192x1024.Idx) : ∃ t : Fin cfg0.N, (cfg0.win 7).flush t = true ∧ i ∈ ((cfg0.win 7).blk t).view.set := by
  have h0 : (i 0).val < 8192 := (i 0).isLt
  obtain ⟨t, ht⟩ : ∃ t : Fin cfg0.N, t.val = (i 0).val / 512 := ⟨⟨_, lt_of_lt_of_eq (by omega) N_0.symm⟩, rfl⟩
  refine ⟨t, (by decide +kernel : ∀ t : Fin grid0.N, win0_7.flush t = true) t, ?_⟩
  show i ∈ ((View.whole main_v0_0).slice (win0_7.rect t)).set
  rw [View.set_slice_whole, Rect.mem_set_unit]
  exact mem_tile i (win0_7.index t) ((index7 t).1.trans ht) (index7 t).2

theorem final7 : (dats m 0 c).arrAt 7 cfg0.N = (refU (F := Ideal) (A0 m c) (A1 m c) (A2 m c) (A3 m c) (A4 m c)) :=
  (dats m 0 c).arrAt_eq_of_cover 7 _ (fun t _ => flushed7_eq m c t) (fun i => covered7 i)

theorem flushed8_eq (t : Fin cfg0.N) : (dats m 0 c).flushed 8 t = ((cfg0.win 8).blk t).view.read (Elt Ideal) (refY (F := Ideal) (A0 m c) (A1 m c) (A2 m c) (A3 m c) (A4 m c) (A5 m c) (A6 m c)) := (Value.flushed8 m c t).trans (funext fun y =>
  (congrArg (out0_8 (F := Ideal) (iblk m c 0 t) (iblk m c 1 t) (iblk m c 2 t) (iblk m c 3 t) (iblk m c 4 t) (iblk m c 5 t) (iblk m c 6 t)) (ix2_of _ (y 0) (y 1) rfl rfl)).trans ((tile8 m c t (y 0) (y 1)).trans
    (congrArg (refY (F := Ideal) (A0 m c) (A1 m c) (A2 m c) (A3 m c) (A4 m c) (A5 m c) (A6 m c)) (ix2_of _ (tok t (y 0)) (y 1) (row_val (index8 t).1) (all_val (index8 t).2)).symm)))

theorem covered8 (i : S8192x1024.Idx) : ∃ t : Fin cfg0.N, (cfg0.win 8).flush t = true ∧ i ∈ ((cfg0.win 8).blk t).view.set := by
  have h0 : (i 0).val < 8192 := (i 0).isLt
  obtain ⟨t, ht⟩ : ∃ t : Fin cfg0.N, t.val = (i 0).val / 512 := ⟨⟨_, lt_of_lt_of_eq (by omega) N_0.symm⟩, rfl⟩
  refine ⟨t, (by decide +kernel : ∀ t : Fin grid0.N, win0_8.flush t = true) t, ?_⟩
  show i ∈ ((View.whole main_v0_1).slice (win0_8.rect t)).set
  rw [View.set_slice_whole, Rect.mem_set_unit]
  exact mem_tile i (win0_8.index t) ((index8 t).1.trans ht) (index8 t).2

theorem final8 : (dats m 0 c).arrAt 8 cfg0.N = (refY (F := Ideal) (A0 m c) (A1 m c) (A2 m c) (A3 m c) (A4 m c) (A5 m c) (A6 m c)) :=
  (dats m 0 c).arrAt_eq_of_cover 8 _ (fun t _ => flushed8_eq m c t) (fun i => covered8 i)

theorem flushed9_eq (t : Fin cfg0.N) : (dats m 0 c).flushed 9 t = ((cfg0.win 9).blk t).view.read (Elt Ideal) (refB (F := Ideal) (A0 m c) (A1 m c) (A2 m c) (A3 m c) (A4 m c) (A5 m c) (A6 m c)) := (Value.flushed9 m c t).trans (funext fun y =>
  (congrArg (out0_9 (F := Ideal) (iblk m c 0 t) (iblk m c 1 t) (iblk m c 2 t) (iblk m c 3 t) (iblk m c 4 t) (iblk m c 5 t) (iblk m c 6 t)) (ix2_of _ (y 0) (y 1) rfl rfl)).trans ((tile9 m c t (y 0) (y 1)).trans
    (congrArg (refB (F := Ideal) (A0 m c) (A1 m c) (A2 m c) (A3 m c) (A4 m c) (A5 m c) (A6 m c)) (ix2_of _ (tok t (y 0)) (y 1) (row_val (index9 t).1) (all_val (index9 t).2)).symm)))

theorem covered9 (i : S8192x1024.Idx) : ∃ t : Fin cfg0.N, (cfg0.win 9).flush t = true ∧ i ∈ ((cfg0.win 9).blk t).view.set := by
  have h0 : (i 0).val < 8192 := (i 0).isLt
  obtain ⟨t, ht⟩ : ∃ t : Fin cfg0.N, t.val = (i 0).val / 512 := ⟨⟨_, lt_of_lt_of_eq (by omega) N_0.symm⟩, rfl⟩
  refine ⟨t, (by decide +kernel : ∀ t : Fin grid0.N, win0_9.flush t = true) t, ?_⟩
  show i ∈ ((View.whole main_v0_2).slice (win0_9.rect t)).set
  rw [View.set_slice_whole, Rect.mem_set_unit]
  exact mem_tile i (win0_9.index t) ((index9 t).1.trans ht) (index9 t).2

theorem final9 : (dats m 0 c).arrAt 9 cfg0.N = (refB (F := Ideal) (A0 m c) (A1 m c) (A2 m c) (A3 m c) (A4 m c) (A5 m c) (A6 m c)) :=
  (dats m 0 c).arrAt_eq_of_cover 9 _ (fun t _ => flushed9_eq m c t) (fun i => covered9 i)

theorem run : θ_run defs (onTc (τ := τ) (main (F := Ideal))) ⟨m, fun _ => 0, ρ⟩ fun r => ∀ c : Dev nD,
      r.2.mem ((c : Thread nD τ).loc main_v0_0) = (refU (F := Ideal) (A0 m c) (A1 m c) (A2 m c) (A3 m c) (A4 m c))
      ∧ r.2.mem ((c : Thread nD τ).loc main_v0_1) = (refY (F := Ideal) (A0 m c) (A1 m c) (A2 m c) (A3 m c) (A4 m c) (A5 m c) (A6 m c))
      ∧ r.2.mem ((c : Thread nD τ).loc main_v0_2) = (refB (F := Ideal) (A0 m c) (A1 m c) (A2 m c) (A3 m c) (A4 m c) (A5 m c) (A6 m c))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) :=
  (θ_run defs _ _).mono (fun r h c => ⟨(Value.post7 m r h c).trans (final7 m c), (Value.post8 m r h c).trans (final8 m c), (Value.post9 m r h c).trans (final9 m c),
      Value.kept_main_arg0 m r h c, Value.kept_main_arg1 m r h c, Value.kept_main_arg2 m r h c, Value.kept_main_arg3 m r h c, Value.kept_main_arg4 m r h c, Value.kept_main_arg5 m r h c, Value.kept_main_arg6 m r h c⟩)
    (run_main m ρ)

end Cert.Mo

end
-- ==== Proof.Mo.Claims.lean ====
/- The claims on the mixers' residual sum and its layer norm: the frames and the equality of the results. -/
module

public import proofs.«01_k».proof.Defs
public import proofs.«01_k».proof.Proof.Gen.Kernel11.Frame
public import proofs.«01_k».proof.Proof.Mo.Main

@[expose] public section

noncomputable section

namespace Cert.Mo

open Idealize.ShloMosaic Idealize.SL.Sem

theorem frame_kernel : Cert.quiescent_Kernel11 (hKernel11 := Cert.Kernel11.Gen.facts) := fun m ρ _ => Cert.Kernel11.Gen.frame m ρ

theorem frame_kernelIdeal : Cert.quiescent_Kernel11Ideal (hKernel11Ideal := Cert.Kernel11Ideal.Gen.facts) := fun m ρ _ =>
  Cert.Kernel11Ideal.Gen.frame m ρ

theorem frame_referenceIdeal : Cert.quiescent_Reference11Ideal (hReference11Ideal := Cert.Reference11Ideal.Gen.facts) := fun m ρ _ =>
  (θ_run Cert.Reference11Ideal.defs _ _).mono (fun r h => ⟨fun c => (h c).2.2.2,
      Idealize.ShloMosaic.sem_eq_zero_of_no_sems (by decide) r.2⟩)
    (Cert.Reference11Ideal.Value.run (F := Ideal) m ρ)

/-- The residual sum, its layer norm and the layer norm rounded, of the kernel and of the reference. -/
theorem values : Cert.algebraic_Kernel11Ideal_Reference11Ideal (hKernel11Ideal := Cert.Kernel11Ideal.Gen.facts)
    (hReference11Ideal := Cert.Reference11Ideal.Gen.facts) := by
  intro m g m' g' _ hagree
  refine ⟨fun c => refU (F := Ideal) (A0 m c) (A1 m c) (A2 m c) (A3 m c) (A4 m c), fun c => refY (F := Ideal) (A0 m c) (A1 m c) (A2 m c) (A3 m c) (A4 m c) (A5 m c) (A6 m c), fun c => refB (F := Ideal) (A0 m c) (A1 m c) (A2 m c) (A3 m c) (A4 m c) (A5 m c) (A6 m c), run m g, ?_⟩
  refine (θ_run Cert.Reference11Ideal.defs _ _).mono (fun r h c => ?_) (Cert.Reference11Ideal.Value.run (F := Ideal) m' g')
  obtain ⟨r0, r1, r2, a⟩ := h c
  obtain ⟨e0, e1, e2, e3, e4, e5, e6⟩ := hagree c
  refine ⟨r0.trans ?_, r1.trans ?_, r2.trans ?_, a⟩
  · rw [e0, e1, e2, e3, e4]; rfl
  · rw [res_29, e0, e1, e2, e3, e4, e5, e6]
  · rw [res_30, e0, e1, e2, e3, e4, e5, e6]

end Cert.Mo

end
-- ==== Proof.lean ====
/-
  The claims of this certificate, put together: the frames of the kernel (Proof/Float/Frame.lean), of its
  idealization (Proof/Ideal/Frame.lean) and of the reference (Proof/Ref/Run.lean), the rewritten constant, and
  the equality of the results (Proof/Value/Main.lean).
-/
module

public import proofs.«01_k».proof.Defs
public import proofs.«01_k».proof.Proof.Float.Frame
public import proofs.«01_k».proof.Proof.Ideal.Frame
public import proofs.«01_k».proof.Proof.Ref.Run
public import proofs.«01_k».proof.Proof.Value.Main
public import proofs.«01_k».proof.Proof.Gen.Kernel2.Frame
public import proofs.«01_k».proof.Proof.Gen.Kernel2Ideal.Frame
public import proofs.«01_k».proof.Proof.Gen.Reference2Ideal.Run
public import proofs.«01_k».proof.Proof.Dw.Main
public import proofs.«01_k».proof.Proof.Gen.Kernel3.Frame
public import proofs.«01_k».proof.Proof.Gen.Kernel3Ideal.Value
public import proofs.«01_k».proof.Proof.Gen.Reference3Ideal.Run
public import proofs.«01_k».proof.Proof.Mid.Claims
public import proofs.«01_k».proof.Proof.Gen.Kernel4.Frame
public import proofs.«01_k».proof.Proof.Gen.Kernel4Ideal.Value
public import proofs.«01_k».proof.Proof.Gen.Reference4Ideal.Run
public import proofs.«01_k».proof.Proof.Dx.Claims
public import proofs.«01_k».proof.Proof.Gen.Kernel5.Frame
public import proofs.«01_k».proof.Proof.Gen.Kernel5Ideal.Value
public import proofs.«01_k».proof.Proof.Gen.Reference5Ideal.Run
public import proofs.«01_k».proof.Proof.Up.Claims
public import proofs.«01_k».proof.Proof.Gen.Kernel6.Frame
public import proofs.«01_k».proof.Proof.Gen.Kernel6Ideal.Value
public import proofs.«01_k».proof.Proof.Gen.Reference6Ideal.Run
public import proofs.«01_k».proof.Proof.Ln.Claims
public import proofs.«01_k».proof.Proof.Gen.Kernel7.Frame
public import proofs.«01_k».proof.Proof.Gen.Kernel7Ideal.Value
public import proofs.«01_k».proof.Proof.Gen.Reference7Ideal.Run
public import proofs.«01_k».proof.Proof.Pj.Claims
public import proofs.«01_k».proof.Proof.Gen.Kernel8.Frame
public import proofs.«01_k».proof.Proof.Gen.Kernel8Ideal.Value
public import proofs.«01_k».proof.Proof.Gen.Reference8Ideal.Run
public import proofs.«01_k».proof.Proof.Fx.Claims
public import proofs.«01_k».proof.Proof.Gen.Kernel9.Frame
public import proofs.«01_k».proof.Proof.Gen.Kernel9Ideal.Value
public import proofs.«01_k».proof.Proof.Gen.Reference9Ideal.Run
public import proofs.«01_k».proof.Proof.Po.Claims
public import proofs.«01_k».proof.Proof.Gen.Kernel10.Frame
public import proofs.«01_k».proof.Proof.Gen.Kernel10Ideal.Value
public import proofs.«01_k».proof.Proof.Gen.Reference10Ideal.Run
public import proofs.«01_k».proof.Proof.Pn.Claims
public import proofs.«01_k».proof.Proof.Gen.Kernel11.Frame
public import proofs.«01_k».proof.Proof.Gen.Kernel11Ideal.Value
public import proofs.«01_k».proof.Proof.Gen.Reference11Ideal.Run
public import proofs.«01_k».proof.Proof.Mo.Claims

@[expose] public section

noncomputable section

namespace Cert.Proof

open Idealize.ShloMosaic Idealize.SL.Sem

theorem frame_kernel : Cert.quiescent_Kernel (hKernel := Cert.Kernel.Gen.facts) := fun m ρ _ => Cert.Kernel.Bwd.frame m ρ

theorem frame_kernelIdeal : Cert.quiescent_KernelIdeal (hKernelIdeal := Cert.KernelIdeal.Gen.facts) := fun m ρ _ =>
  Cert.KernelIdeal.Bwd.frame m ρ

theorem frame_kernelIdeal_finite : Cert.quiescent_KernelIdeal_pre_finite (hKernelIdeal := Cert.KernelIdeal.Gen.facts)
    (hPre_finite := Cert.Value.pre_facts) := fun m ρ _ => Cert.KernelIdeal.Bwd.frame m ρ

theorem frame_referenceIdeal : Cert.quiescent_ReferenceIdeal (hReferenceIdeal := Cert.ReferenceIdeal.Gen.facts) := fun m ρ _ =>
  (θ_run Cert.ReferenceIdeal.defs _ _).mono (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.ReferenceIdeal.Own.run (F := Ideal) m ρ)

theorem frame_referenceIdeal_finite : Cert.quiescent_ReferenceIdeal_pre_finite (hReferenceIdeal := Cert.ReferenceIdeal.Gen.facts)
    (hPre_finite := Cert.Value.pre_facts) := fun m ρ _ =>
  (θ_run Cert.ReferenceIdeal.defs _ _).mono (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.ReferenceIdeal.Own.run (F := Ideal) m ρ)

theorem mask : Cert.preserves_Kernel_KernelIdeal :=
  IdealRules.named_const.statement Cert.KernelIdeal.κ "mask" .f32 0xF149F2CA#32 ⊥ rfl

/-- The gradients of the queries, the keys and the values, of the kernel and of the reference. -/
theorem values : Cert.algebraic_KernelIdeal_ReferenceIdeal_pre_finite (hKernelIdeal := Cert.KernelIdeal.Gen.facts)
    (hReferenceIdeal := Cert.ReferenceIdeal.Gen.facts) (hPre_finite := Cert.Value.pre_facts) := by
  intro m g m' g' hpre hagree
  refine ⟨fun c => Cert.KernelIdeal.Bwd.G7 m c, fun c => Cert.KernelIdeal.Bwd.G8 m c, fun c => Cert.KernelIdeal.Bwd.G9 m c,
    Cert.KernelIdeal.Bwd.run m g, ?_⟩
  refine (θ_run Cert.ReferenceIdeal.defs _ _).mono (fun r h c => ?_) (Cert.ReferenceIdeal.Own.run (F := Ideal) m' g')
  obtain ⟨r0, r1, r2, a⟩ := h c
  obtain ⟨p0, p1⟩ := hpre c
  obtain ⟨e0, e1, e2, e3⟩ := hagree c
  have f0 : ∀ i, ∃ r : ℝ, (StableHlo.launchContents m' c (Proc.devRef .tc Cert.ReferenceIdeal.main_arg0) : FVec Ideal Cert.ReferenceIdeal.S2x4096x3072 .bf16) i = (r : EReal) := fun i =>
    (Cert.Value.pre_real0 (hPre := Cert.Value.pre_facts) _ _ _ _ p0 i).imp fun _ h => (congrFun e0 i).trans h
  have f1 : ∀ i, ∃ r : ℝ, (StableHlo.launchContents m' c (Proc.devRef .tc Cert.ReferenceIdeal.main_arg1) : FVec Ideal Cert.ReferenceIdeal.S8x257 .f32) i = (r : EReal) := fun i =>
    (Cert.Value.pre_real1 (hPre := Cert.Value.pre_facts) _ _ _ _ p1 i).imp fun _ h => (congrFun e1 i).trans h
  exact ⟨r0.trans (Cert.Value.dq_result m c _ e0.symm e1.symm e2.symm e3.symm f0 f1).symm,
    r1.trans (Cert.Value.dk_result m c _ e0.symm e1.symm e2.symm e3.symm f0 f1).symm,
    r2.trans (Cert.Value.dv_result m c _ e0.symm e1.symm e2.symm e3.symm f0 f1).symm, a⟩

theorem frame_kernel2 : Cert.quiescent_Kernel2 (hKernel2 := Cert.Kernel2.Gen.facts) := fun m ρ _ => Cert.Kernel2.Gen.frame m ρ

theorem frame_kernel2Ideal : Cert.quiescent_Kernel2Ideal (hKernel2Ideal := Cert.Kernel2Ideal.Gen.facts) := fun m ρ _ =>
  Cert.Kernel2Ideal.Gen.frame m ρ

theorem frame_reference2Ideal : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The three weight gradients of a feed-forward sublayer, of the kernel and of the reference. -/
theorem values2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Dw.G5 m c, Cert.Dw.run m g, ?_⟩
  refine (θ_run Cert.Reference2Ideal.defs _ _).mono (fun r h c => ?_) (Cert.Reference2Ideal.Value.run (F := Ideal) m' g')
  obtain ⟨r0, a⟩ := h c
  obtain ⟨e0, e1, e2, e3, e4⟩ := hagree c
  refine ⟨r0.trans ?_, a⟩
  rw [e0, e1, e2, e3, e4]
  exact (Cert.Dw.result m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Value.pre_facts,
  Cert.Dx.pre_facts,
  Cert.Up.pre_facts,
  Cert.Pj.pre_facts,
  frame_kernel, frame_kernelIdeal, frame_kernelIdeal_finite, frame_referenceIdeal, frame_referenceIdeal_finite,
  frame_kernel2, frame_kernel2Ideal, frame_reference2Ideal,
  Cert.Mid.frame_kernel, Cert.Mid.frame_kernelIdeal, Cert.Mid.frame_referenceIdeal,
  Cert.Dx.frame_kernel, Cert.Dx.frame_kernelIdeal, Cert.Dx.frame_kernelIdeal_finite, Cert.Dx.frame_referenceIdeal, Cert.Dx.frame_referenceIdeal_finite,
  Cert.Up.frame_kernel, Cert.Up.frame_kernelIdeal, Cert.Up.frame_kernelIdeal_finite, Cert.Up.frame_referenceIdeal, Cert.Up.frame_referenceIdeal_finite,
  Cert.Ln.frame_kernel, Cert.Ln.frame_kernelIdeal, Cert.Ln.frame_referenceIdeal,
  Cert.Pj.frame_kernel, Cert.Pj.frame_kernelIdeal, Cert.Pj.frame_kernelIdeal_finite, Cert.Pj.frame_referenceIdeal, Cert.Pj.frame_referenceIdeal_finite,
  Cert.Fx.frame_kernel, Cert.Fx.frame_kernelIdeal, Cert.Fx.frame_referenceIdeal,
  Cert.Po.frame_kernel, Cert.Po.frame_kernelIdeal, Cert.Po.frame_referenceIdeal,
  Cert.Pn.frame_kernel, Cert.Pn.frame_kernelIdeal, Cert.Pn.frame_referenceIdeal,
  Cert.Mo.frame_kernel, Cert.Mo.frame_kernelIdeal, Cert.Mo.frame_referenceIdeal, mask, values, trivial, values2,
  trivial, Cert.Mid.values,
  trivial, Cert.Dx.values,
  trivial, Cert.Up.values,
  trivial, Cert.Ln.values,
  trivial, Cert.Pj.values,
  trivial, Cert.Fx.values,
  trivial, Cert.Po.values,
  trivial, Cert.Pn.values,
  trivial, Cert.Mo.values⟩

end Cert.Proof

end
